-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_values_finite [hPre_values_finite : Cert.Pre_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_finite [hPre_values_finite : Cert.Pre_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_act_finite [hPre_act_finite : Cert.Pre_act_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_act_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_act_finite [hPre_act_finite : Cert.Pre_act_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_act_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_values_finite [hKernelIdeal : Cert.KernelIdeal.Facts] [hPre_values_finite : Cert.Pre_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_values_finite [hReferenceIdeal : Cert.ReferenceIdeal.Facts] [hPre_values_finite : Cert.Pre_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_act_finite [hKernel11Ideal : Cert.Kernel11Ideal.Facts] [hPre_act_finite : Cert.Pre_act_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_act_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_act_finite [hReference11Ideal : Cert.Reference11Ideal.Facts] [hPre_act_finite : Cert.Pre_act_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_act_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_values_finite [hKernelIdeal : Cert.KernelIdeal.Facts] [hReferenceIdeal : Cert.ReferenceIdeal.Facts] [hPre_values_finite : Cert.Pre_values_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_v220) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_v214) = v4 c
          ∧ r.2.mem ((c.tc : Thread Cert.ReferenceIdeal.nD Cert.ReferenceIdeal.τ).loc Cert.ReferenceIdeal.main_v213) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_act_finite [hKernel11Ideal : Cert.Kernel11Ideal.Facts] [hReference11Ideal : Cert.Reference11Ideal.Facts] [hPre_act_finite : Cert.Pre_act_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_act_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v32) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_v40) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v12) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_v22) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_values_finite : Cert.Pre_values_finite.Facts) (hPre_act_finite : Cert.Pre_act_finite.Facts),
    quiescent_Kernel (hKernel := hKernel)
    ∧ quiescent_KernelIdeal (hKernelIdeal := hKernelIdeal)
    ∧ quiescent_KernelIdeal_pre_values_finite (hKernelIdeal := hKernelIdeal) (hPre_values_finite := hPre_values_finite)
    ∧ quiescent_ReferenceIdeal (hReferenceIdeal := hReferenceIdeal)
    ∧ quiescent_ReferenceIdeal_pre_values_finite (hReferenceIdeal := hReferenceIdeal) (hPre_values_finite := hPre_values_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_act_finite (hKernel11Ideal := hKernel11Ideal) (hPre_act_finite := hPre_act_finite)
    ∧ quiescent_Reference11Ideal (hReference11Ideal := hReference11Ideal)
    ∧ quiescent_Reference11Ideal_pre_act_finite (hReference11Ideal := hReference11Ideal) (hPre_act_finite := hPre_act_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_values_finite (hKernelIdeal := hKernelIdeal) (hReferenceIdeal := hReferenceIdeal) (hPre_values_finite := hPre_values_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_act_finite (hKernel11Ideal := hKernel11Ideal) (hReference11Ideal := hReference11Ideal) (hPre_act_finite := hPre_act_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_act_finite.lean ====
abbrev S2048x2048 : Shape := ⟨2, ![2048, 2048]⟩
abbrev S5632x2048 : Shape := ⟨2, ![5632, 2048]⟩
abbrev S2x2048x5632 : Shape := ⟨3, ![2, 2048, 5632]⟩
abbrev S2048x5632 : Shape := ⟨2, ![2048, 5632]⟩
abbrev S_ : Shape := ⟨0, ![]⟩
abbrev S1x2048x5632 : Shape := ⟨3, ![1, 2048, 5632]⟩

class Facts : Prop where
  bitsLt_bf16_f32 : FTy.bits .bf16 < FTy.bits .f32
  transposes_S5632x2048_S2048x5632_1_0 : S5632x2048.Transposes [1, 0] S2048x5632
  bcast_S_S2048x5632 : S_.BroadcastsInDim S2048x5632 (![] : Fin 0 → Fin S2048x5632.rank)
  slices_S2x2048x5632_S1x2048x5632_1_0_0 : S2x2048x5632.Slices ![1, 0, 0] S1x2048x5632
  shapeCasts_S1x2048x5632_S2048x5632 : S1x2048x5632.ShapeCasts S2048x5632
  dot_S2048x2048_S2048x5632_S2048x5632_1_0_0_1_n_n_wf : DotDims.WF S2048x2048 S2048x5632 S2048x5632 [1] [0] [0] [1] [] []

variable [Facts]

def dot_S2048x2048_S2048x5632_S2048x5632_1_0_0_1_n_n : DotDims S2048x2048 S2048x5632 S2048x5632 where
  lhsContracting := [1]
  rhsContracting := [0]
  lhsNonContracting := [0]
  rhsNonContracting := [1]
  lhsBatch := []
  rhsBatch := []
  wf := dot_S2048x2048_S2048x5632_S2048x5632_1_0_0_1_n_n_wf
def fn {F : FTy → Type} [FloatOps F] (main_arg0 : FVec F S2048x2048 .f32) (main_arg1 : FVec F S5632x2048 .bf16) (main_arg2 : FVec F S2x2048x5632 .f32) : IVec S2048x5632 1 :=
  let main_v0 : FVec F S5632x2048 .f32 := (extf .f32 · bitsLt_bf16_f32) main_arg1
  let main_v1 : FVec F S2048x5632 .f32 := (transpose S2048x5632 [1, 0] · transposes_S5632x2048_S2048x5632_1_0) main_v0
  let main_v2 : FVec F S2048x5632 .f32 := (fun l r => Host.dotGeneral dot_S2048x2048_S2048x5632_S2048x5632_1_0_0_1_n_n none l r) main_arg0 main_v1
  let main_v3 : FVec F S2048x5632 .f32 := Host.absf main_v2
  let main_cst : FVec F S_ .f32 := constant S_ .f32 0x7F800000#32
  let main_v4 : FVec F S2048x5632 .f32 := broadcastInDim S2048x5632 ![] bcast_S_S2048x5632 main_cst
  let main_v5 : IVec S2048x5632 1 := cmpf .olt main_v3 main_v4
  let main_v6 : FVec F S1x2048x5632 .f32 := (extractStridedSlice S1x2048x5632 ![1, 0, 0] · slices_S2x2048x5632_S1x2048x5632_1_0_0) main_arg2
  let main_v7 : FVec F S2048x5632 .f32 := shapeCast S2048x5632 main_v6 shapeCasts_S1x2048x5632_S2048x5632
  let main_v8 : FVec F S2048x5632 .f32 := Host.absf main_v7
  let main_cst_0 : FVec F S_ .f32 := constant S_ .f32 0x7F800000#32
  let main_v9 : FVec F S2048x5632 .f32 := broadcastInDim S2048x5632 ![] bcast_S_S2048x5632 main_cst_0
  let main_v10 : IVec S2048x5632 1 := cmpf .olt main_v8 main_v9
  let main_v11 : IVec S2048x5632 1 := andi main_v5 main_v10
  main_v11
-- ==== Pre_values_finite.lean ====
abbrev S2048x11264 : Shape := ⟨2, ![2048, 11264]⟩
abbrev S1x128 : Shape := ⟨2, ![1, 128]⟩
abbrev S8x64x576 : Shape := ⟨3, ![8, 64, 576]⟩
abbrev S2048x1024 : Shape := ⟨2, ![2048, 1024]⟩
abbrev S_ : Shape := ⟨0, ![]⟩

class Facts : Prop where
  slices_S2048x11264_S2048x1024_0_6144 : S2048x11264.Slices ![0, 6144] S2048x1024
  bcast_S_S2048x1024 : S_.BroadcastsInDim S2048x1024 (![] : Fin 0 → Fin S2048x1024.rank)

variable [Facts]

def fn {F : FTy → Type} [FloatOps F] (main_arg0 : FVec F S2048x11264 .f32) (main_arg1 : FVec F S1x128 .f32) (main_arg2 : FVec F S1x128 .f32) (main_arg3 : FVec F S8x64x576 .f32) (main_arg4 : FVec F S2048x1024 .f32) : IVec S2048x1024 1 :=
  let main_v0 : FVec F S2048x1024 .f32 := (extractStridedSlice S2048x1024 ![0, 6144] · slices_S2048x11264_S2048x1024_0_6144) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := Host.absf main_arg4
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : IVec S2048x1024 1 := andi main_v3 main_v6
  main_v7
-- ==== Kernel.lean ====
abbrev S2048x11264 : Shape := ⟨2, ![2048, 11264]⟩
abbrev S1x128 : Shape := ⟨2, ![1, 128]⟩
abbrev S8x64x576 : Shape := ⟨3, ![8, 64, 576]⟩
abbrev S2048x1024 : Shape := ⟨2, ![2048, 1024]⟩
abbrev S2048x128 : Shape := ⟨2, ![2048, 128]⟩
abbrev S1x64x576 : Shape := ⟨3, ![1, 64, 576]⟩
abbrev S2560x128 : Shape := ⟨2, ![2560, 128]⟩
abbrev S512x128 : Shape := ⟨2, ![512, 128]⟩
abbrev S2048 : Shape := ⟨1, ![2048]⟩
abbrev S2048x1 : Shape := ⟨2, ![2048, 1]⟩
abbrev S64x576 : Shape := ⟨2, ![64, 576]⟩
abbrev S64x128 : Shape := ⟨2, ![64, 128]⟩
abbrev S576x128 : Shape := ⟨2, ![576, 128]⟩
abbrev S64 : Shape := ⟨1, ![64]⟩
abbrev S64x1 : Shape := ⟨2, ![64, 1]⟩
abbrev S1x576 : Shape := ⟨2, ![1, 576]⟩
abbrev S128 : Shape := ⟨1, ![128]⟩

abbrev nBuf : Space → Nat
  | .hbm => 11
  | .vmem => 26
  | .smem => 0
  | _ => 0

abbrev bufTy : (tb : Table) → Fin (tcTables nBuf tb) → BufTy
  | .hbm, ⟨0, _⟩ => ⟨S2048x11264, .f32⟩
  | .hbm, ⟨1, _⟩ => ⟨S1x128, .f32⟩
  | .hbm, ⟨2, _⟩ => ⟨S1x128, .f32⟩
  | .hbm, ⟨3, _⟩ => ⟨S8x64x576, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S8x64x576, .f32⟩
  | .hbm, ⟨9, _⟩ => ⟨S1x128, .f32⟩
  | .hbm, ⟨10, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S1x64x576, .f32⟩
  | .local _ .vmem, ⟨9, _⟩ => ⟨S1x64x576, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x64x576, .f32⟩
  | .local _ .vmem, ⟨19, _⟩ => ⟨S1x64x576, .f32⟩
  | .local _ .vmem, ⟨20, _⟩ => ⟨S1x128, .f32⟩
  | .local _ .vmem, ⟨21, _⟩ => ⟨S1x128, .f32⟩
  | .local _ .vmem, ⟨22, _⟩ => ⟨S2560x128, .f32⟩
  | .local _ .vmem, ⟨23, _⟩ => ⟨S2560x128, .f32⟩
  | .local _ .vmem, ⟨24, _⟩ => ⟨S2560x128, .f32⟩
  | .local _ .vmem, ⟨25, _⟩ => ⟨S2560x128, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c32_i32 : BitVec 32 := 32#32
  let v8 : BitVec 32 := Scalar.muli arg1 c32_i32
  let c0_i32_4 : BitVec 32 := 0#32
  let v9 : BitVec 32 := Scalar.addi v8 c0_i32_4
  let c64_i32 : BitVec 32 := 64#32
  let v72 : BitVec 32 := Scalar.muli v9 c64_i32
  v72
def k0_mult2 (i : grid0.Coords) : BitVec 32 :=
  let arg1 : BitVec 32 := BitVec.ofNat 32 (i 1).val
  let c32_i32_5 : BitVec 32 := 32#32
  let v10 : BitVec 32 := Scalar.muli arg1 c32_i32_5
  let c1_i32 : BitVec 32 := 1#32
  let v11 : BitVec 32 := Scalar.addi v10 c1_i32
  let c64_i32_36 : BitVec 32 := 64#32
  let v74 : BitVec 32 := Scalar.muli v11 c64_i32_36
  v74
def k0_mult3 (i : grid0.Coords) : BitVec 32 :=
  let arg1 : BitVec 32 := BitVec.ofNat 32 (i 1).val
  let c32_i32_6 : BitVec 32 := 32#32
  let v12 : BitVec 32 := Scalar.muli arg1 c32_i32_6
  let c2_i32 : BitVec 32 := 2#32
  let v13 : BitVec 32 := Scalar.addi v12 c2_i32
  let c64_i32_37 : BitVec 32 := 64#32
  let v76 : BitVec 32 := Scalar.muli v13 c64_i32_37
  v76
def k0_mult4 (i : grid0.Coords) : BitVec 32 :=
  let arg1 : BitVec 32 := BitVec.ofNat 32 (i 1).val
  let c32_i32_7 : BitVec 32 := 32#32
  let v14 : BitVec 32 := Scalar.muli arg1 c32_i32_7
  let c3_i32 : BitVec 32 := 3#32
  let v15 : BitVec 32 := Scalar.addi v14 c3_i32
  let c64_i32_38 : BitVec 32 := 64#32
  let v78 : BitVec 32 := Scalar.muli v15 c64_i32_38
  v78
def k0_mult5 (i : grid0.Coords) : BitVec 32 :=
  let arg1 : BitVec 32 := BitVec.ofNat 32 (i 1).val
  let c32_i32_8 : BitVec 32 := 32#32
  let v16 : BitVec 32 := Scalar.muli arg1 c32_i32_8
  let c4_i32 : BitVec 32 := 4#32
  let v17 : BitVec 32 := Scalar.addi v16 c4_i32
  let c64_i32_39 : BitVec 32 := 64#32
  let v80 : BitVec 32 := Scalar.muli v17 c64_i32_39
  v80
def k0_mult6 (i : grid0.Coords) : BitVec 32 :=
  let arg1 : BitVec 32 := BitVec.ofNat 32 (i 1).val
  let c32_i32_9 : BitVec 32 := 32#32
  let v18 : BitVec 32 := Scalar.muli arg1 c32_i32_9
  let c5_i32 : BitVec 32 := 5#32
  let v19 : BitVec 32 := Scalar.addi v18 c5_i32
  let c64_i32_40 : BitVec 32 := 64#32
  let v82 : BitVec 32 := Scalar.muli v19 c64_i32_40
  v82
def k0_mult7 (i : grid0.Coords) : BitVec 32 :=
  let arg1 : BitVec 32 := BitVec.ofNat 32 (i 1).val
  let c32_i32_10 : BitVec 32 := 32#32
  let v20 : BitVec 32 := Scalar.muli arg1 c32_i32_10
  let c6_i32 : BitVec 32 := 6#32
  let v21 : BitVec 32 := Scalar.addi v20 c6_i32
  let c64_i32_41 : BitVec 32 := 64#32
  let v84 : BitVec 32 := Scalar.muli v21 c64_i32_41
  v84
def k0_mult8 (i : grid0.Coords) : BitVec 32 :=
  let arg1 : BitVec 32 := BitVec.ofNat 32 (i 1).val
  let c32_i32_11 : BitVec 32 := 32#32
  let v22 : BitVec 32 := Scalar.muli arg1 c32_i32_11
  let c7_i32 : BitVec 32 := 7#32
  let v23 : BitVec 32 := Scalar.addi v22 c7_i32
  let c64_i32_42 : BitVec 32 := 64#32
  let v86 : BitVec 32 := Scalar.muli v23 c64_i32_42
  v86
def k0_mult9 (i : grid0.Coords) : BitVec 32 :=
  let arg1 : BitVec 32 := BitVec.ofNat 32 (i 1).val
  let c32_i32_12 : BitVec 32 := 32#32
  let v24 : BitVec 32 := Scalar.muli arg1 c32_i32_12
  let c8_i32 : BitVec 32 := 8#32
  let v25 : BitVec 32 := Scalar.addi v24 c8_i32
  let c64_i32_43 : BitVec 32 := 64#32
  let v88 : BitVec 32 := Scalar.muli v25 c64_i32_43
  v88
def k0_mult10 (i : grid0.Coords) : BitVec 32 :=
  let arg1 : BitVec 32 := BitVec.ofNat 32 (i 1).val
  let c32_i32_13 : BitVec 32 := 32#32
  let v26 : BitVec 32 := Scalar.muli arg1 c32_i32_13
  let c9_i32 : BitVec 32 := 9#32
  let v27 : BitVec 32 := Scalar.addi v26 c9_i32
  let c64_i32_44 : BitVec 32 := 64#32
  let v90 : BitVec 32 := Scalar.muli v27 c64_i32_44
  v90
def k0_mult11 (i : grid0.Coords) : BitVec 32 :=
  let arg1 : BitVec 32 := BitVec.ofNat 32 (i 1).val
  let c32_i32_14 : BitVec 32 := 32#32
  let v28 : BitVec 32 := Scalar.muli arg1 c32_i32_14
  let c10_i32 : BitVec 32 := 10#32
  let v29 : BitVec 32 := Scalar.addi v28 c10_i32
  let c64_i32_45 : BitVec 32 := 64#32
  let v92 : BitVec 32 := Scalar.muli v29 c64_i32_45
  v92
def k0_mult12 (i : grid0.Coords) : BitVec 32 :=
  let arg1 : BitVec 32 := BitVec.ofNat 32 (i 1).val
  let c32_i32_15 : BitVec 32 := 32#32
  let v30 : BitVec 32 := Scalar.muli arg1 c32_i32_15
  let c11_i32 : BitVec 32 := 11#32
  let v31 : BitVec 32 := Scalar.addi v30 c11_i32
  let c64_i32_46 : BitVec 32 := 64#32
  let v94 : BitVec 32 := Scalar.muli v31 c64_i32_46
  v94
def k0_mult13 (i : grid0.Coords) : BitVec 32 :=
  let arg1 : BitVec 32 := BitVec.ofNat 32 (i 1).val
  let c32_i32_16 : BitVec 32 := 32#32
  let v32 : BitVec 32 := Scalar.muli arg1 c32_i32_16
  let c12_i32 : BitVec 32 := 12#32
  let v33 : BitVec 32 := Scalar.addi v32 c12_i32
  let c64_i32_47 : BitVec 32 := 64#32
  let v96 : BitVec 32 := Scalar.muli v33 c64_i32_47
  v96
def k0_mult14 (i : grid0.Coords) : BitVec 32 :=
  let arg1 : BitVec 32 := BitVec.ofNat 32 (i 1).val
  let c32_i32_17 : BitVec 32 := 32#32
  let v34 : BitVec 32 := Scalar.muli arg1 c32_i32_17
  let c13_i32 : BitVec 32 := 13#32
  let v35 : BitVec 32 := Scalar.addi v34 c13_i32
  let c64_i32_48 : BitVec 32 := 64#32
  let v98 : BitVec 32 := Scalar.muli v35 c64_i32_48
  v98
def k0_mult15 (i : grid0.Coords) : BitVec 32 :=
  let arg1 : BitVec 32 := BitVec.ofNat 32 (i 1).val
  let c32_i32_18 : BitVec 32 := 32#32
  let v36 : BitVec 32 := Scalar.muli arg1 c32_i32_18
  let c14_i32 : BitVec 32 := 14#32
  let v37 : BitVec 32 := Scalar.addi v36 c14_i32
  let c64_i32_49 : BitVec 32 := 64#32
  let v100 : BitVec 32 := Scalar.muli v37 c64_i32_49
  v100
def k0_mult16 (i : grid0.Coords) : BitVec 32 :=
  let arg1 : BitVec 32 := BitVec.ofNat 32 (i 1).val
  let c32_i32_19 : BitVec 32 := 32#32
  let v38 : BitVec 32 := Scalar.muli arg1 c32_i32_19
  let c15_i32 : BitVec 32 := 15#32
  let v39 : BitVec 32 := Scalar.addi v38 c15_i32
  let c64_i32_50 : BitVec 32 := 64#32
  let v102 : BitVec 32 := Scalar.muli v39 c64_i32_50
  v102
def k0_mult17 (i : grid0.Coords) : BitVec 32 :=
  let arg1 : BitVec 32 := BitVec.ofNat 32 (i 1).val
  let c32_i32_20 : BitVec 32 := 32#32
  let v40 : BitVec 32 := Scalar.muli arg1 c32_i32_20
  let c16_i32 : BitVec 32 := 16#32
  let v41 : BitVec 32 := Scalar.addi v40 c16_i32
  let c64_i32_51 : BitVec 32 := 64#32
  let v104 : BitVec 32 := Scalar.muli v41 c64_i32_51
  v104
def k0_mult18 (i : grid0.Coords) : BitVec 32 :=
  let arg1 : BitVec 32 := BitVec.ofNat 32 (i 1).val
  let c32_i32_21 : BitVec 32 := 32#32
  let v42 : BitVec 32 := Scalar.muli arg1 c32_i32_21
  let c17_i32 : BitVec 32 := 17#32
  let v43 : BitVec 32 := Scalar.addi v42 c17_i32
  let c64_i32_52 : BitVec 32 := 64#32
  let v106 : BitVec 32 := Scalar.muli v43 c64_i32_52
  v106
def k0_mult19 (i : grid0.Coords) : BitVec 32 :=
  let arg1 : BitVec 32 := BitVec.ofNat 32 (i 1).val
  let c32_i32_22 : BitVec 32 := 32#32
  let v44 : BitVec 32 := Scalar.muli arg1 c32_i32_22
  let c18_i32 : BitVec 32 := 18#32
  let v45 : BitVec 32 := Scalar.addi v44 c18_i32
  let c64_i32_53 : BitVec 32 := 64#32
  let v108 : BitVec 32 := Scalar.muli v45 c64_i32_53
  v108
def k0_mult20 (i : grid0.Coords) : BitVec 32 :=
  let arg1 : BitVec 32 := BitVec.ofNat 32 (i 1).val
  let c32_i32_23 : BitVec 32 := 32#32
  let v46 : BitVec 32 := Scalar.muli arg1 c32_i32_23
  let c19_i32 : BitVec 32 := 19#32
  let v47 : BitVec 32 := Scalar.addi v46 c19_i32
  let c64_i32_54 : BitVec 32 := 64#32
  let v110 : BitVec 32 := Scalar.muli v47 c64_i32_54
  v110
def k0_mult21 (i : grid0.Coords) : BitVec 32 :=
  let arg1 : BitVec 32 := BitVec.ofNat 32 (i 1).val
  let c32_i32_24 : BitVec 32 := 32#32
  let v48 : BitVec 32 := Scalar.muli arg1 c32_i32_24
  let c20_i32 : BitVec 32 := 20#32
  let v49 : BitVec 32 := Scalar.addi v48 c20_i32
  let c64_i32_55 : BitVec 32 := 64#32
  let v112 : BitVec 32 := Scalar.muli v49 c64_i32_55
  v112
def k0_mult22 (i : grid0.Coords) : BitVec 32 :=
  let arg1 : BitVec 32 := BitVec.ofNat 32 (i 1).val
  let c32_i32_25 : BitVec 32 := 32#32
  let v50 : BitVec 32 := Scalar.muli arg1 c32_i32_25
  let c21_i32 : BitVec 32 := 21#32
  let v51 : BitVec 32 := Scalar.addi v50 c21_i32
  let c64_i32_56 : BitVec 32 := 64#32
  let v114 : BitVec 32 := Scalar.muli v51 c64_i32_56
  v114
def k0_mult23 (i : grid0.Coords) : BitVec 32 :=
  let arg1 : BitVec 32 := BitVec.ofNat 32 (i 1).val
  let c32_i32_26 : BitVec 32 := 32#32
  let v52 : BitVec 32 := Scalar.muli arg1 c32_i32_26
  let c22_i32 : BitVec 32 := 22#32
  let v53 : BitVec 32 := Scalar.addi v52 c22_i32
  let c64_i32_57 : BitVec 32 := 64#32
  let v116 : BitVec 32 := Scalar.muli v53 c64_i32_57
  v116
def k0_mult24 (i : grid0.Coords) : BitVec 32 :=
  let arg1 : BitVec 32 := BitVec.ofNat 32 (i 1).val
  let c32_i32_27 : BitVec 32 := 32#32
  let v54 : BitVec 32 := Scalar.muli arg1 c32_i32_27
  let c23_i32 : BitVec 32 := 23#32
  let v55 : BitVec 32 := Scalar.addi v54 c23_i32
  let c64_i32_58 : BitVec 32 := 64#32
  let v118 : BitVec 32 := Scalar.muli v55 c64_i32_58
  v118
def k0_mult25 (i : grid0.Coords) : BitVec 32 :=
  let arg1 : BitVec 32 := BitVec.ofNat 32 (i 1).val
  let c32_i32_28 : BitVec 32 := 32#32
  let v56 : BitVec 32 := Scalar.muli arg1 c32_i32_28
  let c24_i32 : BitVec 32 := 24#32
  let v57 : BitVec 32 := Scalar.addi v56 c24_i32
  let c64_i32_59 : BitVec 32 := 64#32
  let v120 : BitVec 32 := Scalar.muli v57 c64_i32_59
  v120
def k0_mult26 (i : grid0.Coords) : BitVec 32 :=
  let arg1 : BitVec 32 := BitVec.ofNat 32 (i 1).val
  let c32_i32_29 : BitVec 32 := 32#32
  let v58 : BitVec 32 := Scalar.muli arg1 c32_i32_29
  let c25_i32 : BitVec 32 := 25#32
  let v59 : BitVec 32 := Scalar.addi v58 c25_i32
  let c64_i32_60 : BitVec 32 := 64#32
  let v122 : BitVec 32 := Scalar.muli v59 c64_i32_60
  v122
def k0_mult27 (i : grid0.Coords) : BitVec 32 :=
  let arg1 : BitVec 32 := BitVec.ofNat 32 (i 1).val
  let c32_i32_30 : BitVec 32 := 32#32
  let v60 : BitVec 32 := Scalar.muli arg1 c32_i32_30
  let c26_i32 : BitVec 32 := 26#32
  let v61 : BitVec 32 := Scalar.addi v60 c26_i32
  let c64_i32_61 : BitVec 32 := 64#32
  let v124 : BitVec 32 := Scalar.muli v61 c64_i32_61
  v124
def k0_mult28 (i : grid0.Coords) : BitVec 32 :=
  let arg1 : BitVec 32 := BitVec.ofNat 32 (i 1).val
  let c32_i32_31 : BitVec 32 := 32#32
  let v62 : BitVec 32 := Scalar.muli arg1 c32_i32_31
  let c27_i32 : BitVec 32 := 27#32
  let v63 : BitVec 32 := Scalar.addi v62 c27_i32
  let c64_i32_62 : BitVec 32 := 64#32
  let v126 : BitVec 32 := Scalar.muli v63 c64_i32_62
  v126
def k0_mult29 (i : grid0.Coords) : BitVec 32 :=
  let arg1 : BitVec 32 := BitVec.ofNat 32 (i 1).val
  let c32_i32_32 : BitVec 32 := 32#32
  let v64 : BitVec 32 := Scalar.muli arg1 c32_i32_32
  let c28_i32 : BitVec 32 := 28#32
  let v65 : BitVec 32 := Scalar.addi v64 c28_i32
  let c64_i32_63 : BitVec 32 := 64#32
  let v128 : BitVec 32 := Scalar.muli v65 c64_i32_63
  v128
def k0_mult30 (i : grid0.Coords) : BitVec 32 :=
  let arg1 : BitVec 32 := BitVec.ofNat 32 (i 1).val
  let c32_i32_33 : BitVec 32 := 32#32
  let v66 : BitVec 32 := Scalar.muli arg1 c32_i32_33
  let c29_i32 : BitVec 32 := 29#32
  let v67 : BitVec 32 := Scalar.addi v66 c29_i32
  let c64_i32_64 : BitVec 32 := 64#32
  let v130 : BitVec 32 := Scalar.muli v67 c64_i32_64
  v130
def k0_mult31 (i : grid0.Coords) : BitVec 32 :=
  let arg1 : BitVec 32 := BitVec.ofNat 32 (i 1).val
  let c32_i32_34 : BitVec 32 := 32#32
  let v68 : BitVec 32 := Scalar.muli arg1 c32_i32_34
  let c30_i32 : BitVec 32 := 30#32
  let v69 : BitVec 32 := Scalar.addi v68 c30_i32
  let c64_i32_65 : BitVec 32 := 64#32
  let v132 : BitVec 32 := Scalar.muli v69 c64_i32_65
  v132
def k0_mult32 (i : grid0.Coords) : BitVec 32 :=
  let arg1 : BitVec 32 := BitVec.ofNat 32 (i 1).val
  let c32_i32_35 : BitVec 32 := 32#32
  let v70 : BitVec 32 := Scalar.muli arg1 c32_i32_35
  let c31_i32 : BitVec 32 := 31#32
  let v71 : BitVec 32 := Scalar.addi v70 c31_i32
  let c64_i32_66 : BitVec 32 := 64#32
  let v134 : BitVec 32 := Scalar.muli v71 c64_i32_66
  v134
def k0_off1 (i : grid0.Coords) (c0_i32_4 : BitVec 32) : Fin 2 → Nat :=
  let arg1 : BitVec 32 := BitVec.ofNat 32 (i 1).val
  let c32_i32 : BitVec 32 := 32#32
  let v8 : BitVec 32 := Scalar.muli arg1 c32_i32
  let v9 : BitVec 32 := Scalar.addi v8 c0_i32_4
  let c64_i32 : BitVec 32 := 64#32
  let v72 : BitVec 32 := Scalar.muli v9 c64_i32
  let v73 : BitVec 32 := v72
  let v168 : Index := Scalar.indexCast v73
  let c0_99 : Index := 0#32
  ![v168.toNat, 0]
def k0_cond3 (i : grid0.Coords) : BitVec 1 :=
  let arg1 : BitVec 32 := BitVec.ofNat 32 (i 1).val
  let c0_i32_1392 : BitVec 32 := 0#32
  let v4404 : BitVec 1 := Scalar.cmpi .eq arg1 c0_i32_1392
  let v4405 : BitVec 32 := Scalar.extui v4404
  let c0_i32_1393 : BitVec 32 := 0#32
  let v4406 : BitVec 1 := Scalar.cmpi .ne v4405 c0_i32_1393
  v4406

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x576 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2048x11264 : Shape := ⟨2, ![2048, 11264]⟩
abbrev S1x128 : Shape := ⟨2, ![1, 128]⟩
abbrev S8x64x576 : Shape := ⟨3, ![8, 64, 576]⟩
abbrev S2048x1024 : Shape := ⟨2, ![2048, 1024]⟩
abbrev S1x2048x1024 : Shape := ⟨3, ![1, 2048, 1024]⟩
abbrev S128 : Shape := ⟨1, ![128]⟩
abbrev S1x32x64x8x128 : Shape := ⟨5, ![1, 32, 64, 8, 128]⟩
abbrev S1x8x32x64x128 : Shape := ⟨5, ![1, 8, 32, 64, 128]⟩
abbrev S_ : Shape := ⟨0, ![]⟩
abbrev S1x8x32x64 : Shape := ⟨4, ![1, 8, 32, 64]⟩
abbrev S1x8x32x64x1 : Shape := ⟨5, ![1, 8, 32, 64, 1]⟩
abbrev S1x1x1x1x128 : Shape := ⟨5, ![1, 1, 1, 1, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S1x8x8x64x128 : Shape := ⟨5, ![1, 8, 8, 64, 128]⟩
abbrev S1x8x40x64x128 : Shape := ⟨5, ![1, 8, 40, 64, 128]⟩
abbrev S32x9x1 : Shape := ⟨3, ![32, 9, 1]⟩
abbrev S1x8x32x9x64x128 : Shape := ⟨6, ![1, 8, 32, 9, 64, 128]⟩
abbrev S1x8x32x576x128 : Shape := ⟨5, ![1, 8, 32, 576, 128]⟩
abbrev S64 : Shape := ⟨1, ![64]⟩
abbrev S1x1x64 : Shape := ⟨3, ![1, 1, 64]⟩
abbrev S32x9x64 : Shape := ⟨3, ![32, 9, 64]⟩
abbrev S32x576 : Shape := ⟨2, ![32, 576]⟩
abbrev S1x8x32x64x576 : Shape := ⟨5, ![1, 8, 32, 64, 576]⟩
abbrev S1x8x1x64x576 : Shape := ⟨5, ![1, 8, 1, 64, 576]⟩
abbrev S1x1x32x1x576 : Shape := ⟨5, ![1, 1, 32, 1, 576]⟩
abbrev S1x8x32x128x576 : Shape := ⟨5, ![1, 8, 32, 128, 576]⟩
abbrev S8x32x64 : Shape := ⟨3, ![8, 32, 64]⟩
abbrev S1x8x64x576 : Shape := ⟨4, ![1, 8, 64, 576]⟩

abbrev nBuf : Space → Nat
  | .hbm => 284
  | .vmem => 0
  | .smem => 0
  | _ => 0

abbrev hbmTy0_0 (i : Nat) : BufTy := match i % 128 with
  | 0 => ⟨S2048x11264, .f32⟩
  | 1 => ⟨S1x128, .f32⟩
  | 2 => ⟨S1x128, .f32⟩
  | 3 => ⟨S8x64x576, .f32⟩
  | 4 => ⟨S2048x1024, .f32⟩
  | 5 => ⟨S2048x1024, .f32⟩
  | 6 => ⟨S2048x1024, .f32⟩
  | 7 => ⟨S2048x1024, .f32⟩
  | 8 => ⟨S1x2048x1024, .f32⟩
  | 9 => ⟨S1x2048x1024, .f32⟩
  | 10 => ⟨S1x2048x1024, .f32⟩
  | 11 => ⟨S128, .f32⟩
  | 12 => ⟨S128, .f32⟩
  | 13 => ⟨S1x32x64x8x128, .f32⟩
  | 14 => ⟨S1x8x32x64x128, .f32⟩
  | 15 => ⟨S1x8x32x64x128, .f32⟩
  | 16 => ⟨S_, .f32⟩
  | 17 => ⟨S1x8x32x64, .f32⟩
  | 18 => ⟨S1x8x32x64x1, .f32⟩
  | 19 => ⟨S_, .f32⟩
  | 20 => ⟨S1x8x32x64x1, .f32⟩
  | 21 => ⟨S1x8x32x64x1, .f32⟩
  | 22 => ⟨S_, .f32⟩
  | 23 => ⟨S1x8x32x64x1, .f32⟩
  | 24 => ⟨S1x8x32x64x1, .f32⟩
  | 25 => ⟨S1x8x32x64x1, .f32⟩
  | 26 => ⟨S1x8x32x64x1, .f32⟩
  | 27 => ⟨S_, .f32⟩
  | 28 => ⟨S1x8x32x64x1, .f32⟩
  | 29 => ⟨S1x8x32x64x1, .f32⟩
  | 30 => ⟨S1x8x32x64x128, .f32⟩
  | 31 => ⟨S1x8x32x64x128, .f32⟩
  | 32 => ⟨S1x1x1x1x128, .f32⟩
  | 33 => ⟨S1x8x32x64x128, .f32⟩
  | 34 => ⟨S1x8x32x64x128, .f32⟩
  | 35 => ⟨S1x32x64x8x128, .f32⟩
  | 36 => ⟨S1x8x32x64x128, .f32⟩
  | 37 => ⟨S1x8x32x64x128, .f32⟩
  | 38 => ⟨S_, .f32⟩
  | 39 => ⟨S1x8x32x64, .f32⟩
  | 40 => ⟨S1x8x32x64x1, .f32⟩
  | 41 => ⟨S_, .f32⟩
  | 42 => ⟨S1x8x32x64x1, .f32⟩
  | 43 => ⟨S1x8x32x64x1, .f32⟩
  | 44 => ⟨S_, .f32⟩
  | 45 => ⟨S1x8x32x64x1, .f32⟩
  | 46 => ⟨S1x8x32x64x1, .f32⟩
  | 47 => ⟨S1x8x32x64x1, .f32⟩
  | 48 => ⟨S1x8x32x64x1, .f32⟩
  | 49 => ⟨S_, .f32⟩
  | 50 => ⟨S1x8x32x64x1, .f32⟩
  | 51 => ⟨S1x8x32x64x1, .f32⟩
  | 52 => ⟨S1x8x32x64x128, .f32⟩
  | 53 => ⟨S1x8x32x64x128, .f32⟩
  | 54 => ⟨S1x1x1x1x128, .f32⟩
  | 55 => ⟨S1x8x32x64x128, .f32⟩
  | 56 => ⟨S1x8x32x64x128, .f32⟩
  | 57 => ⟨S1x32x64x8x128, .f32⟩
  | 58 => ⟨S1x8x32x64x128, .f32⟩
  | 59 => ⟨S32, .i32⟩
  | 60 => ⟨S32x1, .i32⟩
  | 61 => ⟨S9, .i32⟩
  | 62 => ⟨S1x9, .i32⟩
  | 63 => ⟨S32x9, .i32⟩
  | 64 => ⟨S32x9, .i32⟩
  | 65 => ⟨S32x9, .i32⟩
  | 66 => ⟨S_, .f32⟩
  | 67 => ⟨S1x8x8x64x128, .f32⟩
  | 68 => ⟨S1x8x40x64x128, .f32⟩
  | 69 => ⟨S_, .f32⟩
  | 70 => ⟨S1x8x8x64x128, .f32⟩
  | 71 => ⟨S_, .i32⟩
  | 72 => ⟨S32x9, .i32⟩
  | 73 => ⟨S32x9, .i1⟩
  | 74 => ⟨S_, .i32⟩
  | 75 => ⟨S32x9, .i32⟩
  | 76 => ⟨S32x9, .i32⟩
  | 77 => ⟨S32x9, .i32⟩
  | 78 => ⟨S32x9x1, .i32⟩
  | 79 => ⟨S1x8x32x9x64x128, .f32⟩
  | 80 => ⟨S1x8x32x576x128, .f32⟩
  | 81 => ⟨S_, .f32⟩
  | 82 => ⟨S1x8x8x64x128, .f32⟩
  | 83 => ⟨S1x8x40x64x128, .f32⟩
  | 84 => ⟨S_, .f32⟩
  | 85 => ⟨S1x8x8x64x128, .f32⟩
  | 86 => ⟨S_, .i32⟩
  | 87 => ⟨S32x9, .i32⟩
  | 88 => ⟨S32x9, .i1⟩
  | 89 => ⟨S_, .i32⟩
  | 90 => ⟨S32x9, .i32⟩
  | 91 => ⟨S32x9, .i32⟩
  | 92 => ⟨S32x9, .i32⟩
  | 93 => ⟨S32x9x1, .i32⟩
  | 94 => ⟨S1x8x32x9x64x128, .f32⟩
  | 95 => ⟨S1x8x32x576x128, .f32⟩
  | 96 => ⟨S_, .i32⟩
  | 97 => ⟨S32x9, .i32⟩
  | 98 => ⟨S32x9, .i32⟩
  | 99 => ⟨S32x9x1, .i32⟩
  | 100 => ⟨S_, .i32⟩
  | 101 => ⟨S32x9x1, .i32⟩
  | 102 => ⟨S32x9x1, .i32⟩
  | 103 => ⟨S64, .i32⟩
  | 104 => ⟨S1x1x64, .i32⟩
  | 105 => ⟨S32x9x64, .i32⟩
  | 106 => ⟨S32x9x64, .i32⟩
  | 107 => ⟨S32x9x64, .i32⟩
  | 108 => ⟨S32x576, .i32⟩
  | 109 => ⟨S_, .i32⟩
  | 110 => ⟨S32x576, .i32⟩
  | 111 => ⟨S32x576, .i1⟩
  | 112 => ⟨S1x8x32x64x576, .f32⟩
  | 113 => ⟨S_, .f32⟩
  | 114 => ⟨S1x8x32x64x576, .f32⟩
  | 115 => ⟨S1x8x32x64x576, .f32⟩
  | 116 => ⟨S1x8x1x64x576, .f32⟩
  | 117 => ⟨S1x8x32x64x576, .f32⟩
  | 118 => ⟨S1x8x32x64x576, .f32⟩
  | 119 => ⟨S1x1x32x1x576, .i1⟩
  | 120 => ⟨S_, .f32⟩
  | 121 => ⟨S_, .f32⟩
  | 122 => ⟨S1x8x32x64x576, .i1⟩
  | 123 => ⟨S1x8x32x64x576, .f32⟩
  | 124 => ⟨S1x8x32x64x576, .f32⟩
  | 125 => ⟨S_, .f32⟩
  | 126 => ⟨S1x8x32x64x576, .f32⟩
  | 127 => ⟨S_, .f32⟩
  | _ => ⟨S2048x11264, .f32⟩

abbrev hbmTy0_1 (i : Nat) : BufTy := match i % 128 with
  | 0 => ⟨S1x8x32x64, .f32⟩
  | 1 => ⟨S1x8x32x64x1, .f32⟩
  | 2 => ⟨S1x8x32x64x576, .f32⟩
  | 3 => ⟨S1x8x32x64x576, .i1⟩
  | 4 => ⟨S1x8x32x64x576, .f32⟩
  | 5 => ⟨S_, .f32⟩
  | 6 => ⟨S1x8x32x64, .f32⟩
  | 7 => ⟨S_, .f32⟩
  | 8 => ⟨S1x8x32x64, .f32⟩
  | 9 => ⟨S1x8x32x64, .f32⟩
  | 10 => ⟨S_, .f32⟩
  | 11 => ⟨S1x8x32x64, .f32⟩
  | 12 => ⟨S1x8x32x64, .i1⟩
  | 13 => ⟨S_, .f32⟩
  | 14 => ⟨S1x8x32x64, .f32⟩
  | 15 => ⟨S1x8x32x64, .i1⟩
  | 16 => ⟨S_, .f32⟩
  | 17 => ⟨S1x8x32x64, .f32⟩
  | 18 => ⟨S_, .f32⟩
  | 19 => ⟨S1x8x32x64, .f32⟩
  | 20 => ⟨S_, .f32⟩
  | 21 => ⟨S1x8x32x64, .f32⟩
  | 22 => ⟨S1x8x32x64, .f32⟩
  | 23 => ⟨S1x8x32x64, .f32⟩
  | 24 => ⟨S1x8x32x64x1, .f32⟩
  | 25 => ⟨S1x8x32x64x576, .f32⟩
  | 26 => ⟨S1x8x32x64x576, .f32⟩
  | 27 => ⟨S1x8x32x64x576, .f32⟩
  | 28 => ⟨S_, .f32⟩
  | 29 => ⟨S1x8x32x64, .f32⟩
  | 30 => ⟨S1x8x32x64x1, .f32⟩
  | 31 => ⟨S1x8x32x64x576, .f32⟩
  | 32 => ⟨S1x8x32x64x576, .f32⟩
  | 33 => ⟨S1x8x32x64x1, .f32⟩
  | 34 => ⟨S_, .f32⟩
  | 35 => ⟨S1x8x32x64x1, .f32⟩
  | 36 => ⟨S1x8x32x64x1, .f32⟩
  | 37 => ⟨S1x8x32x64x128, .f32⟩
  | 38 => ⟨S1x32x64x8x128, .f32⟩
  | 39 => ⟨S1x2048x1024, .f32⟩
  | 40 => ⟨S2048x1024, .f32⟩
  | 41 => ⟨S1x2048x1024, .f32⟩
  | 42 => ⟨S1x32x64x8x128, .f32⟩
  | 43 => ⟨S1x8x32x64x128, .f32⟩
  | 44 => ⟨S1x8x32x128x576, .f32⟩
  | 45 => ⟨S1x8x32x576x128, .f32⟩
  | 46 => ⟨S1x8x32x64x576, .f32⟩
  | 47 => ⟨S1x8x32x64x576, .f32⟩
  | 48 => ⟨S1x8x32x64x576, .f32⟩
  | 49 => ⟨S1x8x32x64x576, .f32⟩
  | 50 => ⟨S_, .f32⟩
  | 51 => ⟨S1x8x32x64, .f32⟩
  | 52 => ⟨S1x8x32x64x1, .f32⟩
  | 53 => ⟨S1x8x32x64x1, .f32⟩
  | 54 => ⟨S1x8x32x64x576, .f32⟩
  | 55 => ⟨S1x8x32x64x576, .f32⟩
  | 56 => ⟨S_, .f32⟩
  | 57 => ⟨S8x32x64, .f32⟩
  | 58 => ⟨S1x8x32x64, .f32⟩
  | 59 => ⟨S1x8x32x64x576, .f32⟩
  | 60 => ⟨S1x8x32x64x576, .f32⟩
  | 61 => ⟨S1x8x32x64x576, .f32⟩
  | 62 => ⟨S_, .f32⟩
  | 63 => ⟨S1x8x32x64x576, .f32⟩
  | 64 => ⟨S1x8x32x64x576, .f32⟩
  | 65 => ⟨S_, .f32⟩
  | 66 => ⟨S1x8x64x576, .f32⟩
  | 67 => ⟨S1x8x1x64x576, .f32⟩
  | 68 => ⟨S_, .f32⟩
  | 69 => ⟨S8x64x576, .f32⟩
  | 70 => ⟨S_, .f32⟩
  | 71 => ⟨S1x8x32x64x576, .f32⟩
  | 72 => ⟨S1x8x32x64x576, .f32⟩
  | 73 => ⟨S1x8x32x576x128, .f32⟩
  | 74 => ⟨S1x8x32x64x128, .f32⟩
  | 75 => ⟨S1x8x32x9x64x128, .f32⟩
  | 76 => ⟨S_, .f32⟩
  | 77 => ⟨S1x8x40x64x128, .f32⟩
  | 78 => ⟨S1x8x40x64x128, .f32⟩
  | 79 => ⟨S1x8x8x64x128, .f32⟩
  | 80 => ⟨S1x8x32x64x128, .f32⟩
  | 81 => ⟨S1x8x32x9x64x128, .f32⟩
  | 82 => ⟨S_, .f32⟩
  | 83 => ⟨S1x8x40x64x128, .f32⟩
  | 84 => ⟨S1x8x40x64x128, .f32⟩
  | 85 => ⟨S1x8x8x64x128, .f32⟩
  | 86 => ⟨S1x8x32x64x128, .f32⟩
  | 87 => ⟨S1x32x64x8x128, .f32⟩
  | 88 => ⟨S1x2048x1024, .f32⟩
  | 89 => ⟨S1x8x32x64x128, .f32⟩
  | 90 => ⟨S_, .f32⟩
  | 91 => ⟨S1x128, .f32⟩
  | 92 => ⟨S1x1x1x1x128, .f32⟩
  | 93 => ⟨S1x8x32x64x128, .f32⟩
  | 94 => ⟨S1x8x32x64x128, .f32⟩
  | 95 => ⟨S_, .f32⟩
  | 96 => ⟨S128, .f32⟩
  | 97 => ⟨S1x8x32x64x128, .f32⟩
  | 98 => ⟨S_, .f32⟩
  | 99 => ⟨S1x8x32x64, .f32⟩
  | 100 => ⟨S1x8x32x64x1, .f32⟩
  | 101 => ⟨S1x8x32x64x128, .f32⟩
  | 102 => ⟨S1x8x32x64x128, .f32⟩
  | 103 => ⟨S1x8x32x64x1, .f32⟩
  | 104 => ⟨S_, .f32⟩
  | 105 => ⟨S1x8x32x64x1, .f32⟩
  | 106 => ⟨S1x8x32x64x1, .f32⟩
  | 107 => ⟨S_, .f32⟩
  | 108 => ⟨S8x32x64, .f32⟩
  | 109 => ⟨S1x8x32x64, .f32⟩
  | 110 => ⟨S1x8x32x64x128, .f32⟩
  | 111 => ⟨S1x8x32x64x128, .f32⟩
  | 112 => ⟨S1x8x32x64x128, .f32⟩
  | 113 => ⟨S1x8x32x64x128, .f32⟩
  | 114 => ⟨S1x8x32x64x128, .f32⟩
  | 115 => ⟨S1x32x64x8x128, .f32⟩
  | 116 => ⟨S1x2048x1024, .f32⟩
  | 117 => ⟨S1x8x32x64x128, .f32⟩
  | 118 => ⟨S_, .f32⟩
  | 119 => ⟨S1x128, .f32⟩
  | 120 => ⟨S1x1x1x1x128, .f32⟩
  | 121 => ⟨S1x8x32x64x128, .f32⟩
  | 122 => ⟨S1x8x32x64x128, .f32⟩
  | 123 => ⟨S_, .f32⟩
  | 124 => ⟨S128, .f32⟩
  | 125 => ⟨S1x8x32x64x128, .f32⟩
  | 126 => ⟨S_, .f32⟩
  | 127 => ⟨S1x8x32x64, .f32⟩
  | _ => ⟨S2048x11264, .f32⟩

abbrev hbmTy0_2 (i : Nat) : BufTy := match i % 128 with
  | 0 => ⟨S1x8x32x64x1, .f32⟩
  | 1 => ⟨S1x8x32x64x128, .f32⟩
  | 2 => ⟨S1x8x32x64x128, .f32⟩
  | 3 => ⟨S1x8x32x64x1, .f32⟩
  | 4 => ⟨S_, .f32⟩
  | 5 => ⟨S1x8x32x64x1, .f32⟩
  | 6 => ⟨S1x8x32x64x1, .f32⟩
  | 7 => ⟨S_, .f32⟩
  | 8 => ⟨S8x32x64, .f32⟩
  | 9 => ⟨S1x8x32x64, .f32⟩
  | 10 => ⟨S1x8x32x64x128, .f32⟩
  | 11 => ⟨S1x8x32x64x128, .f32⟩
  | 12 => ⟨S1x8x32x64x128, .f32⟩
  | 13 => ⟨S1x8x32x64x128, .f32⟩
  | 14 => ⟨S1x8x32x64x128, .f32⟩
  | 15 => ⟨S1x32x64x8x128, .f32⟩
  | 16 => ⟨S1x2048x1024, .f32⟩
  | 17 => ⟨S1x128, .f32⟩
  | 18 => ⟨S1x128, .f32⟩
  | 19 => ⟨S_, .f32⟩
  | 20 => ⟨S2048x1024, .f32⟩
  | 21 => ⟨S_, .f32⟩
  | 22 => ⟨S2048x1024, .f32⟩
  | 23 => ⟨S_, .f32⟩
  | 24 => ⟨S2048x1024, .f32⟩
  | 25 => ⟨S2048x1024, .bf16⟩
  | 26 => ⟨S2048x1024, .bf16⟩
  | 27 => ⟨S2048x1024, .bf16⟩
  | _ => ⟨S2048x11264, .f32⟩

abbrev hbmTy (i : Nat) : BufTy := match i / 128 with
  | 0 => hbmTy0_0 i
  | 1 => hbmTy0_1 i
  | 2 => hbmTy0_2 i
  | _ => ⟨S2048x11264, .f32⟩

abbrev bufTy : (tb : Table) → Fin (tcTables nBuf tb) → BufTy
  | .hbm, ⟨i, _⟩ => hbmTy i
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_c : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_c_12 : Ref sig .tc := ⟨.hbm, 86, rfl⟩
abbrev main_v67 : Ref sig .tc := ⟨.hbm, 87, rfl⟩
abbrev main_v68 : Ref sig .tc := ⟨.hbm, 88, rfl⟩
abbrev main_c_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_18 : Ref sig .tc := ⟨.hbm, 120, rfl⟩
abbrev main_call0_v0 : Ref sig .tc := ⟨.hbm, 121, rfl⟩
abbrev main_v95_1 : Ref sig .tc := ⟨.hbm, 122, rfl⟩
abbrev main_call0_v2 : Ref sig .tc := ⟨.hbm, 123, rfl⟩
abbrev main_v95_0 : Ref sig .tc := ⟨.hbm, 124, rfl⟩
abbrev main_call0_cst : Ref sig .tc := ⟨.hbm, 125, rfl⟩
abbrev main_v95_2 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_v106 : Ref sig .tc := ⟨.hbm, 142, rfl⟩
abbrev main_v107 : Ref sig .tc := ⟨.hbm, 143, rfl⟩
abbrev main_cst_24 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_cst_26 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_27 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_28 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_29 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_30 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_call1_cst : Ref sig .tc := ⟨.hbm, 190, rfl⟩
abbrev main_call1_v0 : Ref sig .tc := ⟨.hbm, 191, rfl⟩
abbrev main_v147 : Ref sig .tc := ⟨.hbm, 192, rfl⟩
abbrev main_cst_31 : Ref sig .tc := ⟨.hbm, 193, rfl⟩
abbrev main_v148 : Ref sig .tc := ⟨.hbm, 194, rfl⟩
abbrev main_v149 : Ref sig .tc := ⟨.hbm, 195, rfl⟩
abbrev main_cst_32 : Ref sig .tc := ⟨.hbm, 196, rfl⟩
abbrev main_v150 : Ref sig .tc := ⟨.hbm, 197, rfl⟩
abbrev main_cst_33 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_34 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_35 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_36 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_37 : Ref sig .tc := ⟨.hbm, 223, rfl⟩
abbrev main_v172 : Ref sig .tc := ⟨.hbm, 224, rfl⟩
abbrev main_v173 : Ref sig .tc := ⟨.hbm, 225, rfl⟩
abbrev main_cst_38 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_39 : Ref sig .tc := ⟨.hbm, 232, rfl⟩
abbrev main_v179 : Ref sig .tc := ⟨.hbm, 233, rfl⟩
abbrev main_v180 : Ref sig .tc := ⟨.hbm, 234, rfl⟩
abbrev main_cst_40 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_41 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_42 : Ref sig .tc := ⟨.hbm, 251, rfl⟩
abbrev main_v195 : Ref sig .tc := ⟨.hbm, 252, rfl⟩
abbrev main_v196 : Ref sig .tc := ⟨.hbm, 253, rfl⟩
abbrev main_cst_43 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_44 : Ref sig .tc := ⟨.hbm, 260, rfl⟩
abbrev main_v202 : Ref sig .tc := ⟨.hbm, 261, rfl⟩
abbrev main_v203 : Ref sig .tc := ⟨.hbm, 262, rfl⟩
abbrev main_cst_45 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_cst_46 : Ref sig .tc := ⟨.hbm, 275, rfl⟩
abbrev main_v215 : Ref sig .tc := ⟨.hbm, 276, rfl⟩
abbrev main_cst_47 : Ref sig .tc := ⟨.hbm, 277, rfl⟩
abbrev main_v216 : Ref sig .tc := ⟨.hbm, 278, rfl⟩
abbrev main_cst_48 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x11264 : Shape := ⟨2, ![2048, 11264]⟩
abbrev S8x2048x1408 : Shape := ⟨3, ![8, 2048, 1408]⟩
abbrev S2048x2048 : Shape := ⟨2, ![2048, 2048]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_11 : BitVec 32 := 3#32
  let v17 : BitVec 1 := Scalar.cmpi .eq arg2 c3_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S2x2048x5632 : Shape := ⟨3, ![2, 2048, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S2048x5632 : Shape := ⟨2, ![2048, 5632]⟩
abbrev S1x2048x5632 : Shape := ⟨3, ![1, 2048, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S1x2048x5632, .f32⟩
  | .hbm, ⟨10, _⟩ => ⟨S2x2048x5632, .f32⟩
  | .hbm, ⟨11, _⟩ => ⟨S2x2048x5632, .f32⟩
  | .hbm, ⟨12, _⟩ => ⟨S1x2048x5632, .f32⟩
  | .hbm, ⟨13, _⟩ => ⟨S2048x5632, .f32⟩
  | .hbm, ⟨14, _⟩ => ⟨S1x2048x5632, .f32⟩
  | .hbm, ⟨15, _⟩ => ⟨S2048x5632, .f32⟩
  | .hbm, ⟨16, _⟩ => ⟨S2048x11264, .f32⟩
  | .hbm, ⟨17, _⟩ => ⟨S11264x2048, .f32⟩
  | .hbm, ⟨18, _⟩ => ⟨S2048x11264, .f32⟩
  | .hbm, ⟨19, _⟩ => ⟨S2048x8x1408, .f32⟩
  | .hbm, ⟨20, _⟩ => ⟨S8x2048x1408, .f32⟩
  | .hbm, ⟨21, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel5.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S1x1024x2816 : Shape := ⟨3, ![1, 1024, 2816]⟩
abbrev S2x1024x1408 : Shape := ⟨3, ![2, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_13 : BitVec 32 := 3#32
  let v19 : BitVec 1 := Scalar.cmpi .eq arg2 c3_i32_13
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x2048x5632 : Shape := ⟨3, ![2, 2048, 5632]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩
abbrev S2048x11264 : Shape := ⟨2, ![2048, 11264]⟩
abbrev S2048x5632 : Shape := ⟨2, ![2048, 5632]⟩
abbrev S1x2048x5632 : Shape := ⟨3, ![1, 2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | .hbm, ⟨13, _⟩ => ⟨S2x2048x5632, .f32⟩
  | .hbm, ⟨14, _⟩ => ⟨S1x2048x5632, .f32⟩
  | .hbm, ⟨15, _⟩ => ⟨S2048x5632, .f32⟩
  | .hbm, ⟨16, _⟩ => ⟨S1x2048x5632, .f32⟩
  | .hbm, ⟨17, _⟩ => ⟨S2048x5632, .f32⟩
  | .hbm, ⟨18, _⟩ => ⟨S2048x11264, .f32⟩
  | .hbm, ⟨19, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel6.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S8x1024x256 : Shape := ⟨3, ![8, 1024, 256]⟩
abbrev S2048x1024 : Shape := ⟨2, ![2048, 1024]⟩
abbrev S1024x2048 : Shape := ⟨2, ![1024, 2048]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S8x1024x256 : Shape := ⟨3, ![8, 1024, 256]⟩
abbrev S_ : Shape := ⟨0, ![]⟩
abbrev S2048x1024 : Shape := ⟨2, ![2048, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S_, .f32⟩
  | .hbm, ⟨3, _⟩ => ⟨S2048x1024, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S5632x2048 : Shape := ⟨2, ![5632, 2048]⟩
abbrev S2x2048x5632 : Shape := ⟨3, ![2, 2048, 5632]⟩
abbrev S512x2048 : Shape := ⟨2, ![512, 2048]⟩
abbrev S1408x2048 : Shape := ⟨2, ![1408, 2048]⟩
abbrev S2x512x1408 : Shape := ⟨3, ![2, 512, 1408]⟩
abbrev S256x2048 : Shape := ⟨2, ![256, 2048]⟩
abbrev S256x1408 : Shape := ⟨2, ![256, 1408]⟩
abbrev S1x256x1408 : Shape := ⟨3, ![1, 256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2x2048x5632, .f32⟩
  | .hbm, ⟨3, _⟩ => ⟨S2x2048x5632, .bf16⟩
  | .local _ .vmem, ⟨0, _⟩ => ⟨S512x2048, .f32⟩
  | .local _ .vmem, ⟨1, _⟩ => ⟨S512x2048, .f32⟩
  | .local _ .vmem, ⟨2, _⟩ => ⟨S1408x2048, .bf16⟩
  | .local _ .vmem, ⟨3, _⟩ => ⟨S1408x2048, .bf16⟩
  | .local _ .vmem, ⟨4, _⟩ => ⟨S2x512x1408, .f32⟩
  | .local _ .vmem, ⟨5, _⟩ => ⟨S2x512x1408, .f32⟩
  | .local _ .vmem, ⟨6, _⟩ => ⟨S2x512x1408, .bf16⟩
  | .local _ .vmem, ⟨7, _⟩ => ⟨S2x512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S5632x2048, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x2048x5632, .f32⟩
  | .hbm, ⟨31, _⟩ => ⟨S1x2048x5632, .f32⟩
  | .hbm, ⟨32, _⟩ => ⟨S2x2048x5632, .f32⟩
  | .hbm, ⟨33, _⟩ => ⟨S2x2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel12.lean ====
abbrev S2048x2048 : Shape := ⟨2, ![2048, 2048]⟩
abbrev S2048x11264 : Shape := ⟨2, ![2048, 11264]⟩
abbrev S1x4096 : Shape := ⟨2, ![1, 4096]⟩
abbrev S2x2048x2048 : Shape := ⟨3, ![2, 2048, 2048]⟩
abbrev S2x1x2048 : Shape := ⟨3, ![2, 1, 2048]⟩
abbrev S512x2048 : Shape := ⟨2, ![512, 2048]⟩
abbrev S1024x2048 : Shape := ⟨2, ![1024, 2048]⟩
abbrev S512x1024 : Shape := ⟨2, ![512, 1024]⟩
abbrev S1x1024 : Shape := ⟨2, ![1, 1024]⟩
abbrev S2x512x1024 : Shape := ⟨3, ![2, 512, 1024]⟩
abbrev S2x1x1024 : Shape := ⟨3, ![2, 1, 1024]⟩
abbrev S1x512x1024 : Shape := ⟨3, ![1, 512, 1024]⟩
abbrev S1024 : Shape := ⟨1, ![1024]⟩
abbrev S1x1x1024 : Shape := ⟨3, ![1, 1, 1024]⟩

abbrev nBuf : Space → Nat
  | .hbm => 10
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x11264, .f32⟩
  | .hbm, ⟨5, _⟩ => ⟨S1x4096, .f32⟩
  | .hbm, ⟨6, _⟩ => ⟨S2048x2048, .bf16⟩
  | .hbm, ⟨7, _⟩ => ⟨S2048x2048, .bf16⟩
  | .hbm, ⟨8, _⟩ => ⟨S2x2048x2048, .bf16⟩
  | .hbm, ⟨9, _⟩ => ⟨S2x1x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2x512x1024, .bf16⟩
  | .local _ .vmem, ⟨21, _⟩ => ⟨S2x512x1024, .bf16⟩
  | .local _ .vmem, ⟨22, _⟩ => ⟨S2x1x1024, .f32⟩
  | .local _ .vmem, ⟨23, _⟩ => ⟨S2x1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference12Ideal.lean ====
abbrev S2048x2048 : Shape := ⟨2, ![2048, 2048]⟩
abbrev S2048x11264 : Shape := ⟨2, ![2048, 11264]⟩
abbrev S1x4096 : Shape := ⟨2, ![1, 4096]⟩
abbrev S2048x4096 : Shape := ⟨2, ![2048, 4096]⟩
abbrev S4096 : Shape := ⟨1, ![4096]⟩
abbrev S_ : Shape := ⟨0, ![]⟩
abbrev S1x2048x2048 : Shape := ⟨3, ![1, 2048, 2048]⟩
abbrev S2x2048x2048 : Shape := ⟨3, ![2, 2048, 2048]⟩
abbrev S2x1x2048 : Shape := ⟨3, ![2, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x11264, .f32⟩
  | .hbm, ⟨5, _⟩ => ⟨S1x4096, .f32⟩
  | .hbm, ⟨6, _⟩ => ⟨S2048x4096, .f32⟩
  | .hbm, ⟨7, _⟩ => ⟨S4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S2048x2048, .bf16⟩
  | .hbm, ⟨44, _⟩ => ⟨S2048x2048, .bf16⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S1x2048x2048, .f32⟩
  | .hbm, ⟨49, _⟩ => ⟨S2x2048x2048, .f32⟩
  | .hbm, ⟨50, _⟩ => ⟨S2x2048x2048, .bf16⟩
  | .hbm, ⟨51, _⟩ => ⟨S2x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel13.lean ====
abbrev S2048x2048 : Shape := ⟨2, ![2048, 2048]⟩
abbrev S8x2048x1408 : Shape := ⟨3, ![8, 2048, 1408]⟩
abbrev S2x2048x5632 : Shape := ⟨3, ![2, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2x2048x5632, .f32⟩
  | .hbm, ⟨3, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel14.lean ====
abbrev S2048x1024 : Shape := ⟨2, ![2048, 1024]⟩
abbrev S8x1024x256 : Shape := ⟨3, ![8, 1024, 256]⟩
abbrev S2048x11264 : Shape := ⟨2, ![2048, 11264]⟩
abbrev S1x4096 : Shape := ⟨2, ![1, 4096]⟩
abbrev S2048x2048 : Shape := ⟨2, ![2048, 2048]⟩
abbrev S1024x1024 : Shape := ⟨2, ![1024, 1024]⟩
abbrev S2x1024x256 : Shape := ⟨3, ![2, 1024, 256]⟩
abbrev S1024x512 : Shape := ⟨2, ![1024, 512]⟩
abbrev S1x512 : Shape := ⟨2, ![1, 512]⟩
abbrev S1x1024x256 : Shape := ⟨3, ![1, 1024, 256]⟩
abbrev S1024x256 : Shape := ⟨2, ![1024, 256]⟩

abbrev nBuf : Space → Nat
  | .hbm => 9
  | .vmem => 22
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x11264, .f32⟩
  | .hbm, ⟨5, _⟩ => ⟨S1x4096, .f32⟩
  | .hbm, ⟨6, _⟩ => ⟨S2048x2048, .f32⟩
  | .hbm, ⟨7, _⟩ => ⟨S2048x2048, .f32⟩
  | .hbm, ⟨8, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x256, .bf16⟩
  | .local _ .vmem, ⟨5, _⟩ => ⟨S2x1024x256, .bf16⟩
  | .local _ .vmem, ⟨6, _⟩ => ⟨S2x1024x256, .bf16⟩
  | .local _ .vmem, ⟨7, _⟩ => ⟨S2x1024x256, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S2048x1024 : Shape := ⟨2, ![2048, 1024]⟩
abbrev S8x1024x256 : Shape := ⟨3, ![8, 1024, 256]⟩
abbrev S2048x11264 : Shape := ⟨2, ![2048, 11264]⟩
abbrev S1x4096 : Shape := ⟨2, ![1, 4096]⟩
abbrev S2048x4096 : Shape := ⟨2, ![2048, 4096]⟩
abbrev S4096 : Shape := ⟨1, ![4096]⟩
abbrev S_ : Shape := ⟨0, ![]⟩
abbrev S2048x2048 : Shape := ⟨2, ![2048, 2048]⟩
abbrev S1024x8x256 : Shape := ⟨3, ![1024, 8, 256]⟩
abbrev S1024x2048 : Shape := ⟨2, ![1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x11264, .f32⟩
  | .hbm, ⟨5, _⟩ => ⟨S1x4096, .f32⟩
  | .hbm, ⟨6, _⟩ => ⟨S2048x4096, .f32⟩
  | .hbm, ⟨7, _⟩ => ⟨S4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S2048x2048, .f32⟩
  | .hbm, ⟨20, _⟩ => ⟨S2048x2048, .f32⟩
  | .hbm, ⟨21, _⟩ => ⟨S2048x1024, .f32⟩
  | .hbm, ⟨22, _⟩ => ⟨S8x1024x256, .f32⟩
  | .hbm, ⟨23, _⟩ => ⟨S1024x8x256, .f32⟩
  | .hbm, ⟨24, _⟩ => ⟨S1024x2048, .f32⟩
  | .hbm, ⟨25, _⟩ => ⟨S2048x2048, .f32⟩
  | .hbm, ⟨26, _⟩ => ⟨S2048x1024, .f32⟩
  | .hbm, ⟨27, _⟩ => ⟨S8x1024x256, .f32⟩
  | .hbm, ⟨28, _⟩ => ⟨S1024x8x256, .f32⟩
  | .hbm, ⟨29, _⟩ => ⟨S1024x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel15.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel17.lean ====
abbrev S2048x5632 : Shape := ⟨2, ![2048, 5632]⟩
abbrev S5632x2048 : Shape := ⟨2, ![5632, 2048]⟩
abbrev S2048x2048 : Shape := ⟨2, ![2048, 2048]⟩
abbrev S8x128 : Shape := ⟨2, ![8, 128]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![4, 2, 2], ![false, false, false]⟩

def k0_cond4 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let arg2 : BitVec 32 := BitVec.ofNat 32 (i 2).val
  let c0_i32_4 : BitVec 32 := 0#32
  let v6 : BitVec 1 := Scalar.cmpi .eq arg2 c0_i32_4
  let v7 : BitVec 1 := Scalar.andi v5 v6
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference17Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 36
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S_, .f32⟩
  | .hbm, ⟨35, _⟩ => ⟨S8x128, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel18.lean ====
abbrev S2048x1408 : Shape := ⟨2, ![2048, 1408]⟩
abbrev S4x2048x1408 : Shape := ⟨3, ![4, 2048, 1408]⟩
abbrev S128x1408 : Shape := ⟨2, ![128, 1408]⟩
abbrev S4x128x1408 : Shape := ⟨3, ![4, 128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S4x128x1408, .bf16⟩
  | .local _ .vmem, ⟨7, _⟩ => ⟨S4x128x1408, .bf16⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S2048x1408 : Shape := ⟨2, ![2048, 1408]⟩
abbrev S4x2048x1408 : Shape := ⟨3, ![4, 2048, 1408]⟩
abbrev S128x1408 : Shape := ⟨2, ![128, 1408]⟩
abbrev S4x128x1408 : Shape := ⟨3, ![4, 128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S4x128x1408, .bf16⟩
  | .local _ .vmem, ⟨7, _⟩ => ⟨S4x128x1408, .bf16⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2048x1408 : Shape := ⟨2, ![2048, 1408]⟩
abbrev S4x2048x1408 : Shape := ⟨3, ![4, 2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S4x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S1024x256 : Shape := ⟨2, ![1024, 256]⟩
abbrev S4x1024x256 : Shape := ⟨3, ![4, 1024, 256]⟩
abbrev S128x256 : Shape := ⟨2, ![128, 256]⟩
abbrev S4x128x256 : Shape := ⟨3, ![4, 128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S4x128x256, .bf16⟩
  | .local _ .vmem, ⟨7, _⟩ => ⟨S4x128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S1024x256 : Shape := ⟨2, ![1024, 256]⟩
abbrev S4x1024x256 : Shape := ⟨3, ![4, 1024, 256]⟩
abbrev S128x256 : Shape := ⟨2, ![128, 256]⟩
abbrev S4x128x256 : Shape := ⟨3, ![4, 128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S4x128x256, .bf16⟩
  | .local _ .vmem, ⟨7, _⟩ => ⟨S4x128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1024x256 : Shape := ⟨2, ![1024, 256]⟩
abbrev S4x1024x256 : Shape := ⟨3, ![4, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S704x2048 : Shape := ⟨2, ![704, 2048]⟩
abbrev S4x704x2048 : Shape := ⟨3, ![4, 704, 2048]⟩
abbrev S64x2048 : Shape := ⟨2, ![64, 2048]⟩
abbrev S4x64x2048 : Shape := ⟨3, ![4, 64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S704x2048 : Shape := ⟨2, ![704, 2048]⟩
abbrev S4x704x2048 : Shape := ⟨3, ![4, 704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference22Ideal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Spec.lean ====
/-
  What the gradient of the chunked relative-position attention computes, written on its scalars.
  One head has 2048 rows of queries, keys, values and incoming gradients; a chunk of 64 rows attends to a band of 576 columns, of which the first 512 lie before it.
-/
module

public import Idealize.ShloMosaic.PureOps.Ideal
public import Idealize.ShloMosaic.Lib.Pointwise

@[expose] public section

noncomputable section

namespace Cert.Spec

open Idealize.ShloMosaic

/-- The number of features of a head, as the programs divide by it. -/
abbrev cN : EReal := Ideal.ofBits .f32 0x43000000#32
/-- The norm's epsilon. -/
abbrev cEps : EReal := Ideal.ofBits .f32 0x358637BD#32
/-- The scores' scale. -/
abbrev cScale : EReal := Ideal.ofBits .f32 0x3DB504F3#32
/-- The derivative of the inverse square root brings minus one half. -/
abbrev cHalf : EReal := Ideal.ofBits .f32 0xBF000000#32

/-- A row's mean square plus epsilon. -/
def ms (x : Fin 128 → EReal) : EReal := Ideal.div (∑ d, x d * x d) cN + cEps
/-- Its inverse root. -/
def rs (x : Fin 128 → EReal) : EReal := Ideal.rsqrt (ms x)
/-- The row normalised. -/
def xn (x : Fin 128 → EReal) (d : Fin 128) : EReal := x d * rs x
/-- The row normalised and multiplied by the gain. -/
def xh (g x : Fin 128 → EReal) (d : Fin 128) : EReal := xn x d * g d
/-- The part of the norm's gradient that goes through the mean square, half of it. -/
def nc (g x dx : Fin 128 → EReal) : EReal :=
  Ideal.div ((∑ d, x d * (dx d * g d)) * (cHalf * Ideal.div (rs x) (ms x))) cN
/-- The gradient of the norm with respect to its row. -/
def nb (g x dx : Fin 128 → EReal) (d : Fin 128) : EReal :=
  dx d * g d * rs x + x d * nc g x dx + nc g x dx * x d

/-- What one chunk of one head reads. -/
structure Chunk where
  q : Fin 64 → Fin 128 → EReal
  dy : Fin 64 → Fin 128 → EReal
  kb : Fin 576 → Fin 128 → EReal
  vb : Fin 576 → Fin 128 → EReal
  g : Fin 128 → EReal
  b : Fin 64 → Fin 576 → EReal
  ok : Fin 576 → Bool

namespace Chunk
variable (c : Chunk)

/-- The normalised queries. -/
def qh (r : Fin 64) : Fin 128 → EReal := xh c.g (c.q r)
/-- The masked scores. -/
def s (r : Fin 64) (k : Fin 576) : EReal :=
  if c.ok k then (∑ d, c.qh r d * c.kb k d) * cScale + c.b r k else ⊥
/-- A row's largest score. -/
def mx (r : Fin 64) : EReal := Finset.univ.fold max ⊥ fun k => c.s r k
def e (r : Fin 64) (k : Fin 576) : EReal := Ideal.exp (c.s r k - c.mx r)
def z (r : Fin 64) : EReal := ∑ k, c.e r k
/-- The weights. -/
def p (r : Fin 64) (k : Fin 576) : EReal := Ideal.div (c.e r k) (c.z r)
/-- The gradient of the weights. -/
def dp (r : Fin 64) (k : Fin 576) : EReal := ∑ d, c.dy r d * c.vb k d
/-- The gradient of the denominator. -/
def dz (r : Fin 64) : EReal := 0 - ∑ k, c.dp r k * Ideal.div 1 (c.z r * c.z r) * c.e r k
/-- The gradient of a score before the mask. -/
def t (r : Fin 64) (k : Fin 576) : EReal := (Ideal.div (c.dp r k) (c.z r) + c.dz r) * c.e r k
/-- The gradient of a score. -/
def ds (r : Fin 64) (k : Fin 576) : EReal := if c.ok k then c.t r k else 0
def dsc (r : Fin 64) (k : Fin 576) : EReal := c.ds r k * cScale
/-- The gradient of the band's values. -/
def dvb (k : Fin 576) (d : Fin 128) : EReal := ∑ r, c.p r k * c.dy r d
/-- The gradient of the band's normalised keys. -/
def dkb (k : Fin 576) (d : Fin 128) : EReal := ∑ r, c.dsc r k * c.qh r d
/-- The gradient of the normalised queries. -/
def dqh (r : Fin 64) (d : Fin 128) : EReal := ∑ k, c.dsc r k * c.kb k d
/-- The gradient of the queries. -/
def dq (r : Fin 64) : Fin 128 → EReal := nb c.g (c.q r) (c.dqh r)
end Chunk

/-- What one head reads. -/
structure Head where
  q : Fin 2048 → Fin 128 → EReal
  k : Fin 2048 → Fin 128 → EReal
  v : Fin 2048 → Fin 128 → EReal
  dy : Fin 2048 → Fin 128 → EReal
  qg : Fin 128 → EReal
  kg : Fin 128 → EReal
  b : Fin 64 → Fin 576 → EReal

/-- A table of rows read behind 512 rows of zeros. -/
def padded (x : Fin 2048 → Fin 128 → EReal) (i : ℕ) (d : Fin 128) : EReal :=
  if h : 512 ≤ i ∧ i < 2560 then x ⟨i - 512, by omega⟩ d else 0

namespace Head
variable (H : Head)

/-- Row `r` of chunk `n`. -/
def row (n : Fin 32) (r : Fin 64) : Fin 2048 := ⟨64 * n.val + r.val, by omega⟩

/-- The keys normalised. -/
def kh (t : Fin 2048) : Fin 128 → EReal := xh H.kg (H.k t)

/-- What chunk `n` reads. -/
def chunk (n : Fin 32) : Chunk where
  q r := H.q (row n r)
  dy r := H.dy (row n r)
  kb k := padded H.kh (64 * n.val + k.val)
  vb k := padded H.v (64 * n.val + k.val)
  g := H.qg
  b := H.b
  ok k := decide (512 ≤ 64 * n.val + k.val)

/-- What chunk `n` adds at row `i` of a table of padded rows. -/
def at_ (f : Fin 576 → Fin 128 → EReal) (n : Fin 32) (i : ℕ) (d : Fin 128) : EReal :=
  if h : 64 * n.val ≤ i ∧ i < 64 * n.val + 576 then f ⟨i - 64 * n.val, by omega⟩ d else 0

/-- The gradient of the normalised keys. -/
def dkh (t : Fin 2048) (d : Fin 128) : EReal := ∑ n, at_ (H.chunk n).dkb n (t.val + 512) d
/-- The gradient of the values. -/
def dv (t : Fin 2048) (d : Fin 128) : EReal := ∑ n, at_ (H.chunk n).dvb n (t.val + 512) d
/-- The gradient of the keys. -/
def dk (t : Fin 2048) : Fin 128 → EReal := nb H.kg (H.k t) (H.dkh t)
/-- The gradient of the queries. -/
def dq (t : Fin 2048) : Fin 128 → EReal := (H.chunk ⟨t.val / 64, by omega⟩).dq ⟨t.val % 64, by omega⟩
/-- The gradient of the biases. -/
def db (r : Fin 64) (k : Fin 576) : EReal := ∑ n, (H.chunk n).ds r k
/-- This head's part of the gradient of the queries' gain. -/
def dqg (d : Fin 128) : EReal := ∑ n, ∑ r, xn (H.q (row n r)) d * (H.chunk n).dqh r d
/-- This head's part of the gradient of the keys' gain. -/
def dkg (d : Fin 128) : EReal := ∑ n, ∑ r, xn (H.k (row n r)) d * H.dkh (row n r) d
end Head

/-- What head `h` reads of the arrays. -/
def head (proj : (⟨2, ![2048, 11264]⟩ : Shape).Idx → EReal) (qg kg : (⟨2, ![1, 128]⟩ : Shape).Idx → EReal)
    (b : (⟨3, ![8, 64, 576]⟩ : Shape).Idx → EReal) (dy : (⟨2, ![2048, 1024]⟩ : Shape).Idx → EReal) (h : Fin 8) : Head where
  q t d := proj (ix2 t ⟨4096 + (128 * h.val + d.val), by omega⟩)
  k t d := proj (ix2 t ⟨5120 + (128 * h.val + d.val), by omega⟩)
  v t d := proj (ix2 t ⟨6144 + (128 * h.val + d.val), by omega⟩)
  dy t d := dy (ix2 t ⟨128 * h.val + d.val, by omega⟩)
  qg d := qg (ix2 0 d)
  kg d := kg (ix2 0 d)
  b r k := b (ix3 h r k)

end Cert.Spec
-- ==== Proof.Soft.lean ====
module

public import Idealize.ShloMosaic.PureOps.Ideal

@[expose] public section

namespace Cert.Soft

open Idealize.ShloMosaic
open scoped BigOperators

/-- A sum of reals, read in the extended reals. -/
theorem sum_coe {ι : Type} (S : Finset ι) (f : ι → ℝ) : ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- The gradient of the softmax' greatest score is zero: adding its share to the others changes nothing. -/
theorem max_share {ι : Type} [Fintype ι] (s dp : ι → EReal) (m : EReal) (hm : ∀ j, s j ≤ m) (hr : ∀ j, ∃ r : ℝ, dp j = (r : EReal)) (j : ι) :
    let e : ι → EReal := fun j => Ideal.exp (s j - m)
    let z : EReal := ∑ j, e j
    let d : EReal := 0 - ∑ j, dp j * Ideal.div 1 (z * z) * e j
    let t : ι → EReal := fun j => (Ideal.div (dp j) z + d) * e j
    t j + Ideal.div (∑ j, (0 - t j)) (∑ j, if s j = m then 1 else 0) * (if s j = m then 1 else 0) = t j := by
  classical
  intro e z d t
  by_cases hj : s j = m
  swap
  · simp [hj]
  have hc : (∑ j, (if s j = m then (1 : EReal) else 0)) ≠ 0 := by
    have h0 : ∀ j ∈ Finset.univ, (0 : EReal) ≤ (if s j = m then (1 : EReal) else 0) := fun j _ => by split <;> simp
    intro h
    have := (Finset.sum_eq_zero_iff_of_nonneg h0).1 h j (Finset.mem_univ j)
    simp [hj] at this
  suffices h : (∑ j, (0 - t j)) = 0 by
    rw [h, Ideal.div, if_neg hc]; simp
  -- when the greatest score is no real, every weight is zero
  have hz : m = ⊤ ∨ m = ⊥ → ∀ j, e j = 0 := by
    rintro (h | h) i
    · show Ideal.exp (s i - m) = 0
      rw [h, EReal.sub_top]; rfl
    · have := hm i
      rw [h, le_bot_iff] at this
      show Ideal.exp (s i - m) = 0
      rw [this, EReal.bot_sub]; rfl
  by_cases hmr : m = ⊤ ∨ m = ⊥
  · refine Finset.sum_eq_zero fun i _ => ?_
    show 0 - (Ideal.div (dp i) z + d) * e i = 0
    rw [hz hmr i]; simp
  obtain ⟨M, rfl⟩ : ∃ M : ℝ, m = (M : EReal) := by
    induction m using EReal.rec with
    | bot => simp at hmr
    | top => simp at hmr
    | coe r => exact ⟨r, rfl⟩
  -- the weights are reals, not negative
  have he : ∀ i, ∃ w : ℝ, 0 ≤ w ∧ e i = (w : EReal) := by
    intro i
    show ∃ w : ℝ, 0 ≤ w ∧ Ideal.exp (s i - (M : EReal)) = (w : EReal)
    have := hm i
    generalize s i = x at this ⊢
    induction x using EReal.rec with
    | bot => exact ⟨0, le_rfl, by rw [EReal.bot_sub]; rfl⟩
    | top => simp at this
    | coe r => exact ⟨Real.exp (r - M), (Real.exp_pos _).le, by rw [← EReal.coe_sub]; rfl⟩
  choose w hw0 hw using he
  choose p hp using hr
  have hej : w j = 1 := by
    have h1 : Ideal.exp (s j - (M : EReal)) = (w j : EReal) := hw j
    rw [hj, ← EReal.coe_sub, sub_self] at h1
    have h2 : ((Real.exp 0 : ℝ) : EReal) = (w j : EReal) := h1
    rw [Real.exp_zero] at h2
    exact (EReal.coe_eq_coe_iff.1 h2).symm
  have hZ : z = ((∑ i, w i : ℝ) : EReal) := by
    show ∑ i, e i = _
    rw [← sum_coe]; exact Finset.sum_congr rfl fun i _ => hw i
  have hpos : 0 < ∑ i, w i := Finset.sum_pos' (fun i _ => hw0 i) ⟨j, Finset.mem_univ j, by rw [hej]; exact one_pos⟩
  set Z : ℝ := ∑ i, w i with hZd
  have hdiv : ∀ x y : ℝ, y ≠ 0 → Ideal.div (x : EReal) (y : EReal) = ((x / y : ℝ) : EReal) := by
    intro x y hy
    rw [Ideal.div, if_neg (by exact_mod_cast hy), ← EReal.coe_inv, ← EReal.coe_mul, div_eq_mul_inv]
  have hd : d = ((-(∑ i, p i * (1 / (Z * Z)) * w i) : ℝ) : EReal) := by
    show 0 - ∑ i, dp i * Ideal.div 1 (z * z) * e i = _
    rw [hZ, ← EReal.coe_mul, show (1 : EReal) = ((1 : ℝ) : EReal) from rfl, hdiv _ _ (mul_pos hpos hpos).ne']
    have : ∀ i ∈ Finset.univ, dp i * ((1 / (Z * Z) : ℝ) : EReal) * e i = ((p i * (1 / (Z * Z)) * w i : ℝ) : EReal) := fun i _ => by
      rw [hp, hw, EReal.coe_mul, EReal.coe_mul]
    rw [Finset.sum_congr rfl this, sum_coe, EReal.coe_neg, zero_sub]
  have ht : ∀ i, t i = (((p i / Z + -(∑ i, p i * (1 / (Z * Z)) * w i)) * w i : ℝ) : EReal) := by
    intro i
    show (Ideal.div (dp i) z + d) * e i = _
    rw [hd, hZ, hp, hw, hdiv _ _ hpos.ne', ← EReal.coe_add, ← EReal.coe_mul]
  have : ∀ i ∈ Finset.univ, 0 - t i = ((-((p i / Z + -(∑ i, p i * (1 / (Z * Z)) * w i)) * w i) : ℝ) : EReal) := fun i _ => by
    rw [ht, zero_sub, EReal.coe_neg]
  rw [Finset.sum_congr rfl this, sum_coe]
  norm_cast
  rw [Finset.sum_neg_distrib, neg_eq_zero]
  simp only [add_mul, Finset.sum_add_distrib]
  rw [← Finset.mul_sum, ← hZd, neg_mul, Finset.sum_mul, ← sub_eq_add_neg, sub_eq_zero]
  refine Finset.sum_congr rfl fun i _ => ?_
  field_simp

end Cert.Soft
-- ==== Proof.KChunk.lean ====
/-
  One chunk of the kernel's body, as vector operations of what the chunk reads, and each of them at an index.
-/
module

public import proofs.«01_k».proof.Proof.Gen.KernelIdeal
public import proofs.«01_k».proof.Proof.Spec
public import proofs.«01_k».proof.Proof.Soft

@[expose] public section

set_option maxRecDepth 16384

noncomputable section

namespace Cert.Ker

open Cert.KernelIdeal Cert.KernelIdeal.Gen Idealize.ShloMosaic Cert.Spec

/-- The rows' mean squares plus epsilon. -/
def vms (q : FVec Ideal S64x128 .f32) : FVec Ideal S64x1 .f32 :=
  addf (divf (shapeCast S64x1 (multiReduction .add [1] S64 (mulf q q) 0x00000000#32 reduces_S64x128_S64 (.inl rfl) rfl) shapeCasts_S64_S64x1)
    (broadcast S64x1 (Scalar.ofBits .f32 0x43000000#32))) (broadcast S64x1 (Scalar.ofBits .f32 0x358637BD#32))
/-- Their inverse roots. -/
def vrs (q : FVec Ideal S64x128 .f32) : FVec Ideal S64x1 .f32 := rsqrt (vms q)
/-- The rows normalised. -/
def vxn (q : FVec Ideal S64x128 .f32) : FVec Ideal S64x128 .f32 := mulf q (broadcastTo S64x128 (vrs q) broadcasts_S64x1_S64x128)
/-- The rows normalised and multiplied by the gain. -/
def vqh (q : FVec Ideal S64x128 .f32) (g : FVec Ideal S1x128 .f32) : FVec Ideal S64x128 .f32 :=
  mulf (vxn q) (broadcastTo S64x128 g broadcasts_S1x128_S64x128)
/-- The columns that the mask keeps. -/
def vok (w : BitVec 32) : IVec S64x576 1 :=
  broadcastTo S64x576 (shapeCast S1x576 (cmpi .sge (addi (broadcast S1x576 w) (iota .tc S1x576 32 [1] iota_S1x576_d1_w32)) (broadcast S1x576 0#32))
    shapeCasts_S1x576_S1x576) broadcasts_S1x576_S64x576
/-- The scores before the mask. -/
def vs0 (q : FVec Ideal S64x128 .f32) (g : FVec Ideal S1x128 .f32) (kb : FVec Ideal S576x128 .f32) (b : FVec Ideal S64x576 .f32) : FVec Ideal S64x576 .f32 :=
  addf (mulf (matmul dot_S64x128_S576x128_S64x576_1_1_0_0_n_n none (truncf .bf16 (vqh q g) bitsLt_bf16_f32) (truncf .bf16 kb bitsLt_bf16_f32)
    (constant S64x576 .f32 0x00000000#32)) (broadcast S64x576 (Scalar.ofBits .f32 0x3DB504F3#32))) b
/-- The masked scores. -/
def vs (ok : IVec S64x576 1) (s0 : FVec Ideal S64x576 .f32) : FVec Ideal S64x576 .f32 :=
  select ok s0 (broadcast S64x576 (Named.named κ "mask" 0xF149F2CA#32))
/-- The rows' largest scores. -/
def vmx (s : FVec Ideal S64x576 .f32) : FVec Ideal S64x576 .f32 :=
  broadcastTo S64x576 (shapeCast S64x1 (multiReduction .maximumf [1] S64 s 0xFF800000#32 reduces_S64x576_S64 (.inl rfl) rfl) shapeCasts_S64_S64x1)
    broadcasts_S64x1_S64x576
/-- One where a score is the largest, else zero. -/
def vc (s : FVec Ideal S64x576 .f32) : FVec Ideal S64x576 .f32 := sitofp .f32 (extui 32 (cmpf .oeq s (vmx s)) natLt_1_32)
def ve (s : FVec Ideal S64x576 .f32) : FVec Ideal S64x576 .f32 := exp (subf s (vmx s))
def vsum (e : FVec Ideal S64x576 .f32) : FVec Ideal S64x1 .f32 :=
  shapeCast S64x1 (multiReduction .add [1] S64 e 0x00000000#32 reduces_S64x576_S64 (.inl rfl) rfl) shapeCasts_S64_S64x1
/-- The gradient of the weights. -/
def vdp (dy : FVec Ideal S64x128 .f32) (vb : FVec Ideal S576x128 .f32) : FVec Ideal S64x576 .f32 :=
  matmul dot_S64x128_S576x128_S64x576_1_1_0_0_n_n none (truncf .bf16 dy bitsLt_bf16_f32) (truncf .bf16 vb bitsLt_bf16_f32) (constant S64x576 .f32 0x00000000#32)
/-- The gradient of the denominator. -/
def vdz (dp e : FVec Ideal S64x576 .f32) : FVec Ideal S64x1 .f32 :=
  subf (broadcast S64x1 (Scalar.ofBits .f32 0x00000000#32))
    (vsum (mulf (mulf dp (broadcastTo S64x576 (divf (broadcast S64x1 (Scalar.ofBits .f32 0x3F800000#32)) (mulf (vsum e) (vsum e))) broadcasts_S64x1_S64x576)) e))
/-- The gradient of the scores but for the largest one's share. -/
def vt (dp e : FVec Ideal S64x576 .f32) : FVec Ideal S64x576 .f32 :=
  mulf (addf (divf dp (broadcastTo S64x576 (vsum e) broadcasts_S64x1_S64x576)) (broadcastTo S64x576
    (shapeCast S64x1 (multiReduction .add [1] S64 (vdz dp e) 0x00000000#32 reduces_S64x1_S64 (.inl rfl) rfl) shapeCasts_S64_S64x1) broadcasts_S64x1_S64x576)) e
/-- The largest score's share. -/
def vsh (t c : FVec Ideal S64x576 .f32) : FVec Ideal S64x576 .f32 :=
  mulf (broadcastTo S64x576 (shapeCast S64x1 (divf (multiReduction .add [1] S64 (vsum (subf (broadcast S64x576 (Scalar.ofBits .f32 0x00000000#32)) t)) 0x00000000#32
      reduces_S64x1_S64 (.inl rfl) rfl) (multiReduction .add [1] S64 c 0x00000000#32 reduces_S64x576_S64 (.inl rfl) rfl)) shapeCasts_S64_S64x1)
    broadcasts_S64x1_S64x576) c
/-- The gradient of the scores. -/
def vds (ok : IVec S64x576 1) (t c : FVec Ideal S64x576 .f32) : FVec Ideal S64x576 .f32 :=
  select ok (addf t (vsh t c)) (broadcast S64x576 (Scalar.ofBits .f32 0x00000000#32))
/-- The same from what the chunk reads. -/
def wds (w : BitVec 32) (s : FVec Ideal S64x576 .f32) (dy : FVec Ideal S64x128 .f32) (vb : FVec Ideal S576x128 .f32) : FVec Ideal S64x576 .f32 :=
  vds (vok w) (vt (vdp dy vb) (ve s)) (vc s)
/-- The gradient of the products. -/
def vdsc (ds : FVec Ideal S64x576 .f32) : FVec Ideal S64x576 .bf16 :=
  truncf .bf16 (mulf ds (broadcast S64x576 (Scalar.ofBits .f32 0x3DB504F3#32))) bitsLt_bf16_f32
/-- The gradient of the band's keys. -/
def vdkb (ds : FVec Ideal S64x576 .f32) (qh : FVec Ideal S64x128 .f32) : FVec Ideal S576x128 .f32 :=
  matmul dot_S64x576_S64x128_S576x128_0_0_1_1_n_n none (vdsc ds) (truncf .bf16 qh bitsLt_bf16_f32) (constant S576x128 .f32 0x00000000#32)
/-- The gradient of the band's values. -/
def vdvb (e : FVec Ideal S64x576 .f32) (dy : FVec Ideal S64x128 .f32) : FVec Ideal S576x128 .f32 :=
  matmul dot_S64x576_S64x128_S576x128_0_0_1_1_n_n none
    (truncf .bf16 (divf e (broadcastTo S64x576 (vsum e) broadcasts_S64x1_S64x576)) bitsLt_bf16_f32)
    (truncf .bf16 dy bitsLt_bf16_f32) (constant S576x128 .f32 0x00000000#32)
/-- The gradient of the normalised queries. -/
def vdqh (ds : FVec Ideal S64x576 .f32) (kb : FVec Ideal S576x128 .f32) : FVec Ideal S64x128 .f32 :=
  matmul dot_S64x576_S576x128_S64x128_1_0_0_1_n_n none (vdsc ds) (truncf .bf16 kb bitsLt_bf16_f32) (constant S64x128 .f32 0x00000000#32)
/-- The part of the norm's gradient through the mean square. -/
def vnc (q : FVec Ideal S64x128 .f32) (g : FVec Ideal S1x128 .f32) (dx : FVec Ideal S64x128 .f32) : FVec Ideal S64x128 .f32 :=
  broadcastTo S64x128 (shapeCast S64x1 (multiReduction .add [1] S64 (divf (mulf
      (shapeCast S64x1 (multiReduction .add [1] S64 (mulf q (mulf dx (broadcastTo S64x128 g broadcasts_S1x128_S64x128))) 0x00000000#32 reduces_S64x128_S64 (.inl rfl) rfl) shapeCasts_S64_S64x1)
      (mulf (broadcast S64x1 (Scalar.ofBits .f32 0xBF000000#32)) (divf (vrs q) (vms q)))) (broadcast S64x1 (Scalar.ofBits .f32 0x43000000#32)))
    0x00000000#32 reduces_S64x1_S64 (.inl rfl) rfl) shapeCasts_S64_S64x1) broadcasts_S64x1_S64x128
/-- The gradient of the queries. -/
def vdq (q : FVec Ideal S64x128 .f32) (g : FVec Ideal S1x128 .f32) (dx : FVec Ideal S64x128 .f32) : FVec Ideal S64x128 .f32 :=
  addf (addf (mulf (mulf dx (broadcastTo S64x128 g broadcasts_S1x128_S64x128)) (broadcastTo S64x128 (vrs q) broadcasts_S64x1_S64x128)) (mulf q (vnc q g dx)))
    (mulf (vnc q g dx) q)
/-- The gain's part of the norm's gradient. -/
def vdqg (q dx : FVec Ideal S64x128 .f32) : FVec Ideal S1x128 .f32 :=
  shapeCast S1x128 (multiReduction .add [0] S128 (mulf (vxn q) dx) 0x00000000#32 reduces_S64x128_S128 (.inl rfl) rfl) shapeCasts_S128_S1x128

end Cert.Ker
-- ==== Proof.KAt.lean ====
module

public import proofs.«01_k».proof.Proof.KChunk
public import Idealize.ShloMosaic.Lib.Pointwise

@[expose] public section

set_option maxRecDepth 16384

noncomputable section

namespace Cert.Ker

open Cert.KernelIdeal Cert.KernelIdeal.Gen Idealize.ShloMosaic Cert.Spec

variable (q dy : FVec Ideal S64x128 .f32) (g : FVec Ideal S1x128 .f32) (kb vb : FVec Ideal S576x128 .f32) (b s dp e t c ds : FVec Ideal S64x576 .f32)
  (ok : IVec S64x576 1) (r : Fin 64) (d : Fin 128) (k : Fin 576)

theorem zero_bits : Ideal.ofBits .f32 0x00000000#32 = 0 := by simp [Ideal.ofBits, Ideal.ieee]
theorem one_bits : Ideal.ofBits .f32 0x3F800000#32 = 1 := by
  simp [Ideal.ofBits, Ideal.ieee]
  rw [← EReal.coe_mul]
  norm_num
theorem bot_bits : Ideal.ofBits .f32 0xFF800000#32 = ⊥ := by simp [Ideal.ofBits, Ideal.ieee]
theorem mask_bits : (Named.named (F := Ideal) κ "mask" (φ := .f32) 0xF149F2CA#32 : EReal) = ⊥ := rfl

theorem vms_at : vms q (ix2 r 0) = ms fun d => q (ix2 r d) := by
  unfold vms
  pointwise
  rfl
theorem vrs_at : vrs q (ix2 r 0) = rs fun d => q (ix2 r d) := by
  unfold vrs
  pointwise
  rw [vms_at]
  rfl
theorem vxn_at : vxn q (ix2 r d) = xn (fun d => q (ix2 r d)) d := by
  unfold vxn
  pointwise
  rw [vrs_at]
  rfl
theorem vqh_at : vqh q g (ix2 r d) = xh (fun d => g (ix2 0 d)) (fun d => q (ix2 r d)) d := by
  unfold vqh
  pointwise
  rw [vxn_at]
  rfl
theorem vs0_at : vs0 q g kb b (ix2 r k) = (∑ d, xh (fun d => g (ix2 0 d)) (fun d => q (ix2 r d)) d * kb (ix2 k d)) * cScale + b (ix2 r k) := by
  unfold vs0
  pointwise
  simp only [vqh_at]
theorem vs_at : vs ok s (ix2 r k) = Scalar.select (ok (ix2 r k)) (s (ix2 r k)) (⊥ : EReal) := by
  unfold vs
  pointwise
  rfl
theorem vmx_at : vmx s (ix2 r k) = Finset.univ.fold max ⊥ fun k => s (ix2 r k) := by
  unfold vmx
  pointwise
  rw [bot_bits]
theorem vc_at : vc s (ix2 r k) = if s (ix2 r k) = Finset.univ.fold max ⊥ (fun k => s (ix2 r k)) then 1 else 0 := by
  unfold vc
  pointwise
  rw [vmx_at]
  by_cases h : s (ix2 r k) = Finset.univ.fold max ⊥ fun k => s (ix2 r k)
  · rw [if_pos h, decide_eq_true h]
    show (((BitVec.setWidth 32 (BitVec.ofBool true)).toInt : ℝ) : EReal) = 1
    have : (BitVec.setWidth 32 (BitVec.ofBool true)).toInt = 1 := by decide
    rw [this]
    norm_num
  · rw [if_neg h, decide_eq_false h]
    show (((BitVec.setWidth 32 (BitVec.ofBool false)).toInt : ℝ) : EReal) = 0
    have : (BitVec.setWidth 32 (BitVec.ofBool false)).toInt = 0 := by decide
    rw [this]
    norm_num
theorem ve_at : ve s (ix2 r k) = Ideal.exp (s (ix2 r k) - Finset.univ.fold max ⊥ fun k => s (ix2 r k)) := by
  unfold ve
  pointwise
  rw [vmx_at]
theorem vsum_at : vsum e (ix2 r 0) = ∑ k, e (ix2 r k) := by
  unfold vsum
  pointwise
theorem vdp_at : vdp dy vb (ix2 r k) = ∑ d, dy (ix2 r d) * vb (ix2 k d) := by
  unfold vdp
  pointwise
theorem vdz_at : vdz dp e (ix2 r 0) = 0 - ∑ k, dp (ix2 r k) * Ideal.div 1 ((∑ k, e (ix2 r k)) * ∑ k, e (ix2 r k)) * e (ix2 r k) := by
  unfold vdz
  pointwise
  rw [vsum_at]
  pointwise
  simp only [vsum_at, one_bits, zero_bits]
theorem vt_at : vt dp e (ix2 r k) = (Ideal.div (dp (ix2 r k)) (∑ k, e (ix2 r k))
    + (0 - ∑ k, dp (ix2 r k) * Ideal.div 1 ((∑ k, e (ix2 r k)) * ∑ k, e (ix2 r k)) * e (ix2 r k))) * e (ix2 r k) := by
  unfold vt
  pointwise
  simp only [vsum_at, Fin.sum_univ_one, vdz_at]
theorem vsh_at : vsh t c (ix2 r k) = Ideal.div (∑ k, (0 - t (ix2 r k))) (∑ k, c (ix2 r k)) * c (ix2 r k) := by
  unfold vsh
  pointwise
  rw [Fin.sum_univ_one, vsum_at]
  pointwise
theorem vds_at : vds ok t c (ix2 r k) = Scalar.select (ok (ix2 r k)) (t (ix2 r k) + vsh t c (ix2 r k)) (0 : EReal) := by
  unfold vds
  pointwise
theorem vdkb_at : vdkb ds q (ix2 k d) = ∑ r, ds (ix2 r k) * cScale * q (ix2 r d) := by
  unfold vdkb vdsc
  pointwise
theorem vdvb_at : vdvb e dy (ix2 k d) = ∑ r, Ideal.div (e (ix2 r k)) (∑ k, e (ix2 r k)) * dy (ix2 r d) := by
  unfold vdvb
  pointwise
  simp only [vsum_at]
theorem vdqh_at : vdqh ds kb (ix2 r d) = ∑ k, ds (ix2 r k) * cScale * kb (ix2 k d) := by
  unfold vdqh vdsc
  pointwise
theorem vnc_at : vnc q g dy (ix2 r d) = nc (fun d => g (ix2 0 d)) (fun d => q (ix2 r d)) (fun d => dy (ix2 r d)) := by
  unfold vnc
  pointwise
  rw [Fin.sum_univ_one]
  simp only [vrs_at, vms_at]
  rfl
theorem vdq_at : vdq q g dy (ix2 r d) = nb (fun d => g (ix2 0 d)) (fun d => q (ix2 r d)) (fun d => dy (ix2 r d)) d := by
  unfold vdq
  pointwise
  simp only [vrs_at, vnc_at]
  rfl
theorem vdqg_at : vdqg q dy (ix2 0 d) = ∑ r, xn (fun d => q (ix2 r d)) d * dy (ix2 r d) := by
  unfold vdqg
  pointwise
  simp only [vxn_at]

end Cert.Ker
-- ==== Proof.KGlue.lean ====
/-
  One chunk of the kernel's body computes what the specification's chunk does.
-/
module

public import proofs.«01_k».proof.Proof.KAt

@[expose] public section

set_option maxRecDepth 16384

noncomputable section

namespace Cert.Ker

open Cert.KernelIdeal Cert.KernelIdeal.Gen Idealize.ShloMosaic Cert.Spec

/-- The vectors that a chunk reads are those of the specification's chunk, and the gradient of its weights is real. -/
structure Reads (C : Chunk) (w : BitVec 32) (q dy : FVec Ideal S64x128 .f32) (g : FVec Ideal S1x128 .f32)
    (kb vb : FVec Ideal S576x128 .f32) (b : FVec Ideal S64x576 .f32) : Prop where
  q : ∀ r d, q (ix2 r d) = C.q r d
  dy : ∀ r d, dy (ix2 r d) = C.dy r d
  g : ∀ d, g (ix2 0 d) = C.g d
  kb : ∀ k d, kb (ix2 k d) = C.kb k d
  vb : ∀ k d, vb (ix2 k d) = C.vb k d
  b : ∀ r k, b (ix2 r k) = C.b r k
  ok : ∀ r k, vok w (ix2 r k) = BitVec.ofBool (C.ok k)
  real : ∀ r k, ∃ x : ℝ, C.dp r k = (x : EReal)

variable {C : Chunk} {w : BitVec 32} {q dy : FVec Ideal S64x128 .f32} {g : FVec Ideal S1x128 .f32}
  {kb vb : FVec Ideal S576x128 .f32} {b : FVec Ideal S64x576 .f32}

theorem select_ofBool (b : Bool) (x y : EReal) : Scalar.select (BitVec.ofBool b) x y = if b = true then x else y := by
  cases b <;> rfl

namespace Reads
variable (R : Reads C w q dy g kb vb b)
include R

theorem qh_at (r : Fin 64) (d : Fin 128) : vqh q g (ix2 r d) = C.qh r d := by
  rw [vqh_at]
  simp only [R.q, R.g]
  rfl

theorem s_at (r : Fin 64) (k : Fin 576) : vs (vok w) (vs0 q g kb b) (ix2 r k) = C.s r k := by
  rw [vs_at, vs0_at, R.ok, select_ofBool]
  simp only [R.q, R.g, R.kb, R.b]
  rfl

theorem mx_at (r : Fin 64) : (Finset.univ.fold max ⊥ fun k => vs (vok w) (vs0 q g kb b) (ix2 r k)) = C.mx r := by
  simp only [R.s_at]
  rfl

theorem c_at (r : Fin 64) (k : Fin 576) : vc (vs (vok w) (vs0 q g kb b)) (ix2 r k) = if C.s r k = C.mx r then 1 else 0 := by
  rw [vc_at, R.mx_at, R.s_at]

theorem e_at (r : Fin 64) (k : Fin 576) : ve (vs (vok w) (vs0 q g kb b)) (ix2 r k) = C.e r k := by
  rw [ve_at, R.mx_at, R.s_at]
  rfl

theorem dp_at (r : Fin 64) (k : Fin 576) : vdp dy vb (ix2 r k) = C.dp r k := by
  rw [vdp_at]
  simp only [R.dy, R.vb]
  rfl

theorem t_at (r : Fin 64) (k : Fin 576) : vt (vdp dy vb) (ve (vs (vok w) (vs0 q g kb b))) (ix2 r k) = C.t r k := by
  rw [vt_at]
  simp only [R.e_at, R.dp_at]
  rfl

theorem ds_at (r : Fin 64) (k : Fin 576) : wds w (vs (vok w) (vs0 q g kb b)) dy vb (ix2 r k) = C.ds r k := by
  unfold wds
  rw [vds_at, vsh_at, R.ok, select_ofBool]
  simp only [R.c_at, R.t_at]
  have h := Cert.Soft.max_share (fun k => C.s r k) (fun k => C.dp r k) (C.mx r)
    (fun j => (Finset.le_fold_max _).mpr (Or.inr ⟨j, Finset.mem_univ j, le_rfl⟩)) (R.real r) k
  have h' : C.t r k + Ideal.div (∑ k, (0 - C.t r k)) (∑ k, if C.s r k = C.mx r then 1 else 0) * (if C.s r k = C.mx r then 1 else 0) = C.t r k := h
  rw [h']
  rfl

variable {ds : FVec Ideal S64x576 .f32} (hds : ∀ r k, ds (ix2 r k) = C.ds r k)
include hds

theorem dkb_at (k : Fin 576) (d : Fin 128) : vdkb ds (vqh q g) (ix2 k d) = C.dkb k d := by
  rw [vdkb_at]
  simp only [hds, R.qh_at]
  rfl

theorem dqh_at (r : Fin 64) (d : Fin 128) : vdqh ds kb (ix2 r d) = C.dqh r d := by
  rw [vdqh_at]
  simp only [hds, R.kb]
  rfl

theorem dq_at (r : Fin 64) (d : Fin 128) : vdq q g (vdqh ds kb) (ix2 r d) = C.dq r d := by
  rw [vdq_at]
  simp only [R.dqh_at hds, R.q, R.g]
  rfl

theorem dqg_at (d : Fin 128) : vdqg q (vdqh ds kb) (ix2 0 d) = ∑ r, xn (C.q r) d * C.dqh r d := by
  rw [vdqg_at]
  simp only [R.dqh_at hds, R.q]

omit hds

theorem dvb_at (k : Fin 576) (d : Fin 128) : vdvb (ve (vs (vok w) (vs0 q g kb b))) dy (ix2 k d) = C.dvb k d := by
  rw [vdvb_at]
  simp only [R.e_at, R.dy]
  rfl

end Reads

end Cert.Ker
-- ==== Proof.KLeaf.lean ====
/-
  What the kernel's body reads out of its windows, as functions of the windows' contents.
-/
module

public import proofs.«01_k».proof.Proof.Gen.KernelIdeal.Frame.Runs
public import proofs.«01_k».proof.Proof.KAt

@[expose] public section

set_option maxRecDepth 16384

noncomputable section

namespace Cert.Ker

open Cert.KernelIdeal Cert.KernelIdeal.Gen Idealize.ShloMosaic Cert.Spec

theorem rows_inb (n : Fin 32) (a : Fin 2) : ![64 * n.val, 0] a + S64x128.size a ≤ S2048x128.size a := by
  fin_cases n <;> fin_cases a <;> decide

/-- The rows of chunk `n` of a window. -/
def rows (a : Memref sig .tc .vmem S2048x128 .f32) (ha : a.IsWhole) (x : Vec Ideal S2048x128 .f32) (n : Fin 32) : FVec Ideal S64x128 .f32 :=
  View.readAt (Elt Ideal) a.view (Rect.unit (s := S2048x128) ![64 * n.val, 0] S64x128.size (rows_inb n)).toLoadRect (ha.unread x)
/-- The gain. -/
def gain (a : Memref sig .tc .vmem S1x128 .f32) (ha : a.IsWhole) (x : Vec Ideal S1x128 .f32) : FVec Ideal S1x128 .f32 :=
  View.readAt (Elt Ideal) a.view (Rect.unit (s := S1x128) ![0, 0] S1x128.size (by intro a; fin_cases a <;> decide)).toLoadRect (ha.unread x)
/-- The biases. -/
def biases (a : Memref sig .tc .vmem S1x64x576 .f32) (ha : a.IsWhole) (x : Vec Ideal S1x64x576 .f32) : FVec Ideal S64x576 .f32 :=
  shapeCast S64x576 (View.readAt (Elt Ideal) a.view (Rect.unit (s := S1x64x576) ![0, 0, 0] S1x64x576.size (by intro a; fin_cases a <;> decide)).toLoadRect (ha.unread x)) (by decide)
/-- Where chunk `n`'s band begins. -/
def start (i : grid0.Coords) (n : BitVec 32) : BitVec 32 :=
  Scalar.subi (Scalar.muli (Scalar.addi (Scalar.muli (BitVec.ofNat 32 ↑(i 1)) 32#32) n) 64#32) 512#32

theorem rows_at (a : Memref sig .tc .vmem S2048x128 .f32) (ha : a.IsWhole) (x : Vec Ideal S2048x128 .f32) (n : Fin 32) (r : Fin 64) (d : Fin 128) :
    rows a ha x n (ix2 r d) = x (ix2 (Head.row n r) d) := by
  unfold rows
  rw [View.readAt_eq_ld, Memref.IsWhole.read_unread]
  pointwise
  rfl
theorem gain_at (a : Memref sig .tc .vmem S1x128 .f32) (ha : a.IsWhole) (x : Vec Ideal S1x128 .f32) (d : Fin 128) :
    gain a ha x (ix2 0 d) = x (ix2 0 d) := by
  unfold gain
  rw [View.readAt_eq_ld, Memref.IsWhole.read_unread]
  pointwise
theorem biases_at (a : Memref sig .tc .vmem S1x64x576 .f32) (ha : a.IsWhole) (x : Vec Ideal S1x64x576 .f32) (r : Fin 64) (k : Fin 576) :
    biases a ha x (ix2 r k) = x (ix3 0 r k) := by
  unfold biases
  rw [View.readAt_eq_ld, Memref.IsWhole.read_unread]
  pointwise

theorem bmod_small (x : ℤ) (a : -100000 ≤ x) (b : x ≤ 100000) : Int.bmod x (2 ^ 32) = x :=
  Int.bmod_eq_of_le (by omega) (by omega)

theorem start_at (a b : ℕ) (ha : a < 32) (hb : b < 576) :
    IntOp.cmpi CmpIPredicate.sge (IntOp.addi (Scalar.subi (Scalar.muli (Scalar.addi (Scalar.muli 0#32 32#32) (BitVec.ofNat 32 a)) 64#32) 512#32)
      (BitVec.ofNat 32 b)) 0#32 = BitVec.ofBool (decide (512 ≤ 64 * a + b)) := by
  have e : (((0#32 * 32#32 + BitVec.ofNat 32 a) * 64#32 - 512#32) + BitVec.ofNat 32 b).toInt = 64 * (a : ℤ) + b - 512 := by
    have z : (0#32 * 32#32 + BitVec.ofNat 32 a : BitVec 32) = BitVec.ofNat 32 a := by simp
    rw [z, BitVec.toInt_add, BitVec.toInt_sub, BitVec.toInt_mul, BitVec.toInt_ofNat', BitVec.toInt_ofNat', BitVec.toInt_ofNat', BitVec.toInt_ofNat']
    rw [bmod_small ((a : ℕ) : ℤ) (by omega) (by omega), bmod_small ((64 : ℕ) : ℤ) (by omega) (by omega),
      bmod_small ((512 : ℕ) : ℤ) (by omega) (by omega), bmod_small ((b : ℕ) : ℤ) (by omega) (by omega),
      bmod_small ((a : ℤ) * (64 : ℕ)) (by omega) (by omega)]
    rw [bmod_small ((a : ℤ) * (64 : ℕ) - (512 : ℕ)) (by omega) (by omega), bmod_small _ (by omega) (by omega)]
    omega
  show BitVec.ofBool (BitVec.sle 0#32 (((0#32 * 32#32 + BitVec.ofNat 32 a) * 64#32 - 512#32) + BitVec.ofNat 32 b)) = _
  rw [BitVec.sle_eq_decide, e]
  have h0 : (0#32).toInt = 0 := by decide
  rw [h0]
  refine congrArg BitVec.ofBool ?_
  rw [decide_eq_decide]
  omega

/-- The column test of chunk `n`. -/
theorem vok_at (i : grid0.Coords) (n : Fin 32) (r : Fin 64) (k : Fin 576) :
    vok (start i (BitVec.ofNat 32 n.val)) (ix2 r k) = BitVec.ofBool (decide (512 ≤ 64 * n.val + k.val)) := by
  unfold vok start
  pointwise
  exact start_at _ _ n.isLt k.isLt

end Cert.Ker
-- ==== Proof.KTable.lean ====
/-
  The tables of padded rows that the kernel's body keeps: what stands in them at a row, and what a band of them reads.
-/
module

public import proofs.«01_k».proof.Proof.KGlue
public import proofs.«01_k».proof.Proof.KLeaf
public import Idealize.ShloMosaic.Lib.Pipeline.ReadBack
public import Idealize.ShloMosaic.Lib.Pipeline.ValueKit.Geometry
public import Idealize.ShloMosaic.Lib.Pipeline.ValueKit.Tiles

@[expose] public section

set_option maxRecDepth 16384

noncomputable section

namespace Cert.Ker

open Cert.KernelIdeal Cert.KernelIdeal.Gen Idealize.ShloMosaic Cert.Spec

/-- A list of writes to a table. -/
abbrev Pieces := List (View.Piece (Elt Ideal) S2560x128 .f32)

/-- What stands in the table after the writes, on its scalars. -/
def tab (L : Pieces) (y : Fin 2560) (d : Fin 128) : EReal := View.canon L (ix2 y d)

theorem idx_eq {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

/-- Within the last write's rows, its payload. -/
theorem tab_in {o w : ℕ} (inb : ∀ a, ![o, 0] a + ![w, 128] a ≤ S2560x128.size a) (W : (⟨2, ![w, 128]⟩ : Shape).Idx → EReal) (L : Pieces)
    (y : Fin 2560) (d : Fin 128) (k : Fin w) (h : y.val = o + k.val) :
    tab (⟨Rect.unit (s := S2560x128) ![o, 0] ![w, 128] inb, W⟩ :: L) y d = W (ix2 k d) := by
  have e : (ix2 y d : S2560x128.Idx) = (Rect.unit (s := S2560x128) ![o, 0] ![w, 128] inb).emb (ix2 k d) := by
    refine idx_eq ?_ ?_
    · rw [ValueKit.rect_emb_unit_val]
      exact h
    · rw [ValueKit.rect_emb_unit_val]
      exact (Nat.zero_add _).symm
  unfold tab
  rw [e]
  exact View.canon_cons_emb _ _ _ _

/-- Off them, the earlier writes. -/
theorem tab_out {o w : ℕ} (inb : ∀ a, ![o, 0] a + ![w, 128] a ≤ S2560x128.size a) (W : (⟨2, ![w, 128]⟩ : Shape).Idx → EReal) (L : Pieces)
    (y : Fin 2560) (d : Fin 128) (h : y.val < o ∨ o + w ≤ y.val) :
    tab (⟨Rect.unit (s := S2560x128) ![o, 0] ![w, 128] inb, W⟩ :: L) y d = tab L y d := by
  refine View.canon_cons_of_not_mem _ _ fun m => ?_
  have m' := (Rect.mem_set_unit (s := S2560x128) (off := ![o, 0]) (size := ![w, 128]) (inb := inb)).mp m (0 : Fin 2)
  have h1 : o ≤ y.val := m'.1
  have h2 : y.val < o + w := m'.2
  omega

/-- What a band of the table reads. -/
theorem band_at {o : ℕ} {off : Fin 2 → ℕ} (ho : off = ![o, 0]) (v : View sig .tc .vmem S2560x128 .f32) (L : Pieces)
    (inb : ∀ a, off a + S576x128.size a ≤ S2560x128.size a) (k : Fin 576) (d : Fin 128) (y : Fin 2560) (h : y.val = o + k.val) :
    v.readCov L (Rect.unit (s := S2560x128) off S576x128.size inb).toLoadRect (ix2 k d) = tab L y d := by
  subst ho
  rw [View.readCov_eq_canon']
  unfold tab
  refine congrArg (View.canon L) (idx_eq ?_ ?_)
  · exact (Rect.idx_unit_val (s := S2560x128) _ _ _ _ _).trans h.symm
  · exact (Rect.idx_unit_val (s := S2560x128) _ _ _ _ _).trans (Nat.zero_add _)

/-- A whole table of `2048` rows read out. -/
theorem body_at (v : View sig .tc .vmem S2560x128 .f32) (L : Pieces)
    (inb : ∀ a, ![512, 0] a + S2048x128.size a ≤ S2560x128.size a) (t : Fin 2048) (d : Fin 128) :
    v.readCov L (Rect.unit (s := S2560x128) ![512, 0] S2048x128.size inb).toLoadRect (ix2 t d) = tab L ⟨t.val + 512, by omega⟩ d := by
  rw [View.readCov_eq_canon']
  unfold tab
  refine congrArg (View.canon L) (idx_eq ?_ ?_)
  · exact (Rect.idx_unit_val (s := S2560x128) _ _ _ _ _).trans (Nat.add_comm _ _)
  · exact (Rect.idx_unit_val (s := S2560x128) _ _ _ _ _).trans (Nat.zero_add _)

/-- The table of padded rows. -/
theorem pad_at (inb : ∀ a, ![512, 0] a + S2048x128.size a ≤ S2560x128.size a) (inb' : ∀ a, ![0, 0] a + S512x128.size a ≤ S2560x128.size a)
    (A : FVec Ideal S2048x128 .f32) (Z : FVec Ideal S512x128 .f32) (hZ : ∀ i d, Z (ix2 i d) = 0) (x : Fin 2048 → Fin 128 → EReal) (hx : ∀ t d, A (ix2 t d) = x t d)
    (y : Fin 2560) (d : Fin 128) :
    tab [⟨Rect.unit (s := S2560x128) ![512, 0] S2048x128.size inb, A⟩, ⟨Rect.unit (s := S2560x128) ![0, 0] S512x128.size inb', Z⟩] y d = padded x y.val d := by
  by_cases h : 512 ≤ y.val
  · refine (tab_in inb A _ y d ⟨y.val - 512, by omega⟩ (by show y.val = 512 + (y.val - 512); omega)).trans ?_
    rw [hx]
    unfold padded
    rw [dif_pos ⟨h, y.isLt⟩]
  · refine (tab_out inb A _ y d (Or.inl (by omega))).trans ?_
    refine (tab_in inb' Z _ y d ⟨y.val, by omega⟩ (Nat.zero_add _).symm).trans ?_
    rw [hZ]
    unfold padded
    rw [dif_neg fun a => h a.1]

/-- One chunk's addition to the table. -/
theorem rmw_at (n : Fin 32) {o : ℕ} (ho : o = 64 * n.val) {off : Fin 2 → ℕ} (hoff : off = ![o, 0]) (v : View sig .tc .vmem S2560x128 .f32) (L : Pieces)
    (inb : ∀ a, ![o, 0] a + S576x128.size a ≤ S2560x128.size a) (inb' : ∀ a, off a + S576x128.size a ≤ S2560x128.size a)
    (W P : FVec Ideal S576x128 .f32)
    (hP : P = shapeCast S576x128 (addf (v.readCov L (Rect.unit (s := S2560x128) off S576x128.size inb').toLoadRect : FVec Ideal S576x128 .f32) W) shapeCasts_S576x128_S576x128)
    (f : Fin 576 → Fin 128 → EReal) (hW : ∀ k d, W (ix2 k d) = f k d) (y : Fin 2560) (d : Fin 128) :
    tab (⟨Rect.unit (s := S2560x128) ![o, 0] S576x128.size inb, P⟩ :: L) y d = tab L y d + Head.at_ f n y.val d := by
  subst ho
  by_cases h : 64 * n.val ≤ y.val ∧ y.val < 64 * n.val + 576
  · refine (tab_in inb P _ y d ⟨y.val - 64 * n.val, by omega⟩ (by show y.val = 64 * n.val + (y.val - 64 * n.val); omega)).trans ?_
    have e : P (ix2 (⟨y.val - 64 * n.val, by omega⟩ : Fin 576) d) = tab L y d + W (ix2 (⟨y.val - 64 * n.val, by omega⟩ : Fin 576) d) := by
      rw [hP, shapeCast_self]
      refine congrArg (· + W _) (band_at hoff v L inb' _ d y ?_)
      show y.val = 64 * n.val + (y.val - 64 * n.val)
      omega
    rw [e, hW]
    unfold Head.at_
    rw [dif_pos h]
  · refine (tab_out inb P _ y d (by omega)).trans ?_
    unfold Head.at_
    rw [dif_neg h, add_zero]

/-- A sum of thirty-two terms, first to last from zero. -/
theorem sum_up (f : Fin 32 → EReal) : 0 + f 0 + f 1 + f 2 + f 3 + f 4 + f 5 + f 6 + f 7 + f 8 + f 9 + f 10 + f 11 + f 12 + f 13 + f 14 + f 15 + f 16 + f 17 + f 18
    + f 19 + f 20 + f 21 + f 22 + f 23 + f 24 + f 25 + f 26 + f 27 + f 28 + f 29 + f 30 + f 31 = ∑ n, f n := by
  simp only [Fin.sum_univ_castSucc, Finset.univ_eq_empty, Finset.sum_empty]
  rfl

/-- The same, last to first. -/
theorem sum_down (f : Fin 32 → EReal) : f 31 + f 30 + f 29 + f 28 + f 27 + f 26 + f 25 + f 24 + f 23 + f 22 + f 21 + f 20 + f 19 + f 18 + f 17 + f 16 + f 15 + f 14 + f 13
    + f 12 + f 11 + f 10 + f 9 + f 8 + f 7 + f 6 + f 5 + f 4 + f 3 + f 2 + f 1 + f 0 = ∑ n, f n := by
  rw [← sum_up]
  rw [zero_add]
  abel

end Cert.Ker
-- ==== Proof.KBody.lean ====
/-
  What the kernel's body computes of all rows at once: the normalised keys and the gradients that come back through them.
-/
module

public import proofs.«01_k».proof.Proof.Gen.KernelIdeal.Skeleton
public import proofs.«01_k».proof.Proof.KTable

@[expose] public section

set_option maxRecDepth 16384

noncomputable section

namespace Cert.Ker

open Cert.KernelIdeal Cert.KernelIdeal.Gen Idealize.ShloMosaic Cert.Spec

variable (K X : FVec Ideal S2048x128 .f32) (G : FVec Ideal S1x128 .f32) (t : Fin 2048) (d : Fin 128)

theorem keys_at : k0_pay5 (F := Ideal) K G (ix2 t d) = xh (fun d => G (ix2 0 d)) (fun d => K (ix2 t d)) d := by
  unfold k0_pay5
  pointwise
  rfl
theorem ms_at : k0_pay8 (F := Ideal) K (ix2 t 0) = ms fun d => K (ix2 t d) := by
  unfold k0_pay8
  pointwise
  rfl
theorem rs_at : k0_pay9 (F := Ideal) K (ix2 t 0) = rs fun d => K (ix2 t d) := by
  unfold k0_pay9
  pointwise
  rw [ms_at]
  rfl
theorem dk_at : k0_pay11 (F := Ideal) K G X (ix2 t d) = nb (fun d => G (ix2 0 d)) (fun d => K (ix2 t d)) (fun d => X (ix2 t d)) d := by
  unfold k0_pay11
  pointwise
  simp only [Fin.sum_univ_one, rs_at, ms_at]
  rfl
theorem dkg_at : k0_pay10 (F := Ideal) K X (ix2 0 d) = ∑ t, xn (fun d => K (ix2 t d)) d * X (ix2 t d) := by
  unfold k0_pay10
  pointwise
  simp only [rs_at]
  rfl
theorem zeros_at (i : Fin 512) (d : Fin 128) : k0_pay3 (F := Ideal) (ix2 i d) = 0 := by
  unfold k0_pay3
  pointwise
theorem zeros4_at (i : Fin 512) (d : Fin 128) : k0_pay4 (F := Ideal) (ix2 i d) = 0 := by
  unfold k0_pay4
  pointwise
theorem zeros7_at (i : Fin 2560) (d : Fin 128) : k0_pay7 (F := Ideal) (ix2 i d) = 0 := by
  unfold k0_pay7
  pointwise
theorem zeros13_at (i : Fin 2560) (d : Fin 128) : k0_pay13 (F := Ideal) (ix2 i d) = 0 := by
  unfold k0_pay13
  pointwise
theorem zeros14_at (r : Fin 64) (k : Fin 576) : k0_pay14 (F := Ideal) (ix3 0 r k) = 0 := by
  unfold k0_pay14
  pointwise

/-- Rows by chunks. -/
theorem sum_rows (f : Fin 2048 → EReal) : ∑ t, f t = ∑ n : Fin 32, ∑ r : Fin 64, f (Head.row n r) := by
  rw [← Fintype.sum_prod_type' (fun (n : Fin 32) (r : Fin 64) => f (Head.row n r))]
  refine (Fintype.sum_equiv (finProdFinEquiv (m := 32) (n := 64)) (fun p => f (Head.row p.1 p.2)) f fun p => ?_).symm
  refine congrArg f (Fin.ext ?_)
  show 64 * p.1.val + p.2.val = p.2.val + 64 * p.1.val
  omega

end Cert.Ker
-- ==== Proof.KIn.lean ====
/-
  What a grid point's windows hold, and that each chunk of the body then reads what the specification's chunk does.
-/
module

public import proofs.«01_k».proof.Proof.KBody

@[expose] public section

set_option maxRecDepth 16384

noncomputable section

namespace Cert.Ker

open Cert.KernelIdeal Cert.KernelIdeal.Gen Idealize.ShloMosaic Cert.Spec

/-- The windows hold a head's arrays, of which the values and the incoming gradient are real. -/
structure Inputs (H : Head) (x0 x1 x2 : Vec Ideal S2048x128 .f32) (x3 x4 : Vec Ideal S1x128 .f32) (x5 : Vec Ideal S1x64x576 .f32)
    (x6 : Vec Ideal S2048x128 .f32) : Prop where
  q : ∀ t d, x0 (ix2 t d) = H.q t d
  k : ∀ t d, x1 (ix2 t d) = H.k t d
  v : ∀ t d, x2 (ix2 t d) = H.v t d
  qg : ∀ d, x3 (ix2 0 d) = H.qg d
  kg : ∀ d, x4 (ix2 0 d) = H.kg d
  b : ∀ r k, x5 (ix3 0 r k) = H.b r k
  dy : ∀ t d, x6 (ix2 t d) = H.dy t d
  realv : ∀ t d, ∃ x : ℝ, H.v t d = (x : EReal)
  realdy : ∀ t d, ∃ x : ℝ, H.dy t d = (x : EReal)

theorem real_sum {ι : Type} (s : Finset ι) (f : ι → EReal) (h : ∀ i, ∃ x : ℝ, f i = (x : EReal)) : ∃ x : ℝ, ∑ i ∈ s, f i = (x : EReal) := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

theorem real_padded (x : Fin 2048 → Fin 128 → EReal) (h : ∀ t d, ∃ a : ℝ, x t d = (a : EReal)) (i : ℕ) (d : Fin 128) : ∃ a : ℝ, padded x i d = (a : EReal) := by
  unfold padded
  split
  · exact h _ _
  · exact ⟨0, by simp⟩

theorem real_dp (H : Head) (hv : ∀ t d, ∃ x : ℝ, H.v t d = (x : EReal)) (hdy : ∀ t d, ∃ x : ℝ, H.dy t d = (x : EReal)) (n : Fin 32) (r : Fin 64) (k : Fin 576) :
    ∃ x : ℝ, (H.chunk n).dp r k = (x : EReal) := by
  refine real_sum _ _ fun d => ?_
  obtain ⟨a, ha⟩ := hdy (Head.row n r) d
  obtain ⟨b, hb⟩ := real_padded H.v hv (64 * n.val + k.val) d
  refine ⟨a * b, ?_⟩
  show H.dy (Head.row n r) d * padded H.v (64 * n.val + k.val) d = _
  rw [ha, hb, EReal.coe_mul]

variable {H : Head} {i : grid0.Coords}
  {a2 : Memref sig .tc .vmem S2048x128 .f32} {h2 : a2.IsWhole}
  {a5 : Memref sig .tc .vmem S1x128 .f32} {h5 : a5.IsWhole}
  {a7 : Memref sig .tc .vmem S1x64x576 .f32} {h7 : a7.IsWhole}
  {a8 : Memref sig .tc .vmem S2048x128 .f32} {h8 : a8.IsWhole}
  {x0 x1 x2 : Vec Ideal S2048x128 .f32} {x3 x4 : Vec Ideal S1x128 .f32} {x5 : Vec Ideal S1x64x576 .f32} {x6 : Vec Ideal S2048x128 .f32}

/-- A chunk reads what the specification's does, if its bands do. -/
theorem reads_of (hin : Inputs H x0 x1 x2 x3 x4 x5 x6) (n : Fin 32) (KB VB : FVec Ideal S576x128 .f32)
    (hk : ∀ k d, KB (ix2 k d) = padded H.kh (64 * n.val + k.val) d) (hv : ∀ k d, VB (ix2 k d) = padded H.v (64 * n.val + k.val) d) :
    Reads (H.chunk n) (start i (BitVec.ofNat 32 n.val)) (rows a2 h2 x0 n) (rows a8 h8 x6 n) (gain a5 h5 x3) KB VB (biases a7 h7 x5) where
  q r d := (rows_at _ _ _ _ _ _).trans (hin.q _ _)
  dy r d := (rows_at _ _ _ _ _ _).trans (hin.dy _ _)
  g d := (gain_at _ _ _ _).trans (hin.qg _)
  kb := hk
  vb := hv
  b r k := (biases_at _ _ _ _ _).trans (hin.b _ _)
  ok r k := vok_at i n r k
  real := real_dp H hin.realv hin.realdy n

/-- A band of a table of padded rows. -/
theorem band_of (n : Fin 32) {off : Fin 2 → ℕ} (ho : off = ![64 * n.val, 0]) (v : View sig .tc .vmem S2560x128 .f32) (L : Pieces)
    (inb : ∀ a, off a + S576x128.size a ≤ S2560x128.size a) (x : Fin 2048 → Fin 128 → EReal) (hL : ∀ y d, tab L y d = padded x y.val d)
    (k : Fin 576) (d : Fin 128) :
    v.readCov L (Rect.unit (s := S2560x128) off S576x128.size inb).toLoadRect (ix2 k d) = padded x (64 * n.val + k.val) d :=
  (band_at ho v L inb k d ⟨64 * n.val + k.val, by omega⟩ rfl).trans (hL _ _)

/-- The whole of a window read. -/
theorem whole_at (a : Memref sig .tc .vmem S2048x128 .f32) (ha : a.IsWhole) (x : Vec Ideal S2048x128 .f32)
    (inb : ∀ b, ![0, 0] b + S2048x128.size b ≤ S2048x128.size b) (t : Fin 2048) (d : Fin 128) :
    View.readAt (Elt Ideal) a.view (Rect.unit (s := S2048x128) ![0, 0] S2048x128.size inb).toLoadRect (ha.unread x) (ix2 t d) = x (ix2 t d) := by
  rw [View.readAt_eq_ld, Memref.IsWhole.read_unread]
  pointwise
/-- The same of one row. -/
theorem row_at (a : Memref sig .tc .vmem S1x128 .f32) (ha : a.IsWhole) (x : Vec Ideal S1x128 .f32)
    (inb : ∀ b, ![0, 0] b + S1x128.size b ≤ S1x128.size b) (d : Fin 128) :
    View.readAt (Elt Ideal) a.view (Rect.unit (s := S1x128) ![0, 0] S1x128.size inb).toLoadRect (ha.unread x) (ix2 0 d) = x (ix2 0 d) := by
  rw [View.readAt_eq_ld, Memref.IsWhole.read_unread]
  pointwise

/-- A row of the table of keys. -/
theorem keyrow_at (a : Memref sig .tc .vmem S2048x128 .f32) (ha : a.IsWhole) (x : Vec Ideal S2048x128 .f32)
    (inb : ∀ b, ![0, 0] b + S2048x128.size b ≤ S2048x128.size b) (a' : Memref sig .tc .vmem S1x128 .f32) (ha' : a'.IsWhole) (x' : Vec Ideal S1x128 .f32)
    (inb' : ∀ b, ![0, 0] b + S1x128.size b ≤ S1x128.size b) (t : Fin 2048) (d : Fin 128) :
    k0_pay5 (F := Ideal) (View.readAt (Elt Ideal) a.view (Rect.unit (s := S2048x128) ![0, 0] S2048x128.size inb).toLoadRect (ha.unread x))
      (View.readAt (Elt Ideal) a'.view (Rect.unit (s := S1x128) ![0, 0] S1x128.size inb').toLoadRect (ha'.unread x')) (ix2 t d)
      = xh (fun d => x' (ix2 0 d)) (fun d => x (ix2 t d)) d :=
  (keys_at _ _ t d).trans (congrArg₂ (fun g x => xh g x d) (funext fun d => row_at a' ha' x' inb' d) (funext fun d => whole_at a ha x inb t d))

/-- A row of the keys' gradient. -/
theorem dkrow_at (a : Memref sig .tc .vmem S2048x128 .f32) (ha : a.IsWhole) (x : Vec Ideal S2048x128 .f32)
    (inb : ∀ b, ![0, 0] b + S2048x128.size b ≤ S2048x128.size b) (a' : Memref sig .tc .vmem S1x128 .f32) (ha' : a'.IsWhole) (x' : Vec Ideal S1x128 .f32)
    (inb' : ∀ b, ![0, 0] b + S1x128.size b ≤ S1x128.size b) (X : FVec Ideal S2048x128 .f32) (t : Fin 2048) (d : Fin 128) :
    k0_pay11 (F := Ideal) (View.readAt (Elt Ideal) a.view (Rect.unit (s := S2048x128) ![0, 0] S2048x128.size inb).toLoadRect (ha.unread x))
      (View.readAt (Elt Ideal) a'.view (Rect.unit (s := S1x128) ![0, 0] S1x128.size inb').toLoadRect (ha'.unread x')) X (ix2 t d)
      = nb (fun d => x' (ix2 0 d)) (fun d => x (ix2 t d)) (fun d => X (ix2 t d)) d :=
  (dk_at _ X _ t d).trans (congrArg₂ (fun g x => nb g x (fun d => X (ix2 t d)) d) (funext fun d => row_at a' ha' x' inb' d) (funext fun d => whole_at a ha x inb t d))
/-- The keys' gain's gradient. -/
theorem dkgrow_at (a : Memref sig .tc .vmem S2048x128 .f32) (ha : a.IsWhole) (x : Vec Ideal S2048x128 .f32)
    (inb : ∀ b, ![0, 0] b + S2048x128.size b ≤ S2048x128.size b) (X : FVec Ideal S2048x128 .f32) (d : Fin 128) :
    k0_pay10 (F := Ideal) (View.readAt (Elt Ideal) a.view (Rect.unit (s := S2048x128) ![0, 0] S2048x128.size inb).toLoadRect (ha.unread x)) X (ix2 0 d)
      = ∑ t, xn (fun d => x (ix2 t d)) d * X (ix2 t d) :=
  (dkg_at _ X d).trans (Finset.sum_congr rfl fun t _ => congrArg (fun x => xn x d * X (ix2 t d)) (funext fun d => whole_at a ha x inb t d))
/-- What the last steps of a point add up. -/
theorem bias_at (Z : FVec Ideal S1x64x576 .f32) (X : FVec Ideal S64x576 .f32) (r : Fin 64) (k : Fin 576) :
    shapeCast S1x64x576 (addf (shapeCast S64x576 Z shapeCasts_S1x64x576_S64x576) X) shapeCasts_S64x576_S1x64x576 (ix3 0 r k) = Z (ix3 0 r k) + X (ix2 r k) := by
  pointwise
theorem gainrow_at (Z X : FVec Ideal S1x128 .f32) (d : Fin 128) :
    addf (shapeCast S1x128 Z shapeCasts_S1x128_S1x128) X (ix2 0 d) = Z (ix2 0 d) + X (ix2 0 d) := by
  rw [shapeCast_self]
  rfl
theorem pay2_at (X Z : FVec Ideal S1x128 .f32) (d : Fin 128) : k0_pay2 (F := Ideal) X Z (ix2 0 d) = Z (ix2 0 d) + X (ix2 0 d) := by
  unfold k0_pay2
  pointwise
theorem pay12_at (X : FVec Ideal S2048x128 .f32) (t : Fin 2048) (d : Fin 128) : k0_pay12 (F := Ideal) X (ix2 t d) = X (ix2 t d) := by
  unfold k0_pay12
  pointwise
theorem zerorow_at (v : View sig .tc .vmem S1x128 .f32) (inb inb' : ∀ b, ![0, 0] b + S1x128.size b ≤ S1x128.size b) (d : Fin 128) :
    v.readCov [(⟨Rect.unit (s := S1x128) ![0, 0] S1x128.size inb, broadcast S1x128 (Scalar.ofBits (F := Ideal) .f32 0x00000000#32)⟩ : View.Piece (Elt Ideal) S1x128 .f32)]
      (Rect.unit (s := S1x128) ![0, 0] S1x128.size inb').toLoadRect (ix2 0 d) = 0 :=
  (congrFun (View.readCov_unit_lit v inb _ (by decide)) _).trans zero_bits
theorem zerobias_at (v : View sig .tc .vmem S1x64x576 .f32) (inb inb' : ∀ b, ![0, 0, 0] b + S1x64x576.size b ≤ S1x64x576.size b) (r : Fin 64) (k : Fin 576) :
    v.readCov [(⟨Rect.unit (s := S1x64x576) ![0, 0, 0] S1x64x576.size inb, k0_pay14 (F := Ideal)⟩ : View.Piece (Elt Ideal) S1x64x576 .f32)]
      (Rect.unit (s := S1x64x576) ![0, 0, 0] S1x64x576.size inb').toLoadRect (ix3 0 r k) = 0 :=
  (congrFun (View.readCov_unit_lit v inb _ (by decide)) _).trans (zeros14_at r k)
theorem zerotab_at (inb : ∀ a, ![0, 0] a + S2560x128.size a ≤ S2560x128.size a) (y : Fin 2560) (d : Fin 128) :
    tab [⟨Rect.unit (s := S2560x128) ![0, 0] S2560x128.size inb, k0_pay7 (F := Ideal)⟩] y d = 0 :=
  (congrFun (View.canon_cons_unit_lit inb _ _ (by decide)) _).trans (zeros7_at y d)

/-- The rows of the queries' gradients written so far. -/
theorem cover_step (n : Fin 32) {o : ℕ} (ho : o = 64 * n.val) (inb : ∀ a, ![o, 0] a + S64x128.size a ≤ S2048x128.size a) (W : Vec Ideal S64x128 .bf16)
    (F : Fin 2048 → Fin 128 → EReal) (hW : ∀ r d, W (ix2 r d) = F (Head.row n r) d) (L : List (View.Piece (Elt Ideal) S2048x128 .bf16))
    (hL : ∀ t : Fin 2048, t.val < 64 * n.val → ∀ d, View.canon L (ix2 t d) = F t d) (t : Fin 2048) (ht : t.val < 64 * (n.val + 1)) (d : Fin 128) :
    View.canon ((⟨Rect.unit (s := S2048x128) ![o, 0] S64x128.size inb, W⟩ : View.Piece (Elt Ideal) S2048x128 .bf16) :: L) (ix2 t d) = F t d := by
  subst ho
  by_cases h : 64 * n.val ≤ t.val
  · have e : (ix2 t d : S2048x128.Idx) = (Rect.unit (s := S2048x128) ![64 * n.val, 0] S64x128.size inb).emb (ix2 (⟨t.val - 64 * n.val, by omega⟩ : Fin 64) d) := by
      refine idx_eq ?_ ?_
      · rw [ValueKit.rect_emb_unit_val]
        show t.val = 64 * n.val + (t.val - 64 * n.val)
        omega
      · rw [ValueKit.rect_emb_unit_val]
        exact (Nat.zero_add _).symm
    rw [e]
    refine (View.canon_cons_emb _ _ _ _).trans ?_
    rw [hW]
    refine congrArg (F · d) (Fin.ext ?_)
    show 64 * n.val + (t.val - 64 * n.val) = t.val
    omega
  · refine (View.canon_cons_of_not_mem _ _ fun m => ?_).trans (hL t (by omega) d)
    have m' := (Rect.mem_set_unit (s := S2048x128) (off := ![64 * n.val, 0]) (size := S64x128.size) (inb := inb)).mp m (0 : Fin 2)
    have h1 : 64 * n.val ≤ t.val := m'.1
    omega

theorem dq_row (H : Head) (n : Fin 32) (r : Fin 64) (d : Fin 128) : (H.chunk n).dq r d = H.dq (Head.row n r) d := by
  unfold Head.dq
  have h1 : (⟨(Head.row n r).val / 64, by have := (Head.row n r).isLt; omega⟩ : Fin 32) = n := Fin.ext (by show (64 * n.val + r.val) / 64 = n.val; omega)
  have h2 : (⟨(Head.row n r).val % 64, by omega⟩ : Fin 64) = r := Fin.ext (by show (64 * n.val + r.val) % 64 = r.val; omega)
  rw [h1, h2]

end Cert.Ker
-- ==== Proof.KA.lean ====
/-
  The chunks of the body at a grid's first point.
-/
module

public import proofs.«01_k».proof.Proof.Gen.KernelIdeal.Frame.RunA
public import proofs.«01_k».proof.Proof.KIn

@[expose] public section

set_option maxRecDepth 16384

noncomputable section

namespace Cert.Ker.A

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a15 a16 a17 a18 : Memref sig .tc .vmem S2560x128 .f32}
  {x0 x1 x2 : Vec Ideal S2048x128 .f32} {x3 x4 : Vec Ideal S1x128 .f32} {x5 : Vec Ideal S1x64x576 .f32} {x6 : Vec Ideal S2048x128 .f32}
  (hin : Inputs H x0 x1 x2 x3 x4 x5 x6)
include hin

/-- The table of keys. -/
theorem keys (y : Fin 2560) (d : Fin 128) : tab (kernelRun0_A.sl.HS0_2 (F := Ideal) c a3 h3 a6 h6 x1 x4) y d = padded H.kh y.val d := by
  refine pad_at _ _ _ _ zeros_at H.kh (fun t d => ?_) y d
  refine (show (kernelRun0_A.sl.v4431 (F := Ideal) c a3 h3 a6 h6 x1 x4) (ix2 t d) = k0_pay5 (F := Ideal) (View.readAt (Elt Ideal) a3.view (Rect.unit (s := S2048x128) ![0, 0] S2048x128.size inb_S2048x128_S2048x128_0_0).toLoadRect (h3.unread x1)) (View.readAt (Elt Ideal) a6.view (Rect.unit (s := S1x128) ![0, 0] S1x128.size inb_S1x128_S1x128_0_0).toLoadRect (h6.unread x4)) (ix2 t d) from rfl).trans ?_
  exact (keyrow_at _ _ _ _ _ _ _ _ t d).trans (congrArg₂ (fun g x => xh g x d) (funext hin.kg) (funext (hin.k t)))
/-- The table of values. -/
theorem vals (y : Fin 2560) (d : Fin 128) : tab (kernelRun0_A.sl.HS1_2 (F := Ideal) c a4 h4 x2) y d = padded H.v y.val d := by
  refine pad_at _ _ _ _ zeros_at H.v (fun t d => ?_) y d
  refine (show (kernelRun0_A.sl.v4435 (F := Ideal) c a4 h4 x2) (ix2 t d) = shapeCast S2048x128 (View.readAt (Elt Ideal) a4.view (Rect.unit (s := S2048x128) ![0, 0] S2048x128.size inb_S2048x128_S2048x128_0_0).toLoadRect (h4.unread x2)) shapeCasts_S2048x128_S2048x128 (ix2 t d) from rfl).trans ?_
  exact (congrFun (shapeCast_self _ _) _).trans ((whole_at _ _ _ _ t d).trans (hin.v t d))

theorem reads0 : Reads (H.chunk 0) (start i 0#32) (rows a2 h2 x0 0) (rows a8 h8 x6 0) (gain a5 h5 x3)
    (kernelRun0_A.sl.v169 (F := Ideal) c i a3 h3 a6 h6 a15 x1 x4) (kernelRun0_A.sl.v233 (F := Ideal) c i a4 h4 a16 x2) (biases a7 h7 x5) :=
  reads_of hin 0 _ _ (band_of 0 (placed_k0_off1_0 i) _ _ _ _ (keys hin)) (band_of 0 (placed_k0_off1_0 i) _ _ _ _ (vals hin))
theorem ds0 (r : Fin 64) (k : Fin 576) : (kernelRun0_A.sl.v2923 (F := Ideal) c i a2 h2 a3 h3 a4 h4 a5 h5 a6 h6 a7 h7 a8 h8 a15 a16 x0 x1 x2 x3 x4 x5 x6) (ix2 r k) = (H.chunk 0).ds r k :=
  ((reads0 (c := c) (i := i) (h2 := h2) (h3 := h3) (h4 := h4) (h5 := h5) (h6 := h6) (h7 := h7) (h8 := h8) (a15 := a15) (a16 := a16) hin).ds_at r k)
theorem dkb0 (k : Fin 576) (d : Fin 128) : (kernelRun0_A.sl.v3210 (F := Ideal) c i a2 h2 a3 h3 a4 h4 a5 h5 a6 h6 a7 h7 a8 h8 a15 a16 x0 x1 x2 x3 x4 x5 x6) (ix2 k d) = (H.chunk 0).dkb k d :=
  ((reads0 (c := c) (i := i) (h2 := h2) (h3 := h3) (h4 := h4) (h5 := h5) (h6 := h6) (h7 := h7) (h8 := h8) (a15 := a15) (a16 := a16) hin).dkb_at (ds0 hin) k d)
theorem dvb0 (k : Fin 576) (d : Fin 128) : (kernelRun0_A.sl.v2091 (F := Ideal) c i a2 h2 a3 h3 a5 h5 a6 h6 a7 h7 a8 h8 a15 x0 x1 x3 x4 x5 x6) (ix2 k d) = (H.chunk 0).dvb k d :=
  ((reads0 (c := c) (i := i) (h2 := h2) (h3 := h3) (h4 := h3) (h5 := h5) (h6 := h6) (h7 := h7) (h8 := h8) (a15 := a15) (a16 := a15) hin).dvb_at k d)
theorem dq0 (r : Fin 64) (d : Fin 128) : (kernelRun0_A.sl.v3892 (F := Ideal) c i a2 h2 a3 h3 a4 h4 a5 h5 a6 h6 a7 h7 a8 h8 a15 a16 x0 x1 x2 x3 x4 x5 x6) (ix2 r d) = H.dq (Head.row 0 r) d :=
  (((reads0 (c := c) (i := i) (h2 := h2) (h3 := h3) (h4 := h4) (h5 := h5) (h6 := h6) (h7 := h7) (h8 := h8) (a15 := a15) (a16 := a16) hin).dq_at (ds0 hin) r d).trans (dq_row H 0 r d))
theorem dqg0 (d : Fin 128) : (kernelRun0_A.sl.v3863 (F := Ideal) c i a2 h2 a3 h3 a4 h4 a5 h5 a6 h6 a7 h7 a8 h8 a15 a16 x0 x1 x2 x3 x4 x5 x6) (ix2 0 d) = ∑ r, xn (H.q (Head.row 0 r)) d * (H.chunk 0).dqh r d :=
  ((reads0 (c := c) (i := i) (h2 := h2) (h3 := h3) (h4 := h4) (h5 := h5) (h6 := h6) (h7 := h7) (h8 := h8) (a15 := a15) (a16 := a16) hin).dqg_at (ds0 hin) d)
theorem reads1 : Reads (H.chunk 1) (start i 1#32) (rows a2 h2 x0 1) (rows a8 h8 x6 1) (gain a5 h5 x3)
    (kernelRun0_A.sl.v171 (F := Ideal) c i a3 h3 a6 h6 a15 x1 x4) (kernelRun0_A.sl.v235 (F := Ideal) c i a4 h4 a16 x2) (biases a7 h7 x5) :=
  reads_of hin 1 _ _ (band_of 1 (placed_k0_off1_1 i) _ _ _ _ (keys hin)) (band_of 1 (placed_k0_off1_1 i) _ _ _ _ (vals hin))
theorem ds1 (r : Fin 64) (k : Fin 576) : (kernelRun0_A.sl.v2921 (F := Ideal) c i a2 h2 a3 h3 a4 h4 a5 h5 a6 h6 a7 h7 a8 h8 a15 a16 x0 x1 x2 x3 x4 x5 x6) (ix2 r k) = (H.chunk 1).ds r k :=
  ((reads1 (c := c) (i := i) (h2 := h2) (h3 := h3) (h4 := h4) (h5 := h5) (h6 := h6) (h7 := h7) (h8 := h8) (a15 := a15) (a16 := a16) hin).ds_at r k)
theorem dkb1 (k : Fin 576) (d : Fin 128) : (kernelRun0_A.sl.v3201 (F := Ideal) c i a2 h2 a3 h3 a4 h4 a5 h5 a6 h6 a7 h7 a8 h8 a15 a16 x0 x1 x2 x3 x4 x5 x6) (ix2 k d) = (H.chunk 1).dkb k d :=
  ((reads1 (c := c) (i := i) (h2 := h2) (h3 := h3) (h4 := h4) (h5 := h5) (h6 := h6) (h7 := h7) (h8 := h8) (a15 := a15) (a16 := a16) hin).dkb_at (ds1 hin) k d)
theorem dvb1 (k : Fin 576) (d : Fin 128) : (kernelRun0_A.sl.v2085 (F := Ideal) c i a2 h2 a3 h3 a5 h5 a6 h6 a7 h7 a8 h8 a15 x0 x1 x3 x4 x5 x6) (ix2 k d) = (H.chunk 1).dvb k d :=
  ((reads1 (c := c) (i := i) (h2 := h2) (h3 := h3) (h4 := h3) (h5 := h5) (h6 := h6) (h7 := h7) (h8 := h8) (a15 := a15) (a16 := a15) hin).dvb_at k d)
theorem dq1 (r : Fin 64) (d : Fin 128) : (kernelRun0_A.sl.v3908 (F := Ideal) c i a2 h2 a3 h3 a4 h4 a5 h5 a6 h6 a7 h7 a8 h8 a15 a16 x0 x1 x2 x3 x4 x5 x6) (ix2 r d) = H.dq (Head.row 1 r) d :=
  (((reads1 (c := c) (i := i) (h2 := h2) (h3 := h3) (h4 := h4) (h5 := h5) (h6 := h6) (h7 := h7) (h8 := h8) (a15 := a15) (a16 := a16) hin).dq_at (ds1 hin) r d).trans (dq_row H 1 r d))
theorem dqg1 (d : Fin 128) : (kernelRun0_A.sl.v3842 (F := Ideal) c i a2 h2 a3 h3 a4 h4 a5 h5 a6 h6 a7 h7 a8 h8 a15 a16 x0 x1 x2 x3 x4 x5 x6) (ix2 0 d) = ∑ r, xn (H.q (Head.row 1 r)) d * (H.chunk 1).dqh r d :=
  ((reads1 (c := c) (i := i) (h2 := h2) (h3 := h3) (h4 := h4) (h5 := h5) (h6 := h6) (h7 := h7) (h8 := h8) (a15 := a15) (a16 := a16) hin).dqg_at (ds1 hin) d)
theorem reads2 : Reads (H.chunk 2) (start i 2#32) (rows a2 h2 x0 2) (rows a8 h8 x6 2) (gain a5 h5 x3)
    (kernelRun0_A.sl.v173 (F := Ideal) c i a3 h3 a6 h6 a15 x1 x4) (kernelRun0_A.sl.v237 (F := Ideal) c i a4 h4 a16 x2) (biases a7 h7 x5) :=
  reads_of hin 2 _ _ (band_of 2 (placed_k0_off1_2 i) _ _ _ _ (keys hin)) (band_of 2 (placed_k0_off1_2 i) _ _ _ _ (vals hin))
theorem ds2 (r : Fin 64) (k : Fin 576) : (kernelRun0_A.sl.v2919 (F := Ideal) c i a2 h2 a3 h3 a4 h4 a5 h5 a6 h6 a7 h7 a8 h8 a15 a16 x0 x1 x2 x3 x4 x5 x6) (ix2 r k) = (H.chunk 2).ds r k :=
  ((reads2 (c := c) (i := i) (h2 := h2) (h3 := h3) (h4 := h4) (h5 := h5) (h6 := h6) (h7 := h7) (h8 := h8) (a15 := a15) (a16 := a16) hin).ds_at r k)
theorem dkb2 (k : Fin 576) (d : Fin 128) : (kernelRun0_A.sl.v3192 (F := Ideal) c i a2 h2 a3 h3 a4 h4 a5 h5 a6 h6 a7 h7 a8 h8 a15 a16 x0 x1 x2 x3 x4 x5 x6) (ix2 k d) = (H.chunk 2).dkb k d :=
  ((reads2 (c := c) (i := i) (h2 := h2) (h3 := h3) (h4 := h4) (h5 := h5) (h6 := h6) (h7 := h7) (h8 := h8) (a15 := a15) (a16 := a16) hin).dkb_at (ds2 hin) k d)
theorem dvb2 (k : Fin 576) (d : Fin 128) : (kernelRun0_A.sl.v2079 (F := Ideal) c i a2 h2 a3 h3 a5 h5 a6 h6 a7 h7 a8 h8 a15 x0 x1 x3 x4 x5 x6) (ix2 k d) = (H.chunk 2).dvb k d :=
  ((reads2 (c := c) (i := i) (h2 := h2) (h3 := h3) (h4 := h3) (h5 := h5) (h6 := h6) (h7 := h7) (h8 := h8) (a15 := a15) (a16 := a15) hin).dvb_at k d)
theorem dq2 (r : Fin 64) (d : Fin 128) : (kernelRun0_A.sl.v3924 (F := Ideal) c i a2 h2 a3 h3 a4 h4 a5 h5 a6 h6 a7 h7 a8 h8 a15 a16 x0 x1 x2 x3 x4 x5 x6) (ix2 r d) = H.dq (Head.row 2 r) d :=
  (((reads2 (c := c) (i := i) (h2 := h2) (h3 := h3) (h4 := h4) (h5 := h5) (h6 := h6) (h7 := h7) (h8 := h8) (a15 := a15) (a16 := a16) hin).dq_at (ds2 hin) r d).trans (dq_row H 2 r d))
theorem dqg2 (d : Fin 128) : (kernelRun0_A.sl.v3821 (F := Ideal) c i a2 h2 a3 h3 a4 h4 a5 h5 a6 h6 a7 h7 a8 h8 a15 a16 x0 x1 x2 x3 x4 x5 x6) (ix2 0 d) = ∑ r, xn (H.q (Head.row 2 r)) d * (H.chunk 2).dqh r d :=
  ((reads2 (c := c) (i := i) (h2 := h2) (h3 := h3) (h4 := h4) (h5 := h5) (h6 := h6) (h7 := h7) (h8 := h8) (a15 := a15) (a16 := a16) hin).dqg_at (ds2 hin) d)
theorem reads3 : Reads (H.chunk 3) (start i 3#32) (rows a2 h2 x0 3) (rows a8 h8 x6 3) (gain a5 h5 x3)
    (kernelRun0_A.sl.v175 (F := Ideal) c i a3 h3 a6 h6 a15 x1 x4) (kernelRun0_A.sl.v239 (F := Ideal) c i a4 h4 a16 x2) (biases a7 h7 x5) :=
  reads_of hin 3 _ _ (band_of 3 (placed_k0_off1_3 i) _ _ _ _ (keys hin)) (band_of 3 (placed_k0_off1_3 i) _ _ _ _ (vals hin))
theorem ds3 (r : Fin 64) (k : Fin 576) : (kernelRun0_A.sl.v2917 (F := Ideal) c i a2 h2 a3 h3 a4 h4 a5 h5 a6 h6 a7 h7 a8 h8 a15 a16 x0 x1 x2 x3 x4 x5 x6) (ix2 r k) = (H.chunk 3).ds r k :=
  ((reads3 (c := c) (i := i) (h2 := h2) (h3 := h3) (h4 := h4) (h5 := h5) (h6 := h6) (h7 := h7) (h8 := h8) (a15 := a15) (a16 := a16) hin).ds_at r k)
theorem dkb3 (k : Fin 576) (d : Fin 128) : (kernelRun0_A.sl.v3183 (F := Ideal) c i a2 h2 a3 h3 a4 h4 a5 h5 a6 h6 a7 h7 a8 h8 a15 a16 x0 x1 x2 x3 x4 x5 x6) (ix2 k d) = (H.chunk 3).dkb k d :=
  ((reads3 (c := c) (i := i) (h2 := h2) (h3 := h3) (h4 := h4) (h5 := h5) (h6 := h6) (h7 := h7) (h8 := h8) (a15 := a15) (a16 := a16) hin).dkb_at (ds3 hin) k d)
theorem dvb3 (k : Fin 576) (d : Fin 128) : (kernelRun0_A.sl.v2073 (F := Ideal) c i a2 h2 a3 h3 a5 h5 a6 h6 a7 h7 a8 h8 a15 x0 x1 x3 x4 x5 x6) (ix2 k d) = (H.chunk 3).dvb k d :=
  ((reads3 (c := c) (i := i) (h2 := h2) (h3 := h3) (h4 := h3) (h5 := h5) (h6 := h6) (h7 := h7) (h8 := h8) (a15 := a15) (a16 := a15) hin).dvb_at k d)
theorem dq3 (r : Fin 64) (d : Fin 128) : (kernelRun0_A.sl.v3940 (F := Ideal) c i a2 h2 a3 h3 a4 h4 a5 h5 a6 h6 a7 h7 a8 h8 a15 a16 x0 x1 x2 x3 x4 x5 x6) (ix2 r d) = H.dq (Head.row 3 r) d :=
  (((reads3 (c := c) (i := i) (h2 := h2) (h3 := h3) (h4 := h4) (h5 := h5) (h6 := h6) (h7 := h7) (h8 := h8) (a15 := a15) (a16 := a16) hin).dq_at (ds3 hin) r d).trans (dq_row H 3 r d))
theorem dqg3 (d : Fin 128) : (kernelRun0_A.sl.v3800 (F := Ideal) c i a2 h2 a3 h3 a4 h4 a5 h5 a6 h6 a7 h7 a8 h8 a15 a16 x0 x1 x2 x3 x4 x5 x6) (ix2 0 d) = ∑ r, xn (H.q (Head.row 3 r)) d * (H.chunk 3).dqh r d :=
  ((reads3 (c := c) (i := i) (h2 := h2) (h3 := h3) (h4 := h4) (h5 := h5) (h6 := h6) (h7 := h7) (h8 := h8) (a15 := a15) (a16 := a16) hin).dqg_at (ds3 hin) d)
theorem reads4 : Reads (H.chunk 4) (start i 4#32) (rows a2 h2 x0 4) (rows a8 h8 x6 4) (gain a5 h5 x3)
    (kernelRun0_A.sl.v177 (F := Ideal) c i a3 h3 a6 h6 a15 x1 x4) (kernelRun0_A.sl.v241 (F := Ideal) c i a4 h4 a16 x2) (biases a7 h7 x5) :=
  reads_of hin 4 _ _ (band_of 4 (placed_k0_off1_4 i) _ _ _ _ (keys hin)) (band_of 4 (placed_k0_off1_4 i) _ _ _ _ (vals hin))
theorem ds4 (r : Fin 64) (k : Fin 576) : (kernelRun0_A.sl.v2915 (F := Ideal) c i a2 h2 a3 h3 a4 h4 a5 h5 a6 h6 a7 h7 a8 h8 a15 a16 x0 x1 x2 x3 x4 x5 x6) (ix2 r k) = (H.chunk 4).ds r k :=
  ((reads4 (c := c) (i := i) (h2 := h2) (h3 := h3) (h4 := h4) (h5 := h5) (h6 := h6) (h7 := h7) (h8 := h8) (a15 := a15) (a16 := a16) hin).ds_at r k)
theorem dkb4 (k : Fin 576) (d : Fin 128) : (kernelRun0_A.sl.v3174 (F := Ideal) c i a2 h2 a3 h3 a4 h4 a5 h5 a6 h6 a7 h7 a8 h8 a15 a16 x0 x1 x2 x3 x4 x5 x6) (ix2 k d) = (H.chunk 4).dkb k d :=
  ((reads4 (c := c) (i := i) (h2 := h2) (h3 := h3) (h4 := h4) (h5 := h5) (h6 := h6) (h7 := h7) (h8 := h8) (a15 := a15) (a16 := a16) hin).dkb_at (ds4 hin) k d)
theorem dvb4 (k : Fin 576) (d : Fin 128) : (kernelRun0_A.sl.v2067 (F := Ideal) c i a2 h2 a3 h3 a5 h5 a6 h6 a7 h7 a8 h8 a15 x0 x1 x3 x4 x5 x6) (ix2 k d) = (H.chunk 4).dvb k d :=
  ((reads4 (c := c) (i := i) (h2 := h2) (h3 := h3) (h4 := h3) (h5 := h5) (h6 := h6) (h7 := h7) (h8 := h8) (a15 := a15) (a16 := a15) hin).dvb_at k d)
theorem dq4 (r : Fin 64) (d : Fin 128) : (kernelRun0_A.sl.v3956 (F := Ideal) c i a2 h2 a3 h3 a4 h4 a5 h5 a6 h6 a7 h7 a8 h8 a15 a16 x0 x1 x2 x3 x4 x5 x6) (ix2 r d) = H.dq (Head.row 4 r) d :=
  (((reads4 (c := c) (i := i) (h2 := h2) (h3 := h3) (h4 := h4) (h5 := h5) (h6 := h6) (h7 := h7) (h8 := h8) (a15 := a15) (a16 := a16) hin).dq_at (ds4 hin) r d).trans (dq_row H 4 r d))
theorem dqg4 (d : Fin 128) : (kernelRun0_A.sl.v3779 (F := Ideal) c i a2 h2 a3 h3 a4 h4 a5 h5 a6 h6 a7 h7 a8 h8 a15 a16 x0 x1 x2 x3 x4 x5 x6) (ix2 0 d) = ∑ r, xn (H.q (Head.row 4 r)) d * (H.chunk 4).dqh r d :=
  ((reads4 (c := c) (i := i) (h2 := h2) (h3 := h3) (h4 := h4) (h5 := h5) (h6 := h6) (h7 := h7) (h8 := h8) (a15 := a15) (a16 := a16) hin).dqg_at (ds4 hin) d)
theorem reads5 : Reads (H.chunk 5) (start i 5#32) (rows a2 h2 x0 5) (rows a8 h8 x6 5) (gain a5 h5 x3)
    (kernelRun0_A.sl.v179 (F := Ideal) c i a3 h3 a6 h6 a15 x1 x4) (kernelRun0_A.sl.v243 (F := Ideal) c i a4 h4 a16 x2) (biases a7 h7 x5) :=
  reads_of hin 5 _ _ (band_of 5 (placed_k0_off1_5 i) _ _ _ _ (keys hin)) (band_of 5 (placed_k0_off1_5 i) _ _ _ _ (vals hin))
theorem ds5 (r : Fin 64) (k : Fin 576) : (kernelRun0_A.sl.v2913 (F := Ideal) c i a2 h2 a3 h3 a4 h4 a5 h5 a6 h6 a7 h7 a8 h8 a15 a16 x0 x1 x2 x3 x4 x5 x6) (ix2 r k) = (H.chunk 5).ds r k :=
  ((reads5 (c := c) (i := i) (h2 := h2) (h3 := h3) (h4 := h4) (h5 := h5) (h6 := h6) (h7 := h7) (h8 := h8) (a15 := a15) (a16 := a16) hin).ds_at r k)
theorem dkb5 (k : Fin 576) (d : Fin 128) : (kernelRun0_A.sl.v3165 (F := Ideal) c i a2 h2 a3 h3 a4 h4 a5 h5 a6 h6 a7 h7 a8 h8 a15 a16 x0 x1 x2 x3 x4 x5 x6) (ix2 k d) = (H.chunk 5).dkb k d :=
  ((reads5 (c := c) (i := i) (h2 := h2) (h3 := h3) (h4 := h4) (h5 := h5) (h6 := h6) (h7 := h7) (h8 := h8) (a15 := a15) (a16 := a16) hin).dkb_at (ds5 hin) k d)
theorem dvb5 (k : Fin 576) (d : Fin 128) : (kernelRun0_A.sl.v2061 (F := Ideal) c i a2 h2 a3 h3 a5 h5 a6 h6 a7 h7 a8 h8 a15 x0 x1 x3 x4 x5 x6) (ix2 k d) = (H.chunk 5).dvb k d :=
  ((reads5 (c := c) (i := i) (h2 := h2) (h3 := h3) (h4 := h3) (h5 := h5) (h6 := h6) (h7 := h7) (h8 := h8) (a15 := a15) (a16 := a15) hin).dvb_at k d)
theorem dq5 (r : Fin 64) (d : Fin 128) : (kernelRun0_A.sl.v3972 (F := Ideal) c i a2 h2 a3 h3 a4 h4 a5 h5 a6 h6 a7 h7 a8 h8 a15 a16 x0 x1 x2 x3 x4 x5 x6) (ix2 r d) = H.dq (Head.row 5 r) d :=
  (((reads5 (c := c) (i := i) (h2 := h2) (h3 := h3) (h4 := h4) (h5 := h5) (h6 := h6) (h7 := h7) (h8 := h8) (a15 := a15) (a16 := a16) hin).dq_at (ds5 hin) r d).trans (dq_row H 5 r d))
theorem dqg5 (d : Fin 128) : (kernelRun0_A.sl.v3758 (F := Ideal) c i a2 h2 a3 h3 a4 h4 a5 h5 a6 h6 a7 h7 a8 h8 a15 a16 x0 x1 x2 x3 x4 x5 x6) (ix2 0 d) = ∑ r, xn (H.q (Head.row 5 r)) d * (H.chunk 5).dqh r d :=
  ((reads5 (c := c) (i := i) (h2 := h2) (h3 := h3) (h4 := h4) (h5 := h5) (h6 := h6) (h7 := h7) (h8 := h8) (a15 := a15) (a16 := a16) hin).dqg_at (ds5 hin) d)
theorem reads6 : Reads (H.chunk 6) (start i 6#32) (rows a2 h2 x0 6) (rows a8 h8 x6 6) (gain a5 h5 x3)
    (kernelRun0_A.sl.v181 (F := Ideal) c i a3 h3 a6 h6 a15 x1 x4) (kernelRun0_A.sl.v245 (F := Ideal) c i a4 h4 a16 x2) (biases a7 h7 x5) :=
  reads_of hin 6 _ _ (band_of 6 (placed_k0_off1_6 i) _ _ _ _ (keys hin)) (band_of 6 (placed_k0_off1_6 i) _ _ _ _ (vals hin))
theorem ds6 (r : Fin 64) (k : Fin 576) : (kernelRun0_A.sl.v2911 (F := Ideal) c i a2 h2 a3 h3 a4 h4 a5 h5 a6 h6 a7 h7 a8 h8 a15 a16 x0 x1 x2 x3 x4 x5 x6) (ix2 r k) = (H.chunk 6).ds r k :=
  ((reads6 (c := c) (i := i) (h2 := h2) (h3 := h3) (h4 := h4) (h5 := h5) (h6 := h6) (h7 := h7) (h8 := h8) (a15 := a15) (a16 := a16) hin).ds_at r k)
theorem dkb6 (k : Fin 576) (d : Fin 128) : (kernelRun0_A.sl.v3156 (F := Ideal) c i a2 h2 a3 h3 a4 h4 a5 h5 a6 h6 a7 h7 a8 h8 a15 a16 x0 x1 x2 x3 x4 x5 x6) (ix2 k d) = (H.chunk 6).dkb k d :=
  ((reads6 (c := c) (i := i) (h2 := h2) (h3 := h3) (h4 := h4) (h5 := h5) (h6 := h6) (h7 := h7) (h8 := h8) (a15 := a15) (a16 := a16) hin).dkb_at (ds6 hin) k d)
theorem dvb6 (k : Fin 576) (d : Fin 128) : (kernelRun0_A.sl.v2055 (F := Ideal) c i a2 h2 a3 h3 a5 h5 a6 h6 a7 h7 a8 h8 a15 x0 x1 x3 x4 x5 x6) (ix2 k d) = (H.chunk 6).dvb k d :=
  ((reads6 (c := c) (i := i) (h2 := h2) (h3 := h3) (h4 := h3) (h5 := h5) (h6 := h6) (h7 := h7) (h8 := h8) (a15 := a15) (a16 := a15) hin).dvb_at k d)
theorem dq6 (r : Fin 64) (d : Fin 128) : (kernelRun0_A.sl.v3988 (F := Ideal) c i a2 h2 a3 h3 a4 h4 a5 h5 a6 h6 a7 h7 a8 h8 a15 a16 x0 x1 x2 x3 x4 x5 x6) (ix2 r d) = H.dq (Head.row 6 r) d :=
  (((reads6 (c := c) (i := i) (h2 := h2) (h3 := h3) (h4 := h4) (h5 := h5) (h6 := h6) (h7 := h7) (h8 := h8) (a15 := a15) (a16 := a16) hin).dq_at (ds6 hin) r d).trans (dq_row H 6 r d))
theorem dqg6 (d : Fin 128) : (kernelRun0_A.sl.v3737 (F := Ideal) c i a2 h2 a3 h3 a4 h4 a5 h5 a6 h6 a7 h7 a8 h8 a15 a16 x0 x1 x2 x3 x4 x5 x6) (ix2 0 d) = ∑ r, xn (H.q (Head.row 6 r)) d * (H.chunk 6).dqh r d :=
  ((reads6 (c := c) (i := i) (h2 := h2) (h3 := h3) (h4 := h4) (h5 := h5) (h6 := h6) (h7 := h7) (h8 := h8) (a15 := a15) (a16 := a16) hin).dqg_at (ds6 hin) d)
theorem reads7 : Reads (H.chunk 7) (start i 7#32) (rows a2 h2 x0 7) (rows a8 h8 x6 7) (gain a5 h5 x3)
    (kernelRun0_A.sl.v183 (F := Ideal) c i a3 h3 a6 h6 a15 x1 x4) (kernelRun0_A.sl.v247 (F := Ideal) c i a4 h4 a16 x2) (biases a7 h7 x5) :=
  reads_of hin 7 _ _ (band_of 7 (placed_k0_off1_7 i) _ _ _ _ (keys hin)) (band_of 7 (placed_k0_off1_7 i) _ _ _ _ (vals hin))
theorem ds7 (r : Fin 64) (k : Fin 576) : (kernelRun0_A.sl.v2909 (F := Ideal) c i a2 h2 a3 h3 a4 h4 a5 h5 a6 h6 a7 h7 a8 h8 a15 a16 x0 x1 x2 x3 x4 x5 x6) (ix2 r k) = (H.chunk 7).ds r k :=
  ((reads7 (c := c) (i := i) (h2 := h2) (h3 := h3) (h4 := h4) (h5 := h5) (h6 := h6) (h7 := h7) (h8 := h8) (a15 := a15) (a16 := a16) hin).ds_at r k)
theorem dkb7 (k : Fin 576) (d : Fin 128) : (kernelRun0_A.sl.v3147 (F := Ideal) c i a2 h2 a3 h3 a4 h4 a5 h5 a6 h6 a7 h7 a8 h8 a15 a16 x0 x1 x2 x3 x4 x5 x6) (ix2 k d) = (H.chunk 7).dkb k d :=
  ((reads7 (c := c) (i := i) (h2 := h2) (h3 := h3) (h4 := h4) (h5 := h5) (h6 := h6) (h7 := h7) (h8 := h8) (a15 := a15) (a16 := a16) hin).dkb_at (ds7 hin) k d)
theorem dvb7 (k : Fin 576) (d : Fin 128) : (kernelRun0_A.sl.v2049 (F := Ideal) c i a2 h2 a3 h3 a5 h5 a6 h6 a7 h7 a8 h8 a15 x0 x1 x3 x4 x5 x6) (ix2 k d) = (H.chunk 7).dvb k d :=
  ((reads7 (c := c) (i := i) (h2 := h2) (h3 := h3) (h4 := h3) (h5 := h5) (h6 := h6) (h7 := h7) (h8 := h8) (a15 := a15) (a16 := a15) hin).dvb_at k d)
theorem dq7 (r : Fin 64) (d : Fin 128) : (kernelRun0_A.sl.v4004 (F := Ideal) c i a2 h2 a3 h3 a4 h4 a5 h5 a6 h6 a7 h7 a8 h8 a15 a16 x0 x1 x2 x3 x4 x5 x6) (ix2 r d) = H.dq (Head.row 7 r) d :=
  (((reads7 (c := c) (i := i) (h2 := h2) (h3 := h3) (h4 := h4) (h5 := h5) (h6 := h6) (h7 := h7) (h8 := h8) (a15 := a15) (a16 := a16) hin).dq_at (ds7 hin) r d).trans (dq_row H 7 r d))
theorem dqg7 (d : Fin 128) : (kernelRun0_A.sl.v3716 (F := Ideal) c i a2 h2 a3 h3 a4 h4 a5 h5 a6 h6 a7 h7 a8 h8 a15 a16 x0 x1 x2 x3 x4 x5 x6) (ix2 0 d) = ∑ r, xn (H.q (Head.row 7 r)) d * (H.chunk 7).dqh r d :=
  ((reads7 (c := c) (i := i) (h2 := h2) (h3 := h3) (h4 := h4) (h5 := h5) (h6 := h6) (h7 := h7) (h8 := h8) (a15 := a15) (a16 := a16) hin).dqg_at (ds7 hin) d)
theorem reads8 : Reads (H.chunk 8) (start i 8#32) (rows a2 h2 x0 8) (rows a8 h8 x6 8) (gain a5 h5 x3)
    (kernelRun0_A.sl.v185 (F := Ideal) c i a3 h3 a6 h6 a15 x1 x4) (kernelRun0_A.sl.v249 (F := Ideal) c i a4 h4 a16 x2) (biases a7 h7 x5) :=
  reads_of hin 8 _ _ (band_of 8 (placed_k0_off1_8 i) _ _ _ _ (keys hin)) (band_of 8 (placed_k0_off1_8 i) _ _ _ _ (vals hin))
theorem ds8 (r : Fin 64) (k : Fin 576) : (kernelRun0_A.sl.v2907 (F := Ideal) c i a2 h2 a3 h3 a4 h4 a5 h5 a6 h6 a7 h7 a8 h8 a15 a16 x0 x1 x2 x3 x4 x5 x6) (ix2 r k) = (H.chunk 8).ds r k :=
  ((reads8 (c := c) (i := i) (h2 := h2) (h3 := h3) (h4 := h4) (h5 := h5) (h6 := h6) (h7 := h7) (h8 := h8) (a15 := a15) (a16 := a16) hin).ds_at r k)
theorem dkb8 (k : Fin 576) (d : Fin 128) : (kernelRun0_A.sl.v3138 (F := Ideal) c i a2 h2 a3 h3 a4 h4 a5 h5 a6 h6 a7 h7 a8 h8 a15 a16 x0 x1 x2 x3 x4 x5 x6) (ix2 k d) = (H.chunk 8).dkb k d :=
  ((reads8 (c := c) (i := i) (h2 := h2) (h3 := h3) (h4 := h4) (h5 := h5) (h6 := h6) (h7 := h7) (h8 := h8) (a15 := a15) (a16 := a16) hin).dkb_at (ds8 hin) k d)
theorem dvb8 (k : Fin 576) (d : Fin 128) : (kernelRun0_A.sl.v2043 (F := Ideal) c i a2 h2 a3 h3 a5 h5 a6 h6 a7 h7 a8 h8 a15 x0 x1 x3 x4 x5 x6) (ix2 k d) = (H.chunk 8).dvb k d :=
  ((reads8 (c := c) (i := i) (h2 := h2) (h3 := h3) (h4 := h3) (h5 := h5) (h6 := h6) (h7 := h7) (h8 := h8) (a15 := a15) (a16 := a15) hin).dvb_at k d)
theorem dq8 (r : Fin 64) (d : Fin 128) : (kernelRun0_A.sl.v4020 (F := Ideal) c i a2 h2 a3 h3 a4 h4 a5 h5 a6 h6 a7 h7 a8 h8 a15 a16 x0 x1 x2 x3 x4 x5 x6) (ix2 r d) = H.dq (Head.row 8 r) d :=
  (((reads8 (c := c) (i := i) (h2 := h2) (h3 := h3) (h4 := h4) (h5 := h5) (h6 := h6) (h7 := h7) (h8 := h8) (a15 := a15) (a16 := a16) hin).dq_at (ds8 hin) r d).trans (dq_row H 8 r d))
theorem dqg8 (d : Fin 128) : (kernelRun0_A.sl.v3695 (F := Ideal) c i a2 h2 a3 h3 a4 h4 a5 h5 a6 h6 a7 h7 a8 h8 a15 a16 x0 x1 x2 x3 x4 x5 x6) (ix2 0 d) = ∑ r, xn (H.q (Head.row 8 r)) d * (H.chunk 8).dqh r d :=
  ((reads8 (c := c) (i := i) (h2 := h2) (h3 := h3) (h4 := h4) (h5 := h5) (h6 := h6) (h7 := h7) (h8 := h8) (a15 := a15) (a16 := a16) hin).dqg_at (ds8 hin) d)
theorem reads9 : Reads (H.chunk 9) (start i 9#32) (rows a2 h2 x0 9) (rows a8 h8 x6 9) (gain a5 h5 x3)
    (kernelRun0_A.sl.v187 (F := Ideal) c i a3 h3 a6 h6 a15 x1 x4) (kernelRun0_A.sl.v251 (F := Ideal) c i a4 h4 a16 x2) (biases a7 h7 x5) :=
  reads_of hin 9 _ _ (band_of 9 (placed_k0_off1_9 i) _ _ _ _ (keys hin)) (band_of 9 (placed_k0_off1_9 i) _ _ _ _ (vals hin))
theorem ds9 (r : Fin 64) (k : Fin 576) : (kernelRun0_A.sl.v2905 (F := Ideal) c i a2 h2 a3 h3 a4 h4 a5 h5 a6 h6 a7 h7 a8 h8 a15 a16 x0 x1 x2 x3 x4 x5 x6) (ix2 r k) = (H.chunk 9).ds r k :=
  ((reads9 (c := c) (i := i) (h2 := h2) (h3 := h3) (h4 := h4) (h5 := h5) (h6 := h6) (h7 := h7) (h8 := h8) (a15 := a15) (a16 := a16) hin).ds_at r k)
theorem dkb9 (k : Fin 576) (d : Fin 128) : (kernelRun0_A.sl.v3129 (F := Ideal) c i a2 h2 a3 h3 a4 h4 a5 h5 a6 h6 a7 h7 a8 h8 a15 a16 x0 x1 x2 x3 x4 x5 x6) (ix2 k d) = (H.chunk 9).dkb k d :=
  ((reads9 (c := c) (i := i) (h2 := h2) (h3 := h3) (h4 := h4) (h5 := h5) (h6 := h6) (h7 := h7) (h8 := h8) (a15 := a15) (a16 := a16) hin).dkb_at (ds9 hin) k d)
theorem dvb9 (k : Fin 576) (d : Fin 128) : (kernelRun0_A.sl.v2037 (F := Ideal) c i a2 h2 a3 h3 a5 h5 a6 h6 a7 h7 a8 h8 a15 x0 x1 x3 x4 x5 x6) (ix2 k d) = (H.chunk 9).dvb k d :=
  ((reads9 (c := c) (i := i) (h2 := h2) (h3 := h3) (h4 := h3) (h5 := h5) (h6 := h6) (h7 := h7) (h8 := h8) (a15 := a15) (a16 := a15) hin).dvb_at k d)
theorem dq9 (r : Fin 64) (d : Fin 128) : (kernelRun0_A.sl.v4036 (F := Ideal) c i a2 h2 a3 h3 a4 h4 a5 h5 a6 h6 a7 h7 a8 h8 a15 a16 x0 x1 x2 x3 x4 x5 x6) (ix2 r d) = H.dq (Head.row 9 r) d :=
  (((reads9 (c := c) (i := i) (h2 := h2) (h3 := h3) (h4 := h4) (h5 := h5) (h6 := h6) (h7 := h7) (h8 := h8) (a15 := a15) (a16 := a16) hin).dq_at (ds9 hin) r d).trans (dq_row H 9 r d))
theorem dqg9 (d : Fin 128) : (kernelRun0_A.sl.v3674 (F := Ideal) c i a2 h2 a3 h3 a4 h4 a5 h5 a6 h6 a7 h7 a8 h8 a15 a16 x0 x1 x2 x3 x4 x5 x6) (ix2 0 d) = ∑ r, xn (H.q (Head.row 9 r)) d * (H.chunk 9).dqh r d :=
  ((reads9 (c := c) (i := i) (h2 := h2) (h3 := h3) (h4 := h4) (h5 := h5) (h6 := h6) (h7 := h7) (h8 := h8) (a15 := a15) (a16 := a16) hin).dqg_at (ds9 hin) d)
theorem reads10 : Reads (H.chunk 10) (start i 10#32) (rows a2 h2 x0 10) (rows a8 h8 x6 10) (gain a5 h5 x3)
    (kernelRun0_A.sl.v189 (F := Ideal) c i a3 h3 a6 h6 a15 x1 x4) (kernelRun0_A.sl.v253 (F := Ideal) c i a4 h4 a16 x2) (biases a7 h7 x5) :=
  reads_of hin 10 _ _ (band_of 10 (placed_k0_off1_10 i) _ _ _ _ (keys hin)) (band_of 10 (placed_k0_off1_10 i) _ _ _ _ (vals hin))
theorem ds10 (r : Fin 64) (k : Fin 576) : (kernelRun0_A.sl.v2903 (F := Ideal) c i a2 h2 a3 h3 a4 h4 a5 h5 a6 h6 a7 h7 a8 h8 a15 a16 x0 x1 x2 x3 x4 x5 x6) (ix2 r k) = (H.chunk 10).ds r k :=
  ((reads10 (c := c) (i := i) (h2 := h2) (h3 := h3) (h4 := h4) (h5 := h5) (h6 := h6) (h7 := h7) (h8 := h8) (a15 := a15) (a16 := a16) hin).ds_at r k)
theorem dkb10 (k : Fin 576) (d : Fin 128) : (kernelRun0_A.sl.v3120 (F := Ideal) c i a2 h2 a3 h3 a4 h4 a5 h5 a6 h6 a7 h7 a8 h8 a15 a16 x0 x1 x2 x3 x4 x5 x6) (ix2 k d) = (H.chunk 10).dkb k d :=
  ((reads10 (c := c) (i := i) (h2 := h2) (h3 := h3) (h4 := h4) (h5 := h5) (h6 := h6) (h7 := h7) (h8 := h8) (a15 := a15) (a16 := a16) hin).dkb_at (ds10 hin) k d)
theorem dvb10 (k : Fin 576) (d : Fin 128) : (kernelRun0_A.sl.v2031 (F := Ideal) c i a2 h2 a3 h3 a5 h5 a6 h6 a7 h7 a8 h8 a15 x0 x1 x3 x4 x5 x6) (ix2 k d) = (H.chunk 10).dvb k d :=
  ((reads10 (c := c) (i := i) (h2 := h2) (h3 := h3) (h4 := h3) (h5 := h5) (h6 := h6) (h7 := h7) (h8 := h8) (a15 := a15) (a16 := a15) hin).dvb_at k d)
theorem dq10 (r : Fin 64) (d : Fin 128) : (kernelRun0_A.sl.v4052 (F := Ideal) c i a2 h2 a3 h3 a4 h4 a5 h5 a6 h6 a7 h7 a8 h8 a15 a16 x0 x1 x2 x3 x4 x5 x6) (ix2 r d) = H.dq (Head.row 10 r) d :=
  (((reads10 (c := c) (i := i) (h2 := h2) (h3 := h3) (h4 := h4) (h5 := h5) (h6 := h6) (h7 := h7) (h8 := h8) (a15 := a15) (a16 := a16) hin).dq_at (ds10 hin) r d).trans (dq_row H 10 r d))
theorem dqg10 (d : Fin 128) : (kernelRun0_A.sl.v3653 (F := Ideal) c i a2 h2 a3 h3 a4 h4 a5 h5 a6 h6 a7 h7 a8 h8 a15 a16 x0 x1 x2 x3 x4 x5 x6) (ix2 0 d) = ∑ r, xn (H.q (Head.row 10 r)) d * (H.chunk 10).dqh r d :=
  ((reads10 (c := c) (i := i) (h2 := h2) (h3 := h3) (h4 := h4) (h5 := h5) (h6 := h6) (h7 := h7) (h8 := h8) (a15 := a15) (a16 := a16) hin).dqg_at (ds10 hin) d)
theorem reads11 : Reads (H.chunk 11) (start i 11#32) (rows a2 h2 x0 11) (rows a8 h8 x6 11) (gain a5 h5 x3)
    (kernelRun0_A.sl.v191 (F := Ideal) c i a3 h3 a6 h6 a15 x1 x4) (kernelRun0_A.sl.v255 (F := Ideal) c i a4 h4 a16 x2) (biases a7 h7 x5) :=
  reads_of hin 11 _ _ (band_of 11 (placed_k0_off1_11 i) _ _ _ _ (keys hin)) (band_of 11 (placed_k0_off1_11 i) _ _ _ _ (vals hin))
theorem ds11 (r : Fin 64) (k : Fin 576) : (kernelRun0_A.sl.v2901 (F := Ideal) c i a2 h2 a3 h3 a4 h4 a5 h5 a6 h6 a7 h7 a8 h8 a15 a16 x0 x1 x2 x3 x4 x5 x6) (ix2 r k) = (H.chunk 11).ds r k :=
  ((reads11 (c := c) (i := i) (h2 := h2) (h3 := h3) (h4 := h4) (h5 := h5) (h6 := h6) (h7 := h7) (h8 := h8) (a15 := a15) (a16 := a16) hin).ds_at r k)
theorem dkb11 (k : Fin 576) (d : Fin 128) : (kernelRun0_A.sl.v3111 (F := Ideal) c i a2 h2 a3 h3 a4 h4 a5 h5 a6 h6 a7 h7 a8 h8 a15 a16 x0 x1 x2 x3 x4 x5 x6) (ix2 k d) = (H.chunk 11).dkb k d :=
  ((reads11 (c := c) (i := i) (h2 := h2) (h3 := h3) (h4 := h4) (h5 := h5) (h6 := h6) (h7 := h7) (h8 := h8) (a15 := a15) (a16 := a16) hin).dkb_at (ds11 hin) k d)
theorem dvb11 (k : Fin 576) (d : Fin 128) : (kernelRun0_A.sl.v2025 (F := Ideal) c i a2 h2 a3 h3 a5 h5 a6 h6 a7 h7 a8 h8 a15 x0 x1 x3 x4 x5 x6) (ix2 k d) = (H.chunk 11).dvb k d :=
  ((reads11 (c := c) (i := i) (h2 := h2) (h3 := h3) (h4 := h3) (h5 := h5) (h6 := h6) (h7 := h7) (h8 := h8) (a15 := a15) (a16 := a15) hin).dvb_at k d)
theorem dq11 (r : Fin 64) (d : Fin 128) : (kernelRun0_A.sl.v4068 (F := Ideal) c i a2 h2 a3 h3 a4 h4 a5 h5 a6 h6 a7 h7 a8 h8 a15 a16 x0 x1 x2 x3 x4 x5 x6) (ix2 r d) = H.dq (Head.row 11 r) d :=
  (((reads11 (c := c) (i := i) (h2 := h2) (h3 := h3) (h4 := h4) (h5 := h5) (h6 := h6) (h7 := h7) (h8 := h8) (a15 := a15) (a16 := a16) hin).dq_at (ds11 hin) r d).trans (dq_row H 11 r d))
theorem dqg11 (d : Fin 128) : (kernelRun0_A.sl.v3632 (F := Ideal) c i a2 h2 a3 h3 a4 h4 a5 h5 a6 h6 a7 h7 a8 h8 a15 a16 x0 x1 x2 x3 x4 x5 x6) (ix2 0 d) = ∑ r, xn (H.q (Head.row 11 r)) d * (H.chunk 11).dqh r d :=
  ((reads11 (c := c) (i := i) (h2 := h2) (h3 := h3) (h4 := h4) (h5 := h5) (h6 := h6) (h7 := h7) (h8 := h8) (a15 := a15) (a16 := a16) hin).dqg_at (ds11 hin) d)
theorem reads12 : Reads (H.chunk 12) (start i 12#32) (rows a2 h2 x0 12) (rows a8 h8 x6 12) (gain a5 h5 x3)
    (kernelRun0_A.sl.v193 (F := Ideal) c i a3 h3 a6 h6 a15 x1 x4) (kernelRun0_A.sl.v257 (F := Ideal) c i a4 h4 a16 x2) (biases a7 h7 x5) :=
  reads_of hin 12 _ _ (band_of 12 (placed_k0_off1_12 i) _ _ _ _ (keys hin)) (band_of 12 (placed_k0_off1_12 i) _ _ _ _ (vals hin))
theorem ds12 (r : Fin 64) (k : Fin 576) : (kernelRun0_A.sl.v2899 (F := Ideal) c i a2 h2 a3 h3 a4 h4 a5 h5 a6 h6 a7 h7 a8 h8 a15 a16 x0 x1 x2 x3 x4 x5 x6) (ix2 r k) = (H.chunk 12).ds r k :=
  ((reads12 (c := c) (i := i) (h2 := h2) (h3 := h3) (h4 := h4) (h5 := h5) (h6 := h6) (h7 := h7) (h8 := h8) (a15 := a15) (a16 := a16) hin).ds_at r k)
theorem dkb12 (k : Fin 576) (d : Fin 128) : (kernelRun0_A.sl.v3102 (F := Ideal) c i a2 h2 a3 h3 a4 h4 a5 h5 a6 h6 a7 h7 a8 h8 a15 a16 x0 x1 x2 x3 x4 x5 x6) (ix2 k d) = (H.chunk 12).dkb k d :=
  ((reads12 (c := c) (i := i) (h2 := h2) (h3 := h3) (h4 := h4) (h5 := h5) (h6 := h6) (h7 := h7) (h8 := h8) (a15 := a15) (a16 := a16) hin).dkb_at (ds12 hin) k d)
theorem dvb12 (k : Fin 576) (d : Fin 128) : (kernelRun0_A.sl.v2019 (F := Ideal) c i a2 h2 a3 h3 a5 h5 a6 h6 a7 h7 a8 h8 a15 x0 x1 x3 x4 x5 x6) (ix2 k d) = (H.chunk 12).dvb k d :=
  ((reads12 (c := c) (i := i) (h2 := h2) (h3 := h3) (h4 := h3) (h5 := h5) (h6 := h6) (h7 := h7) (h8 := h8) (a15 := a15) (a16 := a15) hin).dvb_at k d)
theorem dq12 (r : Fin 64) (d : Fin 128) : (kernelRun0_A.sl.v4084 (F := Ideal) c i a2 h2 a3 h3 a4 h4 a5 h5 a6 h6 a7 h7 a8 h8 a15 a16 x0 x1 x2 x3 x4 x5 x6) (ix2 r d) = H.dq (Head.row 12 r) d :=
  (((reads12 (c := c) (i := i) (h2 := h2) (h3 := h3) (h4 := h4) (h5 := h5) (h6 := h6) (h7 := h7) (h8 := h8) (a15 := a15) (a16 := a16) hin).dq_at (ds12 hin) r d).trans (dq_row H 12 r d))
theorem dqg12 (d : Fin 128) : (kernelRun0_A.sl.v3611 (F := Ideal) c i a2 h2 a3 h3 a4 h4 a5 h5 a6 h6 a7 h7 a8 h8 a15 a16 x0 x1 x2 x3 x4 x5 x6) (ix2 0 d) = ∑ r, xn (H.q (Head.row 12 r)) d * (H.chunk 12).dqh r d :=
  ((reads12 (c := c) (i := i) (h2 := h2) (h3 := h3) (h4 := h4) (h5 := h5) (h6 := h6) (h7 := h7) (h8 := h8) (a15 := a15) (a16 := a16) hin).dqg_at (ds12 hin) d)
theorem reads13 : Reads (H.chunk 13) (start i 13#32) (rows a2 h2 x0 13) (rows a8 h8 x6 13) (gain a5 h5 x3)
    (kernelRun0_A.sl.v195 (F := Ideal) c i a3 h3 a6 h6 a15 x1 x4) (kernelRun0_A.sl.v259 (F := Ideal) c i a4 h4 a16 x2) (biases a7 h7 x5) :=
  reads_of hin 13 _ _ (band_of 13 (placed_k0_off1_13 i) _ _ _ _ (keys hin)) (band_of 13 (placed_k0_off1_13 i) _ _ _ _ (vals hin))
theorem ds13 (r : Fin 64) (k : Fin 576) : (kernelRun0_A.sl.v2897 (F := Ideal) c i a2 h2 a3 h3 a4 h4 a5 h5 a6 h6 a7 h7 a8 h8 a15 a16 x0 x1 x2 x3 x4 x5 x6) (ix2 r k) = (H.chunk 13).ds r k :=
  ((reads13 (c := c) (i := i) (h2 := h2) (h3 := h3) (h4 := h4) (h5 := h5) (h6 := h6) (h7 := h7) (h8 := h8) (a15 := a15) (a16 := a16) hin).ds_at r k)
theorem dkb13 (k : Fin 576) (d : Fin 128) : (kernelRun0_A.sl.v3093 (F := Ideal) c i a2 h2 a3 h3 a4 h4 a5 h5 a6 h6 a7 h7 a8 h8 a15 a16 x0 x1 x2 x3 x4 x5 x6) (ix2 k d) = (H.chunk 13).dkb k d :=
  ((reads13 (c := c) (i := i) (h2 := h2) (h3 := h3) (h4 := h4) (h5 := h5) (h6 := h6) (h7 := h7) (h8 := h8) (a15 := a15) (a16 := a16) hin).dkb_at (ds13 hin) k d)
theorem dvb13 (k : Fin 576) (d : Fin 128) : (kernelRun0_A.sl.v2013 (F := Ideal) c i a2 h2 a3 h3 a5 h5 a6 h6 a7 h7 a8 h8 a15 x0 x1 x3 x4 x5 x6) (ix2 k d) = (H.chunk 13).dvb k d :=
  ((reads13 (c := c) (i := i) (h2 := h2) (h3 := h3) (h4 := h3) (h5 := h5) (h6 := h6) (h7 := h7) (h8 := h8) (a15 := a15) (a16 := a15) hin).dvb_at k d)
theorem dq13 (r : Fin 64) (d : Fin 128) : (kernelRun0_A.sl.v4100 (F := Ideal) c i a2 h2 a3 h3 a4 h4 a5 h5 a6 h6 a7 h7 a8 h8 a15 a16 x0 x1 x2 x3 x4 x5 x6) (ix2 r d) = H.dq (Head.row 13 r) d :=
  (((reads13 (c := c) (i := i) (h2 := h2) (h3 := h3) (h4 := h4) (h5 := h5) (h6 := h6) (h7 := h7) (h8 := h8) (a15 := a15) (a16 := a16) hin).dq_at (ds13 hin) r d).trans (dq_row H 13 r d))
theorem dqg13 (d : Fin 128) : (kernelRun0_A.sl.v3590 (F := Ideal) c i a2 h2 a3 h3 a4 h4 a5 h5 a6 h6 a7 h7 a8 h8 a15 a16 x0 x1 x2 x3 x4 x5 x6) (ix2 0 d) = ∑ r, xn (H.q (Head.row 13 r)) d * (H.chunk 13).dqh r d :=
  ((reads13 (c := c) (i := i) (h2 := h2) (h3 := h3) (h4 := h4) (h5 := h5) (h6 := h6) (h7 := h7) (h8 := h8) (a15 := a15) (a16 := a16) hin).dqg_at (ds13 hin) d)
theorem reads14 : Reads (H.chunk 14) (start i 14#32) (rows a2 h2 x0 14) (rows a8 h8 x6 14) (gain a5 h5 x3)
    (kernelRun0_A.sl.v197 (F := Ideal) c i a3 h3 a6 h6 a15 x1 x4) (kernelRun0_A.sl.v261 (F := Ideal) c i a4 h4 a16 x2) (biases a7 h7 x5) :=
  reads_of hin 14 _ _ (band_of 14 (placed_k0_off1_14 i) _ _ _ _ (keys hin)) (band_of 14 (placed_k0_off1_14 i) _ _ _ _ (vals hin))
theorem ds14 (r : Fin 64) (k : Fin 576) : (kernelRun0_A.sl.v2895 (F := Ideal) c i a2 h2 a3 h3 a4 h4 a5 h5 a6 h6 a7 h7 a8 h8 a15 a16 x0 x1 x2 x3 x4 x5 x6) (ix2 r k) = (H.chunk 14).ds r k :=
  ((reads14 (c := c) (i := i) (h2 := h2) (h3 := h3) (h4 := h4) (h5 := h5) (h6 := h6) (h7 := h7) (h8 := h8) (a15 := a15) (a16 := a16) hin).ds_at r k)
theorem dkb14 (k : Fin 576) (d : Fin 128) : (kernelRun0_A.sl.v3084 (F := Ideal) c i a2 h2 a3 h3 a4 h4 a5 h5 a6 h6 a7 h7 a8 h8 a15 a16 x0 x1 x2 x3 x4 x5 x6) (ix2 k d) = (H.chunk 14).dkb k d :=
  ((reads14 (c := c) (i := i) (h2 := h2) (h3 := h3) (h4 := h4) (h5 := h5) (h6 := h6) (h7 := h7) (h8 := h8) (a15 := a15) (a16 := a16) hin).dkb_at (ds14 hin) k d)
theorem dvb14 (k : Fin 576) (d : Fin 128) : (kernelRun0_A.sl.v2007 (F := Ideal) c i a2 h2 a3 h3 a5 h5 a6 h6 a7 h7 a8 h8 a15 x0 x1 x3 x4 x5 x6) (ix2 k d) = (H.chunk 14).dvb k d :=
  ((reads14 (c := c) (i := i) (h2 := h2) (h3 := h3) (h4 := h3) (h5 := h5) (h6 := h6) (h7 := h7) (h8 := h8) (a15 := a15) (a16 := a15) hin).dvb_at k d)
theorem dq14 (r : Fin 64) (d : Fin 128) : (kernelRun0_A.sl.v4116 (F := Ideal) c i a2 h2 a3 h3 a4 h4 a5 h5 a6 h6 a7 h7 a8 h8 a15 a16 x0 x1 x2 x3 x4 x5 x6) (ix2 r d) = H.dq (Head.row 14 r) d :=
  (((reads14 (c := c) (i := i) (h2 := h2) (h3 := h3) (h4 := h4) (h5 := h5) (h6 := h6) (h7 := h7) (h8 := h8) (a15 := a15) (a16 := a16) hin).dq_at (ds14 hin) r d).trans (dq_row H 14 r d))
theorem dqg14 (d : Fin 128) : (kernelRun0_A.sl.v3569 (F := Ideal) c i a2 h2 a3 h3 a4 h4 a5 h5 a6 h6 a7 h7 a8 h8 a15 a16 x0 x1 x2 x3 x4 x5 x6) (ix2 0 d) = ∑ r, xn (H.q (Head.row 14 r)) d * (H.chunk 14).dqh r d :=
  ((reads14 (c := c) (i := i) (h2 := h2) (h3 := h3) (h4 := h4) (h5 := h5) (h6 := h6) (h7 := h7) (h8 := h8) (a15 := a15) (a16 := a16) hin).dqg_at (ds14 hin) d)
theorem reads15 : Reads (H.chunk 15) (start i 15#32) (rows a2 h2 x0 15) (rows a8 h8 x6 15) (gain a5 h5 x3)
    (kernelRun0_A.sl.v199 (F := Ideal) c i a3 h3 a6 h6 a15 x1 x4) (kernelRun0_A.sl.v263 (F := Ideal) c i a4 h4 a16 x2) (biases a7 h7 x5) :=
  reads_of hin 15 _ _ (band_of 15 (placed_k0_off1_15 i) _ _ _ _ (keys hin)) (band_of 15 (placed_k0_off1_15 i) _ _ _ _ (vals hin))
theorem ds15 (r : Fin 64) (k : Fin 576) : (kernelRun0_A.sl.v2893 (F := Ideal) c i a2 h2 a3 h3 a4 h4 a5 h5 a6 h6 a7 h7 a8 h8 a15 a16 x0 x1 x2 x3 x4 x5 x6) (ix2 r k) = (H.chunk 15).ds r k :=
  ((reads15 (c := c) (i := i) (h2 := h2) (h3 := h3) (h4 := h4) (h5 := h5) (h6 := h6) (h7 := h7) (h8 := h8) (a15 := a15) (a16 := a16) hin).ds_at r k)
theorem dkb15 (k : Fin 576) (d : Fin 128) : (kernelRun0_A.sl.v3075 (F := Ideal) c i a2 h2 a3 h3 a4 h4 a5 h5 a6 h6 a7 h7 a8 h8 a15 a16 x0 x1 x2 x3 x4 x5 x6) (ix2 k d) = (H.chunk 15).dkb k d :=
  ((reads15 (c := c) (i := i) (h2 := h2) (h3 := h3) (h4 := h4) (h5 := h5) (h6 := h6) (h7 := h7) (h8 := h8) (a15 := a15) (a16 := a16) hin).dkb_at (ds15 hin) k d)
theorem dvb15 (k : Fin 576) (d : Fin 128) : (kernelRun0_A.sl.v2001 (F := Ideal) c i a2 h2 a3 h3 a5 h5 a6 h6 a7 h7 a8 h8 a15 x0 x1 x3 x4 x5 x6) (ix2 k d) = (H.chunk 15).dvb k d :=
  ((reads15 (c := c) (i := i) (h2 := h2) (h3 := h3) (h4 := h3) (h5 := h5) (h6 := h6) (h7 := h7) (h8 := h8) (a15 := a15) (a16 := a15) hin).dvb_at k d)
theorem dq15 (r : Fin 64) (d : Fin 128) : (kernelRun0_A.sl.v4132 (F := Ideal) c i a2 h2 a3 h3 a4 h4 a5 h5 a6 h6 a7 h7 a8 h8 a15 a16 x0 x1 x2 x3 x4 x5 x6) (ix2 r d) = H.dq (Head.row 15 r) d :=
  (((reads15 (c := c) (i := i) (h2 := h2) (h3 := h3) (h4 := h4) (h5 := h5) (h6 := h6) (h7 := h7) (h8 := h8) (a15 := a15) (a16 := a16) hin).dq_at (ds15 hin) r d).trans (dq_row H 15 r d))
theorem dqg15 (d : Fin 128) : (kernelRun0_A.sl.v3548 (F := Ideal) c i a2 h2 a3 h3 a4 h4 a5 h5 a6 h6 a7 h7 a8 h8 a15 a16 x0 x1 x2 x3 x4 x5 x6) (ix2 0 d) = ∑ r, xn (H.q (Head.row 15 r)) d * (H.chunk 15).dqh r d :=
  ((reads15 (c := c) (i := i) (h2 := h2) (h3 := h3) (h4 := h4) (h5 := h5) (h6 := h6) (h7 := h7) (h8 := h8) (a15 := a15) (a16 := a16) hin).dqg_at (ds15 hin) d)
theorem reads16 : Reads (H.chunk 16) (start i 16#32) (rows a2 h2 x0 16) (rows a8 h8 x6 16) (gain a5 h5 x3)
    (kernelRun0_A.sl.v201 (F := Ideal) c i a3 h3 a6 h6 a15 x1 x4) (kernelRun0_A.sl.v265 (F := Ideal) c i a4 h4 a16 x2) (biases a7 h7 x5) :=
  reads_of hin 16 _ _ (band_of 16 (placed_k0_off1_16 i) _ _ _ _ (keys hin)) (band_of 16 (placed_k0_off1_16 i) _ _ _ _ (vals hin))
theorem ds16 (r : Fin 64) (k : Fin 576) : (kernelRun0_A.sl.v2891 (F := Ideal) c i a2 h2 a3 h3 a4 h4 a5 h5 a6 h6 a7 h7 a8 h8 a15 a16 x0 x1 x2 x3 x4 x5 x6) (ix2 r k) = (H.chunk 16).ds r k :=
  ((reads16 (c := c) (i := i) (h2 := h2) (h3 := h3) (h4 := h4) (h5 := h5) (h6 := h6) (h7 := h7) (h8 := h8) (a15 := a15) (a16 := a16) hin).ds_at r k)
theorem dkb16 (k : Fin 576) (d : Fin 128) : (kernelRun0_A.sl.v3066 (F := Ideal) c i a2 h2 a3 h3 a4 h4 a5 h5 a6 h6 a7 h7 a8 h8 a15 a16 x0 x1 x2 x3 x4 x5 x6) (ix2 k d) = (H.chunk 16).dkb k d :=
  ((reads16 (c := c) (i := i) (h2 := h2) (h3 := h3) (h4 := h4) (h5 := h5) (h6 := h6) (h7 := h7) (h8 := h8) (a15 := a15) (a16 := a16) hin).dkb_at (ds16 hin) k d)
theorem dvb16 (k : Fin 576) (d : Fin 128) : (kernelRun0_A.sl.v1995 (F := Ideal) c i a2 h2 a3 h3 a5 h5 a6 h6 a7 h7 a8 h8 a15 x0 x1 x3 x4 x5 x6) (ix2 k d) = (H.chunk 16).dvb k d :=
  ((reads16 (c := c) (i := i) (h2 := h2) (h3 := h3) (h4 := h3) (h5 := h5) (h6 := h6) (h7 := h7) (h8 := h8) (a15 := a15) (a16 := a15) hin).dvb_at k d)
theorem dq16 (r : Fin 64) (d : Fin 128) : (kernelRun0_A.sl.v4148 (F := Ideal) c i a2 h2 a3 h3 a4 h4 a5 h5 a6 h6 a7 h7 a8 h8 a15 a16 x0 x1 x2 x3 x4 x5 x6) (ix2 r d) = H.dq (Head.row 16 r) d :=
  (((reads16 (c := c) (i := i) (h2 := h2) (h3 := h3) (h4 := h4) (h5 := h5) (h6 := h6) (h7 := h7) (h8 := h8) (a15 := a15) (a16 := a16) hin).dq_at (ds16 hin) r d).trans (dq_row H 16 r d))
theorem dqg16 (d : Fin 128) : (kernelRun0_A.sl.v3527 (F := Ideal) c i a2 h2 a3 h3 a4 h4 a5 h5 a6 h6 a7 h7 a8 h8 a15 a16 x0 x1 x2 x3 x4 x5 x6) (ix2 0 d) = ∑ r, xn (H.q (Head.row 16 r)) d * (H.chunk 16).dqh r d :=
  ((reads16 (c := c) (i := i) (h2 := h2) (h3 := h3) (h4 := h4) (h5 := h5) (h6 := h6) (h7 := h7) (h8 := h8) (a15 := a15) (a16 := a16) hin).dqg_at (ds16 hin) d)
theorem reads17 : Reads (H.chunk 17) (start i 17#32) (rows a2 h2 x0 17) (rows a8 h8 x6 17) (gain a5 h5 x3)
    (kernelRun0_A.sl.v203 (F := Ideal) c i a3 h3 a6 h6 a15 x1 x4) (kernelRun0_A.sl.v267 (F := Ideal) c i a4 h4 a16 x2) (biases a7 h7 x5) :=
  reads_of hin 17 _ _ (band_of 17 (placed_k0_off1_17 i) _ _ _ _ (keys hin)) (band_of 17 (placed_k0_off1_17 i) _ _ _ _ (vals hin))
theorem ds17 (r : Fin 64) (k : Fin 576) : (kernelRun0_A.sl.v2889 (F := Ideal) c i a2 h2 a3 h3 a4 h4 a5 h5 a6 h6 a7 h7 a8 h8 a15 a16 x0 x1 x2 x3 x4 x5 x6) (ix2 r k) = (H.chunk 17).ds r k :=
  ((reads17 (c := c) (i := i) (h2 := h2) (h3 := h3) (h4 := h4) (h5 := h5) (h6 := h6) (h7 := h7) (h8 := h8) (a15 := a15) (a16 := a16) hin).ds_at r k)
theorem dkb17 (k : Fin 576) (d : Fin 128) : (kernelRun0_A.sl.v3057 (F := Ideal) c i a2 h2 a3 h3 a4 h4 a5 h5 a6 h6 a7 h7 a8 h8 a15 a16 x0 x1 x2 x3 x4 x5 x6) (ix2 k d) = (H.chunk 17).dkb k d :=
  ((reads17 (c := c) (i := i) (h2 := h2) (h3 := h3) (h4 := h4) (h5 := h5) (h6 := h6) (h7 := h7) (h8 := h8) (a15 := a15) (a16 := a16) hin).dkb_at (ds17 hin) k d)
theorem dvb17 (k : Fin 576) (d : Fin 128) : (kernelRun0_A.sl.v1989 (F := Ideal) c i a2 h2 a3 h3 a5 h5 a6 h6 a7 h7 a8 h8 a15 x0 x1 x3 x4 x5 x6) (ix2 k d) = (H.chunk 17).dvb k d :=
  ((reads17 (c := c) (i := i) (h2 := h2) (h3 := h3) (h4 := h3) (h5 := h5) (h6 := h6) (h7 := h7) (h8 := h8) (a15 := a15) (a16 := a15) hin).dvb_at k d)
theorem dq17 (r : Fin 64) (d : Fin 128) : (kernelRun0_A.sl.v4164 (F := Ideal) c i a2 h2 a3 h3 a4 h4 a5 h5 a6 h6 a7 h7 a8 h8 a15 a16 x0 x1 x2 x3 x4 x5 x6) (ix2 r d) = H.dq (Head.row 17 r) d :=
  (((reads17 (c := c) (i := i) (h2 := h2) (h3 := h3) (h4 := h4) (h5 := h5) (h6 := h6) (h7 := h7) (h8 := h8) (a15 := a15) (a16 := a16) hin).dq_at (ds17 hin) r d).trans (dq_row H 17 r d))
theorem dqg17 (d : Fin 128) : (kernelRun0_A.sl.v3506 (F := Ideal) c i a2 h2 a3 h3 a4 h4 a5 h5 a6 h6 a7 h7 a8 h8 a15 a16 x0 x1 x2 x3 x4 x5 x6) (ix2 0 d) = ∑ r, xn (H.q (Head.row 17 r)) d * (H.chunk 17).dqh r d :=
  ((reads17 (c := c) (i := i) (h2 := h2) (h3 := h3) (h4 := h4) (h5 := h5) (h6 := h6) (h7 := h7) (h8 := h8) (a15 := a15) (a16 := a16) hin).dqg_at (ds17 hin) d)
theorem reads18 : Reads (H.chunk 18) (start i 18#32) (rows a2 h2 x0 18) (rows a8 h8 x6 18) (gain a5 h5 x3)
    (kernelRun0_A.sl.v205 (F := Ideal) c i a3 h3 a6 h6 a15 x1 x4) (kernelRun0_A.sl.v269 (F := Ideal) c i a4 h4 a16 x2) (biases a7 h7 x5) :=
  reads_of hin 18 _ _ (band_of 18 (placed_k0_off1_18 i) _ _ _ _ (keys hin)) (band_of 18 (placed_k0_off1_18 i) _ _ _ _ (vals hin))
theorem ds18 (r : Fin 64) (k : Fin 576) : (kernelRun0_A.sl.v2887 (F := Ideal) c i a2 h2 a3 h3 a4 h4 a5 h5 a6 h6 a7 h7 a8 h8 a15 a16 x0 x1 x2 x3 x4 x5 x6) (ix2 r k) = (H.chunk 18).ds r k :=
  ((reads18 (c := c) (i := i) (h2 := h2) (h3 := h3) (h4 := h4) (h5 := h5) (h6 := h6) (h7 := h7) (h8 := h8) (a15 := a15) (a16 := a16) hin).ds_at r k)
theorem dkb18 (k : Fin 576) (d : Fin 128) : (kernelRun0_A.sl.v3048 (F := Ideal) c i a2 h2 a3 h3 a4 h4 a5 h5 a6 h6 a7 h7 a8 h8 a15 a16 x0 x1 x2 x3 x4 x5 x6) (ix2 k d) = (H.chunk 18).dkb k d :=
  ((reads18 (c := c) (i := i) (h2 := h2) (h3 := h3) (h4 := h4) (h5 := h5) (h6 := h6) (h7 := h7) (h8 := h8) (a15 := a15) (a16 := a16) hin).dkb_at (ds18 hin) k d)
theorem dvb18 (k : Fin 576) (d : Fin 128) : (kernelRun0_A.sl.v1983 (F := Ideal) c i a2 h2 a3 h3 a5 h5 a6 h6 a7 h7 a8 h8 a15 x0 x1 x3 x4 x5 x6) (ix2 k d) = (H.chunk 18).dvb k d :=
  ((reads18 (c := c) (i := i) (h2 := h2) (h3 := h3) (h4 := h3) (h5 := h5) (h6 := h6) (h7 := h7) (h8 := h8) (a15 := a15) (a16 := a15) hin).dvb_at k d)
theorem dq18 (r : Fin 64) (d : Fin 128) : (kernelRun0_A.sl.v4180 (F := Ideal) c i a2 h2 a3 h3 a4 h4 a5 h5 a6 h6 a7 h7 a8 h8 a15 a16 x0 x1 x2 x3 x4 x5 x6) (ix2 r d) = H.dq (Head.row 18 r) d :=
  (((reads18 (c := c) (i := i) (h2 := h2) (h3 := h3) (h4 := h4) (h5 := h5) (h6 := h6) (h7 := h7) (h8 := h8) (a15 := a15) (a16 := a16) hin).dq_at (ds18 hin) r d).trans (dq_row H 18 r d))
theorem dqg18 (d : Fin 128) : (kernelRun0_A.sl.v3485 (F := Ideal) c i a2 h2 a3 h3 a4 h4 a5 h5 a6 h6 a7 h7 a8 h8 a15 a16 x0 x1 x2 x3 x4 x5 x6) (ix2 0 d) = ∑ r, xn (H.q (Head.row 18 r)) d * (H.chunk 18).dqh r d :=
  ((reads18 (c := c) (i := i) (h2 := h2) (h3 := h3) (h4 := h4) (h5 := h5) (h6 := h6) (h7 := h7) (h8 := h8) (a15 := a15) (a16 := a16) hin).dqg_at (ds18 hin) d)
theorem reads19 : Reads (H.chunk 19) (start i 19#32) (rows a2 h2 x0 19) (rows a8 h8 x6 19) (gain a5 h5 x3)
    (kernelRun0_A.sl.v207 (F := Ideal) c i a3 h3 a6 h6 a15 x1 x4) (kernelRun0_A.sl.v271 (F := Ideal) c i a4 h4 a16 x2) (biases a7 h7 x5) :=
  reads_of hin 19 _ _ (band_of 19 (placed_k0_off1_19 i) _ _ _ _ (keys hin)) (band_of 19 (placed_k0_off1_19 i) _ _ _ _ (vals hin))
theorem ds19 (r : Fin 64) (k : Fin 576) : (kernelRun0_A.sl.v2885 (F := Ideal) c i a2 h2 a3 h3 a4 h4 a5 h5 a6 h6 a7 h7 a8 h8 a15 a16 x0 x1 x2 x3 x4 x5 x6) (ix2 r k) = (H.chunk 19).ds r k :=
  ((reads19 (c := c) (i := i) (h2 := h2) (h3 := h3) (h4 := h4) (h5 := h5) (h6 := h6) (h7 := h7) (h8 := h8) (a15 := a15) (a16 := a16) hin).ds_at r k)
theorem dkb19 (k : Fin 576) (d : Fin 128) : (kernelRun0_A.sl.v3039 (F := Ideal) c i a2 h2 a3 h3 a4 h4 a5 h5 a6 h6 a7 h7 a8 h8 a15 a16 x0 x1 x2 x3 x4 x5 x6) (ix2 k d) = (H.chunk 19).dkb k d :=
  ((reads19 (c := c) (i := i) (h2 := h2) (h3 := h3) (h4 := h4) (h5 := h5) (h6 := h6) (h7 := h7) (h8 := h8) (a15 := a15) (a16 := a16) hin).dkb_at (ds19 hin) k d)
theorem dvb19 (k : Fin 576) (d : Fin 128) : (kernelRun0_A.sl.v1977 (F := Ideal) c i a2 h2 a3 h3 a5 h5 a6 h6 a7 h7 a8 h8 a15 x0 x1 x3 x4 x5 x6) (ix2 k d) = (H.chunk 19).dvb k d :=
  ((reads19 (c := c) (i := i) (h2 := h2) (h3 := h3) (h4 := h3) (h5 := h5) (h6 := h6) (h7 := h7) (h8 := h8) (a15 := a15) (a16 := a15) hin).dvb_at k d)
theorem dq19 (r : Fin 64) (d : Fin 128) : (kernelRun0_A.sl.v4196 (F := Ideal) c i a2 h2 a3 h3 a4 h4 a5 h5 a6 h6 a7 h7 a8 h8 a15 a16 x0 x1 x2 x3 x4 x5 x6) (ix2 r d) = H.dq (Head.row 19 r) d :=
  (((reads19 (c := c) (i := i) (h2 := h2) (h3 := h3) (h4 := h4) (h5 := h5) (h6 := h6) (h7 := h7) (h8 := h8) (a15 := a15) (a16 := a16) hin).dq_at (ds19 hin) r d).trans (dq_row H 19 r d))
theorem dqg19 (d : Fin 128) : (kernelRun0_A.sl.v3464 (F := Ideal) c i a2 h2 a3 h3 a4 h4 a5 h5 a6 h6 a7 h7 a8 h8 a15 a16 x0 x1 x2 x3 x4 x5 x6) (ix2 0 d) = ∑ r, xn (H.q (Head.row 19 r)) d * (H.chunk 19).dqh r d :=
  ((reads19 (c := c) (i := i) (h2 := h2) (h3 := h3) (h4 := h4) (h5 := h5) (h6 := h6) (h7 := h7) (h8 := h8) (a15 := a15) (a16 := a16) hin).dqg_at (ds19 hin) d)
theorem reads20 : Reads (H.chunk 20) (start i 20#32) (rows a2 h2 x0 20) (rows a8 h8 x6 20) (gain a5 h5 x3)
    (kernelRun0_A.sl.v209 (F := Ideal) c i a3 h3 a6 h6 a15 x1 x4) (kernelRun0_A.sl.v273 (F := Ideal) c i a4 h4 a16 x2) (biases a7 h7 x5) :=
  reads_of hin 20 _ _ (band_of 20 (placed_k0_off1_20 i) _ _ _ _ (keys hin)) (band_of 20 (placed_k0_off1_20 i) _ _ _ _ (vals hin))
theorem ds20 (r : Fin 64) (k : Fin 576) : (kernelRun0_A.sl.v2883 (F := Ideal) c i a2 h2 a3 h3 a4 h4 a5 h5 a6 h6 a7 h7 a8 h8 a15 a16 x0 x1 x2 x3 x4 x5 x6) (ix2 r k) = (H.chunk 20).ds r k :=
  ((reads20 (c := c) (i := i) (h2 := h2) (h3 := h3) (h4 := h4) (h5 := h5) (h6 := h6) (h7 := h7) (h8 := h8) (a15 := a15) (a16 := a16) hin).ds_at r k)
theorem dkb20 (k : Fin 576) (d : Fin 128) : (kernelRun0_A.sl.v3030 (F := Ideal) c i a2 h2 a3 h3 a4 h4 a5 h5 a6 h6 a7 h7 a8 h8 a15 a16 x0 x1 x2 x3 x4 x5 x6) (ix2 k d) = (H.chunk 20).dkb k d :=
  ((reads20 (c := c) (i := i) (h2 := h2) (h3 := h3) (h4 := h4) (h5 := h5) (h6 := h6) (h7 := h7) (h8 := h8) (a15 := a15) (a16 := a16) hin).dkb_at (ds20 hin) k d)
theorem dvb20 (k : Fin 576) (d : Fin 128) : (kernelRun0_A.sl.v1971 (F := Ideal) c i a2 h2 a3 h3 a5 h5 a6 h6 a7 h7 a8 h8 a15 x0 x1 x3 x4 x5 x6) (ix2 k d) = (H.chunk 20).dvb k d :=
  ((reads20 (c := c) (i := i) (h2 := h2) (h3 := h3) (h4 := h3) (h5 := h5) (h6 := h6) (h7 := h7) (h8 := h8) (a15 := a15) (a16 := a15) hin).dvb_at k d)
theorem dq20 (r : Fin 64) (d : Fin 128) : (kernelRun0_A.sl.v4212 (F := Ideal) c i a2 h2 a3 h3 a4 h4 a5 h5 a6 h6 a7 h7 a8 h8 a15 a16 x0 x1 x2 x3 x4 x5 x6) (ix2 r d) = H.dq (Head.row 20 r) d :=
  (((reads20 (c := c) (i := i) (h2 := h2) (h3 := h3) (h4 := h4) (h5 := h5) (h6 := h6) (h7 := h7) (h8 := h8) (a15 := a15) (a16 := a16) hin).dq_at (ds20 hin) r d).trans (dq_row H 20 r d))
theorem dqg20 (d : Fin 128) : (kernelRun0_A.sl.v3443 (F := Ideal) c i a2 h2 a3 h3 a4 h4 a5 h5 a6 h6 a7 h7 a8 h8 a15 a16 x0 x1 x2 x3 x4 x5 x6) (ix2 0 d) = ∑ r, xn (H.q (Head.row 20 r)) d * (H.chunk 20).dqh r d :=
  ((reads20 (c := c) (i := i) (h2 := h2) (h3 := h3) (h4 := h4) (h5 := h5) (h6 := h6) (h7 := h7) (h8 := h8) (a15 := a15) (a16 := a16) hin).dqg_at (ds20 hin) d)
theorem reads21 : Reads (H.chunk 21) (start i 21#32) (rows a2 h2 x0 21) (rows a8 h8 x6 21) (gain a5 h5 x3)
    (kernelRun0_A.sl.v211 (F := Ideal) c i a3 h3 a6 h6 a15 x1 x4) (kernelRun0_A.sl.v275 (F := Ideal) c i a4 h4 a16 x2) (biases a7 h7 x5) :=
  reads_of hin 21 _ _ (band_of 21 (placed_k0_off1_21 i) _ _ _ _ (keys hin)) (band_of 21 (placed_k0_off1_21 i) _ _ _ _ (vals hin))
theorem ds21 (r : Fin 64) (k : Fin 576) : (kernelRun0_A.sl.v2881 (F := Ideal) c i a2 h2 a3 h3 a4 h4 a5 h5 a6 h6 a7 h7 a8 h8 a15 a16 x0 x1 x2 x3 x4 x5 x6) (ix2 r k) = (H.chunk 21).ds r k :=
  ((reads21 (c := c) (i := i) (h2 := h2) (h3 := h3) (h4 := h4) (h5 := h5) (h6 := h6) (h7 := h7) (h8 := h8) (a15 := a15) (a16 := a16) hin).ds_at r k)
theorem dkb21 (k : Fin 576) (d : Fin 128) : (kernelRun0_A.sl.v3021 (F := Ideal) c i a2 h2 a3 h3 a4 h4 a5 h5 a6 h6 a7 h7 a8 h8 a15 a16 x0 x1 x2 x3 x4 x5 x6) (ix2 k d) = (H.chunk 21).dkb k d :=
  ((reads21 (c := c) (i := i) (h2 := h2) (h3 := h3) (h4 := h4) (h5 := h5) (h6 := h6) (h7 := h7) (h8 := h8) (a15 := a15) (a16 := a16) hin).dkb_at (ds21 hin) k d)
theorem dvb21 (k : Fin 576) (d : Fin 128) : (kernelRun0_A.sl.v1965 (F := Ideal) c i a2 h2 a3 h3 a5 h5 a6 h6 a7 h7 a8 h8 a15 x0 x1 x3 x4 x5 x6) (ix2 k d) = (H.chunk 21).dvb k d :=
  ((reads21 (c := c) (i := i) (h2 := h2) (h3 := h3) (h4 := h3) (h5 := h5) (h6 := h6) (h7 := h7) (h8 := h8) (a15 := a15) (a16 := a15) hin).dvb_at k d)
theorem dq21 (r : Fin 64) (d : Fin 128) : (kernelRun0_A.sl.v4228 (F := Ideal) c i a2 h2 a3 h3 a4 h4 a5 h5 a6 h6 a7 h7 a8 h8 a15 a16 x0 x1 x2 x3 x4 x5 x6) (ix2 r d) = H.dq (Head.row 21 r) d :=
  (((reads21 (c := c) (i := i) (h2 := h2) (h3 := h3) (h4 := h4) (h5 := h5) (h6 := h6) (h7 := h7) (h8 := h8) (a15 := a15) (a16 := a16) hin).dq_at (ds21 hin) r d).trans (dq_row H 21 r d))
theorem dqg21 (d : Fin 128) : (kernelRun0_A.sl.v3422 (F := Ideal) c i a2 h2 a3 h3 a4 h4 a5 h5 a6 h6 a7 h7 a8 h8 a15 a16 x0 x1 x2 x3 x4 x5 x6) (ix2 0 d) = ∑ r, xn (H.q (Head.row 21 r)) d * (H.chunk 21).dqh r d :=
  ((reads21 (c := c) (i := i) (h2 := h2) (h3 := h3) (h4 := h4) (h5 := h5) (h6 := h6) (h7 := h7) (h8 := h8) (a15 := a15) (a16 := a16) hin).dqg_at (ds21 hin) d)
theorem reads22 : Reads (H.chunk 22) (start i 22#32) (rows a2 h2 x0 22) (rows a8 h8 x6 22) (gain a5 h5 x3)
    (kernelRun0_A.sl.v213 (F := Ideal) c i a3 h3 a6 h6 a15 x1 x4) (kernelRun0_A.sl.v277 (F := Ideal) c i a4 h4 a16 x2) (biases a7 h7 x5) :=
  reads_of hin 22 _ _ (band_of 22 (placed_k0_off1_22 i) _ _ _ _ (keys hin)) (band_of 22 (placed_k0_off1_22 i) _ _ _ _ (vals hin))
theorem ds22 (r : Fin 64) (k : Fin 576) : (kernelRun0_A.sl.v2879 (F := Ideal) c i a2 h2 a3 h3 a4 h4 a5 h5 a6 h6 a7 h7 a8 h8 a15 a16 x0 x1 x2 x3 x4 x5 x6) (ix2 r k) = (H.chunk 22).ds r k :=
  ((reads22 (c := c) (i := i) (h2 := h2) (h3 := h3) (h4 := h4) (h5 := h5) (h6 := h6) (h7 := h7) (h8 := h8) (a15 := a15) (a16 := a16) hin).ds_at r k)
theorem dkb22 (k : Fin 576) (d : Fin 128) : (kernelRun0_A.sl.v3012 (F := Ideal) c i a2 h2 a3 h3 a4 h4 a5 h5 a6 h6 a7 h7 a8 h8 a15 a16 x0 x1 x2 x3 x4 x5 x6) (ix2 k d) = (H.chunk 22).dkb k d :=
  ((reads22 (c := c) (i := i) (h2 := h2) (h3 := h3) (h4 := h4) (h5 := h5) (h6 := h6) (h7 := h7) (h8 := h8) (a15 := a15) (a16 := a16) hin).dkb_at (ds22 hin) k d)
theorem dvb22 (k : Fin 576) (d : Fin 128) : (kernelRun0_A.sl.v1959 (F := Ideal) c i a2 h2 a3 h3 a5 h5 a6 h6 a7 h7 a8 h8 a15 x0 x1 x3 x4 x5 x6) (ix2 k d) = (H.chunk 22).dvb k d :=
  ((reads22 (c := c) (i := i) (h2 := h2) (h3 := h3) (h4 := h3) (h5 := h5) (h6 := h6) (h7 := h7) (h8 := h8) (a15 := a15) (a16 := a15) hin).dvb_at k d)
theorem dq22 (r : Fin 64) (d : Fin 128) : (kernelRun0_A.sl.v4244 (F := Ideal) c i a2 h2 a3 h3 a4 h4 a5 h5 a6 h6 a7 h7 a8 h8 a15 a16 x0 x1 x2 x3 x4 x5 x6) (ix2 r d) = H.dq (Head.row 22 r) d :=
  (((reads22 (c := c) (i := i) (h2 := h2) (h3 := h3) (h4 := h4) (h5 := h5) (h6 := h6) (h7 := h7) (h8 := h8) (a15 := a15) (a16 := a16) hin).dq_at (ds22 hin) r d).trans (dq_row H 22 r d))
theorem dqg22 (d : Fin 128) : (kernelRun0_A.sl.v3401 (F := Ideal) c i a2 h2 a3 h3 a4 h4 a5 h5 a6 h6 a7 h7 a8 h8 a15 a16 x0 x1 x2 x3 x4 x5 x6) (ix2 0 d) = ∑ r, xn (H.q (Head.row 22 r)) d * (H.chunk 22).dqh r d :=
  ((reads22 (c := c) (i := i) (h2 := h2) (h3 := h3) (h4 := h4) (h5 := h5) (h6 := h6) (h7 := h7) (h8 := h8) (a15 := a15) (a16 := a16) hin).dqg_at (ds22 hin) d)
theorem reads23 : Reads (H.chunk 23) (start i 23#32) (rows a2 h2 x0 23) (rows a8 h8 x6 23) (gain a5 h5 x3)
    (kernelRun0_A.sl.v215 (F := Ideal) c i a3 h3 a6 h6 a15 x1 x4) (kernelRun0_A.sl.v279 (F := Ideal) c i a4 h4 a16 x2) (biases a7 h7 x5) :=
  reads_of hin 23 _ _ (band_of 23 (placed_k0_off1_23 i) _ _ _ _ (keys hin)) (band_of 23 (placed_k0_off1_23 i) _ _ _ _ (vals hin))
theorem ds23 (r : Fin 64) (k : Fin 576) : (kernelRun0_A.sl.v2877 (F := Ideal) c i a2 h2 a3 h3 a4 h4 a5 h5 a6 h6 a7 h7 a8 h8 a15 a16 x0 x1 x2 x3 x4 x5 x6) (ix2 r k) = (H.chunk 23).ds r k :=
  ((reads23 (c := c) (i := i) (h2 := h2) (h3 := h3) (h4 := h4) (h5 := h5) (h6 := h6) (h7 := h7) (h8 := h8) (a15 := a15) (a16 := a16) hin).ds_at r k)
theorem dkb23 (k : Fin 576) (d : Fin 128) : (kernelRun0_A.sl.v3003 (F := Ideal) c i a2 h2 a3 h3 a4 h4 a5 h5 a6 h6 a7 h7 a8 h8 a15 a16 x0 x1 x2 x3 x4 x5 x6) (ix2 k d) = (H.chunk 23).dkb k d :=
  ((reads23 (c := c) (i := i) (h2 := h2) (h3 := h3) (h4 := h4) (h5 := h5) (h6 := h6) (h7 := h7) (h8 := h8) (a15 := a15) (a16 := a16) hin).dkb_at (ds23 hin) k d)
theorem dvb23 (k : Fin 576) (d : Fin 128) : (kernelRun0_A.sl.v1953 (F := Ideal) c i a2 h2 a3 h3 a5 h5 a6 h6 a7 h7 a8 h8 a15 x0 x1 x3 x4 x5 x6) (ix2 k d) = (H.chunk 23).dvb k d :=
  ((reads23 (c := c) (i := i) (h2 := h2) (h3 := h3) (h4 := h3) (h5 := h5) (h6 := h6) (h7 := h7) (h8 := h8) (a15 := a15) (a16 := a15) hin).dvb_at k d)
theorem dq23 (r : Fin 64) (d : Fin 128) : (kernelRun0_A.sl.v4260 (F := Ideal) c i a2 h2 a3 h3 a4 h4 a5 h5 a6 h6 a7 h7 a8 h8 a15 a16 x0 x1 x2 x3 x4 x5 x6) (ix2 r d) = H.dq (Head.row 23 r) d :=
  (((reads23 (c := c) (i := i) (h2 := h2) (h3 := h3) (h4 := h4) (h5 := h5) (h6 := h6) (h7 := h7) (h8 := h8) (a15 := a15) (a16 := a16) hin).dq_at (ds23 hin) r d).trans (dq_row H 23 r d))
theorem dqg23 (d : Fin 128) : (kernelRun0_A.sl.v3380 (F := Ideal) c i a2 h2 a3 h3 a4 h4 a5 h5 a6 h6 a7 h7 a8 h8 a15 a16 x0 x1 x2 x3 x4 x5 x6) (ix2 0 d) = ∑ r, xn (H.q (Head.row 23 r)) d * (H.chunk 23).dqh r d :=
  ((reads23 (c := c) (i := i) (h2 := h2) (h3 := h3) (h4 := h4) (h5 := h5) (h6 := h6) (h7 := h7) (h8 := h8) (a15 := a15) (a16 := a16) hin).dqg_at (ds23 hin) d)
theorem reads24 : Reads (H.chunk 24) (start i 24#32) (rows a2 h2 x0 24) (rows a8 h8 x6 24) (gain a5 h5 x3)
    (kernelRun0_A.sl.v217 (F := Ideal) c i a3 h3 a6 h6 a15 x1 x4) (kernelRun0_A.sl.v281 (F := Ideal) c i a4 h4 a16 x2) (biases a7 h7 x5) :=
  reads_of hin 24 _ _ (band_of 24 (placed_k0_off1_24 i) _ _ _ _ (keys hin)) (band_of 24 (placed_k0_off1_24 i) _ _ _ _ (vals hin))
theorem ds24 (r : Fin 64) (k : Fin 576) : (kernelRun0_A.sl.v2875 (F := Ideal) c i a2 h2 a3 h3 a4 h4 a5 h5 a6 h6 a7 h7 a8 h8 a15 a16 x0 x1 x2 x3 x4 x5 x6) (ix2 r k) = (H.chunk 24).ds r k :=
  ((reads24 (c := c) (i := i) (h2 := h2) (h3 := h3) (h4 := h4) (h5 := h5) (h6 := h6) (h7 := h7) (h8 := h8) (a15 := a15) (a16 := a16) hin).ds_at r k)
theorem dkb24 (k : Fin 576) (d : Fin 128) : (kernelRun0_A.sl.v2994 (F := Ideal) c i a2 h2 a3 h3 a4 h4 a5 h5 a6 h6 a7 h7 a8 h8 a15 a16 x0 x1 x2 x3 x4 x5 x6) (ix2 k d) = (H.chunk 24).dkb k d :=
  ((reads24 (c := c) (i := i) (h2 := h2) (h3 := h3) (h4 := h4) (h5 := h5) (h6 := h6) (h7 := h7) (h8 := h8) (a15 := a15) (a16 := a16) hin).dkb_at (ds24 hin) k d)
theorem dvb24 (k : Fin 576) (d : Fin 128) : (kernelRun0_A.sl.v1947 (F := Ideal) c i a2 h2 a3 h3 a5 h5 a6 h6 a7 h7 a8 h8 a15 x0 x1 x3 x4 x5 x6) (ix2 k d) = (H.chunk 24).dvb k d :=
  ((reads24 (c := c) (i := i) (h2 := h2) (h3 := h3) (h4 := h3) (h5 := h5) (h6 := h6) (h7 := h7) (h8 := h8) (a15 := a15) (a16 := a15) hin).dvb_at k d)
theorem dq24 (r : Fin 64) (d : Fin 128) : (kernelRun0_A.sl.v4276 (F := Ideal) c i a2 h2 a3 h3 a4 h4 a5 h5 a6 h6 a7 h7 a8 h8 a15 a16 x0 x1 x2 x3 x4 x5 x6) (ix2 r d) = H.dq (Head.row 24 r) d :=
  (((reads24 (c := c) (i := i) (h2 := h2) (h3 := h3) (h4 := h4) (h5 := h5) (h6 := h6) (h7 := h7) (h8 := h8) (a15 := a15) (a16 := a16) hin).dq_at (ds24 hin) r d).trans (dq_row H 24 r d))
theorem dqg24 (d : Fin 128) : (kernelRun0_A.sl.v3359 (F := Ideal) c i a2 h2 a3 h3 a4 h4 a5 h5 a6 h6 a7 h7 a8 h8 a15 a16 x0 x1 x2 x3 x4 x5 x6) (ix2 0 d) = ∑ r, xn (H.q (Head.row 24 r)) d * (H.chunk 24).dqh r d :=
  ((reads24 (c := c) (i := i) (h2 := h2) (h3 := h3) (h4 := h4) (h5 := h5) (h6 := h6) (h7 := h7) (h8 := h8) (a15 := a15) (a16 := a16) hin).dqg_at (ds24 hin) d)
theorem reads25 : Reads (H.chunk 25) (start i 25#32) (rows a2 h2 x0 25) (rows a8 h8 x6 25) (gain a5 h5 x3)
    (kernelRun0_A.sl.v219 (F := Ideal) c i a3 h3 a6 h6 a15 x1 x4) (kernelRun0_A.sl.v283 (F := Ideal) c i a4 h4 a16 x2) (biases a7 h7 x5) :=
  reads_of hin 25 _ _ (band_of 25 (placed_k0_off1_25 i) _ _ _ _ (keys hin)) (band_of 25 (placed_k0_off1_25 i) _ _ _ _ (vals hin))
theorem ds25 (r : Fin 64) (k : Fin 576) : (kernelRun0_A.sl.v2873 (F := Ideal) c i a2 h2 a3 h3 a4 h4 a5 h5 a6 h6 a7 h7 a8 h8 a15 a16 x0 x1 x2 x3 x4 x5 x6) (ix2 r k) = (H.chunk 25).ds r k :=
  ((reads25 (c := c) (i := i) (h2 := h2) (h3 := h3) (h4 := h4) (h5 := h5) (h6 := h6) (h7 := h7) (h8 := h8) (a15 := a15) (a16 := a16) hin).ds_at r k)
theorem dkb25 (k : Fin 576) (d : Fin 128) : (kernelRun0_A.sl.v2985 (F := Ideal) c i a2 h2 a3 h3 a4 h4 a5 h5 a6 h6 a7 h7 a8 h8 a15 a16 x0 x1 x2 x3 x4 x5 x6) (ix2 k d) = (H.chunk 25).dkb k d :=
  ((reads25 (c := c) (i := i) (h2 := h2) (h3 := h3) (h4 := h4) (h5 := h5) (h6 := h6) (h7 := h7) (h8 := h8) (a15 := a15) (a16 := a16) hin).dkb_at (ds25 hin) k d)
theorem dvb25 (k : Fin 576) (d : Fin 128) : (kernelRun0_A.sl.v1941 (F := Ideal) c i a2 h2 a3 h3 a5 h5 a6 h6 a7 h7 a8 h8 a15 x0 x1 x3 x4 x5 x6) (ix2 k d) = (H.chunk 25).dvb k d :=
  ((reads25 (c := c) (i := i) (h2 := h2) (h3 := h3) (h4 := h3) (h5 := h5) (h6 := h6) (h7 := h7) (h8 := h8) (a15 := a15) (a16 := a15) hin).dvb_at k d)
theorem dq25 (r : Fin 64) (d : Fin 128) : (kernelRun0_A.sl.v4292 (F := Ideal) c i a2 h2 a3 h3 a4 h4 a5 h5 a6 h6 a7 h7 a8 h8 a15 a16 x0 x1 x2 x3 x4 x5 x6) (ix2 r d) = H.dq (Head.row 25 r) d :=
  (((reads25 (c := c) (i := i) (h2 := h2) (h3 := h3) (h4 := h4) (h5 := h5) (h6 := h6) (h7 := h7) (h8 := h8) (a15 := a15) (a16 := a16) hin).dq_at (ds25 hin) r d).trans (dq_row H 25 r d))
theorem dqg25 (d : Fin 128) : (kernelRun0_A.sl.v3338 (F := Ideal) c i a2 h2 a3 h3 a4 h4 a5 h5 a6 h6 a7 h7 a8 h8 a15 a16 x0 x1 x2 x3 x4 x5 x6) (ix2 0 d) = ∑ r, xn (H.q (Head.row 25 r)) d * (H.chunk 25).dqh r d :=
  ((reads25 (c := c) (i := i) (h2 := h2) (h3 := h3) (h4 := h4) (h5 := h5) (h6 := h6) (h7 := h7) (h8 := h8) (a15 := a15) (a16 := a16) hin).dqg_at (ds25 hin) d)
theorem reads26 : Reads (H.chunk 26) (start i 26#32) (rows a2 h2 x0 26) (rows a8 h8 x6 26) (gain a5 h5 x3)
    (kernelRun0_A.sl.v221 (F := Ideal) c i a3 h3 a6 h6 a15 x1 x4) (kernelRun0_A.sl.v285 (F := Ideal) c i a4 h4 a16 x2) (biases a7 h7 x5) :=
  reads_of hin 26 _ _ (band_of 26 (placed_k0_off1_26 i) _ _ _ _ (keys hin)) (band_of 26 (placed_k0_off1_26 i) _ _ _ _ (vals hin))
theorem ds26 (r : Fin 64) (k : Fin 576) : (kernelRun0_A.sl.v2871 (F := Ideal) c i a2 h2 a3 h3 a4 h4 a5 h5 a6 h6 a7 h7 a8 h8 a15 a16 x0 x1 x2 x3 x4 x5 x6) (ix2 r k) = (H.chunk 26).ds r k :=
  ((reads26 (c := c) (i := i) (h2 := h2) (h3 := h3) (h4 := h4) (h5 := h5) (h6 := h6) (h7 := h7) (h8 := h8) (a15 := a15) (a16 := a16) hin).ds_at r k)
theorem dkb26 (k : Fin 576) (d : Fin 128) : (kernelRun0_A.sl.v2976 (F := Ideal) c i a2 h2 a3 h3 a4 h4 a5 h5 a6 h6 a7 h7 a8 h8 a15 a16 x0 x1 x2 x3 x4 x5 x6) (ix2 k d) = (H.chunk 26).dkb k d :=
  ((reads26 (c := c) (i := i) (h2 := h2) (h3 := h3) (h4 := h4) (h5 := h5) (h6 := h6) (h7 := h7) (h8 := h8) (a15 := a15) (a16 := a16) hin).dkb_at (ds26 hin) k d)
theorem dvb26 (k : Fin 576) (d : Fin 128) : (kernelRun0_A.sl.v1935 (F := Ideal) c i a2 h2 a3 h3 a5 h5 a6 h6 a7 h7 a8 h8 a15 x0 x1 x3 x4 x5 x6) (ix2 k d) = (H.chunk 26).dvb k d :=
  ((reads26 (c := c) (i := i) (h2 := h2) (h3 := h3) (h4 := h3) (h5 := h5) (h6 := h6) (h7 := h7) (h8 := h8) (a15 := a15) (a16 := a15) hin).dvb_at k d)
theorem dq26 (r : Fin 64) (d : Fin 128) : (kernelRun0_A.sl.v4308 (F := Ideal) c i a2 h2 a3 h3 a4 h4 a5 h5 a6 h6 a7 h7 a8 h8 a15 a16 x0 x1 x2 x3 x4 x5 x6) (ix2 r d) = H.dq (Head.row 26 r) d :=
  (((reads26 (c := c) (i := i) (h2 := h2) (h3 := h3) (h4 := h4) (h5 := h5) (h6 := h6) (h7 := h7) (h8 := h8) (a15 := a15) (a16 := a16) hin).dq_at (ds26 hin) r d).trans (dq_row H 26 r d))
theorem dqg26 (d : Fin 128) : (kernelRun0_A.sl.v3317 (F := Ideal) c i a2 h2 a3 h3 a4 h4 a5 h5 a6 h6 a7 h7 a8 h8 a15 a16 x0 x1 x2 x3 x4 x5 x6) (ix2 0 d) = ∑ r, xn (H.q (Head.row 26 r)) d * (H.chunk 26).dqh r d :=
  ((reads26 (c := c) (i := i) (h2 := h2) (h3 := h3) (h4 := h4) (h5 := h5) (h6 := h6) (h7 := h7) (h8 := h8) (a15 := a15) (a16 := a16) hin).dqg_at (ds26 hin) d)
theorem reads27 : Reads (H.chunk 27) (start i 27#32) (rows a2 h2 x0 27) (rows a8 h8 x6 27) (gain a5 h5 x3)
    (kernelRun0_A.sl.v223 (F := Ideal) c i a3 h3 a6 h6 a15 x1 x4) (kernelRun0_A.sl.v287 (F := Ideal) c i a4 h4 a16 x2) (biases a7 h7 x5) :=
  reads_of hin 27 _ _ (band_of 27 (placed_k0_off1_27 i) _ _ _ _ (keys hin)) (band_of 27 (placed_k0_off1_27 i) _ _ _ _ (vals hin))
theorem ds27 (r : Fin 64) (k : Fin 576) : (kernelRun0_A.sl.v2869 (F := Ideal) c i a2 h2 a3 h3 a4 h4 a5 h5 a6 h6 a7 h7 a8 h8 a15 a16 x0 x1 x2 x3 x4 x5 x6) (ix2 r k) = (H.chunk 27).ds r k :=
  ((reads27 (c := c) (i := i) (h2 := h2) (h3 := h3) (h4 := h4) (h5 := h5) (h6 := h6) (h7 := h7) (h8 := h8) (a15 := a15) (a16 := a16) hin).ds_at r k)
theorem dkb27 (k : Fin 576) (d : Fin 128) : (kernelRun0_A.sl.v2967 (F := Ideal) c i a2 h2 a3 h3 a4 h4 a5 h5 a6 h6 a7 h7 a8 h8 a15 a16 x0 x1 x2 x3 x4 x5 x6) (ix2 k d) = (H.chunk 27).dkb k d :=
  ((reads27 (c := c) (i := i) (h2 := h2) (h3 := h3) (h4 := h4) (h5 := h5) (h6 := h6) (h7 := h7) (h8 := h8) (a15 := a15) (a16 := a16) hin).dkb_at (ds27 hin) k d)
theorem dvb27 (k : Fin 576) (d : Fin 128) : (kernelRun0_A.sl.v1929 (F := Ideal) c i a2 h2 a3 h3 a5 h5 a6 h6 a7 h7 a8 h8 a15 x0 x1 x3 x4 x5 x6) (ix2 k d) = (H.chunk 27).dvb k d :=
  ((reads27 (c := c) (i := i) (h2 := h2) (h3 := h3) (h4 := h3) (h5 := h5) (h6 := h6) (h7 := h7) (h8 := h8) (a15 := a15) (a16 := a15) hin).dvb_at k d)
theorem dq27 (r : Fin 64) (d : Fin 128) : (kernelRun0_A.sl.v4324 (F := Ideal) c i a2 h2 a3 h3 a4 h4 a5 h5 a6 h6 a7 h7 a8 h8 a15 a16 x0 x1 x2 x3 x4 x5 x6) (ix2 r d) = H.dq (Head.row 27 r) d :=
  (((reads27 (c := c) (i := i) (h2 := h2) (h3 := h3) (h4 := h4) (h5 := h5) (h6 := h6) (h7 := h7) (h8 := h8) (a15 := a15) (a16 := a16) hin).dq_at (ds27 hin) r d).trans (dq_row H 27 r d))
theorem dqg27 (d : Fin 128) : (kernelRun0_A.sl.v3296 (F := Ideal) c i a2 h2 a3 h3 a4 h4 a5 h5 a6 h6 a7 h7 a8 h8 a15 a16 x0 x1 x2 x3 x4 x5 x6) (ix2 0 d) = ∑ r, xn (H.q (Head.row 27 r)) d * (H.chunk 27).dqh r d :=
  ((reads27 (c := c) (i := i) (h2 := h2) (h3 := h3) (h4 := h4) (h5 := h5) (h6 := h6) (h7 := h7) (h8 := h8) (a15 := a15) (a16 := a16) hin).dqg_at (ds27 hin) d)
theorem reads28 : Reads (H.chunk 28) (start i 28#32) (rows a2 h2 x0 28) (rows a8 h8 x6 28) (gain a5 h5 x3)
    (kernelRun0_A.sl.v225 (F := Ideal) c i a3 h3 a6 h6 a15 x1 x4) (kernelRun0_A.sl.v289 (F := Ideal) c i a4 h4 a16 x2) (biases a7 h7 x5) :=
  reads_of hin 28 _ _ (band_of 28 (placed_k0_off1_28 i) _ _ _ _ (keys hin)) (band_of 28 (placed_k0_off1_28 i) _ _ _ _ (vals hin))
theorem ds28 (r : Fin 64) (k : Fin 576) : (kernelRun0_A.sl.v2867 (F := Ideal) c i a2 h2 a3 h3 a4 h4 a5 h5 a6 h6 a7 h7 a8 h8 a15 a16 x0 x1 x2 x3 x4 x5 x6) (ix2 r k) = (H.chunk 28).ds r k :=
  ((reads28 (c := c) (i := i) (h2 := h2) (h3 := h3) (h4 := h4) (h5 := h5) (h6 := h6) (h7 := h7) (h8 := h8) (a15 := a15) (a16 := a16) hin).ds_at r k)
theorem dkb28 (k : Fin 576) (d : Fin 128) : (kernelRun0_A.sl.v2958 (F := Ideal) c i a2 h2 a3 h3 a4 h4 a5 h5 a6 h6 a7 h7 a8 h8 a15 a16 x0 x1 x2 x3 x4 x5 x6) (ix2 k d) = (H.chunk 28).dkb k d :=
  ((reads28 (c := c) (i := i) (h2 := h2) (h3 := h3) (h4 := h4) (h5 := h5) (h6 := h6) (h7 := h7) (h8 := h8) (a15 := a15) (a16 := a16) hin).dkb_at (ds28 hin) k d)
theorem dvb28 (k : Fin 576) (d : Fin 128) : (kernelRun0_A.sl.v1923 (F := Ideal) c i a2 h2 a3 h3 a5 h5 a6 h6 a7 h7 a8 h8 a15 x0 x1 x3 x4 x5 x6) (ix2 k d) = (H.chunk 28).dvb k d :=
  ((reads28 (c := c) (i := i) (h2 := h2) (h3 := h3) (h4 := h3) (h5 := h5) (h6 := h6) (h7 := h7) (h8 := h8) (a15 := a15) (a16 := a15) hin).dvb_at k d)
theorem dq28 (r : Fin 64) (d : Fin 128) : (kernelRun0_A.sl.v4340 (F := Ideal) c i a2 h2 a3 h3 a4 h4 a5 h5 a6 h6 a7 h7 a8 h8 a15 a16 x0 x1 x2 x3 x4 x5 x6) (ix2 r d) = H.dq (Head.row 28 r) d :=
  (((reads28 (c := c) (i := i) (h2 := h2) (h3 := h3) (h4 := h4) (h5 := h5) (h6 := h6) (h7 := h7) (h8 := h8) (a15 := a15) (a16 := a16) hin).dq_at (ds28 hin) r d).trans (dq_row H 28 r d))
theorem dqg28 (d : Fin 128) : (kernelRun0_A.sl.v3275 (F := Ideal) c i a2 h2 a3 h3 a4 h4 a5 h5 a6 h6 a7 h7 a8 h8 a15 a16 x0 x1 x2 x3 x4 x5 x6) (ix2 0 d) = ∑ r, xn (H.q (Head.row 28 r)) d * (H.chunk 28).dqh r d :=
  ((reads28 (c := c) (i := i) (h2 := h2) (h3 := h3) (h4 := h4) (h5 := h5) (h6 := h6) (h7 := h7) (h8 := h8) (a15 := a15) (a16 := a16) hin).dqg_at (ds28 hin) d)
theorem reads29 : Reads (H.chunk 29) (start i 29#32) (rows a2 h2 x0 29) (rows a8 h8 x6 29) (gain a5 h5 x3)
    (kernelRun0_A.sl.v227 (F := Ideal) c i a3 h3 a6 h6 a15 x1 x4) (kernelRun0_A.sl.v291 (F := Ideal) c i a4 h4 a16 x2) (biases a7 h7 x5) :=
  reads_of hin 29 _ _ (band_of 29 (placed_k0_off1_29 i) _ _ _ _ (keys hin)) (band_of 29 (placed_k0_off1_29 i) _ _ _ _ (vals hin))
theorem ds29 (r : Fin 64) (k : Fin 576) : (kernelRun0_A.sl.v2865 (F := Ideal) c i a2 h2 a3 h3 a4 h4 a5 h5 a6 h6 a7 h7 a8 h8 a15 a16 x0 x1 x2 x3 x4 x5 x6) (ix2 r k) = (H.chunk 29).ds r k :=
  ((reads29 (c := c) (i := i) (h2 := h2) (h3 := h3) (h4 := h4) (h5 := h5) (h6 := h6) (h7 := h7) (h8 := h8) (a15 := a15) (a16 := a16) hin).ds_at r k)
theorem dkb29 (k : Fin 576) (d : Fin 128) : (kernelRun0_A.sl.v2949 (F := Ideal) c i a2 h2 a3 h3 a4 h4 a5 h5 a6 h6 a7 h7 a8 h8 a15 a16 x0 x1 x2 x3 x4 x5 x6) (ix2 k d) = (H.chunk 29).dkb k d :=
  ((reads29 (c := c) (i := i) (h2 := h2) (h3 := h3) (h4 := h4) (h5 := h5) (h6 := h6) (h7 := h7) (h8 := h8) (a15 := a15) (a16 := a16) hin).dkb_at (ds29 hin) k d)
theorem dvb29 (k : Fin 576) (d : Fin 128) : (kernelRun0_A.sl.v1917 (F := Ideal) c i a2 h2 a3 h3 a5 h5 a6 h6 a7 h7 a8 h8 a15 x0 x1 x3 x4 x5 x6) (ix2 k d) = (H.chunk 29).dvb k d :=
  ((reads29 (c := c) (i := i) (h2 := h2) (h3 := h3) (h4 := h3) (h5 := h5) (h6 := h6) (h7 := h7) (h8 := h8) (a15 := a15) (a16 := a15) hin).dvb_at k d)
theorem dq29 (r : Fin 64) (d : Fin 128) : (kernelRun0_A.sl.v4356 (F := Ideal) c i a2 h2 a3 h3 a4 h4 a5 h5 a6 h6 a7 h7 a8 h8 a15 a16 x0 x1 x2 x3 x4 x5 x6) (ix2 r d) = H.dq (Head.row 29 r) d :=
  (((reads29 (c := c) (i := i) (h2 := h2) (h3 := h3) (h4 := h4) (h5 := h5) (h6 := h6) (h7 := h7) (h8 := h8) (a15 := a15) (a16 := a16) hin).dq_at (ds29 hin) r d).trans (dq_row H 29 r d))
theorem dqg29 (d : Fin 128) : (kernelRun0_A.sl.v3254 (F := Ideal) c i a2 h2 a3 h3 a4 h4 a5 h5 a6 h6 a7 h7 a8 h8 a15 a16 x0 x1 x2 x3 x4 x5 x6) (ix2 0 d) = ∑ r, xn (H.q (Head.row 29 r)) d * (H.chunk 29).dqh r d :=
  ((reads29 (c := c) (i := i) (h2 := h2) (h3 := h3) (h4 := h4) (h5 := h5) (h6 := h6) (h7 := h7) (h8 := h8) (a15 := a15) (a16 := a16) hin).dqg_at (ds29 hin) d)
theorem reads30 : Reads (H.chunk 30) (start i 30#32) (rows a2 h2 x0 30) (rows a8 h8 x6 30) (gain a5 h5 x3)
    (kernelRun0_A.sl.v229 (F := Ideal) c i a3 h3 a6 h6 a15 x1 x4) (kernelRun0_A.sl.v293 (F := Ideal) c i a4 h4 a16 x2) (biases a7 h7 x5) :=
  reads_of hin 30 _ _ (band_of 30 (placed_k0_off1_30 i) _ _ _ _ (keys hin)) (band_of 30 (placed_k0_off1_30 i) _ _ _ _ (vals hin))
theorem ds30 (r : Fin 64) (k : Fin 576) : (kernelRun0_A.sl.v2863 (F := Ideal) c i a2 h2 a3 h3 a4 h4 a5 h5 a6 h6 a7 h7 a8 h8 a15 a16 x0 x1 x2 x3 x4 x5 x6) (ix2 r k) = (H.chunk 30).ds r k :=
  ((reads30 (c := c) (i := i) (h2 := h2) (h3 := h3) (h4 := h4) (h5 := h5) (h6 := h6) (h7 := h7) (h8 := h8) (a15 := a15) (a16 := a16) hin).ds_at r k)
theorem dkb30 (k : Fin 576) (d : Fin 128) : (kernelRun0_A.sl.v2940 (F := Ideal) c i a2 h2 a3 h3 a4 h4 a5 h5 a6 h6 a7 h7 a8 h8 a15 a16 x0 x1 x2 x3 x4 x5 x6) (ix2 k d) = (H.chunk 30).dkb k d :=
  ((reads30 (c := c) (i := i) (h2 := h2) (h3 := h3) (h4 := h4) (h5 := h5) (h6 := h6) (h7 := h7) (h8 := h8) (a15 := a15) (a16 := a16) hin).dkb_at (ds30 hin) k d)
theorem dvb30 (k : Fin 576) (d : Fin 128) : (kernelRun0_A.sl.v1911 (F := Ideal) c i a2 h2 a3 h3 a5 h5 a6 h6 a7 h7 a8 h8 a15 x0 x1 x3 x4 x5 x6) (ix2 k d) = (H.chunk 30).dvb k d :=
  ((reads30 (c := c) (i := i) (h2 := h2) (h3 := h3) (h4 := h3) (h5 := h5) (h6 := h6) (h7 := h7) (h8 := h8) (a15 := a15) (a16 := a15) hin).dvb_at k d)
theorem dq30 (r : Fin 64) (d : Fin 128) : (kernelRun0_A.sl.v4372 (F := Ideal) c i a2 h2 a3 h3 a4 h4 a5 h5 a6 h6 a7 h7 a8 h8 a15 a16 x0 x1 x2 x3 x4 x5 x6) (ix2 r d) = H.dq (Head.row 30 r) d :=
  (((reads30 (c := c) (i := i) (h2 := h2) (h3 := h3) (h4 := h4) (h5 := h5) (h6 := h6) (h7 := h7) (h8 := h8) (a15 := a15) (a16 := a16) hin).dq_at (ds30 hin) r d).trans (dq_row H 30 r d))
theorem dqg30 (d : Fin 128) : (kernelRun0_A.sl.v3233 (F := Ideal) c i a2 h2 a3 h3 a4 h4 a5 h5 a6 h6 a7 h7 a8 h8 a15 a16 x0 x1 x2 x3 x4 x5 x6) (ix2 0 d) = ∑ r, xn (H.q (Head.row 30 r)) d * (H.chunk 30).dqh r d :=
  ((reads30 (c := c) (i := i) (h2 := h2) (h3 := h3) (h4 := h4) (h5 := h5) (h6 := h6) (h7 := h7) (h8 := h8) (a15 := a15) (a16 := a16) hin).dqg_at (ds30 hin) d)
theorem reads31 : Reads (H.chunk 31) (start i 31#32) (rows a2 h2 x0 31) (rows a8 h8 x6 31) (gain a5 h5 x3)
    (kernelRun0_A.sl.v231 (F := Ideal) c i a3 h3 a6 h6 a15 x1 x4) (kernelRun0_A.sl.v295 (F := Ideal) c i a4 h4 a16 x2) (biases a7 h7 x5) :=
  reads_of hin 31 _ _ (band_of 31 (placed_k0_off1_31 i) _ _ _ _ (keys hin)) (band_of 31 (placed_k0_off1_31 i) _ _ _ _ (vals hin))
theorem ds31 (r : Fin 64) (k : Fin 576) : (kernelRun0_A.sl.v2861 (F := Ideal) c i a2 h2 a3 h3 a4 h4 a5 h5 a6 h6 a7 h7 a8 h8 a15 a16 x0 x1 x2 x3 x4 x5 x6) (ix2 r k) = (H.chunk 31).ds r k :=
  ((reads31 (c := c) (i := i) (h2 := h2) (h3 := h3) (h4 := h4) (h5 := h5) (h6 := h6) (h7 := h7) (h8 := h8) (a15 := a15) (a16 := a16) hin).ds_at r k)
theorem dkb31 (k : Fin 576) (d : Fin 128) : (kernelRun0_A.sl.v2931 (F := Ideal) c i a2 h2 a3 h3 a4 h4 a5 h5 a6 h6 a7 h7 a8 h8 a15 a16 x0 x1 x2 x3 x4 x5 x6) (ix2 k d) = (H.chunk 31).dkb k d :=
  ((reads31 (c := c) (i := i) (h2 := h2) (h3 := h3) (h4 := h4) (h5 := h5) (h6 := h6) (h7 := h7) (h8 := h8) (a15 := a15) (a16 := a16) hin).dkb_at (ds31 hin) k d)
theorem dvb31 (k : Fin 576) (d : Fin 128) : (kernelRun0_A.sl.v1905 (F := Ideal) c i a2 h2 a3 h3 a5 h5 a6 h6 a7 h7 a8 h8 a15 x0 x1 x3 x4 x5 x6) (ix2 k d) = (H.chunk 31).dvb k d :=
  ((reads31 (c := c) (i := i) (h2 := h2) (h3 := h3) (h4 := h3) (h5 := h5) (h6 := h6) (h7 := h7) (h8 := h8) (a15 := a15) (a16 := a15) hin).dvb_at k d)
theorem dq31 (r : Fin 64) (d : Fin 128) : (k0_pay1009 (F := Ideal) (kernelRun0_A.sl.v3230 (F := Ideal) c i a2 h2 a3 h3 a4 h4 a5 h5 a6 h6 a7 h7 a8 h8 a15 a16 x0 x1 x2 x3 x4 x5 x6)) (ix2 r d) = H.dq (Head.row 31 r) d :=
  (((reads31 (c := c) (i := i) (h2 := h2) (h3 := h3) (h4 := h4) (h5 := h5) (h6 := h6) (h7 := h7) (h8 := h8) (a15 := a15) (a16 := a16) hin).dq_at (ds31 hin) r d).trans (dq_row H 31 r d))
theorem dqg31 (d : Fin 128) : (kernelRun0_A.sl.v3213 (F := Ideal) c i a2 h2 a3 h3 a4 h4 a5 h5 a6 h6 a7 h7 a8 h8 a15 a16 x0 x1 x2 x3 x4 x5 x6) (ix2 0 d) = ∑ r, xn (H.q (Head.row 31 r)) d * (H.chunk 31).dqh r d :=
  ((reads31 (c := c) (i := i) (h2 := h2) (h3 := h3) (h4 := h4) (h5 := h5) (h6 := h6) (h7 := h7) (h8 := h8) (a15 := a15) (a16 := a16) hin).dqg_at (ds31 hin) d)

end Cert.Ker.A
-- ==== Proof.TA.lean ====
/-
  The tables and the sums of the body at a grid's first point.
-/
module

public import proofs.«01_k».proof.Proof.KA

@[expose] public section

set_option maxRecDepth 16384

noncomputable section

namespace Cert.Ker.A

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a15 a16 a17 a18 : Memref sig .tc .vmem S2560x128 .f32}
  {x0 x1 x2 : Vec Ideal S2048x128 .f32} {x3 x4 : Vec Ideal S1x128 .f32} {x5 : Vec Ideal S1x64x576 .f32} {x6 : Vec Ideal S2048x128 .f32}
  (hin : Inputs H x0 x1 x2 x3 x4 x5 x6)

theorem tab1 (y : Fin 2560) (d : Fin 128) : tab (kernelRun0_A.sl.HS2_1 (F := Ideal)) y d = 0 := zerotab_at _ y d
include hin
theorem tk2 (y : Fin 2560) (d : Fin 128) : tab (kernelRun0_A.sl.HS2_2 (F := Ideal) c i a2 h2 a3 h3 a4 h4 a5 h5 a6 h6 a7 h7 a8 h8 a15 a16 a17 x0 x1 x2 x3 x4 x5 x6) y d =
    tab (kernelRun0_A.sl.HS2_1 (F := Ideal)) y d + Head.at_ (H.chunk 0).dkb 0 y.val d :=
  rmw_at 0 rfl (placed_k0_off1_0 i) a17.view _ _ _ (kernelRun0_A.sl.v3210 (F := Ideal) c i a2 h2 a3 h3 a4 h4 a5 h5 a6 h6 a7 h7 a8 h8 a15 a16 x0 x1 x2 x3 x4 x5 x6) _ rfl _ (dkb0 (c := c) (i := i) (h2 := h2) (h3 := h3) (h4 := h4) (h5 := h5) (h6 := h6) (h7 := h7) (h8 := h8) (a15 := a15) (a16 := a16) hin) y d
theorem tk3 (y : Fin 2560) (d : Fin 128) : tab (kernelRun0_A.sl.HS2_3 (F := Ideal) c i a2 h2 a3 h3 a4 h4 a5 h5 a6 h6 a7 h7 a8 h8 a15 a16 a17 x0 x1 x2 x3 x4 x5 x6) y d =
    tab (kernelRun0_A.sl.HS2_2 (F := Ideal) c i a2 h2 a3 h3 a4 h4 a5 h5 a6 h6 a7 h7 a8 h8 a15 a16 a17 x0 x1 x2 x3 x4 x5 x6) y d + Head.at_ (H.chunk 1).dkb 1 y.val d :=
  rmw_at 1 rfl (placed_k0_off1_1 i) a17.view _ _ _ (kernelRun0_A.sl.v3201 (F := Ideal) c i a2 h2 a3 h3 a4 h4 a5 h5 a6 h6 a7 h7 a8 h8 a15 a16 x0 x1 x2 x3 x4 x5 x6) _ rfl _ (dkb1 (c := c) (i := i) (h2 := h2) (h3 := h3) (h4 := h4) (h5 := h5) (h6 := h6) (h7 := h7) (h8 := h8) (a15 := a15) (a16 := a16) hin) y d
theorem tk4 (y : Fin 2560) (d : Fin 128) : tab (kernelRun0_A.sl.HS2_4 (F := Ideal) c i a2 h2 a3 h3 a4 h4 a5 h5 a6 h6 a7 h7 a8 h8 a15 a16 a17 x0 x1 x2 x3 x4 x5 x6) y d =
    tab (kernelRun0_A.sl.HS2_3 (F := Ideal) c i a2 h2 a3 h3 a4 h4 a5 h5 a6 h6 a7 h7 a8 h8 a15 a16 a17 x0 x1 x2 x3 x4 x5 x6) y d + Head.at_ (H.chunk 2).dkb 2 y.val d :=
  rmw_at 2 rfl (placed_k0_off1_2 i) a17.view _ _ _ (kernelRun0_A.sl.v3192 (F := Ideal) c i a2 h2 a3 h3 a4 h4 a5 h5 a6 h6 a7 h7 a8 h8 a15 a16 x0 x1 x2 x3 x4 x5 x6) _ rfl _ (dkb2 (c := c) (i := i) (h2 := h2) (h3 := h3) (h4 := h4) (h5 := h5) (h6 := h6) (h7 := h7) (h8 := h8) (a15 := a15) (a16 := a16) hin) y d
theorem tk5 (y : Fin 2560) (d : Fin 128) : tab (kernelRun0_A.sl.HS2_5 (F := Ideal) c i a2 h2 a3 h3 a4 h4 a5 h5 a6 h6 a7 h7 a8 h8 a15 a16 a17 x0 x1 x2 x3 x4 x5 x6) y d =
    tab (kernelRun0_A.sl.HS2_4 (F := Ideal) c i a2 h2 a3 h3 a4 h4 a5 h5 a6 h6 a7 h7 a8 h8 a15 a16 a17 x0 x1 x2 x3 x4 x5 x6) y d + Head.at_ (H.chunk 3).dkb 3 y.val d :=
  rmw_at 3 rfl (placed_k0_off1_3 i) a17.view _ _ _ (kernelRun0_A.sl.v3183 (F := Ideal) c i a2 h2 a3 h3 a4 h4 a5 h5 a6 h6 a7 h7 a8 h8 a15 a16 x0 x1 x2 x3 x4 x5 x6) _ rfl _ (dkb3 (c := c) (i := i) (h2 := h2) (h3 := h3) (h4 := h4) (h5 := h5) (h6 := h6) (h7 := h7) (h8 := h8) (a15 := a15) (a16 := a16) hin) y d
theorem tk6 (y : Fin 2560) (d : Fin 128) : tab (kernelRun0_A.sl.HS2_6 (F := Ideal) c i a2 h2 a3 h3 a4 h4 a5 h5 a6 h6 a7 h7 a8 h8 a15 a16 a17 x0 x1 x2 x3 x4 x5 x6) y d =
    tab (kernelRun0_A.sl.HS2_5 (F := Ideal) c i a2 h2 a3 h3 a4 h4 a5 h5 a6 h6 a7 h7 a8 h8 a15 a16 a17 x0 x1 x2 x3 x4 x5 x6) y d + Head.at_ (H.chunk 4).dkb 4 y.val d :=
  rmw_at 4 rfl (placed_k0_off1_4 i) a17.view _ _ _ (kernelRun0_A.sl.v3174 (F := Ideal) c i a2 h2 a3 h3 a4 h4 a5 h5 a6 h6 a7 h7 a8 h8 a15 a16 x0 x1 x2 x3 x4 x5 x6) _ rfl _ (dkb4 (c := c) (i := i) (h2 := h2) (h3 := h3) (h4 := h4) (h5 := h5) (h6 := h6) (h7 := h7) (h8 := h8) (a15 := a15) (a16 := a16) hin) y d
theorem tk7 (y : Fin 2560) (d : Fin 128) : tab (kernelRun0_A.sl.HS2_7 (F := Ideal) c i a2 h2 a3 h3 a4 h4 a5 h5 a6 h6 a7 h7 a8 h8 a15 a16 a17 x0 x1 x2 x3 x4 x5 x6) y d =
    tab (kernelRun0_A.sl.HS2_6 (F := Ideal) c i a2 h2 a3 h3 a4 h4 a5 h5 a6 h6 a7 h7 a8 h8 a15 a16 a17 x0 x1 x2 x3 x4 x5 x6) y d + Head.at_ (H.chunk 5).dkb 5 y.val d :=
  rmw_at 5 rfl (placed_k0_off1_5 i) a17.view _ _ _ (kernelRun0_A.sl.v3165 (F := Ideal) c i a2 h2 a3 h3 a4 h4 a5 h5 a6 h6 a7 h7 a8 h8 a15 a16 x0 x1 x2 x3 x4 x5 x6) _ rfl _ (dkb5 (c := c) (i := i) (h2 := h2) (h3 := h3) (h4 := h4) (h5 := h5) (h6 := h6) (h7 := h7) (h8 := h8) (a15 := a15) (a16 := a16) hin) y d
theorem tk8 (y : Fin 2560) (d : Fin 128) : tab (kernelRun0_A.sl.HS2_8 (F := Ideal) c i a2 h2 a3 h3 a4 h4 a5 h5 a6 h6 a7 h7 a8 h8 a15 a16 a17 x0 x1 x2 x3 x4 x5 x6) y d =
    tab (kernelRun0_A.sl.HS2_7 (F := Ideal) c i a2 h2 a3 h3 a4 h4 a5 h5 a6 h6 a7 h7 a8 h8 a15 a16 a17 x0 x1 x2 x3 x4 x5 x6) y d + Head.at_ (H.chunk 6).dkb 6 y.val d :=
  rmw_at 6 rfl (placed_k0_off1_6 i) a17.view _ _ _ (kernelRun0_A.sl.v3156 (F := Ideal) c i a2 h2 a3 h3 a4 h4 a5 h5 a6 h6 a7 h7 a8 h8 a15 a16 x0 x1 x2 x3 x4 x5 x6) _ rfl _ (dkb6 (c := c) (i := i) (h2 := h2) (h3 := h3) (h4 := h4) (h5 := h5) (h6 := h6) (h7 := h7) (h8 := h8) (a15 := a15) (a16 := a16) hin) y d
theorem tk9 (y : Fin 2560) (d : Fin 128) : tab (kernelRun0_A.sl.HS2_9 (F := Ideal) c i a2 h2 a3 h3 a4 h4 a5 h5 a6 h6 a7 h7 a8 h8 a15 a16 a17 x0 x1 x2 x3 x4 x5 x6) y d =
    tab (kernelRun0_A.sl.HS2_8 (F := Ideal) c i a2 h2 a3 h3 a4 h4 a5 h5 a6 h6 a7 h7 a8 h8 a15 a16 a17 x0 x1 x2 x3 x4 x5 x6) y d + Head.at_ (H.chunk 7).dkb 7 y.val d :=
  rmw_at 7 rfl (placed_k0_off1_7 i) a17.view _ _ _ (kernelRun0_A.sl.v3147 (F := Ideal) c i a2 h2 a3 h3 a4 h4 a5 h5 a6 h6 a7 h7 a8 h8 a15 a16 x0 x1 x2 x3 x4 x5 x6) _ rfl _ (dkb7 (c := c) (i := i) (h2 := h2) (h3 := h3) (h4 := h4) (h5 := h5) (h6 := h6) (h7 := h7) (h8 := h8) (a15 := a15) (a16 := a16) hin) y d
theorem tk10 (y : Fin 2560) (d : Fin 128) : tab (kernelRun0_A.sl.HS2_10 (F := Ideal) c i a2 h2 a3 h3 a4 h4 a5 h5 a6 h6 a7 h7 a8 h8 a15 a16 a17 x0 x1 x2 x3 x4 x5 x6) y d =
    tab (kernelRun0_A.sl.HS2_9 (F := Ideal) c i a2 h2 a3 h3 a4 h4 a5 h5 a6 h6 a7 h7 a8 h8 a15 a16 a17 x0 x1 x2 x3 x4 x5 x6) y d + Head.at_ (H.chunk 8).dkb 8 y.val d :=
  rmw_at 8 rfl (placed_k0_off1_8 i) a17.view _ _ _ (kernelRun0_A.sl.v3138 (F := Ideal) c i a2 h2 a3 h3 a4 h4 a5 h5 a6 h6 a7 h7 a8 h8 a15 a16 x0 x1 x2 x3 x4 x5 x6) _ rfl _ (dkb8 (c := c) (i := i) (h2 := h2) (h3 := h3) (h4 := h4) (h5 := h5) (h6 := h6) (h7 := h7) (h8 := h8) (a15 := a15) (a16 := a16) hin) y d
theorem tk11 (y : Fin 2560) (d : Fin 128) : tab (kernelRun0_A.sl.HS2_11 (F := Ideal) c i a2 h2 a3 h3 a4 h4 a5 h5 a6 h6 a7 h7 a8 h8 a15 a16 a17 x0 x1 x2 x3 x4 x5 x6) y d =
    tab (kernelRun0_A.sl.HS2_10 (F := Ideal) c i a2 h2 a3 h3 a4 h4 a5 h5 a6 h6 a7 h7 a8 h8 a15 a16 a17 x0 x1 x2 x3 x4 x5 x6) y d + Head.at_ (H.chunk 9).dkb 9 y.val d :=
  rmw_at 9 rfl (placed_k0_off1_9 i) a17.view _ _ _ (kernelRun0_A.sl.v3129 (F := Ideal) c i a2 h2 a3 h3 a4 h4 a5 h5 a6 h6 a7 h7 a8 h8 a15 a16 x0 x1 x2 x3 x4 x5 x6) _ rfl _ (dkb9 (c := c) (i := i) (h2 := h2) (h3 := h3) (h4 := h4) (h5 := h5) (h6 := h6) (h7 := h7) (h8 := h8) (a15 := a15) (a16 := a16) hin) y d
theorem tk12 (y : Fin 2560) (d : Fin 128) : tab (kernelRun0_A.sl.HS2_12 (F := Ideal) c i a2 h2 a3 h3 a4 h4 a5 h5 a6 h6 a7 h7 a8 h8 a15 a16 a17 x0 x1 x2 x3 x4 x5 x6) y d =
    tab (kernelRun0_A.sl.HS2_11 (F := Ideal) c i a2 h2 a3 h3 a4 h4 a5 h5 a6 h6 a7 h7 a8 h8 a15 a16 a17 x0 x1 x2 x3 x4 x5 x6) y d + Head.at_ (H.chunk 10).dkb 10 y.val d :=
  rmw_at 10 rfl (placed_k0_off1_10 i) a17.view _ _ _ (kernelRun0_A.sl.v3120 (F := Ideal) c i a2 h2 a3 h3 a4 h4 a5 h5 a6 h6 a7 h7 a8 h8 a15 a16 x0 x1 x2 x3 x4 x5 x6) _ rfl _ (dkb10 (c := c) (i := i) (h2 := h2) (h3 := h3) (h4 := h4) (h5 := h5) (h6 := h6) (h7 := h7) (h8 := h8) (a15 := a15) (a16 := a16) hin) y d
theorem tk13 (y : Fin 2560) (d : Fin 128) : tab (kernelRun0_A.sl.HS2_13 (F := Ideal) c i a2 h2 a3 h3 a4 h4 a5 h5 a6 h6 a7 h7 a8 h8 a15 a16 a17 x0 x1 x2 x3 x4 x5 x6) y d =
    tab (kernelRun0_A.sl.HS2_12 (F := Ideal) c i a2 h2 a3 h3 a4 h4 a5 h5 a6 h6 a7 h7 a8 h8 a15 a16 a17 x0 x1 x2 x3 x4 x5 x6) y d + Head.at_ (H.chunk 11).dkb 11 y.val d :=
  rmw_at 11 rfl (placed_k0_off1_11 i) a17.view _ _ _ (kernelRun0_A.sl.v3111 (F := Ideal) c i a2 h2 a3 h3 a4 h4 a5 h5 a6 h6 a7 h7 a8 h8 a15 a16 x0 x1 x2 x3 x4 x5 x6) _ rfl _ (dkb11 (c := c) (i := i) (h2 := h2) (h3 := h3) (h4 := h4) (h5 := h5) (h6 := h6) (h7 := h7) (h8 := h8) (a15 := a15) (a16 := a16) hin) y d
theorem tk14 (y : Fin 2560) (d : Fin 128) : tab (kernelRun0_A.sl.HS2_14 (F := Ideal) c i a2 h2 a3 h3 a4 h4 a5 h5 a6 h6 a7 h7 a8 h8 a15 a16 a17 x0 x1 x2 x3 x4 x5 x6) y d =
    tab (kernelRun0_A.sl.HS2_13 (F := Ideal) c i a2 h2 a3 h3 a4 h4 a5 h5 a6 h6 a7 h7 a8 h8 a15 a16 a17 x0 x1 x2 x3 x4 x5 x6) y d + Head.at_ (H.chunk 12).dkb 12 y.val d :=
  rmw_at 12 rfl (placed_k0_off1_12 i) a17.view _ _ _ (kernelRun0_A.sl.v3102 (F := Ideal) c i a2 h2 a3 h3 a4 h4 a5 h5 a6 h6 a7 h7 a8 h8 a15 a16 x0 x1 x2 x3 x4 x5 x6) _ rfl _ (dkb12 (c := c) (i := i) (h2 := h2) (h3 := h3) (h4 := h4) (h5 := h5) (h6 := h6) (h7 := h7) (h8 := h8) (a15 := a15) (a16 := a16) hin) y d
theorem tk15 (y : Fin 2560) (d : Fin 128) : tab (kernelRun0_A.sl.HS2_15 (F := Ideal) c i a2 h2 a3 h3 a4 h4 a5 h5 a6 h6 a7 h7 a8 h8 a15 a16 a17 x0 x1 x2 x3 x4 x5 x6) y d =
    tab (kernelRun0_A.sl.HS2_14 (F := Ideal) c i a2 h2 a3 h3 a4 h4 a5 h5 a6 h6 a7 h7 a8 h8 a15 a16 a17 x0 x1 x2 x3 x4 x5 x6) y d + Head.at_ (H.chunk 13).dkb 13 y.val d :=
  rmw_at 13 rfl (placed_k0_off1_13 i) a17.view _ _ _ (kernelRun0_A.sl.v3093 (F := Ideal) c i a2 h2 a3 h3 a4 h4 a5 h5 a6 h6 a7 h7 a8 h8 a15 a16 x0 x1 x2 x3 x4 x5 x6) _ rfl _ (dkb13 (c := c) (i := i) (h2 := h2) (h3 := h3) (h4 := h4) (h5 := h5) (h6 := h6) (h7 := h7) (h8 := h8) (a15 := a15) (a16 := a16) hin) y d
theorem tk16 (y : Fin 2560) (d : Fin 128) : tab (kernelRun0_A.sl.HS2_16 (F := Ideal) c i a2 h2 a3 h3 a4 h4 a5 h5 a6 h6 a7 h7 a8 h8 a15 a16 a17 x0 x1 x2 x3 x4 x5 x6) y d =
    tab (kernelRun0_A.sl.HS2_15 (F := Ideal) c i a2 h2 a3 h3 a4 h4 a5 h5 a6 h6 a7 h7 a8 h8 a15 a16 a17 x0 x1 x2 x3 x4 x5 x6) y d + Head.at_ (H.chunk 14).dkb 14 y.val d :=
  rmw_at 14 rfl (placed_k0_off1_14 i) a17.view _ _ _ (kernelRun0_A.sl.v3084 (F := Ideal) c i a2 h2 a3 h3 a4 h4 a5 h5 a6 h6 a7 h7 a8 h8 a15 a16 x0 x1 x2 x3 x4 x5 x6) _ rfl _ (dkb14 (c := c) (i := i) (h2 := h2) (h3 := h3) (h4 := h4) (h5 := h5) (h6 := h6) (h7 := h7) (h8 := h8) (a15 := a15) (a16 := a16) hin) y d
theorem tk17 (y : Fin 2560) (d : Fin 128) : tab (kernelRun0_A.sl.HS2_17 (F := Ideal) c i a2 h2 a3 h3 a4 h4 a5 h5 a6 h6 a7 h7 a8 h8 a15 a16 a17 x0 x1 x2 x3 x4 x5 x6) y d =
    tab (kernelRun0_A.sl.HS2_16 (F := Ideal) c i a2 h2 a3 h3 a4 h4 a5 h5 a6 h6 a7 h7 a8 h8 a15 a16 a17 x0 x1 x2 x3 x4 x5 x6) y d + Head.at_ (H.chunk 15).dkb 15 y.val d :=
  rmw_at 15 rfl (placed_k0_off1_15 i) a17.view _ _ _ (kernelRun0_A.sl.v3075 (F := Ideal) c i a2 h2 a3 h3 a4 h4 a5 h5 a6 h6 a7 h7 a8 h8 a15 a16 x0 x1 x2 x3 x4 x5 x6) _ rfl _ (dkb15 (c := c) (i := i) (h2 := h2) (h3 := h3) (h4 := h4) (h5 := h5) (h6 := h6) (h7 := h7) (h8 := h8) (a15 := a15) (a16 := a16) hin) y d
theorem tk18 (y : Fin 2560) (d : Fin 128) : tab (kernelRun0_A.sl.HS2_18 (F := Ideal) c i a2 h2 a3 h3 a4 h4 a5 h5 a6 h6 a7 h7 a8 h8 a15 a16 a17 x0 x1 x2 x3 x4 x5 x6) y d =
    tab (kernelRun0_A.sl.HS2_17 (F := Ideal) c i a2 h2 a3 h3 a4 h4 a5 h5 a6 h6 a7 h7 a8 h8 a15 a16 a17 x0 x1 x2 x3 x4 x5 x6) y d + Head.at_ (H.chunk 16).dkb 16 y.val d :=
  rmw_at 16 rfl (placed_k0_off1_16 i) a17.view _ _ _ (kernelRun0_A.sl.v3066 (F := Ideal) c i a2 h2 a3 h3 a4 h4 a5 h5 a6 h6 a7 h7 a8 h8 a15 a16 x0 x1 x2 x3 x4 x5 x6) _ rfl _ (dkb16 (c := c) (i := i) (h2 := h2) (h3 := h3) (h4 := h4) (h5 := h5) (h6 := h6) (h7 := h7) (h8 := h8) (a15 := a15) (a16 := a16) hin) y d
theorem tk19 (y : Fin 2560) (d : Fin 128) : tab (kernelRun0_A.sl.HS2_19 (F := Ideal) c i a2 h2 a3 h3 a4 h4 a5 h5 a6 h6 a7 h7 a8 h8 a15 a16 a17 x0 x1 x2 x3 x4 x5 x6) y d =
    tab (kernelRun0_A.sl.HS2_18 (F := Ideal) c i a2 h2 a3 h3 a4 h4 a5 h5 a6 h6 a7 h7 a8 h8 a15 a16 a17 x0 x1 x2 x3 x4 x5 x6) y d + Head.at_ (H.chunk 17).dkb 17 y.val d :=
  rmw_at 17 rfl (placed_k0_off1_17 i) a17.view _ _ _ (kernelRun0_A.sl.v3057 (F := Ideal) c i a2 h2 a3 h3 a4 h4 a5 h5 a6 h6 a7 h7 a8 h8 a15 a16 x0 x1 x2 x3 x4 x5 x6) _ rfl _ (dkb17 (c := c) (i := i) (h2 := h2) (h3 := h3) (h4 := h4) (h5 := h5) (h6 := h6) (h7 := h7) (h8 := h8) (a15 := a15) (a16 := a16) hin) y d
theorem tk20 (y : Fin 2560) (d : Fin 128) : tab (kernelRun0_A.sl.HS2_20 (F := Ideal) c i a2 h2 a3 h3 a4 h4 a5 h5 a6 h6 a7 h7 a8 h8 a15 a16 a17 x0 x1 x2 x3 x4 x5 x6) y d =
    tab (kernelRun0_A.sl.HS2_19 (F := Ideal) c i a2 h2 a3 h3 a4 h4 a5 h5 a6 h6 a7 h7 a8 h8 a15 a16 a17 x0 x1 x2 x3 x4 x5 x6) y d + Head.at_ (H.chunk 18).dkb 18 y.val d :=
  rmw_at 18 rfl (placed_k0_off1_18 i) a17.view _ _ _ (kernelRun0_A.sl.v3048 (F := Ideal) c i a2 h2 a3 h3 a4 h4 a5 h5 a6 h6 a7 h7 a8 h8 a15 a16 x0 x1 x2 x3 x4 x5 x6) _ rfl _ (dkb18 (c := c) (i := i) (h2 := h2) (h3 := h3) (h4 := h4) (h5 := h5) (h6 := h6) (h7 := h7) (h8 := h8) (a15 := a15) (a16 := a16) hin) y d
theorem tk21 (y : Fin 2560) (d : Fin 128) : tab (kernelRun0_A.sl.HS2_21 (F := Ideal) c i a2 h2 a3 h3 a4 h4 a5 h5 a6 h6 a7 h7 a8 h8 a15 a16 a17 x0 x1 x2 x3 x4 x5 x6) y d =
    tab (kernelRun0_A.sl.HS2_20 (F := Ideal) c i a2 h2 a3 h3 a4 h4 a5 h5 a6 h6 a7 h7 a8 h8 a15 a16 a17 x0 x1 x2 x3 x4 x5 x6) y d + Head.at_ (H.chunk 19).dkb 19 y.val d :=
  rmw_at 19 rfl (placed_k0_off1_19 i) a17.view _ _ _ (kernelRun0_A.sl.v3039 (F := Ideal) c i a2 h2 a3 h3 a4 h4 a5 h5 a6 h6 a7 h7 a8 h8 a15 a16 x0 x1 x2 x3 x4 x5 x6) _ rfl _ (dkb19 (c := c) (i := i) (h2 := h2) (h3 := h3) (h4 := h4) (h5 := h5) (h6 := h6) (h7 := h7) (h8 := h8) (a15 := a15) (a16 := a16) hin) y d
theorem tk22 (y : Fin 2560) (d : Fin 128) : tab (kernelRun0_A.sl.HS2_22 (F := Ideal) c i a2 h2 a3 h3 a4 h4 a5 h5 a6 h6 a7 h7 a8 h8 a15 a16 a17 x0 x1 x2 x3 x4 x5 x6) y d =
    tab (kernelRun0_A.sl.HS2_21 (F := Ideal) c i a2 h2 a3 h3 a4 h4 a5 h5 a6 h6 a7 h7 a8 h8 a15 a16 a17 x0 x1 x2 x3 x4 x5 x6) y d + Head.at_ (H.chunk 20).dkb 20 y.val d :=
  rmw_at 20 rfl (placed_k0_off1_20 i) a17.view _ _ _ (kernelRun0_A.sl.v3030 (F := Ideal) c i a2 h2 a3 h3 a4 h4 a5 h5 a6 h6 a7 h7 a8 h8 a15 a16 x0 x1 x2 x3 x4 x5 x6) _ rfl _ (dkb20 (c := c) (i := i) (h2 := h2) (h3 := h3) (h4 := h4) (h5 := h5) (h6 := h6) (h7 := h7) (h8 := h8) (a15 := a15) (a16 := a16) hin) y d
theorem tk23 (y : Fin 2560) (d : Fin 128) : tab (kernelRun0_A.sl.HS2_23 (F := Ideal) c i a2 h2 a3 h3 a4 h4 a5 h5 a6 h6 a7 h7 a8 h8 a15 a16 a17 x0 x1 x2 x3 x4 x5 x6) y d =
    tab (kernelRun0_A.sl.HS2_22 (F := Ideal) c i a2 h2 a3 h3 a4 h4 a5 h5 a6 h6 a7 h7 a8 h8 a15 a16 a17 x0 x1 x2 x3 x4 x5 x6) y d + Head.at_ (H.chunk 21).dkb 21 y.val d :=
  rmw_at 21 rfl (placed_k0_off1_21 i) a17.view _ _ _ (kernelRun0_A.sl.v3021 (F := Ideal) c i a2 h2 a3 h3 a4 h4 a5 h5 a6 h6 a7 h7 a8 h8 a15 a16 x0 x1 x2 x3 x4 x5 x6) _ rfl _ (dkb21 (c := c) (i := i) (h2 := h2) (h3 := h3) (h4 := h4) (h5 := h5) (h6 := h6) (h7 := h7) (h8 := h8) (a15 := a15) (a16 := a16) hin) y d
theorem tk24 (y : Fin 2560) (d : Fin 128) : tab (kernelRun0_A.sl.HS2_24 (F := Ideal) c i a2 h2 a3 h3 a4 h4 a5 h5 a6 h6 a7 h7 a8 h8 a15 a16 a17 x0 x1 x2 x3 x4 x5 x6) y d =
    tab (kernelRun0_A.sl.HS2_23 (F := Ideal) c i a2 h2 a3 h3 a4 h4 a5 h5 a6 h6 a7 h7 a8 h8 a15 a16 a17 x0 x1 x2 x3 x4 x5 x6) y d + Head.at_ (H.chunk 22).dkb 22 y.val d :=
  rmw_at 22 rfl (placed_k0_off1_22 i) a17.view _ _ _ (kernelRun0_A.sl.v3012 (F := Ideal) c i a2 h2 a3 h3 a4 h4 a5 h5 a6 h6 a7 h7 a8 h8 a15 a16 x0 x1 x2 x3 x4 x5 x6) _ rfl _ (dkb22 (c := c) (i := i) (h2 := h2) (h3 := h3) (h4 := h4) (h5 := h5) (h6 := h6) (h7 := h7) (h8 := h8) (a15 := a15) (a16 := a16) hin) y d
theorem tk25 (y : Fin 2560) (d : Fin 128) : tab (kernelRun0_A.sl.HS2_25 (F := Ideal) c i a2 h2 a3 h3 a4 h4 a5 h5 a6 h6 a7 h7 a8 h8 a15 a16 a17 x0 x1 x2 x3 x4 x5 x6) y d =
    tab (kernelRun0_A.sl.HS2_24 (F := Ideal) c i a2 h2 a3 h3 a4 h4 a5 h5 a6 h6 a7 h7 a8 h8 a15 a16 a17 x0 x1 x2 x3 x4 x5 x6) y d + Head.at_ (H.chunk 23).dkb 23 y.val d :=
  rmw_at 23 rfl (placed_k0_off1_23 i) a17.view _ _ _ (kernelRun0_A.sl.v3003 (F := Ideal) c i a2 h2 a3 h3 a4 h4 a5 h5 a6 h6 a7 h7 a8 h8 a15 a16 x0 x1 x2 x3 x4 x5 x6) _ rfl _ (dkb23 (c := c) (i := i) (h2 := h2) (h3 := h3) (h4 := h4) (h5 := h5) (h6 := h6) (h7 := h7) (h8 := h8) (a15 := a15) (a16 := a16) hin) y d
theorem tk26 (y : Fin 2560) (d : Fin 128) : tab (kernelRun0_A.sl.HS2_26 (F := Ideal) c i a2 h2 a3 h3 a4 h4 a5 h5 a6 h6 a7 h7 a8 h8 a15 a16 a17 x0 x1 x2 x3 x4 x5 x6) y d =
    tab (kernelRun0_A.sl.HS2_25 (F := Ideal) c i a2 h2 a3 h3 a4 h4 a5 h5 a6 h6 a7 h7 a8 h8 a15 a16 a17 x0 x1 x2 x3 x4 x5 x6) y d + Head.at_ (H.chunk 24).dkb 24 y.val d :=
  rmw_at 24 rfl (placed_k0_off1_24 i) a17.view _ _ _ (kernelRun0_A.sl.v2994 (F := Ideal) c i a2 h2 a3 h3 a4 h4 a5 h5 a6 h6 a7 h7 a8 h8 a15 a16 x0 x1 x2 x3 x4 x5 x6) _ rfl _ (dkb24 (c := c) (i := i) (h2 := h2) (h3 := h3) (h4 := h4) (h5 := h5) (h6 := h6) (h7 := h7) (h8 := h8) (a15 := a15) (a16 := a16) hin) y d
theorem tk27 (y : Fin 2560) (d : Fin 128) : tab (kernelRun0_A.sl.HS2_27 (F := Ideal) c i a2 h2 a3 h3 a4 h4 a5 h5 a6 h6 a7 h7 a8 h8 a15 a16 a17 x0 x1 x2 x3 x4 x5 x6) y d =
    tab (kernelRun0_A.sl.HS2_26 (F := Ideal) c i a2 h2 a3 h3 a4 h4 a5 h5 a6 h6 a7 h7 a8 h8 a15 a16 a17 x0 x1 x2 x3 x4 x5 x6) y d + Head.at_ (H.chunk 25).dkb 25 y.val d :=
  rmw_at 25 rfl (placed_k0_off1_25 i) a17.view _ _ _ (kernelRun0_A.sl.v2985 (F := Ideal) c i a2 h2 a3 h3 a4 h4 a5 h5 a6 h6 a7 h7 a8 h8 a15 a16 x0 x1 x2 x3 x4 x5 x6) _ rfl _ (dkb25 (c := c) (i := i) (h2 := h2) (h3 := h3) (h4 := h4) (h5 := h5) (h6 := h6) (h7 := h7) (h8 := h8) (a15 := a15) (a16 := a16) hin) y d
theorem tk28 (y : Fin 2560) (d : Fin 128) : tab (kernelRun0_A.sl.HS2_28 (F := Ideal) c i a2 h2 a3 h3 a4 h4 a5 h5 a6 h6 a7 h7 a8 h8 a15 a16 a17 x0 x1 x2 x3 x4 x5 x6) y d =
    tab (kernelRun0_A.sl.HS2_27 (F := Ideal) c i a2 h2 a3 h3 a4 h4 a5 h5 a6 h6 a7 h7 a8 h8 a15 a16 a17 x0 x1 x2 x3 x4 x5 x6) y d + Head.at_ (H.chunk 26).dkb 26 y.val d :=
  rmw_at 26 rfl (placed_k0_off1_26 i) a17.view _ _ _ (kernelRun0_A.sl.v2976 (F := Ideal) c i a2 h2 a3 h3 a4 h4 a5 h5 a6 h6 a7 h7 a8 h8 a15 a16 x0 x1 x2 x3 x4 x5 x6) _ rfl _ (dkb26 (c := c) (i := i) (h2 := h2) (h3 := h3) (h4 := h4) (h5 := h5) (h6 := h6) (h7 := h7) (h8 := h8) (a15 := a15) (a16 := a16) hin) y d
theorem tk29 (y : Fin 2560) (d : Fin 128) : tab (kernelRun0_A.sl.HS2_29 (F := Ideal) c i a2 h2 a3 h3 a4 h4 a5 h5 a6 h6 a7 h7 a8 h8 a15 a16 a17 x0 x1 x2 x3 x4 x5 x6) y d =
    tab (kernelRun0_A.sl.HS2_28 (F := Ideal) c i a2 h2 a3 h3 a4 h4 a5 h5 a6 h6 a7 h7 a8 h8 a15 a16 a17 x0 x1 x2 x3 x4 x5 x6) y d + Head.at_ (H.chunk 27).dkb 27 y.val d :=
  rmw_at 27 rfl (placed_k0_off1_27 i) a17.view _ _ _ (kernelRun0_A.sl.v2967 (F := Ideal) c i a2 h2 a3 h3 a4 h4 a5 h5 a6 h6 a7 h7 a8 h8 a15 a16 x0 x1 x2 x3 x4 x5 x6) _ rfl _ (dkb27 (c := c) (i := i) (h2 := h2) (h3 := h3) (h4 := h4) (h5 := h5) (h6 := h6) (h7 := h7) (h8 := h8) (a15 := a15) (a16 := a16) hin) y d
theorem tk30 (y : Fin 2560) (d : Fin 128) : tab (kernelRun0_A.sl.HS2_30 (F := Ideal) c i a2 h2 a3 h3 a4 h4 a5 h5 a6 h6 a7 h7 a8 h8 a15 a16 a17 x0 x1 x2 x3 x4 x5 x6) y d =
    tab (kernelRun0_A.sl.HS2_29 (F := Ideal) c i a2 h2 a3 h3 a4 h4 a5 h5 a6 h6 a7 h7 a8 h8 a15 a16 a17 x0 x1 x2 x3 x4 x5 x6) y d + Head.at_ (H.chunk 28).dkb 28 y.val d :=
  rmw_at 28 rfl (placed_k0_off1_28 i) a17.view _ _ _ (kernelRun0_A.sl.v2958 (F := Ideal) c i a2 h2 a3 h3 a4 h4 a5 h5 a6 h6 a7 h7 a8 h8 a15 a16 x0 x1 x2 x3 x4 x5 x6) _ rfl _ (dkb28 (c := c) (i := i) (h2 := h2) (h3 := h3) (h4 := h4) (h5 := h5) (h6 := h6) (h7 := h7) (h8 := h8) (a15 := a15) (a16 := a16) hin) y d
theorem tk31 (y : Fin 2560) (d : Fin 128) : tab (kernelRun0_A.sl.HS2_31 (F := Ideal) c i a2 h2 a3 h3 a4 h4 a5 h5 a6 h6 a7 h7 a8 h8 a15 a16 a17 x0 x1 x2 x3 x4 x5 x6) y d =
    tab (kernelRun0_A.sl.HS2_30 (F := Ideal) c i a2 h2 a3 h3 a4 h4 a5 h5 a6 h6 a7 h7 a8 h8 a15 a16 a17 x0 x1 x2 x3 x4 x5 x6) y d + Head.at_ (H.chunk 29).dkb 29 y.val d :=
  rmw_at 29 rfl (placed_k0_off1_29 i) a17.view _ _ _ (kernelRun0_A.sl.v2949 (F := Ideal) c i a2 h2 a3 h3 a4 h4 a5 h5 a6 h6 a7 h7 a8 h8 a15 a16 x0 x1 x2 x3 x4 x5 x6) _ rfl _ (dkb29 (c := c) (i := i) (h2 := h2) (h3 := h3) (h4 := h4) (h5 := h5) (h6 := h6) (h7 := h7) (h8 := h8) (a15 := a15) (a16 := a16) hin) y d
theorem tk32 (y : Fin 2560) (d : Fin 128) : tab (kernelRun0_A.sl.HS2_32 (F := Ideal) c i a2 h2 a3 h3 a4 h4 a5 h5 a6 h6 a7 h7 a8 h8 a15 a16 a17 x0 x1 x2 x3 x4 x5 x6) y d =
    tab (kernelRun0_A.sl.HS2_31 (F := Ideal) c i a2 h2 a3 h3 a4 h4 a5 h5 a6 h6 a7 h7 a8 h8 a15 a16 a17 x0 x1 x2 x3 x4 x5 x6) y d + Head.at_ (H.chunk 30).dkb 30 y.val d :=
  rmw_at 30 rfl (placed_k0_off1_30 i) a17.view _ _ _ (kernelRun0_A.sl.v2940 (F := Ideal) c i a2 h2 a3 h3 a4 h4 a5 h5 a6 h6 a7 h7 a8 h8 a15 a16 x0 x1 x2 x3 x4 x5 x6) _ rfl _ (dkb30 (c := c) (i := i) (h2 := h2) (h3 := h3) (h4 := h4) (h5 := h5) (h6 := h6) (h7 := h7) (h8 := h8) (a15 := a15) (a16 := a16) hin) y d
theorem tk33 (y : Fin 2560) (d : Fin 128) : tab (kernelRun0_A.sl.HS2_33 (F := Ideal) c i a2 h2 a3 h3 a4 h4 a5 h5 a6 h6 a7 h7 a8 h8 a15 a16 a17 x0 x1 x2 x3 x4 x5 x6) y d =
    tab (kernelRun0_A.sl.HS2_32 (F := Ideal) c i a2 h2 a3 h3 a4 h4 a5 h5 a6 h6 a7 h7 a8 h8 a15 a16 a17 x0 x1 x2 x3 x4 x5 x6) y d + Head.at_ (H.chunk 31).dkb 31 y.val d :=
  rmw_at 31 rfl (placed_k0_off1_31 i) a17.view _ _ _ (kernelRun0_A.sl.v2931 (F := Ideal) c i a2 h2 a3 h3 a4 h4 a5 h5 a6 h6 a7 h7 a8 h8 a15 a16 x0 x1 x2 x3 x4 x5 x6) _ rfl _ (dkb31 (c := c) (i := i) (h2 := h2) (h3 := h3) (h4 := h4) (h5 := h5) (h6 := h6) (h7 := h7) (h8 := h8) (a15 := a15) (a16 := a16) hin) y d
theorem tk (y : Fin 2560) (d : Fin 128) : tab (kernelRun0_A.sl.HS2_33 (F := Ideal) c i a2 h2 a3 h3 a4 h4 a5 h5 a6 h6 a7 h7 a8 h8 a15 a16 a17 x0 x1 x2 x3 x4 x5 x6) y d = ∑ n, Head.at_ (H.chunk n).dkb n y.val d := by
  rw [tk33 hin, tk32 hin, tk31 hin, tk30 hin, tk29 hin, tk28 hin, tk27 hin, tk26 hin, tk25 hin, tk24 hin, tk23 hin, tk22 hin, tk21 hin, tk20 hin, tk19 hin, tk18 hin, tk17 hin, tk16 hin, tk15 hin, tk14 hin, tk13 hin, tk12 hin, tk11 hin, tk10 hin, tk9 hin, tk8 hin, tk7 hin, tk6 hin, tk5 hin, tk4 hin, tk3 hin, tk2 hin, tab1]
  exact sum_up (fun n => Head.at_ (H.chunk n).dkb n y.val d)
theorem tv2 (y : Fin 2560) (d : Fin 128) : tab (kernelRun0_A.sl.HS3_2 (F := Ideal) c i a2 h2 a3 h3 a5 h5 a6 h6 a7 h7 a8 h8 a15 a18 x0 x1 x3 x4 x5 x6) y d =
    tab (kernelRun0_A.sl.HS2_1 (F := Ideal)) y d + Head.at_ (H.chunk 0).dvb 0 y.val d :=
  rmw_at 0 rfl (placed_k0_off1_0 i) a18.view _ _ _ (kernelRun0_A.sl.v2091 (F := Ideal) c i a2 h2 a3 h3 a5 h5 a6 h6 a7 h7 a8 h8 a15 x0 x1 x3 x4 x5 x6) _ rfl _ (dvb0 (c := c) (i := i) (h2 := h2) (h3 := h3) (h5 := h5) (h6 := h6) (h7 := h7) (h8 := h8) (a15 := a15) hin) y d
theorem tv3 (y : Fin 2560) (d : Fin 128) : tab (kernelRun0_A.sl.HS3_3 (F := Ideal) c i a2 h2 a3 h3 a5 h5 a6 h6 a7 h7 a8 h8 a15 a18 x0 x1 x3 x4 x5 x6) y d =
    tab (kernelRun0_A.sl.HS3_2 (F := Ideal) c i a2 h2 a3 h3 a5 h5 a6 h6 a7 h7 a8 h8 a15 a18 x0 x1 x3 x4 x5 x6) y d + Head.at_ (H.chunk 1).dvb 1 y.val d :=
  rmw_at 1 rfl (placed_k0_off1_1 i) a18.view _ _ _ (kernelRun0_A.sl.v2085 (F := Ideal) c i a2 h2 a3 h3 a5 h5 a6 h6 a7 h7 a8 h8 a15 x0 x1 x3 x4 x5 x6) _ rfl _ (dvb1 (c := c) (i := i) (h2 := h2) (h3 := h3) (h5 := h5) (h6 := h6) (h7 := h7) (h8 := h8) (a15 := a15) hin) y d
theorem tv4 (y : Fin 2560) (d : Fin 128) : tab (kernelRun0_A.sl.HS3_4 (F := Ideal) c i a2 h2 a3 h3 a5 h5 a6 h6 a7 h7 a8 h8 a15 a18 x0 x1 x3 x4 x5 x6) y d =
    tab (kernelRun0_A.sl.HS3_3 (F := Ideal) c i a2 h2 a3 h3 a5 h5 a6 h6 a7 h7 a8 h8 a15 a18 x0 x1 x3 x4 x5 x6) y d + Head.at_ (H.chunk 2).dvb 2 y.val d :=
  rmw_at 2 rfl (placed_k0_off1_2 i) a18.view _ _ _ (kernelRun0_A.sl.v2079 (F := Ideal) c i a2 h2 a3 h3 a5 h5 a6 h6 a7 h7 a8 h8 a15 x0 x1 x3 x4 x5 x6) _ rfl _ (dvb2 (c := c) (i := i) (h2 := h2) (h3 := h3) (h5 := h5) (h6 := h6) (h7 := h7) (h8 := h8) (a15 := a15) hin) y d
theorem tv5 (y : Fin 2560) (d : Fin 128) : tab (kernelRun0_A.sl.HS3_5 (F := Ideal) c i a2 h2 a3 h3 a5 h5 a6 h6 a7 h7 a8 h8 a15 a18 x0 x1 x3 x4 x5 x6) y d =
    tab (kernelRun0_A.sl.HS3_4 (F := Ideal) c i a2 h2 a3 h3 a5 h5 a6 h6 a7 h7 a8 h8 a15 a18 x0 x1 x3 x4 x5 x6) y d + Head.at_ (H.chunk 3).dvb 3 y.val d :=
  rmw_at 3 rfl (placed_k0_off1_3 i) a18.view _ _ _ (kernelRun0_A.sl.v2073 (F := Ideal) c i a2 h2 a3 h3 a5 h5 a6 h6 a7 h7 a8 h8 a15 x0 x1 x3 x4 x5 x6) _ rfl _ (dvb3 (c := c) (i := i) (h2 := h2) (h3 := h3) (h5 := h5) (h6 := h6) (h7 := h7) (h8 := h8) (a15 := a15) hin) y d
theorem tv6 (y : Fin 2560) (d : Fin 128) : tab (kernelRun0_A.sl.HS3_6 (F := Ideal) c i a2 h2 a3 h3 a5 h5 a6 h6 a7 h7 a8 h8 a15 a18 x0 x1 x3 x4 x5 x6) y d =
    tab (kernelRun0_A.sl.HS3_5 (F := Ideal) c i a2 h2 a3 h3 a5 h5 a6 h6 a7 h7 a8 h8 a15 a18 x0 x1 x3 x4 x5 x6) y d + Head.at_ (H.chunk 4).dvb 4 y.val d :=
  rmw_at 4 rfl (placed_k0_off1_4 i) a18.view _ _ _ (kernelRun0_A.sl.v2067 (F := Ideal) c i a2 h2 a3 h3 a5 h5 a6 h6 a7 h7 a8 h8 a15 x0 x1 x3 x4 x5 x6) _ rfl _ (dvb4 (c := c) (i := i) (h2 := h2) (h3 := h3) (h5 := h5) (h6 := h6) (h7 := h7) (h8 := h8) (a15 := a15) hin) y d
theorem tv7 (y : Fin 2560) (d : Fin 128) : tab (kernelRun0_A.sl.HS3_7 (F := Ideal) c i a2 h2 a3 h3 a5 h5 a6 h6 a7 h7 a8 h8 a15 a18 x0 x1 x3 x4 x5 x6) y d =
    tab (kernelRun0_A.sl.HS3_6 (F := Ideal) c i a2 h2 a3 h3 a5 h5 a6 h6 a7 h7 a8 h8 a15 a18 x0 x1 x3 x4 x5 x6) y d + Head.at_ (H.chunk 5).dvb 5 y.val d :=
  rmw_at 5 rfl (placed_k0_off1_5 i) a18.view _ _ _ (kernelRun0_A.sl.v2061 (F := Ideal) c i a2 h2 a3 h3 a5 h5 a6 h6 a7 h7 a8 h8 a15 x0 x1 x3 x4 x5 x6) _ rfl _ (dvb5 (c := c) (i := i) (h2 := h2) (h3 := h3) (h5 := h5) (h6 := h6) (h7 := h7) (h8 := h8) (a15 := a15) hin) y d
theorem tv8 (y : Fin 2560) (d : Fin 128) : tab (kernelRun0_A.sl.HS3_8 (F := Ideal) c i a2 h2 a3 h3 a5 h5 a6 h6 a7 h7 a8 h8 a15 a18 x0 x1 x3 x4 x5 x6) y d =
    tab (kernelRun0_A.sl.HS3_7 (F := Ideal) c i a2 h2 a3 h3 a5 h5 a6 h6 a7 h7 a8 h8 a15 a18 x0 x1 x3 x4 x5 x6) y d + Head.at_ (H.chunk 6).dvb 6 y.val d :=
  rmw_at 6 rfl (placed_k0_off1_6 i) a18.view _ _ _ (kernelRun0_A.sl.v2055 (F := Ideal) c i a2 h2 a3 h3 a5 h5 a6 h6 a7 h7 a8 h8 a15 x0 x1 x3 x4 x5 x6) _ rfl _ (dvb6 (c := c) (i := i) (h2 := h2) (h3 := h3) (h5 := h5) (h6 := h6) (h7 := h7) (h8 := h8) (a15 := a15) hin) y d
theorem tv9 (y : Fin 2560) (d : Fin 128) : tab (kernelRun0_A.sl.HS3_9 (F := Ideal) c i a2 h2 a3 h3 a5 h5 a6 h6 a7 h7 a8 h8 a15 a18 x0 x1 x3 x4 x5 x6) y d =
    tab (kernelRun0_A.sl.HS3_8 (F := Ideal) c i a2 h2 a3 h3 a5 h5 a6 h6 a7 h7 a8 h8 a15 a18 x0 x1 x3 x4 x5 x6) y d + Head.at_ (H.chunk 7).dvb 7 y.val d :=
  rmw_at 7 rfl (placed_k0_off1_7 i) a18.view _ _ _ (kernelRun0_A.sl.v2049 (F := Ideal) c i a2 h2 a3 h3 a5 h5 a6 h6 a7 h7 a8 h8 a15 x0 x1 x3 x4 x5 x6) _ rfl _ (dvb7 (c := c) (i := i) (h2 := h2) (h3 := h3) (h5 := h5) (h6 := h6) (h7 := h7) (h8 := h8) (a15 := a15) hin) y d
theorem tv10 (y : Fin 2560) (d : Fin 128) : tab (kernelRun0_A.sl.HS3_10 (F := Ideal) c i a2 h2 a3 h3 a5 h5 a6 h6 a7 h7 a8 h8 a15 a18 x0 x1 x3 x4 x5 x6) y d =
    tab (kernelRun0_A.sl.HS3_9 (F := Ideal) c i a2 h2 a3 h3 a5 h5 a6 h6 a7 h7 a8 h8 a15 a18 x0 x1 x3 x4 x5 x6) y d + Head.at_ (H.chunk 8).dvb 8 y.val d :=
  rmw_at 8 rfl (placed_k0_off1_8 i) a18.view _ _ _ (kernelRun0_A.sl.v2043 (F := Ideal) c i a2 h2 a3 h3 a5 h5 a6 h6 a7 h7 a8 h8 a15 x0 x1 x3 x4 x5 x6) _ rfl _ (dvb8 (c := c) (i := i) (h2 := h2) (h3 := h3) (h5 := h5) (h6 := h6) (h7 := h7) (h8 := h8) (a15 := a15) hin) y d
theorem tv11 (y : Fin 2560) (d : Fin 128) : tab (kernelRun0_A.sl.HS3_11 (F := Ideal) c i a2 h2 a3 h3 a5 h5 a6 h6 a7 h7 a8 h8 a15 a18 x0 x1 x3 x4 x5 x6) y d =
    tab (kernelRun0_A.sl.HS3_10 (F := Ideal) c i a2 h2 a3 h3 a5 h5 a6 h6 a7 h7 a8 h8 a15 a18 x0 x1 x3 x4 x5 x6) y d + Head.at_ (H.chunk 9).dvb 9 y.val d :=
  rmw_at 9 rfl (placed_k0_off1_9 i) a18.view _ _ _ (kernelRun0_A.sl.v2037 (F := Ideal) c i a2 h2 a3 h3 a5 h5 a6 h6 a7 h7 a8 h8 a15 x0 x1 x3 x4 x5 x6) _ rfl _ (dvb9 (c := c) (i := i) (h2 := h2) (h3 := h3) (h5 := h5) (h6 := h6) (h7 := h7) (h8 := h8) (a15 := a15) hin) y d
theorem tv12 (y : Fin 2560) (d : Fin 128) : tab (kernelRun0_A.sl.HS3_12 (F := Ideal) c i a2 h2 a3 h3 a5 h5 a6 h6 a7 h7 a8 h8 a15 a18 x0 x1 x3 x4 x5 x6) y d =
    tab (kernelRun0_A.sl.HS3_11 (F := Ideal) c i a2 h2 a3 h3 a5 h5 a6 h6 a7 h7 a8 h8 a15 a18 x0 x1 x3 x4 x5 x6) y d + Head.at_ (H.chunk 10).dvb 10 y.val d :=
  rmw_at 10 rfl (placed_k0_off1_10 i) a18.view _ _ _ (kernelRun0_A.sl.v2031 (F := Ideal) c i a2 h2 a3 h3 a5 h5 a6 h6 a7 h7 a8 h8 a15 x0 x1 x3 x4 x5 x6) _ rfl _ (dvb10 (c := c) (i := i) (h2 := h2) (h3 := h3) (h5 := h5) (h6 := h6) (h7 := h7) (h8 := h8) (a15 := a15) hin) y d
theorem tv13 (y : Fin 2560) (d : Fin 128) : tab (kernelRun0_A.sl.HS3_13 (F := Ideal) c i a2 h2 a3 h3 a5 h5 a6 h6 a7 h7 a8 h8 a15 a18 x0 x1 x3 x4 x5 x6) y d =
    tab (kernelRun0_A.sl.HS3_12 (F := Ideal) c i a2 h2 a3 h3 a5 h5 a6 h6 a7 h7 a8 h8 a15 a18 x0 x1 x3 x4 x5 x6) y d + Head.at_ (H.chunk 11).dvb 11 y.val d :=
  rmw_at 11 rfl (placed_k0_off1_11 i) a18.view _ _ _ (kernelRun0_A.sl.v2025 (F := Ideal) c i a2 h2 a3 h3 a5 h5 a6 h6 a7 h7 a8 h8 a15 x0 x1 x3 x4 x5 x6) _ rfl _ (dvb11 (c := c) (i := i) (h2 := h2) (h3 := h3) (h5 := h5) (h6 := h6) (h7 := h7) (h8 := h8) (a15 := a15) hin) y d
theorem tv14 (y : Fin 2560) (d : Fin 128) : tab (kernelRun0_A.sl.HS3_14 (F := Ideal) c i a2 h2 a3 h3 a5 h5 a6 h6 a7 h7 a8 h8 a15 a18 x0 x1 x3 x4 x5 x6) y d =
    tab (kernelRun0_A.sl.HS3_13 (F := Ideal) c i a2 h2 a3 h3 a5 h5 a6 h6 a7 h7 a8 h8 a15 a18 x0 x1 x3 x4 x5 x6) y d + Head.at_ (H.chunk 12).dvb 12 y.val d :=
  rmw_at 12 rfl (placed_k0_off1_12 i) a18.view _ _ _ (kernelRun0_A.sl.v2019 (F := Ideal) c i a2 h2 a3 h3 a5 h5 a6 h6 a7 h7 a8 h8 a15 x0 x1 x3 x4 x5 x6) _ rfl _ (dvb12 (c := c) (i := i) (h2 := h2) (h3 := h3) (h5 := h5) (h6 := h6) (h7 := h7) (h8 := h8) (a15 := a15) hin) y d
theorem tv15 (y : Fin 2560) (d : Fin 128) : tab (kernelRun0_A.sl.HS3_15 (F := Ideal) c i a2 h2 a3 h3 a5 h5 a6 h6 a7 h7 a8 h8 a15 a18 x0 x1 x3 x4 x5 x6) y d =
    tab (kernelRun0_A.sl.HS3_14 (F := Ideal) c i a2 h2 a3 h3 a5 h5 a6 h6 a7 h7 a8 h8 a15 a18 x0 x1 x3 x4 x5 x6) y d + Head.at_ (H.chunk 13).dvb 13 y.val d :=
  rmw_at 13 rfl (placed_k0_off1_13 i) a18.view _ _ _ (kernelRun0_A.sl.v2013 (F := Ideal) c i a2 h2 a3 h3 a5 h5 a6 h6 a7 h7 a8 h8 a15 x0 x1 x3 x4 x5 x6) _ rfl _ (dvb13 (c := c) (i := i) (h2 := h2) (h3 := h3) (h5 := h5) (h6 := h6) (h7 := h7) (h8 := h8) (a15 := a15) hin) y d
theorem tv16 (y : Fin 2560) (d : Fin 128) : tab (kernelRun0_A.sl.HS3_16 (F := Ideal) c i a2 h2 a3 h3 a5 h5 a6 h6 a7 h7 a8 h8 a15 a18 x0 x1 x3 x4 x5 x6) y d =
    tab (kernelRun0_A.sl.HS3_15 (F := Ideal) c i a2 h2 a3 h3 a5 h5 a6 h6 a7 h7 a8 h8 a15 a18 x0 x1 x3 x4 x5 x6) y d + Head.at_ (H.chunk 14).dvb 14 y.val d :=
  rmw_at 14 rfl (placed_k0_off1_14 i) a18.view _ _ _ (kernelRun0_A.sl.v2007 (F := Ideal) c i a2 h2 a3 h3 a5 h5 a6 h6 a7 h7 a8 h8 a15 x0 x1 x3 x4 x5 x6) _ rfl _ (dvb14 (c := c) (i := i) (h2 := h2) (h3 := h3) (h5 := h5) (h6 := h6) (h7 := h7) (h8 := h8) (a15 := a15) hin) y d
theorem tv17 (y : Fin 2560) (d : Fin 128) : tab (kernelRun0_A.sl.HS3_17 (F := Ideal) c i a2 h2 a3 h3 a5 h5 a6 h6 a7 h7 a8 h8 a15 a18 x0 x1 x3 x4 x5 x6) y d =
    tab (kernelRun0_A.sl.HS3_16 (F := Ideal) c i a2 h2 a3 h3 a5 h5 a6 h6 a7 h7 a8 h8 a15 a18 x0 x1 x3 x4 x5 x6) y d + Head.at_ (H.chunk 15).dvb 15 y.val d :=
  rmw_at 15 rfl (placed_k0_off1_15 i) a18.view _ _ _ (kernelRun0_A.sl.v2001 (F := Ideal) c i a2 h2 a3 h3 a5 h5 a6 h6 a7 h7 a8 h8 a15 x0 x1 x3 x4 x5 x6) _ rfl _ (dvb15 (c := c) (i := i) (h2 := h2) (h3 := h3) (h5 := h5) (h6 := h6) (h7 := h7) (h8 := h8) (a15 := a15) hin) y d
theorem tv18 (y : Fin 2560) (d : Fin 128) : tab (kernelRun0_A.sl.HS3_18 (F := Ideal) c i a2 h2 a3 h3 a5 h5 a6 h6 a7 h7 a8 h8 a15 a18 x0 x1 x3 x4 x5 x6) y d =
    tab (kernelRun0_A.sl.HS3_17 (F := Ideal) c i a2 h2 a3 h3 a5 h5 a6 h6 a7 h7 a8 h8 a15 a18 x0 x1 x3 x4 x5 x6) y d + Head.at_ (H.chunk 16).dvb 16 y.val d :=
  rmw_at 16 rfl (placed_k0_off1_16 i) a18.view _ _ _ (kernelRun0_A.sl.v1995 (F := Ideal) c i a2 h2 a3 h3 a5 h5 a6 h6 a7 h7 a8 h8 a15 x0 x1 x3 x4 x5 x6) _ rfl _ (dvb16 (c := c) (i := i) (h2 := h2) (h3 := h3) (h5 := h5) (h6 := h6) (h7 := h7) (h8 := h8) (a15 := a15) hin) y d
theorem tv19 (y : Fin 2560) (d : Fin 128) : tab (kernelRun0_A.sl.HS3_19 (F := Ideal) c i a2 h2 a3 h3 a5 h5 a6 h6 a7 h7 a8 h8 a15 a18 x0 x1 x3 x4 x5 x6) y d =
    tab (kernelRun0_A.sl.HS3_18 (F := Ideal) c i a2 h2 a3 h3 a5 h5 a6 h6 a7 h7 a8 h8 a15 a18 x0 x1 x3 x4 x5 x6) y d + Head.at_ (H.chunk 17).dvb 17 y.val d :=
  rmw_at 17 rfl (placed_k0_off1_17 i) a18.view _ _ _ (kernelRun0_A.sl.v1989 (F := Ideal) c i a2 h2 a3 h3 a5 h5 a6 h6 a7 h7 a8 h8 a15 x0 x1 x3 x4 x5 x6) _ rfl _ (dvb17 (c := c) (i := i) (h2 := h2) (h3 := h3) (h5 := h5) (h6 := h6) (h7 := h7) (h8 := h8) (a15 := a15) hin) y d
theorem tv20 (y : Fin 2560) (d : Fin 128) : tab (kernelRun0_A.sl.HS3_20 (F := Ideal) c i a2 h2 a3 h3 a5 h5 a6 h6 a7 h7 a8 h8 a15 a18 x0 x1 x3 x4 x5 x6) y d =
    tab (kernelRun0_A.sl.HS3_19 (F := Ideal) c i a2 h2 a3 h3 a5 h5 a6 h6 a7 h7 a8 h8 a15 a18 x0 x1 x3 x4 x5 x6) y d + Head.at_ (H.chunk 18).dvb 18 y.val d :=
  rmw_at 18 rfl (placed_k0_off1_18 i) a18.view _ _ _ (kernelRun0_A.sl.v1983 (F := Ideal) c i a2 h2 a3 h3 a5 h5 a6 h6 a7 h7 a8 h8 a15 x0 x1 x3 x4 x5 x6) _ rfl _ (dvb18 (c := c) (i := i) (h2 := h2) (h3 := h3) (h5 := h5) (h6 := h6) (h7 := h7) (h8 := h8) (a15 := a15) hin) y d
theorem tv21 (y : Fin 2560) (d : Fin 128) : tab (kernelRun0_A.sl.HS3_21 (F := Ideal) c i a2 h2 a3 h3 a5 h5 a6 h6 a7 h7 a8 h8 a15 a18 x0 x1 x3 x4 x5 x6) y d =
    tab (kernelRun0_A.sl.HS3_20 (F := Ideal) c i a2 h2 a3 h3 a5 h5 a6 h6 a7 h7 a8 h8 a15 a18 x0 x1 x3 x4 x5 x6) y d + Head.at_ (H.chunk 19).dvb 19 y.val d :=
  rmw_at 19 rfl (placed_k0_off1_19 i) a18.view _ _ _ (kernelRun0_A.sl.v1977 (F := Ideal) c i a2 h2 a3 h3 a5 h5 a6 h6 a7 h7 a8 h8 a15 x0 x1 x3 x4 x5 x6) _ rfl _ (dvb19 (c := c) (i := i) (h2 := h2) (h3 := h3) (h5 := h5) (h6 := h6) (h7 := h7) (h8 := h8) (a15 := a15) hin) y d
theorem tv22 (y : Fin 2560) (d : Fin 128) : tab (kernelRun0_A.sl.HS3_22 (F := Ideal) c i a2 h2 a3 h3 a5 h5 a6 h6 a7 h7 a8 h8 a15 a18 x0 x1 x3 x4 x5 x6) y d =
    tab (kernelRun0_A.sl.HS3_21 (F := Ideal) c i a2 h2 a3 h3 a5 h5 a6 h6 a7 h7 a8 h8 a15 a18 x0 x1 x3 x4 x5 x6) y d + Head.at_ (H.chunk 20).dvb 20 y.val d :=
  rmw_at 20 rfl (placed_k0_off1_20 i) a18.view _ _ _ (kernelRun0_A.sl.v1971 (F := Ideal) c i a2 h2 a3 h3 a5 h5 a6 h6 a7 h7 a8 h8 a15 x0 x1 x3 x4 x5 x6) _ rfl _ (dvb20 (c := c) (i := i) (h2 := h2) (h3 := h3) (h5 := h5) (h6 := h6) (h7 := h7) (h8 := h8) (a15 := a15) hin) y d
theorem tv23 (y : Fin 2560) (d : Fin 128) : tab (kernelRun0_A.sl.HS3_23 (F := Ideal) c i a2 h2 a3 h3 a5 h5 a6 h6 a7 h7 a8 h8 a15 a18 x0 x1 x3 x4 x5 x6) y d =
    tab (kernelRun0_A.sl.HS3_22 (F := Ideal) c i a2 h2 a3 h3 a5 h5 a6 h6 a7 h7 a8 h8 a15 a18 x0 x1 x3 x4 x5 x6) y d + Head.at_ (H.chunk 21).dvb 21 y.val d :=
  rmw_at 21 rfl (placed_k0_off1_21 i) a18.view _ _ _ (kernelRun0_A.sl.v1965 (F := Ideal) c i a2 h2 a3 h3 a5 h5 a6 h6 a7 h7 a8 h8 a15 x0 x1 x3 x4 x5 x6) _ rfl _ (dvb21 (c := c) (i := i) (h2 := h2) (h3 := h3) (h5 := h5) (h6 := h6) (h7 := h7) (h8 := h8) (a15 := a15) hin) y d
theorem tv24 (y : Fin 2560) (d : Fin 128) : tab (kernelRun0_A.sl.HS3_24 (F := Ideal) c i a2 h2 a3 h3 a5 h5 a6 h6 a7 h7 a8 h8 a15 a18 x0 x1 x3 x4 x5 x6) y d =
    tab (kernelRun0_A.sl.HS3_23 (F := Ideal) c i a2 h2 a3 h3 a5 h5 a6 h6 a7 h7 a8 h8 a15 a18 x0 x1 x3 x4 x5 x6) y d + Head.at_ (H.chunk 22).dvb 22 y.val d :=
  rmw_at 22 rfl (placed_k0_off1_22 i) a18.view _ _ _ (kernelRun0_A.sl.v1959 (F := Ideal) c i a2 h2 a3 h3 a5 h5 a6 h6 a7 h7 a8 h8 a15 x0 x1 x3 x4 x5 x6) _ rfl _ (dvb22 (c := c) (i := i) (h2 := h2) (h3 := h3) (h5 := h5) (h6 := h6) (h7 := h7) (h8 := h8) (a15 := a15) hin) y d
theorem tv25 (y : Fin 2560) (d : Fin 128) : tab (kernelRun0_A.sl.HS3_25 (F := Ideal) c i a2 h2 a3 h3 a5 h5 a6 h6 a7 h7 a8 h8 a15 a18 x0 x1 x3 x4 x5 x6) y d =
    tab (kernelRun0_A.sl.HS3_24 (F := Ideal) c i a2 h2 a3 h3 a5 h5 a6 h6 a7 h7 a8 h8 a15 a18 x0 x1 x3 x4 x5 x6) y d + Head.at_ (H.chunk 23).dvb 23 y.val d :=
  rmw_at 23 rfl (placed_k0_off1_23 i) a18.view _ _ _ (kernelRun0_A.sl.v1953 (F := Ideal) c i a2 h2 a3 h3 a5 h5 a6 h6 a7 h7 a8 h8 a15 x0 x1 x3 x4 x5 x6) _ rfl _ (dvb23 (c := c) (i := i) (h2 := h2) (h3 := h3) (h5 := h5) (h6 := h6) (h7 := h7) (h8 := h8) (a15 := a15) hin) y d
theorem tv26 (y : Fin 2560) (d : Fin 128) : tab (kernelRun0_A.sl.HS3_26 (F := Ideal) c i a2 h2 a3 h3 a5 h5 a6 h6 a7 h7 a8 h8 a15 a18 x0 x1 x3 x4 x5 x6) y d =
    tab (kernelRun0_A.sl.HS3_25 (F := Ideal) c i a2 h2 a3 h3 a5 h5 a6 h6 a7 h7 a8 h8 a15 a18 x0 x1 x3 x4 x5 x6) y d + Head.at_ (H.chunk 24).dvb 24 y.val d :=
  rmw_at 24 rfl (placed_k0_off1_24 i) a18.view _ _ _ (kernelRun0_A.sl.v1947 (F := Ideal) c i a2 h2 a3 h3 a5 h5 a6 h6 a7 h7 a8 h8 a15 x0 x1 x3 x4 x5 x6) _ rfl _ (dvb24 (c := c) (i := i) (h2 := h2) (h3 := h3) (h5 := h5) (h6 := h6) (h7 := h7) (h8 := h8) (a15 := a15) hin) y d
theorem tv27 (y : Fin 2560) (d : Fin 128) : tab (kernelRun0_A.sl.HS3_27 (F := Ideal) c i a2 h2 a3 h3 a5 h5 a6 h6 a7 h7 a8 h8 a15 a18 x0 x1 x3 x4 x5 x6) y d =
    tab (kernelRun0_A.sl.HS3_26 (F := Ideal) c i a2 h2 a3 h3 a5 h5 a6 h6 a7 h7 a8 h8 a15 a18 x0 x1 x3 x4 x5 x6) y d + Head.at_ (H.chunk 25).dvb 25 y.val d :=
  rmw_at 25 rfl (placed_k0_off1_25 i) a18.view _ _ _ (kernelRun0_A.sl.v1941 (F := Ideal) c i a2 h2 a3 h3 a5 h5 a6 h6 a7 h7 a8 h8 a15 x0 x1 x3 x4 x5 x6) _ rfl _ (dvb25 (c := c) (i := i) (h2 := h2) (h3 := h3) (h5 := h5) (h6 := h6) (h7 := h7) (h8 := h8) (a15 := a15) hin) y d
theorem tv28 (y : Fin 2560) (d : Fin 128) : tab (kernelRun0_A.sl.HS3_28 (F := Ideal) c i a2 h2 a3 h3 a5 h5 a6 h6 a7 h7 a8 h8 a15 a18 x0 x1 x3 x4 x5 x6) y d =
    tab (kernelRun0_A.sl.HS3_27 (F := Ideal) c i a2 h2 a3 h3 a5 h5 a6 h6 a7 h7 a8 h8 a15 a18 x0 x1 x3 x4 x5 x6) y d + Head.at_ (H.chunk 26).dvb 26 y.val d :=
  rmw_at 26 rfl (placed_k0_off1_26 i) a18.view _ _ _ (kernelRun0_A.sl.v1935 (F := Ideal) c i a2 h2 a3 h3 a5 h5 a6 h6 a7 h7 a8 h8 a15 x0 x1 x3 x4 x5 x6) _ rfl _ (dvb26 (c := c) (i := i) (h2 := h2) (h3 := h3) (h5 := h5) (h6 := h6) (h7 := h7) (h8 := h8) (a15 := a15) hin) y d
theorem tv29 (y : Fin 2560) (d : Fin 128) : tab (kernelRun0_A.sl.HS3_29 (F := Ideal) c i a2 h2 a3 h3 a5 h5 a6 h6 a7 h7 a8 h8 a15 a18 x0 x1 x3 x4 x5 x6) y d =
    tab (kernelRun0_A.sl.HS3_28 (F := Ideal) c i a2 h2 a3 h3 a5 h5 a6 h6 a7 h7 a8 h8 a15 a18 x0 x1 x3 x4 x5 x6) y d + Head.at_ (H.chunk 27).dvb 27 y.val d :=
  rmw_at 27 rfl (placed_k0_off1_27 i) a18.view _ _ _ (kernelRun0_A.sl.v1929 (F := Ideal) c i a2 h2 a3 h3 a5 h5 a6 h6 a7 h7 a8 h8 a15 x0 x1 x3 x4 x5 x6) _ rfl _ (dvb27 (c := c) (i := i) (h2 := h2) (h3 := h3) (h5 := h5) (h6 := h6) (h7 := h7) (h8 := h8) (a15 := a15) hin) y d
theorem tv30 (y : Fin 2560) (d : Fin 128) : tab (kernelRun0_A.sl.HS3_30 (F := Ideal) c i a2 h2 a3 h3 a5 h5 a6 h6 a7 h7 a8 h8 a15 a18 x0 x1 x3 x4 x5 x6) y d =
    tab (kernelRun0_A.sl.HS3_29 (F := Ideal) c i a2 h2 a3 h3 a5 h5 a6 h6 a7 h7 a8 h8 a15 a18 x0 x1 x3 x4 x5 x6) y d + Head.at_ (H.chunk 28).dvb 28 y.val d :=
  rmw_at 28 rfl (placed_k0_off1_28 i) a18.view _ _ _ (kernelRun0_A.sl.v1923 (F := Ideal) c i a2 h2 a3 h3 a5 h5 a6 h6 a7 h7 a8 h8 a15 x0 x1 x3 x4 x5 x6) _ rfl _ (dvb28 (c := c) (i := i) (h2 := h2) (h3 := h3) (h5 := h5) (h6 := h6) (h7 := h7) (h8 := h8) (a15 := a15) hin) y d
theorem tv31 (y : Fin 2560) (d : Fin 128) : tab (kernelRun0_A.sl.HS3_31 (F := Ideal) c i a2 h2 a3 h3 a5 h5 a6 h6 a7 h7 a8 h8 a15 a18 x0 x1 x3 x4 x5 x6) y d =
    tab (kernelRun0_A.sl.HS3_30 (F := Ideal) c i a2 h2 a3 h3 a5 h5 a6 h6 a7 h7 a8 h8 a15 a18 x0 x1 x3 x4 x5 x6) y d + Head.at_ (H.chunk 29).dvb 29 y.val d :=
  rmw_at 29 rfl (placed_k0_off1_29 i) a18.view _ _ _ (kernelRun0_A.sl.v1917 (F := Ideal) c i a2 h2 a3 h3 a5 h5 a6 h6 a7 h7 a8 h8 a15 x0 x1 x3 x4 x5 x6) _ rfl _ (dvb29 (c := c) (i := i) (h2 := h2) (h3 := h3) (h5 := h5) (h6 := h6) (h7 := h7) (h8 := h8) (a15 := a15) hin) y d
theorem tv32 (y : Fin 2560) (d : Fin 128) : tab (kernelRun0_A.sl.HS3_32 (F := Ideal) c i a2 h2 a3 h3 a5 h5 a6 h6 a7 h7 a8 h8 a15 a18 x0 x1 x3 x4 x5 x6) y d =
    tab (kernelRun0_A.sl.HS3_31 (F := Ideal) c i a2 h2 a3 h3 a5 h5 a6 h6 a7 h7 a8 h8 a15 a18 x0 x1 x3 x4 x5 x6) y d + Head.at_ (H.chunk 30).dvb 30 y.val d :=
  rmw_at 30 rfl (placed_k0_off1_30 i) a18.view _ _ _ (kernelRun0_A.sl.v1911 (F := Ideal) c i a2 h2 a3 h3 a5 h5 a6 h6 a7 h7 a8 h8 a15 x0 x1 x3 x4 x5 x6) _ rfl _ (dvb30 (c := c) (i := i) (h2 := h2) (h3 := h3) (h5 := h5) (h6 := h6) (h7 := h7) (h8 := h8) (a15 := a15) hin) y d
theorem tv33 (y : Fin 2560) (d : Fin 128) : tab (kernelRun0_A.sl.HS3_33 (F := Ideal) c i a2 h2 a3 h3 a5 h5 a6 h6 a7 h7 a8 h8 a15 a18 x0 x1 x3 x4 x5 x6) y d =
    tab (kernelRun0_A.sl.HS3_32 (F := Ideal) c i a2 h2 a3 h3 a5 h5 a6 h6 a7 h7 a8 h8 a15 a18 x0 x1 x3 x4 x5 x6) y d + Head.at_ (H.chunk 31).dvb 31 y.val d :=
  rmw_at 31 rfl (placed_k0_off1_31 i) a18.view _ _ _ (kernelRun0_A.sl.v1905 (F := Ideal) c i a2 h2 a3 h3 a5 h5 a6 h6 a7 h7 a8 h8 a15 x0 x1 x3 x4 x5 x6) _ rfl _ (dvb31 (c := c) (i := i) (h2 := h2) (h3 := h3) (h5 := h5) (h6 := h6) (h7 := h7) (h8 := h8) (a15 := a15) hin) y d
theorem tv (y : Fin 2560) (d : Fin 128) : tab (kernelRun0_A.sl.HS3_33 (F := Ideal) c i a2 h2 a3 h3 a5 h5 a6 h6 a7 h7 a8 h8 a15 a18 x0 x1 x3 x4 x5 x6) y d = ∑ n, Head.at_ (H.chunk n).dvb n y.val d := by
  rw [tv33 hin, tv32 hin, tv31 hin, tv30 hin, tv29 hin, tv28 hin, tv27 hin, tv26 hin, tv25 hin, tv24 hin, tv23 hin, tv22 hin, tv21 hin, tv20 hin, tv19 hin, tv18 hin, tv17 hin, tv16 hin, tv15 hin, tv14 hin, tv13 hin, tv12 hin, tv11 hin, tv10 hin, tv9 hin, tv8 hin, tv7 hin, tv6 hin, tv5 hin, tv4 hin, tv3 hin, tv2 hin, tab1]
  exact sum_up (fun n => Head.at_ (H.chunk n).dvb n y.val d)
theorem db_sum (r : Fin 64) (k : Fin 576) : (kernelRun0_A.sl.v3202 (F := Ideal) c i a2 h2 a3 h3 a4 h4 a5 h5 a6 h6 a7 h7 a8 h8 a15 a16 x0 x1 x2 x3 x4 x5 x6) (ix2 r k) = H.db r k := by
  show (kernelRun0_A.sl.v2861 (F := Ideal) c i a2 h2 a3 h3 a4 h4 a5 h5 a6 h6 a7 h7 a8 h8 a15 a16 x0 x1 x2 x3 x4 x5 x6) (ix2 r k) + (kernelRun0_A.sl.v2863 (F := Ideal) c i a2 h2 a3 h3 a4 h4 a5 h5 a6 h6 a7 h7 a8 h8 a15 a16 x0 x1 x2 x3 x4 x5 x6) (ix2 r k) + (kernelRun0_A.sl.v2865 (F := Ideal) c i a2 h2 a3 h3 a4 h4 a5 h5 a6 h6 a7 h7 a8 h8 a15 a16 x0 x1 x2 x3 x4 x5 x6) (ix2 r k) + (kernelRun0_A.sl.v2867 (F := Ideal) c i a2 h2 a3 h3 a4 h4 a5 h5 a6 h6 a7 h7 a8 h8 a15 a16 x0 x1 x2 x3 x4 x5 x6) (ix2 r k) + (kernelRun0_A.sl.v2869 (F := Ideal) c i a2 h2 a3 h3 a4 h4 a5 h5 a6 h6 a7 h7 a8 h8 a15 a16 x0 x1 x2 x3 x4 x5 x6) (ix2 r k) + (kernelRun0_A.sl.v2871 (F := Ideal) c i a2 h2 a3 h3 a4 h4 a5 h5 a6 h6 a7 h7 a8 h8 a15 a16 x0 x1 x2 x3 x4 x5 x6) (ix2 r k) + (kernelRun0_A.sl.v2873 (F := Ideal) c i a2 h2 a3 h3 a4 h4 a5 h5 a6 h6 a7 h7 a8 h8 a15 a16 x0 x1 x2 x3 x4 x5 x6) (ix2 r k) + (kernelRun0_A.sl.v2875 (F := Ideal) c i a2 h2 a3 h3 a4 h4 a5 h5 a6 h6 a7 h7 a8 h8 a15 a16 x0 x1 x2 x3 x4 x5 x6) (ix2 r k) + (kernelRun0_A.sl.v2877 (F := Ideal) c i a2 h2 a3 h3 a4 h4 a5 h5 a6 h6 a7 h7 a8 h8 a15 a16 x0 x1 x2 x3 x4 x5 x6) (ix2 r k) + (kernelRun0_A.sl.v2879 (F := Ideal) c i a2 h2 a3 h3 a4 h4 a5 h5 a6 h6 a7 h7 a8 h8 a15 a16 x0 x1 x2 x3 x4 x5 x6) (ix2 r k) + (kernelRun0_A.sl.v2881 (F := Ideal) c i a2 h2 a3 h3 a4 h4 a5 h5 a6 h6 a7 h7 a8 h8 a15 a16 x0 x1 x2 x3 x4 x5 x6) (ix2 r k) + (kernelRun0_A.sl.v2883 (F := Ideal) c i a2 h2 a3 h3 a4 h4 a5 h5 a6 h6 a7 h7 a8 h8 a15 a16 x0 x1 x2 x3 x4 x5 x6) (ix2 r k) + (kernelRun0_A.sl.v2885 (F := Ideal) c i a2 h2 a3 h3 a4 h4 a5 h5 a6 h6 a7 h7 a8 h8 a15 a16 x0 x1 x2 x3 x4 x5 x6) (ix2 r k) + (kernelRun0_A.sl.v2887 (F := Ideal) c i a2 h2 a3 h3 a4 h4 a5 h5 a6 h6 a7 h7 a8 h8 a15 a16 x0 x1 x2 x3 x4 x5 x6) (ix2 r k) + (kernelRun0_A.sl.v2889 (F := Ideal) c i a2 h2 a3 h3 a4 h4 a5 h5 a6 h6 a7 h7 a8 h8 a15 a16 x0 x1 x2 x3 x4 x5 x6) (ix2 r k) + (kernelRun0_A.sl.v2891 (F := Ideal) c i a2 h2 a3 h3 a4 h4 a5 h5 a6 h6 a7 h7 a8 h8 a15 a16 x0 x1 x2 x3 x4 x5 x6) (ix2 r k) + (kernelRun0_A.sl.v2893 (F := Ideal) c i a2 h2 a3 h3 a4 h4 a5 h5 a6 h6 a7 h7 a8 h8 a15 a16 x0 x1 x2 x3 x4 x5 x6) (ix2 r k) + (kernelRun0_A.sl.v2895 (F := Ideal) c i a2 h2 a3 h3 a4 h4 a5 h5 a6 h6 a7 h7 a8 h8 a15 a16 x0 x1 x2 x3 x4 x5 x6) (ix2 r k) + (kernelRun0_A.sl.v2897 (F := Ideal) c i a2 h2 a3 h3 a4 h4 a5 h5 a6 h6 a7 h7 a8 h8 a15 a16 x0 x1 x2 x3 x4 x5 x6) (ix2 r k) + (kernelRun0_A.sl.v2899 (F := Ideal) c i a2 h2 a3 h3 a4 h4 a5 h5 a6 h6 a7 h7 a8 h8 a15 a16 x0 x1 x2 x3 x4 x5 x6) (ix2 r k) + (kernelRun0_A.sl.v2901 (F := Ideal) c i a2 h2 a3 h3 a4 h4 a5 h5 a6 h6 a7 h7 a8 h8 a15 a16 x0 x1 x2 x3 x4 x5 x6) (ix2 r k) + (kernelRun0_A.sl.v2903 (F := Ideal) c i a2 h2 a3 h3 a4 h4 a5 h5 a6 h6 a7 h7 a8 h8 a15 a16 x0 x1 x2 x3 x4 x5 x6) (ix2 r k) + (kernelRun0_A.sl.v2905 (F := Ideal) c i a2 h2 a3 h3 a4 h4 a5 h5 a6 h6 a7 h7 a8 h8 a15 a16 x0 x1 x2 x3 x4 x5 x6) (ix2 r k) + (kernelRun0_A.sl.v2907 (F := Ideal) c i a2 h2 a3 h3 a4 h4 a5 h5 a6 h6 a7 h7 a8 h8 a15 a16 x0 x1 x2 x3 x4 x5 x6) (ix2 r k) + (kernelRun0_A.sl.v2909 (F := Ideal) c i a2 h2 a3 h3 a4 h4 a5 h5 a6 h6 a7 h7 a8 h8 a15 a16 x0 x1 x2 x3 x4 x5 x6) (ix2 r k) + (kernelRun0_A.sl.v2911 (F := Ideal) c i a2 h2 a3 h3 a4 h4 a5 h5 a6 h6 a7 h7 a8 h8 a15 a16 x0 x1 x2 x3 x4 x5 x6) (ix2 r k) + (kernelRun0_A.sl.v2913 (F := Ideal) c i a2 h2 a3 h3 a4 h4 a5 h5 a6 h6 a7 h7 a8 h8 a15 a16 x0 x1 x2 x3 x4 x5 x6) (ix2 r k) + (kernelRun0_A.sl.v2915 (F := Ideal) c i a2 h2 a3 h3 a4 h4 a5 h5 a6 h6 a7 h7 a8 h8 a15 a16 x0 x1 x2 x3 x4 x5 x6) (ix2 r k) + (kernelRun0_A.sl.v2917 (F := Ideal) c i a2 h2 a3 h3 a4 h4 a5 h5 a6 h6 a7 h7 a8 h8 a15 a16 x0 x1 x2 x3 x4 x5 x6) (ix2 r k) + (kernelRun0_A.sl.v2919 (F := Ideal) c i a2 h2 a3 h3 a4 h4 a5 h5 a6 h6 a7 h7 a8 h8 a15 a16 x0 x1 x2 x3 x4 x5 x6) (ix2 r k) + (kernelRun0_A.sl.v2921 (F := Ideal) c i a2 h2 a3 h3 a4 h4 a5 h5 a6 h6 a7 h7 a8 h8 a15 a16 x0 x1 x2 x3 x4 x5 x6) (ix2 r k) + (kernelRun0_A.sl.v2923 (F := Ideal) c i a2 h2 a3 h3 a4 h4 a5 h5 a6 h6 a7 h7 a8 h8 a15 a16 x0 x1 x2 x3 x4 x5 x6) (ix2 r k) = _
  rw [ds31 hin, ds30 hin, ds29 hin, ds28 hin, ds27 hin, ds26 hin, ds25 hin, ds24 hin, ds23 hin, ds22 hin, ds21 hin, ds20 hin, ds19 hin, ds18 hin, ds17 hin, ds16 hin, ds15 hin, ds14 hin, ds13 hin, ds12 hin, ds11 hin, ds10 hin, ds9 hin, ds8 hin, ds7 hin, ds6 hin, ds5 hin, ds4 hin, ds3 hin, ds2 hin, ds1 hin, ds0 hin]
  exact sum_down (fun n => (H.chunk n).ds r k)
theorem dqg_sum (d : Fin 128) : (kernelRun0_A.sl.v3864 (F := Ideal) c i a2 h2 a3 h3 a4 h4 a5 h5 a6 h6 a7 h7 a8 h8 a15 a16 x0 x1 x2 x3 x4 x5 x6) (ix2 0 d) = H.dqg d := by
  show (kernelRun0_A.sl.v3213 (F := Ideal) c i a2 h2 a3 h3 a4 h4 a5 h5 a6 h6 a7 h7 a8 h8 a15 a16 x0 x1 x2 x3 x4 x5 x6) (ix2 0 d) + (kernelRun0_A.sl.v3233 (F := Ideal) c i a2 h2 a3 h3 a4 h4 a5 h5 a6 h6 a7 h7 a8 h8 a15 a16 x0 x1 x2 x3 x4 x5 x6) (ix2 0 d) + (kernelRun0_A.sl.v3254 (F := Ideal) c i a2 h2 a3 h3 a4 h4 a5 h5 a6 h6 a7 h7 a8 h8 a15 a16 x0 x1 x2 x3 x4 x5 x6) (ix2 0 d) + (kernelRun0_A.sl.v3275 (F := Ideal) c i a2 h2 a3 h3 a4 h4 a5 h5 a6 h6 a7 h7 a8 h8 a15 a16 x0 x1 x2 x3 x4 x5 x6) (ix2 0 d) + (kernelRun0_A.sl.v3296 (F := Ideal) c i a2 h2 a3 h3 a4 h4 a5 h5 a6 h6 a7 h7 a8 h8 a15 a16 x0 x1 x2 x3 x4 x5 x6) (ix2 0 d) + (kernelRun0_A.sl.v3317 (F := Ideal) c i a2 h2 a3 h3 a4 h4 a5 h5 a6 h6 a7 h7 a8 h8 a15 a16 x0 x1 x2 x3 x4 x5 x6) (ix2 0 d) + (kernelRun0_A.sl.v3338 (F := Ideal) c i a2 h2 a3 h3 a4 h4 a5 h5 a6 h6 a7 h7 a8 h8 a15 a16 x0 x1 x2 x3 x4 x5 x6) (ix2 0 d) + (kernelRun0_A.sl.v3359 (F := Ideal) c i a2 h2 a3 h3 a4 h4 a5 h5 a6 h6 a7 h7 a8 h8 a15 a16 x0 x1 x2 x3 x4 x5 x6) (ix2 0 d) + (kernelRun0_A.sl.v3380 (F := Ideal) c i a2 h2 a3 h3 a4 h4 a5 h5 a6 h6 a7 h7 a8 h8 a15 a16 x0 x1 x2 x3 x4 x5 x6) (ix2 0 d) + (kernelRun0_A.sl.v3401 (F := Ideal) c i a2 h2 a3 h3 a4 h4 a5 h5 a6 h6 a7 h7 a8 h8 a15 a16 x0 x1 x2 x3 x4 x5 x6) (ix2 0 d) + (kernelRun0_A.sl.v3422 (F := Ideal) c i a2 h2 a3 h3 a4 h4 a5 h5 a6 h6 a7 h7 a8 h8 a15 a16 x0 x1 x2 x3 x4 x5 x6) (ix2 0 d) + (kernelRun0_A.sl.v3443 (F := Ideal) c i a2 h2 a3 h3 a4 h4 a5 h5 a6 h6 a7 h7 a8 h8 a15 a16 x0 x1 x2 x3 x4 x5 x6) (ix2 0 d) + (kernelRun0_A.sl.v3464 (F := Ideal) c i a2 h2 a3 h3 a4 h4 a5 h5 a6 h6 a7 h7 a8 h8 a15 a16 x0 x1 x2 x3 x4 x5 x6) (ix2 0 d) + (kernelRun0_A.sl.v3485 (F := Ideal) c i a2 h2 a3 h3 a4 h4 a5 h5 a6 h6 a7 h7 a8 h8 a15 a16 x0 x1 x2 x3 x4 x5 x6) (ix2 0 d) + (kernelRun0_A.sl.v3506 (F := Ideal) c i a2 h2 a3 h3 a4 h4 a5 h5 a6 h6 a7 h7 a8 h8 a15 a16 x0 x1 x2 x3 x4 x5 x6) (ix2 0 d) + (kernelRun0_A.sl.v3527 (F := Ideal) c i a2 h2 a3 h3 a4 h4 a5 h5 a6 h6 a7 h7 a8 h8 a15 a16 x0 x1 x2 x3 x4 x5 x6) (ix2 0 d) + (kernelRun0_A.sl.v3548 (F := Ideal) c i a2 h2 a3 h3 a4 h4 a5 h5 a6 h6 a7 h7 a8 h8 a15 a16 x0 x1 x2 x3 x4 x5 x6) (ix2 0 d) + (kernelRun0_A.sl.v3569 (F := Ideal) c i a2 h2 a3 h3 a4 h4 a5 h5 a6 h6 a7 h7 a8 h8 a15 a16 x0 x1 x2 x3 x4 x5 x6) (ix2 0 d) + (kernelRun0_A.sl.v3590 (F := Ideal) c i a2 h2 a3 h3 a4 h4 a5 h5 a6 h6 a7 h7 a8 h8 a15 a16 x0 x1 x2 x3 x4 x5 x6) (ix2 0 d) + (kernelRun0_A.sl.v3611 (F := Ideal) c i a2 h2 a3 h3 a4 h4 a5 h5 a6 h6 a7 h7 a8 h8 a15 a16 x0 x1 x2 x3 x4 x5 x6) (ix2 0 d) + (kernelRun0_A.sl.v3632 (F := Ideal) c i a2 h2 a3 h3 a4 h4 a5 h5 a6 h6 a7 h7 a8 h8 a15 a16 x0 x1 x2 x3 x4 x5 x6) (ix2 0 d) + (kernelRun0_A.sl.v3653 (F := Ideal) c i a2 h2 a3 h3 a4 h4 a5 h5 a6 h6 a7 h7 a8 h8 a15 a16 x0 x1 x2 x3 x4 x5 x6) (ix2 0 d) + (kernelRun0_A.sl.v3674 (F := Ideal) c i a2 h2 a3 h3 a4 h4 a5 h5 a6 h6 a7 h7 a8 h8 a15 a16 x0 x1 x2 x3 x4 x5 x6) (ix2 0 d) + (kernelRun0_A.sl.v3695 (F := Ideal) c i a2 h2 a3 h3 a4 h4 a5 h5 a6 h6 a7 h7 a8 h8 a15 a16 x0 x1 x2 x3 x4 x5 x6) (ix2 0 d) + (kernelRun0_A.sl.v3716 (F := Ideal) c i a2 h2 a3 h3 a4 h4 a5 h5 a6 h6 a7 h7 a8 h8 a15 a16 x0 x1 x2 x3 x4 x5 x6) (ix2 0 d) + (kernelRun0_A.sl.v3737 (F := Ideal) c i a2 h2 a3 h3 a4 h4 a5 h5 a6 h6 a7 h7 a8 h8 a15 a16 x0 x1 x2 x3 x4 x5 x6) (ix2 0 d) + (kernelRun0_A.sl.v3758 (F := Ideal) c i a2 h2 a3 h3 a4 h4 a5 h5 a6 h6 a7 h7 a8 h8 a15 a16 x0 x1 x2 x3 x4 x5 x6) (ix2 0 d) + (kernelRun0_A.sl.v3779 (F := Ideal) c i a2 h2 a3 h3 a4 h4 a5 h5 a6 h6 a7 h7 a8 h8 a15 a16 x0 x1 x2 x3 x4 x5 x6) (ix2 0 d) + (kernelRun0_A.sl.v3800 (F := Ideal) c i a2 h2 a3 h3 a4 h4 a5 h5 a6 h6 a7 h7 a8 h8 a15 a16 x0 x1 x2 x3 x4 x5 x6) (ix2 0 d) + (kernelRun0_A.sl.v3821 (F := Ideal) c i a2 h2 a3 h3 a4 h4 a5 h5 a6 h6 a7 h7 a8 h8 a15 a16 x0 x1 x2 x3 x4 x5 x6) (ix2 0 d) + (kernelRun0_A.sl.v3842 (F := Ideal) c i a2 h2 a3 h3 a4 h4 a5 h5 a6 h6 a7 h7 a8 h8 a15 a16 x0 x1 x2 x3 x4 x5 x6) (ix2 0 d) + (kernelRun0_A.sl.v3863 (F := Ideal) c i a2 h2 a3 h3 a4 h4 a5 h5 a6 h6 a7 h7 a8 h8 a15 a16 x0 x1 x2 x3 x4 x5 x6) (ix2 0 d) = _
  rw [dqg31 hin, dqg30 hin, dqg29 hin, dqg28 hin, dqg27 hin, dqg26 hin, dqg25 hin, dqg24 hin, dqg23 hin, dqg22 hin, dqg21 hin, dqg20 hin, dqg19 hin, dqg18 hin, dqg17 hin, dqg16 hin, dqg15 hin, dqg14 hin, dqg13 hin, dqg12 hin, dqg11 hin, dqg10 hin, dqg9 hin, dqg8 hin, dqg7 hin, dqg6 hin, dqg5 hin, dqg4 hin, dqg3 hin, dqg2 hin, dqg1 hin, dqg0 hin]
  exact sum_down (fun n => ∑ r, xn (H.q (Head.row n r)) d * (H.chunk n).dqh r d)

end Cert.Ker.A
-- ==== Proof.WA.lean ====
/-
  What the body leaves in its windows at a grid's first point.
-/
module

public import proofs.«01_k».proof.Proof.TA
public import proofs.«01_k».proof.Proof.Gen.KernelIdeal.Frame

@[expose] public section

set_option maxRecDepth 16384

noncomputable section

namespace Cert.Ker.A

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a9 : Memref sig .tc .vmem S2048x128 .bf16} {h9 : a9.IsWhole} {a10 : Memref sig .tc .vmem S2048x128 .bf16} {h10 : a10.IsWhole}
  {a11 : Memref sig .tc .vmem S2048x128 .bf16} {h11 : a11.IsWhole} {a12 : Memref sig .tc .vmem S1x64x576 .f32} {h12 : a12.IsWhole}
  {a13 : Memref sig .tc .vmem S1x128 .f32} {h13 : a13.IsWhole} {a14 : Memref sig .tc .vmem S1x128 .f32} {h14 : a14.IsWhole}
  {a15 : Memref sig .tc .vmem S2560x128 .f32} {h15 : a15.IsWhole} {a16 : Memref sig .tc .vmem S2560x128 .f32} {h16 : a16.IsWhole}
  {a17 : Memref sig .tc .vmem S2560x128 .f32} {h17 : a17.IsWhole} {a18 : Memref sig .tc .vmem S2560x128 .f32} {h18 : a18.IsWhole}
  {hc0 : cond0_0 i} {hc1 : cond0_1 i} {hc2 : cond0_2 i}
  {x0 x1 x2 : Vec Ideal S2048x128 .f32} {x3 x4 : Vec Ideal S1x128 .f32} {x5 : Vec Ideal S1x64x576 .f32} {x6 : Vec Ideal S2048x128 .f32}
  (hin : Inputs H x0 x1 x2 x3 x4 x5 x6)
include hin

theorem out7 (t : Fin 2048) (d : Fin 128) : out0_A_7 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix2 t d) = H.dq t d := by
  unfold out0_A_7
  refine (congrFun (View.read_writes_junk_eq_canon _ _) (ix2 t d)).trans ?_
  exact cover_step 31 rfl _ _ H.dq (dq31 hin) _ (cover_step 30 rfl _ _ H.dq (dq30 hin) _ (cover_step 29 rfl _ _ H.dq (dq29 hin) _ (cover_step 28 rfl _ _ H.dq (dq28 hin) _ (cover_step 27 rfl _ _ H.dq (dq27 hin) _ (cover_step 26 rfl _ _ H.dq (dq26 hin) _ (cover_step 25 rfl _ _ H.dq (dq25 hin) _ (cover_step 24 rfl _ _ H.dq (dq24 hin) _ (cover_step 23 rfl _ _ H.dq (dq23 hin) _ (cover_step 22 rfl _ _ H.dq (dq22 hin) _ (cover_step 21 rfl _ _ H.dq (dq21 hin) _ (cover_step 20 rfl _ _ H.dq (dq20 hin) _ (cover_step 19 rfl _ _ H.dq (dq19 hin) _ (cover_step 18 rfl _ _ H.dq (dq18 hin) _ (cover_step 17 rfl _ _ H.dq (dq17 hin) _ (cover_step 16 rfl _ _ H.dq (dq16 hin) _ (cover_step 15 rfl _ _ H.dq (dq15 hin) _ (cover_step 14 rfl _ _ H.dq (dq14 hin) _ (cover_step 13 rfl _ _ H.dq (dq13 hin) _ (cover_step 12 rfl _ _ H.dq (dq12 hin) _ (cover_step 11 rfl _ _ H.dq (dq11 hin) _ (cover_step 10 rfl _ _ H.dq (dq10 hin) _ (cover_step 9 rfl _ _ H.dq (dq9 hin) _ (cover_step 8 rfl _ _ H.dq (dq8 hin) _ (cover_step 7 rfl _ _ H.dq (dq7 hin) _ (cover_step 6 rfl _ _ H.dq (dq6 hin) _ (cover_step 5 rfl _ _ H.dq (dq5 hin) _ (cover_step 4 rfl _ _ H.dq (dq4 hin) _ (cover_step 3 rfl _ _ H.dq (dq3 hin) _ (cover_step 2 rfl _ _ H.dq (dq2 hin) _ (cover_step 1 rfl _ _ H.dq (dq1 hin) _ (cover_step 0 rfl _ _ H.dq (dq0 hin) _ (fun t h => absurd h (Nat.not_lt_zero _))))))))))))))))))))))))))))))))) t (by have := t.isLt; show t.val < 64 * (31 + 1); omega) d
theorem keysum (t : Fin 2048) (d : Fin 128) : (kernelRun0_A.sl.v4422_1 (F := Ideal) c i a2 h2 a3 h3 a4 h4 a5 h5 a6 h6 a7 h7 a8 h8 a15 a16 a17 x0 x1 x2 x3 x4 x5 x6) (ix2 t d) = H.dkh t d :=
  (body_at _ _ _ t d).trans (tk hin _ d)
theorem out8 (t : Fin 2048) (d : Fin 128) : out0_A_8 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix2 t d) = H.dk t d := by
  unfold out0_A_8
  refine (congrFun (View.read_writes_junk_eq_canon _ _) (ix2 t d)).trans ?_
  refine (congrFun (View.canon_cons_unit_lit _ _ _ (by decide)) _).trans ?_
  refine (dkrow_at _ _ _ _ _ _ _ _ (kernelRun0_A.sl.v4422_1 (F := Ideal) c i a2 h2 a3 h3 a4 h4 a5 h5 a6 h6 a7 h7 a8 h8 a15 a16 a17 x0 x1 x2 x3 x4 x5 x6) t d).trans ?_
  rw [funext hin.kg, funext (hin.k t), funext (keysum (c := c) (i := i) (h2 := h2) (h3 := h3) (h4 := h4) (h5 := h5) (h6 := h6) (h7 := h7) (h8 := h8) (a15 := a15) (a16 := a16) (a17 := a17) hin t)]
  rfl
theorem out9 (t : Fin 2048) (d : Fin 128) : out0_A_9 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix2 t d) = H.dv t d := by
  unfold out0_A_9
  refine (congrFun (View.read_writes_junk_eq_canon _ _) (ix2 t d)).trans ?_
  refine (congrFun (View.canon_cons_unit_lit _ _ _ (by decide)) _).trans ?_
  refine (pay12_at (kernelRun0_A.sl.v4445 (F := Ideal) c i a2 h2 a3 h3 a5 h5 a6 h6 a7 h7 a8 h8 a15 a18 x0 x1 x3 x4 x5 x6) t d).trans ?_
  exact (body_at _ _ _ t d).trans (tv hin _ d)
theorem out10 (r : Fin 64) (k : Fin 576) : out0_A_10 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix3 0 r k) = H.db r k := by
  unfold out0_A_10
  refine (congrFun (View.read_writes_junk_eq_canon _ _) (ix3 0 r k)).trans ?_
  refine (congrFun (View.canon_cons_unit_lit _ _ _ (by decide)) _).trans ?_
  refine (bias_at (kernelRun0_A.sl.v3882 (F := Ideal) c a12) (kernelRun0_A.sl.v3202 (F := Ideal) c i a2 h2 a3 h3 a4 h4 a5 h5 a6 h6 a7 h7 a8 h8 a15 a16 x0 x1 x2 x3 x4 x5 x6) r k).trans ?_
  rw [db_sum hin]
  exact (congrArg (· + H.db r k) (zerobias_at _ _ _ r k)).trans (zero_add _)
theorem kgain (d : Fin 128) : (kernelRun0_A.sl.r_135 (F := Ideal) c i a2 h2 a3 h3 a4 h4 a5 h5 a6 h6 a7 h7 a8 h8 a15 a16 a17 x0 x1 x2 x3 x4 x5 x6) (ix2 0 d) = H.dkg d := by
  refine (dkgrow_at _ _ _ _ (kernelRun0_A.sl.v4422_1 (F := Ideal) c i a2 h2 a3 h3 a4 h4 a5 h5 a6 h6 a7 h7 a8 h8 a15 a16 a17 x0 x1 x2 x3 x4 x5 x6) d).trans ?_
  rw [sum_rows]
  refine Finset.sum_congr rfl fun n _ => Finset.sum_congr rfl fun r _ => ?_
  rw [funext (hin.k _), keysum hin]
theorem out11 (d : Fin 128) : out0_A_11 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix2 0 d) = H.dqg d := by
  unfold out0_A_11
  refine (congrFun (View.read_writes_junk_eq_canon _ _) (ix2 0 d)).trans ?_
  refine (congrFun (View.canon_cons_unit_lit _ _ _ (by decide)) _).trans ?_
  refine (gainrow_at (kernelRun0_A.sl.v3888 (F := Ideal) c a13) (kernelRun0_A.sl.v3864 (F := Ideal) c i a2 h2 a3 h3 a4 h4 a5 h5 a6 h6 a7 h7 a8 h8 a15 a16 x0 x1 x2 x3 x4 x5 x6) d).trans ?_
  rw [dqg_sum hin]
  exact (congrArg (· + H.dqg d) (zerorow_at _ _ _ d)).trans (zero_add _)
theorem out12 (d : Fin 128) : out0_A_12 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 (ix2 0 d) = H.dkg d := by
  unfold out0_A_12
  refine (congrFun (View.read_writes_junk_eq_canon _ _) (ix2 0 d)).trans ?_
  refine (congrFun (View.canon_cons_unit_lit _ _ _ (by decide)) _).trans ?_
  refine (pay2_at (kernelRun0_A.sl.r_135 (F := Ideal) c i a2 h2 a3 h3 a4 h4 a5 h5 a6 h6 a7 h7 a8 h8 a15 a16 a17 x0 x1 x2 x3 x4 x5 x6) (kernelRun0_A.sl.v4448 (F := Ideal) c a14) d).trans ?_
  rw [kgain hin]
  exact (congrArg (· + H.dkg d) (zerorow_at _ _ _ d)).trans (zero_add _)

end Cert.Ker.A
-- ==== Proof.KB.lean ====
/-
  The chunks of the body at a later grid point.
-/
module

public import proofs.«01_k».proof.Proof.Gen.KernelIdeal.Frame.RunB
public import proofs.«01_k».proof.Proof.KIn

@[expose] public section

set_option maxRecDepth 16384

noncomputable section

namespace Cert.Ker.B

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a15 a16 a17 a18 : Memref sig .tc .vmem S2560x128 .f32}
  {x0 x1 x2 : Vec Ideal S2048x128 .f32} {x3 x4 : Vec Ideal S1x128 .f32} {x5 : Vec Ideal S1x64x576 .f32} {x6 : Vec Ideal S2048x128 .f32}
  (hin : Inputs H x0 x1 x2 x3 x4 x5 x6)
include hin

/-- The table of keys. -/
theorem keys (y : Fin 2560) (d : Fin 128) : tab (kernelRun0_B.sl.HS0_2 (F := Ideal) c a3 h3 a6 h6 x1 x4) y d = padded H.kh y.val d := by
  refine pad_at _ _ _ _ zeros_at H.kh (fun t d => ?_) y d
  refine (show (kernelRun0_B.sl.v4431 (F := Ideal) c a3 h3 a6 h6 x1 x4) (ix2 t d) = k0_pay5 (F := Ideal) (View.readAt (Elt Ideal) a3.view (Rect.unit (s := S2048x128) ![0, 0] S2048x128.size inb_S2048x128_S2048x128_0_0).toLoadRect (h3.unread x1)) (View.readAt (Elt Ideal) a6.view (Rect.unit (s := S1x128) ![0, 0] S1x128.size inb_S1x128_S1x128_0_0).toLoadRect (h6.unread x4)) (ix2 t d) from rfl).trans ?_
  exact (keyrow_at _ _ _ _ _ _ _ _ t d).trans (congrArg₂ (fun g x => xh g x d) (funext hin.kg) (funext (hin.k t)))
/-- The table of values. -/
theorem vals (y : Fin 2560) (d : Fin 128) : tab (kernelRun0_B.sl.HS1_2 (F := Ideal) c a4 h4 x2) y d = padded H.v y.val d := by
  refine pad_at _ _ _ _ zeros_at H.v (fun t d => ?_) y d
  refine (show (kernelRun0_B.sl.v4435 (F := Ideal) c a4 h4 x2) (ix2 t d) = shapeCast S2048x128 (View.readAt (Elt Ideal) a4.view (Rect.unit (s := S2048x128) ![0, 0] S2048x128.size inb_S2048x128_S2048x128_0_0).toLoadRect (h4.unread x2)) shapeCasts_S2048x128_S2048x128 (ix2 t d) from rfl).trans ?_
  exact (congrFun (shapeCast_self _ _) _).trans ((whole_at _ _ _ _ t d).trans (hin.v t d))

theorem reads0 : Reads (H.chunk 0) (start i 0#32) (rows a2 h2 x0 0) (rows a8 h8 x6 0) (gain a5 h5 x3)
    (kernelRun0_B.sl.v169 (F := Ideal) c i a3 h3 a6 h6 a15 x1 x4) (kernelRun0_B.sl.v233 (F := Ideal) c i a4 h4 a16 x2) (biases a7 h7 x5) :=
  reads_of hin 0 _ _ (band_of 0 (placed_k0_off1_0 i) _ _ _ _ (keys hin)) (band_of 0 (placed_k0_off1_0 i) _ _ _ _ (vals hin))
theorem ds0 (r : Fin 64) (k : Fin 576) : (kernelRun0_B.sl.v2923 (F := Ideal) c i a2 h2 a3 h3 a4 h4 a5 h5 a6 h6 a7 h7 a8 h8 a15 a16 x0 x1 x2 x3 x4 x5 x6) (ix2 r k) = (H.chunk 0).ds r k :=
  ((reads0 (c := c) (i := i) (h2 := h2) (h3 := h3) (h4 := h4) (h5 := h5) (h6 := h6) (h7 := h7) (h8 := h8) (a15 := a15) (a16 := a16) hin).ds_at r k)
theorem dkb0 (k : Fin 576) (d : Fin 128) : (kernelRun0_B.sl.v3210 (F := Ideal) c i a2 h2 a3 h3 a4 h4 a5 h5 a6 h6 a7 h7 a8 h8 a15 a16 x0 x1 x2 x3 x4 x5 x6) (ix2 k d) = (H.chunk 0).dkb k d :=
  ((reads0 (c := c) (i := i) (h2 := h2) (h3 := h3) (h4 := h4) (h5 := h5) (h6 := h6) (h7 := h7) (h8 := h8) (a15 := a15) (a16 := a16) hin).dkb_at (ds0 hin) k d)
theorem dvb0 (k : Fin 576) (d : Fin 128) : (kernelRun0_B.sl.v2091 (F := Ideal) c i a2 h2 a3 h3 a5 h5 a6 h6 a7 h7 a8 h8 a15 x0 x1 x3 x4 x5 x6) (ix2 k d) = (H.chunk 0).dvb k d :=
  ((reads0 (c := c) (i := i) (h2 := h2) (h3 := h3) (h4 := h3) (h5 := h5) (h6 := h6) (h7 := h7) (h8 := h8) (a15 := a15) (a16 := a15) hin).dvb_at k d)
theorem dq0 (r : Fin 64) (d : Fin 128) : (kernelRun0_B.sl.v3892 (F := Ideal) c i a2 h2 a3 h3 a4 h4 a5 h5 a6 h6 a7 h7 a8 h8 a15 a16 x0 x1 x2 x3 x4 x5 x6) (ix2 r d) = H.dq (Head.row 0 r) d :=
  (((reads0 (c := c) (i := i) (h2 := h2) (h3 := h3) (h4 := h4) (h5 := h5) (h6 := h6) (h7 := h7) (h8 := h8) (a15 := a15) (a16 := a16) hin).dq_at (ds0 hin) r d).trans (dq_row H 0 r d))
theorem dqg0 (d : Fin 128) : (kernelRun0_B.sl.v3863 (F := Ideal) c i a2 h2 a3 h3 a4 h4 a5 h5 a6 h6 a7 h7 a8 h8 a15 a16 x0 x1 x2 x3 x4 x5 x6) (ix2 0 d) = ∑ r, xn (H.q (Head.row 0 r)) d * (H.chunk 0).dqh r d :=
  ((reads0 (c := c) (i := i) (h2 := h2) (h3 := h3) (h4 := h4) (h5 := h5) (h6 := h6) (h7 := h7) (h8 := h8) (a15 := a15) (a16 := a16) hin).dqg_at (ds0 hin) d)
theorem reads1 : Reads (H.chunk 1) (start i 1#32) (rows a2 h2 x0 1) (rows a8 h8 x6 1) (gain a5 h5 x3)
    (kernelRun0_B.sl.v171 (F := Ideal) c i a3 h3 a6 h6 a15 x1 x4) (kernelRun0_B.sl.v235 (F := Ideal) c i a4 h4 a16 x2) (biases a7 h7 x5) :=
  reads_of hin 1 _ _ (band_of 1 (placed_k0_off1_1 i) _ _ _ _ (keys hin)) (band_of 1 (placed_k0_off1_1 i) _ _ _ _ (vals hin))
theorem ds1 (r : Fin 64) (k : Fin 576) : (kernelRun0_B.sl.v2921 (F := Ideal) c i a2 h2 a3 h3 a4 h4 a5 h5 a6 h6 a7 h7 a8 h8 a15 a16 x0 x1 x2 x3 x4 x5 x6) (ix2 r k) = (H.chunk 1).ds r k :=
  ((reads1 (c := c) (i := i) (h2 := h2) (h3 := h3) (h4 := h4) (h5 := h5) (h6 := h6) (h7 := h7) (h8 := h8) (a15 := a15) (a16 := a16) hin).ds_at r k)
theorem dkb1 (k : Fin 576) (d : Fin 128) : (kernelRun0_B.sl.v3201 (F := Ideal) c i a2 h2 a3 h3 a4 h4 a5 h5 a6 h6 a7 h7 a8 h8 a15 a16 x0 x1 x2 x3 x4 x5 x6) (ix2 k d) = (H.chunk 1).dkb k d :=
  ((reads1 (c := c) (i := i) (h2 := h2) (h3 := h3) (h4 := h4) (h5 := h5) (h6 := h6) (h7 := h7) (h8 := h8) (a15 := a15) (a16 := a16) hin).dkb_at (ds1 hin) k d)
theorem dvb1 (k : Fin 576) (d : Fin 128) : (kernelRun0_B.sl.v2085 (F := Ideal) c i a2 h2 a3 h3 a5 h5 a6 h6 a7 h7 a8 h8 a15 x0 x1 x3 x4 x5 x6) (ix2 k d) = (H.chunk 1).dvb k d :=
  ((reads1 (c := c) (i := i) (h2 := h2) (h3 := h3) (h4 := h3) (h5 := h5) (h6 := h6) (h7 := h7) (h8 := h8) (a15 := a15) (a16 := a15) hin).dvb_at k d)
theorem dq1 (r : Fin 64) (d : Fin 128) : (kernelRun0_B.sl.v3908 (F := Ideal) c i a2 h2 a3 h3 a4 h4 a5 h5 a6 h6 a7 h7 a8 h8 a15 a16 x0 x1 x2 x3 x4 x5 x6) (ix2 r d) = H.dq (Head.row 1 r) d :=
  (((reads1 (c := c) (i := i) (h2 := h2) (h3 := h3) (h4 := h4) (h5 := h5) (h6 := h6) (h7 := h7) (h8 := h8) (a15 := a15) (a16 := a16) hin).dq_at (ds1 hin) r d).trans (dq_row H 1 r d))
theorem dqg1 (d : Fin 128) : (kernelRun0_B.sl.v3842 (F := Ideal) c i a2 h2 a3 h3 a4 h4 a5 h5 a6 h6 a7 h7 a8 h8 a15 a16 x0 x1 x2 x3 x4 x5 x6) (ix2 0 d) = ∑ r, xn (H.q (Head.row 1 r)) d * (H.chunk 1).dqh r d :=
  ((reads1 (c := c) (i := i) (h2 := h2) (h3 := h3) (h4 := h4) (h5 := h5) (h6 := h6) (h7 := h7) (h8 := h8) (a15 := a15) (a16 := a16) hin).dqg_at (ds1 hin) d)
theorem reads2 : Reads (H.chunk 2) (start i 2#32) (rows a2 h2 x0 2) (rows a8 h8 x6 2) (gain a5 h5 x3)
    (kernelRun0_B.sl.v173 (F := Ideal) c i a3 h3 a6 h6 a15 x1 x4) (kernelRun0_B.sl.v237 (F := Ideal) c i a4 h4 a16 x2) (biases a7 h7 x5) :=
  reads_of hin 2 _ _ (band_of 2 (placed_k0_off1_2 i) _ _ _ _ (keys hin)) (band_of 2 (placed_k0_off1_2 i) _ _ _ _ (vals hin))
theorem ds2 (r : Fin 64) (k : Fin 576) : (kernelRun0_B.sl.v2919 (F := Ideal) c i a2 h2 a3 h3 a4 h4 a5 h5 a6 h6 a7 h7 a8 h8 a15 a16 x0 x1 x2 x3 x4 x5 x6) (ix2 r k) = (H.chunk 2).ds r k :=
  ((reads2 (c := c) (i := i) (h2 := h2) (h3 := h3) (h4 := h4) (h5 := h5) (h6 := h6) (h7 := h7) (h8 := h8) (a15 := a15) (a16 := a16) hin).ds_at r k)
theorem dkb2 (k : Fin 576) (d : Fin 128) : (kernelRun0_B.sl.v3192 (F := Ideal) c i a2 h2 a3 h3 a4 h4 a5 h5 a6 h6 a7 h7 a8 h8 a15 a16 x0 x1 x2 x3 x4 x5 x6) (ix2 k d) = (H.chunk 2).dkb k d :=
  ((reads2 (c := c) (i := i) (h2 := h2) (h3 := h3) (h4 := h4) (h5 := h5) (h6 := h6) (h7 := h7) (h8 := h8) (a15 := a15) (a16 := a16) hin).dkb_at (ds2 hin) k d)
theorem dvb2 (k : Fin 576) (d : Fin 128) : (kernelRun0_B.sl.v2079 (F := Ideal) c i a2 h2 a3 h3 a5 h5 a6 h6 a7 h7 a8 h8 a15 x0 x1 x3 x4 x5 x6) (ix2 k d) = (H.chunk 2).dvb k d :=
  ((reads2 (c := c) (i := i) (h2 := h2) (h3 := h3) (h4 := h3) (h5 := h5) (h6 := h6) (h7 := h7) (h8 := h8) (a15 := a15) (a16 := a15) hin).dvb_at k d)
theorem dq2 (r : Fin 64) (d : Fin 128) : (kernelRun0_B.sl.v3924 (F := Ideal) c i a2 h2 a3 h3 a4 h4 a5 h5 a6 h6 a7 h7 a8 h8 a15 a16 x0 x1 x2 x3 x4 x5 x6) (ix2 r d) = H.dq (Head.row 2 r) d :=
  (((reads2 (c := c) (i := i) (h2 := h2) (h3 := h3) (h4 := h4) (h5 := h5) (h6 := h6) (h7 := h7) (h8 := h8) (a15 := a15) (a16 := a16) hin).dq_at (ds2 hin) r d).trans (dq_row H 2 r d))
theorem dqg2 (d : Fin 128) : (kernelRun0_B.sl.v3821 (F := Ideal) c i a2 h2 a3 h3 a4 h4 a5 h5 a6 h6 a7 h7 a8 h8 a15 a16 x0 x1 x2 x3 x4 x5 x6) (ix2 0 d) = ∑ r, xn (H.q (Head.row 2 r)) d * (H.chunk 2).dqh r d :=
  ((reads2 (c := c) (i := i) (h2 := h2) (h3 := h3) (h4 := h4) (h5 := h5) (h6 := h6) (h7 := h7) (h8 := h8) (a15 := a15) (a16 := a16) hin).dqg_at (ds2 hin) d)
theorem reads3 : Reads (H.chunk 3) (start i 3#32) (rows a2 h2 x0 3) (rows a8 h8 x6 3) (gain a5 h5 x3)
    (kernelRun0_B.sl.v175 (F := Ideal) c i a3 h3 a6 h6 a15 x1 x4) (kernelRun0_B.sl.v239 (F := Ideal) c i a4 h4 a16 x2) (biases a7 h7 x5) :=
  reads_of hin 3 _ _ (band_of 3 (placed_k0_off1_3 i) _ _ _ _ (keys hin)) (band_of 3 (placed_k0_off1_3 i) _ _ _ _ (vals hin))
theorem ds3 (r : Fin 64) (k : Fin 576) : (kernelRun0_B.sl.v2917 (F := Ideal) c i a2 h2 a3 h3 a4 h4 a5 h5 a6 h6 a7 h7 a8 h8 a15 a16 x0 x1 x2 x3 x4 x5 x6) (ix2 r k) = (H.chunk 3).ds r k :=
  ((reads3 (c := c) (i := i) (h2 := h2) (h3 := h3) (h4 := h4) (h5 := h5) (h6 := h6) (h7 := h7) (h8 := h8) (a15 := a15) (a16 := a16) hin).ds_at r k)
theorem dkb3 (k : Fin 576) (d : Fin 128) : (kernelRun0_B.sl.v3183 (F := Ideal) c i a2 h2 a3 h3 a4 h4 a5 h5 a6 h6 a7 h7 a8 h8 a15 a16 x0 x1 x2 x3 x4 x5 x6) (ix2 k d) = (H.chunk 3).dkb k d :=
  ((reads3 (c := c) (i := i) (h2 := h2) (h3 := h3) (h4 := h4) (h5 := h5) (h6 := h6) (h7 := h7) (h8 := h8) (a15 := a15) (a16 := a16) hin).dkb_at (ds3 hin) k d)
theorem dvb3 (k : Fin 576) (d : Fin 128) : (kernelRun0_B.sl.v2073 (F := Ideal) c i a2 h2 a3 h3 a5 h5 a6 h6 a7 h7 a8 h8 a15 x0 x1 x3 x4 x5 x6) (ix2 k d) = (H.chunk 3).dvb k d :=
  ((reads3 (c := c) (i := i) (h2 := h2) (h3 := h3) (h4 := h3) (h5 := h5) (h6 := h6) (h7 := h7) (h8 := h8) (a15 := a15) (a16 := a15) hin).dvb_at k d)
theorem dq3 (r : Fin 64) (d : Fin 128) : (kernelRun0_B.sl.v3940 (F := Ideal) c i a2 h2 a3 h3 a4 h4 a5 h5 a6 h6 a7 h7 a8 h8 a15 a16 x0 x1 x2 x3 x4 x5 x6) (ix2 r d) = H.dq (Head.row 3 r) d :=
  (((reads3 (c := c) (i := i) (h2 := h2) (h3 := h3) (h4 := h4) (h5 := h5) (h6 := h6) (h7 := h7) (h8 := h8) (a15 := a15) (a16 := a16) hin).dq_at (ds3 hin) r d).trans (dq_row H 3 r d))
theorem dqg3 (d : Fin 128) : (kernelRun0_B.sl.v3800 (F := Ideal) c i a2 h2 a3 h3 a4 h4 a5 h5 a6 h6 a7 h7 a8 h8 a15 a16 x0 x1 x2 x3 x4 x5 x6) (ix2 0 d) = ∑ r, xn (H.q (Head.row 3 r)) d * (H.chunk 3).dqh r d :=
  ((reads3 (c := c) (i := i) (h2 := h2) (h3 := h3) (h4 := h4) (h5 := h5) (h6 := h6) (h7 := h7) (h8 := h8) (a15 := a15) (a16 := a16) hin).dqg_at (ds3 hin) d)
theorem reads4 : Reads (H.chunk 4) (start i 4#32) (rows a2 h2 x0 4) (rows a8 h8 x6 4) (gain a5 h5 x3)
    (kernelRun0_B.sl.v177 (F := Ideal) c i a3 h3 a6 h6 a15 x1 x4) (kernelRun0_B.sl.v241 (F := Ideal) c i a4 h4 a16 x2) (biases a7 h7 x5) :=
  reads_of hin 4 _ _ (band_of 4 (placed_k0_off1_4 i) _ _ _ _ (keys hin)) (band_of 4 (placed_k0_off1_4 i) _ _ _ _ (vals hin))
theorem ds4 (r : Fin 64) (k : Fin 576) : (kernelRun0_B.sl.v2915 (F := Ideal) c i a2 h2 a3 h3 a4 h4 a5 h5 a6 h6 a7 h7 a8 h8 a15 a16 x0 x1 x2 x3 x4 x5 x6) (ix2 r k) = (H.chunk 4).ds r k :=
  ((reads4 (c := c) (i := i) (h2 := h2) (h3 := h3) (h4 := h4) (h5 := h5) (h6 := h6) (h7 := h7) (h8 := h8) (a15 := a15) (a16 := a16) hin).ds_at r k)
theorem dkb4 (k : Fin 576) (d : Fin 128) : (kernelRun0_B.sl.v3174 (F := Ideal) c i a2 h2 a3 h3 a4 h4 a5 h5 a6 h6 a7 h7 a8 h8 a15 a16 x0 x1 x2 x3 x4 x5 x6) (ix2 k d) = (H.chunk 4).dkb k d :=
  ((reads4 (c := c) (i := i) (h2 := h2) (h3 := h3) (h4 := h4) (h5 := h5) (h6 := h6) (h7 := h7) (h8 := h8) (a15 := a15) (a16 := a16) hin).dkb_at (ds4 hin) k d)
theorem dvb4 (k : Fin 576) (d : Fin 128) : (kernelRun0_B.sl.v2067 (F := Ideal) c i a2 h2 a3 h3 a5 h5 a6 h6 a7 h7 a8 h8 a15 x0 x1 x3 x4 x5 x6) (ix2 k d) = (H.chunk 4).dvb k d :=
  ((reads4 (c := c) (i := i) (h2 := h2) (h3 := h3) (h4 := h3) (h5 := h5) (h6 := h6) (h7 := h7) (h8 := h8) (a15 := a15) (a16 := a15) hin).dvb_at k d)
theorem dq4 (r : Fin 64) (d : Fin 128) : (kernelRun0_B.sl.v3956 (F := Ideal) c i a2 h2 a3 h3 a4 h4 a5 h5 a6 h6 a7 h7 a8 h8 a15 a16 x0 x1 x2 x3 x4 x5 x6) (ix2 r d) = H.dq (Head.row 4 r) d :=
  (((reads4 (c := c) (i := i) (h2 := h2) (h3 := h3) (h4 := h4) (h5 := h5) (h6 := h6) (h7 := h7) (h8 := h8) (a15 := a15) (a16 := a16) hin).dq_at (ds4 hin) r d).trans (dq_row H 4 r d))
theorem dqg4 (d : Fin 128) : (kernelRun0_B.sl.v3779 (F := Ideal) c i a2 h2 a3 h3 a4 h4 a5 h5 a6 h6 a7 h7 a8 h8 a15 a16 x0 x1 x2 x3 x4 x5 x6) (ix2 0 d) = ∑ r, xn (H.q (Head.row 4 r)) d * (H.chunk 4).dqh r d :=
  ((reads4 (c := c) (i := i) (h2 := h2) (h3 := h3) (h4 := h4) (h5 := h5) (h6 := h6) (h7 := h7) (h8 := h8) (a15 := a15) (a16 := a16) hin).dqg_at (ds4 hin) d)
theorem reads5 : Reads (H.chunk 5) (start i 5#32) (rows a2 h2 x0 5) (rows a8 h8 x6 5) (gain a5 h5 x3)
    (kernelRun0_B.sl.v179 (F := Ideal) c i a3 h3 a6 h6 a15 x1 x4) (kernelRun0_B.sl.v243 (F := Ideal) c i a4 h4 a16 x2) (biases a7 h7 x5) :=
  reads_of hin 5 _ _ (band_of 5 (placed_k0_off1_5 i) _ _ _ _ (keys hin)) (band_of 5 (placed_k0_off1_5 i) _ _ _ _ (vals hin))
theorem ds5 (r : Fin 64) (k : Fin 576) : (kernelRun0_B.sl.v2913 (F := Ideal) c i a2 h2 a3 h3 a4 h4 a5 h5 a6 h6 a7 h7 a8 h8 a15 a16 x0 x1 x2 x3 x4 x5 x6) (ix2 r k) = (H.chunk 5).ds r k :=
  ((reads5 (c := c) (i := i) (h2 := h2) (h3 := h3) (h4 := h4) (h5 := h5) (h6 := h6) (h7 := h7) (h8 := h8) (a15 := a15) (a16 := a16) hin).ds_at r k)
theorem dkb5 (k : Fin 576) (d : Fin 128) : (kernelRun0_B.sl.v3165 (F := Ideal) c i a2 h2 a3 h3 a4 h4 a5 h5 a6 h6 a7 h7 a8 h8 a15 a16 x0 x1 x2 x3 x4 x5 x6) (ix2 k d) = (H.chunk 5).dkb k d :=
  ((reads5 (c := c) (i := i) (h2 := h2) (h3 := h3) (h4 := h4) (h5 := h5) (h6 := h6) (h7 := h7) (h8 := h8) (a15 := a15) (a16 := a16) hin).dkb_at (ds5 hin) k d)
theorem dvb5 (k : Fin 576) (d : Fin 128) : (kernelRun0_B.sl.v2061 (F := Ideal) c i a2 h2 a3 h3 a5 h5 a6 h6 a7 h7 a8 h8 a15 x0 x1 x3 x4 x5 x6) (ix2 k d) = (H.chunk 5).dvb k d :=
  ((reads5 (c := c) (i := i) (h2 := h2) (h3 := h3) (h4 := h3) (h5 := h5) (h6 := h6) (h7 := h7) (h8 := h8) (a15 := a15) (a16 := a15) hin).dvb_at k d)
theorem dq5 (r : Fin 64) (d : Fin 128) : (kernelRun0_B.sl.v3972 (F := Ideal) c i a2 h2 a3 h3 a4 h4 a5 h5 a6 h6 a7 h7 a8 h8 a15 a16 x0 x1 x2 x3 x4 x5 x6) (ix2 r d) = H.dq (Head.row 5 r) d :=
  (((reads5 (c := c) (i := i) (h2 := h2) (h3 := h3) (h4 := h4) (h5 := h5) (h6 := h6) (h7 := h7) (h8 := h8) (a15 := a15) (a16 := a16) hin).dq_at (ds5 hin) r d).trans (dq_row H 5 r d))
theorem dqg5 (d : Fin 128) : (kernelRun0_B.sl.v3758 (F := Ideal) c i a2 h2 a3 h3 a4 h4 a5 h5 a6 h6 a7 h7 a8 h8 a15 a16 x0 x1 x2 x3 x4 x5 x6) (ix2 0 d) = ∑ r, xn (H.q (Head.row 5 r)) d * (H.chunk 5).dqh r d :=
  ((reads5 (c := c) (i := i) (h2 := h2) (h3 := h3) (h4 := h4) (h5 := h5) (h6 := h6) (h7 := h7) (h8 := h8) (a15 := a15) (a16 := a16) hin).dqg_at (ds5 hin) d)
theorem reads6 : Reads (H.chunk 6) (start i 6#32) (rows a2 h2 x0 6) (rows a8 h8 x6 6) (gain a5 h5 x3)
    (kernelRun0_B.sl.v181 (F := Ideal) c i a3 h3 a6 h6 a15 x1 x4) (kernelRun0_B.sl.v245 (F := Ideal) c i a4 h4 a16 x2) (biases a7 h7 x5) :=
  reads_of hin 6 _ _ (band_of 6 (placed_k0_off1_6 i) _ _ _ _ (keys hin)) (band_of 6 (placed_k0_off1_6 i) _ _ _ _ (vals hin))
theorem ds6 (r : Fin 64) (k : Fin 576) : (kernelRun0_B.sl.v2911 (F := Ideal) c i a2 h2 a3 h3 a4 h4 a5 h5 a6 h6 a7 h7 a8 h8 a15 a16 x0 x1 x2 x3 x4 x5 x6) (ix2 r k) = (H.chunk 6).ds r k :=
  ((reads6 (c := c) (i := i) (h2 := h2) (h3 := h3) (h4 := h4) (h5 := h5) (h6 := h6) (h7 := h7) (h8 := h8) (a15 := a15) (a16 := a16) hin).ds_at r k)
theorem dkb6 (k : Fin 576) (d : Fin 128) : (kernelRun0_B.sl.v3156 (F := Ideal) c i a2 h2 a3 h3 a4 h4 a5 h5 a6 h6 a7 h7 a8 h8 a15 a16 x0 x1 x2 x3 x4 x5 x6) (ix2 k d) = (H.chunk 6).dkb k d :=
  ((reads6 (c := c) (i := i) (h2 := h2) (h3 := h3) (h4 := h4) (h5 := h5) (h6 := h6) (h7 := h7) (h8 := h8) (a15 := a15) (a16 := a16) hin).dkb_at (ds6 hin) k d)
theorem dvb6 (k : Fin 576) (d : Fin 128) : (kernelRun0_B.sl.v2055 (F := Ideal) c i a2 h2 a3 h3 a5 h5 a6 h6 a7 h7 a8 h8 a15 x0 x1 x3 x4 x5 x6) (ix2 k d) = (H.chunk 6).dvb k d :=
  ((reads6 (c := c) (i := i) (h2 := h2) (h3 := h3) (h4 := h3) (h5 := h5) (h6 := h6) (h7 := h7) (h8 := h8) (a15 := a15) (a16 := a15) hin).dvb_at k d)
theorem dq6 (r : Fin 64) (d : Fin 128) : (kernelRun0_B.sl.v3988 (F := Ideal) c i a2 h2 a3 h3 a4 h4 a5 h5 a6 h6 a7 h7 a8 h8 a15 a16 x0 x1 x2 x3 x4 x5 x6) (ix2 r d) = H.dq (Head.row 6 r) d :=
  (((reads6 (c := c) (i := i) (h2 := h2) (h3 := h3) (h4 := h4) (h5 := h5) (h6 := h6) (h7 := h7) (h8 := h8) (a15 := a15) (a16 := a16) hin).dq_at (ds6 hin) r d).trans (dq_row H 6 r d))
theorem dqg6 (d : Fin 128) : (kernelRun0_B.sl.v3737 (F := Ideal) c i a2 h2 a3 h3 a4 h4 a5 h5 a6 h6 a7 h7 a8 h8 a15 a16 x0 x1 x2 x3 x4 x5 x6) (ix2 0 d) = ∑ r, xn (H.q (Head.row 6 r)) d * (H.chunk 6).dqh r d :=
  ((reads6 (c := c) (i := i) (h2 := h2) (h3 := h3) (h4 := h4) (h5 := h5) (h6 := h6) (h7 := h7) (h8 := h8) (a15 := a15) (a16 := a16) hin).dqg_at (ds6 hin) d)
theorem reads7 : Reads (H.chunk 7) (start i 7#32) (rows a2 h2 x0 7) (rows a8 h8 x6 7) (gain a5 h5 x3)
    (kernelRun0_B.sl.v183 (F := Ideal) c i a3 h3 a6 h6 a15 x1 x4) (kernelRun0_B.sl.v247 (F := Ideal) c i a4 h4 a16 x2) (biases a7 h7 x5) :=
  reads_of hin 7 _ _ (band_of 7 (placed_k0_off1_7 i) _ _ _ _ (keys hin)) (band_of 7 (placed_k0_off1_7 i) _ _ _ _ (vals hin))
theorem ds7 (r : Fin 64) (k : Fin 576) : (kernelRun0_B.sl.v2909 (F := Ideal) c i a2 h2 a3 h3 a4 h4 a5 h5 a6 h6 a7 h7 a8 h8 a15 a16 x0 x1 x2 x3 x4 x5 x6) (ix2 r k) = (H.chunk 7).ds r k :=
  ((reads7 (c := c) (i := i) (h2 := h2) (h3 := h3) (h4 := h4) (h5 := h5) (h6 := h6) (h7 := h7) (h8 := h8) (a15 := a15) (a16 := a16) hin).ds_at r k)
theorem dkb7 (k : Fin 576) (d : Fin 128) : (kernelRun0_B.sl.v3147 (F := Ideal) c i a2 h2 a3 h3 a4 h4 a5 h5 a6 h6 a7 h7 a8 h8 a15 a16 x0 x1 x2 x3 x4 x5 x6) (ix2 k d) = (H.chunk 7).dkb k d :=
  ((reads7 (c := c) (i := i) (h2 := h2) (h3 := h3) (h4 := h4) (h5 := h5) (h6 := h6) (h7 := h7) (h8 := h8) (a15 := a15) (a16 := a16) hin).dkb_at (ds7 hin) k d)
theorem dvb7 (k : Fin 576) (d : Fin 128) : (kernelRun0_B.sl.v2049 (F := Ideal) c i a2 h2 a3 h3 a5 h5 a6 h6 a7 h7 a8 h8 a15 x0 x1 x3 x4 x5 x6) (ix2 k d) = (H.chunk 7).dvb k d :=
  ((reads7 (c := c) (i := i) (h2 := h2) (h3 := h3) (h4 := h3) (h5 := h5) (h6 := h6) (h7 := h7) (h8 := h8) (a15 := a15) (a16 := a15) hin).dvb_at k d)
theorem dq7 (r : Fin 64) (d : Fin 128) : (kernelRun0_B.sl.v4004 (F := Ideal) c i a2 h2 a3 h3 a4 h4 a5 h5 a6 h6 a7 h7 a8 h8 a15 a16 x0 x1 x2 x3 x4 x5 x6) (ix2 r d) = H.dq (Head.row 7 r) d :=
  (((reads7 (c := c) (i := i) (h2 := h2) (h3 := h3) (h4 := h4) (h5 := h5) (h6 := h6) (h7 := h7) (h8 := h8) (a15 := a15) (a16 := a16) hin).dq_at (ds7 hin) r d).trans (dq_row H 7 r d))
theorem dqg7 (d : Fin 128) : (kernelRun0_B.sl.v3716 (F := Ideal) c i a2 h2 a3 h3 a4 h4 a5 h5 a6 h6 a7 h7 a8 h8 a15 a16 x0 x1 x2 x3 x4 x5 x6) (ix2 0 d) = ∑ r, xn (H.q (Head.row 7 r)) d * (H.chunk 7).dqh r d :=
  ((reads7 (c := c) (i := i) (h2 := h2) (h3 := h3) (h4 := h4) (h5 := h5) (h6 := h6) (h7 := h7) (h8 := h8) (a15 := a15) (a16 := a16) hin).dqg_at (ds7 hin) d)
theorem reads8 : Reads (H.chunk 8) (start i 8#32) (rows a2 h2 x0 8) (rows a8 h8 x6 8) (gain a5 h5 x3)
    (kernelRun0_B.sl.v185 (F := Ideal) c i a3 h3 a6 h6 a15 x1 x4) (kernelRun0_B.sl.v249 (F := Ideal) c i a4 h4 a16 x2) (biases a7 h7 x5) :=
  reads_of hin 8 _ _ (band_of 8 (placed_k0_off1_8 i) _ _ _ _ (keys hin)) (band_of 8 (placed_k0_off1_8 i) _ _ _ _ (vals hin))
theorem ds8 (r : Fin 64) (k : Fin 576) : (kernelRun0_B.sl.v2907 (F := Ideal) c i a2 h2 a3 h3 a4 h4 a5 h5 a6 h6 a7 h7 a8 h8 a15 a16 x0 x1 x2 x3 x4 x5 x6) (ix2 r k) = (H.chunk 8).ds r k :=
  ((reads8 (c := c) (i := i) (h2 := h2) (h3 := h3) (h4 := h4) (h5 := h5) (h6 := h6) (h7 := h7) (h8 := h8) (a15 := a15) (a16 := a16) hin).ds_at r k)
theorem dkb8 (k : Fin 576) (d : Fin 128) : (kernelRun0_B.sl.v3138 (F := Ideal) c i a2 h2 a3 h3 a4 h4 a5 h5 a6 h6 a7 h7 a8 h8 a15 a16 x0 x1 x2 x3 x4 x5 x6) (ix2 k d) = (H.chunk 8).dkb k d :=
  ((reads8 (c := c) (i := i) (h2 := h2) (h3 := h3) (h4 := h4) (h5 := h5) (h6 := h6) (h7 := h7) (h8 := h8) (a15 := a15) (a16 := a16) hin).dkb_at (ds8 hin) k d)
theorem dvb8 (k : Fin 576) (d : Fin 128) : (kernelRun0_B.sl.v2043 (F := Ideal) c i a2 h2 a3 h3 a5 h5 a6 h6 a7 h7 a8 h8 a15 x0 x1 x3 x4 x5 x6) (ix2 k d) = (H.chunk 8).dvb k d :=
  ((reads8 (c := c) (i := i) (h2 := h2) (h3 := h3) (h4 := h3) (h5 := h5) (h6 := h6) (h7 := h7) (h8 := h8) (a15 := a15) (a16 := a15) hin).dvb_at k d)
theorem dq8 (r : Fin 64) (d : Fin 128) : (kernelRun0_B.sl.v4020 (F := Ideal) c i a2 h2 a3 h3 a4 h4 a5 h5 a6 h6 a7 h7 a8 h8 a15 a16 x0 x1 x2 x3 x4 x5 x6) (ix2 r d) = H.dq (Head.row 8 r) d :=
  (((reads8 (c := c) (i := i) (h2 := h2) (h3 := h3) (h4 := h4) (h5 := h5) (h6 := h6) (h7 := h7) (h8 := h8) (a15 := a15) (a16 := a16) hin).dq_at (ds8 hin) r d).trans (dq_row H 8 r d))
theorem dqg8 (d : Fin 128) : (kernelRun0_B.sl.v3695 (F := Ideal) c i a2 h2 a3 h3 a4 h4 a5 h5 a6 h6 a7 h7 a8 h8 a15 a16 x0 x1 x2 x3 x4 x5 x6) (ix2 0 d) = ∑ r, xn (H.q (Head.row 8 r)) d * (H.chunk 8).dqh r d :=
  ((reads8 (c := c) (i := i) (h2 := h2) (h3 := h3) (h4 := h4) (h5 := h5) (h6 := h6) (h7 := h7) (h8 := h8) (a15 := a15) (a16 := a16) hin).dqg_at (ds8 hin) d)
theorem reads9 : Reads (H.chunk 9) (start i 9#32) (rows a2 h2 x0 9) (rows a8 h8 x6 9) (gain a5 h5 x3)
    (kernelRun0_B.sl.v187 (F := Ideal) c i a3 h3 a6 h6 a15 x1 x4) (kernelRun0_B.sl.v251 (F := Ideal) c i a4 h4 a16 x2) (biases a7 h7 x5) :=
  reads_of hin 9 _ _ (band_of 9 (placed_k0_off1_9 i) _ _ _ _ (keys hin)) (band_of 9 (placed_k0_off1_9 i) _ _ _ _ (vals hin))
theorem ds9 (r : Fin 64) (k : Fin 576) : (kernelRun0_B.sl.v2905 (F := Ideal) c i a2 h2 a3 h3 a4 h4 a5 h5 a6 h6 a7 h7 a8 h8 a15 a16 x0 x1 x2 x3 x4 x5 x6) (ix2 r k) = (H.chunk 9).ds r k :=
  ((reads9 (c := c) (i := i) (h2 := h2) (h3 := h3) (h4 := h4) (h5 := h5) (h6 := h6) (h7 := h7) (h8 := h8) (a15 := a15) (a16 := a16) hin).ds_at r k)
theorem dkb9 (k : Fin 576) (d : Fin 128) : (kernelRun0_B.sl.v3129 (F := Ideal) c i a2 h2 a3 h3 a4 h4 a5 h5 a6 h6 a7 h7 a8 h8 a15 a16 x0 x1 x2 x3 x4 x5 x6) (ix2 k d) = (H.chunk 9).dkb k d :=
  ((reads9 (c := c) (i := i) (h2 := h2) (h3 := h3) (h4 := h4) (h5 := h5) (h6 := h6) (h7 := h7) (h8 := h8) (a15 := a15) (a16 := a16) hin).dkb_at (ds9 hin) k d)
theorem dvb9 (k : Fin 576) (d : Fin 128) : (kernelRun0_B.sl.v2037 (F := Ideal) c i a2 h2 a3 h3 a5 h5 a6 h6 a7 h7 a8 h8 a15 x0 x1 x3 x4 x5 x6) (ix2 k d) = (H.chunk 9).dvb k d :=
  ((reads9 (c := c) (i := i) (h2 := h2) (h3 := h3) (h4 := h3) (h5 := h5) (h6 := h6) (h7 := h7) (h8 := h8) (a15 := a15) (a16 := a15) hin).dvb_at k d)
theorem dq9 (r : Fin 64) (d : Fin 128) : (kernelRun0_B.sl.v4036 (F := Ideal) c i a2 h2 a3 h3 a4 h4 a5 h5 a6 h6 a7 h7 a8 h8 a15 a16 x0 x1 x2 x3 x4 x5 x6) (ix2 r d) = H.dq (Head.row 9 r) d :=
  (((reads9 (c := c) (i := i) (h2 := h2) (h3 := h3) (h4 := h4) (h5 := h5) (h6 := h6) (h7 := h7) (h8 := h8) (a15 := a15) (a16 := a16) hin).dq_at (ds9 hin) r d).trans (dq_row H 9 r d))
theorem dqg9 (d : Fin 128) : (kernelRun0_B.sl.v3674 (F := Ideal) c i a2 h2 a3 h3 a4 h4 a5 h5 a6 h6 a7 h7 a8 h8 a15 a16 x0 x1 x2 x3 x4 x5 x6) (ix2 0 d) = ∑ r, xn (H.q (Head.row 9 r)) d * (H.chunk 9).dqh r d :=
  ((reads9 (c := c) (i := i) (h2 := h2) (h3 := h3) (h4 := h4) (h5 := h5) (h6 := h6) (h7 := h7) (h8 := h8) (a15 := a15) (a16 := a16) hin).dqg_at (ds9 hin) d)
theorem reads10 : Reads (H.chunk 10) (start i 10#32) (rows a2 h2 x0 10) (rows a8 h8 x6 10) (gain a5 h5 x3)
    (kernelRun0_B.sl.v189 (F := Ideal) c i a3 h3 a6 h6 a15 x1 x4) (kernelRun0_B.sl.v253 (F := Ideal) c i a4 h4 a16 x2) (biases a7 h7 x5) :=
  reads_of hin 10 _ _ (band_of 10 (placed_k0_off1_10 i) _ _ _ _ (keys hin)) (band_of 10 (placed_k0_off1_10 i) _ _ _ _ (vals hin))
theorem ds10 (r : Fin 64) (k : Fin 576) : (kernelRun0_B.sl.v2903 (F := Ideal) c i a2 h2 a3 h3 a4 h4 a5 h5 a6 h6 a7 h7 a8 h8 a15 a16 x0 x1 x2 x3 x4 x5 x6) (ix2 r k) = (H.chunk 10).ds r k :=
  ((reads10 (c := c) (i := i) (h2 := h2) (h3 := h3) (h4 := h4) (h5 := h5) (h6 := h6) (h7 := h7) (h8 := h8) (a15 := a15) (a16 := a16) hin).ds_at r k)
theorem dkb10 (k : Fin 576) (d : Fin 128) : (kernelRun0_B.sl.v3120 (F := Ideal) c i a2 h2 a3 h3 a4 h4 a5 h5 a6 h6 a7 h7 a8 h8 a15 a16 x0 x1 x2 x3 x4 x5 x6) (ix2 k d) = (H.chunk 10).dkb k d :=
  ((reads10 (c := c) (i := i) (h2 := h2) (h3 := h3) (h4 := h4) (h5 := h5) (h6 := h6) (h7 := h7) (h8 := h8) (a15 := a15) (a16 := a16) hin).dkb_at (ds10 hin) k d)
theorem dvb10 (k : Fin 576) (d : Fin 128) : (kernelRun0_B.sl.v2031 (F := Ideal) c i a2 h2 a3 h3 a5 h5 a6 h6 a7 h7 a8 h8 a15 x0 x1 x3 x4 x5 x6) (ix2 k d) = (H.chunk 10).dvb k d :=
  ((reads10 (c := c) (i := i) (h2 := h2) (h3 := h3) (h4 := h3) (h5 := h5) (h6 := h6) (h7 := h7) (h8 := h8) (a15 := a15) (a16 := a15) hin).dvb_at k d)
theorem dq10 (r : Fin 64) (d : Fin 128) : (kernelRun0_B.sl.v4052 (F := Ideal) c i a2 h2 a3 h3 a4 h4 a5 h5 a6 h6 a7 h7 a8 h8 a15 a16 x0 x1 x2 x3 x4 x5 x6) (ix2 r d) = H.dq (Head.row 10 r) d :=
  (((reads10 (c := c) (i := i) (h2 := h2) (h3 := h3) (h4 := h4) (h5 := h5) (h6 := h6) (h7 := h7) (h8 := h8) (a15 := a15) (a16 := a16) hin).dq_at (ds10 hin) r d).trans (dq_row H 10 r d))
theorem dqg10 (d : Fin 128) : (kernelRun0_B.sl.v3653 (F := Ideal) c i a2 h2 a3 h3 a4 h4 a5 h5 a6 h6 a7 h7 a8 h8 a15 a16 x0 x1 x2 x3 x4 x5 x6) (ix2 0 d) = ∑ r, xn (H.q (Head.row 10 r)) d * (H.chunk 10).dqh r d :=
  ((reads10 (c := c) (i := i) (h2 := h2) (h3 := h3) (h4 := h4) (h5 := h5) (h6 := h6) (h7 := h7) (h8 := h8) (a15 := a15) (a16 := a16) hin).dqg_at (ds10 hin) d)
theorem reads11 : Reads (H.chunk 11) (start i 11#32) (rows a2 h2 x0 11) (rows a8 h8 x6 11) (gain a5 h5 x3)
    (kernelRun0_B.sl.v191 (F := Ideal) c i a3 h3 a6 h6 a15 x1 x4) (kernelRun0_B.sl.v255 (F := Ideal) c i a4 h4 a16 x2) (biases a7 h7 x5) :=
  reads_of hin 11 _ _ (band_of 11 (placed_k0_off1_11 i) _ _ _ _ (keys hin)) (band_of 11 (placed_k0_off1_11 i) _ _ _ _ (vals hin))
theorem ds11 (r : Fin 64) (k : Fin 576) : (kernelRun0_B.sl.v2901 (F := Ideal) c i a2 h2 a3 h3 a4 h4 a5 h5 a6 h6 a7 h7 a8 h8 a15 a16 x0 x1 x2 x3 x4 x5 x6) (ix2 r k) = (H.chunk 11).ds r k :=
  ((reads11 (c := c) (i := i) (h2 := h2) (h3 := h3) (h4 := h4) (h5 := h5) (h6 := h6) (h7 := h7) (h8 := h8) (a15 := a15) (a16 := a16) hin).ds_at r k)
theorem dkb11 (k : Fin 576) (d : Fin 128) : (kernelRun0_B.sl.v3111 (F := Ideal) c i a2 h2 a3 h3 a4 h4 a5 h5 a6 h6 a7 h7 a8 h8 a15 a16 x0 x1 x2 x3 x4 x5 x6) (ix2 k d) = (H.chunk 11).dkb k d :=
  ((reads11 (c := c) (i := i) (h2 := h2) (h3 := h3) (h4 := h4) (h5 := h5) (h6 := h6) (h7 := h7) (h8 := h8) (a15 := a15) (a16 := a16) hin).dkb_at (ds11 hin) k d)
theorem dvb11 (k : Fin 576) (d : Fin 128) : (kernelRun0_B.sl.v2025 (F := Ideal) c i a2 h2 a3 h3 a5 h5 a6 h6 a7 h7 a8 h8 a15 x0 x1 x3 x4 x5 x6) (ix2 k d) = (H.chunk 11).dvb k d :=
  ((reads11 (c := c) (i := i) (h2 := h2) (h3 := h3) (h4 := h3) (h5 := h5) (h6 := h6) (h7 := h7) (h8 := h8) (a15 := a15) (a16 := a15) hin).dvb_at k d)
theorem dq11 (r : Fin 64) (d : Fin 128) : (kernelRun0_B.sl.v4068 (F := Ideal) c i a2 h2 a3 h3 a4 h4 a5 h5 a6 h6 a7 h7 a8 h8 a15 a16 x0 x1 x2 x3 x4 x5 x6) (ix2 r d) = H.dq (Head.row 11 r) d :=
  (((reads11 (c := c) (i := i) (h2 := h2) (h3 := h3) (h4 := h4) (h5 := h5) (h6 := h6) (h7 := h7) (h8 := h8) (a15 := a15) (a16 := a16) hin).dq_at (ds11 hin) r d).trans (dq_row H 11 r d))
theorem dqg11 (d : Fin 128) : (kernelRun0_B.sl.v3632 (F := Ideal) c i a2 h2 a3 h3 a4 h4 a5 h5 a6 h6 a7 h7 a8 h8 a15 a16 x0 x1 x2 x3 x4 x5 x6) (ix2 0 d) = ∑ r, xn (H.q (Head.row 11 r)) d * (H.chunk 11).dqh r d :=
  ((reads11 (c := c) (i := i) (h2 := h2) (h3 := h3) (h4 := h4) (h5 := h5) (h6 := h6) (h7 := h7) (h8 := h8) (a15 := a15) (a16 := a16) hin).dqg_at (ds11 hin) d)
theorem reads12 : Reads (H.chunk 12) (start i 12#32) (rows a2 h2 x0 12) (rows a8 h8 x6 12) (gain a5 h5 x3)
    (kernelRun0_B.sl.v193 (F := Ideal) c i a3 h3 a6 h6 a15 x1 x4) (kernelRun0_B.sl.v257 (F := Ideal) c i a4 h4 a16 x2) (biases a7 h7 x5) :=
  reads_of hin 12 _ _ (band_of 12 (placed_k0_off1_12 i) _ _ _ _ (keys hin)) (band_of 12 (placed_k0_off1_12 i) _ _ _ _ (vals hin))
theorem ds12 (r : Fin 64) (k : Fin 576) : (kernelRun0_B.sl.v2899 (F := Ideal) c i a2 h2 a3 h3 a4 h4 a5 h5 a6 h6 a7 h7 a8 h8 a15 a16 x0 x1 x2 x3 x4 x5 x6) (ix2 r k) = (H.chunk 12).ds r k :=
  ((reads12 (c := c) (i := i) (h2 := h2) (h3 := h3) (h4 := h4) (h5 := h5) (h6 := h6) (h7 := h7) (h8 := h8) (a15 := a15) (a16 := a16) hin).ds_at r k)
theorem dkb12 (k : Fin 576) (d : Fin 128) : (kernelRun0_B.sl.v3102 (F := Ideal) c i a2 h2 a3 h3 a4 h4 a5 h5 a6 h6 a7 h7 a8 h8 a15 a16 x0 x1 x2 x3 x4 x5 x6) (ix2 k d) = (H.chunk 12).dkb k d :=
  ((reads12 (c := c) (i := i) (h2 := h2) (h3 := h3) (h4 := h4) (h5 := h5) (h6 := h6) (h7 := h7) (h8 := h8) (a15 := a15) (a16 := a16) hin).dkb_at (ds12 hin) k d)
theorem dvb12 (k : Fin 576) (d : Fin 128) : (kernelRun0_B.sl.v2019 (F := Ideal) c i a2 h2 a3 h3 a5 h5 a6 h6 a7 h7 a8 h8 a15 x0 x1 x3 x4 x5 x6) (ix2 k d) = (H.chunk 12).dvb k d :=
  ((reads12 (c := c) (i := i) (h2 := h2) (h3 := h3) (h4 := h3) (h5 := h5) (h6 := h6) (h7 := h7) (h8 := h8) (a15 := a15) (a16 := a15) hin).dvb_at k d)
theorem dq12 (r : Fin 64) (d : Fin 128) : (kernelRun0_B.sl.v4084 (F := Ideal) c i a2 h2 a3 h3 a4 h4 a5 h5 a6 h6 a7 h7 a8 h8 a15 a16 x0 x1 x2 x3 x4 x5 x6) (ix2 r d) = H.dq (Head.row 12 r) d :=
  (((reads12 (c := c) (i := i) (h2 := h2) (h3 := h3) (h4 := h4) (h5 := h5) (h6 := h6) (h7 := h7) (h8 := h8) (a15 := a15) (a16 := a16) hin).dq_at (ds12 hin) r d).trans (dq_row H 12 r d))
theorem dqg12 (d : Fin 128) : (kernelRun0_B.sl.v3611 (F := Ideal) c i a2 h2 a3 h3 a4 h4 a5 h5 a6 h6 a7 h7 a8 h8 a15 a16 x0 x1 x2 x3 x4 x5 x6) (ix2 0 d) = ∑ r, xn (H.q (Head.row 12 r)) d * (H.chunk 12).dqh r d :=
  ((reads12 (c := c) (i := i) (h2 := h2) (h3 := h3) (h4 := h4) (h5 := h5) (h6 := h6) (h7 := h7) (h8 := h8) (a15 := a15) (a16 := a16) hin).dqg_at (ds12 hin) d)
theorem reads13 : Reads (H.chunk 13) (start i 13#32) (rows a2 h2 x0 13) (rows a8 h8 x6 13) (gain a5 h5 x3)
    (kernelRun0_B.sl.v195 (F := Ideal) c i a3 h3 a6 h6 a15 x1 x4) (kernelRun0_B.sl.v259 (F := Ideal) c i a4 h4 a16 x2) (biases a7 h7 x5) :=
  reads_of hin 13 _ _ (band_of 13 (placed_k0_off1_13 i) _ _ _ _ (keys hin)) (band_of 13 (placed_k0_off1_13 i) _ _ _ _ (vals hin))
theorem ds13 (r : Fin 64) (k : Fin 576) : (kernelRun0_B.sl.v2897 (F := Ideal) c i a2 h2 a3 h3 a4 h4 a5 h5 a6 h6 a7 h7 a8 h8 a15 a16 x0 x1 x2 x3 x4 x5 x6) (ix2 r k) = (H.chunk 13).ds r k :=
  ((reads13 (c := c) (i := i) (h2 := h2) (h3 := h3) (h4 := h4) (h5 := h5) (h6 := h6) (h7 := h7) (h8 := h8) (a15 := a15) (a16 := a16) hin).ds_at r k)
theorem dkb13 (k : Fin 576) (d : Fin 128) : (kernelRun0_B.sl.v3093 (F := Ideal) c i a2 h2 a3 h3 a4 h4 a5 h5 a6 h6 a7 h7 a8 h8 a15 a16 x0 x1 x2 x3 x4 x5 x6) (ix2 k d) = (H.chunk 13).dkb k d :=
  ((reads13 (c := c) (i := i) (h2 := h2) (h3 := h3) (h4 := h4) (h5 := h5) (h6 := h6) (h7 := h7) (h8 := h8) (a15 := a15) (a16 := a16) hin).dkb_at (ds13 hin) k d)
theorem dvb13 (k : Fin 576) (d : Fin 128) : (kernelRun0_B.sl.v2013 (F := Ideal) c i a2 h2 a3 h3 a5 h5 a6 h6 a7 h7 a8 h8 a15 x0 x1 x3 x4 x5 x6) (ix2 k d) = (H.chunk 13).dvb k d :=
  ((reads13 (c := c) (i := i) (h2 := h2) (h3 := h3) (h4 := h3) (h5 := h5) (h6 := h6) (h7 := h7) (h8 := h8) (a15 := a15) (a16 := a15) hin).dvb_at k d)
theorem dq13 (r : Fin 64) (d : Fin 128) : (kernelRun0_B.sl.v4100 (F := Ideal) c i a2 h2 a3 h3 a4 h4 a5 h5 a6 h6 a7 h7 a8 h8 a15 a16 x0 x1 x2 x3 x4 x5 x6) (ix2 r d) = H.dq (Head.row 13 r) d :=
  (((reads13 (c := c) (i := i) (h2 := h2) (h3 := h3) (h4 := h4) (h5 := h5) (h6 := h6) (h7 := h7) (h8 := h8) (a15 := a15) (a16 := a16) hin).dq_at (ds13 hin) r d).trans (dq_row H 13 r d))
theorem dqg13 (d : Fin 128) : (kernelRun0_B.sl.v3590 (F := Ideal) c i a2 h2 a3 h3 a4 h4 a5 h5 a6 h6 a7 h7 a8 h8 a15 a16 x0 x1 x2 x3 x4 x5 x6) (ix2 0 d) = ∑ r, xn (H.q (Head.row 13 r)) d * (H.chunk 13).dqh r d :=
  ((reads13 (c := c) (i := i) (h2 := h2) (h3 := h3) (h4 := h4) (h5 := h5) (h6 := h6) (h7 := h7) (h8 := h8) (a15 := a15) (a16 := a16) hin).dqg_at (ds13 hin) d)
theorem reads14 : Reads (H.chunk 14) (start i 14#32) (rows a2 h2 x0 14) (rows a8 h8 x6 14) (gain a5 h5 x3)
    (kernelRun0_B.sl.v197 (F := Ideal) c i a3 h3 a6 h6 a15 x1 x4) (kernelRun0_B.sl.v261 (F := Ideal) c i a4 h4 a16 x2) (biases a7 h7 x5) :=
  reads_of hin 14 _ _ (band_of 14 (placed_k0_off1_14 i) _ _ _ _ (keys hin)) (band_of 14 (placed_k0_off1_14 i) _ _ _ _ (vals hin))
theorem ds14 (r : Fin 64) (k : Fin 576) : (kernelRun0_B.sl.v2895 (F := Ideal) c i a2 h2 a3 h3 a4 h4 a5 h5 a6 h6 a7 h7 a8 h8 a15 a16 x0 x1 x2 x3 x4 x5 x6) (ix2 r k) = (H.chunk 14).ds r k :=
  ((reads14 (c := c) (i := i) (h2 := h2) (h3 := h3) (h4 := h4) (h5 := h5) (h6 := h6) (h7 := h7) (h8 := h8) (a15 := a15) (a16 := a16) hin).ds_at r k)
theorem dkb14 (k : Fin 576) (d : Fin 128) : (kernelRun0_B.sl.v3084 (F := Ideal) c i a2 h2 a3 h3 a4 h4 a5 h5 a6 h6 a7 h7 a8 h8 a15 a16 x0 x1 x2 x3 x4 x5 x6) (ix2 k d) = (H.chunk 14).dkb k d :=
  ((reads14 (c := c) (i := i) (h2 := h2) (h3 := h3) (h4 := h4) (h5 := h5) (h6 := h6) (h7 := h7) (h8 := h8) (a15 := a15) (a16 := a16) hin).dkb_at (ds14 hin) k d)
theorem dvb14 (k : Fin 576) (d : Fin 128) : (kernelRun0_B.sl.v2007 (F := Ideal) c i a2 h2 a3 h3 a5 h5 a6 h6 a7 h7 a8 h8 a15 x0 x1 x3 x4 x5 x6) (ix2 k d) = (H.chunk 14).dvb k d :=
  ((reads14 (c := c) (i := i) (h2 := h2) (h3 := h3) (h4 := h3) (h5 := h5) (h6 := h6) (h7 := h7) (h8 := h8) (a15 := a15) (a16 := a15) hin).dvb_at k d)
theorem dq14 (r : Fin 64) (d : Fin 128) : (kernelRun0_B.sl.v4116 (F := Ideal) c i a2 h2 a3 h3 a4 h4 a5 h5 a6 h6 a7 h7 a8 h8 a15 a16 x0 x1 x2 x3 x4 x5 x6) (ix2 r d) = H.dq (Head.row 14 r) d :=
  (((reads14 (c := c) (i := i) (h2 := h2) (h3 := h3) (h4 := h4) (h5 := h5) (h6 := h6) (h7 := h7) (h8 := h8) (a15 := a15) (a16 := a16) hin).dq_at (ds14 hin) r d).trans (dq_row H 14 r d))
theorem dqg14 (d : Fin 128) : (kernelRun0_B.sl.v3569 (F := Ideal) c i a2 h2 a3 h3 a4 h4 a5 h5 a6 h6 a7 h7 a8 h8 a15 a16 x0 x1 x2 x3 x4 x5 x6) (ix2 0 d) = ∑ r, xn (H.q (Head.row 14 r)) d * (H.chunk 14).dqh r d :=
  ((reads14 (c := c) (i := i) (h2 := h2) (h3 := h3) (h4 := h4) (h5 := h5) (h6 := h6) (h7 := h7) (h8 := h8) (a15 := a15) (a16 := a16) hin).dqg_at (ds14 hin) d)
theorem reads15 : Reads (H.chunk 15) (start i 15#32) (rows a2 h2 x0 15) (rows a8 h8 x6 15) (gain a5 h5 x3)
    (kernelRun0_B.sl.v199 (F := Ideal) c i a3 h3 a6 h6 a15 x1 x4) (kernelRun0_B.sl.v263 (F := Ideal) c i a4 h4 a16 x2) (biases a7 h7 x5) :=
  reads_of hin 15 _ _ (band_of 15 (placed_k0_off1_15 i) _ _ _ _ (keys hin)) (band_of 15 (placed_k0_off1_15 i) _ _ _ _ (vals hin))
theorem ds15 (r : Fin 64) (k : Fin 576) : (kernelRun0_B.sl.v2893 (F := Ideal) c i a2 h2 a3 h3 a4 h4 a5 h5 a6 h6 a7 h7 a8 h8 a15 a16 x0 x1 x2 x3 x4 x5 x6) (ix2 r k) = (H.chunk 15).ds r k :=
  ((reads15 (c := c) (i := i) (h2 := h2) (h3 := h3) (h4 := h4) (h5 := h5) (h6 := h6) (h7 := h7) (h8 := h8) (a15 := a15) (a16 := a16) hin).ds_at r k)
theorem dkb15 (k : Fin 576) (d : Fin 128) : (kernelRun0_B.sl.v3075 (F := Ideal) c i a2 h2 a3 h3 a4 h4 a5 h5 a6 h6 a7 h7 a8 h8 a15 a16 x0 x1 x2 x3 x4 x5 x6) (ix2 k d) = (H.chunk 15).dkb k d :=
  ((reads15 (c := c) (i := i) (h2 := h2) (h3 := h3) (h4 := h4) (h5 := h5) (h6 := h6) (h7 := h7) (h8 := h8) (a15 := a15) (a16 := a16) hin).dkb_at (ds15 hin) k d)
theorem dvb15 (k : Fin 576) (d : Fin 128) : (kernelRun0_B.sl.v2001 (F := Ideal) c i a2 h2 a3 h3 a5 h5 a6 h6 a7 h7 a8 h8 a15 x0 x1 x3 x4 x5 x6) (ix2 k d) = (H.chunk 15).dvb k d :=
  ((reads15 (c := c) (i := i) (h2 := h2) (h3 := h3) (h4 := h3) (h5 := h5) (h6 := h6) (h7 := h7) (h8 := h8) (a15 := a15) (a16 := a15) hin).dvb_at k d)
theorem dq15 (r : Fin 64) (d : Fin 128) : (kernelRun0_B.sl.v4132 (F := Ideal) c i a2 h2 a3 h3 a4 h4 a5 h5 a6 h6 a7 h7 a8 h8 a15 a16 x0 x1 x2 x3 x4 x5 x6) (ix2 r d) = H.dq (Head.row 15 r) d :=
  (((reads15 (c := c) (i := i) (h2 := h2) (h3 := h3) (h4 := h4) (h5 := h5) (h6 := h6) (h7 := h7) (h8 := h8) (a15 := a15) (a16 := a16) hin).dq_at (ds15 hin) r d).trans (dq_row H 15 r d))
theorem dqg15 (d : Fin 128) : (kernelRun0_B.sl.v3548 (F := Ideal) c i a2 h2 a3 h3 a4 h4 a5 h5 a6 h6 a7 h7 a8 h8 a15 a16 x0 x1 x2 x3 x4 x5 x6) (ix2 0 d) = ∑ r, xn (H.q (Head.row 15 r)) d * (H.chunk 15).dqh r d :=
  ((reads15 (c := c) (i := i) (h2 := h2) (h3 := h3) (h4 := h4) (h5 := h5) (h6 := h6) (h7 := h7) (h8 := h8) (a15 := a15) (a16 := a16) hin).dqg_at (ds15 hin) d)
theorem reads16 : Reads (H.chunk 16) (start i 16#32) (rows a2 h2 x0 16) (rows a8 h8 x6 16) (gain a5 h5 x3)
    (kernelRun0_B.sl.v201 (F := Ideal) c i a3 h3 a6 h6 a15 x1 x4) (kernelRun0_B.sl.v265 (F := Ideal) c i a4 h4 a16 x2) (biases a7 h7 x5) :=
  reads_of hin 16 _ _ (band_of 16 (placed_k0_off1_16 i) _ _ _ _ (keys hin)) (band_of 16 (placed_k0_off1_16 i) _ _ _ _ (vals hin))
theorem ds16 (r : Fin 64) (k : Fin 576) : (kernelRun0_B.sl.v2891 (F := Ideal) c i a2 h2 a3 h3 a4 h4 a5 h5 a6 h6 a7 h7 a8 h8 a15 a16 x0 x1 x2 x3 x4 x5 x6) (ix2 r k) = (H.chunk 16).ds r k :=
  ((reads16 (c := c) (i := i) (h2 := h2) (h3 := h3) (h4 := h4) (h5 := h5) (h6 := h6) (h7 := h7) (h8 := h8) (a15 := a15) (a16 := a16) hin).ds_at r k)
theorem dkb16 (k : Fin 576) (d : Fin 128) : (kernelRun0_B.sl.v3066 (F := Ideal) c i a2 h2 a3 h3 a4 h4 a5 h5 a6 h6 a7 h7 a8 h8 a15 a16 x0 x1 x2 x3 x4 x5 x6) (ix2 k d) = (H.chunk 16).dkb k d :=
  ((reads16 (c := c) (i := i) (h2 := h2) (h3 := h3) (h4 := h4) (h5 := h5) (h6 := h6) (h7 := h7) (h8 := h8) (a15 := a15) (a16 := a16) hin).dkb_at (ds16 hin) k d)
theorem dvb16 (k : Fin 576) (d : Fin 128) : (kernelRun0_B.sl.v1995 (F := Ideal) c i a2 h2 a3 h3 a5 h5 a6 h6 a7 h7 a8 h8 a15 x0 x1 x3 x4 x5 x6) (ix2 k d) = (H.chunk 16).dvb k d :=
  ((reads16 (c := c) (i := i) (h2 := h2) (h3 := h3) (h4 := h3) (h5 := h5) (h6 := h6) (h7 := h7) (h8 := h8) (a15 := a15) (a16 := a15) hin).dvb_at k d)
theorem dq16 (r : Fin 64) (d : Fin 128) : (kernelRun0_B.sl.v4148 (F := Ideal) c i a2 h2 a3 h3 a4 h4 a5 h5 a6 h6 a7 h7 a8 h8 a15 a16 x0 x1 x2 x3 x4 x5 x6) (ix2 r d) = H.dq (Head.row 16 r) d :=
  (((reads16 (c := c) (i := i) (h2 := h2) (h3 := h3) (h4 := h4) (h5 := h5) (h6 := h6) (h7 := h7) (h8 := h8) (a15 := a15) (a16 := a16) hin).dq_at (ds16 hin) r d).trans (dq_row H 16 r d))
theorem dqg16 (d : Fin 128) : (kernelRun0_B.sl.v3527 (F := Ideal) c i a2 h2 a3 h3 a4 h4 a5 h5 a6 h6 a7 h7 a8 h8 a15 a16 x0 x1 x2 x3 x4 x5 x6) (ix2 0 d) = ∑ r, xn (H.q (Head.row 16 r)) d * (H.chunk 16).dqh r d :=
  ((reads16 (c := c) (i := i) (h2 := h2) (h3 := h3) (h4 := h4) (h5 := h5) (h6 := h6) (h7 := h7) (h8 := h8) (a15 := a15) (a16 := a16) hin).dqg_at (ds16 hin) d)
theorem reads17 : Reads (H.chunk 17) (start i 17#32) (rows a2 h2 x0 17) (rows a8 h8 x6 17) (gain a5 h5 x3)
    (kernelRun0_B.sl.v203 (F := Ideal) c i a3 h3 a6 h6 a15 x1 x4) (kernelRun0_B.sl.v267 (F := Ideal) c i a4 h4 a16 x2) (biases a7 h7 x5) :=
  reads_of hin 17 _ _ (band_of 17 (placed_k0_off1_17 i) _ _ _ _ (keys hin)) (band_of 17 (placed_k0_off1_17 i) _ _ _ _ (vals hin))
theorem ds17 (r : Fin 64) (k : Fin 576) : (kernelRun0_B.sl.v2889 (F := Ideal) c i a2 h2 a3 h3 a4 h4 a5 h5 a6 h6 a7 h7 a8 h8 a15 a16 x0 x1 x2 x3 x4 x5 x6) (ix2 r k) = (H.chunk 17).ds r k :=
  ((reads17 (c := c) (i := i) (h2 := h2) (h3 := h3) (h4 := h4) (h5 := h5) (h6 := h6) (h7 := h7) (h8 := h8) (a15 := a15) (a16 := a16) hin).ds_at r k)
theorem dkb17 (k : Fin 576) (d : Fin 128) : (kernelRun0_B.sl.v3057 (F := Ideal) c i a2 h2 a3 h3 a4 h4 a5 h5 a6 h6 a7 h7 a8 h8 a15 a16 x0 x1 x2 x3 x4 x5 x6) (ix2 k d) = (H.chunk 17).dkb k d :=
  ((reads17 (c := c) (i := i) (h2 := h2) (h3 := h3) (h4 := h4) (h5 := h5) (h6 := h6) (h7 := h7) (h8 := h8) (a15 := a15) (a16 := a16) hin).dkb_at (ds17 hin) k d)
theorem dvb17 (k : Fin 576) (d : Fin 128) : (kernelRun0_B.sl.v1989 (F := Ideal) c i a2 h2 a3 h3 a5 h5 a6 h6 a7 h7 a8 h8 a15 x0 x1 x3 x4 x5 x6) (ix2 k d) = (H.chunk 17).dvb k d :=
  ((reads17 (c := c) (i := i) (h2 := h2) (h3 := h3) (h4 := h3) (h5 := h5) (h6 := h6) (h7 := h7) (h8 := h8) (a15 := a15) (a16 := a15) hin).dvb_at k d)
theorem dq17 (r : Fin 64) (d : Fin 128) : (kernelRun0_B.sl.v4164 (F := Ideal) c i a2 h2 a3 h3 a4 h4 a5 h5 a6 h6 a7 h7 a8 h8 a15 a16 x0 x1 x2 x3 x4 x5 x6) (ix2 r d) = H.dq (Head.row 17 r) d :=
  (((reads17 (c := c) (i := i) (h2 := h2) (h3 := h3) (h4 := h4) (h5 := h5) (h6 := h6) (h7 := h7) (h8 := h8) (a15 := a15) (a16 := a16) hin).dq_at (ds17 hin) r d).trans (dq_row H 17 r d))
theorem dqg17 (d : Fin 128) : (kernelRun0_B.sl.v3506 (F := Ideal) c i a2 h2 a3 h3 a4 h4 a5 h5 a6 h6 a7 h7 a8 h8 a15 a16 x0 x1 x2 x3 x4 x5 x6) (ix2 0 d) = ∑ r, xn (H.q (Head.row 17 r)) d * (H.chunk 17).dqh r d :=
  ((reads17 (c := c) (i := i) (h2 := h2) (h3 := h3) (h4 := h4) (h5 := h5) (h6 := h6) (h7 := h7) (h8 := h8) (a15 := a15) (a16 := a16) hin).dqg_at (ds17 hin) d)
theorem reads18 : Reads (H.chunk 18) (start i 18#32) (rows a2 h2 x0 18) (rows a8 h8 x6 18) (gain a5 h5 x3)
    (kernelRun0_B.sl.v205 (F := Ideal) c i a3 h3 a6 h6 a15 x1 x4) (kernelRun0_B.sl.v269 (F := Ideal) c i a4 h4 a16 x2) (biases a7 h7 x5) :=
  reads_of hin 18 _ _ (band_of 18 (placed_k0_off1_18 i) _ _ _ _ (keys hin)) (band_of 18 (placed_k0_off1_18 i) _ _ _ _ (vals hin))
theorem ds18 (r : Fin 64) (k : Fin 576) : (kernelRun0_B.sl.v2887 (F := Ideal) c i a2 h2 a3 h3 a4 h4 a5 h5 a6 h6 a7 h7 a8 h8 a15 a16 x0 x1 x2 x3 x4 x5 x6) (ix2 r k) = (H.chunk 18).ds r k :=
  ((reads18 (c := c) (i := i) (h2 := h2) (h3 := h3) (h4 := h4) (h5 := h5) (h6 := h6) (h7 := h7) (h8 := h8) (a15 := a15) (a16 := a16) hin).ds_at r k)
theorem dkb18 (k : Fin 576) (d : Fin 128) : (kernelRun0_B.sl.v3048 (F := Ideal) c i a2 h2 a3 h3 a4 h4 a5 h5 a6 h6 a7 h7 a8 h8 a15 a16 x0 x1 x2 x3 x4 x5 x6) (ix2 k d) = (H.chunk 18).dkb k d :=
  ((reads18 (c := c) (i := i) (h2 := h2) (h3 := h3) (h4 := h4) (h5 := h5) (h6 := h6) (h7 := h7) (h8 := h8) (a15 := a15) (a16 := a16) hin).dkb_at (ds18 hin) k d)
theorem dvb18 (k : Fin 576) (d : Fin 128) : (kernelRun0_B.sl.v1983 (F := Ideal) c i a2 h2 a3 h3 a5 h5 a6 h6 a7 h7 a8 h8 a15 x0 x1 x3 x4 x5 x6) (ix2 k d) = (H.chunk 18).dvb k d :=
  ((reads18 (c := c) (i := i) (h2 := h2) (h3 := h3) (h4 := h3) (h5 := h5) (h6 := h6) (h7 := h7) (h8 := h8) (a15 := a15) (a16 := a15) hin).dvb_at k d)
theorem dq18 (r : Fin 64) (d : Fin 128) : (kernelRun0_B.sl.v4180 (F := Ideal) c i a2 h2 a3 h3 a4 h4 a5 h5 a6 h6 a7 h7 a8 h8 a15 a16 x0 x1 x2 x3 x4 x5 x6) (ix2 r d) = H.dq (Head.row 18 r) d :=
  (((reads18 (c := c) (i := i) (h2 := h2) (h3 := h3) (h4 := h4) (h5 := h5) (h6 := h6) (h7 := h7) (h8 := h8) (a15 := a15) (a16 := a16) hin).dq_at (ds18 hin) r d).trans (dq_row H 18 r d))
theorem dqg18 (d : Fin 128) : (kernelRun0_B.sl.v3485 (F := Ideal) c i a2 h2 a3 h3 a4 h4 a5 h5 a6 h6 a7 h7 a8 h8 a15 a16 x0 x1 x2 x3 x4 x5 x6) (ix2 0 d) = ∑ r, xn (H.q (Head.row 18 r)) d * (H.chunk 18).dqh r d :=
  ((reads18 (c := c) (i := i) (h2 := h2) (h3 := h3) (h4 := h4) (h5 := h5) (h6 := h6) (h7 := h7) (h8 := h8) (a15 := a15) (a16 := a16) hin).dqg_at (ds18 hin) d)
theorem reads19 : Reads (H.chunk 19) (start i 19#32) (rows a2 h2 x0 19) (rows a8 h8 x6 19) (gain a5 h5 x3)
    (kernelRun0_B.sl.v207 (F := Ideal) c i a3 h3 a6 h6 a15 x1 x4) (kernelRun0_B.sl.v271 (F := Ideal) c i a4 h4 a16 x2) (biases a7 h7 x5) :=
  reads_of hin 19 _ _ (band_of 19 (placed_k0_off1_19 i) _ _ _ _ (keys hin)) (band_of 19 (placed_k0_off1_19 i) _ _ _ _ (vals hin))
theorem ds19 (r : Fin 64) (k : Fin 576) : (kernelRun0_B.sl.v2885 (F := Ideal) c i a2 h2 a3 h3 a4 h4 a5 h5 a6 h6 a7 h7 a8 h8 a15 a16 x0 x1 x2 x3 x4 x5 x6) (ix2 r k) = (H.chunk 19).ds r k :=
  ((reads19 (c := c) (i := i) (h2 := h2) (h3 := h3) (h4 := h4) (h5 := h5) (h6 := h6) (h7 := h7) (h8 := h8) (a15 := a15) (a16 := a16) hin).ds_at r k)
theorem dkb19 (k : Fin 576) (d : Fin 128) : (kernelRun0_B.sl.v3039 (F := Ideal) c i a2 h2 a3 h3 a4 h4 a5 h5 a6 h6 a7 h7 a8 h8 a15 a16 x0 x1 x2 x3 x4 x5 x6) (ix2 k d) = (H.chunk 19).dkb k d :=
  ((reads19 (c := c) (i := i) (h2 := h2) (h3 := h3) (h4 := h4) (h5 := h5) (h6 := h6) (h7 := h7) (h8 := h8) (a15 := a15) (a16 := a16) hin).dkb_at (ds19 hin) k d)
theorem dvb19 (k : Fin 576) (d : Fin 128) : (kernelRun0_B.sl.v1977 (F := Ideal) c i a2 h2 a3 h3 a5 h5 a6 h6 a7 h7 a8 h8 a15 x0 x1 x3 x4 x5 x6) (ix2 k d) = (H.chunk 19).dvb k d :=
  ((reads19 (c := c) (i := i) (h2 := h2) (h3 := h3) (h4 := h3) (h5 := h5) (h6 := h6) (h7 := h7) (h8 := h8) (a15 := a15) (a16 := a15) hin).dvb_at k d)
theorem dq19 (r : Fin 64) (d : Fin 128) : (kernelRun0_B.sl.v4196 (F := Ideal) c i a2 h2 a3 h3 a4 h4 a5 h5 a6 h6 a7 h7 a8 h8 a15 a16 x0 x1 x2 x3 x4 x5 x6) (ix2 r d) = H.dq (Head.row 19 r) d :=
  (((reads19 (c := c) (i := i) (h2 := h2) (h3 := h3) (h4 := h4) (h5 := h5) (h6 := h6) (h7 := h7) (h8 := h8) (a15 := a15) (a16 := a16) hin).dq_at (ds19 hin) r d).trans (dq_row H 19 r d))
theorem dqg19 (d : Fin 128) : (kernelRun0_B.sl.v3464 (F := Ideal) c i a2 h2 a3 h3 a4 h4 a5 h5 a6 h6 a7 h7 a8 h8 a15 a16 x0 x1 x2 x3 x4 x5 x6) (ix2 0 d) = ∑ r, xn (H.q (Head.row 19 r)) d * (H.chunk 19).dqh r d :=
  ((reads19 (c := c) (i := i) (h2 := h2) (h3 := h3) (h4 := h4) (h5 := h5) (h6 := h6) (h7 := h7) (h8 := h8) (a15 := a15) (a16 := a16) hin).dqg_at (ds19 hin) d)
theorem reads20 : Reads (H.chunk 20) (start i 20#32) (rows a2 h2 x0 20) (rows a8 h8 x6 20) (gain a5 h5 x3)
    (kernelRun0_B.sl.v209 (F := Ideal) c i a3 h3 a6 h6 a15 x1 x4) (kernelRun0_B.sl.v273 (F := Ideal) c i a4 h4 a16 x2) (biases a7 h7 x5) :=
  reads_of hin 20 _ _ (band_of 20 (placed_k0_off1_20 i) _ _ _ _ (keys hin)) (band_of 20 (placed_k0_off1_20 i) _ _ _ _ (vals hin))
theorem ds20 (r : Fin 64) (k : Fin 576) : (kernelRun0_B.sl.v2883 (F := Ideal) c i a2 h2 a3 h3 a4 h4 a5 h5 a6 h6 a7 h7 a8 h8 a15 a16 x0 x1 x2 x3 x4 x5 x6) (ix2 r k) = (H.chunk 20).ds r k :=
  ((reads20 (c := c) (i := i) (h2 := h2) (h3 := h3) (h4 := h4) (h5 := h5) (h6 := h6) (h7 := h7) (h8 := h8) (a15 := a15) (a16 := a16) hin).ds_at r k)
theorem dkb20 (k : Fin 576) (d : Fin 128) : (kernelRun0_B.sl.v3030 (F := Ideal) c i a2 h2 a3 h3 a4 h4 a5 h5 a6 h6 a7 h7 a8 h8 a15 a16 x0 x1 x2 x3 x4 x5 x6) (ix2 k d) = (H.chunk 20).dkb k d :=
  ((reads20 (c := c) (i := i) (h2 := h2) (h3 := h3) (h4 := h4) (h5 := h5) (h6 := h6) (h7 := h7) (h8 := h8) (a15 := a15) (a16 := a16) hin).dkb_at (ds20 hin) k d)
theorem dvb20 (k : Fin 576) (d : Fin 128) : (kernelRun0_B.sl.v1971 (F := Ideal) c i a2 h2 a3 h3 a5 h5 a6 h6 a7 h7 a8 h8 a15 x0 x1 x3 x4 x5 x6) (ix2 k d) = (H.chunk 20).dvb k d :=
  ((reads20 (c := c) (i := i) (h2 := h2) (h3 := h3) (h4 := h3) (h5 := h5) (h6 := h6) (h7 := h7) (h8 := h8) (a15 := a15) (a16 := a15) hin).dvb_at k d)
theorem dq20 (r : Fin 64) (d : Fin 128) : (kernelRun0_B.sl.v4212 (F := Ideal) c i a2 h2 a3 h3 a4 h4 a5 h5 a6 h6 a7 h7 a8 h8 a15 a16 x0 x1 x2 x3 x4 x5 x6) (ix2 r d) = H.dq (Head.row 20 r) d :=
  (((reads20 (c := c) (i := i) (h2 := h2) (h3 := h3) (h4 := h4) (h5 := h5) (h6 := h6) (h7 := h7) (h8 := h8) (a15 := a15) (a16 := a16) hin).dq_at (ds20 hin) r d).trans (dq_row H 20 r d))
theorem dqg20 (d : Fin 128) : (kernelRun0_B.sl.v3443 (F := Ideal) c i a2 h2 a3 h3 a4 h4 a5 h5 a6 h6 a7 h7 a8 h8 a15 a16 x0 x1 x2 x3 x4 x5 x6) (ix2 0 d) = ∑ r, xn (H.q (Head.row 20 r)) d * (H.chunk 20).dqh r d :=
  ((reads20 (c := c) (i := i) (h2 := h2) (h3 := h3) (h4 := h4) (h5 := h5) (h6 := h6) (h7 := h7) (h8 := h8) (a15 := a15) (a16 := a16) hin).dqg_at (ds20 hin) d)
theorem reads21 : Reads (H.chunk 21) (start i 21#32) (rows a2 h2 x0 21) (rows a8 h8 x6 21) (gain a5 h5 x3)
    (kernelRun0_B.sl.v211 (F := Ideal) c i a3 h3 a6 h6 a15 x1 x4) (kernelRun0_B.sl.v275 (F := Ideal) c i a4 h4 a16 x2) (biases a7 h7 x5) :=
  reads_of hin 21 _ _ (band_of 21 (placed_k0_off1_21 i) _ _ _ _ (keys hin)) (band_of 21 (placed_k0_off1_21 i) _ _ _ _ (vals hin))
theorem ds21 (r : Fin 64) (k : Fin 576) : (kernelRun0_B.sl.v2881 (F := Ideal) c i a2 h2 a3 h3 a4 h4 a5 h5 a6 h6 a7 h7 a8 h8 a15 a16 x0 x1 x2 x3 x4 x5 x6) (ix2 r k) = (H.chunk 21).ds r k :=
  ((reads21 (c := c) (i := i) (h2 := h2) (h3 := h3) (h4 := h4) (h5 := h5) (h6 := h6) (h7 := h7) (h8 := h8) (a15 := a15) (a16 := a16) hin).ds_at r k)
theorem dkb21 (k : Fin 576) (d : Fin 128) : (kernelRun0_B.sl.v3021 (F := Ideal) c i a2 h2 a3 h3 a4 h4 a5 h5 a6 h6 a7 h7 a8 h8 a15 a16 x0 x1 x2 x3 x4 x5 x6) (ix2 k d) = (H.chunk 21).dkb k d :=
  ((reads21 (c := c) (i := i) (h2 := h2) (h3 := h3) (h4 := h4) (h5 := h5) (h6 := h6) (h7 := h7) (h8 := h8) (a15 := a15) (a16 := a16) hin).dkb_at (ds21 hin) k d)
theorem dvb21 (k : Fin 576) (d : Fin 128) : (kernelRun0_B.sl.v1965 (F := Ideal) c i a2 h2 a3 h3 a5 h5 a6 h6 a7 h7 a8 h8 a15 x0 x1 x3 x4 x5 x6) (ix2 k d) = (H.chunk 21).dvb k d :=
  ((reads21 (c := c) (i := i) (h2 := h2) (h3 := h3) (h4 := h3) (h5 := h5) (h6 := h6) (h7 := h7) (h8 := h8) (a15 := a15) (a16 := a15) hin).dvb_at k d)
theorem dq21 (r : Fin 64) (d : Fin 128) : (kernelRun0_B.sl.v4228 (F := Ideal) c i a2 h2 a3 h3 a4 h4 a5 h5 a6 h6 a7 h7 a8 h8 a15 a16 x0 x1 x2 x3 x4 x5 x6) (ix2 r d) = H.dq (Head.row 21 r) d :=
  (((reads21 (c := c) (i := i) (h2 := h2) (h3 := h3) (h4 := h4) (h5 := h5) (h6 := h6) (h7 := h7) (h8 := h8) (a15 := a15) (a16 := a16) hin).dq_at (ds21 hin) r d).trans (dq_row H 21 r d))
theorem dqg21 (d : Fin 128) : (kernelRun0_B.sl.v3422 (F := Ideal) c i a2 h2 a3 h3 a4 h4 a5 h5 a6 h6 a7 h7 a8 h8 a15 a16 x0 x1 x2 x3 x4 x5 x6) (ix2 0 d) = ∑ r, xn (H.q (Head.row 21 r)) d * (H.chunk 21).dqh r d :=
  ((reads21 (c := c) (i := i) (h2 := h2) (h3 := h3) (h4 := h4) (h5 := h5) (h6 := h6) (h7 := h7) (h8 := h8) (a15 := a15) (a16 := a16) hin).dqg_at (ds21 hin) d)
theorem reads22 : Reads (H.chunk 22) (start i 22#32) (rows a2 h2 x0 22) (rows a8 h8 x6 22) (gain a5 h5 x3)
    (kernelRun0_B.sl.v213 (F := Ideal) c i a3 h3 a6 h6 a15 x1 x4) (kernelRun0_B.sl.v277 (F := Ideal) c i a4 h4 a16 x2) (biases a7 h7 x5) :=
  reads_of hin 22 _ _ (band_of 22 (placed_k0_off1_22 i) _ _ _ _ (keys hin)) (band_of 22 (placed_k0_off1_22 i) _ _ _ _ (vals hin))
theorem ds22 (r : Fin 64) (k : Fin 576) : (kernelRun0_B.sl.v2879 (F := Ideal) c i a2 h2 a3 h3 a4 h4 a5 h5 a6 h6 a7 h7 a8 h8 a15 a16 x0 x1 x2 x3 x4 x5 x6) (ix2 r k) = (H.chunk 22).ds r k :=
  ((reads22 (c := c) (i := i) (h2 := h2) (h3 := h3) (h4 := h4) (h5 := h5) (h6 := h6) (h7 := h7) (h8 := h8) (a15 := a15) (a16 := a16) hin).ds_at r k)
theorem dkb22 (k : Fin 576) (d : Fin 128) : (kernelRun0_B.sl.v3012 (F := Ideal) c i a2 h2 a3 h3 a4 h4 a5 h5 a6 h6 a7 h7 a8 h8 a15 a16 x0 x1 x2 x3 x4 x5 x6) (ix2 k d) = (H.chunk 22).dkb k d :=
  ((reads22 (c := c) (i := i) (h2 := h2) (h3 := h3) (h4 := h4) (h5 := h5) (h6 := h6) (h7 := h7) (h8 := h8) (a15 := a15) (a16 := a16) hin).dkb_at (ds22 hin) k d)
theorem dvb22 (k : Fin 576) (d : Fin 128) : (kernelRun0_B.sl.v1959 (F := Ideal) c i a2 h2 a3 h3 a5 h5 a6 h6 a7 h7 a8 h8 a15 x0 x1 x3 x4 x5 x6) (ix2 k d) = (H.chunk 22).dvb k d :=
  ((reads22 (c := c) (i := i) (h2 := h2) (h3 := h3) (h4 := h3) (h5 := h5) (h6 := h6) (h7 := h7) (h8 := h8) (a15 := a15) (a16 := a15) hin).dvb_at k d)
theorem dq22 (r : Fin 64) (d : Fin 128) : (kernelRun0_B.sl.v4244 (F := Ideal) c i a2 h2 a3 h3 a4 h4 a5 h5 a6 h6 a7 h7 a8 h8 a15 a16 x0 x1 x2 x3 x4 x5 x6) (ix2 r d) = H.dq (Head.row 22 r) d :=
  (((reads22 (c := c) (i := i) (h2 := h2) (h3 := h3) (h4 := h4) (h5 := h5) (h6 := h6) (h7 := h7) (h8 := h8) (a15 := a15) (a16 := a16) hin).dq_at (ds22 hin) r d).trans (dq_row H 22 r d))
theorem dqg22 (d : Fin 128) : (kernelRun0_B.sl.v3401 (F := Ideal) c i a2 h2 a3 h3 a4 h4 a5 h5 a6 h6 a7 h7 a8 h8 a15 a16 x0 x1 x2 x3 x4 x5 x6) (ix2 0 d) = ∑ r, xn (H.q (Head.row 22 r)) d * (H.chunk 22).dqh r d :=
  ((reads22 (c := c) (i := i) (h2 := h2) (h3 := h3) (h4 := h4) (h5 := h5) (h6 := h6) (h7 := h7) (h8 := h8) (a15 := a15) (a16 := a16) hin).dqg_at (ds22 hin) d)
theorem reads23 : Reads (H.chunk 23) (start i 23#32) (rows a2 h2 x0 23) (rows a8 h8 x6 23) (gain a5 h5 x3)
    (kernelRun0_B.sl.v215 (F := Ideal) c i a3 h3 a6 h6 a15 x1 x4) (kernelRun0_B.sl.v279 (F := Ideal) c i a4 h4 a16 x2) (biases a7 h7 x5) :=
  reads_of hin 23 _ _ (band_of 23 (placed_k0_off1_23 i) _ _ _ _ (keys hin)) (band_of 23 (placed_k0_off1_23 i) _ _ _ _ (vals hin))
theorem ds23 (r : Fin 64) (k : Fin 576) : (kernelRun0_B.sl.v2877 (F := Ideal) c i a2 h2 a3 h3 a4 h4 a5 h5 a6 h6 a7 h7 a8 h8 a15 a16 x0 x1 x2 x3 x4 x5 x6) (ix2 r k) = (H.chunk 23).ds r k :=
  ((reads23 (c := c) (i := i) (h2 := h2) (h3 := h3) (h4 := h4) (h5 := h5) (h6 := h6) (h7 := h7) (h8 := h8) (a15 := a15) (a16 := a16) hin).ds_at r k)
theorem dkb23 (k : Fin 576) (d : Fin 128) : (kernelRun0_B.sl.v3003 (F := Ideal) c i a2 h2 a3 h3 a4 h4 a5 h5 a6 h6 a7 h7 a8 h8 a15 a16 x0 x1 x2 x3 x4 x5 x6) (ix2 k d) = (H.chunk 23).dkb k d :=
  ((reads23 (c := c) (i := i) (h2 := h2) (h3 := h3) (h4 := h4) (h5 := h5) (h6 := h6) (h7 := h7) (h8 := h8) (a15 := a15) (a16 := a16) hin).dkb_at (ds23 hin) k d)
theorem dvb23 (k : Fin 576) (d : Fin 128) : (kernelRun0_B.sl.v1953 (F := Ideal) c i a2 h2 a3 h3 a5 h5 a6 h6 a7 h7 a8 h8 a15 x0 x1 x3 x4 x5 x6) (ix2 k d) = (H.chunk 23).dvb k d :=
  ((reads23 (c := c) (i := i) (h2 := h2) (h3 := h3) (h4 := h3) (h5 := h5) (h6 := h6) (h7 := h7) (h8 := h8) (a15 := a15) (a16 := a15) hin).dvb_at k d)
theorem dq23 (r : Fin 64) (d : Fin 128) : (kernelRun0_B.sl.v4260 (F := Ideal) c i a2 h2 a3 h3 a4 h4 a5 h5 a6 h6 a7 h7 a8 h8 a15 a16 x0 x1 x2 x3 x4 x5 x6) (ix2 r d) = H.dq (Head.row 23 r) d :=
  (((reads23 (c := c) (i := i) (h2 := h2) (h3 := h3) (h4 := h4) (h5 := h5) (h6 := h6) (h7 := h7) (h8 := h8) (a15 := a15) (a16 := a16) hin).dq_at (ds23 hin) r d).trans (dq_row H 23 r d))
theorem dqg23 (d : Fin 128) : (kernelRun0_B.sl.v3380 (F := Ideal) c i a2 h2 a3 h3 a4 h4 a5 h5 a6 h6 a7 h7 a8 h8 a15 a16 x0 x1 x2 x3 x4 x5 x6) (ix2 0 d) = ∑ r, xn (H.q (Head.row 23 r)) d * (H.chunk 23).dqh r d :=
  ((reads23 (c := c) (i := i) (h2 := h2) (h3 := h3) (h4 := h4) (h5 := h5) (h6 := h6) (h7 := h7) (h8 := h8) (a15 := a15) (a16 := a16) hin).dqg_at (ds23 hin) d)
theorem reads24 : Reads (H.chunk 24) (start i 24#32) (rows a2 h2 x0 24) (rows a8 h8 x6 24) (gain a5 h5 x3)
    (kernelRun0_B.sl.v217 (F := Ideal) c i a3 h3 a6 h6 a15 x1 x4) (kernelRun0_B.sl.v281 (F := Ideal) c i a4 h4 a16 x2) (biases a7 h7 x5) :=
  reads_of hin 24 _ _ (band_of 24 (placed_k0_off1_24 i) _ _ _ _ (keys hin)) (band_of 24 (placed_k0_off1_24 i) _ _ _ _ (vals hin))
theorem ds24 (r : Fin 64) (k : Fin 576) : (kernelRun0_B.sl.v2875 (F := Ideal) c i a2 h2 a3 h3 a4 h4 a5 h5 a6 h6 a7 h7 a8 h8 a15 a16 x0 x1 x2 x3 x4 x5 x6) (ix2 r k) = (H.chunk 24).ds r k :=
  ((reads24 (c := c) (i := i) (h2 := h2) (h3 := h3) (h4 := h4) (h5 := h5) (h6 := h6) (h7 := h7) (h8 := h8) (a15 := a15) (a16 := a16) hin).ds_at r k)
theorem dkb24 (k : Fin 576) (d : Fin 128) : (kernelRun0_B.sl.v2994 (F := Ideal) c i a2 h2 a3 h3 a4 h4 a5 h5 a6 h6 a7 h7 a8 h8 a15 a16 x0 x1 x2 x3 x4 x5 x6) (ix2 k d) = (H.chunk 24).dkb k d :=
  ((reads24 (c := c) (i := i) (h2 := h2) (h3 := h3) (h4 := h4) (h5 := h5) (h6 := h6) (h7 := h7) (h8 := h8) (a15 := a15) (a16 := a16) hin).dkb_at (ds24 hin) k d)
theorem dvb24 (k : Fin 576) (d : Fin 128) : (kernelRun0_B.sl.v1947 (F := Ideal) c i a2 h2 a3 h3 a5 h5 a6 h6 a7 h7 a8 h8 a15 x0 x1 x3 x4 x5 x6) (ix2 k d) = (H.chunk 24).dvb k d :=
  ((reads24 (c := c) (i := i) (h2 := h2) (h3 := h3) (h4 := h3) (h5 := h5) (h6 := h6) (h7 := h7) (h8 := h8) (a15 := a15) (a16 := a15) hin).dvb_at k d)
theorem dq24 (r : Fin 64) (d : Fin 128) : (kernelRun0_B.sl.v4276 (F := Ideal) c i a2 h2 a3 h3 a4 h4 a5 h5 a6 h6 a7 h7 a8 h8 a15 a16 x0 x1 x2 x3 x4 x5 x6) (ix2 r d) = H.dq (Head.row 24 r) d :=
  (((reads24 (c := c) (i := i) (h2 := h2) (h3 := h3) (h4 := h4) (h5 := h5) (h6 := h6) (h7 := h7) (h8 := h8) (a15 := a15) (a16 := a16) hin).dq_at (ds24 hin) r d).trans (dq_row H 24 r d))
theorem dqg24 (d : Fin 128) : (kernelRun0_B.sl.v3359 (F := Ideal) c i a2 h2 a3 h3 a4 h4 a5 h5 a6 h6 a7 h7 a8 h8 a15 a16 x0 x1 x2 x3 x4 x5 x6) (ix2 0 d) = ∑ r, xn (H.q (Head.row 24 r)) d * (H.chunk 24).dqh r d :=
  ((reads24 (c := c) (i := i) (h2 := h2) (h3 := h3) (h4 := h4) (h5 := h5) (h6 := h6) (h7 := h7) (h8 := h8) (a15 := a15) (a16 := a16) hin).dqg_at (ds24 hin) d)
theorem reads25 : Reads (H.chunk 25) (start i 25#32) (rows a2 h2 x0 25) (rows a8 h8 x6 25) (gain a5 h5 x3)
    (kernelRun0_B.sl.v219 (F := Ideal) c i a3 h3 a6 h6 a15 x1 x4) (kernelRun0_B.sl.v283 (F := Ideal) c i a4 h4 a16 x2) (biases a7 h7 x5) :=
  reads_of hin 25 _ _ (band_of 25 (placed_k0_off1_25 i) _ _ _ _ (keys hin)) (band_of 25 (placed_k0_off1_25 i) _ _ _ _ (vals hin))
theorem ds25 (r : Fin 64) (k : Fin 576) : (kernelRun0_B.sl.v2873 (F := Ideal) c i a2 h2 a3 h3 a4 h4 a5 h5 a6 h6 a7 h7 a8 h8 a15 a16 x0 x1 x2 x3 x4 x5 x6) (ix2 r k) = (H.chunk 25).ds r k :=
  ((reads25 (c := c) (i := i) (h2 := h2) (h3 := h3) (h4 := h4) (h5 := h5) (h6 := h6) (h7 := h7) (h8 := h8) (a15 := a15) (a16 := a16) hin).ds_at r k)
theorem dkb25 (k : Fin 576) (d : Fin 128) : (kernelRun0_B.sl.v2985 (F := Ideal) c i a2 h2 a3 h3 a4 h4 a5 h5 a6 h6 a7 h7 a8 h8 a15 a16 x0 x1 x2 x3 x4 x5 x6) (ix2 k d) = (H.chunk 25).dkb k d :=
  ((reads25 (c := c) (i := i) (h2 := h2) (h3 := h3) (h4 := h4) (h5 := h5) (h6 := h6) (h7 := h7) (h8 := h8) (a15 := a15) (a16 := a16) hin).dkb_at (ds25 hin) k d)
theorem dvb25 (k : Fin 576) (d : Fin 128) : (kernelRun0_B.sl.v1941 (F := Ideal) c i a2 h2 a3 h3 a5 h5 a6 h6 a7 h7 a8 h8 a15 x0 x1 x3 x4 x5 x6) (ix2 k d) = (H.chunk 25).dvb k d :=
  ((reads25 (c := c) (i := i) (h2 := h2) (h3 := h3) (h4 := h3) (h5 := h5) (h6 := h6) (h7 := h7) (h8 := h8) (a15 := a15) (a16 := a15) hin).dvb_at k d)
theorem dq25 (r : Fin 64) (d : Fin 128) : (kernelRun0_B.sl.v4292 (F := Ideal) c i a2 h2 a3 h3 a4 h4 a5 h5 a6 h6 a7 h7 a8 h8 a15 a16 x0 x1 x2 x3 x4 x5 x6) (ix2 r d) = H.dq (Head.row 25 r) d :=
  (((reads25 (c := c) (i := i) (h2 := h2) (h3 := h3) (h4 := h4) (h5 := h5) (h6 := h6) (h7 := h7) (h8 := h8) (a15 := a15) (a16 := a16) hin).dq_at (ds25 hin) r d).trans (dq_row H 25 r d))
theorem dqg25 (d : Fin 128) : (kernelRun0_B.sl.v3338 (F := Ideal) c i a2 h2 a3 h3 a4 h4 a5 h5 a6 h6 a7 h7 a8 h8 a15 a16 x0 x1 x2 x3 x4 x5 x6) (ix2 0 d) = ∑ r, xn (H.q (Head.row 25 r)) d * (H.chunk 25).dqh r d :=
  ((reads25 (c := c) (i := i) (h2 := h2) (h3 := h3) (h4 := h4) (h5 := h5) (h6 := h6) (h7 := h7) (h8 := h8) (a15 := a15) (a16 := a16) hin).dqg_at (ds25 hin) d)
theorem reads26 : Reads (H.chunk 26) (start i 26#32) (rows a2 h2 x0 26) (rows a8 h8 x6 26) (gain a5 h5 x3)
    (kernelRun0_B.sl.v221 (F := Ideal) c i a3 h3 a6 h6 a15 x1 x4) (kernelRun0_B.sl.v285 (F := Ideal) c i a4 h4 a16 x2) (biases a7 h7 x5) :=
  reads_of hin 26 _ _ (band_of 26 (placed_k0_off1_26 i) _ _ _ _ (keys hin)) (band_of 26 (placed_k0_off1_26 i) _ _ _ _ (vals hin))
theorem ds26 (r : Fin 64) (k : Fin 576) : (kernelRun0_B.sl.v2871 (F := Ideal) c i a2 h2 a3 h3 a4 h4 a5 h5 a6 h6 a7 h7 a8 h8 a15 a16 x0 x1 x2 x3 x4 x5 x6) (ix2 r k) = (H.chunk 26).ds r k :=
  ((reads26 (c := c) (i := i) (h2 := h2) (h3 := h3) (h4 := h4) (h5 := h5) (h6 := h6) (h7 := h7) (h8 := h8) (a15 := a15) (a16 := a16) hin).ds_at r k)
theorem dkb26 (k : Fin 576) (d : Fin 128) : (kernelRun0_B.sl.v2976 (F := Ideal) c i a2 h2 a3 h3 a4 h4 a5 h5 a6 h6 a7 h7 a8 h8 a15 a16 x0 x1 x2 x3 x4 x5 x6) (ix2 k d) = (H.chunk 26).dkb k d :=
  ((reads26 (c := c) (i := i) (h2 := h2) (h3 := h3) (h4 := h4) (h5 := h5) (h6 := h6) (h7 := h7) (h8 := h8) (a15 := a15) (a16 := a16) hin).dkb_at (ds26 hin) k d)
theorem dvb26 (k : Fin 576) (d : Fin 128) : (kernelRun0_B.sl.v1935 (F := Ideal) c i a2 h2 a3 h3 a5 h5 a6 h6 a7 h7 a8 h8 a15 x0 x1 x3 x4 x5 x6) (ix2 k d) = (H.chunk 26).dvb k d :=
  ((reads26 (c := c) (i := i) (h2 := h2) (h3 := h3) (h4 := h3) (h5 := h5) (h6 := h6) (h7 := h7) (h8 := h8) (a15 := a15) (a16 := a15) hin).dvb_at k d)
theorem dq26 (r : Fin 64) (d : Fin 128) : (kernelRun0_B.sl.v4308 (F := Ideal) c i a2 h2 a3 h3 a4 h4 a5 h5 a6 h6 a7 h7 a8 h8 a15 a16 x0 x1 x2 x3 x4 x5 x6) (ix2 r d) = H.dq (Head.row 26 r) d :=
  (((reads26 (c := c) (i := i) (h2 := h2) (h3 := h3) (h4 := h4) (h5 := h5) (h6 := h6) (h7 := h7) (h8 := h8) (a15 := a15) (a16 := a16) hin).dq_at (ds26 hin) r d).trans (dq_row H 26 r d))
theorem dqg26 (d : Fin 128) : (kernelRun0_B.sl.v3317 (F := Ideal) c i a2 h2 a3 h3 a4 h4 a5 h5 a6 h6 a7 h7 a8 h8 a15 a16 x0 x1 x2 x3 x4 x5 x6) (ix2 0 d) = ∑ r, xn (H.q (Head.row 26 r)) d * (H.chunk 26).dqh r d :=
  ((reads26 (c := c) (i := i) (h2 := h2) (h3 := h3) (h4 := h4) (h5 := h5) (h6 := h6) (h7 := h7) (h8 := h8) (a15 := a15) (a16 := a16) hin).dqg_at (ds26 hin) d)
theorem reads27 : Reads (H.chunk 27) (start i 27#32) (rows a2 h2 x0 27) (rows a8 h8 x6 27) (gain a5 h5 x3)
    (kernelRun0_B.sl.v223 (F := Ideal) c i a3 h3 a6 h6 a15 x1 x4) (kernelRun0_B.sl.v287 (F := Ideal) c i a4 h4 a16 x2) (biases a7 h7 x5) :=
  reads_of hin 27 _ _ (band_of 27 (placed_k0_off1_27 i) _ _ _ _ (keys hin)) (band_of 27 (placed_k0_off1_27 i) _ _ _ _ (vals hin))
theorem ds27 (r : Fin 64) (k : Fin 576) : (kernelRun0_B.sl.v2869 (F := Ideal) c i a2 h2 a3 h3 a4 h4 a5 h5 a6 h6 a7 h7 a8 h8 a15 a16 x0 x1 x2 x3 x4 x5 x6) (ix2 r k) = (H.chunk 27).ds r k :=
  ((reads27 (c := c) (i := i) (h2 := h2) (h3 := h3) (h4 := h4) (h5 := h5) (h6 := h6) (h7 := h7) (h8 := h8) (a15 := a15) (a16 := a16) hin).ds_at r k)
theorem dkb27 (k : Fin 576) (d : Fin 128) : (kernelRun0_B.sl.v2967 (F := Ideal) c i a2 h2 a3 h3 a4 h4 a5 h5 a6 h6 a7 h7 a8 h8 a15 a16 x0 x1 x2 x3 x4 x5 x6) (ix2 k d) = (H.chunk 27).dkb k d :=
  ((reads27 (c := c) (i := i) (h2 := h2) (h3 := h3) (h4 := h4) (h5 := h5) (h6 := h6) (h7 := h7) (h8 := h8) (a15 := a15) (a16 := a16) hin).dkb_at (ds27 hin) k d)
theorem dvb27 (k : Fin 576) (d : Fin 128) : (kernelRun0_B.sl.v1929 (F := Ideal) c i a2 h2 a3 h3 a5 h5 a6 h6 a7 h7 a8 h8 a15 x0 x1 x3 x4 x5 x6) (ix2 k d) = (H.chunk 27).dvb k d :=
  ((reads27 (c := c) (i := i) (h2 := h2) (h3 := h3) (h4 := h3) (h5 := h5) (h6 := h6) (h7 := h7) (h8 := h8) (a15 := a15) (a16 := a15) hin).dvb_at k d)
theorem dq27 (r : Fin 64) (d : Fin 128) : (kernelRun0_B.sl.v4324 (F := Ideal) c i a2 h2 a3 h3 a4 h4 a5 h5 a6 h6 a7 h7 a8 h8 a15 a16 x0 x1 x2 x3 x4 x5 x6) (ix2 r d) = H.dq (Head.row 27 r) d :=
  (((reads27 (c := c) (i := i) (h2 := h2) (h3 := h3) (h4 := h4) (h5 := h5) (h6 := h6) (h7 := h7) (h8 := h8) (a15 := a15) (a16 := a16) hin).dq_at (ds27 hin) r d).trans (dq_row H 27 r d))
theorem dqg27 (d : Fin 128) : (kernelRun0_B.sl.v3296 (F := Ideal) c i a2 h2 a3 h3 a4 h4 a5 h5 a6 h6 a7 h7 a8 h8 a15 a16 x0 x1 x2 x3 x4 x5 x6) (ix2 0 d) = ∑ r, xn (H.q (Head.row 27 r)) d * (H.chunk 27).dqh r d :=
  ((reads27 (c := c) (i := i) (h2 := h2) (h3 := h3) (h4 := h4) (h5 := h5) (h6 := h6) (h7 := h7) (h8 := h8) (a15 := a15) (a16 := a16) hin).dqg_at (ds27 hin) d)
theorem reads28 : Reads (H.chunk 28) (start i 28#32) (rows a2 h2 x0 28) (rows a8 h8 x6 28) (gain a5 h5 x3)
    (kernelRun0_B.sl.v225 (F := Ideal) c i a3 h3 a6 h6 a15 x1 x4) (kernelRun0_B.sl.v289 (F := Ideal) c i a4 h4 a16 x2) (biases a7 h7 x5) :=
  reads_of hin 28 _ _ (band_of 28 (placed_k0_off1_28 i) _ _ _ _ (keys hin)) (band_of 28 (placed_k0_off1_28 i) _ _ _ _ (vals hin))
theorem ds28 (r : Fin 64) (k : Fin 576) : (kernelRun0_B.sl.v2867 (F := Ideal) c i a2 h2 a3 h3 a4 h4 a5 h5 a6 h6 a7 h7 a8 h8 a15 a16 x0 x1 x2 x3 x4 x5 x6) (ix2 r k) = (H.chunk 28).ds r k :=
  ((reads28 (c := c) (i := i) (h2 := h2) (h3 := h3) (h4 := h4) (h5 := h5) (h6 := h6) (h7 := h7) (h8 := h8) (a15 := a15) (a16 := a16) hin).ds_at r k)
theorem dkb28 (k : Fin 576) (d : Fin 128) : (kernelRun0_B.sl.v2958 (F := Ideal) c i a2 h2 a3 h3 a4 h4 a5 h5 a6 h6 a7 h7 a8 h8 a15 a16 x0 x1 x2 x3 x4 x5 x6) (ix2 k d) = (H.chunk 28).dkb k d :=
  ((reads28 (c := c) (i := i) (h2 := h2) (h3 := h3) (h4 := h4) (h5 := h5) (h6 := h6) (h7 := h7) (h8 := h8) (a15 := a15) (a16 := a16) hin).dkb_at (ds28 hin) k d)
theorem dvb28 (k : Fin 576) (d : Fin 128) : (kernelRun0_B.sl.v1923 (F := Ideal) c i a2 h2 a3 h3 a5 h5 a6 h6 a7 h7 a8 h8 a15 x0 x1 x3 x4 x5 x6) (ix2 k d) = (H.chunk 28).dvb k d :=
  ((reads28 (c := c) (i := i) (h2 := h2) (h3 := h3) (h4 := h3) (h5 := h5) (h6 := h6) (h7 := h7) (h8 := h8) (a15 := a15) (a16 := a15) hin).dvb_at k d)
theorem dq28 (r : Fin 64) (d : Fin 128) : (kernelRun0_B.sl.v4340 (F := Ideal) c i a2 h2 a3 h3 a4 h4 a5 h5 a6 h6 a7 h7 a8 h8 a15 a16 x0 x1 x2 x3 x4 x5 x6) (ix2 r d) = H.dq (Head.row 28 r) d :=
  (((reads28 (c := c) (i := i) (h2 := h2) (h3 := h3) (h4 := h4) (h5 := h5) (h6 := h6) (h7 := h7) (h8 := h8) (a15 := a15) (a16 := a16) hin).dq_at (ds28 hin) r d).trans (dq_row H 28 r d))
theorem dqg28 (d : Fin 128) : (kernelRun0_B.sl.v3275 (F := Ideal) c i a2 h2 a3 h3 a4 h4 a5 h5 a6 h6 a7 h7 a8 h8 a15 a16 x0 x1 x2 x3 x4 x5 x6) (ix2 0 d) = ∑ r, xn (H.q (Head.row 28 r)) d * (H.chunk 28).dqh r d :=
  ((reads28 (c := c) (i := i) (h2 := h2) (h3 := h3) (h4 := h4) (h5 := h5) (h6 := h6) (h7 := h7) (h8 := h8) (a15 := a15) (a16 := a16) hin).dqg_at (ds28 hin) d)
theorem reads29 : Reads (H.chunk 29) (start i 29#32) (rows a2 h2 x0 29) (rows a8 h8 x6 29) (gain a5 h5 x3)
    (kernelRun0_B.sl.v227 (F := Ideal) c i a3 h3 a6 h6 a15 x1 x4) (kernelRun0_B.sl.v291 (F := Ideal) c i a4 h4 a16 x2) (biases a7 h7 x5) :=
  reads_of hin 29 _ _ (band_of 29 (placed_k0_off1_29 i) _ _ _ _ (keys hin)) (band_of 29 (placed_k0_off1_29 i) _ _ _ _ (vals hin))
theorem ds29 (r : Fin 64) (k : Fin 576) : (kernelRun0_B.sl.v2865 (F := Ideal) c i a2 h2 a3 h3 a4 h4 a5 h5 a6 h6 a7 h7 a8 h8 a15 a16 x0 x1 x2 x3 x4 x5 x6) (ix2 r k) = (H.chunk 29).ds r k :=
  ((reads29 (c := c) (i := i) (h2 := h2) (h3 := h3) (h4 := h4) (h5 := h5) (h6 := h6) (h7 := h7) (h8 := h8) (a15 := a15) (a16 := a16) hin).ds_at r k)
theorem dkb29 (k : Fin 576) (d : Fin 128) : (kernelRun0_B.sl.v2949 (F := Ideal) c i a2 h2 a3 h3 a4 h4 a5 h5 a6 h6 a7 h7 a8 h8 a15 a16 x0 x1 x2 x3 x4 x5 x6) (ix2 k d) = (H.chunk 29).dkb k d :=
  ((reads29 (c := c) (i := i) (h2 := h2) (h3 := h3) (h4 := h4) (h5 := h5) (h6 := h6) (h7 := h7) (h8 := h8) (a15 := a15) (a16 := a16) hin).dkb_at (ds29 hin) k d)
theorem dvb29 (k : Fin 576) (d : Fin 128) : (kernelRun0_B.sl.v1917 (F := Ideal) c i a2 h2 a3 h3 a5 h5 a6 h6 a7 h7 a8 h8 a15 x0 x1 x3 x4 x5 x6) (ix2 k d) = (H.chunk 29).dvb k d :=
  ((reads29 (c := c) (i := i) (h2 := h2) (h3 := h3) (h4 := h3) (h5 := h5) (h6 := h6) (h7 := h7) (h8 := h8) (a15 := a15) (a16 := a15) hin).dvb_at k d)
theorem dq29 (r : Fin 64) (d : Fin 128) : (kernelRun0_B.sl.v4356 (F := Ideal) c i a2 h2 a3 h3 a4 h4 a5 h5 a6 h6 a7 h7 a8 h8 a15 a16 x0 x1 x2 x3 x4 x5 x6) (ix2 r d) = H.dq (Head.row 29 r) d :=
  (((reads29 (c := c) (i := i) (h2 := h2) (h3 := h3) (h4 := h4) (h5 := h5) (h6 := h6) (h7 := h7) (h8 := h8) (a15 := a15) (a16 := a16) hin).dq_at (ds29 hin) r d).trans (dq_row H 29 r d))
theorem dqg29 (d : Fin 128) : (kernelRun0_B.sl.v3254 (F := Ideal) c i a2 h2 a3 h3 a4 h4 a5 h5 a6 h6 a7 h7 a8 h8 a15 a16 x0 x1 x2 x3 x4 x5 x6) (ix2 0 d) = ∑ r, xn (H.q (Head.row 29 r)) d * (H.chunk 29).dqh r d :=
  ((reads29 (c := c) (i := i) (h2 := h2) (h3 := h3) (h4 := h4) (h5 := h5) (h6 := h6) (h7 := h7) (h8 := h8) (a15 := a15) (a16 := a16) hin).dqg_at (ds29 hin) d)
theorem reads30 : Reads (H.chunk 30) (start i 30#32) (rows a2 h2 x0 30) (rows a8 h8 x6 30) (gain a5 h5 x3)
    (kernelRun0_B.sl.v229 (F := Ideal) c i a3 h3 a6 h6 a15 x1 x4) (kernelRun0_B.sl.v293 (F := Ideal) c i a4 h4 a16 x2) (biases a7 h7 x5) :=
  reads_of hin 30 _ _ (band_of 30 (placed_k0_off1_30 i) _ _ _ _ (keys hin)) (band_of 30 (placed_k0_off1_30 i) _ _ _ _ (vals hin))
theorem ds30 (r : Fin 64) (k : Fin 576) : (kernelRun0_B.sl.v2863 (F := Ideal) c i a2 h2 a3 h3 a4 h4 a5 h5 a6 h6 a7 h7 a8 h8 a15 a16 x0 x1 x2 x3 x4 x5 x6) (ix2 r k) = (H.chunk 30).ds r k :=
  ((reads30 (c := c) (i := i) (h2 := h2) (h3 := h3) (h4 := h4) (h5 := h5) (h6 := h6) (h7 := h7) (h8 := h8) (a15 := a15) (a16 := a16) hin).ds_at r k)
theorem dkb30 (k : Fin 576) (d : Fin 128) : (kernelRun0_B.sl.v2940 (F := Ideal) c i a2 h2 a3 h3 a4 h4 a5 h5 a6 h6 a7 h7 a8 h8 a15 a16 x0 x1 x2 x3 x4 x5 x6) (ix2 k d) = (H.chunk 30).dkb k d :=
  ((reads30 (c := c) (i := i) (h2 := h2) (h3 := h3) (h4 := h4) (h5 := h5) (h6 := h6) (h7 := h7) (h8 := h8) (a15 := a15) (a16 := a16) hin).dkb_at (ds30 hin) k d)
theorem dvb30 (k : Fin 576) (d : Fin 128) : (kernelRun0_B.sl.v1911 (F := Ideal) c i a2 h2 a3 h3 a5 h5 a6 h6 a7 h7 a8 h8 a15 x0 x1 x3 x4 x5 x6) (ix2 k d) = (H.chunk 30).dvb k d :=
  ((reads30 (c := c) (i := i) (h2 := h2) (h3 := h3) (h4 := h3) (h5 := h5) (h6 := h6) (h7 := h7) (h8 := h8) (a15 := a15) (a16 := a15) hin).dvb_at k d)
theorem dq30 (r : Fin 64) (d : Fin 128) : (kernelRun0_B.sl.v4372 (F := Ideal) c i a2 h2 a3 h3 a4 h4 a5 h5 a6 h6 a7 h7 a8 h8 a15 a16 x0 x1 x2 x3 x4 x5 x6) (ix2 r d) = H.dq (Head.row 30 r) d :=
  (((reads30 (c := c) (i := i) (h2 := h2) (h3 := h3) (h4 := h4) (h5 := h5) (h6 := h6) (h7 := h7) (h8 := h8) (a15 := a15) (a16 := a16) hin).dq_at (ds30 hin) r d).trans (dq_row H 30 r d))
theorem dqg30 (d : Fin 128) : (kernelRun0_B.sl.v3233 (F := Ideal) c i a2 h2 a3 h3 a4 h4 a5 h5 a6 h6 a7 h7 a8 h8 a15 a16 x0 x1 x2 x3 x4 x5 x6) (ix2 0 d) = ∑ r, xn (H.q (Head.row 30 r)) d * (H.chunk 30).dqh r d :=
  ((reads30 (c := c) (i := i) (h2 := h2) (h3 := h3) (h4 := h4) (h5 := h5) (h6 := h6) (h7 := h7) (h8 := h8) (a15 := a15) (a16 := a16) hin).dqg_at (ds30 hin) d)
theorem reads31 : Reads (H.chunk 31) (start i 31#32) (rows a2 h2 x0 31) (rows a8 h8 x6 31) (gain a5 h5 x3)
    (kernelRun0_B.sl.v231 (F := Ideal) c i a3 h3 a6 h6 a15 x1 x4) (kernelRun0_B.sl.v295 (F := Ideal) c i a4 h4 a16 x2) (biases a7 h7 x5) :=
  reads_of hin 31 _ _ (band_of 31 (placed_k0_off1_31 i) _ _ _ _ (keys hin)) (band_of 31 (placed_k0_off1_31 i) _ _ _ _ (vals hin))
theorem ds31 (r : Fin 64) (k : Fin 576) : (kernelRun0_B.sl.v2861 (F := Ideal) c i a2 h2 a3 h3 a4 h4 a5 h5 a6 h6 a7 h7 a8 h8 a15 a16 x0 x1 x2 x3 x4 x5 x6) (ix2 r k) = (H.chunk 31).ds r k :=
  ((reads31 (c := c) (i := i) (h2 := h2) (h3 := h3) (h4 := h4) (h5 := h5) (h6 := h6) (h7 := h7) (h8 := h8) (a15 := a15) (a16 := a16) hin).ds_at r k)
theorem dkb31 (k : Fin 576) (d : Fin 128) : (kernelRun0_B.sl.v2931 (F := Ideal) c i a2 h2 a3 h3 a4 h4 a5 h5 a6 h6 a7 h7 a8 h8 a15 a16 x0 x1 x2 x3 x4 x5 x6) (ix2 k d) = (H.chunk 31).dkb k d :=
  ((reads31 (c := c) (i := i) (h2 := h2) (h3 := h3) (h4 := h4) (h5 := h5) (h6 := h6) (h7 := h7) (h8 := h8) (a15 := a15) (a16 := a16) hin).dkb_at (ds31 hin) k d)
theorem dvb31 (k : Fin 576) (d : Fin 128) : (kernelRun0_B.sl.v1905 (F := Ideal) c i a2 h2 a3 h3 a5 h5 a6 h6 a7 h7 a8 h8 a15 x0 x1 x3 x4 x5 x6) (ix2 k d) = (H.chunk 31).dvb k d :=
  ((reads31 (c := c) (i := i) (h2 := h2) (h3 := h3) (h4 := h3) (h5 := h5) (h6 := h6) (h7 := h7) (h8 := h8) (a15 := a15) (a16 := a15) hin).dvb_at k d)
theorem dq31 (r : Fin 64) (d : Fin 128) : (k0_pay1009 (F := Ideal) (kernelRun0_B.sl.v3230 (F := Ideal) c i a2 h2 a3 h3 a4 h4 a5 h5 a6 h6 a7 h7 a8 h8 a15 a16 x0 x1 x2 x3 x4 x5 x6)) (ix2 r d) = H.dq (Head.row 31 r) d :=
  (((reads31 (c := c) (i := i) (h2 := h2) (h3 := h3) (h4 := h4) (h5 := h5) (h6 := h6) (h7 := h7) (h8 := h8) (a15 := a15) (a16 := a16) hin).dq_at (ds31 hin) r d).trans (dq_row H 31 r d))
theorem dqg31 (d : Fin 128) : (kernelRun0_B.sl.v3213 (F := Ideal) c i a2 h2 a3 h3 a4 h4 a5 h5 a6 h6 a7 h7 a8 h8 a15 a16 x0 x1 x2 x3 x4 x5 x6) (ix2 0 d) = ∑ r, xn (H.q (Head.row 31 r)) d * (H.chunk 31).dqh r d :=
  ((reads31 (c := c) (i := i) (h2 := h2) (h3 := h3) (h4 := h4) (h5 := h5) (h6 := h6) (h7 := h7) (h8 := h8) (a15 := a15) (a16 := a16) hin).dqg_at (ds31 hin) d)

end Cert.Ker.B
-- ==== Proof.TB.lean ====
/-
  The tables and the sums of the body at a later grid point.
-/
module

public import proofs.«01_k».proof.Proof.KB

@[expose] public section

set_option maxRecDepth 16384

noncomputable section

namespace Cert.Ker.B

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a15 a16 a17 a18 : Memref sig .tc .vmem S2560x128 .f32}
  {x0 x1 x2 : Vec Ideal S2048x128 .f32} {x3 x4 : Vec Ideal S1x128 .f32} {x5 : Vec Ideal S1x64x576 .f32} {x6 : Vec Ideal S2048x128 .f32}
  (hin : Inputs H x0 x1 x2 x3 x4 x5 x6)

theorem tab1 (y : Fin 2560) (d : Fin 128) : tab (kernelRun0_B.sl.HS2_1 (F := Ideal)) y d = 0 := zerotab_at _ y d
include hin
theorem tk2 (y : Fin 2560) (d : Fin 128) : tab (kernelRun0_B.sl.HS2_2 (F := Ideal) c i a2 h2 a3 h3 a4 h4 a5 h5 a6 h6 a7 h7 a8 h8 a15 a16 a17 x0 x1 x2 x3 x4 x5 x6) y d =
    tab (kernelRun0_B.sl.HS2_1 (F := Ideal)) y d + Head.at_ (H.chunk 0).dkb 0 y.val d :=
  rmw_at 0 rfl (placed_k0_off1_0 i) a17.view _ _ _ (kernelRun0_B.sl.v3210 (F := Ideal) c i a2 h2 a3 h3 a4 h4 a5 h5 a6 h6 a7 h7 a8 h8 a15 a16 x0 x1 x2 x3 x4 x5 x6) _ rfl _ (dkb0 (c := c) (i := i) (h2 := h2) (h3 := h3) (h4 := h4) (h5 := h5) (h6 := h6) (h7 := h7) (h8 := h8) (a15 := a15) (a16 := a16) hin) y d
theorem tk3 (y : Fin 2560) (d : Fin 128) : tab (kernelRun0_B.sl.HS2_3 (F := Ideal) c i a2 h2 a3 h3 a4 h4 a5 h5 a6 h6 a7 h7 a8 h8 a15 a16 a17 x0 x1 x2 x3 x4 x5 x6) y d =
    tab (kernelRun0_B.sl.HS2_2 (F := Ideal) c i a2 h2 a3 h3 a4 h4 a5 h5 a6 h6 a7 h7 a8 h8 a15 a16 a17 x0 x1 x2 x3 x4 x5 x6) y d + Head.at_ (H.chunk 1).dkb 1 y.val d :=
  rmw_at 1 rfl (placed_k0_off1_1 i) a17.view _ _ _ (kernelRun0_B.sl.v3201 (F := Ideal) c i a2 h2 a3 h3 a4 h4 a5 h5 a6 h6 a7 h7 a8 h8 a15 a16 x0 x1 x2 x3 x4 x5 x6) _ rfl _ (dkb1 (c := c) (i := i) (h2 := h2) (h3 := h3) (h4 := h4) (h5 := h5) (h6 := h6) (h7 := h7) (h8 := h8) (a15 := a15) (a16 := a16) hin) y d
theorem tk4 (y : Fin 2560) (d : Fin 128) : tab (kernelRun0_B.sl.HS2_4 (F := Ideal) c i a2 h2 a3 h3 a4 h4 a5 h5 a6 h6 a7 h7 a8 h8 a15 a16 a17 x0 x1 x2 x3 x4 x5 x6) y d =
    tab (kernelRun0_B.sl.HS2_3 (F := Ideal) c i a2 h2 a3 h3 a4 h4 a5 h5 a6 h6 a7 h7 a8 h8 a15 a16 a17 x0 x1 x2 x3 x4 x5 x6) y d + Head.at_ (H.chunk 2).dkb 2 y.val d :=
  rmw_at 2 rfl (placed_k0_off1_2 i) a17.view _ _ _ (kernelRun0_B.sl.v3192 (F := Ideal) c i a2 h2 a3 h3 a4 h4 a5 h5 a6 h6 a7 h7 a8 h8 a15 a16 x0 x1 x2 x3 x4 x5 x6) _ rfl _ (dkb2 (c := c) (i := i) (h2 := h2) (h3 := h3) (h4 := h4) (h5 := h5) (h6 := h6) (h7 := h7) (h8 := h8) (a15 := a15) (a16 := a16) hin) y d
theorem tk5 (y : Fin 2560) (d : Fin 128) : tab (kernelRun0_B.sl.HS2_5 (F := Ideal) c i a2 h2 a3 h3 a4 h4 a5 h5 a6 h6 a7 h7 a8 h8 a15 a16 a17 x0 x1 x2 x3 x4 x5 x6) y d =
    tab (kernelRun0_B.sl.HS2_4 (F := Ideal) c i a2 h2 a3 h3 a4 h4 a5 h5 a6 h6 a7 h7 a8 h8 a15 a16 a17 x0 x1 x2 x3 x4 x5 x6) y d + Head.at_ (H.chunk 3).dkb 3 y.val d :=
  rmw_at 3 rfl (placed_k0_off1_3 i) a17.view _ _ _ (kernelRun0_B.sl.v3183 (F := Ideal) c i a2 h2 a3 h3 a4 h4 a5 h5 a6 h6 a7 h7 a8 h8 a15 a16 x0 x1 x2 x3 x4 x5 x6) _ rfl _ (dkb3 (c := c) (i := i) (h2 := h2) (h3 := h3) (h4 := h4) (h5 := h5) (h6 := h6) (h7 := h7) (h8 := h8) (a15 := a15) (a16 := a16) hin) y d
theorem tk6 (y : Fin 2560) (d : Fin 128) : tab (kernelRun0_B.sl.HS2_6 (F := Ideal) c i a2 h2 a3 h3 a4 h4 a5 h5 a6 h6 a7 h7 a8 h8 a15 a16 a17 x0 x1 x2 x3 x4 x5 x6) y d =
    tab (kernelRun0_B.sl.HS2_5 (F := Ideal) c i a2 h2 a3 h3 a4 h4 a5 h5 a6 h6 a7 h7 a8 h8 a15 a16 a17 x0 x1 x2 x3 x4 x5 x6) y d + Head.at_ (H.chunk 4).dkb 4 y.val d :=
  rmw_at 4 rfl (placed_k0_off1_4 i) a17.view _ _ _ (kernelRun0_B.sl.v3174 (F := Ideal) c i a2 h2 a3 h3 a4 h4 a5 h5 a6 h6 a7 h7 a8 h8 a15 a16 x0 x1 x2 x3 x4 x5 x6) _ rfl _ (dkb4 (c := c) (i := i) (h2 := h2) (h3 := h3) (h4 := h4) (h5 := h5) (h6 := h6) (h7 := h7) (h8 := h8) (a15 := a15) (a16 := a16) hin) y d
theorem tk7 (y : Fin 2560) (d : Fin 128) : tab (kernelRun0_B.sl.HS2_7 (F := Ideal) c i a2 h2 a3 h3 a4 h4 a5 h5 a6 h6 a7 h7 a8 h8 a15 a16 a17 x0 x1 x2 x3 x4 x5 x6) y d =
    tab (kernelRun0_B.sl.HS2_6 (F := Ideal) c i a2 h2 a3 h3 a4 h4 a5 h5 a6 h6 a7 h7 a8 h8 a15 a16 a17 x0 x1 x2 x3 x4 x5 x6) y d + Head.at_ (H.chunk 5).dkb 5 y.val d :=
  rmw_at 5 rfl (placed_k0_off1_5 i) a17.view _ _ _ (kernelRun0_B.sl.v3165 (F := Ideal) c i a2 h2 a3 h3 a4 h4 a5 h5 a6 h6 a7 h7 a8 h8 a15 a16 x0 x1 x2 x3 x4 x5 x6) _ rfl _ (dkb5 (c := c) (i := i) (h2 := h2) (h3 := h3) (h4 := h4) (h5 := h5) (h6 := h6) (h7 := h7) (h8 := h8) (a15 := a15) (a16 := a16) hin) y d
theorem tk8 (y : Fin 2560) (d : Fin 128) : tab (kernelRun0_B.sl.HS2_8 (F := Ideal) c i a2 h2 a3 h3 a4 h4 a5 h5 a6 h6 a7 h7 a8 h8 a15 a16 a17 x0 x1 x2 x3 x4 x5 x6) y d =
    tab (kernelRun0_B.sl.HS2_7 (F := Ideal) c i a2 h2 a3 h3 a4 h4 a5 h5 a6 h6 a7 h7 a8 h8 a15 a16 a17 x0 x1 x2 x3 x4 x5 x6) y d + Head.at_ (H.chunk 6).dkb 6 y.val d :=
  rmw_at 6 rfl (placed_k0_off1_6 i) a17.view _ _ _ (kernelRun0_B.sl.v3156 (F := Ideal) c i a2 h2 a3 h3 a4 h4 a5 h5 a6 h6 a7 h7 a8 h8 a15 a16 x0 x1 x2 x3 x4 x5 x6) _ rfl _ (dkb6 (c := c) (i := i) (h2 := h2) (h3 := h3) (h4 := h4) (h5 := h5) (h6 := h6) (h7 := h7) (h8 := h8) (a15 := a15) (a16 := a16) hin) y d
theorem tk9 (y : Fin 2560) (d : Fin 128) : tab (kernelRun0_B.sl.HS2_9 (F := Ideal) c i a2 h2 a3 h3 a4 h4 a5 h5 a6 h6 a7 h7 a8 h8 a15 a16 a17 x0 x1 x2 x3 x4 x5 x6) y d =
    tab (kernelRun0_B.sl.HS2_8 (F := Ideal) c i a2 h2 a3 h3 a4 h4 a5 h5 a6 h6 a7 h7 a8 h8 a15 a16 a17 x0 x1 x2 x3 x4 x5 x6) y d + Head.at_ (H.chunk 7).dkb 7 y.val d :=
  rmw_at 7 rfl (placed_k0_off1_7 i) a17.view _ _ _ (kernelRun0_B.sl.v3147 (F := Ideal) c i a2 h2 a3 h3 a4 h4 a5 h5 a6 h6 a7 h7 a8 h8 a15 a16 x0 x1 x2 x3 x4 x5 x6) _ rfl _ (dkb7 (c := c) (i := i) (h2 := h2) (h3 := h3) (h4 := h4) (h5 := h5) (h6 := h6) (h7 := h7) (h8 := h8) (a15 := a15) (a16 := a16) hin) y d
theorem tk10 (y : Fin 2560) (d : Fin 128) : tab (kernelRun0_B.sl.HS2_10 (F := Ideal) c i a2 h2 a3 h3 a4 h4 a5 h5 a6 h6 a7 h7 a8 h8 a15 a16 a17 x0 x1 x2 x3 x4 x5 x6) y d =
    tab (kernelRun0_B.sl.HS2_9 (F := Ideal) c i a2 h2 a3 h3 a4 h4 a5 h5 a6 h6 a7 h7 a8 h8 a15 a16 a17 x0 x1 x2 x3 x4 x5 x6) y d + Head.at_ (H.chunk 8).dkb 8 y.val d :=
  rmw_at 8 rfl (placed_k0_off1_8 i) a17.view _ _ _ (kernelRun0_B.sl.v3138 (F := Ideal) c i a2 h2 a3 h3 a4 h4 a5 h5 a6 h6 a7 h7 a8 h8 a15 a16 x0 x1 x2 x3 x4 x5 x6) _ rfl _ (dkb8 (c := c) (i := i) (h2 := h2) (h3 := h3) (h4 := h4) (h5 := h5) (h6 := h6) (h7 := h7) (h8 := h8) (a15 := a15) (a16 := a16) hin) y d
theorem tk11 (y : Fin 2560) (d : Fin 128) : tab (kernelRun0_B.sl.HS2_11 (F := Ideal) c i a2 h2 a3 h3 a4 h4 a5 h5 a6 h6 a7 h7 a8 h8 a15 a16 a17 x0 x1 x2 x3 x4 x5 x6) y d =
    tab (kernelRun0_B.sl.HS2_10 (F := Ideal) c i a2 h2 a3 h3 a4 h4 a5 h5 a6 h6 a7 h7 a8 h8 a15 a16 a17 x0 x1 x2 x3 x4 x5 x6) y d + Head.at_ (H.chunk 9).dkb 9 y.val d :=
  rmw_at 9 rfl (placed_k0_off1_9 i) a17.view _ _ _ (kernelRun0_B.sl.v3129 (F := Ideal) c i a2 h2 a3 h3 a4 h4 a5 h5 a6 h6 a7 h7 a8 h8 a15 a16 x0 x1 x2 x3 x4 x5 x6) _ rfl _ (dkb9 (c := c) (i := i) (h2 := h2) (h3 := h3) (h4 := h4) (h5 := h5) (h6 := h6) (h7 := h7) (h8 := h8) (a15 := a15) (a16 := a16) hin) y d
theorem tk12 (y : Fin 2560) (d : Fin 128) : tab (kernelRun0_B.sl.HS2_12 (F := Ideal) c i a2 h2 a3 h3 a4 h4 a5 h5 a6 h6 a7 h7 a8 h8 a15 a16 a17 x0 x1 x2 x3 x4 x5 x6) y d =
    tab (kernelRun0_B.sl.HS2_11 (F := Ideal) c i a2 h2 a3 h3 a4 h4 a5 h5 a6 h6 a7 h7 a8 h8 a15 a16 a17 x0 x1 x2 x3 x4 x5 x6) y d + Head.at_ (H.chunk 10).dkb 10 y.val d :=
  rmw_at 10 rfl (placed_k0_off1_10 i) a17.view _ _ _ (kernelRun0_B.sl.v3120 (F := Ideal) c i a2 h2 a3 h3 a4 h4 a5 h5 a6 h6 a7 h7 a8 h8 a15 a16 x0 x1 x2 x3 x4 x5 x6) _ rfl _ (dkb10 (c := c) (i := i) (h2 := h2) (h3 := h3) (h4 := h4) (h5 := h5) (h6 := h6) (h7 := h7) (h8 := h8) (a15 := a15) (a16 := a16) hin) y d
theorem tk13 (y : Fin 2560) (d : Fin 128) : tab (kernelRun0_B.sl.HS2_13 (F := Ideal) c i a2 h2 a3 h3 a4 h4 a5 h5 a6 h6 a7 h7 a8 h8 a15 a16 a17 x0 x1 x2 x3 x4 x5 x6) y d =
    tab (kernelRun0_B.sl.HS2_12 (F := Ideal) c i a2 h2 a3 h3 a4 h4 a5 h5 a6 h6 a7 h7 a8 h8 a15 a16 a17 x0 x1 x2 x3 x4 x5 x6) y d + Head.at_ (H.chunk 11).dkb 11 y.val d :=
  rmw_at 11 rfl (placed_k0_off1_11 i) a17.view _ _ _ (kernelRun0_B.sl.v3111 (F := Ideal) c i a2 h2 a3 h3 a4 h4 a5 h5 a6 h6 a7 h7 a8 h8 a15 a16 x0 x1 x2 x3 x4 x5 x6) _ rfl _ (dkb11 (c := c) (i := i) (h2 := h2) (h3 := h3) (h4 := h4) (h5 := h5) (h6 := h6) (h7 := h7) (h8 := h8) (a15 := a15) (a16 := a16) hin) y d
theorem tk14 (y : Fin 2560) (d : Fin 128) : tab (kernelRun0_B.sl.HS2_14 (F := Ideal) c i a2 h2 a3 h3 a4 h4 a5 h5 a6 h6 a7 h7 a8 h8 a15 a16 a17 x0 x1 x2 x3 x4 x5 x6) y d =
    tab (kernelRun0_B.sl.HS2_13 (F := Ideal) c i a2 h2 a3 h3 a4 h4 a5 h5 a6 h6 a7 h7 a8 h8 a15 a16 a17 x0 x1 x2 x3 x4 x5 x6) y d + Head.at_ (H.chunk 12).dkb 12 y.val d :=
  rmw_at 12 rfl (placed_k0_off1_12 i) a17.view _ _ _ (kernelRun0_B.sl.v3102 (F := Ideal) c i a2 h2 a3 h3 a4 h4 a5 h5 a6 h6 a7 h7 a8 h8 a15 a16 x0 x1 x2 x3 x4 x5 x6) _ rfl _ (dkb12 (c := c) (i := i) (h2 := h2) (h3 := h3) (h4 := h4) (h5 := h5) (h6 := h6) (h7 := h7) (h8 := h8) (a15 := a15) (a16 := a16) hin) y d
theorem tk15 (y : Fin 2560) (d : Fin 128) : tab (kernelRun0_B.sl.HS2_15 (F := Ideal) c i a2 h2 a3 h3 a4 h4 a5 h5 a6 h6 a7 h7 a8 h8 a15 a16 a17 x0 x1 x2 x3 x4 x5 x6) y d =
    tab (kernelRun0_B.sl.HS2_14 (F := Ideal) c i a2 h2 a3 h3 a4 h4 a5 h5 a6 h6 a7 h7 a8 h8 a15 a16 a17 x0 x1 x2 x3 x4 x5 x6) y d + Head.at_ (H.chunk 13).dkb 13 y.val d :=
  rmw_at 13 rfl (placed_k0_off1_13 i) a17.view _ _ _ (kernelRun0_B.sl.v3093 (F := Ideal) c i a2 h2 a3 h3 a4 h4 a5 h5 a6 h6 a7 h7 a8 h8 a15 a16 x0 x1 x2 x3 x4 x5 x6) _ rfl _ (dkb13 (c := c) (i := i) (h2 := h2) (h3 := h3) (h4 := h4) (h5 := h5) (h6 := h6) (h7 := h7) (h8 := h8) (a15 := a15) (a16 := a16) hin) y d
theorem tk16 (y : Fin 2560) (d : Fin 128) : tab (kernelRun0_B.sl.HS2_16 (F := Ideal) c i a2 h2 a3 h3 a4 h4 a5 h5 a6 h6 a7 h7 a8 h8 a15 a16 a17 x0 x1 x2 x3 x4 x5 x6) y d =
    tab (kernelRun0_B.sl.HS2_15 (F := Ideal) c i a2 h2 a3 h3 a4 h4 a5 h5 a6 h6 a7 h7 a8 h8 a15 a16 a17 x0 x1 x2 x3 x4 x5 x6) y d + Head.at_ (H.chunk 14).dkb 14 y.val d :=
  rmw_at 14 rfl (placed_k0_off1_14 i) a17.view _ _ _ (kernelRun0_B.sl.v3084 (F := Ideal) c i a2 h2 a3 h3 a4 h4 a5 h5 a6 h6 a7 h7 a8 h8 a15 a16 x0 x1 x2 x3 x4 x5 x6) _ rfl _ (dkb14 (c := c) (i := i) (h2 := h2) (h3 := h3) (h4 := h4) (h5 := h5) (h6 := h6) (h7 := h7) (h8 := h8) (a15 := a15) (a16 := a16) hin) y d
theorem tk17 (y : Fin 2560) (d : Fin 128) : tab (kernelRun0_B.sl.HS2_17 (F := Ideal) c i a2 h2 a3 h3 a4 h4 a5 h5 a6 h6 a7 h7 a8 h8 a15 a16 a17 x0 x1 x2 x3 x4 x5 x6) y d =
    tab (kernelRun0_B.sl.HS2_16 (F := Ideal) c i a2 h2 a3 h3 a4 h4 a5 h5 a6 h6 a7 h7 a8 h8 a15 a16 a17 x0 x1 x2 x3 x4 x5 x6) y d + Head.at_ (H.chunk 15).dkb 15 y.val d :=
  rmw_at 15 rfl (placed_k0_off1_15 i) a17.view _ _ _ (kernelRun0_B.sl.v3075 (F := Ideal) c i a2 h2 a3 h3 a4 h4 a5 h5 a6 h6 a7 h7 a8 h8 a15 a16 x0 x1 x2 x3 x4 x5 x6) _ rfl _ (dkb15 (c := c) (i := i) (h2 := h2) (h3 := h3) (h4 := h4) (h5 := h5) (h6 := h6) (h7 := h7) (h8 := h8) (a15 := a15) (a16 := a16) hin) y d
theorem tk18 (y : Fin 2560) (d : Fin 128) : tab (kernelRun0_B.sl.HS2_18 (F := Ideal) c i a2 h2 a3 h3 a4 h4 a5 h5 a6 h6 a7 h7 a8 h8 a15 a16 a17 x0 x1 x2 x3 x4 x5 x6) y d =
    tab (kernelRun0_B.sl.HS2_17 (F := Ideal) c i a2 h2 a3 h3 a4 h4 a5 h5 a6 h6 a7 h7 a8 h8 a15 a16 a17 x0 x1 x2 x3 x4 x5 x6) y d + Head.at_ (H.chunk 16).dkb 16 y.val d :=
  rmw_at 16 rfl (placed_k0_off1_16 i) a17.view _ _ _ (kernelRun0_B.sl.v3066 (F := Ideal) c i a2 h2 a3 h3 a4 h4 a5 h5 a6 h6 a7 h7 a8 h8 a15 a16 x0 x1 x2 x3 x4 x5 x6) _ rfl _ (dkb16 (c := c) (i := i) (h2 := h2) (h3 := h3) (h4 := h4) (h5 := h5) (h6 := h6) (h7 := h7) (h8 := h8) (a15 := a15) (a16 := a16) hin) y d
theorem tk19 (y : Fin 2560) (d : Fin 128) : tab (kernelRun0_B.sl.HS2_19 (F := Ideal) c i a2 h2 a3 h3 a4 h4 a5 h5 a6 h6 a7 h7 a8 h8 a15 a16 a17 x0 x1 x2 x3 x4 x5 x6) y d =
    tab (kernelRun0_B.sl.HS2_18 (F := Ideal) c i a2 h2 a3 h3 a4 h4 a5 h5 a6 h6 a7 h7 a8 h8 a15 a16 a17 x0 x1 x2 x3 x4 x5 x6) y d + Head.at_ (H.chunk 17).dkb 17 y.val d :=
  rmw_at 17 rfl (placed_k0_off1_17 i) a17.view _ _ _ (kernelRun0_B.sl.v3057 (F := Ideal) c i a2 h2 a3 h3 a4 h4 a5 h5 a6 h6 a7 h7 a8 h8 a15 a16 x0 x1 x2 x3 x4 x5 x6) _ rfl _ (dkb17 (c := c) (i := i) (h2 := h2) (h3 := h3) (h4 := h4) (h5 := h5) (h6 := h6) (h7 := h7) (h8 := h8) (a15 := a15) (a16 := a16) hin) y d
theorem tk20 (y : Fin 2560) (d : Fin 128) : tab (kernelRun0_B.sl.HS2_20 (F := Ideal) c i a2 h2 a3 h3 a4 h4 a5 h5 a6 h6 a7 h7 a8 h8 a15 a16 a17 x0 x1 x2 x3 x4 x5 x6) y d =
    tab (kernelRun0_B.sl.HS2_19 (F := Ideal) c i a2 h2 a3 h3 a4 h4 a5 h5 a6 h6 a7 h7 a8 h8 a15 a16 a17 x0 x1 x2 x3 x4 x5 x6) y d + Head.at_ (H.chunk 18).dkb 18 y.val d :=
  rmw_at 18 rfl (placed_k0_off1_18 i) a17.view _ _ _ (kernelRun0_B.sl.v3048 (F := Ideal) c i a2 h2 a3 h3 a4 h4 a5 h5 a6 h6 a7 h7 a8 h8 a15 a16 x0 x1 x2 x3 x4 x5 x6) _ rfl _ (dkb18 (c := c) (i := i) (h2 := h2) (h3 := h3) (h4 := h4) (h5 := h5) (h6 := h6) (h7 := h7) (h8 := h8) (a15 := a15) (a16 := a16) hin) y d
theorem tk21 (y : Fin 2560) (d : Fin 128) : tab (kernelRun0_B.sl.HS2_21 (F := Ideal) c i a2 h2 a3 h3 a4 h4 a5 h5 a6 h6 a7 h7 a8 h8 a15 a16 a17 x0 x1 x2 x3 x4 x5 x6) y d =
    tab (kernelRun0_B.sl.HS2_20 (F := Ideal) c i a2 h2 a3 h3 a4 h4 a5 h5 a6 h6 a7 h7 a8 h8 a15 a16 a17 x0 x1 x2 x3 x4 x5 x6) y d + Head.at_ (H.chunk 19).dkb 19 y.val d :=
  rmw_at 19 rfl (placed_k0_off1_19 i) a17.view _ _ _ (kernelRun0_B.sl.v3039 (F := Ideal) c i a2 h2 a3 h3 a4 h4 a5 h5 a6 h6 a7 h7 a8 h8 a15 a16 x0 x1 x2 x3 x4 x5 x6) _ rfl _ (dkb19 (c := c) (i := i) (h2 := h2) (h3 := h3) (h4 := h4) (h5 := h5) (h6 := h6) (h7 := h7) (h8 := h8) (a15 := a15) (a16 := a16) hin) y d
theorem tk22 (y : Fin 2560) (d : Fin 128) : tab (kernelRun0_B.sl.HS2_22 (F := Ideal) c i a2 h2 a3 h3 a4 h4 a5 h5 a6 h6 a7 h7 a8 h8 a15 a16 a17 x0 x1 x2 x3 x4 x5 x6) y d =
    tab (kernelRun0_B.sl.HS2_21 (F := Ideal) c i a2 h2 a3 h3 a4 h4 a5 h5 a6 h6 a7 h7 a8 h8 a15 a16 a17 x0 x1 x2 x3 x4 x5 x6) y d + Head.at_ (H.chunk 20).dkb 20 y.val d :=
  rmw_at 20 rfl (placed_k0_off1_20 i) a17.view _ _ _ (kernelRun0_B.sl.v3030 (F := Ideal) c i a2 h2 a3 h3 a4 h4 a5 h5 a6 h6 a7 h7 a8 h8 a15 a16 x0 x1 x2 x3 x4 x5 x6) _ rfl _ (dkb20 (c := c) (i := i) (h2 := h2) (h3 := h3) (h4 := h4) (h5 := h5) (h6 := h6) (h7 := h7) (h8 := h8) (a15 := a15) (a16 := a16) hin) y d
theorem tk23 (y : Fin 2560) (d : Fin 128) : tab (kernelRun0_B.sl.HS2_23 (F := Ideal) c i a2 h2 a3 h3 a4 h4 a5 h5 a6 h6 a7 h7 a8 h8 a15 a16 a17 x0 x1 x2 x3 x4 x5 x6) y d =
    tab (kernelRun0_B.sl.HS2_22 (F := Ideal) c i a2 h2 a3 h3 a4 h4 a5 h5 a6 h6 a7 h7 a8 h8 a15 a16 a17 x0 x1 x2 x3 x4 x5 x6) y d + Head.at_ (H.chunk 21).dkb 21 y.val d :=
  rmw_at 21 rfl (placed_k0_off1_21 i) a17.view _ _ _ (kernelRun0_B.sl.v3021 (F := Ideal) c i a2 h2 a3 h3 a4 h4 a5 h5 a6 h6 a7 h7 a8 h8 a15 a16 x0 x1 x2 x3 x4 x5 x6) _ rfl _ (dkb21 (c := c) (i := i) (h2 := h2) (h3 := h3) (h4 := h4) (h5 := h5) (h6 := h6) (h7 := h7) (h8 := h8) (a15 := a15) (a16 := a16) hin) y d
theorem tk24 (y : Fin 2560) (d : Fin 128) : tab (kernelRun0_B.sl.HS2_24 (F := Ideal) c i a2 h2 a3 h3 a4 h4 a5 h5 a6 h6 a7 h7 a8 h8 a15 a16 a17 x0 x1 x2 x3 x4 x5 x6) y d =
    tab (kernelRun0_B.sl.HS2_23 (F := Ideal) c i a2 h2 a3 h3 a4 h4 a5 h5 a6 h6 a7 h7 a8 h8 a15 a16 a17 x0 x1 x2 x3 x4 x5 x6) y d + Head.at_ (H.chunk 22).dkb 22 y.val d :=
  rmw_at 22 rfl (placed_k0_off1_22 i) a17.view _ _ _ (kernelRun0_B.sl.v3012 (F := Ideal) c i a2 h2 a3 h3 a4 h4 a5 h5 a6 h6 a7 h7 a8 h8 a15 a16 x0 x1 x2 x3 x4 x5 x6) _ rfl _ (dkb22 (c := c) (i := i) (h2 := h2) (h3 := h3) (h4 := h4) (h5 := h5) (h6 := h6) (h7 := h7) (h8 := h8) (a15 := a15) (a16 := a16) hin) y d
theorem tk25 (y : Fin 2560) (d : Fin 128) : tab (kernelRun0_B.sl.HS2_25 (F := Ideal) c i a2 h2 a3 h3 a4 h4 a5 h5 a6 h6 a7 h7 a8 h8 a15 a16 a17 x0 x1 x2 x3 x4 x5 x6) y d =
    tab (kernelRun0_B.sl.HS2_24 (F := Ideal) c i a2 h2 a3 h3 a4 h4 a5 h5 a6 h6 a7 h7 a8 h8 a15 a16 a17 x0 x1 x2 x3 x4 x5 x6) y d + Head.at_ (H.chunk 23).dkb 23 y.val d :=
  rmw_at 23 rfl (placed_k0_off1_23 i) a17.view _ _ _ (kernelRun0_B.sl.v3003 (F := Ideal) c i a2 h2 a3 h3 a4 h4 a5 h5 a6 h6 a7 h7 a8 h8 a15 a16 x0 x1 x2 x3 x4 x5 x6) _ rfl _ (dkb23 (c := c) (i := i) (h2 := h2) (h3 := h3) (h4 := h4) (h5 := h5) (h6 := h6) (h7 := h7) (h8 := h8) (a15 := a15) (a16 := a16) hin) y d
theorem tk26 (y : Fin 2560) (d : Fin 128) : tab (kernelRun0_B.sl.HS2_26 (F := Ideal) c i a2 h2 a3 h3 a4 h4 a5 h5 a6 h6 a7 h7 a8 h8 a15 a16 a17 x0 x1 x2 x3 x4 x5 x6) y d =
    tab (kernelRun0_B.sl.HS2_25 (F := Ideal) c i a2 h2 a3 h3 a4 h4 a5 h5 a6 h6 a7 h7 a8 h8 a15 a16 a17 x0 x1 x2 x3 x4 x5 x6) y d + Head.at_ (H.chunk 24).dkb 24 y.val d :=
  rmw_at 24 rfl (placed_k0_off1_24 i) a17.view _ _ _ (kernelRun0_B.sl.v2994 (F := Ideal) c i a2 h2 a3 h3 a4 h4 a5 h5 a6 h6 a7 h7 a8 h8 a15 a16 x0 x1 x2 x3 x4 x5 x6) _ rfl _ (dkb24 (c := c) (i := i) (h2 := h2) (h3 := h3) (h4 := h4) (h5 := h5) (h6 := h6) (h7 := h7) (h8 := h8) (a15 := a15) (a16 := a16) hin) y d
theorem tk27 (y : Fin 2560) (d : Fin 128) : tab (kernelRun0_B.sl.HS2_27 (F := Ideal) c i a2 h2 a3 h3 a4 h4 a5 h5 a6 h6 a7 h7 a8 h8 a15 a16 a17 x0 x1 x2 x3 x4 x5 x6) y d =
    tab (kernelRun0_B.sl.HS2_26 (F := Ideal) c i a2 h2 a3 h3 a4 h4 a5 h5 a6 h6 a7 h7 a8 h8 a15 a16 a17 x0 x1 x2 x3 x4 x5 x6) y d + Head.at_ (H.chunk 25).dkb 25 y.val d :=
  rmw_at 25 rfl (placed_k0_off1_25 i) a17.view _ _ _ (kernelRun0_B.sl.v2985 (F := Ideal) c i a2 h2 a3 h3 a4 h4 a5 h5 a6 h6 a7 h7 a8 h8 a15 a16 x0 x1 x2 x3 x4 x5 x6) _ rfl _ (dkb25 (c := c) (i := i) (h2 := h2) (h3 := h3) (h4 := h4) (h5 := h5) (h6 := h6) (h7 := h7) (h8 := h8) (a15 := a15) (a16 := a16) hin) y d
theorem tk28 (y : Fin 2560) (d : Fin 128) : tab (kernelRun0_B.sl.HS2_28 (F := Ideal) c i a2 h2 a3 h3 a4 h4 a5 h5 a6 h6 a7 h7 a8 h8 a15 a16 a17 x0 x1 x2 x3 x4 x5 x6) y d =
    tab (kernelRun0_B.sl.HS2_27 (F := Ideal) c i a2 h2 a3 h3 a4 h4 a5 h5 a6 h6 a7 h7 a8 h8 a15 a16 a17 x0 x1 x2 x3 x4 x5 x6) y d + Head.at_ (H.chunk 26).dkb 26 y.val d :=
  rmw_at 26 rfl (placed_k0_off1_26 i) a17.view _ _ _ (kernelRun0_B.sl.v2976 (F := Ideal) c i a2 h2 a3 h3 a4 h4 a5 h5 a6 h6 a7 h7 a8 h8 a15 a16 x0 x1 x2 x3 x4 x5 x6) _ rfl _ (dkb26 (c := c) (i := i) (h2 := h2) (h3 := h3) (h4 := h4) (h5 := h5) (h6 := h6) (h7 := h7) (h8 := h8) (a15 := a15) (a16 := a16) hin) y d
theorem tk29 (y : Fin 2560) (d : Fin 128) : tab (kernelRun0_B.sl.HS2_29 (F := Ideal) c i a2 h2 a3 h3 a4 h4 a5 h5 a6 h6 a7 h7 a8 h8 a15 a16 a17 x0 x1 x2 x3 x4 x5 x6) y d =
    tab (kernelRun0_B.sl.HS2_28 (F := Ideal) c i a2 h2 a3 h3 a4 h4 a5 h5 a6 h6 a7 h7 a8 h8 a15 a16 a17 x0 x1 x2 x3 x4 x5 x6) y d + Head.at_ (H.chunk 27).dkb 27 y.val d :=
  rmw_at 27 rfl (placed_k0_off1_27 i) a17.view _ _ _ (kernelRun0_B.sl.v2967 (F := Ideal) c i a2 h2 a3 h3 a4 h4 a5 h5 a6 h6 a7 h7 a8 h8 a15 a16 x0 x1 x2 x3 x4 x5 x6) _ rfl _ (dkb27 (c := c) (i := i) (h2 := h2) (h3 := h3) (h4 := h4) (h5 := h5) (h6 := h6) (h7 := h7) (h8 := h8) (a15 := a15) (a16 := a16) hin) y d
theorem tk30 (y : Fin 2560) (d : Fin 128) : tab (kernelRun0_B.sl.HS2_30 (F := Ideal) c i a2 h2 a3 h3 a4 h4 a5 h5 a6 h6 a7 h7 a8 h8 a15 a16 a17 x0 x1 x2 x3 x4 x5 x6) y d =
    tab (kernelRun0_B.sl.HS2_29 (F := Ideal) c i a2 h2 a3 h3 a4 h4 a5 h5 a6 h6 a7 h7 a8 h8 a15 a16 a17 x0 x1 x2 x3 x4 x5 x6) y d + Head.at_ (H.chunk 28).dkb 28 y.val d :=
  rmw_at 28 rfl (placed_k0_off1_28 i) a17.view _ _ _ (kernelRun0_B.sl.v2958 (F := Ideal) c i a2 h2 a3 h3 a4 h4 a5 h5 a6 h6 a7 h7 a8 h8 a15 a16 x0 x1 x2 x3 x4 x5 x6) _ rfl _ (dkb28 (c := c) (i := i) (h2 := h2) (h3 := h3) (h4 := h4) (h5 := h5) (h6 := h6) (h7 := h7) (h8 := h8) (a15 := a15) (a16 := a16) hin) y d
theorem tk31 (y : Fin 2560) (d : Fin 128) : tab (kernelRun0_B.sl.HS2_31 (F := Ideal) c i a2 h2 a3 h3 a4 h4 a5 h5 a6 h6 a7 h7 a8 h8 a15 a16 a17 x0 x1 x2 x3 x4 x5 x6) y d =
    tab (kernelRun0_B.sl.HS2_30 (F := Ideal) c i a2 h2 a3 h3 a4 h4 a5 h5 a6 h6 a7 h7 a8 h8 a15 a16 a17 x0 x1 x2 x3 x4 x5 x6) y d + Head.at_ (H.chunk 29).dkb 29 y.val d :=
  rmw_at 29 rfl (placed_k0_off1_29 i) a17.view _ _ _ (kernelRun0_B.sl.v2949 (F := Ideal) c i a2 h2 a3 h3 a4 h4 a5 h5 a6 h6 a7 h7 a8 h8 a15 a16 x0 x1 x2 x3 x4 x5 x6) _ rfl _ (dkb29 (c := c) (i := i) (h2 := h2) (h3 := h3) (h4 := h4) (h5 := h5) (h6 := h6) (h7 := h7) (h8 := h8) (a15 := a15) (a16 := a16) hin) y d
theorem tk32 (y : Fin 2560) (d : Fin 128) : tab (kernelRun0_B.sl.HS2_32 (F := Ideal) c i a2 h2 a3 h3 a4 h4 a5 h5 a6 h6 a7 h7 a8 h8 a15 a16 a17 x0 x1 x2 x3 x4 x5 x6) y d =
    tab (kernelRun0_B.sl.HS2_31 (F := Ideal) c i a2 h2 a3 h3 a4 h4 a5 h5 a6 h6 a7 h7 a8 h8 a15 a16 a17 x0 x1 x2 x3 x4 x5 x6) y d + Head.at_ (H.chunk 30).dkb 30 y.val d :=
  rmw_at 30 rfl (placed_k0_off1_30 i) a17.view _ _ _ (kernelRun0_B.sl.v2940 (F := Ideal) c i a2 h2 a3 h3 a4 h4 a5 h5 a6 h6 a7 h7 a8 h8 a15 a16 x0 x1 x2 x3 x4 x5 x6) _ rfl _ (dkb30 (c := c) (i := i) (h2 := h2) (h3 := h3) (h4 := h4) (h5 := h5) (h6 := h6) (h7 := h7) (h8 := h8) (a15 := a15) (a16 := a16) hin) y d
theorem tk33 (y : Fin 2560) (d : Fin 128) : tab (kernelRun0_B.sl.HS2_33 (F := Ideal) c i a2 h2 a3 h3 a4 h4 a5 h5 a6 h6 a7 h7 a8 h8 a15 a16 a17 x0 x1 x2 x3 x4 x5 x6) y d =
    tab (kernelRun0_B.sl.HS2_32 (F := Ideal) c i a2 h2 a3 h3 a4 h4 a5 h5 a6 h6 a7 h7 a8 h8 a15 a16 a17 x0 x1 x2 x3 x4 x5 x6) y d + Head.at_ (H.chunk 31).dkb 31 y.val d :=
  rmw_at 31 rfl (placed_k0_off1_31 i) a17.view _ _ _ (kernelRun0_B.sl.v2931 (F := Ideal) c i a2 h2 a3 h3 a4 h4 a5 h5 a6 h6 a7 h7 a8 h8 a15 a16 x0 x1 x2 x3 x4 x5 x6) _ rfl _ (dkb31 (c := c) (i := i) (h2 := h2) (h3 := h3) (h4 := h4) (h5 := h5) (h6 := h6) (h7 := h7) (h8 := h8) (a15 := a15) (a16 := a16) hin) y d
theorem tk (y : Fin 2560) (d : Fin 128) : tab (kernelRun0_B.sl.HS2_33 (F := Ideal) c i a2 h2 a3 h3 a4 h4 a5 h5 a6 h6 a7 h7 a8 h8 a15 a16 a17 x0 x1 x2 x3 x4 x5 x6) y d = ∑ n, Head.at_ (H.chunk n).dkb n y.val d := by
  rw [tk33 hin, tk32 hin, tk31 hin, tk30 hin, tk29 hin, tk28 hin, tk27 hin, tk26 hin, tk25 hin, tk24 hin, tk23 hin, tk22 hin, tk21 hin, tk20 hin, tk19 hin, tk18 hin, tk17 hin, tk16 hin, tk15 hin, tk14 hin, tk13 hin, tk12 hin, tk11 hin, tk10 hin, tk9 hin, tk8 hin, tk7 hin, tk6 hin, tk5 hin, tk4 hin, tk3 hin, tk2 hin, tab1]
  exact sum_up (fun n => Head.at_ (H.chunk n).dkb n y.val d)
theorem tv2 (y : Fin 2560) (d : Fin 128) : tab (kernelRun0_B.sl.HS3_2 (F := Ideal) c i a2 h2 a3 h3 a5 h5 a6 h6 a7 h7 a8 h8 a15 a18 x0 x1 x3 x4 x5 x6) y d =
    tab (kernelRun0_B.sl.HS2_1 (F := Ideal)) y d + Head.at_ (H.chunk 0).dvb 0 y.val d :=
  rmw_at 0 rfl (placed_k0_off1_0 i) a18.view _ _ _ (kernelRun0_B.sl.v2091 (F := Ideal) c i a2 h2 a3 h3 a5 h5 a6 h6 a7 h7 a8 h8 a15 x0 x1 x3 x4 x5 x6) _ rfl _ (dvb0 (c := c) (i := i) (h2 := h2) (h3 := h3) (h5 := h5) (h6 := h6) (h7 := h7) (h8 := h8) (a15 := a15) hin) y d
theorem tv3 (y : Fin 2560) (d : Fin 128) : tab (kernelRun0_B.sl.HS3_3 (F := Ideal) c i a2 h2 a3 h3 a5 h5 a6 h6 a7 h7 a8 h8 a15 a18 x0 x1 x3 x4 x5 x6) y d =
    tab (kernelRun0_B.sl.HS3_2 (F := Ideal) c i a2 h2 a3 h3 a5 h5 a6 h6 a7 h7 a8 h8 a15 a18 x0 x1 x3 x4 x5 x6) y d + Head.at_ (H.chunk 1).dvb 1 y.val d :=
  rmw_at 1 rfl (placed_k0_off1_1 i) a18.view _ _ _ (kernelRun0_B.sl.v2085 (F := Ideal) c i a2 h2 a3 h3 a5 h5 a6 h6 a7 h7 a8 h8 a15 x0 x1 x3 x4 x5 x6) _ rfl _ (dvb1 (c := c) (i := i) (h2 := h2) (h3 := h3) (h5 := h5) (h6 := h6) (h7 := h7) (h8 := h8) (a15 := a15) hin) y d
theorem tv4 (y : Fin 2560) (d : Fin 128) : tab (kernelRun0_B.sl.HS3_4 (F := Ideal) c i a2 h2 a3 h3 a5 h5 a6 h6 a7 h7 a8 h8 a15 a18 x0 x1 x3 x4 x5 x6) y d =
    tab (kernelRun0_B.sl.HS3_3 (F := Ideal) c i a2 h2 a3 h3 a5 h5 a6 h6 a7 h7 a8 h8 a15 a18 x0 x1 x3 x4 x5 x6) y d + Head.at_ (H.chunk 2).dvb 2 y.val d :=
  rmw_at 2 rfl (placed_k0_off1_2 i) a18.view _ _ _ (kernelRun0_B.sl.v2079 (F := Ideal) c i a2 h2 a3 h3 a5 h5 a6 h6 a7 h7 a8 h8 a15 x0 x1 x3 x4 x5 x6) _ rfl _ (dvb2 (c := c) (i := i) (h2 := h2) (h3 := h3) (h5 := h5) (h6 := h6) (h7 := h7) (h8 := h8) (a15 := a15) hin) y d
theorem tv5 (y : Fin 2560) (d : Fin 128) : tab (kernelRun0_B.sl.HS3_5 (F := Ideal) c i a2 h2 a3 h3 a5 h5 a6 h6 a7 h7 a8 h8 a15 a18 x0 x1 x3 x4 x5 x6) y d =
    tab (kernelRun0_B.sl.HS3_4 (F := Ideal) c i a2 h2 a3 h3 a5 h5 a6 h6 a7 h7 a8 h8 a15 a18 x0 x1 x3 x4 x5 x6) y d + Head.at_ (H.chunk 3).dvb 3 y.val d :=
  rmw_at 3 rfl (placed_k0_off1_3 i) a18.view _ _ _ (kernelRun0_B.sl.v2073 (F := Ideal) c i a2 h2 a3 h3 a5 h5 a6 h6 a7 h7 a8 h8 a15 x0 x1 x3 x4 x5 x6) _ rfl _ (dvb3 (c := c) (i := i) (h2 := h2) (h3 := h3) (h5 := h5) (h6 := h6) (h7 := h7) (h8 := h8) (a15 := a15) hin) y d
theorem tv6 (y : Fin 2560) (d : Fin 128) : tab (kernelRun0_B.sl.HS3_6 (F := Ideal) c i a2 h2 a3 h3 a5 h5 a6 h6 a7 h7 a8 h8 a15 a18 x0 x1 x3 x4 x5 x6) y d =
    tab (kernelRun0_B.sl.HS3_5 (F := Ideal) c i a2 h2 a3 h3 a5 h5 a6 h6 a7 h7 a8 h8 a15 a18 x0 x1 x3 x4 x5 x6) y d + Head.at_ (H.chunk 4).dvb 4 y.val d :=
  rmw_at 4 rfl (placed_k0_off1_4 i) a18.view _ _ _ (kernelRun0_B.sl.v2067 (F := Ideal) c i a2 h2 a3 h3 a5 h5 a6 h6 a7 h7 a8 h8 a15 x0 x1 x3 x4 x5 x6) _ rfl _ (dvb4 (c := c) (i := i) (h2 := h2) (h3 := h3) (h5 := h5) (h6 := h6) (h7 := h7) (h8 := h8) (a15 := a15) hin) y d
theorem tv7 (y : Fin 2560) (d : Fin 128) : tab (kernelRun0_B.sl.HS3_7 (F := Ideal) c i a2 h2 a3 h3 a5 h5 a6 h6 a7 h7 a8 h8 a15 a18 x0 x1 x3 x4 x5 x6) y d =
    tab (kernelRun0_B.sl.HS3_6 (F := Ideal) c i a2 h2 a3 h3 a5 h5 a6 h6 a7 h7 a8 h8 a15 a18 x0 x1 x3 x4 x5 x6) y d + Head.at_ (H.chunk 5).dvb 5 y.val d :=
  rmw_at 5 rfl (placed_k0_off1_5 i) a18.view _ _ _ (kernelRun0_B.sl.v2061 (F := Ideal) c i a2 h2 a3 h3 a5 h5 a6 h6 a7 h7 a8 h8 a15 x0 x1 x3 x4 x5 x6) _ rfl _ (dvb5 (c := c) (i := i) (h2 := h2) (h3 := h3) (h5 := h5) (h6 := h6) (h7 := h7) (h8 := h8) (a15 := a15) hin) y d
theorem tv8 (y : Fin 2560) (d : Fin 128) : tab (kernelRun0_B.sl.HS3_8 (F := Ideal) c i a2 h2 a3 h3 a5 h5 a6 h6 a7 h7 a8 h8 a15 a18 x0 x1 x3 x4 x5 x6) y d =
    tab (kernelRun0_B.sl.HS3_7 (F := Ideal) c i a2 h2 a3 h3 a5 h5 a6 h6 a7 h7 a8 h8 a15 a18 x0 x1 x3 x4 x5 x6) y d + Head.at_ (H.chunk 6).dvb 6 y.val d :=
  rmw_at 6 rfl (placed_k0_off1_6 i) a18.view _ _ _ (kernelRun0_B.sl.v2055 (F := Ideal) c i a2 h2 a3 h3 a5 h5 a6 h6 a7 h7 a8 h8 a15 x0 x1 x3 x4 x5 x6) _ rfl _ (dvb6 (c := c) (i := i) (h2 := h2) (h3 := h3) (h5 := h5) (h6 := h6) (h7 := h7) (h8 := h8) (a15 := a15) hin) y d
theorem tv9 (y : Fin 2560) (d : Fin 128) : tab (kernelRun0_B.sl.HS3_9 (F := Ideal) c i a2 h2 a3 h3 a5 h5 a6 h6 a7 h7 a8 h8 a15 a18 x0 x1 x3 x4 x5 x6) y d =
    tab (kernelRun0_B.sl.HS3_8 (F := Ideal) c i a2 h2 a3 h3 a5 h5 a6 h6 a7 h7 a8 h8 a15 a18 x0 x1 x3 x4 x5 x6) y d + Head.at_ (H.chunk 7).dvb 7 y.val d :=
  rmw_at 7 rfl (placed_k0_off1_7 i) a18.view _ _ _ (kernelRun0_B.sl.v2049 (F := Ideal) c i a2 h2 a3 h3 a5 h5 a6 h6 a7 h7 a8 h8 a15 x0 x1 x3 x4 x5 x6) _ rfl _ (dvb7 (c := c) (i := i) (h2 := h2) (h3 := h3) (h5 := h5) (h6 := h6) (h7 := h7) (h8 := h8) (a15 := a15) hin) y d
theorem tv10 (y : Fin 2560) (d : Fin 128) : tab (kernelRun0_B.sl.HS3_10 (F := Ideal) c i a2 h2 a3 h3 a5 h5 a6 h6 a7 h7 a8 h8 a15 a18 x0 x1 x3 x4 x5 x6) y d =
    tab (kernelRun0_B.sl.HS3_9 (F := Ideal) c i a2 h2 a3 h3 a5 h5 a6 h6 a7 h7 a8 h8 a15 a18 x0 x1 x3 x4 x5 x6) y d + Head.at_ (H.chunk 8).dvb 8 y.val d :=
  rmw_at 8 rfl (placed_k0_off1_8 i) a18.view _ _ _ (kernelRun0_B.sl.v2043 (F := Ideal) c i a2 h2 a3 h3 a5 h5 a6 h6 a7 h7 a8 h8 a15 x0 x1 x3 x4 x5 x6) _ rfl _ (dvb8 (c := c) (i := i) (h2 := h2) (h3 := h3) (h5 := h5) (h6 := h6) (h7 := h7) (h8 := h8) (a15 := a15) hin) y d
theorem tv11 (y : Fin 2560) (d : Fin 128) : tab (kernelRun0_B.sl.HS3_11 (F := Ideal) c i a2 h2 a3 h3 a5 h5 a6 h6 a7 h7 a8 h8 a15 a18 x0 x1 x3 x4 x5 x6) y d =
    tab (kernelRun0_B.sl.HS3_10 (F := Ideal) c i a2 h2 a3 h3 a5 h5 a6 h6 a7 h7 a8 h8 a15 a18 x0 x1 x3 x4 x5 x6) y d + Head.at_ (H.chunk 9).dvb 9 y.val d :=
  rmw_at 9 rfl (placed_k0_off1_9 i) a18.view _ _ _ (kernelRun0_B.sl.v2037 (F := Ideal) c i a2 h2 a3 h3 a5 h5 a6 h6 a7 h7 a8 h8 a15 x0 x1 x3 x4 x5 x6) _ rfl _ (dvb9 (c := c) (i := i) (h2 := h2) (h3 := h3) (h5 := h5) (h6 := h6) (h7 := h7) (h8 := h8) (a15 := a15) hin) y d
theorem tv12 (y : Fin 2560) (d : Fin 128) : tab (kernelRun0_B.sl.HS3_12 (F := Ideal) c i a2 h2 a3 h3 a5 h5 a6 h6 a7 h7 a8 h8 a15 a18 x0 x1 x3 x4 x5 x6) y d =
    tab (kernelRun0_B.sl.HS3_11 (F := Ideal) c i a2 h2 a3 h3 a5 h5 a6 h6 a7 h7 a8 h8 a15 a18 x0 x1 x3 x4 x5 x6) y d + Head.at_ (H.chunk 10).dvb 10 y.val d :=
  rmw_at 10 rfl (placed_k0_off1_10 i) a18.view _ _ _ (kernelRun0_B.sl.v2031 (F := Ideal) c i a2 h2 a3 h3 a5 h5 a6 h6 a7 h7 a8 h8 a15 x0 x1 x3 x4 x5 x6) _ rfl _ (dvb10 (c := c) (i := i) (h2 := h2) (h3 := h3) (h5 := h5) (h6 := h6) (h7 := h7) (h8 := h8) (a15 := a15) hin) y d
theorem tv13 (y : Fin 2560) (d : Fin 128) : tab (kernelRun0_B.sl.HS3_13 (F := Ideal) c i a2 h2 a3 h3 a5 h5 a6 h6 a7 h7 a8 h8 a15 a18 x0 x1 x3 x4 x5 x6) y d =
    tab (kernelRun0_B.sl.HS3_12 (F := Ideal) c i a2 h2 a3 h3 a5 h5 a6 h6 a7 h7 a8 h8 a15 a18 x0 x1 x3 x4 x5 x6) y d + Head.at_ (H.chunk 11).dvb 11 y.val d :=
  rmw_at 11 rfl (placed_k0_off1_11 i) a18.view _ _ _ (kernelRun0_B.sl.v2025 (F := Ideal) c i a2 h2 a3 h3 a5 h5 a6 h6 a7 h7 a8 h8 a15 x0 x1 x3 x4 x5 x6) _ rfl _ (dvb11 (c := c) (i := i) (h2 := h2) (h3 := h3) (h5 := h5) (h6 := h6) (h7 := h7) (h8 := h8) (a15 := a15) hin) y d
theorem tv14 (y : Fin 2560) (d : Fin 128) : tab (kernelRun0_B.sl.HS3_14 (F := Ideal) c i a2 h2 a3 h3 a5 h5 a6 h6 a7 h7 a8 h8 a15 a18 x0 x1 x3 x4 x5 x6) y d =
    tab (kernelRun0_B.sl.HS3_13 (F := Ideal) c i a2 h2 a3 h3 a5 h5 a6 h6 a7 h7 a8 h8 a15 a18 x0 x1 x3 x4 x5 x6) y d + Head.at_ (H.chunk 12).dvb 12 y.val d :=
  rmw_at 12 rfl (placed_k0_off1_12 i) a18.view _ _ _ (kernelRun0_B.sl.v2019 (F := Ideal) c i a2 h2 a3 h3 a5 h5 a6 h6 a7 h7 a8 h8 a15 x0 x1 x3 x4 x5 x6) _ rfl _ (dvb12 (c := c) (i := i) (h2 := h2) (h3 := h3) (h5 := h5) (h6 := h6) (h7 := h7) (h8 := h8) (a15 := a15) hin) y d
theorem tv15 (y : Fin 2560) (d : Fin 128) : tab (kernelRun0_B.sl.HS3_15 (F := Ideal) c i a2 h2 a3 h3 a5 h5 a6 h6 a7 h7 a8 h8 a15 a18 x0 x1 x3 x4 x5 x6) y d =
    tab (kernelRun0_B.sl.HS3_14 (F := Ideal) c i a2 h2 a3 h3 a5 h5 a6 h6 a7 h7 a8 h8 a15 a18 x0 x1 x3 x4 x5 x6) y d + Head.at_ (H.chunk 13).dvb 13 y.val d :=
  rmw_at 13 rfl (placed_k0_off1_13 i) a18.view _ _ _ (kernelRun0_B.sl.v2013 (F := Ideal) c i a2 h2 a3 h3 a5 h5 a6 h6 a7 h7 a8 h8 a15 x0 x1 x3 x4 x5 x6) _ rfl _ (dvb13 (c := c) (i := i) (h2 := h2) (h3 := h3) (h5 := h5) (h6 := h6) (h7 := h7) (h8 := h8) (a15 := a15) hin) y d
theorem tv16 (y : Fin 2560) (d : Fin 128) : tab (kernelRun0_B.sl.HS3_16 (F := Ideal) c i a2 h2 a3 h3 a5 h5 a6 h6 a7 h7 a8 h8 a15 a18 x0 x1 x3 x4 x5 x6) y d =
    tab (kernelRun0_B.sl.HS3_15 (F := Ideal) c i a2 h2 a3 h3 a5 h5 a6 h6 a7 h7 a8 h8 a15 a18 x0 x1 x3 x4 x5 x6) y d + Head.at_ (H.chunk 14).dvb 14 y.val d :=
  rmw_at 14 rfl (placed_k0_off1_14 i) a18.view _ _ _ (kernelRun0_B.sl.v2007 (F := Ideal) c i a2 h2 a3 h3 a5 h5 a6 h6 a7 h7 a8 h8 a15 x0 x1 x3 x4 x5 x6) _ rfl _ (dvb14 (c := c) (i := i) (h2 := h2) (h3 := h3) (h5 := h5) (h6 := h6) (h7 := h7) (h8 := h8) (a15 := a15) hin) y d
theorem tv17 (y : Fin 2560) (d : Fin 128) : tab (kernelRun0_B.sl.HS3_17 (F := Ideal) c i a2 h2 a3 h3 a5 h5 a6 h6 a7 h7 a8 h8 a15 a18 x0 x1 x3 x4 x5 x6) y d =
    tab (kernelRun0_B.sl.HS3_16 (F := Ideal) c i a2 h2 a3 h3 a5 h5 a6 h6 a7 h7 a8 h8 a15 a18 x0 x1 x3 x4 x5 x6) y d + Head.at_ (H.chunk 15).dvb 15 y.val d :=
  rmw_at 15 rfl (placed_k0_off1_15 i) a18.view _ _ _ (kernelRun0_B.sl.v2001 (F := Ideal) c i a2 h2 a3 h3 a5 h5 a6 h6 a7 h7 a8 h8 a15 x0 x1 x3 x4 x5 x6) _ rfl _ (dvb15 (c := c) (i := i) (h2 := h2) (h3 := h3) (h5 := h5) (h6 := h6) (h7 := h7) (h8 := h8) (a15 := a15) hin) y d
theorem tv18 (y : Fin 2560) (d : Fin 128) : tab (kernelRun0_B.sl.HS3_18 (F := Ideal) c i a2 h2 a3 h3 a5 h5 a6 h6 a7 h7 a8 h8 a15 a18 x0 x1 x3 x4 x5 x6) y d =
    tab (kernelRun0_B.sl.HS3_17 (F := Ideal) c i a2 h2 a3 h3 a5 h5 a6 h6 a7 h7 a8 h8 a15 a18 x0 x1 x3 x4 x5 x6) y d + Head.at_ (H.chunk 16).dvb 16 y.val d :=
  rmw_at 16 rfl (placed_k0_off1_16 i) a18.view _ _ _ (kernelRun0_B.sl.v1995 (F := Ideal) c i a2 h2 a3 h3 a5 h5 a6 h6 a7 h7 a8 h8 a15 x0 x1 x3 x4 x5 x6) _ rfl _ (dvb16 (c := c) (i := i) (h2 := h2) (h3 := h3) (h5 := h5) (h6 := h6) (h7 := h7) (h8 := h8) (a15 := a15) hin) y d
theorem tv19 (y : Fin 2560) (d : Fin 128) : tab (kernelRun0_B.sl.HS3_19 (F := Ideal) c i a2 h2 a3 h3 a5 h5 a6 h6 a7 h7 a8 h8 a15 a18 x0 x1 x3 x4 x5 x6) y d =
    tab (kernelRun0_B.sl.HS3_18 (F := Ideal) c i a2 h2 a3 h3 a5 h5 a6 h6 a7 h7 a8 h8 a15 a18 x0 x1 x3 x4 x5 x6) y d + Head.at_ (H.chunk 17).dvb 17 y.val d :=
  rmw_at 17 rfl (placed_k0_off1_17 i) a18.view _ _ _ (kernelRun0_B.sl.v1989 (F := Ideal) c i a2 h2 a3 h3 a5 h5 a6 h6 a7 h7 a8 h8 a15 x0 x1 x3 x4 x5 x6) _ rfl _ (dvb17 (c := c) (i := i) (h2 := h2) (h3 := h3) (h5 := h5) (h6 := h6) (h7 := h7) (h8 := h8) (a15 := a15) hin) y d
theorem tv20 (y : Fin 2560) (d : Fin 128) : tab (kernelRun0_B.sl.HS3_20 (F := Ideal) c i a2 h2 a3 h3 a5 h5 a6 h6 a7 h7 a8 h8 a15 a18 x0 x1 x3 x4 x5 x6) y d =
    tab (kernelRun0_B.sl.HS3_19 (F := Ideal) c i a2 h2 a3 h3 a5 h5 a6 h6 a7 h7 a8 h8 a15 a18 x0 x1 x3 x4 x5 x6) y d + Head.at_ (H.chunk 18).dvb 18 y.val d :=
  rmw_at 18 rfl (placed_k0_off1_18 i) a18.view _ _ _ (kernelRun0_B.sl.v1983 (F := Ideal) c i a2 h2 a3 h3 a5 h5 a6 h6 a7 h7 a8 h8 a15 x0 x1 x3 x4 x5 x6) _ rfl _ (dvb18 (c := c) (i := i) (h2 := h2) (h3 := h3) (h5 := h5) (h6 := h6) (h7 := h7) (h8 := h8) (a15 := a15) hin) y d
theorem tv21 (y : Fin 2560) (d : Fin 128) : tab (kernelRun0_B.sl.HS3_21 (F := Ideal) c i a2 h2 a3 h3 a5 h5 a6 h6 a7 h7 a8 h8 a15 a18 x0 x1 x3 x4 x5 x6) y d =
    tab (kernelRun0_B.sl.HS3_20 (F := Ideal) c i a2 h2 a3 h3 a5 h5 a6 h6 a7 h7 a8 h8 a15 a18 x0 x1 x3 x4 x5 x6) y d + Head.at_ (H.chunk 19).dvb 19 y.val d :=
  rmw_at 19 rfl (placed_k0_off1_19 i) a18.view _ _ _ (kernelRun0_B.sl.v1977 (F := Ideal) c i a2 h2 a3 h3 a5 h5 a6 h6 a7 h7 a8 h8 a15 x0 x1 x3 x4 x5 x6) _ rfl _ (dvb19 (c := c) (i := i) (h2 := h2) (h3 := h3) (h5 := h5) (h6 := h6) (h7 := h7) (h8 := h8) (a15 := a15) hin) y d
theorem tv22 (y : Fin 2560) (d : Fin 128) : tab (kernelRun0_B.sl.HS3_22 (F := Ideal) c i a2 h2 a3 h3 a5 h5 a6 h6 a7 h7 a8 h8 a15 a18 x0 x1 x3 x4 x5 x6) y d =
    tab (kernelRun0_B.sl.HS3_21 (F := Ideal) c i a2 h2 a3 h3 a5 h5 a6 h6 a7 h7 a8 h8 a15 a18 x0 x1 x3 x4 x5 x6) y d + Head.at_ (H.chunk 20).dvb 20 y.val d :=
  rmw_at 20 rfl (placed_k0_off1_20 i) a18.view _ _ _ (kernelRun0_B.sl.v1971 (F := Ideal) c i a2 h2 a3 h3 a5 h5 a6 h6 a7 h7 a8 h8 a15 x0 x1 x3 x4 x5 x6) _ rfl _ (dvb20 (c := c) (i := i) (h2 := h2) (h3 := h3) (h5 := h5) (h6 := h6) (h7 := h7) (h8 := h8) (a15 := a15) hin) y d
theorem tv23 (y : Fin 2560) (d : Fin 128) : tab (kernelRun0_B.sl.HS3_23 (F := Ideal) c i a2 h2 a3 h3 a5 h5 a6 h6 a7 h7 a8 h8 a15 a18 x0 x1 x3 x4 x5 x6) y d =
    tab (kernelRun0_B.sl.HS3_22 (F := Ideal) c i a2 h2 a3 h3 a5 h5 a6 h6 a7 h7 a8 h8 a15 a18 x0 x1 x3 x4 x5 x6) y d + Head.at_ (H.chunk 21).dvb 21 y.val d :=
  rmw_at 21 rfl (placed_k0_off1_21 i) a18.view _ _ _ (kernelRun0_B.sl.v1965 (F := Ideal) c i a2 h2 a3 h3 a5 h5 a6 h6 a7 h7 a8 h8 a15 x0 x1 x3 x4 x5 x6) _ rfl _ (dvb21 (c := c) (i := i) (h2 := h2) (h3 := h3) (h5 := h5) (h6 := h6) (h7 := h7) (h8 := h8) (a15 := a15) hin) y d
theorem tv24 (y : Fin 2560) (d : Fin 128) : tab (kernelRun0_B.sl.HS3_24 (F := Ideal) c i a2 h2 a3 h3 a5 h5 a6 h6 a7 h7 a8 h8 a15 a18 x0 x1 x3 x4 x5 x6) y d =
    tab (kernelRun0_B.sl.HS3_23 (F := Ideal) c i a2 h2 a3 h3 a5 h5 a6 h6 a7 h7 a8 h8 a15 a18 x0 x1 x3 x4 x5 x6) y d + Head.at_ (H.chunk 22).dvb 22 y.val d :=
  rmw_at 22 rfl (placed_k0_off1_22 i) a18.view _ _ _ (kernelRun0_B.sl.v1959 (F := Ideal) c i a2 h2 a3 h3 a5 h5 a6 h6 a7 h7 a8 h8 a15 x0 x1 x3 x4 x5 x6) _ rfl _ (dvb22 (c := c) (i := i) (h2 := h2) (h3 := h3) (h5 := h5) (h6 := h6) (h7 := h7) (h8 := h8) (a15 := a15) hin) y d
theorem tv25 (y : Fin 2560) (d : Fin 128) : tab (kernelRun0_B.sl.HS3_25 (F := Ideal) c i a2 h2 a3 h3 a5 h5 a6 h6 a7 h7 a8 h8 a15 a18 x0 x1 x3 x4 x5 x6) y d =
    tab (kernelRun0_B.sl.HS3_24 (F := Ideal) c i a2 h2 a3 h3 a5 h5 a6 h6 a7 h7 a8 h8 a15 a18 x0 x1 x3 x4 x5 x6) y d + Head.at_ (H.chunk 23).dvb 23 y.val d :=
  rmw_at 23 rfl (placed_k0_off1_23 i) a18.view _ _ _ (kernelRun0_B.sl.v1953 (F := Ideal) c i a2 h2 a3 h3 a5 h5 a6 h6 a7 h7 a8 h8 a15 x0 x1 x3 x4 x5 x6) _ rfl _ (dvb23 (c := c) (i := i) (h2 := h2) (h3 := h3) (h5 := h5) (h6 := h6) (h7 := h7) (h8 := h8) (a15 := a15) hin) y d
theorem tv26 (y : Fin 2560) (d : Fin 128) : tab (kernelRun0_B.sl.HS3_26 (F := Ideal) c i a2 h2 a3 h3 a5 h5 a6 h6 a7 h7 a8 h8 a15 a18 x0 x1 x3 x4 x5 x6) y d =
    tab (kernelRun0_B.sl.HS3_25 (F := Ideal) c i a2 h2 a3 h3 a5 h5 a6 h6 a7 h7 a8 h8 a15 a18 x0 x1 x3 x4 x5 x6) y d + Head.at_ (H.chunk 24).dvb 24 y.val d :=
  rmw_at 24 rfl (placed_k0_off1_24 i) a18.view _ _ _ (kernelRun0_B.sl.v1947 (F := Ideal) c i a2 h2 a3 h3 a5 h5 a6 h6 a7 h7 a8 h8 a15 x0 x1 x3 x4 x5 x6) _ rfl _ (dvb24 (c := c) (i := i) (h2 := h2) (h3 := h3) (h5 := h5) (h6 := h6) (h7 := h7) (h8 := h8) (a15 := a15) hin) y d
theorem tv27 (y : Fin 2560) (d : Fin 128) : tab (kernelRun0_B.sl.HS3_27 (F := Ideal) c i a2 h2 a3 h3 a5 h5 a6 h6 a7 h7 a8 h8 a15 a18 x0 x1 x3 x4 x5 x6) y d =
    tab (kernelRun0_B.sl.HS3_26 (F := Ideal) c i a2 h2 a3 h3 a5 h5 a6 h6 a7 h7 a8 h8 a15 a18 x0 x1 x3 x4 x5 x6) y d + Head.at_ (H.chunk 25).dvb 25 y.val d :=
  rmw_at 25 rfl (placed_k0_off1_25 i) a18.view _ _ _ (kernelRun0_B.sl.v1941 (F := Ideal) c i a2 h2 a3 h3 a5 h5 a6 h6 a7 h7 a8 h8 a15 x0 x1 x3 x4 x5 x6) _ rfl _ (dvb25 (c := c) (i := i) (h2 := h2) (h3 := h3) (h5 := h5) (h6 := h6) (h7 := h7) (h8 := h8) (a15 := a15) hin) y d
theorem tv28 (y : Fin 2560) (d : Fin 128) : tab (kernelRun0_B.sl.HS3_28 (F := Ideal) c i a2 h2 a3 h3 a5 h5 a6 h6 a7 h7 a8 h8 a15 a18 x0 x1 x3 x4 x5 x6) y d =
    tab (kernelRun0_B.sl.HS3_27 (F := Ideal) c i a2 h2 a3 h3 a5 h5 a6 h6 a7 h7 a8 h8 a15 a18 x0 x1 x3 x4 x5 x6) y d + Head.at_ (H.chunk 26).dvb 26 y.val d :=
  rmw_at 26 rfl (placed_k0_off1_26 i) a18.view _ _ _ (kernelRun0_B.sl.v1935 (F := Ideal) c i a2 h2 a3 h3 a5 h5 a6 h6 a7 h7 a8 h8 a15 x0 x1 x3 x4 x5 x6) _ rfl _ (dvb26 (c := c) (i := i) (h2 := h2) (h3 := h3) (h5 := h5) (h6 := h6) (h7 := h7) (h8 := h8) (a15 := a15) hin) y d
theorem tv29 (y : Fin 2560) (d : Fin 128) : tab (kernelRun0_B.sl.HS3_29 (F := Ideal) c i a2 h2 a3 h3 a5 h5 a6 h6 a7 h7 a8 h8 a15 a18 x0 x1 x3 x4 x5 x6) y d =
    tab (kernelRun0_B.sl.HS3_28 (F := Ideal) c i a2 h2 a3 h3 a5 h5 a6 h6 a7 h7 a8 h8 a15 a18 x0 x1 x3 x4 x5 x6) y d + Head.at_ (H.chunk 27).dvb 27 y.val d :=
  rmw_at 27 rfl (placed_k0_off1_27 i) a18.view _ _ _ (kernelRun0_B.sl.v1929 (F := Ideal) c i a2 h2 a3 h3 a5 h5 a6 h6 a7 h7 a8 h8 a15 x0 x1 x3 x4 x5 x6) _ rfl _ (dvb27 (c := c) (i := i) (h2 := h2) (h3 := h3) (h5 := h5) (h6 := h6) (h7 := h7) (h8 := h8) (a15 := a15) hin) y d
theorem tv30 (y : Fin 2560) (d : Fin 128) : tab (kernelRun0_B.sl.HS3_30 (F := Ideal) c i a2 h2 a3 h3 a5 h5 a6 h6 a7 h7 a8 h8 a15 a18 x0 x1 x3 x4 x5 x6) y d =
    tab (kernelRun0_B.sl.HS3_29 (F := Ideal) c i a2 h2 a3 h3 a5 h5 a6 h6 a7 h7 a8 h8 a15 a18 x0 x1 x3 x4 x5 x6) y d + Head.at_ (H.chunk 28).dvb 28 y.val d :=
  rmw_at 28 rfl (placed_k0_off1_28 i) a18.view _ _ _ (kernelRun0_B.sl.v1923 (F := Ideal) c i a2 h2 a3 h3 a5 h5 a6 h6 a7 h7 a8 h8 a15 x0 x1 x3 x4 x5 x6) _ rfl _ (dvb28 (c := c) (i := i) (h2 := h2) (h3 := h3) (h5 := h5) (h6 := h6) (h7 := h7) (h8 := h8) (a15 := a15) hin) y d
theorem tv31 (y : Fin 2560) (d : Fin 128) : tab (kernelRun0_B.sl.HS3_31 (F := Ideal) c i a2 h2 a3 h3 a5 h5 a6 h6 a7 h7 a8 h8 a15 a18 x0 x1 x3 x4 x5 x6) y d =
    tab (kernelRun0_B.sl.HS3_30 (F := Ideal) c i a2 h2 a3 h3 a5 h5 a6 h6 a7 h7 a8 h8 a15 a18 x0 x1 x3 x4 x5 x6) y d + Head.at_ (H.chunk 29).dvb 29 y.val d :=
  rmw_at 29 rfl (placed_k0_off1_29 i) a18.view _ _ _ (kernelRun0_B.sl.v1917 (F := Ideal) c i a2 h2 a3 h3 a5 h5 a6 h6 a7 h7 a8 h8 a15 x0 x1 x3 x4 x5 x6) _ rfl _ (dvb29 (c := c) (i := i) (h2 := h2) (h3 := h3) (h5 := h5) (h6 := h6) (h7 := h7) (h8 := h8) (a15 := a15) hin) y d
theorem tv32 (y : Fin 2560) (d : Fin 128) : tab (kernelRun0_B.sl.HS3_32 (F := Ideal) c i a2 h2 a3 h3 a5 h5 a6 h6 a7 h7 a8 h8 a15 a18 x0 x1 x3 x4 x5 x6) y d =
    tab (kernelRun0_B.sl.HS3_31 (F := Ideal) c i a2 h2 a3 h3 a5 h5 a6 h6 a7 h7 a8 h8 a15 a18 x0 x1 x3 x4 x5 x6) y d + Head.at_ (H.chunk 30).dvb 30 y.val d :=
  rmw_at 30 rfl (placed_k0_off1_30 i) a18.view _ _ _ (kernelRun0_B.sl.v1911 (F := Ideal) c i a2 h2 a3 h3 a5 h5 a6 h6 a7 h7 a8 h8 a15 x0 x1 x3 x4 x5 x6) _ rfl _ (dvb30 (c := c) (i := i) (h2 := h2) (h3 := h3) (h5 := h5) (h6 := h6) (h7 := h7) (h8 := h8) (a15 := a15) hin) y d
theorem tv33 (y : Fin 2560) (d : Fin 128) : tab (kernelRun0_B.sl.HS3_33 (F := Ideal) c i a2 h2 a3 h3 a5 h5 a6 h6 a7 h7 a8 h8 a15 a18 x0 x1 x3 x4 x5 x6) y d =
    tab (kernelRun0_B.sl.HS3_32 (F := Ideal) c i a2 h2 a3 h3 a5 h5 a6 h6 a7 h7 a8 h8 a15 a18 x0 x1 x3 x4 x5 x6) y d + Head.at_ (H.chunk 31).dvb 31 y.val d :=
  rmw_at 31 rfl (placed_k0_off1_31 i) a18.view _ _ _ (kernelRun0_B.sl.v1905 (F := Ideal) c i a2 h2 a3 h3 a5 h5 a6 h6 a7 h7 a8 h8 a15 x0 x1 x3 x4 x5 x6) _ rfl _ (dvb31 (c := c) (i := i) (h2 := h2) (h3 := h3) (h5 := h5) (h6 := h6) (h7 := h7) (h8 := h8) (a15 := a15) hin) y d
theorem tv (y : Fin 2560) (d : Fin 128) : tab (kernelRun0_B.sl.HS3_33 (F := Ideal) c i a2 h2 a3 h3 a5 h5 a6 h6 a7 h7 a8 h8 a15 a18 x0 x1 x3 x4 x5 x6) y d = ∑ n, Head.at_ (H.chunk n).dvb n y.val d := by
  rw [tv33 hin, tv32 hin, tv31 hin, tv30 hin, tv29 hin, tv28 hin, tv27 hin, tv26 hin, tv25 hin, tv24 hin, tv23 hin, tv22 hin, tv21 hin, tv20 hin, tv19 hin, tv18 hin, tv17 hin, tv16 hin, tv15 hin, tv14 hin, tv13 hin, tv12 hin, tv11 hin, tv10 hin, tv9 hin, tv8 hin, tv7 hin, tv6 hin, tv5 hin, tv4 hin, tv3 hin, tv2 hin, tab1]
  exact sum_up (fun n => Head.at_ (H.chunk n).dvb n y.val d)
theorem db_sum (r : Fin 64) (k : Fin 576) : (kernelRun0_B.sl.v3202 (F := Ideal) c i a2 h2 a3 h3 a4 h4 a5 h5 a6 h6 a7 h7 a8 h8 a15 a16 x0 x1 x2 x3 x4 x5 x6) (ix2 r k) = H.db r k := by
  show (kernelRun0_B.sl.v2861 (F := Ideal) c i a2 h2 a3 h3 a4 h4 a5 h5 a6 h6 a7 h7 a8 h8 a15 a16 x0 x1 x2 x3 x4 x5 x6) (ix2 r k) + (kernelRun0_B.sl.v2863 (F := Ideal) c i a2 h2 a3 h3 a4 h4 a5 h5 a6 h6 a7 h7 a8 h8 a15 a16 x0 x1 x2 x3 x4 x5 x6) (ix2 r k) + (kernelRun0_B.sl.v2865 (F := Ideal) c i a2 h2 a3 h3 a4 h4 a5 h5 a6 h6 a7 h7 a8 h8 a15 a16 x0 x1 x2 x3 x4 x5 x6) (ix2 r k) + (kernelRun0_B.sl.v2867 (F := Ideal) c i a2 h2 a3 h3 a4 h4 a5 h5 a6 h6 a7 h7 a8 h8 a15 a16 x0 x1 x2 x3 x4 x5 x6) (ix2 r k) + (kernelRun0_B.sl.v2869 (F := Ideal) c i a2 h2 a3 h3 a4 h4 a5 h5 a6 h6 a7 h7 a8 h8 a15 a16 x0 x1 x2 x3 x4 x5 x6) (ix2 r k) + (kernelRun0_B.sl.v2871 (F := Ideal) c i a2 h2 a3 h3 a4 h4 a5 h5 a6 h6 a7 h7 a8 h8 a15 a16 x0 x1 x2 x3 x4 x5 x6) (ix2 r k) + (kernelRun0_B.sl.v2873 (F := Ideal) c i a2 h2 a3 h3 a4 h4 a5 h5 a6 h6 a7 h7 a8 h8 a15 a16 x0 x1 x2 x3 x4 x5 x6) (ix2 r k) + (kernelRun0_B.sl.v2875 (F := Ideal) c i a2 h2 a3 h3 a4 h4 a5 h5 a6 h6 a7 h7 a8 h8 a15 a16 x0 x1 x2 x3 x4 x5 x6) (ix2 r k) + (kernelRun0_B.sl.v2877 (F := Ideal) c i a2 h2 a3 h3 a4 h4 a5 h5 a6 h6 a7 h7 a8 h8 a15 a16 x0 x1 x2 x3 x4 x5 x6) (ix2 r k) + (kernelRun0_B.sl.v2879 (F := Ideal) c i a2 h2 a3 h3 a4 h4 a5 h5 a6 h6 a7 h7 a8 h8 a15 a16 x0 x1 x2 x3 x4 x5 x6) (ix2 r k) + (kernelRun0_B.sl.v2881 (F := Ideal) c i a2 h2 a3 h3 a4 h4 a5 h5 a6 h6 a7 h7 a8 h8 a15 a16 x0 x1 x2 x3 x4 x5 x6) (ix2 r k) + (kernelRun0_B.sl.v2883 (F := Ideal) c i a2 h2 a3 h3 a4 h4 a5 h5 a6 h6 a7 h7 a8 h8 a15 a16 x0 x1 x2 x3 x4 x5 x6) (ix2 r k) + (kernelRun0_B.sl.v2885 (F := Ideal) c i a2 h2 a3 h3 a4 h4 a5 h5 a6 h6 a7 h7 a8 h8 a15 a16 x0 x1 x2 x3 x4 x5 x6) (ix2 r k) + (kernelRun0_B.sl.v2887 (F := Ideal) c i a2 h2 a3 h3 a4 h4 a5 h5 a6 h6 a7 h7 a8 h8 a15 a16 x0 x1 x2 x3 x4 x5 x6) (ix2 r k) + (kernelRun0_B.sl.v2889 (F := Ideal) c i a2 h2 a3 h3 a4 h4 a5 h5 a6 h6 a7 h7 a8 h8 a15 a16 x0 x1 x2 x3 x4 x5 x6) (ix2 r k) + (kernelRun0_B.sl.v2891 (F := Ideal) c i a2 h2 a3 h3 a4 h4 a5 h5 a6 h6 a7 h7 a8 h8 a15 a16 x0 x1 x2 x3 x4 x5 x6) (ix2 r k) + (kernelRun0_B.sl.v2893 (F := Ideal) c i a2 h2 a3 h3 a4 h4 a5 h5 a6 h6 a7 h7 a8 h8 a15 a16 x0 x1 x2 x3 x4 x5 x6) (ix2 r k) + (kernelRun0_B.sl.v2895 (F := Ideal) c i a2 h2 a3 h3 a4 h4 a5 h5 a6 h6 a7 h7 a8 h8 a15 a16 x0 x1 x2 x3 x4 x5 x6) (ix2 r k) + (kernelRun0_B.sl.v2897 (F := Ideal) c i a2 h2 a3 h3 a4 h4 a5 h5 a6 h6 a7 h7 a8 h8 a15 a16 x0 x1 x2 x3 x4 x5 x6) (ix2 r k) + (kernelRun0_B.sl.v2899 (F := Ideal) c i a2 h2 a3 h3 a4 h4 a5 h5 a6 h6 a7 h7 a8 h8 a15 a16 x0 x1 x2 x3 x4 x5 x6) (ix2 r k) + (kernelRun0_B.sl.v2901 (F := Ideal) c i a2 h2 a3 h3 a4 h4 a5 h5 a6 h6 a7 h7 a8 h8 a15 a16 x0 x1 x2 x3 x4 x5 x6) (ix2 r k) + (kernelRun0_B.sl.v2903 (F := Ideal) c i a2 h2 a3 h3 a4 h4 a5 h5 a6 h6 a7 h7 a8 h8 a15 a16 x0 x1 x2 x3 x4 x5 x6) (ix2 r k) + (kernelRun0_B.sl.v2905 (F := Ideal) c i a2 h2 a3 h3 a4 h4 a5 h5 a6 h6 a7 h7 a8 h8 a15 a16 x0 x1 x2 x3 x4 x5 x6) (ix2 r k) + (kernelRun0_B.sl.v2907 (F := Ideal) c i a2 h2 a3 h3 a4 h4 a5 h5 a6 h6 a7 h7 a8 h8 a15 a16 x0 x1 x2 x3 x4 x5 x6) (ix2 r k) + (kernelRun0_B.sl.v2909 (F := Ideal) c i a2 h2 a3 h3 a4 h4 a5 h5 a6 h6 a7 h7 a8 h8 a15 a16 x0 x1 x2 x3 x4 x5 x6) (ix2 r k) + (kernelRun0_B.sl.v2911 (F := Ideal) c i a2 h2 a3 h3 a4 h4 a5 h5 a6 h6 a7 h7 a8 h8 a15 a16 x0 x1 x2 x3 x4 x5 x6) (ix2 r k) + (kernelRun0_B.sl.v2913 (F := Ideal) c i a2 h2 a3 h3 a4 h4 a5 h5 a6 h6 a7 h7 a8 h8 a15 a16 x0 x1 x2 x3 x4 x5 x6) (ix2 r k) + (kernelRun0_B.sl.v2915 (F := Ideal) c i a2 h2 a3 h3 a4 h4 a5 h5 a6 h6 a7 h7 a8 h8 a15 a16 x0 x1 x2 x3 x4 x5 x6) (ix2 r k) + (kernelRun0_B.sl.v2917 (F := Ideal) c i a2 h2 a3 h3 a4 h4 a5 h5 a6 h6 a7 h7 a8 h8 a15 a16 x0 x1 x2 x3 x4 x5 x6) (ix2 r k) + (kernelRun0_B.sl.v2919 (F := Ideal) c i a2 h2 a3 h3 a4 h4 a5 h5 a6 h6 a7 h7 a8 h8 a15 a16 x0 x1 x2 x3 x4 x5 x6) (ix2 r k) + (kernelRun0_B.sl.v2921 (F := Ideal) c i a2 h2 a3 h3 a4 h4 a5 h5 a6 h6 a7 h7 a8 h8 a15 a16 x0 x1 x2 x3 x4 x5 x6) (ix2 r k) + (kernelRun0_B.sl.v2923 (F := Ideal) c i a2 h2 a3 h3 a4 h4 a5 h5 a6 h6 a7 h7 a8 h8 a15 a16 x0 x1 x2 x3 x4 x5 x6) (ix2 r k) = _
  rw [ds31 hin, ds30 hin, ds29 hin, ds28 hin, ds27 hin, ds26 hin, ds25 hin, ds24 hin, ds23 hin, ds22 hin, ds21 hin, ds20 hin, ds19 hin, ds18 hin, ds17 hin, ds16 hin, ds15 hin, ds14 hin, ds13 hin, ds12 hin, ds11 hin, ds10 hin, ds9 hin, ds8 hin, ds7 hin, ds6 hin, ds5 hin, ds4 hin, ds3 hin, ds2 hin, ds1 hin, ds0 hin]
  exact sum_down (fun n => (H.chunk n).ds r k)
theorem dqg_sum (d : Fin 128) : (kernelRun0_B.sl.v3864 (F := Ideal) c i a2 h2 a3 h3 a4 h4 a5 h5 a6 h6 a7 h7 a8 h8 a15 a16 x0 x1 x2 x3 x4 x5 x6) (ix2 0 d) = H.dqg d := by
  show (kernelRun0_B.sl.v3213 (F := Ideal) c i a2 h2 a3 h3 a4 h4 a5 h5 a6 h6 a7 h7 a8 h8 a15 a16 x0 x1 x2 x3 x4 x5 x6) (ix2 0 d) + (kernelRun0_B.sl.v3233 (F := Ideal) c i a2 h2 a3 h3 a4 h4 a5 h5 a6 h6 a7 h7 a8 h8 a15 a16 x0 x1 x2 x3 x4 x5 x6) (ix2 0 d) + (kernelRun0_B.sl.v3254 (F := Ideal) c i a2 h2 a3 h3 a4 h4 a5 h5 a6 h6 a7 h7 a8 h8 a15 a16 x0 x1 x2 x3 x4 x5 x6) (ix2 0 d) + (kernelRun0_B.sl.v3275 (F := Ideal) c i a2 h2 a3 h3 a4 h4 a5 h5 a6 h6 a7 h7 a8 h8 a15 a16 x0 x1 x2 x3 x4 x5 x6) (ix2 0 d) + (kernelRun0_B.sl.v3296 (F := Ideal) c i a2 h2 a3 h3 a4 h4 a5 h5 a6 h6 a7 h7 a8 h8 a15 a16 x0 x1 x2 x3 x4 x5 x6) (ix2 0 d) + (kernelRun0_B.sl.v3317 (F := Ideal) c i a2 h2 a3 h3 a4 h4 a5 h5 a6 h6 a7 h7 a8 h8 a15 a16 x0 x1 x2 x3 x4 x5 x6) (ix2 0 d) + (kernelRun0_B.sl.v3338 (F := Ideal) c i a2 h2 a3 h3 a4 h4 a5 h5 a6 h6 a7 h7 a8 h8 a15 a16 x0 x1 x2 x3 x4 x5 x6) (ix2 0 d) + (kernelRun0_B.sl.v3359 (F := Ideal) c i a2 h2 a3 h3 a4 h4 a5 h5 a6 h6 a7 h7 a8 h8 a15 a16 x0 x1 x2 x3 x4 x5 x6) (ix2 0 d) + (kernelRun0_B.sl.v3380 (F := Ideal) c i a2 h2 a3 h3 a4 h4 a5 h5 a6 h6 a7 h7 a8 h8 a15 a16 x0 x1 x2 x3 x4 x5 x6) (ix2 0 d) + (kernelRun0_B.sl.v3401 (F := Ideal) c i a2 h2 a3 h3 a4 h4 a5 h5 a6 h6 a7 h7 a8 h8 a15 a16 x0 x1 x2 x3 x4 x5 x6) (ix2 0 d) + (kernelRun0_B.sl.v3422 (F := Ideal) c i a2 h2 a3 h3 a4 h4 a5 h5 a6 h6 a7 h7 a8 h8 a15 a16 x0 x1 x2 x3 x4 x5 x6) (ix2 0 d) + (kernelRun0_B.sl.v3443 (F := Ideal) c i a2 h2 a3 h3 a4 h4 a5 h5 a6 h6 a7 h7 a8 h8 a15 a16 x0 x1 x2 x3 x4 x5 x6) (ix2 0 d) + (kernelRun0_B.sl.v3464 (F := Ideal) c i a2 h2 a3 h3 a4 h4 a5 h5 a6 h6 a7 h7 a8 h8 a15 a16 x0 x1 x2 x3 x4 x5 x6) (ix2 0 d) + (kernelRun0_B.sl.v3485 (F := Ideal) c i a2 h2 a3 h3 a4 h4 a5 h5 a6 h6 a7 h7 a8 h8 a15 a16 x0 x1 x2 x3 x4 x5 x6) (ix2 0 d) + (kernelRun0_B.sl.v3506 (F := Ideal) c i a2 h2 a3 h3 a4 h4 a5 h5 a6 h6 a7 h7 a8 h8 a15 a16 x0 x1 x2 x3 x4 x5 x6) (ix2 0 d) + (kernelRun0_B.sl.v3527 (F := Ideal) c i a2 h2 a3 h3 a4 h4 a5 h5 a6 h6 a7 h7 a8 h8 a15 a16 x0 x1 x2 x3 x4 x5 x6) (ix2 0 d) + (kernelRun0_B.sl.v3548 (F := Ideal) c i a2 h2 a3 h3 a4 h4 a5 h5 a6 h6 a7 h7 a8 h8 a15 a16 x0 x1 x2 x3 x4 x5 x6) (ix2 0 d) + (kernelRun0_B.sl.v3569 (F := Ideal) c i a2 h2 a3 h3 a4 h4 a5 h5 a6 h6 a7 h7 a8 h8 a15 a16 x0 x1 x2 x3 x4 x5 x6) (ix2 0 d) + (kernelRun0_B.sl.v3590 (F := Ideal) c i a2 h2 a3 h3 a4 h4 a5 h5 a6 h6 a7 h7 a8 h8 a15 a16 x0 x1 x2 x3 x4 x5 x6) (ix2 0 d) + (kernelRun0_B.sl.v3611 (F := Ideal) c i a2 h2 a3 h3 a4 h4 a5 h5 a6 h6 a7 h7 a8 h8 a15 a16 x0 x1 x2 x3 x4 x5 x6) (ix2 0 d) + (kernelRun0_B.sl.v3632 (F := Ideal) c i a2 h2 a3 h3 a4 h4 a5 h5 a6 h6 a7 h7 a8 h8 a15 a16 x0 x1 x2 x3 x4 x5 x6) (ix2 0 d) + (kernelRun0_B.sl.v3653 (F := Ideal) c i a2 h2 a3 h3 a4 h4 a5 h5 a6 h6 a7 h7 a8 h8 a15 a16 x0 x1 x2 x3 x4 x5 x6) (ix2 0 d) + (kernelRun0_B.sl.v3674 (F := Ideal) c i a2 h2 a3 h3 a4 h4 a5 h5 a6 h6 a7 h7 a8 h8 a15 a16 x0 x1 x2 x3 x4 x5 x6) (ix2 0 d) + (kernelRun0_B.sl.v3695 (F := Ideal) c i a2 h2 a3 h3 a4 h4 a5 h5 a6 h6 a7 h7 a8 h8 a15 a16 x0 x1 x2 x3 x4 x5 x6) (ix2 0 d) + (kernelRun0_B.sl.v3716 (F := Ideal) c i a2 h2 a3 h3 a4 h4 a5 h5 a6 h6 a7 h7 a8 h8 a15 a16 x0 x1 x2 x3 x4 x5 x6) (ix2 0 d) + (kernelRun0_B.sl.v3737 (F := Ideal) c i a2 h2 a3 h3 a4 h4 a5 h5 a6 h6 a7 h7 a8 h8 a15 a16 x0 x1 x2 x3 x4 x5 x6) (ix2 0 d) + (kernelRun0_B.sl.v3758 (F := Ideal) c i a2 h2 a3 h3 a4 h4 a5 h5 a6 h6 a7 h7 a8 h8 a15 a16 x0 x1 x2 x3 x4 x5 x6) (ix2 0 d) + (kernelRun0_B.sl.v3779 (F := Ideal) c i a2 h2 a3 h3 a4 h4 a5 h5 a6 h6 a7 h7 a8 h8 a15 a16 x0 x1 x2 x3 x4 x5 x6) (ix2 0 d) + (kernelRun0_B.sl.v3800 (F := Ideal) c i a2 h2 a3 h3 a4 h4 a5 h5 a6 h6 a7 h7 a8 h8 a15 a16 x0 x1 x2 x3 x4 x5 x6) (ix2 0 d) + (kernelRun0_B.sl.v3821 (F := Ideal) c i a2 h2 a3 h3 a4 h4 a5 h5 a6 h6 a7 h7 a8 h8 a15 a16 x0 x1 x2 x3 x4 x5 x6) (ix2 0 d) + (kernelRun0_B.sl.v3842 (F := Ideal) c i a2 h2 a3 h3 a4 h4 a5 h5 a6 h6 a7 h7 a8 h8 a15 a16 x0 x1 x2 x3 x4 x5 x6) (ix2 0 d) + (kernelRun0_B.sl.v3863 (F := Ideal) c i a2 h2 a3 h3 a4 h4 a5 h5 a6 h6 a7 h7 a8 h8 a15 a16 x0 x1 x2 x3 x4 x5 x6) (ix2 0 d) = _
  rw [dqg31 hin, dqg30 hin, dqg29 hin, dqg28 hin, dqg27 hin, dqg26 hin, dqg25 hin, dqg24 hin, dqg23 hin, dqg22 hin, dqg21 hin, dqg20 hin, dqg19 hin, dqg18 hin, dqg17 hin, dqg16 hin, dqg15 hin, dqg14 hin, dqg13 hin, dqg12 hin, dqg11 hin, dqg10 hin, dqg9 hin, dqg8 hin, dqg7 hin, dqg6 hin, dqg5 hin, dqg4 hin, dqg3 hin, dqg2 hin, dqg1 hin, dqg0 hin]
  exact sum_down (fun n => ∑ r, xn (H.q (Head.row n r)) d * (H.chunk n).dqh r d)

end Cert.Ker.B
-- ==== Proof.WB.lean ====
/-
  What the body leaves in its windows at a later grid point.
-/
module

public import proofs.«01_k».proof.Proof.TB
public import proofs.«01_k».proof.Proof.Gen.KernelIdeal.Frame

@[expose] public section

set_option maxRecDepth 16384

noncomputable section

namespace Cert.Ker.B

open Cert.KernelIdeal Cert.KernelIdeal.Gen Idealize.ShloMosaic Cert.Spec

variable {H : Head} {c : Dev nD} {i : grid0.Coords}
  {a2 : Memref sig .tc .vmem S2048x128 .f32} {h2 : a2.IsWhole} {a3 : Memref sig .tc .vmem S2048x128 .f32} {h3 : a3.IsWhole}
  {a4 : Memref sig .tc .vmem S2048x128 .f32} {h4 : a4.IsWhole} {a5 : Memref sig .tc .vmem S1x128 .f32} {h5 : a5.IsWhole}
  {a6 : Memref sig .tc .vmem S1x128 .f32} {h6 : a6.IsWhole} {a7 : Memref sig .tc .vmem S1x64x576 .f32} {h7 : a7.IsWhole}
  {a8 : Memref sig .tc .vmem S2048x128 .f32} {h8 : a8.IsWhole}
  {a9 : Memref sig .tc .vmem S2048x128 .bf16} {h9 : a9.IsWhole} {a10 : Memref sig .tc .vmem S2048x128 .bf16} {h10 : a10.IsWhole}
  {a11 : Memref sig .tc .vmem S2048x128 .bf16} {h11 : a11.IsWhole} {a12 : Memref sig .tc .vmem S1x64x576 .f32} {h12 : a12.IsWhole}
  {a13 : Memref sig .tc .vmem S1x128 .f32} {h13 : a13.IsWhole} {a14 : Memref sig .tc .vmem S1x128 .f32} {h14 : a14.IsWhole}
  {a15 : Memref sig .tc .vmem S2560x128 .f32} {h15 : a15.IsWhole} {a16 : Memref sig .tc .vmem S2560x128 .f32} {h16 : a16.IsWhole}
  {a17 : Memref sig .tc .vmem S2560x128 .f32} {h17 : a17.IsWhole} {a18 : Memref sig .tc .vmem S2560x128 .f32} {h18 : a18.IsWhole}
  {hc0 : cond0_0 i} {hc1 : ¬cond0_1 i} {hc2 : cond0_2 i}
  {x0 x1 x2 : Vec Ideal S2048x128 .f32} {x3 x4 : Vec Ideal S1x128 .f32} {x5 : Vec Ideal S1x64x576 .f32} {x6 : Vec Ideal S2048x128 .f32}
  {xo11 xo12 : Vec Ideal S1x128 .f32}
  (hin : Inputs H x0 x1 x2 x3 x4 x5 x6)
include hin

theorem out7 (t : Fin 2048) (d : Fin 128) : out0_B_7 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix2 t d) = H.dq t d := by
  unfold out0_B_7
  refine (congrFun (View.read_writes_junk_eq_canon _ _) (ix2 t d)).trans ?_
  exact cover_step 31 rfl _ _ H.dq (dq31 hin) _ (cover_step 30 rfl _ _ H.dq (dq30 hin) _ (cover_step 29 rfl _ _ H.dq (dq29 hin) _ (cover_step 28 rfl _ _ H.dq (dq28 hin) _ (cover_step 27 rfl _ _ H.dq (dq27 hin) _ (cover_step 26 rfl _ _ H.dq (dq26 hin) _ (cover_step 25 rfl _ _ H.dq (dq25 hin) _ (cover_step 24 rfl _ _ H.dq (dq24 hin) _ (cover_step 23 rfl _ _ H.dq (dq23 hin) _ (cover_step 22 rfl _ _ H.dq (dq22 hin) _ (cover_step 21 rfl _ _ H.dq (dq21 hin) _ (cover_step 20 rfl _ _ H.dq (dq20 hin) _ (cover_step 19 rfl _ _ H.dq (dq19 hin) _ (cover_step 18 rfl _ _ H.dq (dq18 hin) _ (cover_step 17 rfl _ _ H.dq (dq17 hin) _ (cover_step 16 rfl _ _ H.dq (dq16 hin) _ (cover_step 15 rfl _ _ H.dq (dq15 hin) _ (cover_step 14 rfl _ _ H.dq (dq14 hin) _ (cover_step 13 rfl _ _ H.dq (dq13 hin) _ (cover_step 12 rfl _ _ H.dq (dq12 hin) _ (cover_step 11 rfl _ _ H.dq (dq11 hin) _ (cover_step 10 rfl _ _ H.dq (dq10 hin) _ (cover_step 9 rfl _ _ H.dq (dq9 hin) _ (cover_step 8 rfl _ _ H.dq (dq8 hin) _ (cover_step 7 rfl _ _ H.dq (dq7 hin) _ (cover_step 6 rfl _ _ H.dq (dq6 hin) _ (cover_step 5 rfl _ _ H.dq (dq5 hin) _ (cover_step 4 rfl _ _ H.dq (dq4 hin) _ (cover_step 3 rfl _ _ H.dq (dq3 hin) _ (cover_step 2 rfl _ _ H.dq (dq2 hin) _ (cover_step 1 rfl _ _ H.dq (dq1 hin) _ (cover_step 0 rfl _ _ H.dq (dq0 hin) _ (fun t h => absurd h (Nat.not_lt_zero _))))))))))))))))))))))))))))))))) t (by have := t.isLt; show t.val < 64 * (31 + 1); omega) d
theorem keysum (t : Fin 2048) (d : Fin 128) : (kernelRun0_B.sl.v4422_1 (F := Ideal) c i a2 h2 a3 h3 a4 h4 a5 h5 a6 h6 a7 h7 a8 h8 a15 a16 a17 x0 x1 x2 x3 x4 x5 x6) (ix2 t d) = H.dkh t d :=
  (body_at _ _ _ t d).trans (tk hin _ d)
theorem out8 (t : Fin 2048) (d : Fin 128) : out0_B_8 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix2 t d) = H.dk t d := by
  unfold out0_B_8
  refine (congrFun (View.read_writes_junk_eq_canon _ _) (ix2 t d)).trans ?_
  refine (congrFun (View.canon_cons_unit_lit _ _ _ (by decide)) _).trans ?_
  refine (dkrow_at _ _ _ _ _ _ _ _ (kernelRun0_B.sl.v4422_1 (F := Ideal) c i a2 h2 a3 h3 a4 h4 a5 h5 a6 h6 a7 h7 a8 h8 a15 a16 a17 x0 x1 x2 x3 x4 x5 x6) t d).trans ?_
  rw [funext hin.kg, funext (hin.k t), funext (keysum (c := c) (i := i) (h2 := h2) (h3 := h3) (h4 := h4) (h5 := h5) (h6 := h6) (h7 := h7) (h8 := h8) (a15 := a15) (a16 := a16) (a17 := a17) hin t)]
  rfl
theorem out9 (t : Fin 2048) (d : Fin 128) : out0_B_9 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix2 t d) = H.dv t d := by
  unfold out0_B_9
  refine (congrFun (View.read_writes_junk_eq_canon _ _) (ix2 t d)).trans ?_
  refine (congrFun (View.canon_cons_unit_lit _ _ _ (by decide)) _).trans ?_
  refine (pay12_at (kernelRun0_B.sl.v4445 (F := Ideal) c i a2 h2 a3 h3 a5 h5 a6 h6 a7 h7 a8 h8 a15 a18 x0 x1 x3 x4 x5 x6) t d).trans ?_
  exact (body_at _ _ _ t d).trans (tv hin _ d)
theorem out10 (r : Fin 64) (k : Fin 576) : out0_B_10 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix3 0 r k) = H.db r k := by
  unfold out0_B_10
  refine (congrFun (View.read_writes_junk_eq_canon _ _) (ix3 0 r k)).trans ?_
  refine (congrFun (View.canon_cons_unit_lit _ _ _ (by decide)) _).trans ?_
  refine (bias_at (kernelRun0_B.sl.v3882 (F := Ideal) c a12) (kernelRun0_B.sl.v3202 (F := Ideal) c i a2 h2 a3 h3 a4 h4 a5 h5 a6 h6 a7 h7 a8 h8 a15 a16 x0 x1 x2 x3 x4 x5 x6) r k).trans ?_
  rw [db_sum hin]
  exact (congrArg (· + H.db r k) (zerobias_at _ _ _ r k)).trans (zero_add _)
theorem kgain (d : Fin 128) : (kernelRun0_B.sl.r_136 (F := Ideal) c i a2 h2 a3 h3 a4 h4 a5 h5 a6 h6 a7 h7 a8 h8 a15 a16 a17 x0 x1 x2 x3 x4 x5 x6) (ix2 0 d) = H.dkg d := by
  refine (dkgrow_at _ _ _ _ (kernelRun0_B.sl.v4422_1 (F := Ideal) c i a2 h2 a3 h3 a4 h4 a5 h5 a6 h6 a7 h7 a8 h8 a15 a16 a17 x0 x1 x2 x3 x4 x5 x6) d).trans ?_
  rw [sum_rows]
  refine Finset.sum_congr rfl fun n _ => Finset.sum_congr rfl fun r _ => ?_
  rw [funext (hin.k _), keysum hin]
theorem out11 (d : Fin 128) : out0_B_11 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix2 0 d) = xo11 (ix2 0 d) + H.dqg d := by
  unfold out0_B_11
  refine (congrFun (View.read_writes_junk_eq_canon _ _) (ix2 0 d)).trans ?_
  refine (congrFun (View.canon_cons_unit_lit _ _ _ (by decide)) _).trans ?_
  refine (gainrow_at (kernelRun0_B.sl.r_134 (F := Ideal) c a13 h13 xo11) (kernelRun0_B.sl.v3864 (F := Ideal) c i a2 h2 a3 h3 a4 h4 a5 h5 a6 h6 a7 h7 a8 h8 a15 a16 x0 x1 x2 x3 x4 x5 x6) d).trans ?_
  rw [dqg_sum hin]
  exact congrArg (· + H.dqg d) (row_at a13 h13 xo11 _ d)
theorem out12 (d : Fin 128) : out0_B_12 (F := Ideal) c i a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 xo11 xo12 (ix2 0 d) = xo12 (ix2 0 d) + H.dkg d := by
  unfold out0_B_12
  refine (congrFun (View.read_writes_junk_eq_canon _ _) (ix2 0 d)).trans ?_
  refine (congrFun (View.canon_cons_unit_lit _ _ _ (by decide)) _).trans ?_
  refine (pay2_at (kernelRun0_B.sl.r_136 (F := Ideal) c i a2 h2 a3 h3 a4 h4 a5 h5 a6 h6 a7 h7 a8 h8 a15 a16 a17 x0 x1 x2 x3 x4 x5 x6) _ d).trans ?_
  rw [kgain hin]
  exact congrArg (· + H.dkg d) (row_at a14 h14 xo12 _ d)

end Cert.Ker.B
-- ==== Proof.KFinal.lean ====
/-
  The kernel's arrays after its run: each output array read at an index is the gradient of the head its index lies in.
-/
module

public import proofs.«01_k».proof.Proof.WA
public import proofs.«01_k».proof.Proof.WB
public import proofs.«01_k».proof.Proof.Gen.KernelIdeal.Value
public import Idealize.ShloMosaic.Lib.Pipeline.ValueKit

@[expose] public section

set_option maxRecDepth 16384

noncomputable section

namespace Cert.Ker

open Cert.KernelIdeal Cert.KernelIdeal.Gen Idealize.ShloMosaic Idealize.ShloMosaic.TcCoe Cert.Spec

/-- The windows' block indices at a point. -/
theorem index_at : ∀ t : Fin cfg0.N,
    win0_0.index t = ![0, 32 + t.val] ∧ win0_1.index t = ![0, 40 + t.val] ∧ win0_2.index t = ![0, 48 + t.val]
      ∧ win0_3.index t = ![0, 0] ∧ win0_4.index t = ![0, 0] ∧ win0_5.index t = ![t.val, 0, 0] ∧ win0_6.index t = ![0, t.val]
      ∧ win0_7.index t = ![0, t.val] ∧ win0_8.index t = ![0, t.val] ∧ win0_9.index t = ![0, t.val] ∧ win0_10.index t = ![t.val, 0, 0] :=
  (by decide +kernel : ∀ t : Fin grid0.N, _)

/-- A table read at equal places. -/
theorem pick {n a b : ℕ} (g : Fin n → Fin a → Fin b → EReal) {h h' : Fin n} {t t' : Fin a} {d d' : Fin b}
    (eh : h.val = h'.val) (et : t.val = t'.val) (ed : d.val = d'.val) : g h t d = g h' t' d' := by
  rw [Fin.ext eh, Fin.ext et, Fin.ext ed]

variable (m : (ℓ : Loc nD τ sig) → Buf (Elt Ideal) ℓ) (c : Dev nD)

/-- What head `h` reads of the kernel's arguments. -/
def hk (h : Fin 8) : Head :=
  head (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) h

/-- The values and the incoming gradients are real numbers. -/
def Finite : Prop := ∀ h t d, (∃ x : ℝ, (hk m c h).v t d = x) ∧ ∃ x : ℝ, (hk m c h).dy t d = x

theorem read0 (t : Fin cfg0.N) (r : Fin 2048) (d : Fin 128) : iblk m c 0 t (ix2 r d) = (hk m c t).q r d := by
  obtain ⟨e0, e1, e2, e3, e4, e5, e6, -⟩ := index_at t
  blk_ext [iblk, V, hk, head, e0]

theorem read1 (t : Fin cfg0.N) (r : Fin 2048) (d : Fin 128) : iblk m c 1 t (ix2 r d) = (hk m c t).k r d := by
  obtain ⟨e0, e1, e2, e3, e4, e5, e6, -⟩ := index_at t
  blk_ext [iblk, V, hk, head, e1]

theorem read2 (t : Fin cfg0.N) (r : Fin 2048) (d : Fin 128) : iblk m c 2 t (ix2 r d) = (hk m c t).v r d := by
  obtain ⟨e0, e1, e2, e3, e4, e5, e6, -⟩ := index_at t
  blk_ext [iblk, V, hk, head, e2]

theorem read3 (t : Fin cfg0.N) (d : Fin 128) : iblk m c 3 t (ix2 0 d) = (hk m c t).qg d := by
  obtain ⟨e0, e1, e2, e3, e4, e5, e6, -⟩ := index_at t
  blk_ext [iblk, V, hk, head, e3]

theorem read4 (t : Fin cfg0.N) (d : Fin 128) : iblk m c 4 t (ix2 0 d) = (hk m c t).kg d := by
  obtain ⟨e0, e1, e2, e3, e4, e5, e6, -⟩ := index_at t
  blk_ext [iblk, V, hk, head, e4]

theorem read5 (t : Fin cfg0.N) (r : Fin 64) (k : Fin 576) : iblk m c 5 t (ix3 0 r k) = (hk m c t).b r k := by
  obtain ⟨e0, e1, e2, e3, e4, e5, e6, -⟩ := index_at t
  blk_ext [iblk, V, hk, head, e5]

theorem read6 (t : Fin cfg0.N) (r : Fin 2048) (d : Fin 128) : iblk m c 6 t (ix2 r d) = (hk m c t).dy r d := by
  obtain ⟨e0, e1, e2, e3, e4, e5, e6, -⟩ := index_at t
  blk_ext [iblk, V, hk, head, e6]

/-- What the body reads at point `t` is head `t`. -/
theorem inputs (hf : Finite m c) (t : Fin cfg0.N) :
    Inputs (hk m c t) (iblk m c 0 t) (iblk m c 1 t) (iblk m c 2 t) (iblk m c 3 t) (iblk m c 4 t) (iblk m c 5 t) (iblk m c 6 t) where
  q := read0 m c t
  k := read1 m c t
  v := read2 m c t
  qg := read3 m c t
  kg := read4 m c t
  b := read5 m c t
  dy := read6 m c t
  realv r d := (hf t r d).1
  realdy r d := (hf t r d).2

variable (hf : Finite m c)
include hf

theorem point7 (t : Fin cfg0.N) (r : Fin 2048) (d : Fin 128) : (outsAt0 m c t.val t.isLt).1 (ix2 r d) = (hk m c t).dq r d := by
  by_cases h : t.val % 8 = 0
  · rw [outsAt0_A m c t h]
    dsimp only
    exact A.out7 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) r d
  · rw [outsAt0_B m c t h]
    dsimp only
    exact B.out7 (c := c) (xo11 := (outsAt0 m c (t.val - 1) (Nat.lt_of_le_of_lt (Nat.sub_le _ _) t.isLt)).2.2.2.2.1) (xo12 := (outsAt0 m c (t.val - 1) (Nat.lt_of_le_of_lt (Nat.sub_le _ _) t.isLt)).2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) r d

theorem point8 (t : Fin cfg0.N) (r : Fin 2048) (d : Fin 128) : (outsAt0 m c t.val t.isLt).2.1 (ix2 r d) = (hk m c t).dk r d := by
  by_cases h : t.val % 8 = 0
  · rw [outsAt0_A m c t h]
    dsimp only
    exact A.out8 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) r d
  · rw [outsAt0_B m c t h]
    dsimp only
    exact B.out8 (c := c) (xo11 := (outsAt0 m c (t.val - 1) (Nat.lt_of_le_of_lt (Nat.sub_le _ _) t.isLt)).2.2.2.2.1) (xo12 := (outsAt0 m c (t.val - 1) (Nat.lt_of_le_of_lt (Nat.sub_le _ _) t.isLt)).2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) r d

theorem point9 (t : Fin cfg0.N) (r : Fin 2048) (d : Fin 128) : (outsAt0 m c t.val t.isLt).2.2.1 (ix2 r d) = (hk m c t).dv r d := by
  by_cases h : t.val % 8 = 0
  · rw [outsAt0_A m c t h]
    dsimp only
    exact A.out9 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) r d
  · rw [outsAt0_B m c t h]
    dsimp only
    exact B.out9 (c := c) (xo11 := (outsAt0 m c (t.val - 1) (Nat.lt_of_le_of_lt (Nat.sub_le _ _) t.isLt)).2.2.2.2.1) (xo12 := (outsAt0 m c (t.val - 1) (Nat.lt_of_le_of_lt (Nat.sub_le _ _) t.isLt)).2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) r d

theorem point10 (t : Fin cfg0.N) (r : Fin 64) (k : Fin 576) : (outsAt0 m c t.val t.isLt).2.2.2.1 (ix3 0 r k) = (hk m c t).db r k := by
  by_cases h : t.val % 8 = 0
  · rw [outsAt0_A m c t h]
    dsimp only
    exact A.out10 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) r k
  · rw [outsAt0_B m c t h]
    dsimp only
    exact B.out10 (c := c) (xo11 := (outsAt0 m c (t.val - 1) (Nat.lt_of_le_of_lt (Nat.sub_le _ _) t.isLt)).2.2.2.2.1) (xo12 := (outsAt0 m c (t.val - 1) (Nat.lt_of_le_of_lt (Nat.sub_le _ _) t.isLt)).2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) r k

theorem first11 (t : Fin cfg0.N) (h : t.val % 8 = 0) (d : Fin 128) :
    (outsAt0 m c t.val t.isLt).2.2.2.2.1 (ix2 0 d) = 0 + (hk m c t).dqg d := by
  rw [outsAt0_A m c t h, zero_add]
  dsimp only
  exact A.out11 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) d

theorem next11 (t : Fin cfg0.N) (h : ¬t.val % 8 = 0) (d : Fin 128) :
    (outsAt0 m c t.val t.isLt).2.2.2.2.1 (ix2 0 d)
      = (outsAt0 m c (t.val - 1) (Nat.lt_of_le_of_lt (Nat.sub_le _ _) t.isLt)).2.2.2.2.1 (ix2 0 d) + (hk m c t).dqg d := by
  generalize hx : (outsAt0 m c (t.val - 1) (Nat.lt_of_le_of_lt (Nat.sub_le _ _) t.isLt)) = xo
  have e := outsAt0_B m c t h
  rw [hx] at e
  rw [e]
  dsimp only
  exact B.out11 (c := c) (xo11 := xo.2.2.2.2.1) (xo12 := xo.2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) d

theorem point11 (t : Fin cfg0.N) (ht : t.val + 1 = cfg0.N) (d : Fin 128) :
    (outsAt0 m c t.val t.isLt).2.2.2.2.1 (ix2 0 d) = ∑ h : Fin cfg0.N, (hk m c h).dqg d :=
  (Pipeline.eq_sum_fin_of_reset_step_apply_last (M := EReal) (ι := Fin 128) (fun n h d => (outsAt0 m c n h).2.2.2.2.1 (ix2 0 d)) 8 (fun _ => 0)
    (fun h d => (hk m c h).dqg d) (first11 m c hf) (next11 m c hf) (by decide) t ht d).trans (zero_add _)

theorem first12 (t : Fin cfg0.N) (h : t.val % 8 = 0) (d : Fin 128) :
    (outsAt0 m c t.val t.isLt).2.2.2.2.2 (ix2 0 d) = 0 + (hk m c t).dkg d := by
  rw [outsAt0_A m c t h, zero_add]
  dsimp only
  exact A.out12 (c := c) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := (hcond0_1 t).mpr h) (inputs m c hf t) d

theorem next12 (t : Fin cfg0.N) (h : ¬t.val % 8 = 0) (d : Fin 128) :
    (outsAt0 m c t.val t.isLt).2.2.2.2.2 (ix2 0 d)
      = (outsAt0 m c (t.val - 1) (Nat.lt_of_le_of_lt (Nat.sub_le _ _) t.isLt)).2.2.2.2.2 (ix2 0 d) + (hk m c t).dkg d := by
  generalize hx : (outsAt0 m c (t.val - 1) (Nat.lt_of_le_of_lt (Nat.sub_le _ _) t.isLt)) = xo
  have e := outsAt0_B m c t h
  rw [hx] at e
  rw [e]
  dsimp only
  exact B.out12 (c := c) (xo11 := xo.2.2.2.2.1) (xo12 := xo.2.2.2.2.2) (i := grid0.coords t) (a2 := ms0_0 t) (h2 := hs0_0 t) (a3 := ms0_1 t) (h3 := hs0_1 t) (a4 := ms0_2 t) (h4 := hs0_2 t) (a5 := ms0_3 t) (h5 := hs0_3 t) (a6 := ms0_4 t) (h6 := hs0_4 t) (a7 := ms0_5 t) (h7 := hs0_5 t) (a8 := ms0_6 t) (h8 := hs0_6 t) (a9 := ms0_7 t) (h9 := hs0_7 t) (a10 := ms0_8 t) (h10 := hs0_8 t) (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := hcond0_0 t) (hc2 := hcond0_2 t) (hc1 := fun k => h ((hcond0_1 t).mp k)) (inputs m c hf t) d

theorem point12 (t : Fin cfg0.N) (ht : t.val + 1 = cfg0.N) (d : Fin 128) :
    (outsAt0 m c t.val t.isLt).2.2.2.2.2 (ix2 0 d) = ∑ h : Fin cfg0.N, (hk m c h).dkg d :=
  (Pipeline.eq_sum_fin_of_reset_step_apply_last (M := EReal) (ι := Fin 128) (fun n h d => (outsAt0 m c n h).2.2.2.2.2 (ix2 0 d)) 8 (fun _ => 0)
    (fun h d => (hk m c h).dkg d) (first12 m c hf) (next12 m c hf) (by decide) t ht d).trans (zero_add _)

theorem final7 (t : Fin 2048) (f : Fin 1024) :
    ((dats m 0 c).arrAt 7 cfg0.N : S2048x1024.Idx → EReal) (ix2 t f) = (hk m c ⟨f.val / 128, by omega⟩).dq t ⟨f.val % 128, by omega⟩ := by
  have e : (dats m 0 c).arrAt 7 cfg0.N
      = fun i : S2048x1024.Idx => (hk m c ⟨(i 1).val / 128, Nat.div_lt_of_lt_mul (i 1).isLt⟩).dq (i 0) ⟨(i 1).val % 128, Nat.mod_lt _ (by decide)⟩ := by
    refine (dats m 0 c).arrAt_eq_of_covers 7 _ (by decide +kernel) fun t hf' y => ?_
    obtain ⟨-, -, -, -, -, -, -, e7, e8, e9, e10⟩ := index_at t
    rw [after0_7]
    have h0 : (y 0).val < 2048 := (y 0).isLt
    have h1 : (y 1).val < 128 := (y 1).isLt
    have hx : (cfg0.win 7).xinj (cfg0.grid.coords t) y = ix2 (⟨(y 0).val, h0⟩ : Fin 2048) (⟨(y 1).val, h1⟩ : Fin 128) := by
      funext a; fin_cases a <;> rfl
    have hy0 : (((cfg0.win 7).blk t).view.emb y 0).val = (y 0).val := by blk_simp [e7]
    have hy1 : (((cfg0.win 7).blk t).view.emb y 1).val = t.val * 128 + (y 1).val := by blk_simp [e7]
    rw [hx]
    refine (point7 m c hf t _ _).trans (pick (fun h => (hk m c h).dq) ?_ ?_ ?_)
    · show t.val = (((cfg0.win 7).blk t).view.emb y 1).val / 128
      omega
    · exact hy0.symm
    · show (y 1).val = (((cfg0.win 7).blk t).view.emb y 1).val % 128
      omega
  exact congrFun e (ix2 t f)

theorem final8 (t : Fin 2048) (f : Fin 1024) :
    ((dats m 0 c).arrAt 8 cfg0.N : S2048x1024.Idx → EReal) (ix2 t f) = (hk m c ⟨f.val / 128, by omega⟩).dk t ⟨f.val % 128, by omega⟩ := by
  have e : (dats m 0 c).arrAt 8 cfg0.N
      = fun i : S2048x1024.Idx => (hk m c ⟨(i 1).val / 128, Nat.div_lt_of_lt_mul (i 1).isLt⟩).dk (i 0) ⟨(i 1).val % 128, Nat.mod_lt _ (by decide)⟩ := by
    refine (dats m 0 c).arrAt_eq_of_covers 8 _ (by decide +kernel) fun t hf' y => ?_
    obtain ⟨-, -, -, -, -, -, -, e7, e8, e9, e10⟩ := index_at t
    rw [after0_8]
    have h0 : (y 0).val < 2048 := (y 0).isLt
    have h1 : (y 1).val < 128 := (y 1).isLt
    have hx : (cfg0.win 8).xinj (cfg0.grid.coords t) y = ix2 (⟨(y 0).val, h0⟩ : Fin 2048) (⟨(y 1).val, h1⟩ : Fin 128) := by
      funext a; fin_cases a <;> rfl
    have hy0 : (((cfg0.win 8).blk t).view.emb y 0).val = (y 0).val := by blk_simp [e8]
    have hy1 : (((cfg0.win 8).blk t).view.emb y 1).val = t.val * 128 + (y 1).val := by blk_simp [e8]
    rw [hx]
    refine (point8 m c hf t _ _).trans (pick (fun h => (hk m c h).dk) ?_ ?_ ?_)
    · show t.val = (((cfg0.win 8).blk t).view.emb y 1).val / 128
      omega
    · exact hy0.symm
    · show (y 1).val = (((cfg0.win 8).blk t).view.emb y 1).val % 128
      omega
  exact congrFun e (ix2 t f)

theorem final9 (t : Fin 2048) (f : Fin 1024) :
    ((dats m 0 c).arrAt 9 cfg0.N : S2048x1024.Idx → EReal) (ix2 t f) = (hk m c ⟨f.val / 128, by omega⟩).dv t ⟨f.val % 128, by omega⟩ := by
  have e : (dats m 0 c).arrAt 9 cfg0.N
      = fun i : S2048x1024.Idx => (hk m c ⟨(i 1).val / 128, Nat.div_lt_of_lt_mul (i 1).isLt⟩).dv (i 0) ⟨(i 1).val % 128, Nat.mod_lt _ (by decide)⟩ := by
    refine (dats m 0 c).arrAt_eq_of_covers 9 _ (by decide +kernel) fun t hf' y => ?_
    obtain ⟨-, -, -, -, -, -, -, e7, e8, e9, e10⟩ := index_at t
    rw [after0_9]
    have h0 : (y 0).val < 2048 := (y 0).isLt
    have h1 : (y 1).val < 128 := (y 1).isLt
    have hx : (cfg0.win 9).xinj (cfg0.grid.coords t) y = ix2 (⟨(y 0).val, h0⟩ : Fin 2048) (⟨(y 1).val, h1⟩ : Fin 128) := by
      funext a; fin_cases a <;> rfl
    have hy0 : (((cfg0.win 9).blk t).view.emb y 0).val = (y 0).val := by blk_simp [e9]
    have hy1 : (((cfg0.win 9).blk t).view.emb y 1).val = t.val * 128 + (y 1).val := by blk_simp [e9]
    rw [hx]
    refine (point9 m c hf t _ _).trans (pick (fun h => (hk m c h).dv) ?_ ?_ ?_)
    · show t.val = (((cfg0.win 9).blk t).view.emb y 1).val / 128
      omega
    · exact hy0.symm
    · show (y 1).val = (((cfg0.win 9).blk t).view.emb y 1).val % 128
      omega
  exact congrFun e (ix2 t f)

theorem final10 (h : Fin 8) (r : Fin 64) (k : Fin 576) :
    ((dats m 0 c).arrAt 10 cfg0.N : S8x64x576.Idx → EReal) (ix3 h r k) = (hk m c h).db r k := by
  have e : (dats m 0 c).arrAt 10 cfg0.N = fun i : S8x64x576.Idx => (hk m c (i 0)).db (i 1) (i 2) := by
    refine (dats m 0 c).arrAt_eq_of_covers 10 _ (by decide +kernel) fun t hf' y => ?_
    obtain ⟨-, -, -, -, -, -, -, e7, e8, e9, e10⟩ := index_at t
    rw [after0_10]
    have h0 : (y 0).val < 1 := (y 0).isLt
    have h1 : (y 1).val < 64 := (y 1).isLt
    have h2 : (y 2).val < 576 := (y 2).isLt
    have hx : (cfg0.win 10).xinj (cfg0.grid.coords t) y = ix3 (0 : Fin 1) (⟨(y 1).val, h1⟩ : Fin 64) (⟨(y 2).val, h2⟩ : Fin 576) := by
      funext a; fin_cases a
      · exact Fin.ext (by show (y 0).val = 0; omega)
      · rfl
      · rfl
    have hy0 : (((cfg0.win 10).blk t).view.emb y 0).val = t.val * 1 + (y 0).val := by blk_simp [e10]
    have hy1 : (((cfg0.win 10).blk t).view.emb y 1).val = (y 1).val := by blk_simp [e10]
    have hy2 : (((cfg0.win 10).blk t).view.emb y 2).val = (y 2).val := by blk_simp [e10]
    rw [hx]
    refine (point10 m c hf t _ _).trans (pick (fun h => (hk m c h).db) ?_ ?_ ?_)
    · show t.val = (((cfg0.win 10).blk t).view.emb y 0).val
      omega
    · exact hy1.symm
    · exact hy2.symm
  exact congrFun e (ix3 h r k)

theorem final11 (d : Fin 128) :
    ((dats m 0 c).arrAt 11 cfg0.N : S1x128.Idx → EReal) (ix2 0 d) = ∑ h : Fin 8, (hk m c h).dqg d := by
  have e := (dats m 0 c).arrAt_emb_eq_after_last 11 t0_7 (by decide +kernel) (ix2 (0 : Fin 1) d)
  rw [after0_11] at e
  exact e.trans (point11 m c hf t0_7 rfl d)

theorem final12 (d : Fin 128) :
    ((dats m 0 c).arrAt 12 cfg0.N : S1x128.Idx → EReal) (ix2 0 d) = ∑ h : Fin 8, (hk m c h).dkg d := by
  have e := (dats m 0 c).arrAt_emb_eq_after_last 12 t0_7 (by decide +kernel) (ix2 (0 : Fin 1) d)
  rw [after0_12] at e
  exact e.trans (point12 m c hf t0_7 rfl d)

end Cert.Ker
-- ==== Proof.Real.lean ====
/-
  The precondition read at an index: the values and the incoming gradients are real numbers.
-/
module

public import proofs.«01_k».proof.Pre_values_finite
public import Idealize.ShloMosaic.PureOps.Ideal
public import Idealize.ShloMosaic.Lib.Pointwise
public import Idealize.ShloMosaic.Lib.WordCmp

@[expose] public section

noncomputable section

namespace Cert.Finite

open Idealize.ShloMosaic Cert.Pre_values_finite

theorem facts : Cert.Pre_values_finite.Facts where
  slices_S2048x11264_S2048x1024_0_6144 := by decide
  bcast_S_S2048x1024 := by decide

/-- A number of finite size is real. -/
theorem real_of_abs_lt {x : EReal} (h : max x (-x) < ⊤) : ∃ r : ℝ, x = r := by
  induction x using EReal.rec with
  | bot => simp at h
  | coe r => exact ⟨r, rfl⟩
  | top => simp at h

/-- The word of plus infinity. -/
theorem inf_bits : Ideal.ofBits .f32 0x7F800000#32 = ⊤ := by
  simp [Ideal.ofBits, Ideal.ieee]

theorem and_one {x y : BitVec 1} (h : IntOp.andi x y = 1#1) : x = 1#1 ∧ y = 1#1 := by
  revert x y; decide

variable [Cert.Pre_values_finite.Facts] {a0 : FVec Ideal S2048x11264 .f32} {a1 a2 : FVec Ideal S1x128 .f32} {a3 : FVec Ideal S8x64x576 .f32} {a4 : FVec Ideal S2048x1024 .f32}

theorem reals (h : fn (F := Ideal) a0 a1 a2 a3 a4 = fun _ => 1#1) (t : Fin 2048) (j : Fin 1024) :
    (∃ x : ℝ, a0 (ix2 t ⟨6144 + j.val, by omega⟩) = (x : EReal)) ∧ ∃ x : ℝ, a4 (ix2 t j) = (x : EReal) := by
  obtain ⟨e0, e4⟩ := and_one (congrFun h (ix2 t j))
  constructor
  · refine real_of_abs_lt ?_
    rw [← inf_bits]
    have e : BitVec.ofBool (decide (_ < _)) = 1#1 := e0
    rw [WordCmp.ofBool_decide_eq_one_iff] at e
    refine lt_of_eq_of_lt ?_ e
    pointwise
    rfl
  · refine real_of_abs_lt ?_
    rw [← inf_bits]
    have e : BitVec.ofBool (decide (_ < _)) = 1#1 := e4
    rw [WordCmp.ofBool_decide_eq_one_iff] at e
    exact e

end Cert.Finite
-- ==== Proof.RefA.lean ====
module

public import proofs.«01_k».proof.Proof.Gen.ReferenceIdeal.Run
public import Idealize.ShloMosaic.Lib.Pointwise
public import Idealize.ShloMosaic.Lib.Routing.OpsPair
public import Idealize.ShloMosaic.Lib.Tactic.CleanTypes
public import Idealize.ShloMosaic.Lib.Tactic.WordOmega

@[expose] public section

set_option maxRecDepth 16384

noncomputable section

namespace Cert.Ref

open Cert.ReferenceIdeal Cert.ReferenceIdeal.Value Idealize.ShloMosaic Idealize.ShloMosaic.StableHlo

variable (V : Valuation τ sig (Elt Ideal)) (h : Fin 8) (n : Fin 32) (r : Fin 64) (d : Fin 128) (k : Fin 576)

/-- A sum over two unit axes, one in front and one behind, is its one term. -/
theorem sum_unit (v : S1x8x32x64x1.Idx → EReal) (c : EReal) :
    Ideal.hostReduceAdd Gen.reducesTo_S1x8x32x64x1_S8x32x64_d0_4 v c (ix3 h n r) = c + v (ix5 0 h n r 0) := by
  unfold Ideal.hostReduceAdd
  congr 1
  refine (Finset.sum_filter_eq_sum_of_fiber _ (fun _ : Fin 1 => ix5 0 h n r 0) (fun _ _ _ => Subsingleton.elim _ _) (fun i => ?_) v).trans (by simp)
  constructor
  · intro e
    refine ⟨0, ?_⟩
    rw [eq_ix5 i]
    have h1 : (i 1).val = h.val := congrArg Fin.val (congrFun e 0)
    have h2 : (i 2).val = n.val := congrArg Fin.val (congrFun e 1)
    have h3 : (i 3).val = r.val := congrArg Fin.val (congrFun e 2)
    have a0 := (i 0).isLt
    have a4 := (i 4).isLt
    funext a
    apply Fin.ext
    match a with
    | ⟨0, _⟩ => exact (Nat.lt_one_iff.1 a0).symm
    | ⟨1, _⟩ => exact h1.symm
    | ⟨2, _⟩ => exact h2.symm
    | ⟨3, _⟩ => exact h3.symm
    | ⟨4, _⟩ => exact (Nat.lt_one_iff.1 a4).symm
  · rintro ⟨_, rfl⟩
    funext b
    apply Fin.ext
    match b with
    | ⟨0, _⟩ => rfl
    | ⟨1, _⟩ => rfl
    | ⟨2, _⟩ => rfl

theorem pos_at (w : Fin 9) : res_main_v52 V (ix2 n w) = BitVec.ofNat 32 (n.val + w.val) := by
  unfold res_main_v52
  clean_types
  pointwise
  exact (BitVec.ofNat_add ..).symm

theorem idx_at (w : Fin 9) : res_main_v61 V (ix3 n w 0) = BitVec.ofNat 32 (n.val + w.val) := by
  unfold res_main_v61
  clean_types
  pointwise
  rw [pos_at]
  refine Routing.wrap_of_lt _ _ ?_
  rw [BitVec.toNat_ofNat]
  omega

theorem idx'_at (w : Fin 9) : res_main_v72 V (ix3 n w 0) = BitVec.ofNat 32 (n.val + w.val) := by
  unfold res_main_v72
  clean_types
  pointwise
  rw [pos_at]
  refine Routing.wrap_of_lt _ _ ?_
  rw [BitVec.toNat_ofNat]
  omega

theorem toInt_at (a b : ℕ) (ha : a < 32) (hb : b < 9) : (BitVec.ofNat 32 (a + b)).toInt = (a + b : ℕ) := by
  rw [BitVec.toInt_eq_toNat_of_lt (by rw [BitVec.toNat_ofNat]; omega), BitVec.toNat_ofNat]
  congr 1
  omega

/-- The band's rows, taken chunk by chunk. -/
theorem gather_at (X : S1x8x40x64x128.Idx → EReal) (I : IVec S32x9x1 32) (w : Fin 9) (hI : I (ix3 n w 0) = BitVec.ofNat 32 (n.val + w.val)) :
   Host.gather gather_S1x8x40x64x128_S32x9x1_S1x8x32x9x64x128_0145_2_n_n_2_2_18164128 X I (ix6 0 h n w r d)
     = X (ix5 0 h ⟨n.val + w.val, by omega⟩ r d) := by
  unfold Host.gather
  congr 1
  funext a
  apply Fin.ext
  match a with
  | ⟨0, _⟩ => rfl
  | ⟨1, _⟩ => exact Nat.zero_add _
  | ⟨2, _⟩ =>
    have e : I _ = _ := (congrArg I (show gather_S1x8x40x64x128_S32x9x1_S1x8x32x9x64x128_0145_2_n_n_2_2_18164128.siIdx (ix6 0 h n w r d) ⟨0, by decide⟩ = ix3 n w 0 by
        funext a
        match a with
        | ⟨0, _⟩ => rfl
        | ⟨1, _⟩ => rfl
        | ⟨2, _⟩ => rfl)).trans hI
    refine (congrArg (fun x : BitVec 32 => min x.toInt.toNat 39) e).trans ?_
    show min (BitVec.ofNat 32 (n.val + w.val)).toInt.toNat 39 = n.val + w.val
    rw [toInt_at _ _ n.isLt w.isLt]
    omega
  | ⟨3, _⟩ => exact Nat.zero_add _
  | ⟨4, _⟩ => exact Nat.zero_add _

/-- Where the band's rows go back to. -/
theorem lands (I : IVec S32x9x1 32) (w : Fin 9) (hI : I (ix3 n w 0) = BitVec.ofNat 32 (n.val + w.val)) (h' : Fin 8) (m : Fin 40) (r' : Fin 64) (d' : Fin 128) :
   scatter_S1x8x40x64x128_S32x9x1_S1x8x32x9x64x128_0145_2_2_2.resultIdx? (ix6 0 h n w r d) I = some (ix5 0 h' m r' d')
     ↔ h = h' ∧ n.val + w.val = m.val ∧ r = r' ∧ d = d' := by
  rw [Routing.resultIdx?_eq_some]
  have e : I _ = _ := (congrArg I (show scatter_S1x8x40x64x128_S32x9x1_S1x8x32x9x64x128_0145_2_2_2.siIdx (ix6 0 h n w r d) ⟨0, by decide⟩ = ix3 n w 0 by
        funext a
        match a with
        | ⟨0, _⟩ => rfl
        | ⟨1, _⟩ => rfl
        | ⟨2, _⟩ => rfl)).trans hI
  have e' := congrArg BitVec.toInt e
  rw [toInt_at _ _ n.isLt w.isLt] at e'
  constructor
  · intro q
    have q1 : (0 : Int) + (h.val : Int) = (h'.val : Int) := q 1
    have q2 : (I _).toInt + ((0 : ℕ) : Int) = (m.val : Int) := q 2
    have q3 : (0 : Int) + (r.val : Int) = (r'.val : Int) := q 3
    have q4 : (0 : Int) + (d.val : Int) = (d'.val : Int) := q 4
    have q2' := e'.symm.trans ((add_zero _).symm.trans q2)
    refine ⟨Fin.ext (by omega), by omega, Fin.ext (by omega), Fin.ext (by omega)⟩
  · rintro ⟨rfl, q, rfl, rfl⟩ a
    match a with
    | ⟨0, _⟩ => rfl
    | ⟨1, _⟩ => exact zero_add _
    | ⟨2, _⟩ => exact (add_zero _).trans (e'.trans (congrArg _ q))
    | ⟨3, _⟩ => exact zero_add _
    | ⟨4, _⟩ => exact zero_add _

end Cert.Ref
-- ==== Proof.RefB.lean ====
module

public import proofs.«01_k».proof.Proof.RefA
public import proofs.«01_k».proof.Proof.Spec

@[expose] public section

set_option maxRecDepth 16384

noncomputable section

namespace Cert.Ref

open Cert.ReferenceIdeal Cert.ReferenceIdeal.Value Idealize.ShloMosaic Idealize.ShloMosaic.StableHlo Cert.Spec

variable (V : Valuation τ sig (Elt Ideal)) (h : Fin 8) (n : Fin 32) (r : Fin 64) (d : Fin 128) (k : Fin 576)

/-- What head `h` reads of the reference's arguments. -/
def hd : Head := head (V (Proc.devRef .tc main_arg0)) (V (Proc.devRef .tc main_arg1)) (V (Proc.devRef .tc main_arg2))
  (V (Proc.devRef .tc main_arg3)) (V (Proc.devRef .tc main_arg4)) h

theorem v9_at : res_main_v9 V (ix5 0 h n r d) = (hd V h).q (Head.row n r) d := by
  unfold res_main_v9
  clean_types
  pointwise
  refine congrArg (V _) ?_
  show ix2 _ _ = ix2 _ _
  congr 1 <;> apply Fin.ext <;> show _ = (_ : ℕ) <;> simp [Head.row] <;> omega

theorem v27_at : res_main_v27 V (ix5 0 h n r d) = (hd V h).k (Head.row n r) d := by
  unfold res_main_v27
  clean_types
  pointwise
  refine congrArg (V _) ?_
  show ix2 _ _ = ix2 _ _
  congr 1 <;> apply Fin.ext <;> show _ = (_ : ℕ) <;> simp [Head.row] <;> omega

theorem v130_at : res_main_v130 V (ix5 0 h n r d) = (hd V h).dy (Head.row n r) d := by
  unfold res_main_v130
  clean_types
  pointwise
  refine congrArg (V _) ?_
  show ix2 _ _ = ix2 _ _
  congr 1 <;> apply Fin.ext <;> show _ = (_ : ℕ) <;> simp [Head.row] <;> omega

theorem v23_at : res_main_v23 V (ix5 0 0 0 0 d) = (hd V h).qg d := by
  unfold res_main_v23
  clean_types
  pointwise
  rfl

theorem v41_at : res_main_v41 V (ix5 0 0 0 0 d) = (hd V h).kg d := by
  unfold res_main_v41
  clean_types
  pointwise
  rfl

theorem v16_at : res_main_v16 V (ix5 0 h n r 0) = ms ((hd V h).q (Head.row n r)) := by
  unfold res_main_v16
  clean_types
  pointwise
  simp only [v9_at]
  rfl

theorem v34_at : res_main_v34 V (ix5 0 h n r 0) = ms ((hd V h).k (Head.row n r)) := by
  unfold res_main_v34
  clean_types
  pointwise
  simp only [v27_at]
  rfl

theorem v17_at : res_main_v17 V (ix5 0 h n r 0) = rs ((hd V h).q (Head.row n r)) := by
  unfold res_main_v17
  clean_types
  pointwise
  rw [v16_at]
  rfl

theorem v35_at : res_main_v35 V (ix5 0 h n r 0) = rs ((hd V h).k (Head.row n r)) := by
  unfold res_main_v35
  clean_types
  pointwise
  rw [v34_at]
  rfl

theorem v22_at : res_main_v22 V (ix5 0 h n r d) = xn ((hd V h).q (Head.row n r)) d := by
  unfold res_main_v22
  clean_types
  pointwise
  rw [v9_at, v17_at]
  rfl

theorem v40_at : res_main_v40 V (ix5 0 h n r d) = xn ((hd V h).k (Head.row n r)) d := by
  unfold res_main_v40
  clean_types
  pointwise
  rw [v27_at, v35_at]
  rfl

theorem v25_at : res_main_v25 V (ix5 0 h n r d) = ((hd V h).chunk n).qh r d := by
  unfold res_main_v25
  clean_types
  pointwise
  rw [v22_at, v23_at V h]
  rfl

theorem v63_at : res_main_v63 V (ix5 0 h n k d) = ((hd V h).chunk n).kb k d := by
  unfold res_main_v63
  clean_types
  pointwise
  rw [gather_at _ _ _ _ _ _ _ (idx_at V n _)]
  pointwise
  simp only [v40_at, v41_at V h]
  show _ = padded (hd V h).kh (64 * n.val + k.val) d
  unfold padded
  by_cases q : n.val + k.val / 64 < 8
  · rw [dif_pos q, dif_neg (by omega)]
  · rw [dif_neg q, dif_pos (by omega)]
    refine congrArg (fun t => xn ((hd V h).k t) d * (hd V h).kg d) (Fin.ext ?_)
    show 64 * (n.val + k.val / 64 - 8) + k.val % 64 = 64 * n.val + k.val - 512
    omega

theorem ix2_congr {a b : ℕ} {i i' j j' : ℕ} {hi : i < a} {hi' : i' < a} {hj : j < b} {hj' : j' < b} (e : i = i') (f : j = j') :
    ix2 (⟨i, hi⟩ : Fin a) (⟨j, hj⟩ : Fin b) = ix2 ⟨i', hi'⟩ ⟨j', hj'⟩ := by subst e f; rfl

theorem hd_v (t : Fin 2048) : (hd V h).v t d = V (Proc.devRef .tc main_arg0) (ix2 t ⟨6144 + (128 * h.val + d.val), by omega⟩) := rfl

theorem padded_pos (x : Fin 2048 → Fin 128 → EReal) (i : ℕ) (a : 512 ≤ i) (b : i < 2560) :
    padded x i d = x ⟨i - 512, by omega⟩ d := dif_pos ⟨a, b⟩
theorem padded_neg (x : Fin 2048 → Fin 128 → EReal) (i : ℕ) (a : i < 512) : padded x i d = 0 := dif_neg (by omega)

theorem v74_at : res_main_v74 V (ix5 0 h n k d) = ((hd V h).chunk n).vb k d := by
  unfold res_main_v74
  clean_types
  pointwise
  rw [gather_at _ _ _ _ _ _ _ (idx'_at V n _)]
  pointwise
  show _ = padded (hd V h).v (64 * n.val + k.val) d
  by_cases q : n.val + k.val / 64 < 8
  · exact (dif_pos q).trans (padded_neg d (hd V h).v (64 * n.val + k.val) (by omega)).symm
  · have a : 512 ≤ 64 * n.val + k.val := by omega
    have b : 64 * n.val + k.val < 2560 := by omega
    rw [dif_neg q]
    refine Eq.trans ?_ (padded_pos d (hd V h).v (64 * n.val + k.val) a b).symm
    have e := hd_v V h d ⟨64 * n.val + k.val - 512, by omega⟩
    refine Eq.trans ?_ e.symm
    exact congrArg (V _) (ix2_congr (by omega) (by omega))

theorem bmod_small (x : ℤ) (a : -10000 ≤ x) (b : x ≤ 10000) : Int.bmod x (2 ^ 32) = x :=
  Int.bmod_eq_of_le (by omega) (by omega)

theorem ok_at (a b : ℕ) (ha : a < 32) (hb : b < 576) :
    IntOp.cmpi CmpIPredicate.sge (IntOp.addi (IntOp.muli (IntOp.subi (BitVec.ofNat 32 (a + b / 64)) 8#32) 64#32) (BitVec.ofNat 32 (b % 64))) 0#32
      = BitVec.ofBool (decide (512 ≤ 64 * a + b)) := by
  have e : ((BitVec.ofNat 32 (a + b / 64) - 8#32) * 64#32 + BitVec.ofNat 32 (b % 64)).toInt = 64 * (a : ℤ) + b - 512 := by
    rw [BitVec.toInt_add, BitVec.toInt_mul, BitVec.toInt_sub, BitVec.toInt_ofNat', BitVec.toInt_ofNat', BitVec.toInt_ofNat', BitVec.toInt_ofNat']
    rw [bmod_small ((a + b / 64 : ℕ) : ℤ) (by omega) (by omega), bmod_small ((8 : ℕ) : ℤ) (by omega) (by omega),
      bmod_small ((64 : ℕ) : ℤ) (by omega) (by omega), bmod_small ((b % 64 : ℕ) : ℤ) (by omega) (by omega),
      bmod_small (((a + b / 64 : ℕ) : ℤ) - (8 : ℕ)) (by omega) (by omega)]
    rw [bmod_small ((((a + b / 64 : ℕ) : ℤ) - (8 : ℕ)) * (64 : ℕ)) (by omega) (by omega), bmod_small _ (by omega) (by omega)]
    omega
  show BitVec.ofBool (BitVec.sle 0#32 ((BitVec.ofNat 32 (a + b / 64) - 8#32) * 64#32 + BitVec.ofNat 32 (b % 64))) = _
  rw [BitVec.sle_eq_decide, e]
  have h0 : (0#32).toInt = 0 := by decide
  rw [h0]
  refine congrArg BitVec.ofBool ?_
  rw [decide_eq_decide]
  omega

theorem v95_1_at : res_main_v95_1 V (ix5 0 h n r k) = BitVec.ofBool (((hd V h).chunk n).ok k) := by
  unfold res_main_v95_1
  clean_types
  pointwise
  rw [pos_at]
  exact ok_at _ _ n.isLt k.isLt

theorem select_ofBool (b : Bool) (x y : EReal) : Scalar.select (BitVec.ofBool b) x y = if b = true then x else y := by
  cases b <;> rfl

theorem neg_inf : Ideal.ofBits .f32 0xFF800000#32 = ⊥ := by simp [Ideal.ofBits, Ideal.ieee]

end Cert.Ref
-- ==== Proof.RefC.lean ====
module

public import proofs.«01_k».proof.Proof.RefB

@[expose] public section

set_option maxRecDepth 16384

noncomputable section

namespace Cert.Ref

open Cert.ReferenceIdeal Cert.ReferenceIdeal.Value Idealize.ShloMosaic Idealize.ShloMosaic.StableHlo Cert.Spec

variable (V : Valuation τ sig (Elt Ideal)) (h : Fin 8) (n : Fin 32) (r : Fin 64) (d : Fin 128) (k : Fin 576)

theorem v95_at : res_main_v95_0 V (ix5 0 h n r k) = ((hd V h).chunk n).s r k := by
  unfold res_main_v95_0
  clean_types
  pointwise
  simp only [v25_at, v63_at, v95_1_at V h]
  rw [select_ofBool]
  unfold Chunk.s
  rw [show (id (constant (F := Ideal) S_ FTy.f32 4286578688#32) ix0 : EReal) = ⊥ from neg_inf]
  rfl

theorem v96_at : res_main_v96 V (ix4 0 h n r) = ((hd V h).chunk n).mx r := by
  unfold res_main_v96
  clean_types
  pointwise
  simp only [v95_at, neg_inf]
  rfl

theorem max_neg_inf (x : EReal) : max (Ideal.ofBits .f32 0xFF800000#32) x = x := by
  rw [neg_inf]
  exact max_eq_right bot_le

theorem exp_sub_at (X : FVec Ideal S1x8x32x64x576 .f32) (Y : FVec Ideal S1x8x32x64 .f32) :
    Host.exp (subf X (broadcastInDim S1x8x32x64x576 ![0, 1, 2, 3, 4] Gen.bcast_S1x8x32x64x1_S1x8x32x64x576_0_1_2_3_4
      (broadcastInDim S1x8x32x64x1 ![0, 1, 2, 3] Gen.bcast_S1x8x32x64_S1x8x32x64x1_0_1_2_3
        (maximumf (broadcastInDim S1x8x32x64 ![] Gen.bcast_S_S1x8x32x64 (constant S_ .f32 0xFF800000#32)) Y)))) (ix5 0 h n r k)
      = Ideal.exp (X (ix5 0 h n r k) - Y (ix4 0 h n r)) := by
  pointwise
  rw [max_neg_inf]

theorem v116_at : res_main_v116 V (ix5 0 h n r k) = ((hd V h).chunk n).e r k := by
  unfold res_main_v116
  refine (exp_sub_at h n r k (res_main_v95_0 V) (res_main_v96 V)).trans ?_
  rw [v95_at, v96_at]
  rfl

end Cert.Ref
-- ==== Proof.RefD.lean ====
module

public import proofs.«01_k».proof.Proof.RefC

@[expose] public section

set_option maxRecDepth 16384

noncomputable section

namespace Cert.Ref

open Cert.ReferenceIdeal Cert.ReferenceIdeal.Value Idealize.ShloMosaic Idealize.ShloMosaic.StableHlo Cert.Spec

variable (V : Valuation τ sig (Elt Ideal)) (h : Fin 8) (n : Fin 32) (r : Fin 64) (d : Fin 128) (k : Fin 576)

theorem v118_at : res_main_v118 V (ix5 0 h n r 0) = ((hd V h).chunk n).z r := by
  unfold res_main_v118
  clean_types
  pointwise
  simp only [v116_at]
  rfl

theorem v120_at : res_main_v120 V (ix5 0 h n r k) = ((hd V h).chunk n).p r k := by
  unfold res_main_v120
  clean_types
  pointwise
  simp only [v116_at, v118_at]
  rfl

theorem v133_at : res_main_v133 V (ix5 0 h n r k) = ((hd V h).chunk n).dp r k := by
  unfold res_main_v133
  clean_types
  pointwise
  simp only [v130_at, v74_at]
  rfl

theorem v147_at : res_main_v147 V (ix5 0 h n r k) = ((hd V h).chunk n).ds r k := by
  unfold res_main_v147
  clean_types
  pointwise
  rw [sum_unit]
  pointwise
  simp only [v116_at, v118_at, v133_at, v95_1_at V h]
  rw [select_ofBool]
  unfold Chunk.ds Chunk.t Chunk.dz
  simp only [zero_sub]

theorem v152_at : res_main_v152 V (ix5 0 h n r k) = ((hd V h).chunk n).dsc r k := by
  unfold res_main_v152
  clean_types
  pointwise
  simp only [v147_at]
  rfl

theorem v154_at : res_main_v154 V (ix5 0 h n r d) = ((hd V h).chunk n).dqh r d := by
  unfold res_main_v154
  clean_types
  pointwise
  simp only [v152_at, v63_at]
  rfl

theorem v194_at : res_main_v194 V (ix5 0 h n r d) = ((hd V h).chunk n).dqh r d * (hd V h).qg d := by
  unfold res_main_v194
  clean_types
  pointwise
  simp only [v154_at, v23_at V h]

theorem v206_at : res_main_v206 V (ix5 0 h n r d) = nc (hd V h).qg ((hd V h).q (Head.row n r)) (((hd V h).chunk n).dqh r) := by
  unfold res_main_v206
  clean_types
  pointwise
  rw [sum_unit]
  pointwise
  simp only [v194_at, v9_at, v17_at, v16_at]
  rfl

end Cert.Ref
-- ==== Proof.RefE.lean ====
module

public import proofs.«01_k».proof.Proof.RefD

@[expose] public section

set_option maxRecDepth 16384

noncomputable section

namespace Cert.Ref

open Cert.ReferenceIdeal Cert.ReferenceIdeal.Value Idealize.ShloMosaic Idealize.ShloMosaic.StableHlo Cert.Spec

variable (V : Valuation τ sig (Elt Ideal)) (h : Fin 8) (n : Fin 32) (r : Fin 64) (d : Fin 128) (k : Fin 576)

/-- A sum over part of the chunks. -/
theorem sum_sub {p : Fin 32 → Prop} [DecidablePred p] (f : ∀ n, p n → EReal) :
    ∑ x : {n // p n}, f x.1 x.2 = ∑ n, if q : p n then f n q else 0 := by
  have a : ∑ x : {n // p n}, f x.1 x.2 = ∑ x : {n // p n}, (fun n => if q : p n then f n q else 0) x.1 :=
    Finset.sum_congr rfl fun x _ => (dif_pos x.2).symm
  rw [a]
  refine (Finset.sum_subtype (Finset.univ.filter p) (fun n => by simp) (fun n => if q : p n then f n q else 0)).symm.trans ?_
  exact Finset.sum_filter_of_ne fun n _ h => by
    by_contra q
    exact h (dif_neg q)

/-- A sum over the chunks of the positions that go back to row `m`. -/
theorem scatter_at (X : S1x8x40x64x128.Idx → EReal) (I : IVec S32x9x1 32) (U : S1x8x32x9x64x128.Idx → EReal) (m : Fin 40)
    (hI : ∀ n w, I (ix3 n w 0) = BitVec.ofNat 32 (n.val + w.val)) :
    Ideal.hostScatterAdd scatter_S1x8x40x64x128_S32x9x1_S1x8x32x9x64x128_0145_2_2_2 X I U (ix5 0 h m r d)
      = X (ix5 0 h m r d) + ∑ n : Fin 32, if q : n.val ≤ m.val ∧ m.val < n.val + 9 then U (ix6 0 h n ⟨m.val - n.val, by omega⟩ r d) else 0 := by
  unfold Ideal.hostScatterAdd
  refine congrArg (fun z : EReal => X (ix5 0 h m r d) + z) ?_
  refine (Finset.sum_filter_eq_sum_of_fiber _
    (fun n : {n : Fin 32 // n.val ≤ m.val ∧ m.val < n.val + 9} => ix6 0 h n.1 ⟨m.val - n.1.val, by have := n.2; omega⟩ r d) ?_ ?_ U).trans ?_
  · intro a b e
    exact Subtype.ext (congrFun e 2)
  · intro i
    constructor
    · intro e
      have e0 := eq_ix6 i
      have i0 : i 0 = (0 : Fin 1) := Fin.ext (Nat.lt_one_iff.1 (i 0).isLt)
      rw [i0] at e0
      rw [e0] at e ⊢
      obtain ⟨a, b, c, f⟩ := (lands (i 1) (i 2) (i 4) (i 5) I (i 3) (hI _ _) h m r d).1 e
      have w : (i 3).val < 9 := (i 3).isLt
      refine ⟨⟨i 2, by omega, by omega⟩, ?_⟩
      rw [← a, ← c, ← f]
      have g : (⟨m.val - (i 2).val, by omega⟩ : Fin 9) = i 3 := Fin.ext (by show m.val - (i 2).val = (i 3).val; omega)
      exact congrArg (fun z => ix6 0 (i 1) (i 2) z (i 4) (i 5)) g
    · rintro ⟨n, rfl⟩
      refine (lands h n.1 r d I _ (hI _ _) h m r d).2 ⟨rfl, ?_, rfl, rfl⟩
      have := n.2
      show n.1.val + (m.val - n.1.val) = m.val
      omega
  · exact sum_sub (p := fun n : Fin 32 => n.val ≤ m.val ∧ m.val < n.val + 9)
      (fun n q => U (ix6 0 h n ⟨m.val - n.val, by omega⟩ r d))

theorem chunk_sum (f : Fin 32 → Fin 576 → Fin 128 → EReal) (n' : Fin 32) :
    (∑ n : Fin 32, if q : n.val ≤ 8 + n'.val ∧ 8 + n'.val < n.val + 9 then f n ⟨(8 + n'.val - n.val) * 64 + r.val, by omega⟩ d else 0)
      = ∑ n, Head.at_ (f n) n ((Head.row n' r).val + 512) d := by
  refine Finset.sum_congr rfl fun n _ => ?_
  unfold Head.at_
  have e : (Head.row n' r).val = 64 * n'.val + r.val := rfl
  by_cases q : n.val ≤ 8 + n'.val ∧ 8 + n'.val < n.val + 9
  · rw [dif_pos q, dif_pos (by omega)]
    exact congrArg (fun z => f n z d) (Fin.ext (by show (8 + n'.val - n.val) * 64 + r.val = (Head.row n' r).val + 512 - 64 * n.val; omega))
  · rw [dif_neg q, dif_neg (by omega)]

theorem v164_at : res_main_v164 V (ix5 0 h n r d) = (hd V h).dkh (Head.row n r) d := by
  unfold res_main_v164
  clean_types
  pointwise
  unfold res_main_v162
  clean_types
  pointwise
  unfold Host.scatterAdd
  rw [Ideal.hostScatterAdd_def, scatter_at h r d _ _ _ _ (idx_at V)]
  pointwise
  simp only [v152_at, v25_at]
  exact chunk_sum r d (fun n => ((hd V h).chunk n).dkb) n

theorem v157_at : res_main_v157 V (ix5 0 h ⟨8 + n.val, by omega⟩ r d) = (hd V h).dv (Head.row n r) d := by
  unfold res_main_v157
  clean_types
  pointwise
  unfold Host.scatterAdd
  rw [Ideal.hostScatterAdd_def, scatter_at h r d _ _ _ _ (idx'_at V)]
  pointwise
  simp only [v120_at, v130_at]
  refine Eq.trans ?_ (chunk_sum r d (fun n => ((hd V h).chunk n).dvb) n)
  refine Finset.sum_congr rfl fun n' _ => ?_
  congr 1
  funext q
  exact Finset.sum_congr rfl fun _ _ => mul_comm _ _

theorem v171_at : res_main_v171 V (ix5 0 h n r d) = (hd V h).dkh (Head.row n r) d * (hd V h).kg d := by
  unfold res_main_v171
  clean_types
  pointwise
  simp only [v164_at, v41_at V h]

theorem v183_at : res_main_v183 V (ix5 0 h n r d) = nc (hd V h).kg ((hd V h).k (Head.row n r)) ((hd V h).dkh (Head.row n r)) := by
  unfold res_main_v183
  clean_types
  pointwise
  rw [sum_unit]
  pointwise
  simp only [v171_at, v27_at, v35_at, v34_at]
  rfl

end Cert.Ref
-- ==== Proof.RefF.lean ====
module

public import proofs.«01_k».proof.Proof.RefE

@[expose] public section

set_option maxRecDepth 16384

noncomputable section

namespace Cert.Ref

open Cert.ReferenceIdeal Cert.ReferenceIdeal.Gen Cert.ReferenceIdeal.Value Idealize.ShloMosaic Idealize.ShloMosaic.StableHlo Cert.Spec

variable (V : Valuation τ sig (Elt Ideal)) (h : Fin 8) (n : Fin 32) (r : Fin 64) (d : Fin 128) (k : Fin 576)

theorem sum_unit_b (v : S1x8x1x64x576.Idx → EReal) (c : EReal) :
    Ideal.hostReduceAdd reducesTo_S1x8x1x64x576_S8x64x576_d0_2 v c (ix3 h r k) = c + v (ix5 0 h 0 r k) := by
  unfold Ideal.hostReduceAdd
  congr 1
  refine (Finset.sum_filter_eq_sum_of_fiber _ (fun _ : Fin 1 => ix5 0 h 0 r k) (fun _ _ _ => Subsingleton.elim _ _) (fun i => ?_) v).trans (by simp)
  constructor
  · intro e
    refine ⟨0, ?_⟩
    have h1 : (i 1).val = h.val := congrArg Fin.val (congrFun e 0)
    have h2 : (i 3).val = r.val := congrArg Fin.val (congrFun e 1)
    have h3 : (i 4).val = k.val := congrArg Fin.val (congrFun e 2)
    have a0 := (i 0).isLt
    have a4 := (i 2).isLt
    funext a
    apply Fin.ext
    match a with
    | ⟨0, _⟩ => exact (Nat.lt_one_iff.1 a0).symm
    | ⟨1, _⟩ => exact h1.symm
    | ⟨2, _⟩ => exact (Nat.lt_one_iff.1 a4).symm
    | ⟨3, _⟩ => exact h2.symm
    | ⟨4, _⟩ => exact h3.symm
  · rintro ⟨_, rfl⟩
    funext b
    apply Fin.ext
    match b with
    | ⟨0, _⟩ => rfl
    | ⟨1, _⟩ => rfl
    | ⟨2, _⟩ => rfl

theorem sum_unit_g (v : S1x1x1x1x128.Idx → EReal) (c : EReal) :
    Ideal.hostReduceAdd reducesTo_S1x1x1x1x128_S128_d0_1_2_3 v c (ix1 d) = c + v (ix5 0 0 0 0 d) := by
  unfold Ideal.hostReduceAdd
  congr 1
  refine (Finset.sum_filter_eq_sum_of_fiber _ (fun _ : Fin 1 => ix5 0 0 0 0 d) (fun _ _ _ => Subsingleton.elim _ _) (fun i => ?_) v).trans (by simp)
  constructor
  · intro e
    refine ⟨0, ?_⟩
    have h4 : (i 4).val = d.val := congrArg Fin.val (congrFun e 0)
    have a0 := (i 0).isLt
    have a1 := (i 1).isLt
    have a2 := (i 2).isLt
    have a3 := (i 3).isLt
    funext a
    apply Fin.ext
    match a with
    | ⟨0, _⟩ => exact (Nat.lt_one_iff.1 a0).symm
    | ⟨1, _⟩ => exact (Nat.lt_one_iff.1 a1).symm
    | ⟨2, _⟩ => exact (Nat.lt_one_iff.1 a2).symm
    | ⟨3, _⟩ => exact (Nat.lt_one_iff.1 a3).symm
    | ⟨4, _⟩ => exact h4.symm
  · rintro ⟨_, rfl⟩
    funext b
    apply Fin.ext
    match b with
    | ⟨0, _⟩ => rfl

/-- A sum over the heads, the chunks and their rows. -/
theorem sum_rows (v : S1x8x32x64x128.Idx → EReal) (c : EReal) :
    Ideal.hostReduceAdd reducesTo_S1x8x32x64x128_S1x128_d1_2_3 v c (ix2 0 d) = c + ∑ h : Fin 8, ∑ n : Fin 32, ∑ r : Fin 64, v (ix5 0 h n r d) := by
  unfold Ideal.hostReduceAdd
  congr 1
  refine (Finset.sum_filter_eq_sum_of_fiber _ (fun k : Fin 8 × Fin 32 × Fin 64 => ix5 0 k.1 k.2.1 k.2.2 d) ?_ (fun i => ?_) v).trans ?_
  · rintro ⟨a, b, c⟩ ⟨a', b', c'⟩ e
    have e1 : a = a' := congrFun e 1
    have e2 : b = b' := congrFun e 2
    have e3 : c = c' := congrFun e 3
    rw [e1, e2, e3]
  · constructor
    · intro e
      refine ⟨(i 1, i 2, i 3), ?_⟩
      have h4 : (i 4).val = d.val := congrArg Fin.val (congrFun e 1)
      have a0 := (i 0).isLt
      funext a
      apply Fin.ext
      match a with
      | ⟨0, _⟩ => exact (Nat.lt_one_iff.1 a0).symm
      | ⟨1, _⟩ => rfl
      | ⟨2, _⟩ => rfl
      | ⟨3, _⟩ => rfl
      | ⟨4, _⟩ => exact h4.symm
    · rintro ⟨_, rfl⟩
      funext b
      apply Fin.ext
      match b with
      | ⟨0, _⟩ => rfl
      | ⟨1, _⟩ => rfl
  · rw [Fintype.sum_prod_type]
    refine Finset.sum_congr rfl fun a _ => ?_
    rw [Fintype.sum_prod_type]

theorem row_eta (t : Fin 2048) (a : t.val / 64 < 32) (b : t.val % 64 < 64) : Head.row ⟨t.val / 64, a⟩ ⟨t.val % 64, b⟩ = t :=
  Fin.ext (by show 64 * (t.val / 64) + t.val % 64 = t.val; omega)

/-- The reference's result dq. -/
def out_dq : S2048x1024.Idx → EReal := truncf .bf16 (Host.reduceAdd (shapeCast _ (transpose S1x32x64x8x128 [0, 2, 3, 1, 4] (addf (addf (mulf (res_main_v194 V) (broadcastInDim S1x8x32x64x128 ![0, 1, 2, 3, 4] bcast_S1x8x32x64x1_S1x8x32x64x128_0_1_2_3_4 (res_main_v17 V))) (mulf (res_main_v9 V) (res_main_v206 V))) (mulf (res_main_v206 V) (res_main_v9 V))) transposes_S1x8x32x64x128_S1x32x64x8x128_0_2_3_1_4) shapeCasts_S1x32x64x8x128_S1x2048x1024) (constant S_ .f32 0x00000000#32) reducesTo_S1x2048x1024_S2048x1024_d0 h_S_) bitsLt_bf16_f32

theorem out_dq_at (t : Fin 2048) (f : Fin 1024) : out_dq V (ix2 t f) = (hd V ⟨f.val / 128, by omega⟩).dq t ⟨f.val % 128, by omega⟩ := by
  unfold out_dq
  clean_types
  pointwise
  rw [Finset.univ_unique, Finset.sum_singleton]
  simp only [v194_at, v17_at, v9_at, v206_at]
  unfold Head.dq Chunk.dq nb
  rfl

/-- The reference's result dk. -/
def out_dk : S2048x1024.Idx → EReal := truncf .bf16 (Host.reduceAdd (shapeCast _ (transpose S1x32x64x8x128 [0, 2, 3, 1, 4] (addf (addf (mulf (res_main_v171 V) (broadcastInDim S1x8x32x64x128 ![0, 1, 2, 3, 4] bcast_S1x8x32x64x1_S1x8x32x64x128_0_1_2_3_4 (res_main_v35 V))) (mulf (res_main_v27 V) (res_main_v183 V))) (mulf (res_main_v183 V) (res_main_v27 V))) transposes_S1x8x32x64x128_S1x32x64x8x128_0_2_3_1_4) shapeCasts_S1x32x64x8x128_S1x2048x1024) (constant S_ .f32 0x00000000#32) reducesTo_S1x2048x1024_S2048x1024_d0 h_S_) bitsLt_bf16_f32

theorem out_dk_at (t : Fin 2048) (f : Fin 1024) : out_dk V (ix2 t f) = (hd V ⟨f.val / 128, by omega⟩).dk t ⟨f.val % 128, by omega⟩ := by
  unfold out_dk
  clean_types
  pointwise
  rw [Finset.univ_unique, Finset.sum_singleton]
  simp only [v171_at, v35_at, v27_at, v183_at, row_eta]
  rfl

/-- The reference's result dv. -/
def out_dv : S2048x1024.Idx → EReal := truncf .bf16 (Host.reduceAdd (shapeCast _ (transpose S1x32x64x8x128 [0, 2, 3, 1, 4] (extractStridedSlice S1x8x32x64x128 ![0, 0, 8, 0, 0] (res_main_v157 V) slices_S1x8x40x64x128_S1x8x32x64x128_0_0_8_0_0) transposes_S1x8x32x64x128_S1x32x64x8x128_0_2_3_1_4) shapeCasts_S1x32x64x8x128_S1x2048x1024) (constant S_ .f32 0x00000000#32) reducesTo_S1x2048x1024_S2048x1024_d0 h_S_) bitsLt_bf16_f32

theorem out_dv_at (t : Fin 2048) (f : Fin 1024) : out_dv V (ix2 t f) = (hd V ⟨f.val / 128, by omega⟩).dv t ⟨f.val % 128, by omega⟩ := by
  unfold out_dv
  clean_types
  pointwise
  rw [Finset.univ_unique, Finset.sum_singleton]
  rw [v157_at V ⟨f.val / 128, by omega⟩ ⟨t.val / 64, by omega⟩, row_eta]

/-- The reference's result db. -/
def out_db : S8x64x576.Idx → EReal := Host.reduceAdd (shapeCast _ (Host.reduceAdd (res_main_v147 V) (constant S_ .f32 0x00000000#32) reducesTo_S1x8x32x64x576_S1x8x64x576_d2 h_S_) shapeCasts_S1x8x64x576_S1x8x1x64x576) (constant S_ .f32 0x00000000#32) reducesTo_S1x8x1x64x576_S8x64x576_d0_2 h_S_

theorem out_db_at : out_db V (ix3 h r k) = (hd V h).db r k := by
  unfold out_db
  clean_types
  pointwise
  rw [sum_unit_b]
  pointwise
  simp only [v147_at]
  rfl

/-- The reference's result dqg. -/
def out_dqg : S1x128.Idx → EReal := broadcastInDim S1x128 ![1] bcast_S128_S1x128_1 (Host.reduceAdd (shapeCast _ (Host.reduceAdd (mulf (res_main_v22 V) (res_main_v154 V)) (constant S_ .f32 0x00000000#32) reducesTo_S1x8x32x64x128_S1x128_d1_2_3 h_S_) shapeCasts_S1x128_S1x1x1x1x128) (constant S_ .f32 0x00000000#32) reducesTo_S1x1x1x1x128_S128_d0_1_2_3 h_S_)

theorem out_dqg_at : out_dqg V (ix2 0 d) = ∑ h, (hd V h).dqg d := by
  unfold out_dqg
  clean_types
  pointwise
  rw [sum_unit_g]
  pointwise
  rw [sum_rows]
  pointwise
  simp only [v22_at, v154_at]
  rfl

/-- The reference's result dkg. -/
def out_dkg : S1x128.Idx → EReal := broadcastInDim S1x128 ![1] bcast_S128_S1x128_1 (Host.reduceAdd (shapeCast _ (Host.reduceAdd (mulf (res_main_v40 V) (res_main_v164 V)) (constant S_ .f32 0x00000000#32) reducesTo_S1x8x32x64x128_S1x128_d1_2_3 h_S_) shapeCasts_S1x128_S1x1x1x1x128) (constant S_ .f32 0x00000000#32) reducesTo_S1x1x1x1x128_S128_d0_1_2_3 h_S_)

theorem out_dkg_at : out_dkg V (ix2 0 d) = ∑ h, (hd V h).dkg d := by
  unfold out_dkg
  clean_types
  pointwise
  rw [sum_unit_g]
  pointwise
  rw [sum_rows]
  pointwise
  simp only [v40_at, v164_at]
  rfl

end Cert.Ref
-- ==== Proof.Tie.lean ====
/-
  The idealized kernel and the reference end with the same six gradients.
-/
module

public import proofs.«01_k».proof.Defs
public import proofs.«01_k».proof.Proof.KFinal
public import proofs.«01_k».proof.Proof.Real
public import proofs.«01_k».proof.Proof.RefF

@[expose] public section

set_option maxRecDepth 16384

noncomputable section

namespace Cert.Tie

open Idealize.ShloMosaic Idealize.ShloMosaic.StableHlo Idealize.SL.Sem Cert.Spec

/-- Two arrays of two axes that agree at every pair of coordinates are equal. -/
theorem ext2 {a b : ℕ} {f g : (⟨2, ![a, b]⟩ : Shape).Idx → EReal} (h : ∀ (i : Fin a) (j : Fin b), f (ix2 i j) = g (ix2 i j)) : f = g := by
  funext x
  have e : x = ix2 (x 0 : Fin a) (x 1 : Fin b) := by funext k; fin_cases k <;> rfl
  rw [e]; exact h _ _

theorem ext3 {a b c : ℕ} {f g : (⟨3, ![a, b, c]⟩ : Shape).Idx → EReal}
    (h : ∀ (i : Fin a) (j : Fin b) (k : Fin c), f (ix3 i j k) = g (ix3 i j k)) : f = g := by
  funext x
  have e : x = ix3 (x 0 : Fin a) (x 1 : Fin b) (x 2 : Fin c) := by funext k; fin_cases k <;> rfl
  rw [e]; exact h _ _ _

/-- A head of equal arrays. -/
theorem head_congr {p p' : (⟨2, ![2048, 11264]⟩ : Shape).Idx → EReal} {q q' k k' : (⟨2, ![1, 128]⟩ : Shape).Idx → EReal}
    {b b' : (⟨3, ![8, 64, 576]⟩ : Shape).Idx → EReal} {y y' : (⟨2, ![2048, 1024]⟩ : Shape).Idx → EReal}
    (e0 : p = p') (e1 : q = q') (e2 : k = k') (e3 : b = b') (e4 : y = y') (h : Fin 8) : head p q k b y h = head p' q' k' b' y' h := by
  rw [e0, e1, e2, e3, e4]

attribute [local instance] Cert.Finite.facts Cert.KernelIdeal.Gen.facts Cert.ReferenceIdeal.Gen.facts

/-- The precondition makes the values and the incoming gradients real. -/
theorem finite (m : (ℓ : Loc Cert.KernelIdeal.nD Cert.KernelIdeal.τ Cert.KernelIdeal.sig) → Buf (Elt Ideal) ℓ)
    (h : Cert.Pre_KernelIdeal_values_finite m) (c : Dev Cert.KernelIdeal.nD) : Cert.Ker.Finite m c := by
  intro k t d
  have e := Cert.Finite.reals (h c) t ⟨128 * k.val + d.val, by omega⟩
  exact e

theorem algebraic : Cert.algebraic_KernelIdeal_ReferenceIdeal_pre_values_finite := by
  intro m ρ m' ρ' hpre hagree
  have hf := finite m hpre
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨r0, r1, r2, r3, r4, r5, a0, a1, a2, a3, a4⟩ := h c
  obtain ⟨g0, g1, g2, g3, g4⟩ := hagree c
  have hd : ∀ h, Cert.Ref.hd (launchContents m' c) h = Cert.Ker.hk m c h := by
    intro h
    unfold Cert.Ref.hd Cert.Ker.hk
    rw [launchContents_devRef, launchContents_devRef, launchContents_devRef, launchContents_devRef, launchContents_devRef]
    exact head_congr g0 g1 g2 g3 g4 h
  refine ⟨r0.trans ?_, r1.trans ?_, r2.trans ?_, r3.trans ?_, r4.trans ?_, r5.trans ?_, a0, a1, a2, a3, a4⟩
  · refine ext2 fun t f => ?_
    exact ((Cert.Ref.out_dq_at _ t f).trans (congrArg (fun H : Head => H.dq t ⟨f.val % 128, by omega⟩) (hd _))).trans (Cert.Ker.final7 m c (hf c) t f).symm
  · refine ext2 fun t f => ?_
    exact ((Cert.Ref.out_dk_at _ t f).trans (congrArg (fun H : Head => H.dk t ⟨f.val % 128, by omega⟩) (hd _))).trans (Cert.Ker.final8 m c (hf c) t f).symm
  · refine ext2 fun t f => ?_
    exact ((Cert.Ref.out_dv_at _ t f).trans (congrArg (fun H : Head => H.dv t ⟨f.val % 128, by omega⟩) (hd _))).trans (Cert.Ker.final9 m c (hf c) t f).symm
  · refine ext3 fun h r k => ?_
    exact ((Cert.Ref.out_db_at _ h r k).trans (congrArg (fun H : Head => H.db r k) (hd h))).trans (Cert.Ker.final10 m c (hf c) h r k).symm
  · refine ext2 fun i d => ?_
    obtain rfl : i = 0 := Subsingleton.elim _ _
    exact ((Cert.Ref.out_dqg_at _ d).trans (Finset.sum_congr rfl fun h _ => congrArg (fun H : Head => H.dqg d) (hd h))).trans (Cert.Ker.final11 m c (hf c) d).symm
  · refine ext2 fun i d => ?_
    obtain rfl : i = 0 := Subsingleton.elim _ _
    exact ((Cert.Ref.out_dkg_at _ d).trans (Finset.sum_congr rfl fun h _ => congrArg (fun H : Head => H.dkg d) (hd h))).trans (Cert.Ker.final12 m c (hf c) d).symm

end Cert.Tie
-- ==== Proof.Mat.lean ====
/-
  Arrays of two and three axes read at coordinates, and sums split into the blocks that the products run through.
-/
module

public import Idealize.ShloMosaic.Lib.Pipeline.ValueKit
public import Idealize.ShloMosaic.Lib.Pipeline.ReadBack
public import Idealize.ShloMosaic.Lib.Pointwise
public import Idealize.ShloMosaic.Lib.Routing.OpsPair
public import Idealize.ShloMosaic.Lib.Tactic.CleanTypes

@[expose] public section

noncomputable section

namespace Cert.Mat

open Idealize.ShloMosaic

/-- Two arrays of two axes that agree at every pair of coordinates are equal. -/
theorem ext2 {a b : ℕ} {f g : (⟨2, ![a, b]⟩ : Shape).Idx → EReal} (h : ∀ (i : Fin a) (j : Fin b), f (ix2 i j) = g (ix2 i j)) : f = g := by
  funext x
  have e : x = ix2 (x 0 : Fin a) (x 1 : Fin b) := by funext k; fin_cases k <;> rfl
  rw [e]; exact h _ _

theorem ext3 {a b c : ℕ} {f g : (⟨3, ![a, b, c]⟩ : Shape).Idx → EReal}
    (h : ∀ (i : Fin a) (j : Fin b) (k : Fin c), f (ix3 i j k) = g (ix3 i j k)) : f = g := by
  funext x
  have e : x = ix3 (x 0 : Fin a) (x 1 : Fin b) (x 2 : Fin c) := by funext k; fin_cases k <;> rfl
  rw [e]; exact h _ _ _

/-- Products of equal rows and columns. -/
theorem prod_congr {n : ℕ} {a b c d : Fin n → EReal} (h : ∀ k, a k = c k ∧ b k = d k) : ∑ k, a k * b k = ∑ k, c k * d k :=
  Finset.sum_congr rfl fun k _ => by rw [(h k).1, (h k).2]

/-- Triples with equal coordinates are equal. -/
theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- An index is its coordinates. -/
theorem idx2 {a b : ℕ} (x : (⟨2, ![a, b]⟩ : Shape).Idx) : x = ix2 (x 0 : Fin a) (x 1 : Fin b) := by
  funext k; fin_cases k <;> rfl

/-- An index whose first axis has one entry. -/
theorem idx31 {b c : ℕ} (x : (⟨3, ![1, b, c]⟩ : Shape).Idx) : x = ix3 (0 : Fin 1) (x 1 : Fin b) (x 2 : Fin c) := by
  funext k
  match k with
  | ⟨0, _⟩ => exact Fin.ext (Nat.lt_one_iff.1 (x 0).isLt)
  | ⟨1, _⟩ => rfl
  | ⟨2, _⟩ => rfl

/-- Eight terms as four and four. -/
theorem sum_eight (f : Fin 8 → EReal) :
    ∑ q, f q = (∑ q : Fin 4, f ⟨q.val, by omega⟩) + ∑ q : Fin 4, f ⟨4 + q.val, by omega⟩ :=
  Fin.sum_univ_add (a := 4) (b := 4) f

end Cert.Mat
-- ==== Proof.P10.lean ====
/-
  The forward product with w_in: the kernel's tiles of the product with the blocks of columns of the weight.
-/
module

public import proofs.«01_k».proof.Defs
public import proofs.«01_k».proof.Proof.Mat
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run

@[expose] public section

set_option maxRecDepth 16384

noncomputable section

namespace Cert.P10

open Idealize.ShloMosaic Idealize.ShloMosaic.StableHlo Idealize.SL.Sem

/-- The product at an entry. -/
def spec (x : (⟨2, ![2048, 2048]⟩ : Shape).Idx → EReal) (y : (⟨3, ![8, 2048, 1408]⟩ : Shape).Idx → EReal) (n : Fin 2048) (r : Fin 11264) : EReal :=
  ∑ k : Fin 2048, x (ix2 n k) * y (ix3 ⟨r.val / 1408, by omega⟩ k ⟨r.val % 1408, by omega⟩)

section
open Cert.Kernel10Ideal Cert.Kernel10Ideal.Gen

/-- One tile. -/
theorem tile (x0 : Vec Ideal S1024x2048 .bf16) (x1 : Vec Ideal S1x2048x1408 .bf16) (i : Fin 1024) (j : Fin 1408) :
    k0_pay1 x0 x1 (ix2 i j) = ∑ k : Fin 2048, x0 (ix2 i k) * x1 (ix3 0 k j) := by
  unfold k0_pay1
  pointwise

theorem index_at : ∀ t : Fin cfg0.N,
    win0_0.index t = ![t.val / 8, 0] ∧ win0_1.index t = ![t.val % 8, 0, 0] ∧ win0_2.index t = ![t.val / 8, t.val % 8] :=
  (by decide +kernel : ∀ t : Fin grid0.N, _)

variable (m : (ℓ : Loc nD τ sig) → Buf (Elt Ideal) ℓ) (c : Dev nD)

theorem final (n : Fin 2048) (r : Fin 11264) :
    ((dats m 0 c).arrAt 2 cfg0.N : S2048x11264.Idx → EReal) (ix2 n r)
      = spec (m ((c.tc : Thread nD τ).loc main_arg0)) (m ((c.tc : Thread nD τ).loc main_arg1)) n r := by
  have e : (dats m 0 c).arrAt 2 cfg0.N = fun i : S2048x11264.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    rw [after0_2]
    frame_out
    have h0 : (y 0).val < 1024 := (y 0).isLt
    have h1 : (y 1).val < 1408 := (y 1).isLt
    have hx : (cfg0.win 2).xinj (cfg0.grid.coords t) y = ix2 (⟨(y 0).val, h0⟩ : Fin 1024) (⟨(y 1).val, h1⟩ : Fin 1408) := by
      funext a
      apply Fin.ext
      match a with
      | ⟨0, _⟩ => rfl
      | ⟨1, _⟩ => rfl
    rw [hx]
    refine (tile _ _ _ _).trans (Mat.prod_congr fun k => ⟨?_, ?_⟩) <;> blk_ext [iblk, V, e0, e1, e2]
  exact congrFun e (ix2 n r)

end

section
open Cert.Reference10Ideal Cert.Reference10Ideal.Gen

theorem ref (x : FVec Ideal S2048x2048 .bf16) (y : FVec Ideal S8x2048x1408 .bf16) (n : Fin 2048) (r : Fin 11264) :
    Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264) (ix2 n r)
      = spec x y n r := by
  pointwise
  rfl

end

attribute [local instance] Cert.Kernel10Ideal.Gen.facts Cert.Reference10Ideal.Gen.facts

theorem algebraic : Cert.algebraic_Kernel10Ideal_Reference10Ideal := by
  intro m ρ m' ρ' hpre hagree
  refine ⟨fun c => (Cert.Kernel10Ideal.Gen.dats m 0 c).arrAt 2 Cert.Kernel10Ideal.cfg0.N, Cert.Kernel10Ideal.Value.run_blocks (F := Ideal) m ρ, ?_⟩
  refine (θ_run Cert.Reference10Ideal.defs _ _).mono (fun r h c => ?_) (Cert.Reference10Ideal.Value.run (F := Ideal) m' ρ')
  obtain ⟨r0, a0, a1⟩ := h c
  obtain ⟨g0, g1⟩ := hagree c
  refine ⟨r0.trans (Mat.ext2 fun n r => ?_), a0, a1⟩
  rw [g0, g1]
  exact (ref _ _ n r).trans (final m c n r).symm

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.P10
-- ==== Proof.P11.lean ====
/-
  The gradient of the activation, through the product with w_ffn_out.
-/
module

public import proofs.«01_k».proof.Defs
public import proofs.«01_k».proof.Proof.Mat
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run

public import proofs.«01_k».proof.Proof.Real
public import Idealize.ShloMosaic.Lib.WordCmp

@[expose] public section

set_option maxRecDepth 16384

noncomputable section

namespace Cert.P11

open Idealize.ShloMosaic Idealize.ShloMosaic.StableHlo Idealize.SL.Sem

/-- The gradient of the activation at an entry. -/
def da (dy : (⟨2, ![2048, 2048]⟩ : Shape).Idx → EReal) (w : (⟨2, ![5632, 2048]⟩ : Shape).Idx → EReal) (n : Fin 2048) (r : Fin 5632) : EReal := ∑ k : Fin 2048, dy (ix2 n k) * w (ix2 r k)

/-- The gradient of the gate, from the gradient of the activation, the other factor and the gate. -/
def half (d u g : EReal) : EReal :=
  d * u * Ideal.logistic g * (Ideal.ofBits .f32 0x3F800000#32 + g * (Ideal.ofBits .f32 0x3F800000#32 - Ideal.logistic g))

/-- The gradients of the gate and of the other factor at an entry. -/
def grad (dy : (⟨2, ![2048, 2048]⟩ : Shape).Idx → EReal) (w : (⟨2, ![5632, 2048]⟩ : Shape).Idx → EReal) (gu : (⟨3, ![2, 2048, 5632]⟩ : Shape).Idx → EReal) (q : Fin 2) (n : Fin 2048) (r : Fin 5632) : EReal :=
  if q.val = 0 then half (da dy w n r) (gu (ix3 1 n r)) (gu (ix3 0 n r))
  else da dy w n r * gu (ix3 0 n r) * Ideal.logistic (gu (ix3 0 n r))

section
open Cert.Kernel11Ideal Cert.Kernel11Ideal.Gen

theorem index_at : ∀ t : Fin cfg0.N,
    win0_0.index t = ![t.val % 4, 0] ∧ win0_1.index t = ![t.val / 4, 0] ∧ win0_2.index t = ![0, t.val % 4, t.val / 4] ∧ win0_3.index t = ![0, t.val % 4, t.val / 4] :=
  (by decide +kernel : ∀ t : Fin grid0.N, _)

theorem tile9 (w : Vec Ideal S1408x2048 .bf16) (d : Vec Ideal S256x2048 .f32) (g u : Vec Ideal S1x256x1408 .f32) (i : Fin 256) (j : Fin 1408) :
    k0_pay9 w d g u (ix3 0 i j) = half (k0_pay5 w d (ix2 i j)) (u (ix3 0 i j)) (g (ix3 0 i j)) := by
  unfold k0_pay9 k0_pay8 k0_pay7 half
  pointwise

theorem tile3 (p : FVec Ideal S256x1408 .f32) (g u : Vec Ideal S1x256x1408 .f32) (i : Fin 256) (j : Fin 1408) :
    k0_pay3 p g u (ix3 0 i j) = half (p (ix2 i j)) (u (ix3 0 i j)) (g (ix3 0 i j)) := by
  unfold k0_pay3 k0_pay2 k0_pay1 half
  pointwise

theorem tile10 (w : Vec Ideal S1408x2048 .bf16) (d : Vec Ideal S256x2048 .f32) (g : Vec Ideal S1x256x1408 .f32) (i : Fin 256) (j : Fin 1408) :
    k0_pay10 w d g (ix3 0 i j) = k0_pay5 w d (ix2 i j) * g (ix3 0 i j) * Ideal.logistic (g (ix3 0 i j)) := by
  unfold k0_pay10 k0_pay8 k0_pay7
  pointwise

theorem tile4 (p : FVec Ideal S256x1408 .f32) (g : Vec Ideal S1x256x1408 .f32) (i : Fin 256) (j : Fin 1408) :
    k0_pay4 p g (ix3 0 i j) = p (ix2 i j) * g (ix3 0 i j) * Ideal.logistic (g (ix3 0 i j)) := by
  unfold k0_pay4 k0_pay2 k0_pay1
  pointwise

variable (m : (ℓ : Loc nD τ sig) → Buf (Elt Ideal) ℓ) (c : Dev nD)

/-- The gradients on the call's arguments. -/
abbrev gr := grad (m ((c.tc : Thread nD τ).loc main_arg0)) (m ((c.tc : Thread nD τ).loc main_arg1)) (m ((c.tc : Thread nD τ).loc main_arg2))
abbrev dac := da (m ((c.tc : Thread nD τ).loc main_arg0)) (m ((c.tc : Thread nD τ).loc main_arg1))

theorem prod_lo (t : Fin cfg0.N) (i : Fin 256) (j : Fin 1408) (n : Fin 2048) (r : Fin 5632) (hn : n.val = t.val % 4 * 512 + i.val) (hr : r.val = t.val / 4 * 1408 + j.val) :
    k0_pay5 (View.ld (iblk m c 1 t) r0_0) (View.ld (iblk m c 0 t) r0_1) (ix2 i j) = dac m c n r := by
  obtain ⟨e0, e1, e2, e3⟩ := index_at t
  unfold k0_pay5
  pointwise
  refine Mat.prod_congr fun k => ⟨?_, ?_⟩ <;> pointwise <;> blk_ext [iblk, V, e0, e1]

theorem prod_hi (t : Fin cfg0.N) (i : Fin 256) (j : Fin 1408) (n : Fin 2048) (r : Fin 5632) (hn : n.val = t.val % 4 * 512 + (256 + i.val)) (hr : r.val = t.val / 4 * 1408 + j.val) :
    k0_pay6 (View.ld (iblk m c 1 t) r0_0) (View.ld (iblk m c 0 t) r0_2) (ix2 i j) = dac m c n r := by
  obtain ⟨e0, e1, e2, e3⟩ := index_at t
  unfold k0_pay6
  pointwise
  refine Mat.prod_congr fun k => ⟨?_, ?_⟩ <;> pointwise <;> blk_ext [iblk, V, e0, e1]

theorem in_lo (t : Fin cfg0.N) (i : Fin 256) (j : Fin 1408) (n : Fin 2048) (r : Fin 5632) (hn : n.val = t.val % 4 * 512 + i.val) (hr : r.val = t.val / 4 * 1408 + j.val)
    (x : Vec Ideal S2x512x1408 .f32) (hx : x = iblk m c 2 t) :
    (View.ld x r0_3 : Vec Ideal S1x256x1408 .f32) (ix3 0 i j) = (m ((c.tc : Thread nD τ).loc main_arg2)) (ix3 0 n r) ∧ (View.ld x r0_4 : Vec Ideal S1x256x1408 .f32) (ix3 0 i j) = (m ((c.tc : Thread nD τ).loc main_arg2)) (ix3 1 n r) := by
  obtain ⟨e0, e1, e2, e3⟩ := index_at t
  subst hx
  constructor <;> pointwise <;> blk_ext [iblk, V, e2]

theorem in_hi (t : Fin cfg0.N) (i : Fin 256) (j : Fin 1408) (n : Fin 2048) (r : Fin 5632) (hn : n.val = t.val % 4 * 512 + (256 + i.val)) (hr : r.val = t.val / 4 * 1408 + j.val)
    (x : Vec Ideal S2x512x1408 .f32) (hx : x = iblk m c 2 t) :
    (View.ld x r0_5 : Vec Ideal S1x256x1408 .f32) (ix3 0 i j) = (m ((c.tc : Thread nD τ).loc main_arg2)) (ix3 0 n r) ∧ (View.ld x r0_6 : Vec Ideal S1x256x1408 .f32) (ix3 0 i j) = (m ((c.tc : Thread nD τ).loc main_arg2)) (ix3 1 n r) := by
  obtain ⟨e0, e1, e2, e3⟩ := index_at t
  subst hx
  constructor <;> pointwise <;> blk_ext [iblk, V, e2]

theorem gr_gate (n : Fin 2048) (r : Fin 5632) (q : Fin 2) (hq : q.val = 0) {d u g : EReal} (hd : d = dac m c n r) (hu : u = (m ((c.tc : Thread nD τ).loc main_arg2)) (ix3 1 n r)) (hg : g = (m ((c.tc : Thread nD τ).loc main_arg2)) (ix3 0 n r)) :
    half d u g = gr m c q n r := by
  unfold gr grad
  rw [if_pos hq, hd, hu, hg]

theorem gr_up (n : Fin 2048) (r : Fin 5632) (q : Fin 2) (hq : q.val = 1) {d g : EReal} (hd : d = dac m c n r) (hg : g = (m ((c.tc : Thread nD τ).loc main_arg2)) (ix3 0 n r)) :
    d * g * Ideal.logistic g = gr m c q n r := by
  unfold gr grad
  rw [if_neg (by omega), hd, hg]

theorem point (t : Fin cfg0.N) (y : S2x512x1408.Idx) (n : Fin 2048) (r : Fin 5632) (hn : n.val = t.val % 4 * 512 + (y 1).val) (hr : r.val = t.val / 4 * 1408 + (y 2).val) :
    (dats m 0 c).after 3 t y = gr m c (y 0) n r := by
  rw [after0_3]
  unfold out0_3
  unfold k0_pay11
  canon_tiles x h
  all_goals have hn' := hn.trans (congrArg (t.val % 4 * 512 + ·) h1)
  all_goals have hr' := hr.trans (congrArg (t.val / 4 * 1408 + ·) h2)
  · exact (congrArg _ (Mat.idx31 x)).trans ((tile4 _ _ _ _).trans (gr_up m c n r _ (by omega) (prod_hi m c t _ _ n r hn' hr') (in_hi m c t _ _ n r hn' hr' _ rfl).1))
  · exact (congrArg _ (Mat.idx31 x)).trans ((tile3 _ _ _ _ _).trans (gr_gate m c n r _ (by omega) (prod_hi m c t _ _ n r hn' hr') (in_hi m c t _ _ n r hn' hr' _ rfl).2 (in_hi m c t _ _ n r hn' hr' _ rfl).1))
  · exact (congrArg _ (Mat.idx31 x)).trans ((tile10 _ _ _ _ _).trans (gr_up m c n r _ (by omega) (prod_lo m c t _ _ n r hn' hr') (in_lo m c t _ _ n r hn' hr' _ rfl).1))
  · exact (congrArg _ (Mat.idx31 x)).trans ((tile9 _ _ _ _ _ _).trans (gr_gate m c n r _ (by omega) (prod_lo m c t _ _ n r hn' hr') (in_lo m c t _ _ n r hn' hr' _ rfl).2 (in_lo m c t _ _ n r hn' hr' _ rfl).1))

theorem final (q : Fin 2) (n : Fin 2048) (r : Fin 5632) :
    ((dats m 0 c).arrAt 3 cfg0.N : S2x2048x5632.Idx → EReal) (ix3 q n r) = gr m c q n r := by
  have e : (dats m 0 c).arrAt 3 cfg0.N = fun i : S2x2048x5632.Idx => gr m c (i 0) (i 1) (i 2) := by
    refine (dats m 0 c).arrAt_eq_of_covers 3 _ (by decide +kernel) fun t hf y => ?_
    obtain ⟨e0, e1, e2, e3⟩ := index_at t
    have hx : ((((cfg0.win 3).blk t).view.emb y 0 : Fin 2)) = ((cfg0.win 3).xinj (cfg0.grid.coords t) y 0 : Fin 2) := by
      apply Fin.ext
      blk_simp [e3]
    rw [hx]
    refine point m c t _ _ _ ?_ ?_ <;> blk_simp [e3] <;> (try dsimp only) <;> omega
  exact congrFun e (ix3 q n r)

end

section
open Cert.Reference11Ideal Cert.Reference11Ideal.Gen

variable (dy : FVec Ideal S2048x2048 .f32) (w : FVec Ideal S5632x2048 .bf16) (gu : FVec Ideal S2x2048x5632 .f32) (d u g s : FVec Ideal S2048x5632 .f32)

theorem prods (n : Fin 2048) (r : Fin 5632) :
    (Host.dotGeneral (F := Ideal) dot_S2048x2048_S5632x2048_S2048x5632_1_1_0_0_n_n none dy (extf (F := Ideal) .f32 w bitsLt_bf16_f32)) (ix2 n r) = da dy w n r := by
  unfold da
  pointwise

theorem sig (n : Fin 2048) (r : Fin 5632) : (Host.divf (F := Ideal) (broadcastInDim S2048x5632 ![] bcast_S_S2048x5632 (constant (F := Ideal) S_ .f32 0x3F800000#32)) (addf (F := Ideal) (broadcastInDim S2048x5632 ![] bcast_S_S2048x5632 (constant (F := Ideal) S_ .f32 0x3F800000#32)) (Host.exp (F := Ideal) (Host.negf (F := Ideal) g)))) (ix2 n r) = Ideal.logistic (g (ix2 n r)) := by
  unfold Ideal.logistic
  pointwise

theorem gate (n : Fin 2048) (r : Fin 5632) : ((shapeCast _ (extractStridedSlice S1x2048x5632 ![0, 0, 0] gu slices_S2x2048x5632_S1x2048x5632_0_0_0) shapeCasts_S1x2048x5632_S2048x5632) : FVec Ideal S2048x5632 .f32) (ix2 n r) = gu (ix3 0 n r) := by
  pointwise

theorem up (n : Fin 2048) (r : Fin 5632) : ((shapeCast _ (extractStridedSlice S1x2048x5632 ![1, 0, 0] gu slices_S2x2048x5632_S1x2048x5632_1_0_0) shapeCasts_S1x2048x5632_S2048x5632) : FVec Ideal S2048x5632 .f32) (ix2 n r) = gu (ix3 1 n r) := by
  pointwise

/-- The two gradients from the values of the parts. -/
def parts (q : Fin 2) (n : Fin 2048) (r : Fin 5632) : EReal :=
  if q.val = 0 then d (ix2 n r) * u (ix2 n r) * s (ix2 n r)
    + g (ix2 n r) * (d (ix2 n r) * u (ix2 n r)) * (s (ix2 n r) * (Ideal.ofBits .f32 0x3F800000#32 - s (ix2 n r)))
  else g (ix2 n r) * s (ix2 n r) * d (ix2 n r)

theorem ref (q : Fin 2) (n : Fin 2048) (r : Fin 5632) :
    (truncf (F := Ideal) .bf16 (concatenate S2x2048x5632 0 [⟨S1x2048x5632, (broadcastInDim S1x2048x5632 ![1, 2] bcast_S2048x5632_S1x2048x5632_1_2 (addf (F := Ideal) (mulf (F := Ideal) (mulf (F := Ideal) d u) s) (mulf (F := Ideal) (mulf (F := Ideal) g (mulf (F := Ideal) d u)) (mulf (F := Ideal) s (subf (F := Ideal) (broadcastInDim S2048x5632 ![] bcast_S_S2048x5632 (constant (F := Ideal) S_ .f32 0x3F800000#32)) s)))))⟩, ⟨S1x2048x5632, (broadcastInDim S1x2048x5632 ![1, 2] bcast_S2048x5632_S1x2048x5632_1_2 (mulf (F := Ideal) (mulf (F := Ideal) g s) d))⟩] concatenates_S1x2048x5632_S1x2048x5632_S2x2048x5632_d0) bitsLt_bf16_f32) (ix3 q n r) = parts d u g s q n r := by
  unfold parts
  obtain rfl | rfl : q = 0 ∨ q = 1 := by omega
  · pointwise
  · pointwise

/-- The sum over a common real factor. -/
theorem half_eq (d u : ℝ) (g : EReal) :
    (d : EReal) * u * Ideal.logistic g + g * ((d : EReal) * u) * (Ideal.logistic g * (Ideal.ofBits .f32 0x3F800000#32 - Ideal.logistic g)) = half d u g := by
  have b1 : Ideal.ofBits .f32 0x3F800000#32 = ((1 : ℝ) : EReal) := by simp [Ideal.ofBits, Ideal.ieee]; rw [← EReal.coe_mul]; norm_num
  unfold half
  rw [b1]
  induction g using EReal.rec with
  | bot => rw [Ideal.logistic_bot]; simp
  | top =>
    have e : ((1 : ℝ) : EReal) - 1 = 0 := by rw [← EReal.coe_one, ← EReal.coe_sub]; simp
    rw [Ideal.logistic_top, e]
    simp
  | coe g =>
    rw [Ideal.logistic_coe]
    norm_cast
    ring

theorem parts_eq (q : Fin 2) (n : Fin 2048) (r : Fin 5632) (hd : ∃ a : ℝ, da dy w n r = a) (hu : ∃ a : ℝ, gu (ix3 1 n r) = a) :
    parts (Host.dotGeneral (F := Ideal) dot_S2048x2048_S5632x2048_S2048x5632_1_1_0_0_n_n none dy (extf (F := Ideal) .f32 w bitsLt_bf16_f32)) (shapeCast _ (extractStridedSlice S1x2048x5632 ![1, 0, 0] gu slices_S2x2048x5632_S1x2048x5632_1_0_0) shapeCasts_S1x2048x5632_S2048x5632) (shapeCast _ (extractStridedSlice S1x2048x5632 ![0, 0, 0] gu slices_S2x2048x5632_S1x2048x5632_0_0_0) shapeCasts_S1x2048x5632_S2048x5632) (Host.divf (F := Ideal) (broadcastInDim S2048x5632 ![] bcast_S_S2048x5632 (constant (F := Ideal) S_ .f32 0x3F800000#32)) (addf (F := Ideal) (broadcastInDim S2048x5632 ![] bcast_S_S2048x5632 (constant (F := Ideal) S_ .f32 0x3F800000#32)) (Host.exp (F := Ideal) (Host.negf (F := Ideal) (shapeCast _ (extractStridedSlice S1x2048x5632 ![0, 0, 0] gu slices_S2x2048x5632_S1x2048x5632_0_0_0) shapeCasts_S1x2048x5632_S2048x5632))))) q n r = grad dy w gu q n r := by
  unfold parts grad
  rw [prods, sig, gate, up]
  obtain ⟨a, ha⟩ := hd
  obtain ⟨b, hb⟩ := hu
  split
  · rw [ha, hb]
    exact half_eq a b _
  · rw [mul_comm, mul_assoc]

end

section
open Cert.Pre_act_finite

theorem facts : Cert.Pre_act_finite.Facts where
  bitsLt_bf16_f32 := by decide
  transposes_S5632x2048_S2048x5632_1_0 := by decide
  bcast_S_S2048x5632 := by decide
  slices_S2x2048x5632_S1x2048x5632_1_0_0 := by decide
  shapeCasts_S1x2048x5632_S2048x5632 := by decide
  dot_S2048x2048_S2048x5632_S2048x5632_1_0_0_1_n_n_wf := by decide

variable [Cert.Pre_act_finite.Facts] {dy : FVec Ideal S2048x2048 .f32} {w : FVec Ideal S5632x2048 .bf16} {gu : FVec Ideal S2x2048x5632 .f32}

theorem size (x : FVec Ideal S2048x5632 .f32) (n : Fin 2048) (r : Fin 5632)
    (h : cmpf .olt (Host.absf x) (broadcastInDim S2048x5632 ![] Facts.bcast_S_S2048x5632 (constant (F := Ideal) S_ .f32 0x7F800000#32)) (ix2 n r) = 1#1) :
    ∃ a : ℝ, x (ix2 n r) = a := by
  refine Finite.real_of_abs_lt ?_
  rw [← Finite.inf_bits]
  have e : BitVec.ofBool (decide (_ < _)) = 1#1 := h
  rw [WordCmp.ofBool_decide_eq_one_iff] at e
  exact e

/-- The precondition read at an entry. -/
theorem reals (h : fn (F := Ideal) dy w gu = fun _ => 1#1) (n : Fin 2048) (r : Fin 5632) :
    (∃ a : ℝ, da dy w n r = a) ∧ ∃ a : ℝ, gu (ix3 1 n r) = a := by
  unfold fn at h
  dsimp only at h
  obtain ⟨e0, e1⟩ := Finite.and_one (congrFun h (ix2 n r))
  obtain ⟨a, ha⟩ := size _ n r e0
  obtain ⟨b, hb⟩ := size _ n r e1
  refine ⟨⟨a, Eq.trans ?_ ha⟩, ⟨b, Eq.trans ?_ hb⟩⟩
  · unfold da
    pointwise
  · pointwise

end

attribute [local instance] Cert.P11.facts Cert.Kernel11Ideal.Gen.facts Cert.Reference11Ideal.Gen.facts

theorem algebraic : Cert.algebraic_Kernel11Ideal_Reference11Ideal_pre_act_finite := by
  intro m ρ m' ρ' hpre hagree
  refine ⟨fun c => (Cert.Kernel11Ideal.Gen.dats m 0 c).arrAt 3 Cert.Kernel11Ideal.cfg0.N, Cert.Kernel11Ideal.Value.run_blocks (F := Ideal) m ρ, ?_⟩
  refine (θ_run Cert.Reference11Ideal.defs _ _).mono (fun r h c => ?_) (Cert.Reference11Ideal.Value.run (F := Ideal) m' ρ')
  obtain ⟨r0, a0, a1, a2⟩ := h c
  obtain ⟨g0, g1, g2⟩ := hagree c
  refine ⟨r0.trans (Mat.ext3 fun q n r => ?_), a0, a1, a2⟩
  · rw [g0, g1, g2]
    obtain ⟨hd, hu⟩ := reals (hpre c) n r
    exact (ref _ _ _ _ q n r).trans ((parts_eq _ _ _ q n r hd hu).trans (final m c q n r).symm)

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_reference_pre : Cert.quiescent_Reference11Ideal_pre_act_finite := fun m ρ _ => frame_reference m ρ trivial

end Cert.P11
-- ==== Proof.P12.lean ====
/-
  The gradient of the merge of the two branches, through the product with w_out.
-/
module

public import proofs.«01_k».proof.Defs
public import proofs.«01_k».proof.Proof.Mat
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run

@[expose] public section

set_option maxRecDepth 16384

noncomputable section

namespace Cert.P12

open Idealize.ShloMosaic Idealize.ShloMosaic.StableHlo Idealize.SL.Sem

/-- The gradient of the merged branches at an entry. -/
def dm (dx w : (⟨2, ![2048, 2048]⟩ : Shape).Idx → EReal) (n r : Fin 2048) : EReal := ∑ k : Fin 2048, dx (ix2 n k) * w (ix2 r k)

/-- A gate at an entry. -/
def gate (x : (⟨2, ![2048, 11264]⟩ : Shape).Idx → EReal) (b : (⟨2, ![1, 4096]⟩ : Shape).Idx → EReal) (n : Fin 2048) (r : Fin 4096) : EReal :=
  Ideal.logistic (x (ix2 n ⟨7168 + r.val, by omega⟩) + b (ix2 0 r))

/-- The gradient of a gate's logit. -/
def logit (d p g : EReal) : EReal := d * p * g * (Ideal.ofBits .f32 0x3F800000#32 - g)

/-- The gradients of the logits of the two gates at an entry. -/
def dgl (dx w pa pb : (⟨2, ![2048, 2048]⟩ : Shape).Idx → EReal) (x : (⟨2, ![2048, 11264]⟩ : Shape).Idx → EReal) (b : (⟨2, ![1, 4096]⟩ : Shape).Idx → EReal) (q : Fin 2) (n r : Fin 2048) : EReal :=
  if q.val = 0 then logit (dm dx w n r) (pa (ix2 n r)) (gate x b n ⟨r.val, by omega⟩)
  else logit (dm dx w n r) (pb (ix2 n r)) (gate x b n ⟨2048 + r.val, by omega⟩)

section
open Cert.Kernel12Ideal Cert.Kernel12Ideal.Gen

theorem index_at : ∀ t : Fin cfg0.N,
    win0_0.index t = ![t.val % 4, 0] ∧ win0_1.index t = ![t.val / 4, 0] ∧ win0_2.index t = ![t.val % 4, t.val / 4] ∧ win0_3.index t = ![t.val % 4, t.val / 4]
      ∧ win0_4.index t = ![t.val % 4, 7 + t.val / 4] ∧ win0_5.index t = ![t.val % 4, 9 + t.val / 4]
      ∧ win0_6.index t = ![0, t.val / 4] ∧ win0_7.index t = ![0, 2 + t.val / 4]
      ∧ win0_8.index t = ![t.val % 4, t.val / 4] ∧ win0_9.index t = ![t.val % 4, t.val / 4] ∧ win0_10.index t = ![0, t.val % 4, t.val / 4]
      ∧ win0_11.index t = ![0, 0, t.val / 4] :=
  (by decide +kernel : ∀ t : Fin grid0.N, _)

theorem run_lt (t : Fin cfg0.N) : t.val < 8 := lt_of_lt_of_eq t.isLt (by decide +kernel)

theorem tile7 (x : Vec Ideal S512x1024 .f32) (b : Vec Ideal S1x1024 .f32) (y : S512x1024.Idx) : k0_pay7 x b y = Ideal.logistic (x y + b (ix2 0 (y 1))) := by
  rw [Mat.idx2 y]
  unfold k0_pay7
  pointwise

theorem tile8 (v0 : Vec Ideal S512x2048 .f32) (v2 : Vec Ideal S1024x2048 .bf16) (x : Vec Ideal S512x1024 .f32) (b : Vec Ideal S1x1024 .f32) (y : S512x1024.Idx) :
    k0_pay8 v0 v2 x b y = k0_pay6 v0 v2 y * k0_pay7 x b y := by
  unfold k0_pay8
  pointwise

theorem tile9 (v0 : Vec Ideal S512x2048 .f32) (v2 : Vec Ideal S1024x2048 .bf16) (x p : Vec Ideal S512x1024 .f32) (b : Vec Ideal S1x1024 .f32) (y : S512x1024.Idx) :
    k0_pay9 v0 v2 x b p y = logit (k0_pay6 v0 v2 y) (p y) (k0_pay7 x b y) := by
  unfold k0_pay9 logit
  pointwise

theorem tile1 (d g : FVec Ideal S512x1024 .f32) (p : Vec Ideal S512x1024 .f32) (y : S512x1024.Idx) :
    k0_pay1 d g p y = logit (d y) (p y) (g y) := by
  unfold k0_pay1 logit
  pointwise

theorem tile10 (v0 : Vec Ideal S512x2048 .f32) (v2 : Vec Ideal S1024x2048 .bf16) (x p : Vec Ideal S512x1024 .f32) (b : Vec Ideal S1x1024 .f32) (y : S1x512x1024.Idx) :
    k0_pay10 v0 v2 x b p y = k0_pay9 v0 v2 x b p (ix2 (y 1) (y 2)) := by
  rw [Mat.idx31 y]
  unfold k0_pay10
  pointwise

theorem tile2 (d g : FVec Ideal S512x1024 .f32) (p : Vec Ideal S512x1024 .f32) (y : S1x512x1024.Idx) :
    k0_pay2 d g p y = k0_pay1 d g p (ix2 (y 1) (y 2)) := by
  rw [Mat.idx31 y]
  unfold k0_pay2
  pointwise

theorem tile5 (d g : FVec Ideal S512x1024 .f32) (p : Vec Ideal S512x1024 .f32) (a : Vec Ideal S1x1x1024 .f32) (l : Fin 1024) :
    k0_pay5 d g p a (ix3 0 0 l) = a (ix3 0 0 l) + ∑ i : Fin 512, k0_pay1 d g p (ix2 i l) := by
  unfold k0_pay5
  pointwise

theorem tile4 (v0 : Vec Ideal S512x2048 .f32) (v2 : Vec Ideal S1024x2048 .bf16) (x p : Vec Ideal S512x1024 .f32) (b : Vec Ideal S1x1024 .f32) (a : Vec Ideal S1x1x1024 .f32) (l : Fin 1024) :
    k0_pay4 (k0_pay11 v0 v2 x b p) a (ix3 0 0 l) = a (ix3 0 0 l) + ∑ i : Fin 512, k0_pay9 v0 v2 x b p (ix2 i l) := by
  unfold k0_pay4 k0_pay11
  pointwise

/-- A buffer of two rows, and one row of it. -/
abbrev Pieces := List (View.Piece (Elt Ideal) S2x1x1024 .f32)

theorem row_eq {o : ℕ} (inb : ∀ a, ![o, 0, 0] a + ![1, 1, 1024] a ≤ S2x1x1024.size a) (q : Fin 2) (l : Fin 1024) (h : q.val = o) :
    (ix3 q 0 l : S2x1x1024.Idx) = (Rect.unit (s := S2x1x1024) ![o, 0, 0] ![1, 1, 1024] inb).emb (ix3 0 0 l) := by
  funext x
  apply Fin.ext
  rw [ValueKit.rect_emb_unit_val]
  match x with
  | ⟨0, _⟩ => exact h
  | ⟨1, _⟩ => rfl
  | ⟨2, _⟩ => exact (Nat.zero_add _).symm

theorem row_in {o : ℕ} (inb : ∀ a, ![o, 0, 0] a + ![1, 1, 1024] a ≤ S2x1x1024.size a) (W : (⟨3, ![1, 1, 1024]⟩ : Shape).Idx → EReal) (L : Pieces)
    (q : Fin 2) (l : Fin 1024) (h : q.val = o) :
    View.canon (⟨Rect.unit (s := S2x1x1024) ![o, 0, 0] ![1, 1, 1024] inb, W⟩ :: L) (ix3 q 0 l) = W (ix3 0 0 l) := by
  rw [row_eq inb q l h]
  exact View.canon_cons_emb _ _ _ _

theorem row_out {o : ℕ} (inb : ∀ a, ![o, 0, 0] a + ![1, 1, 1024] a ≤ S2x1x1024.size a) (W : (⟨3, ![1, 1, 1024]⟩ : Shape).Idx → EReal) (L : Pieces)
    (q : Fin 2) (l : Fin 1024) (h : q.val ≠ o) :
    View.canon (⟨Rect.unit (s := S2x1x1024) ![o, 0, 0] ![1, 1, 1024] inb, W⟩ :: L) (ix3 q 0 l) = View.canon L (ix3 q 0 l) := by
  refine View.canon_cons_of_not_mem _ _ fun m => ?_
  have m' := (Rect.mem_set_unit (s := S2x1x1024) (off := ![o, 0, 0]) (size := ![1, 1, 1024]) (inb := inb)).mp m (0 : Fin 3)
  have h1 : o ≤ q.val := m'.1
  have h2 : q.val < o + 1 := m'.2
  omega

theorem row_read (v : View sig .tc .vmem S2x1x1024 .f32) {o : ℕ} (inb : ∀ a, ![o, 0, 0] a + ![1, 1, 1024] a ≤ S2x1x1024.size a) (L : Pieces)
    (q : Fin 2) (l : Fin 1024) (h : q.val = o) :
    v.readCov L (Rect.unit (s := S2x1x1024) ![o, 0, 0] ![1, 1, 1024] inb).toLoadRect (ix3 0 0 l) = View.canon L (ix3 q 0 l) := by
  rw [View.readCov_eq_canon', row_eq inb q l h]
  rfl

theorem row_ld (X : Vec Ideal S2x1x1024 .f32) {o : ℕ} (inb : ∀ a, ![o, 0, 0] a + ![1, 1, 1024] a ≤ S2x1x1024.size a)
    (q : Fin 2) (l : Fin 1024) (h : q.val = o) :
    View.ld X (Rect.unit (s := S2x1x1024) ![o, 0, 0] ![1, 1, 1024] inb) (ix3 0 0 l) = X (ix3 q 0 l) := by
  rw [row_eq inb q l h]
  rfl

theorem zeros (inb : ∀ a, ![0, 0, 0] a + S2x1x1024.size a ≤ S2x1x1024.size a) (y : S2x1x1024.Idx) :
    View.canon ([⟨Rect.unit (s := S2x1x1024) ![0, 0, 0] S2x1x1024.size inb, k0_pay3 (F := Ideal)⟩] : Pieces) y = 0 :=
  (congrFun (View.canon_cons_unit_lit inb _ _ (by decide)) y).trans (show Ideal.ofBits .f32 0x00000000#32 = 0 by simp [Ideal.ofBits, Ideal.ieee])

variable (m : (ℓ : Loc nD τ sig) → Buf (Elt Ideal) ℓ) (c : Dev nD)

/-- The three of them on the call's arguments. -/
abbrev dmc := dm (m ((c.tc : Thread nD τ).loc main_arg0)) (m ((c.tc : Thread nD τ).loc main_arg1))
abbrev gt := gate (m ((c.tc : Thread nD τ).loc main_arg4)) (m ((c.tc : Thread nD τ).loc main_arg5))
abbrev dg := dgl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem prod (t : Fin cfg0.N) (y : S512x1024.Idx) (n r : Fin 2048) (hn : n.val = t.val % 4 * 512 + (y 0).val) (hr : r.val = t.val / 4 * 1024 + (y 1).val) :
    k0_pay6 (iblk m c 0 t) (iblk m c 1 t) y = dmc m c n r := by
  obtain ⟨e0, e1, e2, e3, e4, e5, e6, e7, e8, e9, e10, e11⟩ := index_at t
  rw [Mat.idx2 y]
  unfold k0_pay6
  pointwise
  refine Mat.prod_congr fun k => ⟨?_, ?_⟩ <;> blk_ext [iblk, V, e0, e1]

theorem gate_a (t : Fin cfg0.N) (y : S512x1024.Idx) (n : Fin 2048) (r : Fin 4096) (hn : n.val = t.val % 4 * 512 + (y 0).val)
    (hr : r.val = 0 + t.val / 4 * 1024 + (y 1).val) :
    k0_pay7 (iblk m c 4 t) (iblk m c 6 t) y = gt m c n r := by
  obtain ⟨e0, e1, e2, e3, e4, e5, e6, e7, e8, e9, e10, e11⟩ := index_at t
  have hj : (y 1).val < 1024 := (y 1).isLt
  refine (tile7 _ _ _).trans ?_
  rw [Mat.idx2 y]
  refine congrArg Ideal.logistic (congrArg₂ (· + ·) ?_ ?_) <;> blk_ext [iblk, V, e4, e6]

theorem gate_b (t : Fin cfg0.N) (y : S512x1024.Idx) (n : Fin 2048) (r : Fin 4096) (hn : n.val = t.val % 4 * 512 + (y 0).val)
    (hr : r.val = 2048 + t.val / 4 * 1024 + (y 1).val) :
    k0_pay7 (iblk m c 5 t) (iblk m c 7 t) y = gt m c n r := by
  obtain ⟨e0, e1, e2, e3, e4, e5, e6, e7, e8, e9, e10, e11⟩ := index_at t
  have hj : (y 1).val < 1024 := (y 1).isLt
  refine (tile7 _ _ _).trans ?_
  rw [Mat.idx2 y]
  refine congrArg Ideal.logistic (congrArg₂ (· + ·) ?_ ?_) <;> blk_ext [iblk, V, e5, e7]

theorem in_a (t : Fin cfg0.N) (y : S512x1024.Idx) (n r : Fin 2048) (hn : n.val = t.val % 4 * 512 + (y 0).val) (hr : r.val = t.val / 4 * 1024 + (y 1).val)
    (p : Vec Ideal S512x1024 .f32) (hp : p = iblk m c 2 t) : p y = (m ((c.tc : Thread nD τ).loc main_arg2)) (ix2 n r) := by
  obtain ⟨e0, e1, e2, e3, e4, e5, e6, e7, e8, e9, e10, e11⟩ := index_at t
  subst hp
  rw [Mat.idx2 y]
  blk_ext [iblk, V, e2]

theorem in_b (t : Fin cfg0.N) (y : S512x1024.Idx) (n r : Fin 2048) (hn : n.val = t.val % 4 * 512 + (y 0).val) (hr : r.val = t.val / 4 * 1024 + (y 1).val)
    (p : Vec Ideal S512x1024 .f32) (hp : p = iblk m c 3 t) : p y = (m ((c.tc : Thread nD τ).loc main_arg3)) (ix2 n r) := by
  obtain ⟨e0, e1, e2, e3, e4, e5, e6, e7, e8, e9, e10, e11⟩ := index_at t
  subst hp
  rw [Mat.idx2 y]
  blk_ext [iblk, V, e3]

theorem logit_a (t : Fin cfg0.N) (y : S512x1024.Idx) (n r : Fin 2048) (hn : n.val = t.val % 4 * 512 + (y 0).val) (hr : r.val = t.val / 4 * 1024 + (y 1).val) :
    k0_pay9 (iblk m c 0 t) (iblk m c 1 t) (iblk m c 4 t) (iblk m c 6 t) (iblk m c 2 t) y = dg m c 0 n r := by
  refine (tile9 _ _ _ _ _ _).trans ?_
  unfold dg dgl
  rw [if_pos (by decide : (0 : Fin 2).val = 0), prod m c t y n r hn hr, in_a m c t y n r hn hr _ rfl, gate_a m c t y n ⟨r.val, by omega⟩ hn (by dsimp only; omega)]

theorem logit_b (t : Fin cfg0.N) (y : S512x1024.Idx) (n r : Fin 2048) (hn : n.val = t.val % 4 * 512 + (y 0).val) (hr : r.val = t.val / 4 * 1024 + (y 1).val) :
    k0_pay1 (k0_pay6 (iblk m c 0 t) (iblk m c 1 t)) (k0_pay7 (iblk m c 5 t) (iblk m c 7 t)) (iblk m c 3 t) y = dg m c 1 n r := by
  refine (tile1 _ _ _ _).trans ?_
  unfold dg dgl
  rw [if_neg (by decide), prod m c t y n r hn hr, in_b m c t y n r hn hr _ rfl, gate_b m c t y n ⟨2048 + r.val, by omega⟩ hn (by dsimp only; omega)]

theorem point8 (t : Fin cfg0.N) (y : S512x1024.Idx) : (outsAt0 m c t.val t.isLt).1 y = k0_pay8 (iblk m c 0 t) (iblk m c 1 t) (iblk m c 4 t) (iblk m c 6 t) y := by
  by_cases h : t.val % 4 = 0
  · rw [outsAt0_A m c t h]
    frame_out
  · rw [outsAt0_B m c t h]
    frame_out

theorem point9 (t : Fin cfg0.N) (y : S512x1024.Idx) : (outsAt0 m c t.val t.isLt).2.1 y = k0_pay8 (iblk m c 0 t) (iblk m c 1 t) (iblk m c 5 t) (iblk m c 7 t) y := by
  by_cases h : t.val % 4 = 0
  · rw [outsAt0_A m c t h]
    frame_out
    rfl
  · rw [outsAt0_B m c t h]
    frame_out
    rfl

theorem point10 (t : Fin cfg0.N) (y : S2x512x1024.Idx) (n r : Fin 2048) (hn : n.val = t.val % 4 * 512 + (y 1).val) (hr : r.val = t.val / 4 * 1024 + (y 2).val) :
    (outsAt0 m c t.val t.isLt).2.2.1 y = dg m c (y 0) n r := by
  have e : (outsAt0 m c t.val t.isLt).2.2.1 y = View.canon
      ([⟨Rect.unit (s := S2x512x1024) ![1, 0, 0] ![1, 512, 1024] inb_S2x512x1024_S1x512x1024_1_0_0,
          k0_pay2 (k0_pay6 (iblk m c 0 t) (iblk m c 1 t)) (k0_pay7 (iblk m c 5 t) (iblk m c 7 t)) (iblk m c 3 t)⟩,
        ⟨Rect.unit (s := S2x512x1024) ![0, 0, 0] ![1, 512, 1024] inb_S2x512x1024_S1x512x1024_0_0_0,
          k0_pay10 (iblk m c 0 t) (iblk m c 1 t) (iblk m c 4 t) (iblk m c 6 t) (iblk m c 2 t)⟩] : List (View.Piece (Elt Ideal) S2x512x1024 .f32)) y := by
    by_cases h : t.val % 4 = 0
    · rw [outsAt0_A m c t h]
      frame_out
      rfl
    · rw [outsAt0_B m c t h]
      frame_out
      rfl
  rw [e]
  canon_tiles x h
  · rw [show y 0 = (1 : Fin 2) from Fin.ext (by show (y 0).val = 1; omega)]
    exact (tile2 _ _ _ _).trans (logit_b m c t _ _ _ (hn.trans (congrArg (t.val % 4 * 512 + ·) h1)) (hr.trans (congrArg (t.val / 4 * 1024 + ·) h2)))
  · rw [show y 0 = (0 : Fin 2) from Fin.ext (by show (y 0).val = 0; omega)]
    exact (tile10 _ _ _ _ _ _).trans (logit_a m c t _ _ _ (hn.trans (congrArg (t.val % 4 * 512 + ·) h1)) (hr.trans (congrArg (t.val / 4 * 1024 + ·) h2)))

/-- What a grid point adds to the gradient of the bias. -/
def step (t : Fin cfg0.N) (q : Fin 2) (l : Fin 1024) : EReal :=
  ∑ i : Fin 512, dg m c q ⟨t.val % 4 * 512 + i.val, by omega⟩ ⟨t.val / 4 * 1024 + l.val, by have := run_lt t; omega⟩

theorem sum_a (t : Fin cfg0.N) (l : Fin 1024) :
    ∑ i : Fin 512, k0_pay9 (iblk m c 0 t) (iblk m c 1 t) (iblk m c 4 t) (iblk m c 6 t) (iblk m c 2 t) (ix2 i l) = step m c t 0 l :=
  Finset.sum_congr rfl fun i _ => logit_a m c t (ix2 i l) _ _ rfl rfl

theorem sum_b (t : Fin cfg0.N) (l : Fin 1024) :
    ∑ i : Fin 512, k0_pay1 (k0_pay6 (iblk m c 0 t) (iblk m c 1 t)) (k0_pay7 (iblk m c 5 t) (iblk m c 7 t)) (iblk m c 3 t) (ix2 i l) = step m c t 1 l :=
  Finset.sum_congr rfl fun i _ => logit_b m c t (ix2 i l) _ _ rfl rfl

theorem stepA (t : Fin cfg0.N) (h : t.val % 4 = 0) (q : Fin 2) (l : Fin 1024) :
    (outsAt0 m c t.val t.isLt).2.2.2 (ix3 q 0 l) = 0 + step m c t q l := by
  rw [outsAt0_A m c t h]
  frame_out
  obtain rfl | rfl : q = 0 ∨ q = 1 := by omega
  · rw [row_out (o := 1) _ _ _ 0 l (by decide), row_in (o := 0) _ _ _ 0 l rfl]
    refine (tile4 _ _ _ _ _ _ _).trans (congrArg₂ (· + ·) ?_ (sum_a m c t l))
    exact (row_read _ (o := 0) _ _ 0 l rfl).trans (zeros _ _)
  · rw [row_in (o := 1) _ _ _ 1 l rfl]
    refine (tile5 _ _ _ _ _).trans (congrArg₂ (· + ·) ?_ (sum_b m c t l))
    exact (row_read _ (o := 1) _ _ 1 l rfl).trans ((row_out (o := 0) _ _ _ 1 l (by decide)).trans (zeros _ _))

theorem stepB (t : Fin cfg0.N) (h : ¬t.val % 4 = 0) (q : Fin 2) (l : Fin 1024) :
    (outsAt0 m c t.val t.isLt).2.2.2 (ix3 q 0 l) = (outsAt0 m c (t.val - 1) (Nat.lt_of_le_of_lt (Nat.sub_le _ _) t.isLt)).2.2.2 (ix3 q 0 l) + step m c t q l := by
  rw [outsAt0_B m c t h]
  frame_out
  obtain rfl | rfl : q = 0 ∨ q = 1 := by omega
  · rw [row_out (o := 1) _ _ _ 0 l (by decide), row_in (o := 0) _ _ _ 0 l rfl]
    refine (tile4 _ _ _ _ _ _ _).trans (congrArg₂ (· + ·) ?_ (sum_a m c t l))
    exact row_ld _ (o := 0) _ 0 l rfl
  · rw [row_in (o := 1) _ _ _ 1 l rfl]
    refine (tile5 _ _ _ _ _).trans (congrArg₂ (· + ·) ?_ (sum_b m c t l))
    exact row_ld _ (o := 1) _ 1 l rfl

/-- A run of four points ends with the sum over all rows. -/
theorem run_sum (t : Fin cfg0.N) (h : t.val % 4 = 3) (q : Fin 2) (l : Fin 1024) (r : Fin 2048) (hr : r.val = t.val / 4 * 1024 + l.val) :
    (outsAt0 m c t.val t.isLt).2.2.2 (ix3 q 0 l) = ∑ n : Fin 2048, dg m c q n r := by
  refine (Pipeline.eq_sum_fin_of_reset_step_of_flush (M := EReal) (fun n h => (outsAt0 m c n h).2.2.2 (ix3 q 0 l)) 4 0 (fun t => step m c t q l)
    (fun t h => stepA m c t h q l) (fun t h => stepB m c t h q l) t h).trans ((zero_add _).trans ?_)
  refine Fin.sum_mul_add_congr fun s k hl => ?_
  have hs := s.isLt
  refine congrArg₂ (dg m c q) (Fin.ext ?_) (Fin.ext ?_) <;> (try dsimp only) <;> omega

theorem final8 (n r : Fin 2048) :
    ((dats m 0 c).arrAt 8 cfg0.N : S2048x2048.Idx → EReal) (ix2 n r) = dmc m c n r * gt m c n ⟨r.val, by omega⟩ := by
  have e : (dats m 0 c).arrAt 8 cfg0.N = fun i : S2048x2048.Idx =>
      dmc m c (i 0) (i 1) * gt m c (i 0) ⟨(i 1).val, by have h1 : (i 1).val < 2048 := (i 1).isLt; omega⟩ := by
    refine (dats m 0 c).arrAt_eq_of_covers 8 _ (by decide +kernel) fun t hf y => ?_
    obtain ⟨e0, e1, e2, e3, e4, e5, e6, e7, e8, e9, e10, e11⟩ := index_at t
    blk_simp
    rw [after0_8]
    refine (point8 m c t _).trans ((tile8 _ _ _ _ _).trans (congrArg₂ (· * ·) (prod m c t _ _ _ ?_ ?_) (gate_a m c t _ _ _ ?_ ?_))) <;> blk_simp [e8] <;> (try dsimp only) <;> omega
  exact congrFun e (ix2 n r)

theorem final9 (n r : Fin 2048) :
    ((dats m 0 c).arrAt 9 cfg0.N : S2048x2048.Idx → EReal) (ix2 n r) = dmc m c n r * gt m c n ⟨2048 + r.val, by omega⟩ := by
  have e : (dats m 0 c).arrAt 9 cfg0.N = fun i : S2048x2048.Idx =>
      dmc m c (i 0) (i 1) * gt m c (i 0) ⟨2048 + (i 1).val, by have h1 : (i 1).val < 2048 := (i 1).isLt; omega⟩ := by
    refine (dats m 0 c).arrAt_eq_of_covers 9 _ (by decide +kernel) fun t hf y => ?_
    obtain ⟨e0, e1, e2, e3, e4, e5, e6, e7, e8, e9, e10, e11⟩ := index_at t
    blk_simp
    rw [after0_9]
    refine (point9 m c t _).trans ((tile8 _ _ _ _ _).trans (congrArg₂ (· * ·) (prod m c t _ _ _ ?_ ?_) (gate_b m c t _ _ _ ?_ ?_))) <;> blk_simp [e9] <;> (try dsimp only) <;> omega
  exact congrFun e (ix2 n r)

theorem final10 (q : Fin 2) (n r : Fin 2048) :
    ((dats m 0 c).arrAt 10 cfg0.N : S2x2048x2048.Idx → EReal) (ix3 q n r) = dg m c q n r := by
  have e : (dats m 0 c).arrAt 10 cfg0.N = fun i : S2x2048x2048.Idx => dg m c (i 0) (i 1) (i 2) := by
    refine (dats m 0 c).arrAt_eq_of_covers 10 _ (by decide +kernel) fun t hf y => ?_
    obtain ⟨e0, e1, e2, e3, e4, e5, e6, e7, e8, e9, e10, e11⟩ := index_at t
    rw [after0_10]
    have hx : ((((cfg0.win 10).blk t).view.emb y 0 : Fin 2)) = ((cfg0.win 10).xinj (cfg0.grid.coords t) y 0 : Fin 2) := by
      apply Fin.ext
      blk_simp [e10]
    rw [hx]
    refine point10 m c t _ _ _ ?_ ?_ <;> blk_simp [e10] <;> (try dsimp only) <;> omega
  exact congrFun e (ix3 q n r)

theorem final11 (q : Fin 2) (r : Fin 2048) :
    ((dats m 0 c).arrAt 11 cfg0.N : S2x1x2048.Idx → EReal) (ix3 q 0 r) = ∑ n : Fin 2048, dg m c q n r := by
  have e : (dats m 0 c).arrAt 11 cfg0.N = fun i : S2x1x2048.Idx => ∑ n : Fin 2048, dg m c (i 0) n (i 2) := by
    refine (dats m 0 c).arrAt_eq_of_covers 11 _ (by decide +kernel) fun t hf y => ?_
    obtain ⟨e0, e1, e2, e3, e4, e5, e6, e7, e8, e9, e10, e11⟩ := index_at t
    rw [after0_11]
    have h0 : (y 0).val < 2 := (y 0).isLt
    have h2 : (y 2).val < 1024 := (y 2).isLt
    have hx : (cfg0.win 11).xinj (cfg0.grid.coords t) y = ix3 (⟨(y 0).val, h0⟩ : Fin 2) 0 (⟨(y 2).val, h2⟩ : Fin 1024) := by
      funext a
      apply Fin.ext
      match a with
      | ⟨0, _⟩ => rfl
      | ⟨1, _⟩ => exact Nat.lt_one_iff.mp (y 1).isLt
      | ⟨2, _⟩ => rfl
    have hy : ((((cfg0.win 11).blk t).view.emb y 0 : Fin 2)) = ⟨(y 0).val, h0⟩ := by
      apply Fin.ext
      blk_simp [e11]
    rw [hx, hy]
    refine run_sum m c t ((flush0_11 t).mp hf) _ _ _ ?_
    blk_simp [e11]
  exact congrFun e (ix3 q 0 r)

end

section
open Cert.Reference12Ideal Cert.Reference12Ideal.Gen

variable (dx : FVec Ideal S2048x2048 .f32) (w : FVec Ideal S2048x2048 .bf16) (d pa pb : FVec Ideal S2048x2048 .f32)
variable (g : FVec Ideal S2048x4096 .f32) (x : FVec Ideal S2048x11264 .f32) (b : FVec Ideal S1x4096 .f32)

theorem gates (n : Fin 2048) (r : Fin 4096) :
    (Host.divf (F := Ideal) (broadcastInDim S2048x4096 ![] bcast_S_S2048x4096 (constant (F := Ideal) S_ .f32 0x3F800000#32)) (addf (F := Ideal) (broadcastInDim S2048x4096 ![] bcast_S_S2048x4096 (constant (F := Ideal) S_ .f32 0x3F800000#32)) (Host.exp (F := Ideal) (Host.negf (F := Ideal) (addf (F := Ideal) (extractStridedSlice S2048x4096 ![0, 7168] x slices_S2048x11264_S2048x4096_0_7168) (broadcastInDim S2048x4096 ![0, 1] bcast_S1x4096_S2048x4096_0_1 (broadcastInDim S1x4096 ![1] bcast_S4096_S1x4096_1 (shapeCast _ b shapeCasts_S1x4096_S4096)))))))) (ix2 n r)
      = gate x b n r := by
  unfold gate Ideal.logistic
  pointwise

theorem prods (n r : Fin 2048) :
    (Host.dotGeneral (F := Ideal) dot_S2048x2048_S2048x2048_S2048x2048_1_1_0_0_n_n none dx (extf (F := Ideal) .f32 w bitsLt_bf16_f32)) (ix2 n r) = dm dx w n r := by
  unfold dm
  pointwise

/-- The gradients of the logits from the product's and the gates' values. -/
def lg (q : Fin 2) (n r : Fin 2048) : EReal :=
  if q.val = 0 then logit (d (ix2 n r)) (pa (ix2 n r)) (g (ix2 n ⟨r.val, by omega⟩))
  else logit (d (ix2 n r)) (pb (ix2 n r)) (g (ix2 n ⟨2048 + r.val, by omega⟩))

theorem ref8 (n r : Fin 2048) :
    (truncf (F := Ideal) .bf16 (mulf (F := Ideal) (extractStridedSlice S2048x2048 ![0, 0] g slices_S2048x4096_S2048x2048_0_0) d) bitsLt_bf16_f32) (ix2 n r)
      = d (ix2 n r) * g (ix2 n ⟨r.val, by omega⟩) := by
  pointwise
  exact mul_comm _ _

theorem ref9 (n r : Fin 2048) :
    (truncf (F := Ideal) .bf16 (mulf (F := Ideal) (extractStridedSlice S2048x2048 ![0, 2048] g slices_S2048x4096_S2048x2048_0_2048) d) bitsLt_bf16_f32) (ix2 n r)
      = d (ix2 n r) * g (ix2 n ⟨2048 + r.val, by omega⟩) := by
  pointwise
  exact mul_comm _ _

theorem ref10 (q : Fin 2) (n r : Fin 2048) :
    (truncf (F := Ideal) .bf16 (concatenate S2x2048x2048 0 [⟨S1x2048x2048, (broadcastInDim S1x2048x2048 ![1, 2] bcast_S2048x2048_S1x2048x2048_1_2 (extractStridedSlice S2048x2048 ![0, 0] (mulf (F := Ideal) (concatenate S2048x4096 1 [⟨S2048x2048, (mulf (F := Ideal) d pa)⟩, ⟨S2048x2048, (mulf (F := Ideal) d pb)⟩] concatenates_S2048x2048_S2048x2048_S2048x4096_d1) (mulf (F := Ideal) g (subf (F := Ideal) (broadcastInDim S2048x4096 ![] bcast_S_S2048x4096 (constant (F := Ideal) S_ .f32 0x3F800000#32)) g))) slices_S2048x4096_S2048x2048_0_0))⟩, ⟨S1x2048x2048, (broadcastInDim S1x2048x2048 ![1, 2] bcast_S2048x2048_S1x2048x2048_1_2 (extractStridedSlice S2048x2048 ![0, 2048] (mulf (F := Ideal) (concatenate S2048x4096 1 [⟨S2048x2048, (mulf (F := Ideal) d pa)⟩, ⟨S2048x2048, (mulf (F := Ideal) d pb)⟩] concatenates_S2048x2048_S2048x2048_S2048x4096_d1) (mulf (F := Ideal) g (subf (F := Ideal) (broadcastInDim S2048x4096 ![] bcast_S_S2048x4096 (constant (F := Ideal) S_ .f32 0x3F800000#32)) g))) slices_S2048x4096_S2048x2048_0_2048))⟩] concatenates_S1x2048x2048_S1x2048x2048_S2x2048x2048_d0) bitsLt_bf16_f32) (ix3 q n r)
      = lg d pa pb g q n r := by
  unfold lg logit
  obtain rfl | rfl : q = 0 ∨ q = 1 := by omega
  · pointwise
    exact (mul_assoc _ _ _).symm
  · pointwise
    exact (mul_assoc _ _ _).symm

theorem ref11 (q : Fin 2) (r : Fin 2048) :
    (shapeCast _ (broadcastInDim S1x4096 ![1] bcast_S4096_S1x4096_1 (Host.reduceAdd (F := Ideal) (shapeCast _ (Host.reduceAdd (F := Ideal) (mulf (F := Ideal) (concatenate S2048x4096 1 [⟨S2048x2048, (mulf (F := Ideal) d pa)⟩, ⟨S2048x2048, (mulf (F := Ideal) d pb)⟩] concatenates_S2048x2048_S2048x2048_S2048x4096_d1) (mulf (F := Ideal) g (subf (F := Ideal) (broadcastInDim S2048x4096 ![] bcast_S_S2048x4096 (constant (F := Ideal) S_ .f32 0x3F800000#32)) g))) (constant (F := Ideal) S_ .f32 0x00000000#32) reducesTo_S2048x4096_S4096_d0 h_S_) shapeCasts_S4096_S1x4096) (constant (F := Ideal) S_ .f32 0x00000000#32) reducesTo_S1x4096_S4096_d0 h_S_)) shapeCasts_S1x4096_S2x1x2048) (ix3 q 0 r)
      = ∑ n : Fin 2048, lg d pa pb g q n r := by
  unfold lg logit
  obtain rfl | rfl : q = 0 ∨ q = 1 := by omega
  · pointwise
    refine (Fin.sum_univ_one _).trans (Finset.sum_congr rfl fun n _ => ?_)
    exact (mul_assoc _ _ _).symm
  · pointwise
    refine (Fin.sum_univ_one _).trans (Finset.sum_congr rfl fun n _ => ?_)
    exact (mul_assoc _ _ _).symm

theorem lg_eq (q : Fin 2) (n r : Fin 2048) :
    lg (Host.dotGeneral (F := Ideal) dot_S2048x2048_S2048x2048_S2048x2048_1_1_0_0_n_n none dx (extf (F := Ideal) .f32 w bitsLt_bf16_f32)) pa pb
      (Host.divf (F := Ideal) (broadcastInDim S2048x4096 ![] bcast_S_S2048x4096 (constant (F := Ideal) S_ .f32 0x3F800000#32)) (addf (F := Ideal) (broadcastInDim S2048x4096 ![] bcast_S_S2048x4096 (constant (F := Ideal) S_ .f32 0x3F800000#32)) (Host.exp (F := Ideal) (Host.negf (F := Ideal) (addf (F := Ideal) (extractStridedSlice S2048x4096 ![0, 7168] x slices_S2048x11264_S2048x4096_0_7168) (broadcastInDim S2048x4096 ![0, 1] bcast_S1x4096_S2048x4096_0_1 (broadcastInDim S1x4096 ![1] bcast_S4096_S1x4096_1 (shapeCast _ b shapeCasts_S1x4096_S4096)))))))) q n r
      = dgl dx w pa pb x b q n r := by
  unfold lg dgl
  rw [prods, gates, gates]

end

attribute [local instance] Cert.Kernel12Ideal.Gen.facts Cert.Reference12Ideal.Gen.facts

theorem algebraic : Cert.algebraic_Kernel12Ideal_Reference12Ideal := by
  intro m ρ m' ρ' hpre hagree
  refine ⟨fun c => (Cert.Kernel12Ideal.Gen.dats m 0 c).arrAt 8 Cert.Kernel12Ideal.cfg0.N, fun c => (Cert.Kernel12Ideal.Gen.dats m 0 c).arrAt 9 Cert.Kernel12Ideal.cfg0.N, fun c => (Cert.Kernel12Ideal.Gen.dats m 0 c).arrAt 10 Cert.Kernel12Ideal.cfg0.N, fun c => (Cert.Kernel12Ideal.Gen.dats m 0 c).arrAt 11 Cert.Kernel12Ideal.cfg0.N, Cert.Kernel12Ideal.Value.run_blocks (F := Ideal) m ρ, ?_⟩
  refine (θ_run Cert.Reference12Ideal.defs _ _).mono (fun r h c => ?_) (Cert.Reference12Ideal.Value.run (F := Ideal) m' ρ')
  obtain ⟨r0, r1, r2, r3, a0, a1, a2, a3, a4, a5⟩ := h c
  obtain ⟨g0, g1, g2, g3, g4, g5⟩ := hagree c
  refine ⟨r0.trans (Mat.ext2 fun n r => ?_), r1.trans (Mat.ext2 fun n r => ?_), r2.trans (Mat.ext3 fun q n r => ?_), r3.trans (Mat.ext3 fun q u r => ?_), a0, a1, a2, a3, a4, a5⟩
  · rw [g0, g1, g4, g5]
    exact (ref8 _ _ n r).trans ((congrArg₂ (· * ·) (prods _ _ n r) (gates _ _ n _)).trans (final8 m c n r).symm)
  · rw [g0, g1, g4, g5]
    exact (ref9 _ _ n r).trans ((congrArg₂ (· * ·) (prods _ _ n r) (gates _ _ n _)).trans (final9 m c n r).symm)
  · rw [g0, g1, g2, g3, g4, g5]
    exact (ref10 _ _ _ _ q n r).trans ((lg_eq _ _ _ _ _ _ q n r).trans (final10 m c q n r).symm)
  · rw [g0, g1, g2, g3, g4, g5]
    obtain rfl : u = 0 := Subsingleton.elim _ _
    exact (ref11 _ _ _ _ q r).trans ((Finset.sum_congr rfl fun n _ => lg_eq _ _ _ _ _ _ q n r).trans (final11 m c q r).symm)

theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

end Cert.P12
-- ==== Proof.P13.lean ====
/-
  The product with w_ffn_in and the SwiGLU: the kernel's tiles of the gate and of the up half, and of the activation.
-/
module

public import proofs.«01_k».proof.Defs
public import proofs.«01_k».proof.Proof.Mat
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run

@[expose] public section

set_option maxRecDepth 16384

noncomputable section

namespace Cert.P13

open Idealize.ShloMosaic Idealize.ShloMosaic.StableHlo Idealize.SL.Sem

/-- The product at an entry. -/
def spec (x : (⟨2, ![2048, 2048]⟩ : Shape).Idx → EReal) (y : (⟨3, ![8, 2048, 1408]⟩ : Shape).Idx → EReal) (n : Fin 2048) (r : Fin 11264) : EReal :=
  ∑ k : Fin 2048, x (ix2 n k) * y (ix3 ⟨r.val / 1408, by omega⟩ k ⟨r.val % 1408, by omega⟩)

/-- The gate times its logistic, times the up half. -/
def act (g u : EReal) : EReal := g * Ideal.logistic g * u

section
open Cert.Kernel13Ideal Cert.Kernel13Ideal.Gen

theorem tile3 (x0 : Vec Ideal S512x2048 .bf16) (x1 : Vec Ideal S1x2048x1408 .bf16) (x : S1x512x1408.Idx) :
    k0_pay3 x0 x1 x = k0_pay1 x0 x1 (ix2 (x 1) (x 2)) := by
  rw [Mat.idx31 x]
  unfold k0_pay3
  pointwise

theorem tile4 (x0 : Vec Ideal S512x2048 .bf16) (x1 : Vec Ideal S1x2048x1408 .bf16) (x : S1x512x1408.Idx) :
    k0_pay4 x0 x1 x = k0_pay2 x0 x1 (ix2 (x 1) (x 2)) := by
  rw [Mat.idx31 x]
  unfold k0_pay4
  pointwise

theorem tile5 (x0 : Vec Ideal S512x2048 .bf16) (x1 x2 : Vec Ideal S1x2048x1408 .bf16) (x : S512x1408.Idx) :
    k0_pay5 x0 x1 x2 x = act (k0_pay1 x0 x1 (ix2 (x 0) (x 1))) (k0_pay2 x0 x2 (ix2 (x 0) (x 1))) := by
  rw [Mat.idx2 x]
  unfold k0_pay5 act
  pointwise

theorem index_at : ∀ t : Fin cfg0.N,
    win0_0.index t = ![t.val % 4, 0] ∧ win0_1.index t = ![t.val / 4, 0, 0] ∧ win0_2.index t = ![t.val / 4 + 4, 0, 0]
      ∧ win0_3.index t = ![0, t.val % 4, t.val / 4] ∧ win0_4.index t = ![t.val % 4, t.val / 4] :=
  (by decide +kernel : ∀ t : Fin grid0.N, _)

variable (m : (ℓ : Loc nD τ sig) → Buf (Elt Ideal) ℓ) (c : Dev nD)

theorem left (t : Fin cfg0.N) (i : Fin 512) (j : Fin 1408) (n : Fin 2048) (r : Fin 11264) (hn : n.val = t.val % 4 * 512 + i.val)
    (hr : r.val = t.val / 4 * 1408 + j.val) :
    k0_pay1 (iblk m c 0 t) (iblk m c 1 t) (ix2 i j)
      = spec (m ((c.tc : Thread nD τ).loc main_arg0)) (m ((c.tc : Thread nD τ).loc main_arg1)) n r := by
  obtain ⟨e0, e1, e2, e3, e4⟩ := index_at t
  have hj := j.isLt
  unfold k0_pay1
  pointwise
  refine Mat.prod_congr fun k => ⟨?_, ?_⟩ <;> blk_ext [iblk, V, e0, e1]

theorem right (t : Fin cfg0.N) (i : Fin 512) (j : Fin 1408) (n : Fin 2048) (r : Fin 11264) (hn : n.val = t.val % 4 * 512 + i.val)
    (hr : r.val = 5632 + t.val / 4 * 1408 + j.val) :
    k0_pay2 (iblk m c 0 t) (iblk m c 2 t) (ix2 i j)
      = spec (m ((c.tc : Thread nD τ).loc main_arg0)) (m ((c.tc : Thread nD τ).loc main_arg1)) n r := by
  obtain ⟨e0, e1, e2, e3, e4⟩ := index_at t
  have hj := j.isLt
  unfold k0_pay2
  pointwise
  refine Mat.prod_congr fun k => ⟨?_, ?_⟩ <;> blk_ext [iblk, V, e0, e2]

theorem final3 (a : Fin 2) (n : Fin 2048) (r : Fin 5632) :
    ((dats m 0 c).arrAt 3 cfg0.N : S2x2048x5632.Idx → EReal) (ix3 a n r)
      = spec (m ((c.tc : Thread nD τ).loc main_arg0)) (m ((c.tc : Thread nD τ).loc main_arg1)) n ⟨a.val * 5632 + r.val, by omega⟩ := by
  have e : (dats m 0 c).arrAt 3 cfg0.N = fun i : S2x2048x5632.Idx =>
      spec (m ((c.tc : Thread nD τ).loc main_arg0)) (m ((c.tc : Thread nD τ).loc main_arg1)) (i 1)
        ⟨(i 0).val * 5632 + (i 2).val, by have h0 : (i 0).val < 2 := (i 0).isLt; have h2 : (i 2).val < 5632 := (i 2).isLt; omega⟩ := by
    refine (dats m 0 c).arrAt_eq_of_covers 3 _ (by decide +kernel) fun t hf y => ?_
    obtain ⟨e0, e1, e2, e3, e4⟩ := index_at t
    blk_simp
    rw [after0_3]
    frame_out
    canon_tiles x h
    · refine (tile4 _ _ _).trans (right m c t _ _ _ _ ?_ ?_) <;> blk_simp [e3] <;> (try dsimp only) <;> omega
    · refine (tile3 _ _ _).trans (left m c t _ _ _ _ ?_ ?_) <;> blk_simp [e3] <;> (try dsimp only) <;> omega
  exact congrFun e (ix3 a n r)

theorem final4 (n : Fin 2048) (r : Fin 5632) :
    ((dats m 0 c).arrAt 4 cfg0.N : S2048x5632.Idx → EReal) (ix2 n r)
      = act (spec (m ((c.tc : Thread nD τ).loc main_arg0)) (m ((c.tc : Thread nD τ).loc main_arg1)) n ⟨r.val, by omega⟩)
          (spec (m ((c.tc : Thread nD τ).loc main_arg0)) (m ((c.tc : Thread nD τ).loc main_arg1)) n ⟨5632 + r.val, by omega⟩) := by
  have e : (dats m 0 c).arrAt 4 cfg0.N = fun i : S2048x5632.Idx =>
      act (spec (m ((c.tc : Thread nD τ).loc main_arg0)) (m ((c.tc : Thread nD τ).loc main_arg1)) (i 0)
          ⟨(i 1).val, by have h1 : (i 1).val < 5632 := (i 1).isLt; omega⟩)
        (spec (m ((c.tc : Thread nD τ).loc main_arg0)) (m ((c.tc : Thread nD τ).loc main_arg1)) (i 0)
          ⟨5632 + (i 1).val, by have h1 : (i 1).val < 5632 := (i 1).isLt; omega⟩) := by
    refine (dats m 0 c).arrAt_eq_of_covers 4 _ (by decide +kernel) fun t hf y => ?_
    obtain ⟨e0, e1, e2, e3, e4⟩ := index_at t
    blk_simp
    rw [after0_4]
    frame_out
    refine (tile5 _ _ _ _).trans (congrArg₂ act (left m c t _ _ _ _ ?_ ?_) (right m c t _ _ _ _ ?_ ?_)) <;> blk_simp [e4] <;> (try dsimp only) <;> omega
  exact congrFun e (ix2 n r)

end

section
open Cert.Reference13Ideal Cert.Reference13Ideal.Gen

theorem ref0 (x : FVec Ideal S2048x2048 .bf16) (y : FVec Ideal S8x2048x1408 .bf16) (a : Fin 2) (n : Fin 2048) (r : Fin 5632) :
    (concatenate S2x2048x5632 0 [⟨S1x2048x5632, (broadcastInDim S1x2048x5632 ![1, 2] bcast_S2048x5632_S1x2048x5632_1_2 (extractStridedSlice S2048x5632 ![0, 0] (Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264)) slices_S2048x11264_S2048x5632_0_0))⟩, ⟨S1x2048x5632, (broadcastInDim S1x2048x5632 ![1, 2] bcast_S2048x5632_S1x2048x5632_1_2 (extractStridedSlice S2048x5632 ![0, 5632] (Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264)) slices_S2048x11264_S2048x5632_0_5632))⟩] concatenates_S1x2048x5632_S1x2048x5632_S2x2048x5632_d0) (ix3 a n r)
      = spec x y n ⟨a.val * 5632 + r.val, by omega⟩ := by
  unfold spec
  pointwise
  have ha := a.isLt
  have hr := r.isLt
  split <;> refine Finset.sum_congr rfl fun k _ => congrArg (x (ix2 n k) * ·) (congrArg y (Mat.ix3_congr ?_ rfl ?_)) <;> dsimp only <;> omega

theorem ref1 (x : FVec Ideal S2048x2048 .bf16) (y : FVec Ideal S8x2048x1408 .bf16) (n : Fin 2048) (r : Fin 5632) :
    (truncf (F := Ideal) .bf16 (mulf (F := Ideal) (mulf (F := Ideal) (extractStridedSlice S2048x5632 ![0, 0] (Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264)) slices_S2048x11264_S2048x5632_0_0) (Host.divf (F := Ideal) (broadcastInDim S2048x5632 ![] bcast_S_S2048x5632 (constant (F := Ideal) S_ .f32 0x3F800000#32)) (addf (F := Ideal) (broadcastInDim S2048x5632 ![] bcast_S_S2048x5632 (constant (F := Ideal) S_ .f32 0x3F800000#32)) (Host.exp (F := Ideal) (Host.negf (F := Ideal) (extractStridedSlice S2048x5632 ![0, 0] (Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264)) slices_S2048x11264_S2048x5632_0_0)))))) (extractStridedSlice S2048x5632 ![0, 5632] (Host.dotGeneral (F := Ideal) dot_S2048x2048_S2048x11264_S2048x11264_1_0_0_1_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264)) slices_S2048x11264_S2048x5632_0_5632)) bitsLt_bf16_f32) (ix2 n r)
      = act (spec x y n ⟨r.val, by omega⟩) (spec x y n ⟨5632 + r.val, by omega⟩) := by
  unfold act spec Ideal.logistic
  pointwise

end

attribute [local instance] Cert.Kernel13Ideal.Gen.facts Cert.Reference13Ideal.Gen.facts

theorem algebraic : Cert.algebraic_Kernel13Ideal_Reference13Ideal := by
  intro m ρ m' ρ' hpre hagree
  refine ⟨fun c => (Cert.Kernel13Ideal.Gen.dats m 0 c).arrAt 3 Cert.Kernel13Ideal.cfg0.N, fun c => (Cert.Kernel13Ideal.Gen.dats m 0 c).arrAt 4 Cert.Kernel13Ideal.cfg0.N, Cert.Kernel13Ideal.Value.run_blocks (F := Ideal) m ρ, ?_⟩
  refine (θ_run Cert.Reference13Ideal.defs _ _).mono (fun r h c => ?_) (Cert.Reference13Ideal.Value.run (F := Ideal) m' ρ')
  obtain ⟨r0, r1, a0, a1⟩ := h c
  obtain ⟨g0, g1⟩ := hagree c
  refine ⟨r0.trans (Mat.ext3 fun a n r => ?_), r1.trans (Mat.ext2 fun n r => ?_), a0, a1⟩
  · rw [g0, g1]
    exact (ref0 _ _ a n r).trans (final3 m c a n r).symm
  · rw [g0, g1]
    exact (ref1 _ _ n r).trans (final4 m c n r).symm

theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

end Cert.P13
-- ==== Proof.P14.lean ====
/-
  The products with w_proj_a and w_proj_b and the merge of the two branches by their gates.
-/
module

public import proofs.«01_k».proof.Defs
public import proofs.«01_k».proof.Proof.Mat
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run

@[expose] public section

set_option maxRecDepth 16384

noncomputable section

namespace Cert.P14

open Idealize.ShloMosaic Idealize.ShloMosaic.StableHlo Idealize.SL.Sem

/-- The product at an entry. -/
def spec (y : (⟨2, ![2048, 1024]⟩ : Shape).Idx → EReal) (w : (⟨3, ![8, 1024, 256]⟩ : Shape).Idx → EReal) (n r : Fin 2048) : EReal :=
  ∑ k : Fin 1024, y (ix2 n k) * w (ix3 ⟨r.val / 256, by omega⟩ k ⟨r.val % 256, by omega⟩)

/-- A gate at an entry. -/
def gate (x : (⟨2, ![2048, 11264]⟩ : Shape).Idx → EReal) (b : (⟨2, ![1, 4096]⟩ : Shape).Idx → EReal) (n : Fin 2048) (r : Fin 4096) : EReal :=
  Ideal.logistic (x (ix2 n ⟨7168 + r.val, by omega⟩) + b (ix2 0 r))

/-- The merged branches at an entry. -/
def merge (ya yb : (⟨2, ![2048, 1024]⟩ : Shape).Idx → EReal) (wa wb : (⟨3, ![8, 1024, 256]⟩ : Shape).Idx → EReal)
    (x : (⟨2, ![2048, 11264]⟩ : Shape).Idx → EReal) (b : (⟨2, ![1, 4096]⟩ : Shape).Idx → EReal) (n r : Fin 2048) : EReal :=
  gate x b n ⟨r.val, by omega⟩ * spec ya wa n r + gate x b n ⟨2048 + r.val, by omega⟩ * spec yb wb n r

section
open Cert.Kernel14Ideal Cert.Kernel14Ideal.Gen

theorem index_at : ∀ t : Fin cfg0.N,
    win0_0.index t = ![t.val % 2, 0] ∧ win0_1.index t = ![t.val % 2, 0] ∧ win0_2.index t = ![t.val / 2, 0, 0] ∧ win0_3.index t = ![t.val / 2, 0, 0]
      ∧ win0_4.index t = ![t.val % 2, 14 + t.val / 2] ∧ win0_5.index t = ![t.val % 2, 18 + t.val / 2]
      ∧ win0_6.index t = ![0, t.val / 2] ∧ win0_7.index t = ![0, 4 + t.val / 2]
      ∧ win0_8.index t = ![t.val % 2, t.val / 2] ∧ win0_9.index t = ![t.val % 2, t.val / 2] ∧ win0_10.index t = ![t.val % 2, t.val / 2] :=
  (by decide +kernel : ∀ t : Fin grid0.N, _)

theorem tile (p g : FVec Ideal S1024x512 .f32) (x : Vec Ideal S1024x512 .f32) (b : Vec Ideal S1x512 .f32) (y : S1024x512.Idx) :
    k0_pay1 p g x b y = g y + Ideal.logistic (x y + b (ix2 0 (y 1))) * p y := by
  rw [Mat.idx2 y]
  unfold k0_pay1
  pointwise

theorem tile4 (x0 : Vec Ideal S1024x1024 .bf16) (x1 x2 : Vec Ideal S1x1024x256 .bf16) (x : Vec Ideal S1024x512 .f32) (b : Vec Ideal S1x512 .f32) (y : S1024x512.Idx) :
    k0_pay4 x0 x1 x2 x b y = Ideal.logistic (x y + b (ix2 0 (y 1))) * k0_pay2 x0 x1 x2 y := by
  rw [Mat.idx2 y]
  unfold k0_pay4
  pointwise

variable (m : (ℓ : Loc nD τ sig) → Buf (Elt Ideal) ℓ) (c : Dev nD)

theorem left (t : Fin cfg0.N) (y : S1024x512.Idx) (n r : Fin 2048) (hn : n.val = t.val % 2 * 1024 + (y 0).val)
    (hr : r.val = t.val / 2 * 512 + (y 1).val) :
    k0_pay2 (iblk m c 0 t) (View.ld (iblk m c 2 t) r0_1) (View.ld (iblk m c 2 t) r0_2) y = spec (m ((c.tc : Thread nD τ).loc main_arg0)) (m ((c.tc : Thread nD τ).loc main_arg2)) n r := by
  obtain ⟨e0, e1, e2, e3, e4, e5, e6, e7, e8, e9, e10⟩ := index_at t
  rw [Mat.idx2 y]
  have hj : (y 1).val < 512 := (y 1).isLt
  unfold k0_pay2
  pointwise
  split <;> refine Mat.prod_congr fun k => ⟨?_, ?_⟩
  · blk_ext [iblk, V, e0]
  · pointwise
    blk_ext [iblk, V, e2]
  · blk_ext [iblk, V, e0]
  · pointwise
    blk_ext [iblk, V, e2]

theorem right (t : Fin cfg0.N) (y : S1024x512.Idx) (n r : Fin 2048) (hn : n.val = t.val % 2 * 1024 + (y 0).val)
    (hr : r.val = t.val / 2 * 512 + (y 1).val) :
    k0_pay3 (iblk m c 1 t) (View.ld (iblk m c 3 t) r0_1) (View.ld (iblk m c 3 t) r0_2) y = spec (m ((c.tc : Thread nD τ).loc main_arg1)) (m ((c.tc : Thread nD τ).loc main_arg3)) n r := by
  obtain ⟨e0, e1, e2, e3, e4, e5, e6, e7, e8, e9, e10⟩ := index_at t
  rw [Mat.idx2 y]
  have hj : (y 1).val < 512 := (y 1).isLt
  unfold k0_pay3
  pointwise
  split <;> refine Mat.prod_congr fun k => ⟨?_, ?_⟩
  · blk_ext [iblk, V, e1]
  · pointwise
    blk_ext [iblk, V, e3]
  · blk_ext [iblk, V, e1]
  · pointwise
    blk_ext [iblk, V, e3]

theorem gate_a (t : Fin cfg0.N) (y : S1024x512.Idx) (n : Fin 2048) (r : Fin 4096) (hn : n.val = t.val % 2 * 1024 + (y 0).val)
    (hr : r.val = 0 + t.val / 2 * 512 + (y 1).val) (x : Vec Ideal S1024x512 .f32) (b : Vec Ideal S1x512 .f32) (hx : x = iblk m c 4 t) (hb : b = iblk m c 6 t) :
    Ideal.logistic (x y + b (ix2 0 (y 1))) = gate (m ((c.tc : Thread nD τ).loc main_arg4)) (m ((c.tc : Thread nD τ).loc main_arg5)) n r := by
  obtain ⟨e0, e1, e2, e3, e4, e5, e6, e7, e8, e9, e10⟩ := index_at t
  have hj : (y 1).val < 512 := (y 1).isLt
  subst hx hb
  rw [Mat.idx2 y]
  refine congrArg Ideal.logistic (congrArg₂ (· + ·) ?_ ?_) <;> blk_ext [iblk, V, e4, e6]

theorem gate_b (t : Fin cfg0.N) (y : S1024x512.Idx) (n : Fin 2048) (r : Fin 4096) (hn : n.val = t.val % 2 * 1024 + (y 0).val)
    (hr : r.val = 2048 + t.val / 2 * 512 + (y 1).val) (x : Vec Ideal S1024x512 .f32) (b : Vec Ideal S1x512 .f32) (hx : x = iblk m c 5 t) (hb : b = iblk m c 7 t) :
    Ideal.logistic (x y + b (ix2 0 (y 1))) = gate (m ((c.tc : Thread nD τ).loc main_arg4)) (m ((c.tc : Thread nD τ).loc main_arg5)) n r := by
  obtain ⟨e0, e1, e2, e3, e4, e5, e6, e7, e8, e9, e10⟩ := index_at t
  have hj : (y 1).val < 512 := (y 1).isLt
  subst hx hb
  rw [Mat.idx2 y]
  refine congrArg Ideal.logistic (congrArg₂ (· + ·) ?_ ?_) <;> blk_ext [iblk, V, e5, e7]

theorem final8 (n r : Fin 2048) :
    ((dats m 0 c).arrAt 8 cfg0.N : S2048x2048.Idx → EReal) (ix2 n r) = spec (m ((c.tc : Thread nD τ).loc main_arg0)) (m ((c.tc : Thread nD τ).loc main_arg2)) n r := by
  have e : (dats m 0 c).arrAt 8 cfg0.N = fun i : S2048x2048.Idx => spec (m ((c.tc : Thread nD τ).loc main_arg0)) (m ((c.tc : Thread nD τ).loc main_arg2)) (i 0) (i 1) := by
    refine (dats m 0 c).arrAt_eq_of_covers 8 _ (by decide +kernel) fun t hf y => ?_
    obtain ⟨e0, e1, e2, e3, e4, e5, e6, e7, e8, e9, e10⟩ := index_at t
    blk_simp
    rw [after0_8]
    frame_out
    refine left m c t _ _ _ ?_ ?_ <;> blk_simp [e8] <;> (try dsimp only) <;> omega
  exact congrFun e (ix2 n r)

theorem final9 (n r : Fin 2048) :
    ((dats m 0 c).arrAt 9 cfg0.N : S2048x2048.Idx → EReal) (ix2 n r) = spec (m ((c.tc : Thread nD τ).loc main_arg1)) (m ((c.tc : Thread nD τ).loc main_arg3)) n r := by
  have e : (dats m 0 c).arrAt 9 cfg0.N = fun i : S2048x2048.Idx => spec (m ((c.tc : Thread nD τ).loc main_arg1)) (m ((c.tc : Thread nD τ).loc main_arg3)) (i 0) (i 1) := by
    refine (dats m 0 c).arrAt_eq_of_covers 9 _ (by decide +kernel) fun t hf y => ?_
    obtain ⟨e0, e1, e2, e3, e4, e5, e6, e7, e8, e9, e10⟩ := index_at t
    blk_simp
    rw [after0_9]
    frame_out
    refine right m c t _ _ _ ?_ ?_ <;> blk_simp [e9] <;> (try dsimp only) <;> omega
  exact congrFun e (ix2 n r)

theorem final10 (n r : Fin 2048) :
    ((dats m 0 c).arrAt 10 cfg0.N : S2048x2048.Idx → EReal) (ix2 n r) = merge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n r := by
  have e : (dats m 0 c).arrAt 10 cfg0.N = fun i : S2048x2048.Idx => merge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
    refine (dats m 0 c).arrAt_eq_of_covers 10 _ (by decide +kernel) fun t hf y => ?_
    obtain ⟨e0, e1, e2, e3, e4, e5, e6, e7, e8, e9, e10⟩ := index_at t
    blk_simp
    rw [after0_10]
    frame_out
    refine (tile _ _ _ _ _).trans (congrArg₂ (· + ·) ((tile4 _ _ _ _ _ _).trans (congrArg₂ (· * ·)
      (gate_a m c t _ _ _ ?_ ?_ _ _ rfl rfl) (left m c t _ _ _ ?_ ?_)))
      (congrArg₂ (· * ·) (gate_b m c t _ _ _ ?_ ?_ _ _ rfl rfl) (right m c t _ _ _ ?_ ?_))) <;> blk_simp [e10] <;> (try dsimp only) <;> omega
  exact congrFun e (ix2 n r)

end

section
open Cert.Reference14Ideal Cert.Reference14Ideal.Gen

variable (ya yb : FVec Ideal S2048x1024 .bf16) (wa wb : FVec Ideal S8x1024x256 .bf16) (x : FVec Ideal S2048x11264 .f32) (b : FVec Ideal S1x4096 .f32)

theorem ref0 (n r : Fin 2048) :
    (Host.dotGeneral (F := Ideal) dot_S2048x1024_S1024x2048_S2048x2048_1_0_0_1_n_n none (extf (F := Ideal) .f32 ya bitsLt_bf16_f32) (shapeCast _ (transpose S1024x8x256 [1, 0, 2] (extf (F := Ideal) .f32 wa bitsLt_bf16_f32) transposes_S8x1024x256_S1024x8x256_1_0_2) shapeCasts_S1024x8x256_S1024x2048)) (ix2 n r)
      = spec ya wa n r := by
  pointwise
  rfl

theorem ref1 (n r : Fin 2048) :
    (Host.dotGeneral (F := Ideal) dot_S2048x1024_S1024x2048_S2048x2048_1_0_0_1_n_n none (extf (F := Ideal) .f32 yb bitsLt_bf16_f32) (shapeCast _ (transpose S1024x8x256 [1, 0, 2] (extf (F := Ideal) .f32 wb bitsLt_bf16_f32) transposes_S8x1024x256_S1024x8x256_1_0_2) shapeCasts_S1024x8x256_S1024x2048)) (ix2 n r)
      = spec yb wb n r := by
  pointwise
  rfl

theorem ref2 (n r : Fin 2048) :
    (truncf (F := Ideal) .bf16 (addf (F := Ideal) (mulf (F := Ideal) (extractStridedSlice S2048x2048 ![0, 0] (Host.divf (F := Ideal) (broadcastInDim S2048x4096 ![] bcast_S_S2048x4096 (constant (F := Ideal) S_ .f32 0x3F800000#32)) (addf (F := Ideal) (broadcastInDim S2048x4096 ![] bcast_S_S2048x4096 (constant (F := Ideal) S_ .f32 0x3F800000#32)) (Host.exp (F := Ideal) (Host.negf (F := Ideal) (addf (F := Ideal) (extractStridedSlice S2048x4096 ![0, 7168] x slices_S2048x11264_S2048x4096_0_7168) (broadcastInDim S2048x4096 ![0, 1] bcast_S1x4096_S2048x4096_0_1 (broadcastInDim S1x4096 ![1] bcast_S4096_S1x4096_1 (shapeCast _ b shapeCasts_S1x4096_S4096)))))))) slices_S2048x4096_S2048x2048_0_0) (Host.dotGeneral (F := Ideal) dot_S2048x1024_S1024x2048_S2048x2048_1_0_0_1_n_n none (extf (F := Ideal) .f32 ya bitsLt_bf16_f32) (shapeCast _ (transpose S1024x8x256 [1, 0, 2] (extf (F := Ideal) .f32 wa bitsLt_bf16_f32) transposes_S8x1024x256_S1024x8x256_1_0_2) shapeCasts_S1024x8x256_S1024x2048))) (mulf (F := Ideal) (extractStridedSlice S2048x2048 ![0, 2048] (Host.divf (F := Ideal) (broadcastInDim S2048x4096 ![] bcast_S_S2048x4096 (constant (F := Ideal) S_ .f32 0x3F800000#32)) (addf (F := Ideal) (broadcastInDim S2048x4096 ![] bcast_S_S2048x4096 (constant (F := Ideal) S_ .f32 0x3F800000#32)) (Host.exp (F := Ideal) (Host.negf (F := Ideal) (addf (F := Ideal) (extractStridedSlice S2048x4096 ![0, 7168] x slices_S2048x11264_S2048x4096_0_7168) (broadcastInDim S2048x4096 ![0, 1] bcast_S1x4096_S2048x4096_0_1 (broadcastInDim S1x4096 ![1] bcast_S4096_S1x4096_1 (shapeCast _ b shapeCasts_S1x4096_S4096)))))))) slices_S2048x4096_S2048x2048_0_2048) (Host.dotGeneral (F := Ideal) dot_S2048x1024_S1024x2048_S2048x2048_1_0_0_1_n_n none (extf (F := Ideal) .f32 yb bitsLt_bf16_f32) (shapeCast _ (transpose S1024x8x256 [1, 0, 2] (extf (F := Ideal) .f32 wb bitsLt_bf16_f32) transposes_S8x1024x256_S1024x8x256_1_0_2) shapeCasts_S1024x8x256_S1024x2048)))) bitsLt_bf16_f32) (ix2 n r)
      = merge ya yb wa wb x b n r := by
  unfold merge gate spec Ideal.logistic
  pointwise

end

attribute [local instance] Cert.Kernel14Ideal.Gen.facts Cert.Reference14Ideal.Gen.facts

theorem algebraic : Cert.algebraic_Kernel14Ideal_Reference14Ideal := by
  intro m ρ m' ρ' hpre hagree
  refine ⟨fun c => (Cert.Kernel14Ideal.Gen.dats m 0 c).arrAt 8 Cert.Kernel14Ideal.cfg0.N, fun c => (Cert.Kernel14Ideal.Gen.dats m 0 c).arrAt 9 Cert.Kernel14Ideal.cfg0.N, fun c => (Cert.Kernel14Ideal.Gen.dats m 0 c).arrAt 10 Cert.Kernel14Ideal.cfg0.N, Cert.Kernel14Ideal.Value.run_blocks (F := Ideal) m ρ, ?_⟩
  refine (θ_run Cert.Reference14Ideal.defs _ _).mono (fun r h c => ?_) (Cert.Reference14Ideal.Value.run (F := Ideal) m' ρ')
  obtain ⟨r0, r1, r2, a0, a1, a2, a3, a4, a5⟩ := h c
  obtain ⟨g0, g1, g2, g3, g4, g5⟩ := hagree c
  refine ⟨r0.trans (Mat.ext2 fun n r => ?_), r1.trans (Mat.ext2 fun n r => ?_), r2.trans (Mat.ext2 fun n r => ?_), a0, a1, a2, a3, a4, a5⟩
  · rw [g0, g2]
    exact (ref0 _ _ n r).trans (final8 m c n r).symm
  · rw [g1, g3]
    exact (ref1 _ _ n r).trans (final9 m c n r).symm
  · rw [g0, g1, g2, g3, g4, g5]
    exact (ref2 _ _ _ _ _ _ n r).trans (final10 m c n r).symm

theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.P14
-- ==== Proof.P15.lean ====
/-
  The product with w_out, the residual and the norm of the rows.
-/
module

public import proofs.«01_k».proof.Defs
public import proofs.«01_k».proof.Proof.Mat
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run

@[expose] public section

set_option maxRecDepth 16384

noncomputable section

namespace Cert.P15

open Idealize.ShloMosaic Idealize.ShloMosaic.StableHlo Idealize.SL.Sem

/-- The residual plus the product at an entry. -/
def spec (a b x : (⟨2, ![2048, 2048]⟩ : Shape).Idx → EReal) (n j : Fin 2048) : EReal :=
  x (ix2 n j) + ∑ k : Fin 2048, a (ix2 n k) * b (ix2 k j)

/-- A row over its root mean square, times the gain. -/
def norm (f : Fin 2048 → EReal) (g : (⟨2, ![1, 2048]⟩ : Shape).Idx → EReal) (j : Fin 2048) : EReal :=
  f j * Ideal.rsqrt (Ideal.div (∑ k, f k * f k) (Ideal.ofBits .f32 0x45000000#32) + Ideal.ofBits .f32 0x358637BD#32) * g (ix2 0 j)

section
open Cert.Kernel15Ideal Cert.Kernel15Ideal.Gen

theorem index_at : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] :=
  (by decide +kernel : ∀ t : Fin grid0.N, _)

theorem tile (x : Vec Ideal S256x2048 .f32) (a : Vec Ideal S256x2048 .bf16) (b : Vec Ideal S2048x2048 .bf16) (g : Vec Ideal S1x2048 .f32) (i : Fin 256) (j : Fin 2048) :
    k0_pay2 x a b g (ix2 i j) = norm (fun k => k0_pay1 x a b (ix2 i k)) g j := by
  unfold k0_pay2 norm
  pointwise

variable (m : (ℓ : Loc nD τ sig) → Buf (Elt Ideal) ℓ) (c : Dev nD)

theorem row (t : Fin cfg0.N) (i : Fin 256) (j n : Fin 2048) (hn : n.val = t.val * 256 + i.val) :
    k0_pay1 (iblk m c 2 t) (iblk m c 0 t) (iblk m c 1 t) (ix2 i j) = spec (m ((c.tc : Thread nD τ).loc main_arg0)) (m ((c.tc : Thread nD τ).loc main_arg1)) (m ((c.tc : Thread nD τ).loc main_arg2)) n j := by
  obtain ⟨e0, e1, e2, e3, e4, e5⟩ := index_at t
  unfold k0_pay1 spec
  pointwise
  refine congrArg₂ (· + ·) ?_ (Mat.prod_congr fun k => ⟨?_, ?_⟩) <;> blk_ext [iblk, V, e0, e1, e2]

theorem final4 (n r : Fin 2048) :
    ((dats m 0 c).arrAt 4 cfg0.N : S2048x2048.Idx → EReal) (ix2 n r) = spec (m ((c.tc : Thread nD τ).loc main_arg0)) (m ((c.tc : Thread nD τ).loc main_arg1)) (m ((c.tc : Thread nD τ).loc main_arg2)) n r := by
  have e : (dats m 0 c).arrAt 4 cfg0.N = fun i : S2048x2048.Idx => spec (m ((c.tc : Thread nD τ).loc main_arg0)) (m ((c.tc : Thread nD τ).loc main_arg1)) (m ((c.tc : Thread nD τ).loc main_arg2)) (i 0) (i 1) := by
    refine (dats m 0 c).arrAt_eq_of_covers 4 _ (by decide +kernel) fun t hf y => ?_
    obtain ⟨e0, e1, e2, e3, e4, e5⟩ := index_at t
    blk_simp
    rw [after0_4]
    frame_out
    refine (congrArg (k0_pay1 (iblk m c 2 t) (iblk m c 0 t) (iblk m c 1 t)) (Mat.idx2 y)).trans ((row m c t _ _ _ ?_).trans (congrArg (spec _ _ _ _) (Fin.ext ?_))) <;> blk_simp [e4] <;> (try dsimp only) <;> omega
  exact congrFun e (ix2 n r)

theorem final5 (n r : Fin 2048) :
    ((dats m 0 c).arrAt 5 cfg0.N : S2048x2048.Idx → EReal) (ix2 n r) = norm (spec (m ((c.tc : Thread nD τ).loc main_arg0)) (m ((c.tc : Thread nD τ).loc main_arg1)) (m ((c.tc : Thread nD τ).loc main_arg2)) n) (m ((c.tc : Thread nD τ).loc main_arg3)) r := by
  have e : (dats m 0 c).arrAt 5 cfg0.N = fun i : S2048x2048.Idx => norm (spec (m ((c.tc : Thread nD τ).loc main_arg0)) (m ((c.tc : Thread nD τ).loc main_arg1)) (m ((c.tc : Thread nD τ).loc main_arg2)) (i 0)) (m ((c.tc : Thread nD τ).loc main_arg3)) (i 1) := by
    refine (dats m 0 c).arrAt_eq_of_covers 5 _ (by decide +kernel) fun t hf y => ?_
    obtain ⟨e0, e1, e2, e3, e4, e5⟩ := index_at t
    blk_simp
    rw [after0_5]
    frame_out
    have h1 : (iblk m c 3 t : Vec Ideal S1x2048 .f32) = (m ((c.tc : Thread nD τ).loc main_arg3)) := by
      refine Mat.ext2 fun i j => ?_
      blk_ext [iblk, V, e3]
    refine (congrArg (k0_pay2 (iblk m c 2 t) (iblk m c 0 t) (iblk m c 1 t) (iblk m c 3 t)) (Mat.idx2 y)).trans ((tile _ _ _ _ _ _).trans ?_)
    rw [h1]
    refine congr (congrArg (fun f => norm f _) (funext fun k => row m c t _ _ _ ?_)) (Fin.ext ?_) <;> blk_simp [e5] <;> (try dsimp only) <;> omega
  exact congrFun e (ix2 n r)

end

attribute [local instance] Cert.Kernel15Ideal.Gen.facts Cert.Reference15Ideal.Gen.facts

theorem algebraic : Cert.algebraic_Kernel15Ideal_Reference15Ideal := by
  intro m ρ m' ρ' hpre hagree
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N, Cert.Kernel15Ideal.Value.run_blocks (F := Ideal) m ρ, ?_⟩
  refine (θ_run Cert.Reference15Ideal.defs _ _).mono (fun r h c => ?_) (Cert.Reference15Ideal.Value.run (F := Ideal) m' ρ')
  obtain ⟨r0, r1, a0, a1, a2, a3⟩ := h c
  obtain ⟨g0, g1, g2, g3⟩ := hagree c
  refine ⟨r0.trans (Mat.ext2 fun n r => ?_), r1.trans (Mat.ext2 fun n r => ?_), a0, a1, a2, a3⟩
  · rw [g0, g1, g2]
    refine Eq.trans ?_ (final4 m c n r).symm
    unfold spec
    pointwise
  · rw [g0, g1, g2, g3]
    refine Eq.trans ?_ (final5 m c n r).symm
    unfold norm spec
    pointwise

theorem frame_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

end Cert.P15
-- ==== Proof.P17.lean ====
/-
  The product with w_ffn_out, the residual, and the loss with its gradient.
-/
module

public import proofs.«01_k».proof.Defs
public import proofs.«01_k».proof.Proof.Mat
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run

@[expose] public section

set_option maxRecDepth 16384

noncomputable section

namespace Cert.P17

open Idealize.ShloMosaic Idealize.ShloMosaic.StableHlo Idealize.SL.Sem

/-- A term of the product at an entry. -/
def tm (a : (⟨2, ![2048, 5632]⟩ : Shape).Idx → EReal) (w : (⟨2, ![5632, 2048]⟩ : Shape).Idx → EReal) (n r : Fin 2048) (k : Fin 5632) : EReal :=
  a (ix2 n k) * w (ix2 k r)

/-- The product at an entry. -/
def pr (a : (⟨2, ![2048, 5632]⟩ : Shape).Idx → EReal) (w : (⟨2, ![5632, 2048]⟩ : Shape).Idx → EReal) (n r : Fin 2048) : EReal :=
  ∑ k : Fin 5632, tm a w n r k

/-- The output's difference from the target. -/
def df (a : (⟨2, ![2048, 5632]⟩ : Shape).Idx → EReal) (w : (⟨2, ![5632, 2048]⟩ : Shape).Idx → EReal) (x t : (⟨2, ![2048, 2048]⟩ : Shape).Idx → EReal)
    (n r : Fin 2048) : EReal :=
  pr a w n r + x (ix2 n r) - t (ix2 n r)

section
open Cert.Kernel17Ideal Cert.Kernel17Ideal.Gen

theorem index_at : ∀ t : Fin cfg0.N,
    win0_0.index t = ![t.val / 4, t.val % 2] ∧ win0_1.index t = ![t.val % 2, t.val / 2 % 2] ∧ win0_2.index t = ![t.val / 4, t.val / 2 % 2]
      ∧ win0_3.index t = ![t.val / 4, t.val / 2 % 2] ∧ win0_4.index t = ![t.val / 4, t.val / 2 % 2] ∧ win0_5.index t = ![0, 0] :=
  (by decide +kernel : ∀ t : Fin grid0.N, _)

theorem run_lt (t : Fin cfg0.N) : t.val < 16 := lt_of_lt_of_eq t.isLt (by decide +kernel)

theorem tile1 (a : Vec Ideal S512x2816 .bf16) (w : Vec Ideal S2816x1024 .bf16) (y : S512x1024.Idx) :
    k0_pay1 a w y = ∑ k : Fin 2816, a (ix2 (y 0) k) * w (ix2 k (y 1)) := by
  rw [Mat.idx2 y]
  unfold k0_pay1
  pointwise

theorem tile3 (a : Vec Ideal S512x2816 .bf16) (w : Vec Ideal S2816x1024 .bf16) (y : S512x1024.Idx) : k0_pay3 a w y = k0_pay1 a w y := by
  unfold k0_pay3
  pointwise

/-- The difference from the target in a block, from the first half of the product. -/
def blkdf (a : Vec Ideal S512x2816 .bf16) (w : Vec Ideal S2816x1024 .bf16) (q x z : Vec Ideal S512x1024 .f32) (y : S512x1024.Idx) : EReal :=
  q y + k0_pay1 a w y + x y - z y

theorem tile5 (a : Vec Ideal S512x2816 .bf16) (w : Vec Ideal S2816x1024 .bf16) (q x z : Vec Ideal S512x1024 .f32) (y : S512x1024.Idx) :
    k0_pay5 (k0_pay4 a w q) x z y = blkdf a w q x z y := by
  unfold k0_pay5 k0_pay4 blkdf
  pointwise

theorem tile6 (a : Vec Ideal S512x2816 .bf16) (w : Vec Ideal S2816x1024 .bf16) (q x z : Vec Ideal S512x1024 .f32) (y : S512x1024.Idx) :
    k0_pay6 (k0_pay4 a w q) x z y = blkdf a w q x z y * Ideal.ofBits .f32 0x3A000000#32 := by
  rw [← tile5]
  unfold k0_pay6
  pointwise

theorem tile7 (q x z : Vec Ideal S512x1024 .f32) (l : Vec Ideal S8x128 .f32) (y : S8x128.Idx) :
    k0_pay7 q x z l y = l y + ∑ i : Fin 512, ∑ j : Fin 1024, (fun d : EReal => d * d) (k0_pay5 q x z (ix2 i j)) := by
  rw [Mat.idx2 y]
  unfold k0_pay7
  pointwise

theorem zero2 (y : S8x128.Idx) : k0_pay2 (F := Ideal) y = 0 := by
  rw [Mat.idx2 y]
  unfold k0_pay2
  pointwise

theorem scr (h : (Memref.whole cc0_scratch0).IsWhole) (X : Vec Ideal S512x1024 .f32) :
    (View.whole cc0_scratch0).read (Elt Ideal) (h.unread X) = X :=
  read_unread_whole _ h X

variable (m : (ℓ : Loc nD τ sig) → Buf (Elt Ideal) ℓ) (c : Dev nD)

/-- The difference on the call's arguments. -/
abbrev dfc := df (m ((c.tc : Thread nD τ).loc main_arg0)) (m ((c.tc : Thread nD τ).loc main_arg1)) (m ((c.tc : Thread nD τ).loc main_arg2)) (m ((c.tc : Thread nD τ).loc main_arg3))

/-- A point's part of the product. -/
def half (t : Fin cfg0.N) (y : S512x1024.Idx) : EReal := k0_pay1 (iblk m c 0 t) (iblk m c 1 t) y

theorem half_eq (t : Fin cfg0.N) (y : S512x1024.Idx) (n r : Fin 2048) (hn : n.val = t.val / 4 * 512 + (y 0).val) (hr : r.val = t.val / 2 % 2 * 1024 + (y 1).val) :
    half m c t y = ∑ k : Fin 2816, tm (m ((c.tc : Thread nD τ).loc main_arg0)) (m ((c.tc : Thread nD τ).loc main_arg1)) n r ⟨t.val % 2 * 2816 + k.val, by omega⟩ := by
  obtain ⟨e0, e1, e2, e3, e4, e5⟩ := index_at t
  refine (tile1 _ _ y).trans ?_
  unfold tm
  rw [Mat.idx2 y]
  refine Mat.prod_congr fun k => ⟨?_, ?_⟩ <;> blk_ext [iblk, V, e0, e1]

theorem acc_at (t : Fin cfg0.N) (h : t.val % 2 = 0) (y : S512x1024.Idx) : (outsAt0 m c t.val t.isLt).2.2 y = half m c t y := by
  by_cases h0 : t.val % 16 = 0
  · rw [outsAt0_A m c t h0 h (by omega) (by omega)]
    frame_out
    exact tile3 _ _ _
  · rw [outsAt0_C m c t h0 h (by omega) (by omega)]
    frame_out
    exact tile3 _ _ _

theorem whole (t : Fin cfg0.N) (h : t.val % 2 = 1) (y : S512x1024.Idx) (n r : Fin 2048) (hn : n.val = t.val / 4 * 512 + (y 0).val)
    (hr : r.val = t.val / 2 % 2 * 1024 + (y 1).val) :
    (outsAt0 m c (t.val - 1) (Nat.lt_of_le_of_lt (Nat.sub_le _ _) t.isLt)).2.2 y + half m c t y = pr (m ((c.tc : Thread nD τ).loc main_arg0)) (m ((c.tc : Thread nD τ).loc main_arg1)) n r := by
  have hl := t.isLt
  rw [acc_at m c ⟨t.val - 1, by omega⟩ (by show (t.val - 1) % 2 = 0; omega) y,
    half_eq m c ⟨t.val - 1, by omega⟩ y n r (by show n.val = (t.val - 1) / 4 * 512 + _; omega) (by show r.val = (t.val - 1) / 2 % 2 * 1024 + _; omega),
    half_eq m c t y n r hn hr]
  refine Eq.trans ?_ (Fin.sum_mul_add_congr (S := 2) (n := 2816)
    (F := fun s k => tm (m ((c.tc : Thread nD τ).loc main_arg0)) (m ((c.tc : Thread nD τ).loc main_arg1)) n r ⟨s.val * 2816 + k.val, by omega⟩) (fun s k hl => rfl) (by decide))
  rw [Fin.sum_univ_two]
  have e0 : (t.val - 1) % 2 = 0 := by omega
  simp only [h, e0]
  rfl

theorem res (t : Fin cfg0.N) (y : S512x1024.Idx) (n r : Fin 2048) (hn : n.val = t.val / 4 * 512 + (y 0).val) (hr : r.val = t.val / 2 % 2 * 1024 + (y 1).val)
    (x z : Vec Ideal S512x1024 .f32) (hx : x = iblk m c 2 t) (hz : z = iblk m c 3 t) : x y = (m ((c.tc : Thread nD τ).loc main_arg2)) (ix2 n r) ∧ z y = (m ((c.tc : Thread nD τ).loc main_arg3)) (ix2 n r) := by
  obtain ⟨e0, e1, e2, e3, e4, e5⟩ := index_at t
  subst hx hz
  rw [Mat.idx2 y]
  constructor <;> blk_ext [iblk, V, e2, e3]

/-- The difference of a finished block. -/
theorem diff (t : Fin cfg0.N) (h : t.val % 2 = 1) (y : S512x1024.Idx) (n r : Fin 2048) (hn : n.val = t.val / 4 * 512 + (y 0).val)
    (hr : r.val = t.val / 2 % 2 * 1024 + (y 1).val) :
    blkdf (iblk m c 0 t) (iblk m c 1 t) (outsAt0 m c (t.val - 1) (Nat.lt_of_le_of_lt (Nat.sub_le _ _) t.isLt)).2.2 (iblk m c 2 t) (iblk m c 3 t) y = dfc m c n r := by
  have q := res m c t y n r hn hr _ _ rfl rfl
  exact congrArg₂ (· - ·) (congrArg₂ (· + ·) (whole m c t h y n r hn hr) q.1) q.2

theorem point4 (t : Fin cfg0.N) (h : t.val % 2 = 1) (y : S512x1024.Idx) (n r : Fin 2048) (hn : n.val = t.val / 4 * 512 + (y 0).val)
    (hr : r.val = t.val / 2 % 2 * 1024 + (y 1).val) : (outsAt0 m c t.val t.isLt).1 y = dfc m c n r * Ideal.ofBits .f32 0x3A000000#32 := by
  rw [outsAt0_B m c t (by omega) (by omega) h h]
  frame_out
  rw [scr]
  exact (tile6 _ _ _ _ _ _).trans (congrArg (· * _) (diff m c t h y n r hn hr))

/-- What a point adds to the loss. -/
def sq (t : Fin cfg0.N) : EReal :=
  ∑ a : Fin 512, ∑ b : Fin 1024, (fun d : EReal => d * d) (dfc m c ⟨t.val / 4 * 512 + a.val, by have := run_lt t; omega⟩ ⟨t.val / 2 % 2 * 1024 + b.val, by omega⟩)

theorem stepA (t : Fin cfg0.N) (h : t.val % 16 = 0) (y : S8x128.Idx) :
    (outsAt0 m c t.val t.isLt).2.1 y = 0 + if t.val % 2 = 1 then sq m c t else 0 := by
  rw [outsAt0_A m c t h (by omega) (by omega) (by omega), if_neg (by omega), add_zero]
  frame_out
  exact zero2 y

theorem stepB (t : Fin cfg0.N) (h : ¬t.val % 16 = 0) (y : S8x128.Idx) :
    (outsAt0 m c t.val t.isLt).2.1 y
      = (outsAt0 m c (t.val - 1) (Nat.lt_of_le_of_lt (Nat.sub_le _ _) t.isLt)).2.1 y + if t.val % 2 = 1 then sq m c t else 0 := by
  by_cases h1 : t.val % 2 = 1
  · rw [outsAt0_B m c t h (by omega) h1 h1, if_pos h1]
    frame_out
    rw [scr]
    refine (tile7 _ _ _ _ _).trans (congrArg (_ + ·) ?_)
    exact Finset.sum_congr rfl fun a _ => Finset.sum_congr rfl fun b _ => congrArg (fun d : EReal => d * d)
      ((tile5 _ _ _ _ _ _).trans (diff m c t h1 (ix2 a b) _ _ rfl rfl))
  · rw [outsAt0_C m c t h (by omega) h1 h1, if_neg h1, add_zero]
    rfl

theorem points (f : Fin cfg0.N → EReal) : ∑ p : Fin cfg0.N, f p = ∑ i : Fin 4, ∑ j : Fin 2, ∑ k : Fin 2,
    f ⟨i.val * 4 + (j.val * 2 + k.val), lt_of_lt_of_eq (by omega : _ < 16) (by decide +kernel)⟩ := by
  refine (Fin.sum_mul_add_congr (S := 4) (n := 4) (F := fun i u => f ⟨i.val * 4 + u.val, lt_of_lt_of_eq (by omega : _ < 16) (by decide +kernel)⟩)
    (fun s k hl => rfl) (by decide +kernel)).symm.trans (Finset.sum_congr rfl fun i _ => ?_)
  exact (Fin.sum_mul_add_congr (S := 2) (n := 2) fun s k hl => rfl).symm

theorem total : ∑ p : Fin cfg0.N, (if p.val % 2 = 1 then sq m c p else 0) = ∑ n : Fin 2048, ∑ r : Fin 2048, (fun d : EReal => d * d) (dfc m c n r) := by
  refine (points _).trans (Eq.trans ?_ (Fin.sum_mul_add_congr (S := 4) (n := 512) (F := fun i a => ∑ r : Fin 2048,
    (fun d : EReal => d * d) (dfc m c ⟨i.val * 512 + a.val, by omega⟩ r)) fun s k hl => rfl))
  refine Finset.sum_congr rfl fun i _ => ?_
  refine Eq.trans ?_ (Finset.sum_congr rfl fun a _ => Fin.sum_mul_add_congr (S := 2) (n := 1024) (F := fun j b =>
    (fun d : EReal => d * d) (dfc m c ⟨i.val * 512 + a.val, by omega⟩ ⟨j.val * 1024 + b.val, by omega⟩)) fun s k hl => rfl)
  refine Eq.trans (Finset.sum_congr rfl fun j _ => ?_) Finset.sum_comm
  rw [Fin.sum_univ_two]
  have e0 : ¬(i.val * 4 + (j.val * 2 + 0)) % 2 = 1 := by omega
  have e1 : (i.val * 4 + (j.val * 2 + 1)) % 2 = 1 := by omega
  refine (congrArg₂ (· + ·) (if_neg e0) (if_pos e1)).trans ((zero_add _).trans ?_)
  unfold sq
  have q1 : (i.val * 4 + (j.val * 2 + 1)) / 4 = i.val := by omega
  have q2 : (i.val * 4 + (j.val * 2 + 1)) / 2 % 2 = j.val := by omega
  refine Finset.sum_congr rfl fun a _ => Finset.sum_congr rfl fun b _ => congrArg (fun d : EReal => d * d) (congrArg₂ (dfc m c) (Fin.ext ?_) (Fin.ext ?_))
  · exact congrArg (· * 512 + a.val) q1
  · exact congrArg (· * 1024 + b.val) q2

theorem final4 (n r : Fin 2048) :
    ((dats m 0 c).arrAt 4 cfg0.N : S2048x2048.Idx → EReal) (ix2 n r) = dfc m c n r * Ideal.ofBits .f32 0x3A000000#32 := by
  have e : (dats m 0 c).arrAt 4 cfg0.N = fun i : S2048x2048.Idx => dfc m c (i 0) (i 1) * Ideal.ofBits .f32 0x3A000000#32 := by
    refine (dats m 0 c).arrAt_eq_of_covers 4 _ (by decide +kernel) fun t hf y => ?_
    obtain ⟨e0, e1, e2, e3, e4, e5⟩ := index_at t
    blk_simp
    rw [after0_4]
    refine point4 m c t ((flush0_4 t).mp hf) _ _ _ ?_ ?_ <;> blk_simp [e4] <;> (try dsimp only) <;> omega
  exact congrFun e (ix2 n r)

theorem final5 (u : Fin 8) (l : Fin 128) :
    ((dats m 0 c).arrAt 5 cfg0.N : S8x128.Idx → EReal) (ix2 u l) = ∑ n : Fin 2048, ∑ r : Fin 2048, (fun d : EReal => d * d) (dfc m c n r) := by
  have e := (dats m 0 c).arrAt_emb_eq_after_last 5 t0_15 (by decide +kernel) (ix2 u l)
  rw [after0_5] at e
  refine e.trans (Eq.trans ?_ (total m c))
  exact (Pipeline.eq_sum_fin_of_reset_step_last (M := EReal) (fun n h => (outsAt0 m c n h).2.1 (ix2 u l)) 16 0 (fun t => if t.val % 2 = 1 then sq m c t else 0)
    (fun t h => stepA m c t h _) (fun t h => stepB m c t h _) (by decide +kernel) t0_15 rfl).trans (zero_add _)

end

section
open Cert.Reference17Ideal Cert.Reference17Ideal.Gen

variable (a : FVec Ideal S2048x5632 .bf16) (w : FVec Ideal S5632x2048 .bf16) (x t d : FVec Ideal S2048x2048 .f32)

theorem ref_diff (n r : Fin 2048) :
    (subf (F := Ideal) (addf (F := Ideal) x (Host.dotGeneral (F := Ideal) dot_S2048x5632_S5632x2048_S2048x2048_1_0_0_1_n_n none (extf (F := Ideal) .f32 a bitsLt_bf16_f32) (extf (F := Ideal) .f32 w bitsLt_bf16_f32))) t) (ix2 n r) = df a w x t n r := by
  unfold df pr tm
  pointwise
  exact congrArg (· - _) (add_comm _ _)

theorem scale (u : EReal) : Ideal.div (Ideal.ofBits .f32 0x3F000000#32) (Ideal.ofBits .f32 0x45000000#32) * (Ideal.ofBits .f32 0x40000000#32 * u)
    = u * Ideal.ofBits .f32 0x3A000000#32 := by
  have b0 : Ideal.ofBits .f32 0x3F000000#32 = ((1 / 2 : ℝ) : EReal) := by simp [Ideal.ofBits, Ideal.ieee]; rw [← EReal.coe_mul]; norm_num
  have b2 : Ideal.ofBits .f32 0x45000000#32 = ((2048 : ℝ) : EReal) := by simp [Ideal.ofBits, Ideal.ieee]; rw [← EReal.coe_mul]; norm_num
  have b3 : Ideal.ofBits .f32 0x40000000#32 = ((2 : ℝ) : EReal) := by simp [Ideal.ofBits, Ideal.ieee]; rw [← EReal.coe_mul]; norm_num
  have b4 : Ideal.ofBits .f32 0x3A000000#32 = ((1 / 2048 : ℝ) : EReal) := by simp [Ideal.ofBits, Ideal.ieee]; rw [← EReal.coe_mul]; norm_num
  rw [b0, b2, b3, b4, Ideal.div_coe (by norm_num), ← mul_assoc, mul_comm u, ← EReal.coe_mul, ← EReal.coe_mul]
  norm_num

theorem ref4 (n r : Fin 2048) :
    (mulf (F := Ideal) (broadcastInDim S2048x2048 ![0] bcast_S2048_S2048x2048_0 (Host.divf (F := Ideal) (broadcastInDim S2048 ![] bcast_S_S2048 (mulf (F := Ideal) (constant (F := Ideal) S_ .f32 0x3F000000#32) (constant (F := Ideal) S_ .f32 0x3F800000#32))) (broadcastInDim S2048 ![] bcast_S_S2048 (constant (F := Ideal) S_ .f32 0x45000000#32)))) (mulf (F := Ideal) (broadcastInDim S2048x2048 ![] bcast_S_S2048x2048 (constant (F := Ideal) S_ .f32 0x40000000#32)) d)) (ix2 n r) = d (ix2 n r) * Ideal.ofBits .f32 0x3A000000#32 := by
  pointwise
  exact scale _

theorem ref5 (u : Fin 8) (l : Fin 128) :
    (broadcastInDim S8x128 ![] bcast_S_S8x128 (Host.reduceAdd (F := Ideal) (mulf (F := Ideal) d d) (constant (F := Ideal) S_ .f32 0x00000000#32) reducesTo_S2048x2048_S_d0_1 h_S_)) (ix2 u l) = ∑ n : Fin 2048, ∑ r : Fin 2048, (fun e : EReal => e * e) (d (ix2 n r)) := by
  pointwise

end

attribute [local instance] Cert.Kernel17Ideal.Gen.facts Cert.Reference17Ideal.Gen.facts

theorem algebraic : Cert.algebraic_Kernel17Ideal_Reference17Ideal := by
  intro m ρ m' ρ' hpre hagree
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N, Cert.Kernel17Ideal.Value.run_blocks (F := Ideal) m ρ, ?_⟩
  refine (θ_run Cert.Reference17Ideal.defs _ _).mono (fun r h c => ?_) (Cert.Reference17Ideal.Value.run (F := Ideal) m' ρ')
  obtain ⟨r0, r1, a0, a1, a2, a3⟩ := h c
  obtain ⟨g0, g1, g2, g3⟩ := hagree c
  refine ⟨r0.trans (Mat.ext2 fun n r => ?_), r1.trans (Mat.ext2 fun u l => ?_), a0, a1, a2, a3⟩
  · rw [g0, g1, g2, g3]
    exact (ref4 _ n r).trans ((congrArg (· * _) (ref_diff _ _ _ _ n r)).trans (final4 m c n r).symm)
  · rw [g0, g1, g2, g3]
    exact (ref5 _ u l).trans ((Finset.sum_congr rfl fun n _ => Finset.sum_congr rfl fun r _ => congrArg (fun e : EReal => e * e) (ref_diff _ _ _ _ n r)).trans (final5 m c u l).symm)

theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

end Cert.P17
-- ==== Proof.Adam.lean ====
/-
  One step of the optimiser at an entry: the two moments, and the change of the weight.
-/
module

public import proofs.«01_k».proof.Proof.Mat

@[expose] public section

noncomputable section

namespace Cert.Adam

open Idealize.ShloMosaic

/-- The first moment. -/
def mom (g m : EReal) : EReal := Ideal.ofBits .f32 0x3F666666#32 * m + Ideal.ofBits .f32 0x3DCCCCCD#32 * g

/-- The second moment. -/
def sq (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (mom g m) (Ideal.ofBits .f32 0x3F26BD02#32))
    (Ideal.sqrt (Ideal.div (sq g v) (Ideal.ofBits .f32 0x3C231ACC#32)) + Ideal.ofBits .f32 0x322BCC77#32) + Ideal.ofBits .f32 0x3C23D70A#32 * w)

/-- The sum of the four partial gradients at an entry. -/
def parts {R C : ℕ} (p : (⟨3, ![4, R, C]⟩ : Shape).Idx → EReal) (n : Fin R) (r : Fin C) : EReal :=
  p (ix3 0 n r) + p (ix3 1 n r) + p (ix3 2 n r) + p (ix3 3 n r)

theorem delta_congr {w w' g g' m m' v v' : EReal} (hw : w = w') (hg : g = g') (hm : m = m') (hv : v = v') :
    delta w g m v = delta w' g' m' v' := by
  rw [hw, hg, hm, hv]

end Cert.Adam
-- ==== Proof.P18.lean ====
/-
  The gradient and the optimiser's step of w_in and w_ffn_in, from the four partial gradients.
-/
module

public import proofs.«01_k».proof.Defs
public import proofs.«01_k».proof.Proof.Adam
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run

@[expose] public section

set_option maxRecDepth 16384

noncomputable section

namespace Cert.P18

open Idealize.ShloMosaic Idealize.ShloMosaic.StableHlo Idealize.SL.Sem

section
open Cert.Kernel18Ideal Cert.Kernel18Ideal.Gen

theorem index_at : ∀ t : Fin cfg0.N,
    win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem tile_m (p0 p1 p2 p3 : Vec Ideal S1x128x1408 .bf16) (x : Vec Ideal S128x1408 .f32) (y : S128x1408.Idx) :
    k0_pay3 p0 p1 p2 p3 x y = Adam.mom (k0_pay2 p0 p1 p2 p3 y) (x y) := by
  unfold k0_pay3 Adam.mom
  pointwise

theorem tile_v (p0 p1 p2 p3 : Vec Ideal S1x128x1408 .bf16) (x : Vec Ideal S128x1408 .f32) (y : S128x1408.Idx) :
    k0_pay4 p0 p1 p2 p3 x y = Adam.sq (k0_pay2 p0 p1 p2 p3 y) (x y) := by
  unfold k0_pay4 Adam.sq
  pointwise

theorem tile_d (p0 p1 p2 p3 : Vec Ideal S1x128x1408 .bf16) (w x z : Vec Ideal S128x1408 .f32) (y : S128x1408.Idx) :
    k0_pay1 w (k0_pay5 p0 p1 p2 p3 x) (k0_pay6 p0 p1 p2 p3 z) (Scalar.ofBits .f32 0x322BCC77#32) y
      = Adam.delta (w y) (k0_pay2 p0 p1 p2 p3 y) (x y) (z y) := by
  unfold k0_pay1 k0_pay5 k0_pay6 k0_pay3 k0_pay4 Adam.delta Adam.mom Adam.sq
  pointwise

variable (m : (ℓ : Loc nD τ sig) → Buf (Elt Ideal) ℓ) (c : Dev nD)

theorem in0 (t : Fin cfg0.N) (y : S128x1408.Idx) (n : Fin 2048) (r : Fin 1408) (hn : n.val = t.val * 128 + (y 0).val) (hr : r.val = (y 1).val)
    (x : Vec Ideal S128x1408 .f32) (hx : x = iblk m c 0 t) : x y = (m ((c.tc : Thread nD τ).loc main_arg0)) (ix2 n r) := by
  obtain ⟨e0, e1, e2, e3, e4, e5, e6, e7⟩ := index_at t
  subst hx
  rw [Mat.idx2 y]
  blk_ext [iblk, V, e0]

theorem in1 (t : Fin cfg0.N) (y : S128x1408.Idx) (n : Fin 2048) (r : Fin 1408) (hn : n.val = t.val * 128 + (y 0).val) (hr : r.val = (y 1).val)
    (x : Vec Ideal S128x1408 .f32) (hx : x = iblk m c 1 t) : x y = (m ((c.tc : Thread nD τ).loc main_arg1)) (ix2 n r) := by
  obtain ⟨e0, e1, e2, e3, e4, e5, e6, e7⟩ := index_at t
  subst hx
  rw [Mat.idx2 y]
  blk_ext [iblk, V, e1]

theorem in2 (t : Fin cfg0.N) (y : S128x1408.Idx) (n : Fin 2048) (r : Fin 1408) (hn : n.val = t.val * 128 + (y 0).val) (hr : r.val = (y 1).val)
    (x : Vec Ideal S128x1408 .f32) (hx : x = iblk m c 2 t) : x y = (m ((c.tc : Thread nD τ).loc main_arg2)) (ix2 n r) := by
  obtain ⟨e0, e1, e2, e3, e4, e5, e6, e7⟩ := index_at t
  subst hx
  rw [Mat.idx2 y]
  blk_ext [iblk, V, e2]

theorem grad (t : Fin cfg0.N) (y : S128x1408.Idx) (n : Fin 2048) (r : Fin 1408) (hn : n.val = t.val * 128 + (y 0).val) (hr : r.val = (y 1).val) :
    k0_pay2 (View.ld (iblk m c 3 t) r0_0) (View.ld (iblk m c 3 t) r0_1) (View.ld (iblk m c 3 t) r0_2) (View.ld (iblk m c 3 t) r0_3) y
      = Adam.parts (m ((c.tc : Thread nD τ).loc main_arg3)) n r := by
  obtain ⟨e0, e1, e2, e3, e4, e5, e6, e7⟩ := index_at t
  rw [Mat.idx2 y]
  unfold k0_pay2 Adam.parts
  pointwise
  refine congrArg₂ (· + ·) (congrArg₂ (· + ·) (congrArg₂ (· + ·) ?_ ?_) ?_) ?_ <;> (try pointwise) <;> blk_ext [iblk, V, e3]

theorem final4 (n : Fin 2048) (r : Fin 1408) :
    ((dats m 0 c).arrAt 4 cfg0.N : S2048x1408.Idx → EReal) (ix2 n r) = (Adam.parts (m ((c.tc : Thread nD τ).loc main_arg3)) n r) := by
  have e : (dats m 0 c).arrAt 4 cfg0.N = fun i : S2048x1408.Idx => (Adam.parts (m ((c.tc : Thread nD τ).loc main_arg3)) (i 0) (i 1)) := by
    refine (dats m 0 c).arrAt_eq_of_covers 4 _ (by decide +kernel) fun t hf y => ?_
    obtain ⟨e0, e1, e2, e3, e4, e5, e6, e7⟩ := index_at t
    blk_simp
    rw [after0_4]
    frame_out
    refine grad m c t _ _ _ ?_ ?_ <;> blk_simp [e4] <;> (try dsimp only) <;> omega
  exact congrFun e (ix2 n r)

theorem final5 (n : Fin 2048) (r : Fin 1408) :
    ((dats m 0 c).arrAt 5 cfg0.N : S2048x1408.Idx → EReal) (ix2 n r) = Adam.delta ((m ((c.tc : Thread nD τ).loc main_arg0)) (ix2 n r)) (Adam.parts (m ((c.tc : Thread nD τ).loc main_arg3)) n r) ((m ((c.tc : Thread nD τ).loc main_arg1)) (ix2 n r)) ((m ((c.tc : Thread nD τ).loc main_arg2)) (ix2 n r)) := by
  have e : (dats m 0 c).arrAt 5 cfg0.N = fun i : S2048x1408.Idx => Adam.delta ((m ((c.tc : Thread nD τ).loc main_arg0)) (ix2 (i 0) (i 1))) (Adam.parts (m ((c.tc : Thread nD τ).loc main_arg3)) (i 0) (i 1)) ((m ((c.tc : Thread nD τ).loc main_arg1)) (ix2 (i 0) (i 1))) ((m ((c.tc : Thread nD τ).loc main_arg2)) (ix2 (i 0) (i 1))) := by
    refine (dats m 0 c).arrAt_eq_of_covers 5 _ (by decide +kernel) fun t hf y => ?_
    obtain ⟨e0, e1, e2, e3, e4, e5, e6, e7⟩ := index_at t
    blk_simp
    rw [after0_5]
    frame_out
    refine (tile_d _ _ _ _ _ _ _ _).trans (Adam.delta_congr (in0 m c t _ _ _ ?_ ?_ _ rfl) (grad m c t _ _ _ ?_ ?_) (in1 m c t _ _ _ ?_ ?_ _ rfl) (in2 m c t _ _ _ ?_ ?_ _ rfl)) <;> blk_simp [e5] <;> (try dsimp only) <;> omega
  exact congrFun e (ix2 n r)

theorem final6 (n : Fin 2048) (r : Fin 1408) :
    ((dats m 0 c).arrAt 6 cfg0.N : S2048x1408.Idx → EReal) (ix2 n r) = Adam.mom (Adam.parts (m ((c.tc : Thread nD τ).loc main_arg3)) n r) ((m ((c.tc : Thread nD τ).loc main_arg1)) (ix2 n r)) := by
  have e : (dats m 0 c).arrAt 6 cfg0.N = fun i : S2048x1408.Idx => Adam.mom (Adam.parts (m ((c.tc : Thread nD τ).loc main_arg3)) (i 0) (i 1)) ((m ((c.tc : Thread nD τ).loc main_arg1)) (ix2 (i 0) (i 1))) := by
    refine (dats m 0 c).arrAt_eq_of_covers 6 _ (by decide +kernel) fun t hf y => ?_
    obtain ⟨e0, e1, e2, e3, e4, e5, e6, e7⟩ := index_at t
    blk_simp
    rw [after0_6]
    frame_out
    refine (tile_m _ _ _ _ _ _).trans (congrArg₂ Adam.mom (grad m c t _ _ _ ?_ ?_) (in1 m c t _ _ _ ?_ ?_ _ rfl)) <;> blk_simp [e6] <;> (try dsimp only) <;> omega
  exact congrFun e (ix2 n r)

theorem final7 (n : Fin 2048) (r : Fin 1408) :
    ((dats m 0 c).arrAt 7 cfg0.N : S2048x1408.Idx → EReal) (ix2 n r) = Adam.sq (Adam.parts (m ((c.tc : Thread nD τ).loc main_arg3)) n r) ((m ((c.tc : Thread nD τ).loc main_arg2)) (ix2 n r)) := by
  have e : (dats m 0 c).arrAt 7 cfg0.N = fun i : S2048x1408.Idx => Adam.sq (Adam.parts (m ((c.tc : Thread nD τ).loc main_arg3)) (i 0) (i 1)) ((m ((c.tc : Thread nD τ).loc main_arg2)) (ix2 (i 0) (i 1))) := by
    refine (dats m 0 c).arrAt_eq_of_covers 7 _ (by decide +kernel) fun t hf y => ?_
    obtain ⟨e0, e1, e2, e3, e4, e5, e6, e7⟩ := index_at t
    blk_simp
    rw [after0_7]
    frame_out
    refine (tile_v _ _ _ _ _ _).trans (congrArg₂ Adam.sq (grad m c t _ _ _ ?_ ?_) (in2 m c t _ _ _ ?_ ?_ _ rfl)) <;> blk_simp [e7] <;> (try dsimp only) <;> omega
  exact congrFun e (ix2 n r)

end

attribute [local instance] Cert.Kernel18Ideal.Gen.facts Cert.Reference18Ideal.Gen.facts

theorem algebraic : Cert.algebraic_Kernel18Ideal_Reference18Ideal := by
  intro m ρ m' ρ' hpre hagree
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, Cert.Kernel18Ideal.Value.run_blocks (F := Ideal) m ρ, ?_⟩
  refine (θ_run Cert.Reference18Ideal.defs _ _).mono (fun r h c => ?_) (Cert.Reference18Ideal.Value.run (F := Ideal) m' ρ')
  obtain ⟨r0, r1, r2, r3, a0, a1, a2, a3⟩ := h c
  obtain ⟨g0, g1, g2, g3⟩ := hagree c
  refine ⟨r0.trans (Mat.ext2 fun n r => ?_), r1.trans (Mat.ext2 fun n r => ?_), r2.trans (Mat.ext2 fun n r => ?_), r3.trans (Mat.ext2 fun n r => ?_), a0, a1, a2, a3⟩
  · rw [g3]
    refine Eq.trans ?_ (final4 m c n r).symm
    unfold Adam.parts
    pointwise
    simp only [Fin.sum_univ_four]
  · rw [g0, g1, g2, g3]
    refine Eq.trans ?_ (final5 m c n r).symm
    unfold Adam.delta Adam.mom Adam.sq Adam.parts
    pointwise
    simp only [Fin.sum_univ_four]
  · rw [g1, g3]
    refine Eq.trans ?_ (final6 m c n r).symm
    unfold Adam.mom Adam.parts
    pointwise
    simp only [Fin.sum_univ_four]
  · rw [g2, g3]
    refine Eq.trans ?_ (final7 m c n r).symm
    unfold Adam.sq Adam.parts
    pointwise
    simp only [Fin.sum_univ_four]

theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

end Cert.P18
-- ==== Proof.P19.lean ====
/-
  The gradient and the optimiser's step of w_proj_a and w_proj_b, from the four partial gradients.
-/
module

public import proofs.«01_k».proof.Defs
public import proofs.«01_k».proof.Proof.Adam
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run

@[expose] public section

set_option maxRecDepth 16384

noncomputable section

namespace Cert.P19

open Idealize.ShloMosaic Idealize.ShloMosaic.StableHlo Idealize.SL.Sem

section
open Cert.Kernel19Ideal Cert.Kernel19Ideal.Gen

theorem index_at : ∀ t : Fin cfg0.N,
    win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem tile_m (p0 p1 p2 p3 : Vec Ideal S1x128x256 .bf16) (x : Vec Ideal S128x256 .f32) (y : S128x256.Idx) :
    k0_pay3 p0 p1 p2 p3 x y = Adam.mom (k0_pay2 p0 p1 p2 p3 y) (x y) := by
  unfold k0_pay3 Adam.mom
  pointwise

theorem tile_v (p0 p1 p2 p3 : Vec Ideal S1x128x256 .bf16) (x : Vec Ideal S128x256 .f32) (y : S128x256.Idx) :
    k0_pay4 p0 p1 p2 p3 x y = Adam.sq (k0_pay2 p0 p1 p2 p3 y) (x y) := by
  unfold k0_pay4 Adam.sq
  pointwise

theorem tile_d (p0 p1 p2 p3 : Vec Ideal S1x128x256 .bf16) (w x z : Vec Ideal S128x256 .f32) (y : S128x256.Idx) :
    k0_pay1 w (k0_pay5 p0 p1 p2 p3 x) (k0_pay6 p0 p1 p2 p3 z) (Scalar.ofBits .f32 0x322BCC77#32) y
      = Adam.delta (w y) (k0_pay2 p0 p1 p2 p3 y) (x y) (z y) := by
  unfold k0_pay1 k0_pay5 k0_pay6 k0_pay3 k0_pay4 Adam.delta Adam.mom Adam.sq
  pointwise

variable (m : (ℓ : Loc nD τ sig) → Buf (Elt Ideal) ℓ) (c : Dev nD)

theorem in0 (t : Fin cfg0.N) (y : S128x256.Idx) (n : Fin 1024) (r : Fin 256) (hn : n.val = t.val * 128 + (y 0).val) (hr : r.val = (y 1).val)
    (x : Vec Ideal S128x256 .f32) (hx : x = iblk m c 0 t) : x y = (m ((c.tc : Thread nD τ).loc main_arg0)) (ix2 n r) := by
  obtain ⟨e0, e1, e2, e3, e4, e5, e6, e7⟩ := index_at t
  subst hx
  rw [Mat.idx2 y]
  blk_ext [iblk, V, e0]

theorem in1 (t : Fin cfg0.N) (y : S128x256.Idx) (n : Fin 1024) (r : Fin 256) (hn : n.val = t.val * 128 + (y 0).val) (hr : r.val = (y 1).val)
    (x : Vec Ideal S128x256 .f32) (hx : x = iblk m c 1 t) : x y = (m ((c.tc : Thread nD τ).loc main_arg1)) (ix2 n r) := by
  obtain ⟨e0, e1, e2, e3, e4, e5, e6, e7⟩ := index_at t
  subst hx
  rw [Mat.idx2 y]
  blk_ext [iblk, V, e1]

theorem in2 (t : Fin cfg0.N) (y : S128x256.Idx) (n : Fin 1024) (r : Fin 256) (hn : n.val = t.val * 128 + (y 0).val) (hr : r.val = (y 1).val)
    (x : Vec Ideal S128x256 .f32) (hx : x = iblk m c 2 t) : x y = (m ((c.tc : Thread nD τ).loc main_arg2)) (ix2 n r) := by
  obtain ⟨e0, e1, e2, e3, e4, e5, e6, e7⟩ := index_at t
  subst hx
  rw [Mat.idx2 y]
  blk_ext [iblk, V, e2]

theorem grad (t : Fin cfg0.N) (y : S128x256.Idx) (n : Fin 1024) (r : Fin 256) (hn : n.val = t.val * 128 + (y 0).val) (hr : r.val = (y 1).val) :
    k0_pay2 (View.ld (iblk m c 3 t) r0_0) (View.ld (iblk m c 3 t) r0_1) (View.ld (iblk m c 3 t) r0_2) (View.ld (iblk m c 3 t) r0_3) y
      = Adam.parts (m ((c.tc : Thread nD τ).loc main_arg3)) n r := by
  obtain ⟨e0, e1, e2, e3, e4, e5, e6, e7⟩ := index_at t
  rw [Mat.idx2 y]
  unfold k0_pay2 Adam.parts
  pointwise
  refine congrArg₂ (· + ·) (congrArg₂ (· + ·) (congrArg₂ (· + ·) ?_ ?_) ?_) ?_ <;> (try pointwise) <;> blk_ext [iblk, V, e3]

theorem final4 (n : Fin 1024) (r : Fin 256) :
    ((dats m 0 c).arrAt 4 cfg0.N : S1024x256.Idx → EReal) (ix2 n r) = (Adam.parts (m ((c.tc : Thread nD τ).loc main_arg3)) n r) := by
  have e : (dats m 0 c).arrAt 4 cfg0.N = fun i : S1024x256.Idx => (Adam.parts (m ((c.tc : Thread nD τ).loc main_arg3)) (i 0) (i 1)) := by
    refine (dats m 0 c).arrAt_eq_of_covers 4 _ (by decide +kernel) fun t hf y => ?_
    obtain ⟨e0, e1, e2, e3, e4, e5, e6, e7⟩ := index_at t
    blk_simp
    rw [after0_4]
    frame_out
    refine grad m c t _ _ _ ?_ ?_ <;> blk_simp [e4] <;> (try dsimp only) <;> omega
  exact congrFun e (ix2 n r)

theorem final5 (n : Fin 1024) (r : Fin 256) :
    ((dats m 0 c).arrAt 5 cfg0.N : S1024x256.Idx → EReal) (ix2 n r) = Adam.delta ((m ((c.tc : Thread nD τ).loc main_arg0)) (ix2 n r)) (Adam.parts (m ((c.tc : Thread nD τ).loc main_arg3)) n r) ((m ((c.tc : Thread nD τ).loc main_arg1)) (ix2 n r)) ((m ((c.tc : Thread nD τ).loc main_arg2)) (ix2 n r)) := by
  have e : (dats m 0 c).arrAt 5 cfg0.N = fun i : S1024x256.Idx => Adam.delta ((m ((c.tc : Thread nD τ).loc main_arg0)) (ix2 (i 0) (i 1))) (Adam.parts (m ((c.tc : Thread nD τ).loc main_arg3)) (i 0) (i 1)) ((m ((c.tc : Thread nD τ).loc main_arg1)) (ix2 (i 0) (i 1))) ((m ((c.tc : Thread nD τ).loc main_arg2)) (ix2 (i 0) (i 1))) := by
    refine (dats m 0 c).arrAt_eq_of_covers 5 _ (by decide +kernel) fun t hf y => ?_
    obtain ⟨e0, e1, e2, e3, e4, e5, e6, e7⟩ := index_at t
    blk_simp
    rw [after0_5]
    frame_out
    refine (tile_d _ _ _ _ _ _ _ _).trans (Adam.delta_congr (in0 m c t _ _ _ ?_ ?_ _ rfl) (grad m c t _ _ _ ?_ ?_) (in1 m c t _ _ _ ?_ ?_ _ rfl) (in2 m c t _ _ _ ?_ ?_ _ rfl)) <;> blk_simp [e5] <;> (try dsimp only) <;> omega
  exact congrFun e (ix2 n r)

theorem final6 (n : Fin 1024) (r : Fin 256) :
    ((dats m 0 c).arrAt 6 cfg0.N : S1024x256.Idx → EReal) (ix2 n r) = Adam.mom (Adam.parts (m ((c.tc : Thread nD τ).loc main_arg3)) n r) ((m ((c.tc : Thread nD τ).loc main_arg1)) (ix2 n r)) := by
  have e : (dats m 0 c).arrAt 6 cfg0.N = fun i : S1024x256.Idx => Adam.mom (Adam.parts (m ((c.tc : Thread nD τ).loc main_arg3)) (i 0) (i 1)) ((m ((c.tc : Thread nD τ).loc main_arg1)) (ix2 (i 0) (i 1))) := by
    refine (dats m 0 c).arrAt_eq_of_covers 6 _ (by decide +kernel) fun t hf y => ?_
    obtain ⟨e0, e1, e2, e3, e4, e5, e6, e7⟩ := index_at t
    blk_simp
    rw [after0_6]
    frame_out
    refine (tile_m _ _ _ _ _ _).trans (congrArg₂ Adam.mom (grad m c t _ _ _ ?_ ?_) (in1 m c t _ _ _ ?_ ?_ _ rfl)) <;> blk_simp [e6] <;> (try dsimp only) <;> omega
  exact congrFun e (ix2 n r)

theorem final7 (n : Fin 1024) (r : Fin 256) :
    ((dats m 0 c).arrAt 7 cfg0.N : S1024x256.Idx → EReal) (ix2 n r) = Adam.sq (Adam.parts (m ((c.tc : Thread nD τ).loc main_arg3)) n r) ((m ((c.tc : Thread nD τ).loc main_arg2)) (ix2 n r)) := by
  have e : (dats m 0 c).arrAt 7 cfg0.N = fun i : S1024x256.Idx => Adam.sq (Adam.parts (m ((c.tc : Thread nD τ).loc main_arg3)) (i 0) (i 1)) ((m ((c.tc : Thread nD τ).loc main_arg2)) (ix2 (i 0) (i 1))) := by
    refine (dats m 0 c).arrAt_eq_of_covers 7 _ (by decide +kernel) fun t hf y => ?_
    obtain ⟨e0, e1, e2, e3, e4, e5, e6, e7⟩ := index_at t
    blk_simp
    rw [after0_7]
    frame_out
    refine (tile_v _ _ _ _ _ _).trans (congrArg₂ Adam.sq (grad m c t _ _ _ ?_ ?_) (in2 m c t _ _ _ ?_ ?_ _ rfl)) <;> blk_simp [e7] <;> (try dsimp only) <;> omega
  exact congrFun e (ix2 n r)

end

attribute [local instance] Cert.Kernel19Ideal.Gen.facts Cert.Reference19Ideal.Gen.facts

theorem algebraic : Cert.algebraic_Kernel19Ideal_Reference19Ideal := by
  intro m ρ m' ρ' hpre hagree
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, Cert.Kernel19Ideal.Value.run_blocks (F := Ideal) m ρ, ?_⟩
  refine (θ_run Cert.Reference19Ideal.defs _ _).mono (fun r h c => ?_) (Cert.Reference19Ideal.Value.run (F := Ideal) m' ρ')
  obtain ⟨r0, r1, r2, r3, a0, a1, a2, a3⟩ := h c
  obtain ⟨g0, g1, g2, g3⟩ := hagree c
  refine ⟨r0.trans (Mat.ext2 fun n r => ?_), r1.trans (Mat.ext2 fun n r => ?_), r2.trans (Mat.ext2 fun n r => ?_), r3.trans (Mat.ext2 fun n r => ?_), a0, a1, a2, a3⟩
  · rw [g3]
    refine Eq.trans ?_ (final4 m c n r).symm
    unfold Adam.parts
    pointwise
    simp only [Fin.sum_univ_four]
  · rw [g0, g1, g2, g3]
    refine Eq.trans ?_ (final5 m c n r).symm
    unfold Adam.delta Adam.mom Adam.sq Adam.parts
    pointwise
    simp only [Fin.sum_univ_four]
  · rw [g1, g3]
    refine Eq.trans ?_ (final6 m c n r).symm
    unfold Adam.mom Adam.parts
    pointwise
    simp only [Fin.sum_univ_four]
  · rw [g2, g3]
    refine Eq.trans ?_ (final7 m c n r).symm
    unfold Adam.sq Adam.parts
    pointwise
    simp only [Fin.sum_univ_four]

theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

end Cert.P19
-- ==== Proof.P20.lean ====
/-
  The gradient and the optimiser's step of w_out, from the four partial gradients.
-/
module

public import proofs.«01_k».proof.Defs
public import proofs.«01_k».proof.Proof.Adam
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run

@[expose] public section

set_option maxRecDepth 16384

noncomputable section

namespace Cert.P20

open Idealize.ShloMosaic Idealize.ShloMosaic.StableHlo Idealize.SL.Sem

section
open Cert.Kernel20Ideal Cert.Kernel20Ideal.Gen

theorem index_at : ∀ t : Fin cfg0.N,
    win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem tile_m (p0 p1 p2 p3 : Vec Ideal S1x128x2048 .bf16) (x : Vec Ideal S128x2048 .f32) (y : S128x2048.Idx) :
    k0_pay3 p0 p1 p2 p3 x y = Adam.mom (k0_pay2 p0 p1 p2 p3 y) (x y) := by
  unfold k0_pay3 Adam.mom
  pointwise

theorem tile_v (p0 p1 p2 p3 : Vec Ideal S1x128x2048 .bf16) (x : Vec Ideal S128x2048 .f32) (y : S128x2048.Idx) :
    k0_pay4 p0 p1 p2 p3 x y = Adam.sq (k0_pay2 p0 p1 p2 p3 y) (x y) := by
  unfold k0_pay4 Adam.sq
  pointwise

theorem tile_d (p0 p1 p2 p3 : Vec Ideal S1x128x2048 .bf16) (w x z : Vec Ideal S128x2048 .f32) (y : S128x2048.Idx) :
    k0_pay1 w (k0_pay5 p0 p1 p2 p3 x) (k0_pay6 p0 p1 p2 p3 z) (Scalar.ofBits .f32 0x322BCC77#32) y
      = Adam.delta (w y) (k0_pay2 p0 p1 p2 p3 y) (x y) (z y) := by
  unfold k0_pay1 k0_pay5 k0_pay6 k0_pay3 k0_pay4 Adam.delta Adam.mom Adam.sq
  pointwise

variable (m : (ℓ : Loc nD τ sig) → Buf (Elt Ideal) ℓ) (c : Dev nD)

theorem in0 (t : Fin cfg0.N) (y : S128x2048.Idx) (n : Fin 256) (r : Fin 2048) (hn : n.val = t.val * 128 + (y 0).val) (hr : r.val = (y 1).val)
    (x : Vec Ideal S128x2048 .f32) (hx : x = iblk m c 0 t) : x y = (m ((c.tc : Thread nD τ).loc main_arg0)) (ix2 n r) := by
  obtain ⟨e0, e1, e2, e3, e4, e5, e6, e7⟩ := index_at t
  subst hx
  rw [Mat.idx2 y]
  blk_ext [iblk, V, e0]

theorem in1 (t : Fin cfg0.N) (y : S128x2048.Idx) (n : Fin 256) (r : Fin 2048) (hn : n.val = t.val * 128 + (y 0).val) (hr : r.val = (y 1).val)
    (x : Vec Ideal S128x2048 .f32) (hx : x = iblk m c 1 t) : x y = (m ((c.tc : Thread nD τ).loc main_arg1)) (ix2 n r) := by
  obtain ⟨e0, e1, e2, e3, e4, e5, e6, e7⟩ := index_at t
  subst hx
  rw [Mat.idx2 y]
  blk_ext [iblk, V, e1]

theorem in2 (t : Fin cfg0.N) (y : S128x2048.Idx) (n : Fin 256) (r : Fin 2048) (hn : n.val = t.val * 128 + (y 0).val) (hr : r.val = (y 1).val)
    (x : Vec Ideal S128x2048 .f32) (hx : x = iblk m c 2 t) : x y = (m ((c.tc : Thread nD τ).loc main_arg2)) (ix2 n r) := by
  obtain ⟨e0, e1, e2, e3, e4, e5, e6, e7⟩ := index_at t
  subst hx
  rw [Mat.idx2 y]
  blk_ext [iblk, V, e2]

theorem grad (t : Fin cfg0.N) (y : S128x2048.Idx) (n : Fin 256) (r : Fin 2048) (hn : n.val = t.val * 128 + (y 0).val) (hr : r.val = (y 1).val) :
    k0_pay2 (View.ld (iblk m c 3 t) r0_0) (View.ld (iblk m c 3 t) r0_1) (View.ld (iblk m c 3 t) r0_2) (View.ld (iblk m c 3 t) r0_3) y
      = Adam.parts (m ((c.tc : Thread nD τ).loc main_arg3)) n r := by
  obtain ⟨e0, e1, e2, e3, e4, e5, e6, e7⟩ := index_at t
  rw [Mat.idx2 y]
  unfold k0_pay2 Adam.parts
  pointwise
  refine congrArg₂ (· + ·) (congrArg₂ (· + ·) (congrArg₂ (· + ·) ?_ ?_) ?_) ?_ <;> (try pointwise) <;> blk_ext [iblk, V, e3]

theorem final4 (n : Fin 256) (r : Fin 2048) :
    ((dats m 0 c).arrAt 4 cfg0.N : S256x2048.Idx → EReal) (ix2 n r) = (Adam.parts (m ((c.tc : Thread nD τ).loc main_arg3)) n r) := by
  have e : (dats m 0 c).arrAt 4 cfg0.N = fun i : S256x2048.Idx => (Adam.parts (m ((c.tc : Thread nD τ).loc main_arg3)) (i 0) (i 1)) := by
    refine (dats m 0 c).arrAt_eq_of_covers 4 _ (by decide +kernel) fun t hf y => ?_
    obtain ⟨e0, e1, e2, e3, e4, e5, e6, e7⟩ := index_at t
    blk_simp
    rw [after0_4]
    frame_out
    refine grad m c t _ _ _ ?_ ?_ <;> blk_simp [e4] <;> (try dsimp only) <;> omega
  exact congrFun e (ix2 n r)

theorem final5 (n : Fin 256) (r : Fin 2048) :
    ((dats m 0 c).arrAt 5 cfg0.N : S256x2048.Idx → EReal) (ix2 n r) = Adam.delta ((m ((c.tc : Thread nD τ).loc main_arg0)) (ix2 n r)) (Adam.parts (m ((c.tc : Thread nD τ).loc main_arg3)) n r) ((m ((c.tc : Thread nD τ).loc main_arg1)) (ix2 n r)) ((m ((c.tc : Thread nD τ).loc main_arg2)) (ix2 n r)) := by
  have e : (dats m 0 c).arrAt 5 cfg0.N = fun i : S256x2048.Idx => Adam.delta ((m ((c.tc : Thread nD τ).loc main_arg0)) (ix2 (i 0) (i 1))) (Adam.parts (m ((c.tc : Thread nD τ).loc main_arg3)) (i 0) (i 1)) ((m ((c.tc : Thread nD τ).loc main_arg1)) (ix2 (i 0) (i 1))) ((m ((c.tc : Thread nD τ).loc main_arg2)) (ix2 (i 0) (i 1))) := by
    refine (dats m 0 c).arrAt_eq_of_covers 5 _ (by decide +kernel) fun t hf y => ?_
    obtain ⟨e0, e1, e2, e3, e4, e5, e6, e7⟩ := index_at t
    blk_simp
    rw [after0_5]
    frame_out
    refine (tile_d _ _ _ _ _ _ _ _).trans (Adam.delta_congr (in0 m c t _ _ _ ?_ ?_ _ rfl) (grad m c t _ _ _ ?_ ?_) (in1 m c t _ _ _ ?_ ?_ _ rfl) (in2 m c t _ _ _ ?_ ?_ _ rfl)) <;> blk_simp [e5] <;> (try dsimp only) <;> omega
  exact congrFun e (ix2 n r)

theorem final6 (n : Fin 256) (r : Fin 2048) :
    ((dats m 0 c).arrAt 6 cfg0.N : S256x2048.Idx → EReal) (ix2 n r) = Adam.mom (Adam.parts (m ((c.tc : Thread nD τ).loc main_arg3)) n r) ((m ((c.tc : Thread nD τ).loc main_arg1)) (ix2 n r)) := by
  have e : (dats m 0 c).arrAt 6 cfg0.N = fun i : S256x2048.Idx => Adam.mom (Adam.parts (m ((c.tc : Thread nD τ).loc main_arg3)) (i 0) (i 1)) ((m ((c.tc : Thread nD τ).loc main_arg1)) (ix2 (i 0) (i 1))) := by
    refine (dats m 0 c).arrAt_eq_of_covers 6 _ (by decide +kernel) fun t hf y => ?_
    obtain ⟨e0, e1, e2, e3, e4, e5, e6, e7⟩ := index_at t
    blk_simp
    rw [after0_6]
    frame_out
    refine (tile_m _ _ _ _ _ _).trans (congrArg₂ Adam.mom (grad m c t _ _ _ ?_ ?_) (in1 m c t _ _ _ ?_ ?_ _ rfl)) <;> blk_simp [e6] <;> (try dsimp only) <;> omega
  exact congrFun e (ix2 n r)

theorem final7 (n : Fin 256) (r : Fin 2048) :
    ((dats m 0 c).arrAt 7 cfg0.N : S256x2048.Idx → EReal) (ix2 n r) = Adam.sq (Adam.parts (m ((c.tc : Thread nD τ).loc main_arg3)) n r) ((m ((c.tc : Thread nD τ).loc main_arg2)) (ix2 n r)) := by
  have e : (dats m 0 c).arrAt 7 cfg0.N = fun i : S256x2048.Idx => Adam.sq (Adam.parts (m ((c.tc : Thread nD τ).loc main_arg3)) (i 0) (i 1)) ((m ((c.tc : Thread nD τ).loc main_arg2)) (ix2 (i 0) (i 1))) := by
    refine (dats m 0 c).arrAt_eq_of_covers 7 _ (by decide +kernel) fun t hf y => ?_
    obtain ⟨e0, e1, e2, e3, e4, e5, e6, e7⟩ := index_at t
    blk_simp
    rw [after0_7]
    frame_out
    refine (tile_v _ _ _ _ _ _).trans (congrArg₂ Adam.sq (grad m c t _ _ _ ?_ ?_) (in2 m c t _ _ _ ?_ ?_ _ rfl)) <;> blk_simp [e7] <;> (try dsimp only) <;> omega
  exact congrFun e (ix2 n r)

end

attribute [local instance] Cert.Kernel20Ideal.Gen.facts Cert.Reference20Ideal.Gen.facts

theorem algebraic : Cert.algebraic_Kernel20Ideal_Reference20Ideal := by
  intro m ρ m' ρ' hpre hagree
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, Cert.Kernel20Ideal.Value.run_blocks (F := Ideal) m ρ, ?_⟩
  refine (θ_run Cert.Reference20Ideal.defs _ _).mono (fun r h c => ?_) (Cert.Reference20Ideal.Value.run (F := Ideal) m' ρ')
  obtain ⟨r0, r1, r2, r3, a0, a1, a2, a3⟩ := h c
  obtain ⟨g0, g1, g2, g3⟩ := hagree c
  refine ⟨r0.trans (Mat.ext2 fun n r => ?_), r1.trans (Mat.ext2 fun n r => ?_), r2.trans (Mat.ext2 fun n r => ?_), r3.trans (Mat.ext2 fun n r => ?_), a0, a1, a2, a3⟩
  · rw [g3]
    refine Eq.trans ?_ (final4 m c n r).symm
    unfold Adam.parts
    pointwise
    simp only [Fin.sum_univ_four]
  · rw [g0, g1, g2, g3]
    refine Eq.trans ?_ (final5 m c n r).symm
    unfold Adam.delta Adam.mom Adam.sq Adam.parts
    pointwise
    simp only [Fin.sum_univ_four]
  · rw [g1, g3]
    refine Eq.trans ?_ (final6 m c n r).symm
    unfold Adam.mom Adam.parts
    pointwise
    simp only [Fin.sum_univ_four]
  · rw [g2, g3]
    refine Eq.trans ?_ (final7 m c n r).symm
    unfold Adam.sq Adam.parts
    pointwise
    simp only [Fin.sum_univ_four]

theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

end Cert.P20
-- ==== Proof.P21.lean ====
/-
  The gradient and the optimiser's step of w_ffn_out, from the four partial gradients.
-/
module

public import proofs.«01_k».proof.Defs
public import proofs.«01_k».proof.Proof.Adam
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run

@[expose] public section

set_option maxRecDepth 16384

noncomputable section

namespace Cert.P21

open Idealize.ShloMosaic Idealize.ShloMosaic.StableHlo Idealize.SL.Sem

section
open Cert.Kernel21Ideal Cert.Kernel21Ideal.Gen

theorem index_at : ∀ t : Fin cfg0.N,
    win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem tile_m (p0 p1 p2 p3 : Vec Ideal S1x64x2048 .bf16) (x : Vec Ideal S64x2048 .f32) (y : S64x2048.Idx) :
    k0_pay3 p0 p1 p2 p3 x y = Adam.mom (k0_pay2 p0 p1 p2 p3 y) (x y) := by
  unfold k0_pay3 Adam.mom
  pointwise

theorem tile_v (p0 p1 p2 p3 : Vec Ideal S1x64x2048 .bf16) (x : Vec Ideal S64x2048 .f32) (y : S64x2048.Idx) :
    k0_pay4 p0 p1 p2 p3 x y = Adam.sq (k0_pay2 p0 p1 p2 p3 y) (x y) := by
  unfold k0_pay4 Adam.sq
  pointwise

theorem tile_d (p0 p1 p2 p3 : Vec Ideal S1x64x2048 .bf16) (w x z : Vec Ideal S64x2048 .f32) (y : S64x2048.Idx) :
    k0_pay1 w (k0_pay5 p0 p1 p2 p3 x) (k0_pay6 p0 p1 p2 p3 z) (Scalar.ofBits .f32 0x322BCC77#32) y
      = Adam.delta (w y) (k0_pay2 p0 p1 p2 p3 y) (x y) (z y) := by
  unfold k0_pay1 k0_pay5 k0_pay6 k0_pay3 k0_pay4 Adam.delta Adam.mom Adam.sq
  pointwise

variable (m : (ℓ : Loc nD τ sig) → Buf (Elt Ideal) ℓ) (c : Dev nD)

theorem in0 (t : Fin cfg0.N) (y : S64x2048.Idx) (n : Fin 704) (r : Fin 2048) (hn : n.val = t.val * 64 + (y 0).val) (hr : r.val = (y 1).val)
    (x : Vec Ideal S64x2048 .f32) (hx : x = iblk m c 0 t) : x y = (m ((c.tc : Thread nD τ).loc main_arg0)) (ix2 n r) := by
  obtain ⟨e0, e1, e2, e3, e4, e5, e6, e7⟩ := index_at t
  subst hx
  rw [Mat.idx2 y]
  blk_ext [iblk, V, e0]

theorem in1 (t : Fin cfg0.N) (y : S64x2048.Idx) (n : Fin 704) (r : Fin 2048) (hn : n.val = t.val * 64 + (y 0).val) (hr : r.val = (y 1).val)
    (x : Vec Ideal S64x2048 .f32) (hx : x = iblk m c 1 t) : x y = (m ((c.tc : Thread nD τ).loc main_arg1)) (ix2 n r) := by
  obtain ⟨e0, e1, e2, e3, e4, e5, e6, e7⟩ := index_at t
  subst hx
  rw [Mat.idx2 y]
  blk_ext [iblk, V, e1]

theorem in2 (t : Fin cfg0.N) (y : S64x2048.Idx) (n : Fin 704) (r : Fin 2048) (hn : n.val = t.val * 64 + (y 0).val) (hr : r.val = (y 1).val)
    (x : Vec Ideal S64x2048 .f32) (hx : x = iblk m c 2 t) : x y = (m ((c.tc : Thread nD τ).loc main_arg2)) (ix2 n r) := by
  obtain ⟨e0, e1, e2, e3, e4, e5, e6, e7⟩ := index_at t
  subst hx
  rw [Mat.idx2 y]
  blk_ext [iblk, V, e2]

theorem grad (t : Fin cfg0.N) (y : S64x2048.Idx) (n : Fin 704) (r : Fin 2048) (hn : n.val = t.val * 64 + (y 0).val) (hr : r.val = (y 1).val) :
    k0_pay2 (View.ld (iblk m c 3 t) r0_0) (View.ld (iblk m c 3 t) r0_1) (View.ld (iblk m c 3 t) r0_2) (View.ld (iblk m c 3 t) r0_3) y
      = Adam.parts (m ((c.tc : Thread nD τ).loc main_arg3)) n r := by
  obtain ⟨e0, e1, e2, e3, e4, e5, e6, e7⟩ := index_at t
  rw [Mat.idx2 y]
  unfold k0_pay2 Adam.parts
  pointwise
  refine congrArg₂ (· + ·) (congrArg₂ (· + ·) (congrArg₂ (· + ·) ?_ ?_) ?_) ?_ <;> (try pointwise) <;> blk_ext [iblk, V, e3]

theorem final4 (n : Fin 704) (r : Fin 2048) :
    ((dats m 0 c).arrAt 4 cfg0.N : S704x2048.Idx → EReal) (ix2 n r) = (Adam.parts (m ((c.tc : Thread nD τ).loc main_arg3)) n r) := by
  have e : (dats m 0 c).arrAt 4 cfg0.N = fun i : S704x2048.Idx => (Adam.parts (m ((c.tc : Thread nD τ).loc main_arg3)) (i 0) (i 1)) := by
    refine (dats m 0 c).arrAt_eq_of_covers 4 _ (by decide +kernel) fun t hf y => ?_
    obtain ⟨e0, e1, e2, e3, e4, e5, e6, e7⟩ := index_at t
    blk_simp
    rw [after0_4]
    frame_out
    refine grad m c t _ _ _ ?_ ?_ <;> blk_simp [e4] <;> (try dsimp only) <;> omega
  exact congrFun e (ix2 n r)

theorem final5 (n : Fin 704) (r : Fin 2048) :
    ((dats m 0 c).arrAt 5 cfg0.N : S704x2048.Idx → EReal) (ix2 n r) = Adam.delta ((m ((c.tc : Thread nD τ).loc main_arg0)) (ix2 n r)) (Adam.parts (m ((c.tc : Thread nD τ).loc main_arg3)) n r) ((m ((c.tc : Thread nD τ).loc main_arg1)) (ix2 n r)) ((m ((c.tc : Thread nD τ).loc main_arg2)) (ix2 n r)) := by
  have e : (dats m 0 c).arrAt 5 cfg0.N = fun i : S704x2048.Idx => Adam.delta ((m ((c.tc : Thread nD τ).loc main_arg0)) (ix2 (i 0) (i 1))) (Adam.parts (m ((c.tc : Thread nD τ).loc main_arg3)) (i 0) (i 1)) ((m ((c.tc : Thread nD τ).loc main_arg1)) (ix2 (i 0) (i 1))) ((m ((c.tc : Thread nD τ).loc main_arg2)) (ix2 (i 0) (i 1))) := by
    refine (dats m 0 c).arrAt_eq_of_covers 5 _ (by decide +kernel) fun t hf y => ?_
    obtain ⟨e0, e1, e2, e3, e4, e5, e6, e7⟩ := index_at t
    blk_simp
    rw [after0_5]
    frame_out
    refine (tile_d _ _ _ _ _ _ _ _).trans (Adam.delta_congr (in0 m c t _ _ _ ?_ ?_ _ rfl) (grad m c t _ _ _ ?_ ?_) (in1 m c t _ _ _ ?_ ?_ _ rfl) (in2 m c t _ _ _ ?_ ?_ _ rfl)) <;> blk_simp [e5] <;> (try dsimp only) <;> omega
  exact congrFun e (ix2 n r)

theorem final6 (n : Fin 704) (r : Fin 2048) :
    ((dats m 0 c).arrAt 6 cfg0.N : S704x2048.Idx → EReal) (ix2 n r) = Adam.mom (Adam.parts (m ((c.tc : Thread nD τ).loc main_arg3)) n r) ((m ((c.tc : Thread nD τ).loc main_arg1)) (ix2 n r)) := by
  have e : (dats m 0 c).arrAt 6 cfg0.N = fun i : S704x2048.Idx => Adam.mom (Adam.parts (m ((c.tc : Thread nD τ).loc main_arg3)) (i 0) (i 1)) ((m ((c.tc : Thread nD τ).loc main_arg1)) (ix2 (i 0) (i 1))) := by
    refine (dats m 0 c).arrAt_eq_of_covers 6 _ (by decide +kernel) fun t hf y => ?_
    obtain ⟨e0, e1, e2, e3, e4, e5, e6, e7⟩ := index_at t
    blk_simp
    rw [after0_6]
    frame_out
    refine (tile_m _ _ _ _ _ _).trans (congrArg₂ Adam.mom (grad m c t _ _ _ ?_ ?_) (in1 m c t _ _ _ ?_ ?_ _ rfl)) <;> blk_simp [e6] <;> (try dsimp only) <;> omega
  exact congrFun e (ix2 n r)

theorem final7 (n : Fin 704) (r : Fin 2048) :
    ((dats m 0 c).arrAt 7 cfg0.N : S704x2048.Idx → EReal) (ix2 n r) = Adam.sq (Adam.parts (m ((c.tc : Thread nD τ).loc main_arg3)) n r) ((m ((c.tc : Thread nD τ).loc main_arg2)) (ix2 n r)) := by
  have e : (dats m 0 c).arrAt 7 cfg0.N = fun i : S704x2048.Idx => Adam.sq (Adam.parts (m ((c.tc : Thread nD τ).loc main_arg3)) (i 0) (i 1)) ((m ((c.tc : Thread nD τ).loc main_arg2)) (ix2 (i 0) (i 1))) := by
    refine (dats m 0 c).arrAt_eq_of_covers 7 _ (by decide +kernel) fun t hf y => ?_
    obtain ⟨e0, e1, e2, e3, e4, e5, e6, e7⟩ := index_at t
    blk_simp
    rw [after0_7]
    frame_out
    refine (tile_v _ _ _ _ _ _).trans (congrArg₂ Adam.sq (grad m c t _ _ _ ?_ ?_) (in2 m c t _ _ _ ?_ ?_ _ rfl)) <;> blk_simp [e7] <;> (try dsimp only) <;> omega
  exact congrFun e (ix2 n r)

end

attribute [local instance] Cert.Kernel21Ideal.Gen.facts Cert.Reference21Ideal.Gen.facts

theorem algebraic : Cert.algebraic_Kernel21Ideal_Reference21Ideal := by
  intro m ρ m' ρ' hpre hagree
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N, fun c => (Cert.Kernel21Ideal.Gen.dats m 0 c).arrAt 7 Cert.Kernel21Ideal.cfg0.N, Cert.Kernel21Ideal.Value.run_blocks (F := Ideal) m ρ, ?_⟩
  refine (θ_run Cert.Reference21Ideal.defs _ _).mono (fun r h c => ?_) (Cert.Reference21Ideal.Value.run (F := Ideal) m' ρ')
  obtain ⟨r0, r1, r2, r3, a0, a1, a2, a3⟩ := h c
  obtain ⟨g0, g1, g2, g3⟩ := hagree c
  refine ⟨r0.trans (Mat.ext2 fun n r => ?_), r1.trans (Mat.ext2 fun n r => ?_), r2.trans (Mat.ext2 fun n r => ?_), r3.trans (Mat.ext2 fun n r => ?_), a0, a1, a2, a3⟩
  · rw [g3]
    refine Eq.trans ?_ (final4 m c n r).symm
    unfold Adam.parts
    pointwise
    simp only [Fin.sum_univ_four]
  · rw [g0, g1, g2, g3]
    refine Eq.trans ?_ (final5 m c n r).symm
    unfold Adam.delta Adam.mom Adam.sq Adam.parts
    pointwise
    simp only [Fin.sum_univ_four]
  · rw [g1, g3]
    refine Eq.trans ?_ (final6 m c n r).symm
    unfold Adam.mom Adam.parts
    pointwise
    simp only [Fin.sum_univ_four]
  · rw [g2, g3]
    refine Eq.trans ?_ (final7 m c n r).symm
    unfold Adam.sq Adam.parts
    pointwise
    simp only [Fin.sum_univ_four]

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

end Cert.P21
-- ==== Proof.P22.lean ====
/-
  The optimiser's step for the small weights, packed into one array.
-/
module

public import proofs.«01_k».proof.Defs
public import proofs.«01_k».proof.Proof.Adam
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run

@[expose] public section

set_option maxRecDepth 16384

noncomputable section

namespace Cert.P22

open Idealize.ShloMosaic Idealize.ShloMosaic.StableHlo Idealize.SL.Sem

section
open Cert.Kernel22Ideal Cert.Kernel22Ideal.Gen

theorem index_at : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem tile_m (g x : Vec Ideal S16x1024 .f32) (y : S16x1024.Idx) : k0_pay1 g x y = Adam.mom (g y) (x y) := by
  unfold k0_pay1 Adam.mom
  pointwise

theorem tile_v (g x : Vec Ideal S16x1024 .f32) (y : S16x1024.Idx) : k0_pay2 g x y = Adam.sq (g y) (x y) := by
  unfold k0_pay2 Adam.sq
  pointwise

theorem tile_d (w g x z : Vec Ideal S16x1024 .f32) (y : S16x1024.Idx) : k0_pay3 w g x z y = Adam.delta (w y) (g y) (x y) (z y) := by
  unfold k0_pay3 k0_pay1 k0_pay2 Adam.delta Adam.mom Adam.sq
  pointwise

variable (m : (ℓ : Loc nD τ sig) → Buf (Elt Ideal) ℓ) (c : Dev nD)

theorem in0 (t : Fin cfg0.N) (y : S16x1024.Idx) (n : Fin 16) (r : Fin 1024) (hn : n.val = (y 0).val) (hr : r.val = (y 1).val)
    (x : Vec Ideal S16x1024 .f32) (hx : x = iblk m c 0 t) : x y = (m ((c.tc : Thread nD τ).loc main_arg0)) (ix2 n r) := by
  obtain ⟨e0, e1, e2, e3, e4, e5, e6⟩ := index_at t
  subst hx
  rw [Mat.idx2 y]
  blk_ext [iblk, V, e0]

theorem in1 (t : Fin cfg0.N) (y : S16x1024.Idx) (n : Fin 16) (r : Fin 1024) (hn : n.val = (y 0).val) (hr : r.val = (y 1).val)
    (x : Vec Ideal S16x1024 .f32) (hx : x = iblk m c 1 t) : x y = (m ((c.tc : Thread nD τ).loc main_arg1)) (ix2 n r) := by
  obtain ⟨e0, e1, e2, e3, e4, e5, e6⟩ := index_at t
  subst hx
  rw [Mat.idx2 y]
  blk_ext [iblk, V, e1]

theorem in2 (t : Fin cfg0.N) (y : S16x1024.Idx) (n : Fin 16) (r : Fin 1024) (hn : n.val = (y 0).val) (hr : r.val = (y 1).val)
    (x : Vec Ideal S16x1024 .f32) (hx : x = iblk m c 2 t) : x y = (m ((c.tc : Thread nD τ).loc main_arg2)) (ix2 n r) := by
  obtain ⟨e0, e1, e2, e3, e4, e5, e6⟩ := index_at t
  subst hx
  rw [Mat.idx2 y]
  blk_ext [iblk, V, e2]

theorem in3 (t : Fin cfg0.N) (y : S16x1024.Idx) (n : Fin 16) (r : Fin 1024) (hn : n.val = (y 0).val) (hr : r.val = (y 1).val)
    (x : Vec Ideal S16x1024 .f32) (hx : x = iblk m c 3 t) : x y = (m ((c.tc : Thread nD τ).loc main_arg3)) (ix2 n r) := by
  obtain ⟨e0, e1, e2, e3, e4, e5, e6⟩ := index_at t
  subst hx
  rw [Mat.idx2 y]
  blk_ext [iblk, V, e3]

theorem final4 (n : Fin 16) (r : Fin 1024) :
    ((dats m 0 c).arrAt 4 cfg0.N : S16x1024.Idx → EReal) (ix2 n r) = Adam.delta ((m ((c.tc : Thread nD τ).loc main_arg0)) (ix2 n r)) ((m ((c.tc : Thread nD τ).loc main_arg1)) (ix2 n r)) ((m ((c.tc : Thread nD τ).loc main_arg2)) (ix2 n r)) ((m ((c.tc : Thread nD τ).loc main_arg3)) (ix2 n r)) := by
  have e : (dats m 0 c).arrAt 4 cfg0.N = fun i : S16x1024.Idx => Adam.delta ((m ((c.tc : Thread nD τ).loc main_arg0)) (ix2 (i 0) (i 1))) ((m ((c.tc : Thread nD τ).loc main_arg1)) (ix2 (i 0) (i 1))) ((m ((c.tc : Thread nD τ).loc main_arg2)) (ix2 (i 0) (i 1))) ((m ((c.tc : Thread nD τ).loc main_arg3)) (ix2 (i 0) (i 1))) := by
    refine (dats m 0 c).arrAt_eq_of_covers 4 _ (by decide +kernel) fun t hf y => ?_
    obtain ⟨e0, e1, e2, e3, e4, e5, e6⟩ := index_at t
    blk_simp
    rw [after0_4]
    frame_out
    refine (tile_d _ _ _ _ _).trans (Adam.delta_congr (in0 m c t _ _ _ ?_ ?_ _ rfl) (in1 m c t _ _ _ ?_ ?_ _ rfl) (in2 m c t _ _ _ ?_ ?_ _ rfl) (in3 m c t _ _ _ ?_ ?_ _ rfl)) <;> blk_simp [e4] <;> (try dsimp only) <;> omega
  exact congrFun e (ix2 n r)

theorem final5 (n : Fin 16) (r : Fin 1024) :
    ((dats m 0 c).arrAt 5 cfg0.N : S16x1024.Idx → EReal) (ix2 n r) = Adam.mom ((m ((c.tc : Thread nD τ).loc main_arg1)) (ix2 n r)) ((m ((c.tc : Thread nD τ).loc main_arg2)) (ix2 n r)) := by
  have e : (dats m 0 c).arrAt 5 cfg0.N = fun i : S16x1024.Idx => Adam.mom ((m ((c.tc : Thread nD τ).loc main_arg1)) (ix2 (i 0) (i 1))) ((m ((c.tc : Thread nD τ).loc main_arg2)) (ix2 (i 0) (i 1))) := by
    refine (dats m 0 c).arrAt_eq_of_covers 5 _ (by decide +kernel) fun t hf y => ?_
    obtain ⟨e0, e1, e2, e3, e4, e5, e6⟩ := index_at t
    blk_simp
    rw [after0_5]
    frame_out
    refine (tile_m _ _ _).trans (congrArg₂ Adam.mom (in1 m c t _ _ _ ?_ ?_ _ rfl) (in2 m c t _ _ _ ?_ ?_ _ rfl)) <;> blk_simp [e5] <;> (try dsimp only) <;> omega
  exact congrFun e (ix2 n r)

theorem final6 (n : Fin 16) (r : Fin 1024) :
    ((dats m 0 c).arrAt 6 cfg0.N : S16x1024.Idx → EReal) (ix2 n r) = Adam.sq ((m ((c.tc : Thread nD τ).loc main_arg1)) (ix2 n r)) ((m ((c.tc : Thread nD τ).loc main_arg3)) (ix2 n r)) := by
  have e : (dats m 0 c).arrAt 6 cfg0.N = fun i : S16x1024.Idx => Adam.sq ((m ((c.tc : Thread nD τ).loc main_arg1)) (ix2 (i 0) (i 1))) ((m ((c.tc : Thread nD τ).loc main_arg3)) (ix2 (i 0) (i 1))) := by
    refine (dats m 0 c).arrAt_eq_of_covers 6 _ (by decide +kernel) fun t hf y => ?_
    obtain ⟨e0, e1, e2, e3, e4, e5, e6⟩ := index_at t
    blk_simp
    rw [after0_6]
    frame_out
    refine (tile_v _ _ _).trans (congrArg₂ Adam.sq (in1 m c t _ _ _ ?_ ?_ _ rfl) (in3 m c t _ _ _ ?_ ?_ _ rfl)) <;> blk_simp [e6] <;> (try dsimp only) <;> omega
  exact congrFun e (ix2 n r)

end

attribute [local instance] Cert.Kernel22Ideal.Gen.facts Cert.Reference22Ideal.Gen.facts

theorem algebraic : Cert.algebraic_Kernel22Ideal_Reference22Ideal := by
  intro m ρ m' ρ' hpre hagree
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N, Cert.Kernel22Ideal.Value.run_blocks (F := Ideal) m ρ, ?_⟩
  refine (θ_run Cert.Reference22Ideal.defs _ _).mono (fun r h c => ?_) (Cert.Reference22Ideal.Value.run (F := Ideal) m' ρ')
  obtain ⟨r0, r1, r2, a0, a1, a2, a3⟩ := h c
  obtain ⟨g0, g1, g2, g3⟩ := hagree c
  refine ⟨r0.trans (Mat.ext2 fun n r => ?_), r1.trans (Mat.ext2 fun n r => ?_), r2.trans (Mat.ext2 fun n r => ?_), a0, a1, a2, a3⟩
  · rw [g0, g1, g2, g3]
    refine Eq.trans ?_ (final4 m c n r).symm
    unfold Adam.delta Adam.mom Adam.sq
    pointwise
  · rw [g1, g2]
    refine Eq.trans ?_ (final5 m c n r).symm
    unfold Adam.mom
    pointwise
  · rw [g1, g3]
    refine Eq.trans ?_ (final6 m c n r).symm
    unfold Adam.sq
    pointwise

theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

end Cert.P22
-- ==== Proof.P23.lean ====
/-
  The first norm of the rows.
-/
module

public import proofs.«01_k».proof.Defs
public import proofs.«01_k».proof.Proof.Mat
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run

@[expose] public section

set_option maxRecDepth 16384

noncomputable section

namespace Cert.P23

open Idealize.ShloMosaic Idealize.ShloMosaic.StableHlo Idealize.SL.Sem

/-- A row over its root mean square, times the gain. -/
def norm (f : Fin 2048 → EReal) (g : (⟨2, ![1, 2048]⟩ : Shape).Idx → EReal) (j : Fin 2048) : EReal :=
  f j * Ideal.rsqrt (Ideal.div (∑ k, f k * f k) (Ideal.ofBits .f32 0x45000000#32) + Ideal.ofBits .f32 0x358637BD#32) * g (ix2 0 j)

/-- A row of an array. -/
def row (x : (⟨2, ![2048, 2048]⟩ : Shape).Idx → EReal) (n k : Fin 2048) : EReal := x (ix2 n k)

section
open Cert.Kernel23Ideal Cert.Kernel23Ideal.Gen

theorem index_at : ∀ t : Fin cfg0.N, win0_0.index t = ![t.val, 0] ∧ win0_1.index t = ![0, 0] ∧ win0_2.index t = ![t.val, 0] :=
  (by decide +kernel : ∀ t : Fin grid0.N, _)

theorem tile (x : Vec Ideal S256x2048 .f32) (g : Vec Ideal S1x2048 .f32) (y : S256x2048.Idx) :
    k0_pay1 x g y = norm (fun k => x (ix2 (y 0) k)) g (y 1) := by
  rw [Mat.idx2 y]
  unfold k0_pay1 norm
  pointwise

variable (m : (ℓ : Loc nD τ sig) → Buf (Elt Ideal) ℓ) (c : Dev nD)

theorem final (n r : Fin 2048) :
    ((dats m 0 c).arrAt 2 cfg0.N : S2048x2048.Idx → EReal) (ix2 n r) = norm (row (m ((c.tc : Thread nD τ).loc main_arg0)) n) (m ((c.tc : Thread nD τ).loc main_arg1)) r := by
  have e : (dats m 0 c).arrAt 2 cfg0.N = fun i : S2048x2048.Idx => norm (row (m ((c.tc : Thread nD τ).loc main_arg0)) (i 0)) (m ((c.tc : Thread nD τ).loc main_arg1)) (i 1) := by
    refine (dats m 0 c).arrAt_eq_of_covers 2 _ (by decide +kernel) fun t hf y => ?_
    obtain ⟨e0, e1, e2⟩ := index_at t
    blk_simp
    rw [after0_2]
    frame_out
    have h1 : (iblk m c 1 t : Vec Ideal S1x2048 .f32) = (m ((c.tc : Thread nD τ).loc main_arg1)) := by
      refine Mat.ext2 fun i j => ?_
      blk_ext [iblk, V, e1]
    have h0 : ∀ (i : Fin 256) (n k : Fin 2048), n.val = t.val * 256 + i.val → (iblk m c 0 t : Vec Ideal S256x2048 .f32) (ix2 i k) = row (m ((c.tc : Thread nD τ).loc main_arg0)) n k := by
      intro i n k hn
      unfold row
      blk_ext [iblk, V, e0]
    refine (tile _ _ _).trans ?_
    rw [h1]
    refine congr (congrArg (fun f => norm f _) (funext fun k => h0 _ _ _ ?_)) (Fin.ext ?_) <;> blk_simp [e2] <;> (try dsimp only) <;> omega
  exact congrFun e (ix2 n r)

end

section
open Cert.Reference23Ideal Cert.Reference23Ideal.Gen

variable (x : FVec Ideal S2048x2048 .f32) (g : FVec Ideal S1x2048 .f32)

theorem ref (n r : Fin 2048) :
    (truncf (F := Ideal) .bf16 (mulf (F := Ideal) (mulf (F := Ideal) x (broadcastInDim S2048x2048 ![0, 1] bcast_S2048x1_S2048x2048_0_1 (Host.rsqrt (F := Ideal) (addf (F := Ideal) (Host.divf (F := Ideal) (broadcastInDim S2048x1 ![0] bcast_S2048_S2048x1_0 (Host.reduceAdd (F := Ideal) (mulf (F := Ideal) x x) (constant (F := Ideal) S_ .f32 0x00000000#32) reducesTo_S2048x2048_S2048_d1 h_S_)) (broadcastInDim S2048x1 ![] bcast_S_S2048x1 (constant (F := Ideal) S_ .f32 0x45000000#32))) (broadcastInDim S2048x1 ![] bcast_S_S2048x1 (constant (F := Ideal) S_ .f32 0x358637BD#32)))))) (broadcastInDim S2048x2048 ![0, 1] bcast_S1x2048_S2048x2048_0_1 (broadcastInDim S1x2048 ![1] bcast_S2048_S1x2048_1 (shapeCast _ g shapeCasts_S1x2048_S2048)))) bitsLt_bf16_f32) (ix2 n r) = norm (row x n) g r := by
  unfold norm row
  pointwise

end

attribute [local instance] Cert.Kernel23Ideal.Gen.facts Cert.Reference23Ideal.Gen.facts

theorem algebraic : Cert.algebraic_Kernel23Ideal_Reference23Ideal := by
  intro m ρ m' ρ' hpre hagree
  refine ⟨fun c => (Cert.Kernel23Ideal.Gen.dats m 0 c).arrAt 2 Cert.Kernel23Ideal.cfg0.N, Cert.Kernel23Ideal.Value.run_blocks (F := Ideal) m ρ, ?_⟩
  refine (θ_run Cert.Reference23Ideal.defs _ _).mono (fun r h c => ?_) (Cert.Reference23Ideal.Value.run (F := Ideal) m' ρ')
  obtain ⟨r0, a0, a1⟩ := h c
  obtain ⟨g0, g1⟩ := hagree c
  refine ⟨r0.trans (Mat.ext2 fun n r => ?_), a0, a1⟩
  · rw [g0, g1]
    exact (ref _ _ n r).trans (final m c n r).symm

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

end Cert.P23
-- ==== Proof.P9.lean ====
/-
  The gradient of w_proj_a and of w_proj_b: the kernel's tiles of the product of the transposed branch output with the incoming gradient.
-/
module

public import proofs.«01_k».proof.Defs
public import proofs.«01_k».proof.Proof.Mat
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run

@[expose] public section

set_option maxRecDepth 16384

noncomputable section

namespace Cert.P9

open Idealize.ShloMosaic Idealize.ShloMosaic.StableHlo Idealize.SL.Sem

/-- The product at an entry. -/
def spec (x : (⟨2, ![2048, 1024]⟩ : Shape).Idx → EReal) (y : (⟨2, ![2048, 2048]⟩ : Shape).Idx → EReal) (b : Fin 8) (n : Fin 1024) (r : Fin 256) : EReal :=
  ∑ t : Fin 2048, x (ix2 t n) * y (ix2 t ⟨b.val * 256 + r.val, by omega⟩)

section
open Cert.Kernel9Ideal Cert.Kernel9Ideal.Gen

/-- One tile. -/
theorem tile (x0 : Vec Ideal S2048x1024 .bf16) (x1 : Vec Ideal S2048x256 .bf16) (i : Fin 1024) (j : Fin 256) :
    k0_pay1 x0 x1 (ix3 0 i j) = ∑ t : Fin 2048, x0 (ix2 t i) * x1 (ix2 t j) := by
  unfold k0_pay1
  pointwise

theorem index_at : ∀ t : Fin cfg0.N,
    win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

theorem final (b : Fin 8) (n : Fin 1024) (r : Fin 256) :
    ((dats m 0 c).arrAt 2 cfg0.N : S8x1024x256.Idx → EReal) (ix3 b n r)
      = spec (m ((c.tc : Thread nD τ).loc main_arg0)) (m ((c.tc : Thread nD τ).loc main_arg1)) b n r := by
  have e : (dats m 0 c).arrAt 2 cfg0.N = fun i : S8x1024x256.Idx =>
      spec (m ((c.tc : Thread nD τ).loc main_arg0)) (m ((c.tc : Thread nD τ).loc main_arg1)) (i 0) (i 1) (i 2) := by
    refine (dats m 0 c).arrAt_eq_of_covers 2 _ (by decide +kernel) fun t hf y => ?_
    obtain ⟨e0, e1, e2⟩ := index_at t
    rw [after0_2]
    frame_out
    have h0 : (y 0).val < 1 := (y 0).isLt
    have h1 : (y 1).val < 1024 := (y 1).isLt
    have h2 : (y 2).val < 256 := (y 2).isLt
    have hx : (cfg0.win 2).xinj (cfg0.grid.coords t) y = ix3 (0 : Fin 1) (⟨(y 1).val, h1⟩ : Fin 1024) (⟨(y 2).val, h2⟩ : Fin 256) := by
      funext a
      apply Fin.ext
      match a with
      | ⟨0, _⟩ => exact Nat.lt_one_iff.1 h0
      | ⟨1, _⟩ => rfl
      | ⟨2, _⟩ => rfl
    rw [hx]
    refine (tile _ _ _ _).trans (Mat.prod_congr fun k => ⟨?_, ?_⟩) <;> blk_ext [iblk, V, e0, e1, e2]
  exact congrFun e (ix3 b n r)

end

section
open Cert.Reference9Ideal Cert.Reference9Ideal.Gen

theorem ref (x : FVec Ideal S2048x1024 .bf16) (y : FVec Ideal S2048x2048 .bf16) (b : Fin 8) (n : Fin 1024) (r : Fin 256) :
    truncf (F := Ideal) .bf16 (transpose S8x1024x256 [1, 0, 2] (shapeCast _ (transpose S1024x2048 [1, 0] (Host.dotGeneral (F := Ideal) dot_S2048x2048_S2048x1024_S2048x1024_0_0_1_1_n_n none (extf (F := Ideal) .f32 y bitsLt_bf16_f32) (extf (F := Ideal) .f32 x bitsLt_bf16_f32)) transposes_S2048x1024_S1024x2048_1_0) shapeCasts_S1024x2048_S1024x8x256) transposes_S1024x8x256_S8x1024x256_1_0_2) bitsLt_bf16_f32 (ix3 b n r)
      = spec x y b n r := by
  pointwise
  exact Finset.sum_congr rfl fun t _ => mul_comm _ _

end

attribute [local instance] Cert.Kernel9Ideal.Gen.facts Cert.Reference9Ideal.Gen.facts

theorem algebraic : Cert.algebraic_Kernel9Ideal_Reference9Ideal := by
  intro m ρ m' ρ' hpre hagree
  refine ⟨fun c => (Cert.Kernel9Ideal.Gen.dats m 0 c).arrAt 2 Cert.Kernel9Ideal.cfg0.N, Cert.Kernel9Ideal.Value.run_blocks (F := Ideal) m ρ, ?_⟩
  refine (θ_run Cert.Reference9Ideal.defs _ _).mono (fun r h c => ?_) (Cert.Reference9Ideal.Value.run (F := Ideal) m' ρ')
  obtain ⟨r0, a0, a1⟩ := h c
  obtain ⟨g0, g1⟩ := hagree c
  refine ⟨r0.trans (Mat.ext3 fun b n r => ?_), a0, a1⟩
  rw [g0, g1]
  exact (ref _ _ b n r).trans (final m c b n r).symm

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.P9
-- ==== Proof.P8.lean ====
/-
  The gradient of the output of branch a and of branch b: the kernel adds the products of eight blocks of columns.
-/
module

public import proofs.«01_k».proof.Defs
public import proofs.«01_k».proof.Proof.Mat
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run

@[expose] public section

set_option maxRecDepth 16384

noncomputable section

namespace Cert.P8

open Idealize.ShloMosaic Idealize.ShloMosaic.StableHlo Idealize.SL.Sem

/-- The product of one block of columns at an entry. -/
def part (x : (⟨2, ![2048, 2048]⟩ : Shape).Idx → EReal) (y : (⟨3, ![8, 1024, 256]⟩ : Shape).Idx → EReal) (n : Fin 2048) (j : Fin 1024) (q : Fin 8) : EReal :=
  ∑ k : Fin 256, x (ix2 n ⟨q.val * 256 + k.val, by omega⟩) * y (ix3 q j k)

/-- The product at an entry. -/
def spec (x : (⟨2, ![2048, 2048]⟩ : Shape).Idx → EReal) (y : (⟨3, ![8, 1024, 256]⟩ : Shape).Idx → EReal) (n : Fin 2048) (j : Fin 1024) : EReal := ∑ q : Fin 8, part x y n j q

section
open Cert.Kernel8Ideal Cert.Kernel8Ideal.Gen

theorem index_at : ∀ t : Fin cfg0.N,
    win0_0.index t = ![t.val, 0] ∧ win0_1.index t = ![0, 0, 0] ∧ win0_2.index t = ![t.val, 0] :=
  (by decide +kernel : ∀ t : Fin grid0.N, _)

theorem point_lt (t : Fin cfg0.N) : t.val < 2 := lt_of_lt_of_eq t.isLt (by decide +kernel)

/-- The eight products of a grid point. -/
theorem pay (u0 : Vec Ideal S1024x256 .bf16) (w0 : Vec Ideal S1x1024x256 .bf16) (u1 : Vec Ideal S1024x256 .bf16) (w1 : Vec Ideal S1x1024x256 .bf16) (u2 : Vec Ideal S1024x256 .bf16) (w2 : Vec Ideal S1x1024x256 .bf16) (u3 : Vec Ideal S1024x256 .bf16) (w3 : Vec Ideal S1x1024x256 .bf16) (u4 : Vec Ideal S1024x256 .bf16) (w4 : Vec Ideal S1x1024x256 .bf16) (u5 : Vec Ideal S1024x256 .bf16) (w5 : Vec Ideal S1x1024x256 .bf16) (u6 : Vec Ideal S1024x256 .bf16) (w6 : Vec Ideal S1x1024x256 .bf16) (u7 : Vec Ideal S1024x256 .bf16) (w7 : Vec Ideal S1x1024x256 .bf16) (i j : Fin 1024) :
    k0_pay1 (k0_pay2 u0 w0 u1 w1 u2 w2 u3 w3 u4 w4) u5 w5 u6 w6 u7 w7 (ix2 i j)
      = (∑ k : Fin 256, u0 (ix2 i k) * w0 (ix3 0 j k)) + (∑ k : Fin 256, u1 (ix2 i k) * w1 (ix3 0 j k)) + (∑ k : Fin 256, u2 (ix2 i k) * w2 (ix3 0 j k)) + (∑ k : Fin 256, u3 (ix2 i k) * w3 (ix3 0 j k)) + (∑ k : Fin 256, u4 (ix2 i k) * w4 (ix3 0 j k)) + (∑ k : Fin 256, u5 (ix2 i k) * w5 (ix3 0 j k)) + (∑ k : Fin 256, u6 (ix2 i k) * w6 (ix3 0 j k)) + (∑ k : Fin 256, u7 (ix2 i k) * w7 (ix3 0 j k)) := by
  unfold k0_pay1 k0_pay2
  pointwise

variable (m : (ℓ : Loc nD τ sig) → Buf (Elt Ideal) ℓ) (c : Dev nD)

theorem pay_at (t : Fin cfg0.N) (i j : Fin 1024) :
    k0_pay1 (k0_pay2 (View.ld (iblk m c 0 t) (Rect.unit ![0, 0] ![1024, 256] inb_S1024x2048_S1024x256_0_0)) (View.ld (iblk m c 1 t) (Rect.unit ![0, 0, 0] ![1, 1024, 256] inb_S8x1024x256_S1x1024x256_0_0_0)) (View.ld (iblk m c 0 t) (Rect.unit ![0, 256] ![1024, 256] inb_S1024x2048_S1024x256_0_256)) (View.ld (iblk m c 1 t) (Rect.unit ![1, 0, 0] ![1, 1024, 256] inb_S8x1024x256_S1x1024x256_1_0_0)) (View.ld (iblk m c 0 t) (Rect.unit ![0, 512] ![1024, 256] inb_S1024x2048_S1024x256_0_512)) (View.ld (iblk m c 1 t) (Rect.unit ![2, 0, 0] ![1, 1024, 256] inb_S8x1024x256_S1x1024x256_2_0_0)) (View.ld (iblk m c 0 t) (Rect.unit ![0, 768] ![1024, 256] inb_S1024x2048_S1024x256_0_768)) (View.ld (iblk m c 1 t) (Rect.unit ![3, 0, 0] ![1, 1024, 256] inb_S8x1024x256_S1x1024x256_3_0_0)) (View.ld (iblk m c 0 t) (Rect.unit ![0, 1024] ![1024, 256] inb_S1024x2048_S1024x256_0_1024)) (View.ld (iblk m c 1 t) (Rect.unit ![4, 0, 0] ![1, 1024, 256] inb_S8x1024x256_S1x1024x256_4_0_0))) (View.ld (iblk m c 0 t) (Rect.unit ![0, 1280] ![1024, 256] inb_S1024x2048_S1024x256_0_1280)) (View.ld (iblk m c 1 t) (Rect.unit ![5, 0, 0] ![1, 1024, 256] inb_S8x1024x256_S1x1024x256_5_0_0)) (View.ld (iblk m c 0 t) (Rect.unit ![0, 1536] ![1024, 256] inb_S1024x2048_S1024x256_0_1536)) (View.ld (iblk m c 1 t) (Rect.unit ![6, 0, 0] ![1, 1024, 256] inb_S8x1024x256_S1x1024x256_6_0_0)) (View.ld (iblk m c 0 t) (Rect.unit ![0, 1792] ![1024, 256] inb_S1024x2048_S1024x256_0_1792)) (View.ld (iblk m c 1 t) (Rect.unit ![7, 0, 0] ![1, 1024, 256] inb_S8x1024x256_S1x1024x256_7_0_0)) (ix2 i j)
      = spec (m ((c.tc : Thread nD τ).loc main_arg0)) (m ((c.tc : Thread nD τ).loc main_arg1)) ⟨t.val * 1024 + i.val, by have := point_lt t; omega⟩ j := by
  obtain ⟨e0, e1, e2⟩ := index_at t
  refine (pay _ _ _ _ _ _ _ _ _ _ _ _ _ _ _ _  i j).trans ?_
  unfold spec
  rw [Fin.sum_univ_eight]
  unfold part
  refine congrArg₂ (· + ·) (congrArg₂ (· + ·) (congrArg₂ (· + ·) (congrArg₂ (· + ·) (congrArg₂ (· + ·) (congrArg₂ (· + ·) (congrArg₂ (· + ·) (Mat.prod_congr fun k => ⟨?_, ?_⟩) (Mat.prod_congr fun k => ⟨?_, ?_⟩)) (Mat.prod_congr fun k => ⟨?_, ?_⟩)) (Mat.prod_congr fun k => ⟨?_, ?_⟩)) (Mat.prod_congr fun k => ⟨?_, ?_⟩)) (Mat.prod_congr fun k => ⟨?_, ?_⟩)) (Mat.prod_congr fun k => ⟨?_, ?_⟩)) (Mat.prod_congr fun k => ⟨?_, ?_⟩) <;> (pointwise; blk_ext [iblk, V, e0, e1, e2])

theorem final (n : Fin 2048) (j : Fin 1024) :
    ((dats m 0 c).arrAt 2 cfg0.N : S2048x1024.Idx → EReal) (ix2 n j)
      = spec (m ((c.tc : Thread nD τ).loc main_arg0)) (m ((c.tc : Thread nD τ).loc main_arg1)) n j := by
  have e : (dats m 0 c).arrAt 2 cfg0.N = fun i : S2048x1024.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    rw [after0_2]
    unfold outsAt0
    frame_out
    have h0 : (y 0).val < 1024 := (y 0).isLt
    have h1 : (y 1).val < 1024 := (y 1).isLt
    have hx : (cfg0.win 2).xinj (cfg0.grid.coords t) y = ix2 (⟨(y 0).val, h0⟩ : Fin 1024) (⟨(y 1).val, h1⟩ : Fin 1024) := by
      funext a
      apply Fin.ext
      match a with
      | ⟨0, _⟩ => rfl
      | ⟨1, _⟩ => rfl
    rw [hx]
    refine (pay_at m c t _ _).trans ?_
    have q0 : win0_2.index t (0 : Fin 2) = t.val := congrFun e2 0
    have q1 : win0_2.index t (1 : Fin 2) = 0 := congrFun e2 1
    have hb0 : (((cfg0.win 2).blk t).view.emb y 0).val = t.val * 1024 + (y 0).val := by
      show win0_2.index t (0 : Fin 2) * 1024 + 1 * (y 0).val = _
      rw [q0]
      omega
    have hb1 : (((cfg0.win 2).blk t).view.emb y 1).val = (y 1).val := by
      show win0_2.index t (1 : Fin 2) * 1024 + 1 * (y 1).val = _
      rw [q1]
      omega
    exact congrArg₂ (spec _ _) (Fin.ext hb0.symm) (Fin.ext hb1.symm)
  exact congrFun e (ix2 n j)

end

section
open Cert.Reference8Ideal Cert.Reference8Ideal.Gen

theorem ref (x : FVec Ideal S2048x2048 .bf16) (y : FVec Ideal S8x1024x256 .bf16) (n : Fin 2048) (j : Fin 1024) :
    Host.dotGeneral (F := Ideal) dot_S2048x2048_S1024x2048_S2048x1024_1_1_0_0_n_n none (extf (F := Ideal) .f32 x bitsLt_bf16_f32) (shapeCast _ (transpose S1024x8x256 [1, 0, 2] (extf (F := Ideal) .f32 y bitsLt_bf16_f32) transposes_S8x1024x256_S1024x8x256_1_0_2) shapeCasts_S1024x8x256_S1024x2048) (ix2 n j)
      = spec x y n j := by
  pointwise
  refine Fin.sum_divmod_congr (S := 256) fun l ha hs => ?_
  have hl := Nat.div_add_mod l.val 256
  refine congrArg₂ (· * ·) (congrArg x (congrArg (ix2 n) (Fin.ext ?_))) rfl
  show l.val = l.val / 256 * 256 + l.val % 256
  omega

end

attribute [local instance] Cert.Kernel8Ideal.Gen.facts Cert.Reference8Ideal.Gen.facts

theorem algebraic : Cert.algebraic_Kernel8Ideal_Reference8Ideal := by
  intro m ρ m' ρ' hpre hagree
  refine ⟨fun c => (Cert.Kernel8Ideal.Gen.dats m 0 c).arrAt 2 Cert.Kernel8Ideal.cfg0.N, Cert.Kernel8Ideal.Value.run_blocks (F := Ideal) m ρ, ?_⟩
  refine (θ_run Cert.Reference8Ideal.defs _ _).mono (fun r h c => ?_) (Cert.Reference8Ideal.Value.run (F := Ideal) m' ρ')
  obtain ⟨r0, a0, a1⟩ := h c
  obtain ⟨g0, g1⟩ := hagree c
  refine ⟨r0.trans (Mat.ext2 fun n j => ?_), a0, a1⟩
  rw [g0, g1]
  exact (ref _ _ n j).trans (final m c n j).symm

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.P8
-- ==== Proof.P7.lean ====
/-
  The gradient of w_out: the kernel's tiles of the product of the transposed input with the incoming gradient.
-/
module

public import proofs.«01_k».proof.Defs
public import proofs.«01_k».proof.Proof.Mat
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run

@[expose] public section

set_option maxRecDepth 16384

noncomputable section

namespace Cert.P7

open Idealize.ShloMosaic Idealize.ShloMosaic.StableHlo Idealize.SL.Sem

/-- The product at an entry. -/
def spec (x : (⟨2, ![2048, 2048]⟩ : Shape).Idx → EReal) (y : (⟨2, ![2048, 2048]⟩ : Shape).Idx → EReal) (n : Fin 2048) (r : Fin 2048) : EReal :=
  ∑ t : Fin 2048, x (ix2 t n) * y (ix2 t r)

section
open Cert.Kernel7Ideal Cert.Kernel7Ideal.Gen

/-- One tile. -/
theorem tile (x0 : Vec Ideal S2048x1024 .bf16) (x1 : Vec Ideal S2048x1024 .f32) (i : Fin 1024) (j : Fin 1024) :
    k0_pay1 x0 x1 (ix2 i j) = ∑ t : Fin 2048, x0 (ix2 t i) * x1 (ix2 t j) := by
  unfold k0_pay1
  pointwise

theorem index_at : ∀ t : Fin cfg0.N,
    win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem final (n : Fin 2048) (r : Fin 2048) :
    ((dats m 0 c).arrAt 2 cfg0.N : S2048x2048.Idx → EReal) (ix2 n r)
      = spec (m ((c.tc : Thread nD τ).loc main_arg0)) (m ((c.tc : Thread nD τ).loc main_arg1)) n r := by
  have e : (dats m 0 c).arrAt 2 cfg0.N = fun i : S2048x2048.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    rw [after0_2]
    frame_out
    have h0 : (y 0).val < 1024 := (y 0).isLt
    have h1 : (y 1).val < 1024 := (y 1).isLt
    have hx : (cfg0.win 2).xinj (cfg0.grid.coords t) y = ix2 (⟨(y 0).val, h0⟩ : Fin 1024) (⟨(y 1).val, h1⟩ : Fin 1024) := by
      funext a
      apply Fin.ext
      match a with
      | ⟨0, _⟩ => rfl
      | ⟨1, _⟩ => rfl
    rw [hx]
    refine (tile _ _ _ _).trans (Mat.prod_congr fun k => ⟨?_, ?_⟩) <;> blk_ext [iblk, V, e0, e1, e2]
  exact congrFun e (ix2 n r)

end

section
open Cert.Reference7Ideal Cert.Reference7Ideal.Gen

theorem ref (x : FVec Ideal S2048x2048 .bf16) (y : FVec Ideal S2048x2048 .f32) (n : Fin 2048) (r : Fin 2048) :
    truncf (F := Ideal) .bf16 (transpose S2048x2048 [1, 0] (Host.dotGeneral (F := Ideal) dot_S2048x2048_S2048x2048_S2048x2048_0_0_1_1_n_n none y (extf (F := Ideal) .f32 x bitsLt_bf16_f32)) transposes_S2048x2048_S2048x2048_1_0) bitsLt_bf16_f32 (ix2 n r)
      = spec x y n r := by
  pointwise
  exact Finset.sum_congr rfl fun t _ => mul_comm _ _

end

attribute [local instance] Cert.Kernel7Ideal.Gen.facts Cert.Reference7Ideal.Gen.facts

theorem algebraic : Cert.algebraic_Kernel7Ideal_Reference7Ideal := by
  intro m ρ m' ρ' hpre hagree
  refine ⟨fun c => (Cert.Kernel7Ideal.Gen.dats m 0 c).arrAt 2 Cert.Kernel7Ideal.cfg0.N, Cert.Kernel7Ideal.Value.run_blocks (F := Ideal) m ρ, ?_⟩
  refine (θ_run Cert.Reference7Ideal.defs _ _).mono (fun r h c => ?_) (Cert.Reference7Ideal.Value.run (F := Ideal) m' ρ')
  obtain ⟨r0, a0, a1⟩ := h c
  obtain ⟨g0, g1⟩ := hagree c
  refine ⟨r0.trans (Mat.ext2 fun n r => ?_), a0, a1⟩
  rw [g0, g1]
  exact (ref _ _ n r).trans (final m c n r).symm

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.P7
-- ==== Proof.P6.lean ====
/-
  The gradient of w_ffn_out: the kernel's tiles of the product of the transposed activations with the incoming gradient.
-/
module

public import proofs.«01_k».proof.Defs
public import proofs.«01_k».proof.Proof.Mat
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

set_option maxRecDepth 16384

noncomputable section

namespace Cert.P6

open Idealize.ShloMosaic Idealize.ShloMosaic.StableHlo Idealize.SL.Sem

/-- The product at an entry. -/
def spec (x : (⟨2, ![2048, 5632]⟩ : Shape).Idx → EReal) (y : (⟨2, ![2048, 2048]⟩ : Shape).Idx → EReal) (n : Fin 5632) (r : Fin 2048) : EReal :=
  ∑ t : Fin 2048, x (ix2 t n) * y (ix2 t r)

section
open Cert.Kernel6Ideal Cert.Kernel6Ideal.Gen

/-- One tile. -/
theorem tile (x0 : Vec Ideal S2048x1408 .bf16) (x1 : Vec Ideal S2048x1024 .f32) (i : Fin 1408) (j : Fin 1024) :
    k0_pay1 x0 x1 (ix2 i j) = ∑ t : Fin 2048, x0 (ix2 t i) * x1 (ix2 t j) := by
  unfold k0_pay1
  pointwise

theorem index_at : ∀ t : Fin cfg0.N,
    win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem final (n : Fin 5632) (r : Fin 2048) :
    ((dats m 0 c).arrAt 2 cfg0.N : S5632x2048.Idx → EReal) (ix2 n r)
      = spec (m ((c.tc : Thread nD τ).loc main_arg0)) (m ((c.tc : Thread nD τ).loc main_arg1)) n r := by
  have e : (dats m 0 c).arrAt 2 cfg0.N = fun i : S5632x2048.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    rw [after0_2]
    frame_out
    have h0 : (y 0).val < 1408 := (y 0).isLt
    have h1 : (y 1).val < 1024 := (y 1).isLt
    have hx : (cfg0.win 2).xinj (cfg0.grid.coords t) y = ix2 (⟨(y 0).val, h0⟩ : Fin 1408) (⟨(y 1).val, h1⟩ : Fin 1024) := by
      funext a
      apply Fin.ext
      match a with
      | ⟨0, _⟩ => rfl
      | ⟨1, _⟩ => rfl
    rw [hx]
    refine (tile _ _ _ _).trans (Mat.prod_congr fun k => ⟨?_, ?_⟩) <;> blk_ext [iblk, V, e0, e1, e2]
  exact congrFun e (ix2 n r)

end

section
open Cert.Reference6Ideal Cert.Reference6Ideal.Gen

theorem ref (x : FVec Ideal S2048x5632 .bf16) (y : FVec Ideal S2048x2048 .f32) (n : Fin 5632) (r : Fin 2048) :
    truncf (F := Ideal) .bf16 (transpose S5632x2048 [1, 0] (Host.dotGeneral (F := Ideal) dot_S2048x2048_S2048x5632_S2048x5632_0_0_1_1_n_n none y (extf (F := Ideal) .f32 x bitsLt_bf16_f32)) transposes_S2048x5632_S5632x2048_1_0) bitsLt_bf16_f32 (ix2 n r)
      = spec x y n r := by
  pointwise
  exact Finset.sum_congr rfl fun t _ => mul_comm _ _

end

attribute [local instance] Cert.Kernel6Ideal.Gen.facts Cert.Reference6Ideal.Gen.facts

theorem algebraic : Cert.algebraic_Kernel6Ideal_Reference6Ideal := by
  intro m ρ m' ρ' hpre hagree
  refine ⟨fun c => (Cert.Kernel6Ideal.Gen.dats m 0 c).arrAt 2 Cert.Kernel6Ideal.cfg0.N, Cert.Kernel6Ideal.Value.run_blocks (F := Ideal) m ρ, ?_⟩
  refine (θ_run Cert.Reference6Ideal.defs _ _).mono (fun r h c => ?_) (Cert.Reference6Ideal.Value.run (F := Ideal) m' ρ')
  obtain ⟨r0, a0, a1⟩ := h c
  obtain ⟨g0, g1⟩ := hagree c
  refine ⟨r0.trans (Mat.ext2 fun n r => ?_), a0, a1⟩
  rw [g0, g1]
  exact (ref _ _ n r).trans (final m c n r).symm

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.P6
-- ==== Proof.P5.lean ====
/-
  The gradient of the input of the product with w_ffn_in: the kernel adds, over four points, the products of two blocks of columns each.
-/
module

public import proofs.«01_k».proof.Defs
public import proofs.«01_k».proof.Proof.Mat
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

@[expose] public section

set_option maxRecDepth 16384

noncomputable section

namespace Cert.P5

open Idealize.ShloMosaic Idealize.ShloMosaic.StableHlo Idealize.SL.Sem

/-- The product of one block of columns at an entry. -/
def part (x : (⟨3, ![2, 2048, 5632]⟩ : Shape).Idx → EReal) (y : (⟨3, ![8, 2048, 1408]⟩ : Shape).Idx → EReal) (n j : Fin 2048) (q : Fin 8) : EReal :=
  ∑ k : Fin 1408, x (ix3 ⟨q.val / 4, by omega⟩ n ⟨q.val % 4 * 1408 + k.val, by omega⟩) * y (ix3 q j k)

/-- The product at an entry. -/
def spec (x : (⟨3, ![2, 2048, 5632]⟩ : Shape).Idx → EReal) (y : (⟨3, ![8, 2048, 1408]⟩ : Shape).Idx → EReal) (n j : Fin 2048) : EReal := ∑ q : Fin 8, part x y n j q

section
open Cert.Kernel5Ideal Cert.Kernel5Ideal.Gen

theorem index_at : ∀ t : Fin cfg0.N,
    win0_0.index t = ![t.val % 4 / 2, t.val / 8, t.val % 4 % 2] ∧ win0_1.index t = ![t.val % 4, t.val / 4 % 2, 0] ∧ win0_2.index t = ![t.val / 8, t.val / 4 % 2] :=
  (by decide +kernel : ∀ t : Fin grid0.N, _)

theorem run_lt (t : Fin cfg0.N) : t.val < 16 := lt_of_lt_of_eq t.isLt (by decide +kernel)

/-- The two products of a grid point. -/
theorem pay (v0 : Vec Ideal S1x1024x1408 .bf16) (v1 : Vec Ideal S1x1024x1408 .bf16) (v4 : Vec Ideal S1x1024x1408 .bf16) (v5 : Vec Ideal S1x1024x1408 .bf16) (i j : Fin 1024) :
    k0_pay1 v0 v1 v4 v5 (ix2 i j) = (∑ k : Fin 1408, v0 (ix3 0 i k) * v1 (ix3 0 j k)) + ∑ k : Fin 1408, v4 (ix3 0 i k) * v5 (ix3 0 j k) := by
  unfold k0_pay1
  pointwise

variable (m : (ℓ : Loc nD τ sig) → Buf (Elt Ideal) ℓ) (c : Dev nD)

/-- What a grid point adds, read off the two arrays. -/
def step (t : Fin cfg0.N) (i j : Fin 1024) : EReal :=
  part (m ((c.tc : Thread nD τ).loc main_arg0)) (m ((c.tc : Thread nD τ).loc main_arg1))
      ⟨t.val / 8 * 1024 + i.val, by have := run_lt t; omega⟩ ⟨t.val / 4 % 2 * 1024 + j.val, by omega⟩ ⟨2 * (t.val % 4), by omega⟩
    + part (m ((c.tc : Thread nD τ).loc main_arg0)) (m ((c.tc : Thread nD τ).loc main_arg1))
      ⟨t.val / 8 * 1024 + i.val, by have := run_lt t; omega⟩ ⟨t.val / 4 % 2 * 1024 + j.val, by omega⟩ ⟨2 * (t.val % 4) + 1, by omega⟩

theorem pay_at (t : Fin cfg0.N) (i j : Fin 1024) :
    k0_pay1 (View.ld (iblk m c 0 t) (Rect.unit ![0, 0, 0] ![1, 1024, 1408] inb_S1x1024x2816_S1x1024x1408_0_0_0)) (View.ld (iblk m c 1 t) (Rect.unit ![0, 0, 0] ![1, 1024, 1408] inb_S2x1024x1408_S1x1024x1408_0_0_0))
      (View.ld (iblk m c 0 t) (Rect.unit ![0, 0, 1408] ![1, 1024, 1408] inb_S1x1024x2816_S1x1024x1408_0_0_1408)) (View.ld (iblk m c 1 t) (Rect.unit ![1, 0, 0] ![1, 1024, 1408] inb_S2x1024x1408_S1x1024x1408_1_0_0)) (ix2 i j) = step m c t i j := by
  obtain ⟨e0, e1, e2⟩ := index_at t
  refine (pay _ _ _ _ i j).trans ?_
  unfold step part
  refine congrArg₂ (· + ·) (Mat.prod_congr fun k => ⟨?_, ?_⟩) (Mat.prod_congr fun k => ⟨?_, ?_⟩) <;> (pointwise; blk_ext [iblk, V, e0, e1, e2])

theorem stepA (t : Fin cfg0.N) (h : t.val % 4 = 0) (i j : Fin 1024) : (outsAt0 m c t.val t.isLt).2 (ix2 i j) = step m c t i j := by
  rw [outsAt0_A m c t h (by omega) (by omega)]
  frame_out
  refine Eq.trans ?_ (pay_at m c t i j)
  unfold k0_pay2
  pointwise
  rfl

theorem stepB (t : Fin cfg0.N) (h : 1 ≤ t.val % 4 ∧ t.val % 4 ≤ 2) (i j : Fin 1024) :
    (outsAt0 m c t.val t.isLt).2 (ix2 i j)
      = (outsAt0 m c (t.val - 1) (Nat.lt_of_le_of_lt (Nat.sub_le _ _) t.isLt)).2 (ix2 i j) + step m c t i j := by
  rw [outsAt0_B m c t (by omega) h (by omega)]
  frame_out
  rw [← pay_at m c t i j]
  unfold k0_pay3
  rw [read_unread_whole]
  pointwise
  rfl

theorem stepC (t : Fin cfg0.N) (h : t.val % 4 = 3) (i j : Fin 1024) :
    (outsAt0 m c t.val t.isLt).1 (ix2 i j)
      = (outsAt0 m c (t.val - 1) (Nat.lt_of_le_of_lt (Nat.sub_le _ _) t.isLt)).2 (ix2 i j) + step m c t i j := by
  rw [outsAt0_C m c t (by omega) (by omega) h]
  frame_out
  rw [← pay_at m c t i j]
  unfold k0_pay4
  rw [read_unread_whole]
  pointwise
  rfl

/-- A run of four points ends with the sum over the eight blocks. -/
theorem run_sum (t : Fin cfg0.N) (h : t.val % 4 = 3) (i j : Fin 1024) :
    (outsAt0 m c t.val t.isLt).1 (ix2 i j)
      = spec (m ((c.tc : Thread nD τ).loc main_arg0)) (m ((c.tc : Thread nD τ).loc main_arg1))
        ⟨t.val / 8 * 1024 + i.val, by have := run_lt t; omega⟩ ⟨t.val / 4 % 2 * 1024 + j.val, by omega⟩ := by
  have hl := t.isLt
  refine (stepC m c t h i j).trans ?_
  have b2 := stepB m c ⟨t.val - 1, by omega⟩ (by show 1 ≤ (t.val - 1) % 4 ∧ (t.val - 1) % 4 ≤ 2; omega) i j
  have b1 := stepB m c ⟨t.val - 1 - 1, by omega⟩ (by show 1 ≤ (t.val - 1 - 1) % 4 ∧ (t.val - 1 - 1) % 4 ≤ 2; omega) i j
  have b0 := stepA m c ⟨t.val - 1 - 1 - 1, by omega⟩ (by show (t.val - 1 - 1 - 1) % 4 = 0; omega) i j
  refine (congrArg (· + step m c t i j) (b2.trans (congrArg (· + step m c ⟨t.val - 1, by omega⟩ i j) (b1.trans (congrArg (· + step m c ⟨t.val - 1 - 1, by omega⟩ i j) b0))))).trans ?_
  have hn : ∀ s : Fin cfg0.N, s.val / 4 = t.val / 4 → ∀ r : ℕ, (hr : s.val % 4 = r) → (hr8 : 2 * r + 1 < 8) → step m c s i j
      = part (m ((c.tc : Thread nD τ).loc main_arg0)) (m ((c.tc : Thread nD τ).loc main_arg1))
          ⟨t.val / 8 * 1024 + i.val, by have := run_lt t; omega⟩ ⟨t.val / 4 % 2 * 1024 + j.val, by omega⟩ ⟨2 * r, by omega⟩
        + part (m ((c.tc : Thread nD τ).loc main_arg0)) (m ((c.tc : Thread nD τ).loc main_arg1))
          ⟨t.val / 8 * 1024 + i.val, by have := run_lt t; omega⟩ ⟨t.val / 4 % 2 * 1024 + j.val, by omega⟩ ⟨2 * r + 1, hr8⟩ := by
    intro s hs r hr hr8
    subst hr
    unfold step
    have e8 : s.val / 8 = t.val / 8 := by omega
    simp only [hs, e8]
  rw [hn t rfl 3 h (by omega), hn ⟨t.val - 1, by omega⟩ (by show (t.val - 1) / 4 = _; omega) 2 (by show (t.val - 1) % 4 = 2; omega) (by omega),
    hn ⟨t.val - 1 - 1, by omega⟩ (by show (t.val - 1 - 1) / 4 = _; omega) 1 (by show (t.val - 1 - 1) % 4 = 1; omega) (by omega),
    hn ⟨t.val - 1 - 1 - 1, by omega⟩ (by show (t.val - 1 - 1 - 1) / 4 = _; omega) 0 (by show (t.val - 1 - 1 - 1) % 4 = 0; omega) (by omega)]
  unfold spec
  rw [Fin.sum_univ_eight]
  simp only [← add_assoc]
  rfl

theorem final (n j : Fin 2048) :
    ((dats m 0 c).arrAt 2 cfg0.N : S2048x2048.Idx → EReal) (ix2 n j)
      = spec (m ((c.tc : Thread nD τ).loc main_arg0)) (m ((c.tc : Thread nD τ).loc main_arg1)) n j := by
  have e : (dats m 0 c).arrAt 2 cfg0.N = fun i : S2048x2048.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    have h3 : t.val % 4 = 3 := (flush0_2 t).mp hf
    rw [after0_2]
    have h0 : (y 0).val < 1024 := (y 0).isLt
    have h1 : (y 1).val < 1024 := (y 1).isLt
    have hx : (cfg0.win 2).xinj (cfg0.grid.coords t) y = ix2 (⟨(y 0).val, h0⟩ : Fin 1024) (⟨(y 1).val, h1⟩ : Fin 1024) := by
      funext a
      apply Fin.ext
      match a with
      | ⟨0, _⟩ => rfl
      | ⟨1, _⟩ => rfl
    rw [hx]
    refine (run_sum m c t h3 _ _).trans ?_
    have q0 : win0_2.index t (0 : Fin 2) = t.val / 8 := congrFun e2 0
    have q1 : win0_2.index t (1 : Fin 2) = t.val / 4 % 2 := congrFun e2 1
    have hb0 : (((cfg0.win 2).blk t).view.emb y 0).val = t.val / 8 * 1024 + (y 0).val := by
      show win0_2.index t (0 : Fin 2) * 1024 + 1 * (y 0).val = _
      rw [q0]
      omega
    have hb1 : (((cfg0.win 2).blk t).view.emb y 1).val = t.val / 4 % 2 * 1024 + (y 1).val := by
      show win0_2.index t (1 : Fin 2) * 1024 + 1 * (y 1).val = _
      rw [q1]
      omega
    exact congrArg₂ (spec _ _) (Fin.ext hb0.symm) (Fin.ext hb1.symm)
  exact congrFun e (ix2 n j)

end

section
open Cert.Reference5Ideal Cert.Reference5Ideal.Gen

theorem ref (x : FVec Ideal S2x2048x5632 .bf16) (y : FVec Ideal S8x2048x1408 .bf16) (n j : Fin 2048) :
    Host.dotGeneral (F := Ideal) dot_S2048x11264_S2048x11264_S2048x2048_1_1_0_0_n_n none (concatenate S2048x11264 1 [⟨S2048x5632, (shapeCast _ (extractStridedSlice S1x2048x5632 ![0, 0, 0] (extf (F := Ideal) .f32 x bitsLt_bf16_f32) slices_S2x2048x5632_S1x2048x5632_0_0_0) shapeCasts_S1x2048x5632_S2048x5632)⟩, ⟨S2048x5632, (shapeCast _ (extractStridedSlice S1x2048x5632 ![1, 0, 0] (extf (F := Ideal) .f32 x bitsLt_bf16_f32) slices_S2x2048x5632_S1x2048x5632_1_0_0) shapeCasts_S1x2048x5632_S2048x5632)⟩] concatenates_S2048x5632_S2048x5632_S2048x11264_d1) (shapeCast _ (transpose S2048x8x1408 [1, 0, 2] (extf (F := Ideal) .f32 y bitsLt_bf16_f32) transposes_S8x2048x1408_S2048x8x1408_1_0_2) shapeCasts_S2048x8x1408_S2048x11264) (ix2 n j)
      = spec x y n j := by
  pointwise
  unfold spec
  rw [Mat.sum_eight]
  refine congrArg₂ (· + ·) ?_ ?_
  · refine Fin.sum_divmod_congr (S := 1408) fun l ha hs => ?_
    have hl := Nat.div_add_mod l.val 1408
    have hb := l.isLt
    exact congrArg₂ (· * ·)
      (congrArg x (Mat.ix3_congr (by show 0 = l.val / 1408 / 4; omega) rfl (by show l.val = l.val / 1408 % 4 * 1408 + l.val % 1408; omega))) rfl
  · refine Fin.sum_divmod_congr (S := 1408) fun l ha hs => ?_
    have hl := Nat.div_add_mod l.val 1408
    have hb := l.isLt
    exact congrArg₂ (· * ·)
      (congrArg x (Mat.ix3_congr (by show 1 = (4 + l.val / 1408) / 4; omega) rfl (by show l.val = (4 + l.val / 1408) % 4 * 1408 + l.val % 1408; omega)))
      (congrArg y (Mat.ix3_congr (by show (5632 + l.val) / 1408 = 4 + l.val / 1408; omega) rfl (by show (5632 + l.val) % 1408 = l.val % 1408; omega)))

end

attribute [local instance] Cert.Kernel5Ideal.Gen.facts Cert.Reference5Ideal.Gen.facts

theorem algebraic : Cert.algebraic_Kernel5Ideal_Reference5Ideal := by
  intro m ρ m' ρ' hpre hagree
  refine ⟨fun c => (Cert.Kernel5Ideal.Gen.dats m 0 c).arrAt 2 Cert.Kernel5Ideal.cfg0.N, Cert.Kernel5Ideal.Value.run_blocks (F := Ideal) m ρ, ?_⟩
  refine (θ_run Cert.Reference5Ideal.defs _ _).mono (fun r h c => ?_) (Cert.Reference5Ideal.Value.run (F := Ideal) m' ρ')
  obtain ⟨r0, a0, a1⟩ := h c
  obtain ⟨g0, g1⟩ := hagree c
  refine ⟨r0.trans (Mat.ext2 fun n j => ?_), a0, a1⟩
  rw [g0, g1]
  exact (ref _ _ n j).trans (final m c n j).symm

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.P5
-- ==== Proof.P4.lean ====
/-
  The gradient of w_ffn_in: the kernel's tiles of the product of the transposed input with the two halves of the incoming gradient.
-/
module

public import proofs.«01_k».proof.Defs
public import proofs.«01_k».proof.Proof.Mat
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run

@[expose] public section

set_option maxRecDepth 16384

noncomputable section

namespace Cert.P4

open Idealize.ShloMosaic Idealize.ShloMosaic.StableHlo Idealize.SL.Sem

/-- The product at an entry. -/
def spec (x : (⟨2, ![2048, 2048]⟩ : Shape).Idx → EReal) (y : (⟨3, ![2, 2048, 5632]⟩ : Shape).Idx → EReal) (b : Fin 8) (n : Fin 2048) (r : Fin 1408) : EReal :=
  ∑ t : Fin 2048, x (ix2 t n) * y (ix3 ⟨b.val / 4, by omega⟩ t ⟨b.val % 4 * 1408 + r.val, by omega⟩)

section
open Cert.Kernel4Ideal Cert.Kernel4Ideal.Gen

/-- One tile. -/
theorem tile (x0 : Vec Ideal S2048x1024 .bf16) (x1 : Vec Ideal S1x2048x1408 .bf16) (i : Fin 1024) (j : Fin 1408) :
    k0_pay1 x0 x1 (ix3 0 i j) = ∑ t : Fin 2048, x0 (ix2 t i) * x1 (ix3 0 t j) := by
  unfold k0_pay1
  pointwise

theorem index_at : ∀ t : Fin cfg0.N,
    win0_0.index t = ![0, t.val / 8] ∧ win0_1.index t = ![t.val % 8 / 4, 0, t.val % 8 % 4] ∧ win0_2.index t = ![t.val % 8, t.val / 8, 0] :=
  (by decide +kernel : ∀ t : Fin grid0.N, _)

variable (m : (ℓ : Loc nD τ sig) → Buf (Elt Ideal) ℓ) (c : Dev nD)

theorem final (b : Fin 8) (n : Fin 2048) (r : Fin 1408) :
    ((dats m 0 c).arrAt 2 cfg0.N : S8x2048x1408.Idx → EReal) (ix3 b n r)
      = spec (m ((c.tc : Thread nD τ).loc main_arg0)) (m ((c.tc : Thread nD τ).loc main_arg1)) b n r := by
  have e : (dats m 0 c).arrAt 2 cfg0.N = fun i : S8x2048x1408.Idx =>
      spec (m ((c.tc : Thread nD τ).loc main_arg0)) (m ((c.tc : Thread nD τ).loc main_arg1)) (i 0) (i 1) (i 2) := by
    refine (dats m 0 c).arrAt_eq_of_covers 2 _ (by decide +kernel) fun t hf y => ?_
    obtain ⟨e0, e1, e2⟩ := index_at t
    rw [after0_2]
    frame_out
    have h0 : (y 0).val < 1 := (y 0).isLt
    have h1 : (y 1).val < 1024 := (y 1).isLt
    have h2 : (y 2).val < 1408 := (y 2).isLt
    have hx : (cfg0.win 2).xinj (cfg0.grid.coords t) y = ix3 (0 : Fin 1) (⟨(y 1).val, h1⟩ : Fin 1024) (⟨(y 2).val, h2⟩ : Fin 1408) := by
      funext a
      apply Fin.ext
      match a with
      | ⟨0, _⟩ => exact Nat.lt_one_iff.1 h0
      | ⟨1, _⟩ => rfl
      | ⟨2, _⟩ => rfl
    rw [hx]
    refine (tile _ _ _ _).trans (Mat.prod_congr fun k => ⟨?_, ?_⟩) <;> blk_ext [iblk, V, e0, e1, e2]
  exact congrFun e (ix3 b n r)

end

section
open Cert.Reference4Ideal Cert.Reference4Ideal.Gen

theorem ref (x : FVec Ideal S2048x2048 .bf16) (y : FVec Ideal S2x2048x5632 .bf16) (b : Fin 8) (n : Fin 2048) (r : Fin 1408) :
    truncf (F := Ideal) .bf16 (transpose S8x2048x1408 [1, 0, 2] (shapeCast _ (transpose S2048x11264 [1, 0] (Host.dotGeneral (F := Ideal) dot_S2048x11264_S2048x2048_S11264x2048_0_0_1_1_n_n none (concatenate S2048x11264 1 [⟨S2048x5632, (shapeCast _ (extractStridedSlice S1x2048x5632 ![0, 0, 0] (extf (F := Ideal) .f32 y bitsLt_bf16_f32) slices_S2x2048x5632_S1x2048x5632_0_0_0) shapeCasts_S1x2048x5632_S2048x5632)⟩, ⟨S2048x5632, (shapeCast _ (extractStridedSlice S1x2048x5632 ![1, 0, 0] (extf (F := Ideal) .f32 y bitsLt_bf16_f32) slices_S2x2048x5632_S1x2048x5632_1_0_0) shapeCasts_S1x2048x5632_S2048x5632)⟩] concatenates_S2048x5632_S2048x5632_S2048x11264_d1) (extf (F := Ideal) .f32 x bitsLt_bf16_f32)) transposes_S11264x2048_S2048x11264_1_0) shapeCasts_S2048x11264_S2048x8x1408) transposes_S2048x8x1408_S8x2048x1408_1_0_2) bitsLt_bf16_f32 (ix3 b n r)
      = spec x y b n r := by
  pointwise
  refine Finset.sum_congr rfl fun t _ => ?_
  rw [mul_comm]
  have hb := b.isLt
  have hr := r.isLt
  split
  · congr 2
    exact Mat.ix3_congr (by show 0 = b.val / 4; omega) rfl (by show b.val * 1408 + r.val = b.val % 4 * 1408 + r.val; omega)
  · congr 2
    exact Mat.ix3_congr (by show 1 = b.val / 4; omega) rfl (by show b.val * 1408 + r.val - 5632 = b.val % 4 * 1408 + r.val; omega)

end

attribute [local instance] Cert.Kernel4Ideal.Gen.facts Cert.Reference4Ideal.Gen.facts

theorem algebraic : Cert.algebraic_Kernel4Ideal_Reference4Ideal := by
  intro m ρ m' ρ' hpre hagree
  refine ⟨fun c => (Cert.Kernel4Ideal.Gen.dats m 0 c).arrAt 2 Cert.Kernel4Ideal.cfg0.N, Cert.Kernel4Ideal.Value.run_blocks (F := Ideal) m ρ, ?_⟩
  refine (θ_run Cert.Reference4Ideal.defs _ _).mono (fun r h c => ?_) (Cert.Reference4Ideal.Value.run (F := Ideal) m' ρ')
  obtain ⟨r0, a0, a1⟩ := h c
  obtain ⟨g0, g1⟩ := hagree c
  refine ⟨r0.trans (Mat.ext3 fun b n r => ?_), a0, a1⟩
  rw [g0, g1]
  exact (ref _ _ b n r).trans (final m c b n r).symm

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.P4
-- ==== Proof.P3.lean ====
/-
  The gradient of the input of the product with w_in: the kernel adds, over four points, the products of two blocks of columns each.
-/
module

public import proofs.«01_k».proof.Defs
public import proofs.«01_k».proof.Proof.Mat
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run

@[expose] public section

set_option maxRecDepth 16384

noncomputable section

namespace Cert.P3

open Idealize.ShloMosaic Idealize.ShloMosaic.StableHlo Idealize.SL.Sem

/-- The product of one block of columns at an entry. -/
def part (x : (⟨2, ![2048, 11264]⟩ : Shape).Idx → EReal) (y : (⟨3, ![8, 2048, 1408]⟩ : Shape).Idx → EReal) (n j : Fin 2048) (q : Fin 8) : EReal :=
  ∑ k : Fin 1408, x (ix2 n ⟨q.val * 1408 + k.val, by omega⟩) * y (ix3 q j k)

/-- The product at an entry. -/
def spec (x : (⟨2, ![2048, 11264]⟩ : Shape).Idx → EReal) (y : (⟨3, ![8, 2048, 1408]⟩ : Shape).Idx → EReal) (n j : Fin 2048) : EReal := ∑ q : Fin 8, part x y n j q

section
open Cert.Kernel3Ideal Cert.Kernel3Ideal.Gen

theorem index_at : ∀ t : Fin cfg0.N,
    win0_0.index t = ![t.val / 8, t.val % 4] ∧ win0_1.index t = ![t.val % 4, t.val / 4 % 2, 0] ∧ win0_2.index t = ![t.val / 8, t.val / 4 % 2] :=
  (by decide +kernel : ∀ t : Fin grid0.N, _)

theorem run_lt (t : Fin cfg0.N) : t.val < 16 := lt_of_lt_of_eq t.isLt (by decide +kernel)

/-- The two products of a grid point. -/
theorem pay (v0 : Vec Ideal S1024x1408 .bf16) (v1 : Vec Ideal S1x1024x1408 .bf16) (v4 : Vec Ideal S1024x1408 .bf16) (v5 : Vec Ideal S1x1024x1408 .bf16) (i j : Fin 1024) :
    k0_pay1 v0 v1 v4 v5 (ix2 i j) = (∑ k : Fin 1408, v0 (ix2 i k) * v1 (ix3 0 j k)) + ∑ k : Fin 1408, v4 (ix2 i k) * v5 (ix3 0 j k) := by
  unfold k0_pay1
  pointwise

variable (m : (ℓ : Loc nD τ sig) → Buf (Elt Ideal) ℓ) (c : Dev nD)

/-- What a grid point adds, read off the two arrays. -/
def step (t : Fin cfg0.N) (i j : Fin 1024) : EReal :=
  part (m ((c.tc : Thread nD τ).loc main_arg0)) (m ((c.tc : Thread nD τ).loc main_arg1))
      ⟨t.val / 8 * 1024 + i.val, by have := run_lt t; omega⟩ ⟨t.val / 4 % 2 * 1024 + j.val, by omega⟩ ⟨2 * (t.val % 4), by omega⟩
    + part (m ((c.tc : Thread nD τ).loc main_arg0)) (m ((c.tc : Thread nD τ).loc main_arg1))
      ⟨t.val / 8 * 1024 + i.val, by have := run_lt t; omega⟩ ⟨t.val / 4 % 2 * 1024 + j.val, by omega⟩ ⟨2 * (t.val % 4) + 1, by omega⟩

theorem pay_at (t : Fin cfg0.N) (i j : Fin 1024) :
    k0_pay1 (View.ld (iblk m c 0 t) (Rect.unit ![0, 0] ![1024, 1408] inb_S1024x2816_S1024x1408_0_0)) (View.ld (iblk m c 1 t) (Rect.unit ![0, 0, 0] ![1, 1024, 1408] inb_S2x1024x1408_S1x1024x1408_0_0_0))
      (View.ld (iblk m c 0 t) (Rect.unit ![0, 1408] ![1024, 1408] inb_S1024x2816_S1024x1408_0_1408)) (View.ld (iblk m c 1 t) (Rect.unit ![1, 0, 0] ![1, 1024, 1408] inb_S2x1024x1408_S1x1024x1408_1_0_0)) (ix2 i j) = step m c t i j := by
  obtain ⟨e0, e1, e2⟩ := index_at t
  refine (pay _ _ _ _ i j).trans ?_
  unfold step part
  refine congrArg₂ (· + ·) (Mat.prod_congr fun k => ⟨?_, ?_⟩) (Mat.prod_congr fun k => ⟨?_, ?_⟩) <;> (pointwise; blk_ext [iblk, V, e0, e1, e2])

theorem stepA (t : Fin cfg0.N) (h : t.val % 4 = 0) (i j : Fin 1024) : (outsAt0 m c t.val t.isLt).2 (ix2 i j) = step m c t i j := by
  rw [outsAt0_A m c t h (by omega) (by omega)]
  frame_out
  refine Eq.trans ?_ (pay_at m c t i j)
  unfold k0_pay2
  pointwise
  rfl

theorem stepB (t : Fin cfg0.N) (h : 1 ≤ t.val % 4 ∧ t.val % 4 ≤ 2) (i j : Fin 1024) :
    (outsAt0 m c t.val t.isLt).2 (ix2 i j)
      = (outsAt0 m c (t.val - 1) (Nat.lt_of_le_of_lt (Nat.sub_le _ _) t.isLt)).2 (ix2 i j) + step m c t i j := by
  rw [outsAt0_B m c t (by omega) h (by omega)]
  frame_out
  rw [← pay_at m c t i j]
  unfold k0_pay3
  rw [read_unread_whole]
  pointwise
  rfl

theorem stepC (t : Fin cfg0.N) (h : t.val % 4 = 3) (i j : Fin 1024) :
    (outsAt0 m c t.val t.isLt).1 (ix2 i j)
      = (outsAt0 m c (t.val - 1) (Nat.lt_of_le_of_lt (Nat.sub_le _ _) t.isLt)).2 (ix2 i j) + step m c t i j := by
  rw [outsAt0_C m c t (by omega) (by omega) h]
  frame_out
  rw [← pay_at m c t i j]
  unfold k0_pay4
  rw [read_unread_whole]
  pointwise
  rfl

/-- A run of four points ends with the sum over the eight blocks. -/
theorem run_sum (t : Fin cfg0.N) (h : t.val % 4 = 3) (i j : Fin 1024) :
    (outsAt0 m c t.val t.isLt).1 (ix2 i j)
      = spec (m ((c.tc : Thread nD τ).loc main_arg0)) (m ((c.tc : Thread nD τ).loc main_arg1))
        ⟨t.val / 8 * 1024 + i.val, by have := run_lt t; omega⟩ ⟨t.val / 4 % 2 * 1024 + j.val, by omega⟩ := by
  have hl := t.isLt
  refine (stepC m c t h i j).trans ?_
  have b2 := stepB m c ⟨t.val - 1, by omega⟩ (by show 1 ≤ (t.val - 1) % 4 ∧ (t.val - 1) % 4 ≤ 2; omega) i j
  have b1 := stepB m c ⟨t.val - 1 - 1, by omega⟩ (by show 1 ≤ (t.val - 1 - 1) % 4 ∧ (t.val - 1 - 1) % 4 ≤ 2; omega) i j
  have b0 := stepA m c ⟨t.val - 1 - 1 - 1, by omega⟩ (by show (t.val - 1 - 1 - 1) % 4 = 0; omega) i j
  refine (congrArg (· + step m c t i j) (b2.trans (congrArg (· + step m c ⟨t.val - 1, by omega⟩ i j) (b1.trans (congrArg (· + step m c ⟨t.val - 1 - 1, by omega⟩ i j) b0))))).trans ?_
  have hn : ∀ s : Fin cfg0.N, s.val / 4 = t.val / 4 → ∀ r : ℕ, (hr : s.val % 4 = r) → (hr8 : 2 * r + 1 < 8) → step m c s i j
      = part (m ((c.tc : Thread nD τ).loc main_arg0)) (m ((c.tc : Thread nD τ).loc main_arg1))
          ⟨t.val / 8 * 1024 + i.val, by have := run_lt t; omega⟩ ⟨t.val / 4 % 2 * 1024 + j.val, by omega⟩ ⟨2 * r, by omega⟩
        + part (m ((c.tc : Thread nD τ).loc main_arg0)) (m ((c.tc : Thread nD τ).loc main_arg1))
          ⟨t.val / 8 * 1024 + i.val, by have := run_lt t; omega⟩ ⟨t.val / 4 % 2 * 1024 + j.val, by omega⟩ ⟨2 * r + 1, hr8⟩ := by
    intro s hs r hr hr8
    subst hr
    unfold step
    have e8 : s.val / 8 = t.val / 8 := by omega
    simp only [hs, e8]
  rw [hn t rfl 3 h (by omega), hn ⟨t.val - 1, by omega⟩ (by show (t.val - 1) / 4 = _; omega) 2 (by show (t.val - 1) % 4 = 2; omega) (by omega),
    hn ⟨t.val - 1 - 1, by omega⟩ (by show (t.val - 1 - 1) / 4 = _; omega) 1 (by show (t.val - 1 - 1) % 4 = 1; omega) (by omega),
    hn ⟨t.val - 1 - 1 - 1, by omega⟩ (by show (t.val - 1 - 1 - 1) / 4 = _; omega) 0 (by show (t.val - 1 - 1 - 1) % 4 = 0; omega) (by omega)]
  unfold spec
  rw [Fin.sum_univ_eight]
  simp only [← add_assoc]
  rfl

theorem final (n j : Fin 2048) :
    ((dats m 0 c).arrAt 2 cfg0.N : S2048x2048.Idx → EReal) (ix2 n j)
      = spec (m ((c.tc : Thread nD τ).loc main_arg0)) (m ((c.tc : Thread nD τ).loc main_arg1)) n j := by
  have e : (dats m 0 c).arrAt 2 cfg0.N = fun i : S2048x2048.Idx =>
      spec (m ((c.tc : Thread nD τ).loc main_arg0)) (m ((c.tc : Thread nD τ).loc main_arg1)) (i 0) (i 1) := by
    refine (dats m 0 c).arrAt_eq_of_covers 2 _ (by decide +kernel) fun t hf y => ?_
    obtain ⟨e0, e1, e2⟩ := index_at t
    have h3 : t.val % 4 = 3 := (flush0_2 t).mp hf
    rw [after0_2]
    have h0 : (y 0).val < 1024 := (y 0).isLt
    have h1 : (y 1).val < 1024 := (y 1).isLt
    have hx : (cfg0.win 2).xinj (cfg0.grid.coords t) y = ix2 (⟨(y 0).val, h0⟩ : Fin 1024) (⟨(y 1).val, h1⟩ : Fin 1024) := by
      funext a
      apply Fin.ext
      match a with
      | ⟨0, _⟩ => rfl
      | ⟨1, _⟩ => rfl
    rw [hx]
    refine (run_sum m c t h3 _ _).trans ?_
    have q0 : win0_2.index t (0 : Fin 2) = t.val / 8 := congrFun e2 0
    have q1 : win0_2.index t (1 : Fin 2) = t.val / 4 % 2 := congrFun e2 1
    have hb0 : (((cfg0.win 2).blk t).view.emb y 0).val = t.val / 8 * 1024 + (y 0).val := by
      show win0_2.index t (0 : Fin 2) * 1024 + 1 * (y 0).val = _
      rw [q0]
      omega
    have hb1 : (((cfg0.win 2).blk t).view.emb y 1).val = t.val / 4 % 2 * 1024 + (y 1).val := by
      show win0_2.index t (1 : Fin 2) * 1024 + 1 * (y 1).val = _
      rw [q1]
      omega
    exact congrArg₂ (spec _ _) (Fin.ext hb0.symm) (Fin.ext hb1.symm)
  exact congrFun e (ix2 n j)

end

section
open Cert.Reference3Ideal Cert.Reference3Ideal.Gen

theorem ref (x : FVec Ideal S2048x11264 .bf16) (y : FVec Ideal S8x2048x1408 .bf16) (n j : Fin 2048) :
    Host.dotGeneral (F := Ideal) dot_S2048x11264_S2048x11264_S2048x2048_1_1_0_0_n_n none (extf (F := Ideal) .f32 x bitsLt_bf16_f32) (shapeCast _ (transpose S2048x8x1408 [1, 0, 2] (extf (F := Ideal) .f32 y bitsLt_bf16_f32) transposes_S8x2048x1408_S2048x8x1408_1_0_2) shapeCasts_S2048x8x1408_S2048x11264) (ix2 n j)
      = spec x y n j := by
  pointwise
  refine Fin.sum_divmod_congr (S := 1408) fun l ha hs => ?_
  have hl := Nat.div_add_mod l.val 1408
  refine congrArg₂ (· * ·) (congrArg x (congrArg (ix2 n) (Fin.ext ?_))) rfl
  show l.val = l.val / 1408 * 1408 + l.val % 1408
  omega

end

attribute [local instance] Cert.Kernel3Ideal.Gen.facts Cert.Reference3Ideal.Gen.facts

theorem algebraic : Cert.algebraic_Kernel3Ideal_Reference3Ideal := by
  intro m ρ m' ρ' hpre hagree
  refine ⟨fun c => (Cert.Kernel3Ideal.Gen.dats m 0 c).arrAt 2 Cert.Kernel3Ideal.cfg0.N, Cert.Kernel3Ideal.Value.run_blocks (F := Ideal) m ρ, ?_⟩
  refine (θ_run Cert.Reference3Ideal.defs _ _).mono (fun r h c => ?_) (Cert.Reference3Ideal.Value.run (F := Ideal) m' ρ')
  obtain ⟨r0, a0, a1⟩ := h c
  obtain ⟨g0, g1⟩ := hagree c
  refine ⟨r0.trans (Mat.ext2 fun n j => ?_), a0, a1⟩
  rw [g0, g1]
  exact (ref _ _ n j).trans (final m c n j).symm

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.P3
-- ==== Proof.P2.lean ====
/-
  The gradient of w_in: the kernel's tiles of the product of the transposed input with the incoming gradient.
-/
module

public import proofs.«01_k».proof.Defs
public import proofs.«01_k».proof.Proof.Mat
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run

@[expose] public section

set_option maxRecDepth 16384

noncomputable section

namespace Cert.P2

open Idealize.ShloMosaic Idealize.ShloMosaic.StableHlo Idealize.SL.Sem

/-- The product at an entry. -/
def spec (x : (⟨2, ![2048, 2048]⟩ : Shape).Idx → EReal) (y : (⟨2, ![2048, 11264]⟩ : Shape).Idx → EReal) (b : Fin 8) (n : Fin 2048) (r : Fin 1408) : EReal :=
  ∑ t : Fin 2048, x (ix2 t n) * y (ix2 t ⟨b.val * 1408 + r.val, by omega⟩)

section
open Cert.Kernel2Ideal Cert.Kernel2Ideal.Gen

/-- One tile. -/
theorem tile (x0 : Vec Ideal S2048x1024 .bf16) (x1 : Vec Ideal S2048x1408 .bf16) (i : Fin 1024) (j : Fin 1408) :
    k0_pay1 x0 x1 (ix3 0 i j) = ∑ t : Fin 2048, x0 (ix2 t i) * x1 (ix2 t j) := by
  unfold k0_pay1
  pointwise

theorem index_at : ∀ t : Fin cfg0.N,
    win0_0.index t = ![0, t.val / 8] ∧ win0_1.index t = ![0, t.val % 8] ∧ win0_2.index t = ![t.val % 8, t.val / 8, 0] :=
  (by decide +kernel : ∀ t : Fin grid0.N, _)

variable (m : (ℓ : Loc nD τ sig) → Buf (Elt Ideal) ℓ) (c : Dev nD)

theorem final (b : Fin 8) (n : Fin 2048) (r : Fin 1408) :
    ((dats m 0 c).arrAt 2 cfg0.N : S8x2048x1408.Idx → EReal) (ix3 b n r)
      = spec (m ((c.tc : Thread nD τ).loc main_arg0)) (m ((c.tc : Thread nD τ).loc main_arg1)) b n r := by
  have e : (dats m 0 c).arrAt 2 cfg0.N = fun i : S8x2048x1408.Idx =>
      spec (m ((c.tc : Thread nD τ).loc main_arg0)) (m ((c.tc : Thread nD τ).loc main_arg1)) (i 0) (i 1) (i 2) := by
    refine (dats m 0 c).arrAt_eq_of_covers 2 _ (by decide +kernel) fun t hf y => ?_
    obtain ⟨e0, e1, e2⟩ := index_at t
    rw [after0_2]
    frame_out
    have h0 : (y 0).val < 1 := (y 0).isLt
    have h1 : (y 1).val < 1024 := (y 1).isLt
    have h2 : (y 2).val < 1408 := (y 2).isLt
    have hx : (cfg0.win 2).xinj (cfg0.grid.coords t) y = ix3 (0 : Fin 1) (⟨(y 1).val, h1⟩ : Fin 1024) (⟨(y 2).val, h2⟩ : Fin 1408) := by
      funext a
      apply Fin.ext
      match a with
      | ⟨0, _⟩ => exact Nat.lt_one_iff.1 h0
      | ⟨1, _⟩ => rfl
      | ⟨2, _⟩ => rfl
    rw [hx]
    refine (tile _ _ _ _).trans (Mat.prod_congr fun k => ⟨?_, ?_⟩) <;> blk_ext [iblk, V, e0, e1, e2]
  exact congrFun e (ix3 b n r)

end

section
open Cert.Reference2Ideal Cert.Reference2Ideal.Gen

theorem ref (x : FVec Ideal S2048x2048 .bf16) (y : FVec Ideal S2048x11264 .bf16) (b : Fin 8) (n : Fin 2048) (r : Fin 1408) :
    truncf (F := Ideal) .bf16 (transpose S8x2048x1408 [1, 0, 2] (shapeCast _ (transpose S2048x11264 [1, 0] (Host.dotGeneral (F := Ideal) dot_S2048x11264_S2048x2048_S11264x2048_0_0_1_1_n_n none (extf (F := Ideal) .f32 y bitsLt_bf16_f32) (extf (F := Ideal) .f32 x bitsLt_bf16_f32)) transposes_S11264x2048_S2048x11264_1_0) shapeCasts_S2048x11264_S2048x8x1408) transposes_S2048x8x1408_S8x2048x1408_1_0_2) bitsLt_bf16_f32 (ix3 b n r)
      = spec x y b n r := by
  pointwise
  exact Finset.sum_congr rfl fun t _ => mul_comm _ _

end

attribute [local instance] Cert.Kernel2Ideal.Gen.facts Cert.Reference2Ideal.Gen.facts

theorem algebraic : Cert.algebraic_Kernel2Ideal_Reference2Ideal := by
  intro m ρ m' ρ' hpre hagree
  refine ⟨fun c => (Cert.Kernel2Ideal.Gen.dats m 0 c).arrAt 2 Cert.Kernel2Ideal.cfg0.N, Cert.Kernel2Ideal.Value.run_blocks (F := Ideal) m ρ, ?_⟩
  refine (θ_run Cert.Reference2Ideal.defs _ _).mono (fun r h c => ?_) (Cert.Reference2Ideal.Value.run (F := Ideal) m' ρ')
  obtain ⟨r0, a0, a1⟩ := h c
  obtain ⟨g0, g1⟩ := hagree c
  refine ⟨r0.trans (Mat.ext3 fun b n r => ?_), a0, a1⟩
  rw [g0, g1]
  exact (ref _ _ b n r).trans (final m c b n r).symm

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.P2
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Tie
public import proofs.«01_k».proof.Proof.P10
public import proofs.«01_k».proof.Proof.P11
public import proofs.«01_k».proof.Proof.P12
public import proofs.«01_k».proof.Proof.P13
public import proofs.«01_k».proof.Proof.P14
public import proofs.«01_k».proof.Proof.P15
public import proofs.«01_k».proof.Proof.P17
public import proofs.«01_k».proof.Proof.P18
public import proofs.«01_k».proof.Proof.P19
public import proofs.«01_k».proof.Proof.P20
public import proofs.«01_k».proof.Proof.P21
public import proofs.«01_k».proof.Proof.P22
public import proofs.«01_k».proof.Proof.P23
public import proofs.«01_k».proof.Proof.P9
public import proofs.«01_k».proof.Proof.P8
public import proofs.«01_k».proof.Proof.P7
public import proofs.«01_k».proof.Proof.P6
public import proofs.«01_k».proof.Proof.P5
public import proofs.«01_k».proof.Proof.P4
public import proofs.«01_k».proof.Proof.P3
public import proofs.«01_k».proof.Proof.P2
public import Idealize.ShloMosaic.Adequacy
public import Idealize.ShloMosaic.Init

@[expose] public section

noncomputable section

namespace Cert.Proof

open Idealize.ShloMosaic Idealize.SL.Sem Cert.Kernel

/-- The reference runs, leaves its arguments and holds no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts, Cert.Finite.facts, Cert.P11.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    fun m ρ _ => Cert.Kernel2.Gen.frame m ρ, fun m ρ _ => Cert.Kernel2Ideal.Gen.frame m ρ, Cert.P2.frame_reference,
    fun m ρ _ => Cert.Kernel3.Gen.frame m ρ, fun m ρ _ => Cert.Kernel3Ideal.Gen.frame m ρ, Cert.P3.frame_reference,
    fun m ρ _ => Cert.Kernel4.Gen.frame m ρ, fun m ρ _ => Cert.Kernel4Ideal.Gen.frame m ρ, Cert.P4.frame_reference,
    fun m ρ _ => Cert.Kernel5.Gen.frame m ρ, fun m ρ _ => Cert.Kernel5Ideal.Gen.frame m ρ, Cert.P5.frame_reference,
    fun m ρ _ => Cert.Kernel6.Gen.frame m ρ, fun m ρ _ => Cert.Kernel6Ideal.Gen.frame m ρ, Cert.P6.frame_reference,
    fun m ρ _ => Cert.Kernel7.Gen.frame m ρ, fun m ρ _ => Cert.Kernel7Ideal.Gen.frame m ρ, Cert.P7.frame_reference,
    fun m ρ _ => Cert.Kernel8.Gen.frame m ρ, fun m ρ _ => Cert.Kernel8Ideal.Gen.frame m ρ, Cert.P8.frame_reference,
    fun m ρ _ => Cert.Kernel9.Gen.frame m ρ, fun m ρ _ => Cert.Kernel9Ideal.Gen.frame m ρ, Cert.P9.frame_reference,
    fun m ρ _ => Cert.Kernel10.Gen.frame m ρ, fun m ρ _ => Cert.Kernel10Ideal.Gen.frame m ρ, Cert.P10.frame_reference,
    fun m ρ _ => Cert.Kernel11.Gen.frame m ρ, fun m ρ _ => Cert.Kernel11Ideal.Gen.frame m ρ, fun m ρ _ => Cert.Kernel11Ideal.Gen.frame m ρ, Cert.P11.frame_reference, Cert.P11.frame_reference_pre,
    fun m ρ _ => Cert.Kernel12.Gen.frame m ρ, fun m ρ _ => Cert.Kernel12Ideal.Gen.frame m ρ, Cert.P12.frame_reference,
    fun m ρ _ => Cert.Kernel13.Gen.frame m ρ, fun m ρ _ => Cert.Kernel13Ideal.Gen.frame m ρ, Cert.P13.frame_reference,
    fun m ρ _ => Cert.Kernel14.Gen.frame m ρ, fun m ρ _ => Cert.Kernel14Ideal.Gen.frame m ρ, Cert.P14.frame_reference,
    fun m ρ _ => Cert.Kernel15.Gen.frame m ρ, fun m ρ _ => Cert.Kernel15Ideal.Gen.frame m ρ, Cert.P15.frame_reference,
    fun m ρ _ => Cert.Kernel17.Gen.frame m ρ, fun m ρ _ => Cert.Kernel17Ideal.Gen.frame m ρ, Cert.P17.frame_reference,
    fun m ρ _ => Cert.Kernel18.Gen.frame m ρ, fun m ρ _ => Cert.Kernel18Ideal.Gen.frame m ρ, Cert.P18.frame_reference,
    fun m ρ _ => Cert.Kernel19.Gen.frame m ρ, fun m ρ _ => Cert.Kernel19Ideal.Gen.frame m ρ, Cert.P19.frame_reference,
    fun m ρ _ => Cert.Kernel20.Gen.frame m ρ, fun m ρ _ => Cert.Kernel20Ideal.Gen.frame m ρ, Cert.P20.frame_reference,
    fun m ρ _ => Cert.Kernel21.Gen.frame m ρ, fun m ρ _ => Cert.Kernel21Ideal.Gen.frame m ρ, Cert.P21.frame_reference,
    fun m ρ _ => Cert.Kernel22.Gen.frame m ρ, fun m ρ _ => Cert.Kernel22Ideal.Gen.frame m ρ, Cert.P22.frame_reference,
    fun m ρ _ => Cert.Kernel23.Gen.frame m ρ, fun m ρ _ => Cert.Kernel23Ideal.Gen.frame m ρ, Cert.P23.frame_reference,
    IdealRules.named_const.statement Cert.KernelIdeal.κ "mask" .f32 0xF149F2CA#32 ⊥ rfl, Cert.Tie.algebraic,
    trivial, Cert.P2.algebraic,
    trivial, Cert.P3.algebraic,
    trivial, Cert.P4.algebraic,
    trivial, Cert.P5.algebraic,
    trivial, Cert.P6.algebraic,
    trivial, Cert.P7.algebraic,
    trivial, Cert.P8.algebraic,
    trivial, Cert.P9.algebraic,
    trivial, Cert.P10.algebraic,
    trivial, Cert.P11.algebraic,
    trivial, Cert.P12.algebraic,
    trivial, Cert.P13.algebraic,
    trivial, Cert.P14.algebraic,
    trivial, Cert.P15.algebraic,
    trivial, Cert.P17.algebraic,
    trivial, Cert.P18.algebraic,
    trivial, Cert.P19.algebraic,
    trivial, Cert.P20.algebraic,
    trivial, Cert.P21.algebraic,
    trivial, Cert.P22.algebraic,
    trivial, Cert.P23.algebraic⟩

end Cert.Proof

end
